-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_DownBwd (m : (ℓ : Loc Cert.DownBwd.nD Cert.DownBwd.τ Cert.DownBwd.sig) → Buf (Elt Bits) ℓ) : Prop :=
  True

def Pre_DownBwdIdeal (m : (ℓ : Loc Cert.DownBwdIdeal.nD Cert.DownBwdIdeal.τ Cert.DownBwdIdeal.sig) → Buf (Elt Ideal) ℓ) : Prop :=
  True

def Pre_DownBwdRefIdeal (m : (ℓ : Loc Cert.DownBwdRefIdeal.nD Cert.DownBwdRefIdeal.τ Cert.DownBwdRefIdeal.sig) → Buf (Elt Ideal) ℓ) : Prop :=
  True

def Pre_DownWgrad (m : (ℓ : Loc Cert.DownWgrad.nD Cert.DownWgrad.τ Cert.DownWgrad.sig) → Buf (Elt Bits) ℓ) : Prop :=
  True

def Pre_DownWgradIdeal (m : (ℓ : Loc Cert.DownWgradIdeal.nD Cert.DownWgradIdeal.τ Cert.DownWgradIdeal.sig) → Buf (Elt Ideal) ℓ) : Prop :=
  True

def Pre_DownWgradRefIdeal (m : (ℓ : Loc Cert.DownWgradRefIdeal.nD Cert.DownWgradRefIdeal.τ Cert.DownWgradRefIdeal.sig) → Buf (Elt Ideal) ℓ) : Prop :=
  True

def Pre_UpWgrad (m : (ℓ : Loc Cert.UpWgrad.nD Cert.UpWgrad.τ Cert.UpWgrad.sig) → Buf (Elt Bits) ℓ) : Prop :=
  True

def Pre_UpWgradIdeal (m : (ℓ : Loc Cert.UpWgradIdeal.nD Cert.UpWgradIdeal.τ Cert.UpWgradIdeal.sig) → Buf (Elt Ideal) ℓ) : Prop :=
  True

def Pre_UpWgradRefIdeal (m : (ℓ : Loc Cert.UpWgradRefIdeal.nD Cert.UpWgradRefIdeal.τ Cert.UpWgradRefIdeal.sig) → Buf (Elt Ideal) ℓ) : Prop :=
  True

def Pre_InWgrad (m : (ℓ : Loc Cert.InWgrad.nD Cert.InWgrad.τ Cert.InWgrad.sig) → Buf (Elt Bits) ℓ) : Prop :=
  True

def Pre_InWgradIdeal (m : (ℓ : Loc Cert.InWgradIdeal.nD Cert.InWgradIdeal.τ Cert.InWgradIdeal.sig) → Buf (Elt Ideal) ℓ) : Prop :=
  True

def Pre_InWgradRefIdeal (m : (ℓ : Loc Cert.InWgradRefIdeal.nD Cert.InWgradRefIdeal.τ Cert.InWgradRefIdeal.sig) → Buf (Elt Ideal) ℓ) : Prop :=
  True

def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_OutBwdRefIdeal (m : (ℓ : Loc Cert.OutBwdRefIdeal.nD Cert.OutBwdRefIdeal.τ Cert.OutBwdRefIdeal.sig) → Buf (Elt Ideal) ℓ) : Prop :=
  True

def Pre_OutWgrad (m : (ℓ : Loc Cert.OutWgrad.nD Cert.OutWgrad.τ Cert.OutWgrad.sig) → Buf (Elt Bits) ℓ) : Prop :=
  True

def Pre_OutWgradIdeal (m : (ℓ : Loc Cert.OutWgradIdeal.nD Cert.OutWgradIdeal.τ Cert.OutWgradIdeal.sig) → Buf (Elt Ideal) ℓ) : Prop :=
  True

def Pre_OutWgradRefIdeal (m : (ℓ : Loc Cert.OutWgradRefIdeal.nD Cert.OutWgradRefIdeal.τ Cert.OutWgradRefIdeal.sig) → Buf (Elt Ideal) ℓ) : Prop :=
  True

def Pre_ProjBwd (m : (ℓ : Loc Cert.ProjBwd.nD Cert.ProjBwd.τ Cert.ProjBwd.sig) → Buf (Elt Bits) ℓ) : Prop :=
  True

def Pre_ProjBwdIdeal (m : (ℓ : Loc Cert.ProjBwdIdeal.nD Cert.ProjBwdIdeal.τ Cert.ProjBwdIdeal.sig) → Buf (Elt Ideal) ℓ) : Prop :=
  True

def Pre_ProjBwdRefIdeal (m : (ℓ : Loc Cert.ProjBwdRefIdeal.nD Cert.ProjBwdRefIdeal.τ Cert.ProjBwdRefIdeal.sig) → Buf (Elt Ideal) ℓ) : Prop :=
  True

def Pre_ProjWgrad (m : (ℓ : Loc Cert.ProjWgrad.nD Cert.ProjWgrad.τ Cert.ProjWgrad.sig) → Buf (Elt Bits) ℓ) : Prop :=
  True

def Pre_ProjWgradIdeal (m : (ℓ : Loc Cert.ProjWgradIdeal.nD Cert.ProjWgradIdeal.τ Cert.ProjWgradIdeal.sig) → Buf (Elt Ideal) ℓ) : Prop :=
  True

def Pre_ProjWgradRefIdeal (m : (ℓ : Loc Cert.ProjWgradRefIdeal.nD Cert.ProjWgradRefIdeal.τ Cert.ProjWgradRefIdeal.sig) → Buf (Elt Ideal) ℓ) : Prop :=
  True

def Pre_GluWgrad (m : (ℓ : Loc Cert.GluWgrad.nD Cert.GluWgrad.τ Cert.GluWgrad.sig) → Buf (Elt Bits) ℓ) : Prop :=
  True

def Pre_GluWgradIdeal (m : (ℓ : Loc Cert.GluWgradIdeal.nD Cert.GluWgradIdeal.τ Cert.GluWgradIdeal.sig) → Buf (Elt Ideal) ℓ) : Prop :=
  True

def Pre_GluWgradRefIdeal (m : (ℓ : Loc Cert.GluWgradRefIdeal.nD Cert.GluWgradRefIdeal.τ Cert.GluWgradRefIdeal.sig) → Buf (Elt Ideal) ℓ) : Prop :=
  True

def Pre_UpProj (m : (ℓ : Loc Cert.UpProj.nD Cert.UpProj.τ Cert.UpProj.sig) → Buf (Elt Bits) ℓ) : Prop :=
  True

def Pre_UpProjIdeal (m : (ℓ : Loc Cert.UpProjIdeal.nD Cert.UpProjIdeal.τ Cert.UpProjIdeal.sig) → Buf (Elt Ideal) ℓ) : Prop :=
  True

def Pre_UpProjRefIdeal (m : (ℓ : Loc Cert.UpProjRefIdeal.nD Cert.UpProjRefIdeal.τ Cert.UpProjRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_UpBwd (m : (ℓ : Loc Cert.UpBwd.nD Cert.UpBwd.τ Cert.UpBwd.sig) → Buf (Elt Bits) ℓ) : Prop :=
  True

def Pre_UpBwdIdeal (m : (ℓ : Loc Cert.UpBwdIdeal.nD Cert.UpBwdIdeal.τ Cert.UpBwdIdeal.sig) → Buf (Elt Ideal) ℓ) : Prop :=
  True

def Pre_UpBwdRefIdeal (m : (ℓ : Loc Cert.UpBwdRefIdeal.nD Cert.UpBwdRefIdeal.τ Cert.UpBwdRefIdeal.sig) → Buf (Elt Ideal) ℓ) : Prop :=
  True

def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdRefIdeal (m : (ℓ : Loc Cert.InBwdRefIdeal.nD Cert.InBwdRefIdeal.τ Cert.InBwdRefIdeal.sig) → Buf (Elt Ideal) ℓ) : Prop :=
  True

def Pre_DownProj (m : (ℓ : Loc Cert.DownProj.nD Cert.DownProj.τ Cert.DownProj.sig) → Buf (Elt Bits) ℓ) : Prop :=
  True

def Pre_DownProjIdeal (m : (ℓ : Loc Cert.DownProjIdeal.nD Cert.DownProjIdeal.τ Cert.DownProjIdeal.sig) → Buf (Elt Ideal) ℓ) : Prop :=
  True

def Pre_DownProjRefIdeal (m : (ℓ : Loc Cert.DownProjRefIdeal.nD Cert.DownProjRefIdeal.τ Cert.DownProjRefIdeal.sig) → Buf (Elt Ideal) ℓ) : Prop :=
  True

def Pre_AdamwIn [hPre_on_the_mesh_in : Cert.Pre_on_the_mesh_in.Facts] (m : (ℓ : Loc Cert.AdamwIn.nD Cert.AdamwIn.τ Cert.AdamwIn.sig) → Buf (Elt Bits) ℓ) : Prop :=
  ∀ c : Dev Cert.AdamwIn.nD,
    (Cert.Pre_on_the_mesh_in.fn (F := Bits) (m ((c.tc : Thread Cert.AdamwIn.nD Cert.AdamwIn.τ).loc Cert.AdamwIn.main_arg0)) (m ((c.tc : Thread Cert.AdamwIn.nD Cert.AdamwIn.τ).loc Cert.AdamwIn.main_arg1)) (m ((c.tc : Thread Cert.AdamwIn.nD Cert.AdamwIn.τ).loc Cert.AdamwIn.main_arg2)) (m ((c.tc : Thread Cert.AdamwIn.nD Cert.AdamwIn.τ).loc Cert.AdamwIn.main_arg3)) (m ((c.tc : Thread Cert.AdamwIn.nD Cert.AdamwIn.τ).loc Cert.AdamwIn.main_arg4)) (m ((c.tc : Thread Cert.AdamwIn.nD Cert.AdamwIn.τ).loc Cert.AdamwIn.main_arg5))) = (fun _ => 1#1)

def Pre_AdamwInIdeal [hPre_on_the_mesh_in : Cert.Pre_on_the_mesh_in.Facts] (m : (ℓ : Loc Cert.AdamwInIdeal.nD Cert.AdamwInIdeal.τ Cert.AdamwInIdeal.sig) → Buf (Elt Ideal) ℓ) : Prop :=
  ∀ c : Dev Cert.AdamwInIdeal.nD,
    (Cert.Pre_on_the_mesh_in.fn (F := Ideal) (m ((c.tc : Thread Cert.AdamwInIdeal.nD Cert.AdamwInIdeal.τ).loc Cert.AdamwInIdeal.main_arg0)) (m ((c.tc : Thread Cert.AdamwInIdeal.nD Cert.AdamwInIdeal.τ).loc Cert.AdamwInIdeal.main_arg1)) (m ((c.tc : Thread Cert.AdamwInIdeal.nD Cert.AdamwInIdeal.τ).loc Cert.AdamwInIdeal.main_arg2)) (m ((c.tc : Thread Cert.AdamwInIdeal.nD Cert.AdamwInIdeal.τ).loc Cert.AdamwInIdeal.main_arg3)) (m ((c.tc : Thread Cert.AdamwInIdeal.nD Cert.AdamwInIdeal.τ).loc Cert.AdamwInIdeal.main_arg4)) (m ((c.tc : Thread Cert.AdamwInIdeal.nD Cert.AdamwInIdeal.τ).loc Cert.AdamwInIdeal.main_arg5))) = (fun _ => 1#1)

def Pre_AdamwInRefIdeal [hPre_on_the_mesh_in : Cert.Pre_on_the_mesh_in.Facts] (m : (ℓ : Loc Cert.AdamwInRefIdeal.nD Cert.AdamwInRefIdeal.τ Cert.AdamwInRefIdeal.sig) → Buf (Elt Ideal) ℓ) : Prop :=
  ∀ c : Dev Cert.AdamwInRefIdeal.nD,
    (Cert.Pre_on_the_mesh_in.fn (F := Ideal) (m ((c.tc : Thread Cert.AdamwInRefIdeal.nD Cert.AdamwInRefIdeal.τ).loc Cert.AdamwInRefIdeal.main_arg0)) (m ((c.tc : Thread Cert.AdamwInRefIdeal.nD Cert.AdamwInRefIdeal.τ).loc Cert.AdamwInRefIdeal.main_arg1)) (m ((c.tc : Thread Cert.AdamwInRefIdeal.nD Cert.AdamwInRefIdeal.τ).loc Cert.AdamwInRefIdeal.main_arg2)) (m ((c.tc : Thread Cert.AdamwInRefIdeal.nD Cert.AdamwInRefIdeal.τ).loc Cert.AdamwInRefIdeal.main_arg3)) (m ((c.tc : Thread Cert.AdamwInRefIdeal.nD Cert.AdamwInRefIdeal.τ).loc Cert.AdamwInRefIdeal.main_arg4)) (m ((c.tc : Thread Cert.AdamwInRefIdeal.nD Cert.AdamwInRefIdeal.τ).loc Cert.AdamwInRefIdeal.main_arg5))) = (fun _ => 1#1)

def Pre_AdamwUp [hPre_on_the_mesh_up : Cert.Pre_on_the_mesh_up.Facts] (m : (ℓ : Loc Cert.AdamwUp.nD Cert.AdamwUp.τ Cert.AdamwUp.sig) → Buf (Elt Bits) ℓ) : Prop :=
  ∀ c : Dev Cert.AdamwUp.nD,
    (Cert.Pre_on_the_mesh_up.fn (F := Bits) (m ((c.tc : Thread Cert.AdamwUp.nD Cert.AdamwUp.τ).loc Cert.AdamwUp.main_arg0)) (m ((c.tc : Thread Cert.AdamwUp.nD Cert.AdamwUp.τ).loc Cert.AdamwUp.main_arg1)) (m ((c.tc : Thread Cert.AdamwUp.nD Cert.AdamwUp.τ).loc Cert.AdamwUp.main_arg2)) (m ((c.tc : Thread Cert.AdamwUp.nD Cert.AdamwUp.τ).loc Cert.AdamwUp.main_arg3)) (m ((c.tc : Thread Cert.AdamwUp.nD Cert.AdamwUp.τ).loc Cert.AdamwUp.main_arg4)) (m ((c.tc : Thread Cert.AdamwUp.nD Cert.AdamwUp.τ).loc Cert.AdamwUp.main_arg5))) = (fun _ => 1#1)

def Pre_AdamwUpIdeal [hPre_on_the_mesh_up : Cert.Pre_on_the_mesh_up.Facts] (m : (ℓ : Loc Cert.AdamwUpIdeal.nD Cert.AdamwUpIdeal.τ Cert.AdamwUpIdeal.sig) → Buf (Elt Ideal) ℓ) : Prop :=
  ∀ c : Dev Cert.AdamwUpIdeal.nD,
    (Cert.Pre_on_the_mesh_up.fn (F := Ideal) (m ((c.tc : Thread Cert.AdamwUpIdeal.nD Cert.AdamwUpIdeal.τ).loc Cert.AdamwUpIdeal.main_arg0)) (m ((c.tc : Thread Cert.AdamwUpIdeal.nD Cert.AdamwUpIdeal.τ).loc Cert.AdamwUpIdeal.main_arg1)) (m ((c.tc : Thread Cert.AdamwUpIdeal.nD Cert.AdamwUpIdeal.τ).loc Cert.AdamwUpIdeal.main_arg2)) (m ((c.tc : Thread Cert.AdamwUpIdeal.nD Cert.AdamwUpIdeal.τ).loc Cert.AdamwUpIdeal.main_arg3)) (m ((c.tc : Thread Cert.AdamwUpIdeal.nD Cert.AdamwUpIdeal.τ).loc Cert.AdamwUpIdeal.main_arg4)) (m ((c.tc : Thread Cert.AdamwUpIdeal.nD Cert.AdamwUpIdeal.τ).loc Cert.AdamwUpIdeal.main_arg5))) = (fun _ => 1#1)

def Pre_AdamwUpRefIdeal [hPre_on_the_mesh_up : Cert.Pre_on_the_mesh_up.Facts] (m : (ℓ : Loc Cert.AdamwUpRefIdeal.nD Cert.AdamwUpRefIdeal.τ Cert.AdamwUpRefIdeal.sig) → Buf (Elt Ideal) ℓ) : Prop :=
  ∀ c : Dev Cert.AdamwUpRefIdeal.nD,
    (Cert.Pre_on_the_mesh_up.fn (F := Ideal) (m ((c.tc : Thread Cert.AdamwUpRefIdeal.nD Cert.AdamwUpRefIdeal.τ).loc Cert.AdamwUpRefIdeal.main_arg0)) (m ((c.tc : Thread Cert.AdamwUpRefIdeal.nD Cert.AdamwUpRefIdeal.τ).loc Cert.AdamwUpRefIdeal.main_arg1)) (m ((c.tc : Thread Cert.AdamwUpRefIdeal.nD Cert.AdamwUpRefIdeal.τ).loc Cert.AdamwUpRefIdeal.main_arg2)) (m ((c.tc : Thread Cert.AdamwUpRefIdeal.nD Cert.AdamwUpRefIdeal.τ).loc Cert.AdamwUpRefIdeal.main_arg3)) (m ((c.tc : Thread Cert.AdamwUpRefIdeal.nD Cert.AdamwUpRefIdeal.τ).loc Cert.AdamwUpRefIdeal.main_arg4)) (m ((c.tc : Thread Cert.AdamwUpRefIdeal.nD Cert.AdamwUpRefIdeal.τ).loc Cert.AdamwUpRefIdeal.main_arg5))) = (fun _ => 1#1)

def Pre_AdamwDown [hPre_on_the_mesh_down : Cert.Pre_on_the_mesh_down.Facts] (m : (ℓ : Loc Cert.AdamwDown.nD Cert.AdamwDown.τ Cert.AdamwDown.sig) → Buf (Elt Bits) ℓ) : Prop :=
  ∀ c : Dev Cert.AdamwDown.nD,
    (Cert.Pre_on_the_mesh_down.fn (F := Bits) (m ((c.tc : Thread Cert.AdamwDown.nD Cert.AdamwDown.τ).loc Cert.AdamwDown.main_arg0)) (m ((c.tc : Thread Cert.AdamwDown.nD Cert.AdamwDown.τ).loc Cert.AdamwDown.main_arg1)) (m ((c.tc : Thread Cert.AdamwDown.nD Cert.AdamwDown.τ).loc Cert.AdamwDown.main_arg2)) (m ((c.tc : Thread Cert.AdamwDown.nD Cert.AdamwDown.τ).loc Cert.AdamwDown.main_arg3)) (m ((c.tc : Thread Cert.AdamwDown.nD Cert.AdamwDown.τ).loc Cert.AdamwDown.main_arg4)) (m ((c.tc : Thread Cert.AdamwDown.nD Cert.AdamwDown.τ).loc Cert.AdamwDown.main_arg5))) = (fun _ => 1#1)

def Pre_AdamwDownIdeal [hPre_on_the_mesh_down : Cert.Pre_on_the_mesh_down.Facts] (m : (ℓ : Loc Cert.AdamwDownIdeal.nD Cert.AdamwDownIdeal.τ Cert.AdamwDownIdeal.sig) → Buf (Elt Ideal) ℓ) : Prop :=
  ∀ c : Dev Cert.AdamwDownIdeal.nD,
    (Cert.Pre_on_the_mesh_down.fn (F := Ideal) (m ((c.tc : Thread Cert.AdamwDownIdeal.nD Cert.AdamwDownIdeal.τ).loc Cert.AdamwDownIdeal.main_arg0)) (m ((c.tc : Thread Cert.AdamwDownIdeal.nD Cert.AdamwDownIdeal.τ).loc Cert.AdamwDownIdeal.main_arg1)) (m ((c.tc : Thread Cert.AdamwDownIdeal.nD Cert.AdamwDownIdeal.τ).loc Cert.AdamwDownIdeal.main_arg2)) (m ((c.tc : Thread Cert.AdamwDownIdeal.nD Cert.AdamwDownIdeal.τ).loc Cert.AdamwDownIdeal.main_arg3)) (m ((c.tc : Thread Cert.AdamwDownIdeal.nD Cert.AdamwDownIdeal.τ).loc Cert.AdamwDownIdeal.main_arg4)) (m ((c.tc : Thread Cert.AdamwDownIdeal.nD Cert.AdamwDownIdeal.τ).loc Cert.AdamwDownIdeal.main_arg5))) = (fun _ => 1#1)

def Pre_AdamwDownRefIdeal [hPre_on_the_mesh_down : Cert.Pre_on_the_mesh_down.Facts] (m : (ℓ : Loc Cert.AdamwDownRefIdeal.nD Cert.AdamwDownRefIdeal.τ Cert.AdamwDownRefIdeal.sig) → Buf (Elt Ideal) ℓ) : Prop :=
  ∀ c : Dev Cert.AdamwDownRefIdeal.nD,
    (Cert.Pre_on_the_mesh_down.fn (F := Ideal) (m ((c.tc : Thread Cert.AdamwDownRefIdeal.nD Cert.AdamwDownRefIdeal.τ).loc Cert.AdamwDownRefIdeal.main_arg0)) (m ((c.tc : Thread Cert.AdamwDownRefIdeal.nD Cert.AdamwDownRefIdeal.τ).loc Cert.AdamwDownRefIdeal.main_arg1)) (m ((c.tc : Thread Cert.AdamwDownRefIdeal.nD Cert.AdamwDownRefIdeal.τ).loc Cert.AdamwDownRefIdeal.main_arg2)) (m ((c.tc : Thread Cert.AdamwDownRefIdeal.nD Cert.AdamwDownRefIdeal.τ).loc Cert.AdamwDownRefIdeal.main_arg3)) (m ((c.tc : Thread Cert.AdamwDownRefIdeal.nD Cert.AdamwDownRefIdeal.τ).loc Cert.AdamwDownRefIdeal.main_arg4)) (m ((c.tc : Thread Cert.AdamwDownRefIdeal.nD Cert.AdamwDownRefIdeal.τ).loc Cert.AdamwDownRefIdeal.main_arg5))) = (fun _ => 1#1)

def Pre_AdamwOut [hPre_on_the_mesh_out : Cert.Pre_on_the_mesh_out.Facts] (m : (ℓ : Loc Cert.AdamwOut.nD Cert.AdamwOut.τ Cert.AdamwOut.sig) → Buf (Elt Bits) ℓ) : Prop :=
  ∀ c : Dev Cert.AdamwOut.nD,
    (Cert.Pre_on_the_mesh_out.fn (F := Bits) (m ((c.tc : Thread Cert.AdamwOut.nD Cert.AdamwOut.τ).loc Cert.AdamwOut.main_arg0)) (m ((c.tc : Thread Cert.AdamwOut.nD Cert.AdamwOut.τ).loc Cert.AdamwOut.main_arg1)) (m ((c.tc : Thread Cert.AdamwOut.nD Cert.AdamwOut.τ).loc Cert.AdamwOut.main_arg2)) (m ((c.tc : Thread Cert.AdamwOut.nD Cert.AdamwOut.τ).loc Cert.AdamwOut.main_arg3)) (m ((c.tc : Thread Cert.AdamwOut.nD Cert.AdamwOut.τ).loc Cert.AdamwOut.main_arg4)) (m ((c.tc : Thread Cert.AdamwOut.nD Cert.AdamwOut.τ).loc Cert.AdamwOut.main_arg5))) = (fun _ => 1#1)

def Pre_AdamwOutIdeal [hPre_on_the_mesh_out : Cert.Pre_on_the_mesh_out.Facts] (m : (ℓ : Loc Cert.AdamwOutIdeal.nD Cert.AdamwOutIdeal.τ Cert.AdamwOutIdeal.sig) → Buf (Elt Ideal) ℓ) : Prop :=
  ∀ c : Dev Cert.AdamwOutIdeal.nD,
    (Cert.Pre_on_the_mesh_out.fn (F := Ideal) (m ((c.tc : Thread Cert.AdamwOutIdeal.nD Cert.AdamwOutIdeal.τ).loc Cert.AdamwOutIdeal.main_arg0)) (m ((c.tc : Thread Cert.AdamwOutIdeal.nD Cert.AdamwOutIdeal.τ).loc Cert.AdamwOutIdeal.main_arg1)) (m ((c.tc : Thread Cert.AdamwOutIdeal.nD Cert.AdamwOutIdeal.τ).loc Cert.AdamwOutIdeal.main_arg2)) (m ((c.tc : Thread Cert.AdamwOutIdeal.nD Cert.AdamwOutIdeal.τ).loc Cert.AdamwOutIdeal.main_arg3)) (m ((c.tc : Thread Cert.AdamwOutIdeal.nD Cert.AdamwOutIdeal.τ).loc Cert.AdamwOutIdeal.main_arg4)) (m ((c.tc : Thread Cert.AdamwOutIdeal.nD Cert.AdamwOutIdeal.τ).loc Cert.AdamwOutIdeal.main_arg5))) = (fun _ => 1#1)

def Pre_AdamwOutRefIdeal [hPre_on_the_mesh_out : Cert.Pre_on_the_mesh_out.Facts] (m : (ℓ : Loc Cert.AdamwOutRefIdeal.nD Cert.AdamwOutRefIdeal.τ Cert.AdamwOutRefIdeal.sig) → Buf (Elt Ideal) ℓ) : Prop :=
  ∀ c : Dev Cert.AdamwOutRefIdeal.nD,
    (Cert.Pre_on_the_mesh_out.fn (F := Ideal) (m ((c.tc : Thread Cert.AdamwOutRefIdeal.nD Cert.AdamwOutRefIdeal.τ).loc Cert.AdamwOutRefIdeal.main_arg0)) (m ((c.tc : Thread Cert.AdamwOutRefIdeal.nD Cert.AdamwOutRefIdeal.τ).loc Cert.AdamwOutRefIdeal.main_arg1)) (m ((c.tc : Thread Cert.AdamwOutRefIdeal.nD Cert.AdamwOutRefIdeal.τ).loc Cert.AdamwOutRefIdeal.main_arg2)) (m ((c.tc : Thread Cert.AdamwOutRefIdeal.nD Cert.AdamwOutRefIdeal.τ).loc Cert.AdamwOutRefIdeal.main_arg3)) (m ((c.tc : Thread Cert.AdamwOutRefIdeal.nD Cert.AdamwOutRefIdeal.τ).loc Cert.AdamwOutRefIdeal.main_arg4)) (m ((c.tc : Thread Cert.AdamwOutRefIdeal.nD Cert.AdamwOutRefIdeal.τ).loc Cert.AdamwOutRefIdeal.main_arg5))) = (fun _ => 1#1)

def Pre_AdamwProj [hPre_on_the_mesh_proj : Cert.Pre_on_the_mesh_proj.Facts] (m : (ℓ : Loc Cert.AdamwProj.nD Cert.AdamwProj.τ Cert.AdamwProj.sig) → Buf (Elt Bits) ℓ) : Prop :=
  ∀ c : Dev Cert.AdamwProj.nD,
    (Cert.Pre_on_the_mesh_proj.fn (F := Bits) (m ((c.tc : Thread Cert.AdamwProj.nD Cert.AdamwProj.τ).loc Cert.AdamwProj.main_arg0)) (m ((c.tc : Thread Cert.AdamwProj.nD Cert.AdamwProj.τ).loc Cert.AdamwProj.main_arg1)) (m ((c.tc : Thread Cert.AdamwProj.nD Cert.AdamwProj.τ).loc Cert.AdamwProj.main_arg2)) (m ((c.tc : Thread Cert.AdamwProj.nD Cert.AdamwProj.τ).loc Cert.AdamwProj.main_arg3)) (m ((c.tc : Thread Cert.AdamwProj.nD Cert.AdamwProj.τ).loc Cert.AdamwProj.main_arg4)) (m ((c.tc : Thread Cert.AdamwProj.nD Cert.AdamwProj.τ).loc Cert.AdamwProj.main_arg5))) = (fun _ => 1#1)

def Pre_AdamwProjIdeal [hPre_on_the_mesh_proj : Cert.Pre_on_the_mesh_proj.Facts] (m : (ℓ : Loc Cert.AdamwProjIdeal.nD Cert.AdamwProjIdeal.τ Cert.AdamwProjIdeal.sig) → Buf (Elt Ideal) ℓ) : Prop :=
  ∀ c : Dev Cert.AdamwProjIdeal.nD,
    (Cert.Pre_on_the_mesh_proj.fn (F := Ideal) (m ((c.tc : Thread Cert.AdamwProjIdeal.nD Cert.AdamwProjIdeal.τ).loc Cert.AdamwProjIdeal.main_arg0)) (m ((c.tc : Thread Cert.AdamwProjIdeal.nD Cert.AdamwProjIdeal.τ).loc Cert.AdamwProjIdeal.main_arg1)) (m ((c.tc : Thread Cert.AdamwProjIdeal.nD Cert.AdamwProjIdeal.τ).loc Cert.AdamwProjIdeal.main_arg2)) (m ((c.tc : Thread Cert.AdamwProjIdeal.nD Cert.AdamwProjIdeal.τ).loc Cert.AdamwProjIdeal.main_arg3)) (m ((c.tc : Thread Cert.AdamwProjIdeal.nD Cert.AdamwProjIdeal.τ).loc Cert.AdamwProjIdeal.main_arg4)) (m ((c.tc : Thread Cert.AdamwProjIdeal.nD Cert.AdamwProjIdeal.τ).loc Cert.AdamwProjIdeal.main_arg5))) = (fun _ => 1#1)

def Pre_AdamwProjRefIdeal [hPre_on_the_mesh_proj : Cert.Pre_on_the_mesh_proj.Facts] (m : (ℓ : Loc Cert.AdamwProjRefIdeal.nD Cert.AdamwProjRefIdeal.τ Cert.AdamwProjRefIdeal.sig) → Buf (Elt Ideal) ℓ) : Prop :=
  ∀ c : Dev Cert.AdamwProjRefIdeal.nD,
    (Cert.Pre_on_the_mesh_proj.fn (F := Ideal) (m ((c.tc : Thread Cert.AdamwProjRefIdeal.nD Cert.AdamwProjRefIdeal.τ).loc Cert.AdamwProjRefIdeal.main_arg0)) (m ((c.tc : Thread Cert.AdamwProjRefIdeal.nD Cert.AdamwProjRefIdeal.τ).loc Cert.AdamwProjRefIdeal.main_arg1)) (m ((c.tc : Thread Cert.AdamwProjRefIdeal.nD Cert.AdamwProjRefIdeal.τ).loc Cert.AdamwProjRefIdeal.main_arg2)) (m ((c.tc : Thread Cert.AdamwProjRefIdeal.nD Cert.AdamwProjRefIdeal.τ).loc Cert.AdamwProjRefIdeal.main_arg3)) (m ((c.tc : Thread Cert.AdamwProjRefIdeal.nD Cert.AdamwProjRefIdeal.τ).loc Cert.AdamwProjRefIdeal.main_arg4)) (m ((c.tc : Thread Cert.AdamwProjRefIdeal.nD Cert.AdamwProjRefIdeal.τ).loc Cert.AdamwProjRefIdeal.main_arg5))) = (fun _ => 1#1)

def Pre_AdamwGlu [hPre_on_the_mesh_glu : Cert.Pre_on_the_mesh_glu.Facts] (m : (ℓ : Loc Cert.AdamwGlu.nD Cert.AdamwGlu.τ Cert.AdamwGlu.sig) → Buf (Elt Bits) ℓ) : Prop :=
  ∀ c : Dev Cert.AdamwGlu.nD,
    (Cert.Pre_on_the_mesh_glu.fn (F := Bits) (m ((c.tc : Thread Cert.AdamwGlu.nD Cert.AdamwGlu.τ).loc Cert.AdamwGlu.main_arg0)) (m ((c.tc : Thread Cert.AdamwGlu.nD Cert.AdamwGlu.τ).loc Cert.AdamwGlu.main_arg1)) (m ((c.tc : Thread Cert.AdamwGlu.nD Cert.AdamwGlu.τ).loc Cert.AdamwGlu.main_arg2)) (m ((c.tc : Thread Cert.AdamwGlu.nD Cert.AdamwGlu.τ).loc Cert.AdamwGlu.main_arg3)) (m ((c.tc : Thread Cert.AdamwGlu.nD Cert.AdamwGlu.τ).loc Cert.AdamwGlu.main_arg4)) (m ((c.tc : Thread Cert.AdamwGlu.nD Cert.AdamwGlu.τ).loc Cert.AdamwGlu.main_arg5))) = (fun _ => 1#1)

def Pre_AdamwGluIdeal [hPre_on_the_mesh_glu : Cert.Pre_on_the_mesh_glu.Facts] (m : (ℓ : Loc Cert.AdamwGluIdeal.nD Cert.AdamwGluIdeal.τ Cert.AdamwGluIdeal.sig) → Buf (Elt Ideal) ℓ) : Prop :=
  ∀ c : Dev Cert.AdamwGluIdeal.nD,
    (Cert.Pre_on_the_mesh_glu.fn (F := Ideal) (m ((c.tc : Thread Cert.AdamwGluIdeal.nD Cert.AdamwGluIdeal.τ).loc Cert.AdamwGluIdeal.main_arg0)) (m ((c.tc : Thread Cert.AdamwGluIdeal.nD Cert.AdamwGluIdeal.τ).loc Cert.AdamwGluIdeal.main_arg1)) (m ((c.tc : Thread Cert.AdamwGluIdeal.nD Cert.AdamwGluIdeal.τ).loc Cert.AdamwGluIdeal.main_arg2)) (m ((c.tc : Thread Cert.AdamwGluIdeal.nD Cert.AdamwGluIdeal.τ).loc Cert.AdamwGluIdeal.main_arg3)) (m ((c.tc : Thread Cert.AdamwGluIdeal.nD Cert.AdamwGluIdeal.τ).loc Cert.AdamwGluIdeal.main_arg4)) (m ((c.tc : Thread Cert.AdamwGluIdeal.nD Cert.AdamwGluIdeal.τ).loc Cert.AdamwGluIdeal.main_arg5))) = (fun _ => 1#1)

def Pre_AdamwGluRefIdeal [hPre_on_the_mesh_glu : Cert.Pre_on_the_mesh_glu.Facts] (m : (ℓ : Loc Cert.AdamwGluRefIdeal.nD Cert.AdamwGluRefIdeal.τ Cert.AdamwGluRefIdeal.sig) → Buf (Elt Ideal) ℓ) : Prop :=
  ∀ c : Dev Cert.AdamwGluRefIdeal.nD,
    (Cert.Pre_on_the_mesh_glu.fn (F := Ideal) (m ((c.tc : Thread Cert.AdamwGluRefIdeal.nD Cert.AdamwGluRefIdeal.τ).loc Cert.AdamwGluRefIdeal.main_arg0)) (m ((c.tc : Thread Cert.AdamwGluRefIdeal.nD Cert.AdamwGluRefIdeal.τ).loc Cert.AdamwGluRefIdeal.main_arg1)) (m ((c.tc : Thread Cert.AdamwGluRefIdeal.nD Cert.AdamwGluRefIdeal.τ).loc Cert.AdamwGluRefIdeal.main_arg2)) (m ((c.tc : Thread Cert.AdamwGluRefIdeal.nD Cert.AdamwGluRefIdeal.τ).loc Cert.AdamwGluRefIdeal.main_arg3)) (m ((c.tc : Thread Cert.AdamwGluRefIdeal.nD Cert.AdamwGluRefIdeal.τ).loc Cert.AdamwGluRefIdeal.main_arg4)) (m ((c.tc : Thread Cert.AdamwGluRefIdeal.nD Cert.AdamwGluRefIdeal.τ).loc Cert.AdamwGluRefIdeal.main_arg5))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_DownBwd [hDownBwd : Cert.DownBwd.Facts] : Prop :=
  ∀ (m : (ℓ : Loc Cert.DownBwd.nD Cert.DownBwd.τ Cert.DownBwd.sig) → Buf (Elt Bits) ℓ) (g : Dev Cert.DownBwd.nD → PrngReg), Pre_DownBwd m →
    θ_run (Cert.DownBwd.defs (F := Bits)) (onTc (τ := Cert.DownBwd.τ) (Cert.DownBwd.main (F := Bits))) ⟨m, fun _ => 0, g⟩ (fun r => (∀ c : Dev Cert.DownBwd.nD,
      r.2.mem ((c.tc : Thread Cert.DownBwd.nD Cert.DownBwd.τ).loc Cert.DownBwd.main_arg0) = m ((c.tc : Thread Cert.DownBwd.nD Cert.DownBwd.τ).loc Cert.DownBwd.main_arg0)
      ∧ r.2.mem ((c.tc : Thread Cert.DownBwd.nD Cert.DownBwd.τ).loc Cert.DownBwd.main_arg1) = m ((c.tc : Thread Cert.DownBwd.nD Cert.DownBwd.τ).loc Cert.DownBwd.main_arg1))
      ∧ r.2.sem = fun _ => 0)

def quiescent_DownBwdIdeal [hDownBwdIdeal : Cert.DownBwdIdeal.Facts] : Prop :=
  ∀ (m : (ℓ : Loc Cert.DownBwdIdeal.nD Cert.DownBwdIdeal.τ Cert.DownBwdIdeal.sig) → Buf (Elt Ideal) ℓ) (g : Dev Cert.DownBwdIdeal.nD → PrngReg), Pre_DownBwdIdeal m →
    θ_run (Cert.DownBwdIdeal.defs (F := Ideal)) (onTc (τ := Cert.DownBwdIdeal.τ) (Cert.DownBwdIdeal.main (F := Ideal))) ⟨m, fun _ => 0, g⟩ (fun r => (∀ c : Dev Cert.DownBwdIdeal.nD,
      r.2.mem ((c.tc : Thread Cert.DownBwdIdeal.nD Cert.DownBwdIdeal.τ).loc Cert.DownBwdIdeal.main_arg0) = m ((c.tc : Thread Cert.DownBwdIdeal.nD Cert.DownBwdIdeal.τ).loc Cert.DownBwdIdeal.main_arg0)
      ∧ r.2.mem ((c.tc : Thread Cert.DownBwdIdeal.nD Cert.DownBwdIdeal.τ).loc Cert.DownBwdIdeal.main_arg1) = m ((c.tc : Thread Cert.DownBwdIdeal.nD Cert.DownBwdIdeal.τ).loc Cert.DownBwdIdeal.main_arg1))
      ∧ r.2.sem = fun _ => 0)

def quiescent_DownBwdRefIdeal [hDownBwdRefIdeal : Cert.DownBwdRefIdeal.Facts] : Prop :=
  ∀ (m : (ℓ : Loc Cert.DownBwdRefIdeal.nD Cert.DownBwdRefIdeal.τ Cert.DownBwdRefIdeal.sig) → Buf (Elt Ideal) ℓ) (g : Dev Cert.DownBwdRefIdeal.nD → PrngReg), Pre_DownBwdRefIdeal m →
    θ_run (Cert.DownBwdRefIdeal.defs (F := Ideal)) (onTc (τ := Cert.DownBwdRefIdeal.τ) (Cert.DownBwdRefIdeal.main (F := Ideal))) ⟨m, fun _ => 0, g⟩ (fun r => (∀ c : Dev Cert.DownBwdRefIdeal.nD,
      r.2.mem ((c.tc : Thread Cert.DownBwdRefIdeal.nD Cert.DownBwdRefIdeal.τ).loc Cert.DownBwdRefIdeal.main_arg0) = m ((c.tc : Thread Cert.DownBwdRefIdeal.nD Cert.DownBwdRefIdeal.τ).loc Cert.DownBwdRefIdeal.main_arg0)
      ∧ r.2.mem ((c.tc : Thread Cert.DownBwdRefIdeal.nD Cert.DownBwdRefIdeal.τ).loc Cert.DownBwdRefIdeal.main_arg1) = m ((c.tc : Thread Cert.DownBwdRefIdeal.nD Cert.DownBwdRefIdeal.τ).loc Cert.DownBwdRefIdeal.main_arg1))
      ∧ r.2.sem = fun _ => 0)

def quiescent_DownWgrad [hDownWgrad : Cert.DownWgrad.Facts] : Prop :=
  ∀ (m : (ℓ : Loc Cert.DownWgrad.nD Cert.DownWgrad.τ Cert.DownWgrad.sig) → Buf (Elt Bits) ℓ) (g : Dev Cert.DownWgrad.nD → PrngReg), Pre_DownWgrad m →
    θ_run (Cert.DownWgrad.defs (F := Bits)) (onTc (τ := Cert.DownWgrad.τ) (Cert.DownWgrad.main (F := Bits))) ⟨m, fun _ => 0, g⟩ (fun r => (∀ c : Dev Cert.DownWgrad.nD,
      r.2.mem ((c.tc : Thread Cert.DownWgrad.nD Cert.DownWgrad.τ).loc Cert.DownWgrad.main_arg0) = m ((c.tc : Thread Cert.DownWgrad.nD Cert.DownWgrad.τ).loc Cert.DownWgrad.main_arg0)
      ∧ r.2.mem ((c.tc : Thread Cert.DownWgrad.nD Cert.DownWgrad.τ).loc Cert.DownWgrad.main_arg1) = m ((c.tc : Thread Cert.DownWgrad.nD Cert.DownWgrad.τ).loc Cert.DownWgrad.main_arg1))
      ∧ r.2.sem = fun _ => 0)

def quiescent_DownWgradIdeal [hDownWgradIdeal : Cert.DownWgradIdeal.Facts] : Prop :=
  ∀ (m : (ℓ : Loc Cert.DownWgradIdeal.nD Cert.DownWgradIdeal.τ Cert.DownWgradIdeal.sig) → Buf (Elt Ideal) ℓ) (g : Dev Cert.DownWgradIdeal.nD → PrngReg), Pre_DownWgradIdeal m →
    θ_run (Cert.DownWgradIdeal.defs (F := Ideal)) (onTc (τ := Cert.DownWgradIdeal.τ) (Cert.DownWgradIdeal.main (F := Ideal))) ⟨m, fun _ => 0, g⟩ (fun r => (∀ c : Dev Cert.DownWgradIdeal.nD,
      r.2.mem ((c.tc : Thread Cert.DownWgradIdeal.nD Cert.DownWgradIdeal.τ).loc Cert.DownWgradIdeal.main_arg0) = m ((c.tc : Thread Cert.DownWgradIdeal.nD Cert.DownWgradIdeal.τ).loc Cert.DownWgradIdeal.main_arg0)
      ∧ r.2.mem ((c.tc : Thread Cert.DownWgradIdeal.nD Cert.DownWgradIdeal.τ).loc Cert.DownWgradIdeal.main_arg1) = m ((c.tc : Thread Cert.DownWgradIdeal.nD Cert.DownWgradIdeal.τ).loc Cert.DownWgradIdeal.main_arg1))
      ∧ r.2.sem = fun _ => 0)

def quiescent_DownWgradRefIdeal [hDownWgradRefIdeal : Cert.DownWgradRefIdeal.Facts] : Prop :=
  ∀ (m : (ℓ : Loc Cert.DownWgradRefIdeal.nD Cert.DownWgradRefIdeal.τ Cert.DownWgradRefIdeal.sig) → Buf (Elt Ideal) ℓ) (g : Dev Cert.DownWgradRefIdeal.nD → PrngReg), Pre_DownWgradRefIdeal m →
    θ_run (Cert.DownWgradRefIdeal.defs (F := Ideal)) (onTc (τ := Cert.DownWgradRefIdeal.τ) (Cert.DownWgradRefIdeal.main (F := Ideal))) ⟨m, fun _ => 0, g⟩ (fun r => (∀ c : Dev Cert.DownWgradRefIdeal.nD,
      r.2.mem ((c.tc : Thread Cert.DownWgradRefIdeal.nD Cert.DownWgradRefIdeal.τ).loc Cert.DownWgradRefIdeal.main_arg0) = m ((c.tc : Thread Cert.DownWgradRefIdeal.nD Cert.DownWgradRefIdeal.τ).loc Cert.DownWgradRefIdeal.main_arg0)
      ∧ r.2.mem ((c.tc : Thread Cert.DownWgradRefIdeal.nD Cert.DownWgradRefIdeal.τ).loc Cert.DownWgradRefIdeal.main_arg1) = m ((c.tc : Thread Cert.DownWgradRefIdeal.nD Cert.DownWgradRefIdeal.τ).loc Cert.DownWgradRefIdeal.main_arg1))
      ∧ r.2.sem = fun _ => 0)

def quiescent_UpWgrad [hUpWgrad : Cert.UpWgrad.Facts] : Prop :=
  ∀ (m : (ℓ : Loc Cert.UpWgrad.nD Cert.UpWgrad.τ Cert.UpWgrad.sig) → Buf (Elt Bits) ℓ) (g : Dev Cert.UpWgrad.nD → PrngReg), Pre_UpWgrad m →
    θ_run (Cert.UpWgrad.defs (F := Bits)) (onTc (τ := Cert.UpWgrad.τ) (Cert.UpWgrad.main (F := Bits))) ⟨m, fun _ => 0, g⟩ (fun r => (∀ c : Dev Cert.UpWgrad.nD,
      r.2.mem ((c.tc : Thread Cert.UpWgrad.nD Cert.UpWgrad.τ).loc Cert.UpWgrad.main_arg0) = m ((c.tc : Thread Cert.UpWgrad.nD Cert.UpWgrad.τ).loc Cert.UpWgrad.main_arg0)
      ∧ r.2.mem ((c.tc : Thread Cert.UpWgrad.nD Cert.UpWgrad.τ).loc Cert.UpWgrad.main_arg1) = m ((c.tc : Thread Cert.UpWgrad.nD Cert.UpWgrad.τ).loc Cert.UpWgrad.main_arg1)
      ∧ r.2.mem ((c.tc : Thread Cert.UpWgrad.nD Cert.UpWgrad.τ).loc Cert.UpWgrad.main_arg2) = m ((c.tc : Thread Cert.UpWgrad.nD Cert.UpWgrad.τ).loc Cert.UpWgrad.main_arg2))
      ∧ r.2.sem = fun _ => 0)

def quiescent_UpWgradIdeal [hUpWgradIdeal : Cert.UpWgradIdeal.Facts] : Prop :=
  ∀ (m : (ℓ : Loc Cert.UpWgradIdeal.nD Cert.UpWgradIdeal.τ Cert.UpWgradIdeal.sig) → Buf (Elt Ideal) ℓ) (g : Dev Cert.UpWgradIdeal.nD → PrngReg), Pre_UpWgradIdeal m →
    θ_run (Cert.UpWgradIdeal.defs (F := Ideal)) (onTc (τ := Cert.UpWgradIdeal.τ) (Cert.UpWgradIdeal.main (F := Ideal))) ⟨m, fun _ => 0, g⟩ (fun r => (∀ c : Dev Cert.UpWgradIdeal.nD,
      r.2.mem ((c.tc : Thread Cert.UpWgradIdeal.nD Cert.UpWgradIdeal.τ).loc Cert.UpWgradIdeal.main_arg0) = m ((c.tc : Thread Cert.UpWgradIdeal.nD Cert.UpWgradIdeal.τ).loc Cert.UpWgradIdeal.main_arg0)
      ∧ r.2.mem ((c.tc : Thread Cert.UpWgradIdeal.nD Cert.UpWgradIdeal.τ).loc Cert.UpWgradIdeal.main_arg1) = m ((c.tc : Thread Cert.UpWgradIdeal.nD Cert.UpWgradIdeal.τ).loc Cert.UpWgradIdeal.main_arg1)
      ∧ r.2.mem ((c.tc : Thread Cert.UpWgradIdeal.nD Cert.UpWgradIdeal.τ).loc Cert.UpWgradIdeal.main_arg2) = m ((c.tc : Thread Cert.UpWgradIdeal.nD Cert.UpWgradIdeal.τ).loc Cert.UpWgradIdeal.main_arg2))
      ∧ r.2.sem = fun _ => 0)

def quiescent_UpWgradRefIdeal [hUpWgradRefIdeal : Cert.UpWgradRefIdeal.Facts] : Prop :=
  ∀ (m : (ℓ : Loc Cert.UpWgradRefIdeal.nD Cert.UpWgradRefIdeal.τ Cert.UpWgradRefIdeal.sig) → Buf (Elt Ideal) ℓ) (g : Dev Cert.UpWgradRefIdeal.nD → PrngReg), Pre_UpWgradRefIdeal m →
    θ_run (Cert.UpWgradRefIdeal.defs (F := Ideal)) (onTc (τ := Cert.UpWgradRefIdeal.τ) (Cert.UpWgradRefIdeal.main (F := Ideal))) ⟨m, fun _ => 0, g⟩ (fun r => (∀ c : Dev Cert.UpWgradRefIdeal.nD,
      r.2.mem ((c.tc : Thread Cert.UpWgradRefIdeal.nD Cert.UpWgradRefIdeal.τ).loc Cert.UpWgradRefIdeal.main_arg0) = m ((c.tc : Thread Cert.UpWgradRefIdeal.nD Cert.UpWgradRefIdeal.τ).loc Cert.UpWgradRefIdeal.main_arg0)
      ∧ r.2.mem ((c.tc : Thread Cert.UpWgradRefIdeal.nD Cert.UpWgradRefIdeal.τ).loc Cert.UpWgradRefIdeal.main_arg1) = m ((c.tc : Thread Cert.UpWgradRefIdeal.nD Cert.UpWgradRefIdeal.τ).loc Cert.UpWgradRefIdeal.main_arg1)
      ∧ r.2.mem ((c.tc : Thread Cert.UpWgradRefIdeal.nD Cert.UpWgradRefIdeal.τ).loc Cert.UpWgradRefIdeal.main_arg2) = m ((c.tc : Thread Cert.UpWgradRefIdeal.nD Cert.UpWgradRefIdeal.τ).loc Cert.UpWgradRefIdeal.main_arg2))
      ∧ r.2.sem = fun _ => 0)

def quiescent_InWgrad [hInWgrad : Cert.InWgrad.Facts] : Prop :=
  ∀ (m : (ℓ : Loc Cert.InWgrad.nD Cert.InWgrad.τ Cert.InWgrad.sig) → Buf (Elt Bits) ℓ) (g : Dev Cert.InWgrad.nD → PrngReg), Pre_InWgrad m →
    θ_run (Cert.InWgrad.defs (F := Bits)) (onTc (τ := Cert.InWgrad.τ) (Cert.InWgrad.main (F := Bits))) ⟨m, fun _ => 0, g⟩ (fun r => (∀ c : Dev Cert.InWgrad.nD,
      r.2.mem ((c.tc : Thread Cert.InWgrad.nD Cert.InWgrad.τ).loc Cert.InWgrad.main_arg0) = m ((c.tc : Thread Cert.InWgrad.nD Cert.InWgrad.τ).loc Cert.InWgrad.main_arg0)
      ∧ r.2.mem ((c.tc : Thread Cert.InWgrad.nD Cert.InWgrad.τ).loc Cert.InWgrad.main_arg1) = m ((c.tc : Thread Cert.InWgrad.nD Cert.InWgrad.τ).loc Cert.InWgrad.main_arg1))
      ∧ r.2.sem = fun _ => 0)

def quiescent_InWgradIdeal [hInWgradIdeal : Cert.InWgradIdeal.Facts] : Prop :=
  ∀ (m : (ℓ : Loc Cert.InWgradIdeal.nD Cert.InWgradIdeal.τ Cert.InWgradIdeal.sig) → Buf (Elt Ideal) ℓ) (g : Dev Cert.InWgradIdeal.nD → PrngReg), Pre_InWgradIdeal m →
    θ_run (Cert.InWgradIdeal.defs (F := Ideal)) (onTc (τ := Cert.InWgradIdeal.τ) (Cert.InWgradIdeal.main (F := Ideal))) ⟨m, fun _ => 0, g⟩ (fun r => (∀ c : Dev Cert.InWgradIdeal.nD,
      r.2.mem ((c.tc : Thread Cert.InWgradIdeal.nD Cert.InWgradIdeal.τ).loc Cert.InWgradIdeal.main_arg0) = m ((c.tc : Thread Cert.InWgradIdeal.nD Cert.InWgradIdeal.τ).loc Cert.InWgradIdeal.main_arg0)
      ∧ r.2.mem ((c.tc : Thread Cert.InWgradIdeal.nD Cert.InWgradIdeal.τ).loc Cert.InWgradIdeal.main_arg1) = m ((c.tc : Thread Cert.InWgradIdeal.nD Cert.InWgradIdeal.τ).loc Cert.InWgradIdeal.main_arg1))
      ∧ r.2.sem = fun _ => 0)

def quiescent_InWgradRefIdeal [hInWgradRefIdeal : Cert.InWgradRefIdeal.Facts] : Prop :=
  ∀ (m : (ℓ : Loc Cert.InWgradRefIdeal.nD Cert.InWgradRefIdeal.τ Cert.InWgradRefIdeal.sig) → Buf (Elt Ideal) ℓ) (g : Dev Cert.InWgradRefIdeal.nD → PrngReg), Pre_InWgradRefIdeal m →
    θ_run (Cert.InWgradRefIdeal.defs (F := Ideal)) (onTc (τ := Cert.InWgradRefIdeal.τ) (Cert.InWgradRefIdeal.main (F := Ideal))) ⟨m, fun _ => 0, g⟩ (fun r => (∀ c : Dev Cert.InWgradRefIdeal.nD,
      r.2.mem ((c.tc : Thread Cert.InWgradRefIdeal.nD Cert.InWgradRefIdeal.τ).loc Cert.InWgradRefIdeal.main_arg0) = m ((c.tc : Thread Cert.InWgradRefIdeal.nD Cert.InWgradRefIdeal.τ).loc Cert.InWgradRefIdeal.main_arg0)
      ∧ r.2.mem ((c.tc : Thread Cert.InWgradRefIdeal.nD Cert.InWgradRefIdeal.τ).loc Cert.InWgradRefIdeal.main_arg1) = m ((c.tc : Thread Cert.InWgradRefIdeal.nD Cert.InWgradRefIdeal.τ).loc Cert.InWgradRefIdeal.main_arg1))
      ∧ r.2.sem = fun _ => 0)

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1))
      ∧ r.2.sem = fun _ => 0)

def quiescent_OutBwdRefIdeal [hOutBwdRefIdeal : Cert.OutBwdRefIdeal.Facts] : Prop :=
  ∀ (m : (ℓ : Loc Cert.OutBwdRefIdeal.nD Cert.OutBwdRefIdeal.τ Cert.OutBwdRefIdeal.sig) → Buf (Elt Ideal) ℓ) (g : Dev Cert.OutBwdRefIdeal.nD → PrngReg), Pre_OutBwdRefIdeal m →
    θ_run (Cert.OutBwdRefIdeal.defs (F := Ideal)) (onTc (τ := Cert.OutBwdRefIdeal.τ) (Cert.OutBwdRefIdeal.main (F := Ideal))) ⟨m, fun _ => 0, g⟩ (fun r => (∀ c : Dev Cert.OutBwdRefIdeal.nD,
      r.2.mem ((c.tc : Thread Cert.OutBwdRefIdeal.nD Cert.OutBwdRefIdeal.τ).loc Cert.OutBwdRefIdeal.main_arg0) = m ((c.tc : Thread Cert.OutBwdRefIdeal.nD Cert.OutBwdRefIdeal.τ).loc Cert.OutBwdRefIdeal.main_arg0)
      ∧ r.2.mem ((c.tc : Thread Cert.OutBwdRefIdeal.nD Cert.OutBwdRefIdeal.τ).loc Cert.OutBwdRefIdeal.main_arg1) = m ((c.tc : Thread Cert.OutBwdRefIdeal.nD Cert.OutBwdRefIdeal.τ).loc Cert.OutBwdRefIdeal.main_arg1))
      ∧ r.2.sem = fun _ => 0)

def quiescent_OutWgrad [hOutWgrad : Cert.OutWgrad.Facts] : Prop :=
  ∀ (m : (ℓ : Loc Cert.OutWgrad.nD Cert.OutWgrad.τ Cert.OutWgrad.sig) → Buf (Elt Bits) ℓ) (g : Dev Cert.OutWgrad.nD → PrngReg), Pre_OutWgrad m →
    θ_run (Cert.OutWgrad.defs (F := Bits)) (onTc (τ := Cert.OutWgrad.τ) (Cert.OutWgrad.main (F := Bits))) ⟨m, fun _ => 0, g⟩ (fun r => (∀ c : Dev Cert.OutWgrad.nD,
      r.2.mem ((c.tc : Thread Cert.OutWgrad.nD Cert.OutWgrad.τ).loc Cert.OutWgrad.main_arg0) = m ((c.tc : Thread Cert.OutWgrad.nD Cert.OutWgrad.τ).loc Cert.OutWgrad.main_arg0)
      ∧ r.2.mem ((c.tc : Thread Cert.OutWgrad.nD Cert.OutWgrad.τ).loc Cert.OutWgrad.main_arg1) = m ((c.tc : Thread Cert.OutWgrad.nD Cert.OutWgrad.τ).loc Cert.OutWgrad.main_arg1))
      ∧ r.2.sem = fun _ => 0)

def quiescent_OutWgradIdeal [hOutWgradIdeal : Cert.OutWgradIdeal.Facts] : Prop :=
  ∀ (m : (ℓ : Loc Cert.OutWgradIdeal.nD Cert.OutWgradIdeal.τ Cert.OutWgradIdeal.sig) → Buf (Elt Ideal) ℓ) (g : Dev Cert.OutWgradIdeal.nD → PrngReg), Pre_OutWgradIdeal m →
    θ_run (Cert.OutWgradIdeal.defs (F := Ideal)) (onTc (τ := Cert.OutWgradIdeal.τ) (Cert.OutWgradIdeal.main (F := Ideal))) ⟨m, fun _ => 0, g⟩ (fun r => (∀ c : Dev Cert.OutWgradIdeal.nD,
      r.2.mem ((c.tc : Thread Cert.OutWgradIdeal.nD Cert.OutWgradIdeal.τ).loc Cert.OutWgradIdeal.main_arg0) = m ((c.tc : Thread Cert.OutWgradIdeal.nD Cert.OutWgradIdeal.τ).loc Cert.OutWgradIdeal.main_arg0)
      ∧ r.2.mem ((c.tc : Thread Cert.OutWgradIdeal.nD Cert.OutWgradIdeal.τ).loc Cert.OutWgradIdeal.main_arg1) = m ((c.tc : Thread Cert.OutWgradIdeal.nD Cert.OutWgradIdeal.τ).loc Cert.OutWgradIdeal.main_arg1))
      ∧ r.2.sem = fun _ => 0)

def quiescent_OutWgradRefIdeal [hOutWgradRefIdeal : Cert.OutWgradRefIdeal.Facts] : Prop :=
  ∀ (m : (ℓ : Loc Cert.OutWgradRefIdeal.nD Cert.OutWgradRefIdeal.τ Cert.OutWgradRefIdeal.sig) → Buf (Elt Ideal) ℓ) (g : Dev Cert.OutWgradRefIdeal.nD → PrngReg), Pre_OutWgradRefIdeal m →
    θ_run (Cert.OutWgradRefIdeal.defs (F := Ideal)) (onTc (τ := Cert.OutWgradRefIdeal.τ) (Cert.OutWgradRefIdeal.main (F := Ideal))) ⟨m, fun _ => 0, g⟩ (fun r => (∀ c : Dev Cert.OutWgradRefIdeal.nD,
      r.2.mem ((c.tc : Thread Cert.OutWgradRefIdeal.nD Cert.OutWgradRefIdeal.τ).loc Cert.OutWgradRefIdeal.main_arg0) = m ((c.tc : Thread Cert.OutWgradRefIdeal.nD Cert.OutWgradRefIdeal.τ).loc Cert.OutWgradRefIdeal.main_arg0)
      ∧ r.2.mem ((c.tc : Thread Cert.OutWgradRefIdeal.nD Cert.OutWgradRefIdeal.τ).loc Cert.OutWgradRefIdeal.main_arg1) = m ((c.tc : Thread Cert.OutWgradRefIdeal.nD Cert.OutWgradRefIdeal.τ).loc Cert.OutWgradRefIdeal.main_arg1))
      ∧ r.2.sem = fun _ => 0)

def quiescent_ProjBwd [hProjBwd : Cert.ProjBwd.Facts] : Prop :=
  ∀ (m : (ℓ : Loc Cert.ProjBwd.nD Cert.ProjBwd.τ Cert.ProjBwd.sig) → Buf (Elt Bits) ℓ) (g : Dev Cert.ProjBwd.nD → PrngReg), Pre_ProjBwd m →
    θ_run (Cert.ProjBwd.defs (F := Bits)) (onTc (τ := Cert.ProjBwd.τ) (Cert.ProjBwd.main (F := Bits))) ⟨m, fun _ => 0, g⟩ (fun r => (∀ c : Dev Cert.ProjBwd.nD,
      r.2.mem ((c.tc : Thread Cert.ProjBwd.nD Cert.ProjBwd.τ).loc Cert.ProjBwd.main_arg0) = m ((c.tc : Thread Cert.ProjBwd.nD Cert.ProjBwd.τ).loc Cert.ProjBwd.main_arg0)
      ∧ r.2.mem ((c.tc : Thread Cert.ProjBwd.nD Cert.ProjBwd.τ).loc Cert.ProjBwd.main_arg1) = m ((c.tc : Thread Cert.ProjBwd.nD Cert.ProjBwd.τ).loc Cert.ProjBwd.main_arg1))
      ∧ r.2.sem = fun _ => 0)

def quiescent_ProjBwdIdeal [hProjBwdIdeal : Cert.ProjBwdIdeal.Facts] : Prop :=
  ∀ (m : (ℓ : Loc Cert.ProjBwdIdeal.nD Cert.ProjBwdIdeal.τ Cert.ProjBwdIdeal.sig) → Buf (Elt Ideal) ℓ) (g : Dev Cert.ProjBwdIdeal.nD → PrngReg), Pre_ProjBwdIdeal m →
    θ_run (Cert.ProjBwdIdeal.defs (F := Ideal)) (onTc (τ := Cert.ProjBwdIdeal.τ) (Cert.ProjBwdIdeal.main (F := Ideal))) ⟨m, fun _ => 0, g⟩ (fun r => (∀ c : Dev Cert.ProjBwdIdeal.nD,
      r.2.mem ((c.tc : Thread Cert.ProjBwdIdeal.nD Cert.ProjBwdIdeal.τ).loc Cert.ProjBwdIdeal.main_arg0) = m ((c.tc : Thread Cert.ProjBwdIdeal.nD Cert.ProjBwdIdeal.τ).loc Cert.ProjBwdIdeal.main_arg0)
      ∧ r.2.mem ((c.tc : Thread Cert.ProjBwdIdeal.nD Cert.ProjBwdIdeal.τ).loc Cert.ProjBwdIdeal.main_arg1) = m ((c.tc : Thread Cert.ProjBwdIdeal.nD Cert.ProjBwdIdeal.τ).loc Cert.ProjBwdIdeal.main_arg1))
      ∧ r.2.sem = fun _ => 0)

def quiescent_ProjBwdRefIdeal [hProjBwdRefIdeal : Cert.ProjBwdRefIdeal.Facts] : Prop :=
  ∀ (m : (ℓ : Loc Cert.ProjBwdRefIdeal.nD Cert.ProjBwdRefIdeal.τ Cert.ProjBwdRefIdeal.sig) → Buf (Elt Ideal) ℓ) (g : Dev Cert.ProjBwdRefIdeal.nD → PrngReg), Pre_ProjBwdRefIdeal m →
    θ_run (Cert.ProjBwdRefIdeal.defs (F := Ideal)) (onTc (τ := Cert.ProjBwdRefIdeal.τ) (Cert.ProjBwdRefIdeal.main (F := Ideal))) ⟨m, fun _ => 0, g⟩ (fun r => (∀ c : Dev Cert.ProjBwdRefIdeal.nD,
      r.2.mem ((c.tc : Thread Cert.ProjBwdRefIdeal.nD Cert.ProjBwdRefIdeal.τ).loc Cert.ProjBwdRefIdeal.main_arg0) = m ((c.tc : Thread Cert.ProjBwdRefIdeal.nD Cert.ProjBwdRefIdeal.τ).loc Cert.ProjBwdRefIdeal.main_arg0)
      ∧ r.2.mem ((c.tc : Thread Cert.ProjBwdRefIdeal.nD Cert.ProjBwdRefIdeal.τ).loc Cert.ProjBwdRefIdeal.main_arg1) = m ((c.tc : Thread Cert.ProjBwdRefIdeal.nD Cert.ProjBwdRefIdeal.τ).loc Cert.ProjBwdRefIdeal.main_arg1))
      ∧ r.2.sem = fun _ => 0)

def quiescent_ProjWgrad [hProjWgrad : Cert.ProjWgrad.Facts] : Prop :=
  ∀ (m : (ℓ : Loc Cert.ProjWgrad.nD Cert.ProjWgrad.τ Cert.ProjWgrad.sig) → Buf (Elt Bits) ℓ) (g : Dev Cert.ProjWgrad.nD → PrngReg), Pre_ProjWgrad m →
    θ_run (Cert.ProjWgrad.defs (F := Bits)) (onTc (τ := Cert.ProjWgrad.τ) (Cert.ProjWgrad.main (F := Bits))) ⟨m, fun _ => 0, g⟩ (fun r => (∀ c : Dev Cert.ProjWgrad.nD,
      r.2.mem ((c.tc : Thread Cert.ProjWgrad.nD Cert.ProjWgrad.τ).loc Cert.ProjWgrad.main_arg0) = m ((c.tc : Thread Cert.ProjWgrad.nD Cert.ProjWgrad.τ).loc Cert.ProjWgrad.main_arg0)
      ∧ r.2.mem ((c.tc : Thread Cert.ProjWgrad.nD Cert.ProjWgrad.τ).loc Cert.ProjWgrad.main_arg1) = m ((c.tc : Thread Cert.ProjWgrad.nD Cert.ProjWgrad.τ).loc Cert.ProjWgrad.main_arg1))
      ∧ r.2.sem = fun _ => 0)

def quiescent_ProjWgradIdeal [hProjWgradIdeal : Cert.ProjWgradIdeal.Facts] : Prop :=
  ∀ (m : (ℓ : Loc Cert.ProjWgradIdeal.nD Cert.ProjWgradIdeal.τ Cert.ProjWgradIdeal.sig) → Buf (Elt Ideal) ℓ) (g : Dev Cert.ProjWgradIdeal.nD → PrngReg), Pre_ProjWgradIdeal m →
    θ_run (Cert.ProjWgradIdeal.defs (F := Ideal)) (onTc (τ := Cert.ProjWgradIdeal.τ) (Cert.ProjWgradIdeal.main (F := Ideal))) ⟨m, fun _ => 0, g⟩ (fun r => (∀ c : Dev Cert.ProjWgradIdeal.nD,
      r.2.mem ((c.tc : Thread Cert.ProjWgradIdeal.nD Cert.ProjWgradIdeal.τ).loc Cert.ProjWgradIdeal.main_arg0) = m ((c.tc : Thread Cert.ProjWgradIdeal.nD Cert.ProjWgradIdeal.τ).loc Cert.ProjWgradIdeal.main_arg0)
      ∧ r.2.mem ((c.tc : Thread Cert.ProjWgradIdeal.nD Cert.ProjWgradIdeal.τ).loc Cert.ProjWgradIdeal.main_arg1) = m ((c.tc : Thread Cert.ProjWgradIdeal.nD Cert.ProjWgradIdeal.τ).loc Cert.ProjWgradIdeal.main_arg1))
      ∧ r.2.sem = fun _ => 0)

def quiescent_ProjWgradRefIdeal [hProjWgradRefIdeal : Cert.ProjWgradRefIdeal.Facts] : Prop :=
  ∀ (m : (ℓ : Loc Cert.ProjWgradRefIdeal.nD Cert.ProjWgradRefIdeal.τ Cert.ProjWgradRefIdeal.sig) → Buf (Elt Ideal) ℓ) (g : Dev Cert.ProjWgradRefIdeal.nD → PrngReg), Pre_ProjWgradRefIdeal m →
    θ_run (Cert.ProjWgradRefIdeal.defs (F := Ideal)) (onTc (τ := Cert.ProjWgradRefIdeal.τ) (Cert.ProjWgradRefIdeal.main (F := Ideal))) ⟨m, fun _ => 0, g⟩ (fun r => (∀ c : Dev Cert.ProjWgradRefIdeal.nD,
      r.2.mem ((c.tc : Thread Cert.ProjWgradRefIdeal.nD Cert.ProjWgradRefIdeal.τ).loc Cert.ProjWgradRefIdeal.main_arg0) = m ((c.tc : Thread Cert.ProjWgradRefIdeal.nD Cert.ProjWgradRefIdeal.τ).loc Cert.ProjWgradRefIdeal.main_arg0)
      ∧ r.2.mem ((c.tc : Thread Cert.ProjWgradRefIdeal.nD Cert.ProjWgradRefIdeal.τ).loc Cert.ProjWgradRefIdeal.main_arg1) = m ((c.tc : Thread Cert.ProjWgradRefIdeal.nD Cert.ProjWgradRefIdeal.τ).loc Cert.ProjWgradRefIdeal.main_arg1))
      ∧ r.2.sem = fun _ => 0)

def quiescent_GluWgrad [hGluWgrad : Cert.GluWgrad.Facts] : Prop :=
  ∀ (m : (ℓ : Loc Cert.GluWgrad.nD Cert.GluWgrad.τ Cert.GluWgrad.sig) → Buf (Elt Bits) ℓ) (g : Dev Cert.GluWgrad.nD → PrngReg), Pre_GluWgrad m →
    θ_run (Cert.GluWgrad.defs (F := Bits)) (onTc (τ := Cert.GluWgrad.τ) (Cert.GluWgrad.main (F := Bits))) ⟨m, fun _ => 0, g⟩ (fun r => (∀ c : Dev Cert.GluWgrad.nD,
      r.2.mem ((c.tc : Thread Cert.GluWgrad.nD Cert.GluWgrad.τ).loc Cert.GluWgrad.main_arg0) = m ((c.tc : Thread Cert.GluWgrad.nD Cert.GluWgrad.τ).loc Cert.GluWgrad.main_arg0)
      ∧ r.2.mem ((c.tc : Thread Cert.GluWgrad.nD Cert.GluWgrad.τ).loc Cert.GluWgrad.main_arg1) = m ((c.tc : Thread Cert.GluWgrad.nD Cert.GluWgrad.τ).loc Cert.GluWgrad.main_arg1))
      ∧ r.2.sem = fun _ => 0)

def quiescent_GluWgradIdeal [hGluWgradIdeal : Cert.GluWgradIdeal.Facts] : Prop :=
  ∀ (m : (ℓ : Loc Cert.GluWgradIdeal.nD Cert.GluWgradIdeal.τ Cert.GluWgradIdeal.sig) → Buf (Elt Ideal) ℓ) (g : Dev Cert.GluWgradIdeal.nD → PrngReg), Pre_GluWgradIdeal m →
    θ_run (Cert.GluWgradIdeal.defs (F := Ideal)) (onTc (τ := Cert.GluWgradIdeal.τ) (Cert.GluWgradIdeal.main (F := Ideal))) ⟨m, fun _ => 0, g⟩ (fun r => (∀ c : Dev Cert.GluWgradIdeal.nD,
      r.2.mem ((c.tc : Thread Cert.GluWgradIdeal.nD Cert.GluWgradIdeal.τ).loc Cert.GluWgradIdeal.main_arg0) = m ((c.tc : Thread Cert.GluWgradIdeal.nD Cert.GluWgradIdeal.τ).loc Cert.GluWgradIdeal.main_arg0)
      ∧ r.2.mem ((c.tc : Thread Cert.GluWgradIdeal.nD Cert.GluWgradIdeal.τ).loc Cert.GluWgradIdeal.main_arg1) = m ((c.tc : Thread Cert.GluWgradIdeal.nD Cert.GluWgradIdeal.τ).loc Cert.GluWgradIdeal.main_arg1))
      ∧ r.2.sem = fun _ => 0)

def quiescent_GluWgradRefIdeal [hGluWgradRefIdeal : Cert.GluWgradRefIdeal.Facts] : Prop :=
  ∀ (m : (ℓ : Loc Cert.GluWgradRefIdeal.nD Cert.GluWgradRefIdeal.τ Cert.GluWgradRefIdeal.sig) → Buf (Elt Ideal) ℓ) (g : Dev Cert.GluWgradRefIdeal.nD → PrngReg), Pre_GluWgradRefIdeal m →
    θ_run (Cert.GluWgradRefIdeal.defs (F := Ideal)) (onTc (τ := Cert.GluWgradRefIdeal.τ) (Cert.GluWgradRefIdeal.main (F := Ideal))) ⟨m, fun _ => 0, g⟩ (fun r => (∀ c : Dev Cert.GluWgradRefIdeal.nD,
      r.2.mem ((c.tc : Thread Cert.GluWgradRefIdeal.nD Cert.GluWgradRefIdeal.τ).loc Cert.GluWgradRefIdeal.main_arg0) = m ((c.tc : Thread Cert.GluWgradRefIdeal.nD Cert.GluWgradRefIdeal.τ).loc Cert.GluWgradRefIdeal.main_arg0)
      ∧ r.2.mem ((c.tc : Thread Cert.GluWgradRefIdeal.nD Cert.GluWgradRefIdeal.τ).loc Cert.GluWgradRefIdeal.main_arg1) = m ((c.tc : Thread Cert.GluWgradRefIdeal.nD Cert.GluWgradRefIdeal.τ).loc Cert.GluWgradRefIdeal.main_arg1))
      ∧ r.2.sem = fun _ => 0)

def quiescent_UpProj [hUpProj : Cert.UpProj.Facts] : Prop :=
  ∀ (m : (ℓ : Loc Cert.UpProj.nD Cert.UpProj.τ Cert.UpProj.sig) → Buf (Elt Bits) ℓ) (g : Dev Cert.UpProj.nD → PrngReg), Pre_UpProj m →
    θ_run (Cert.UpProj.defs (F := Bits)) (onTc (τ := Cert.UpProj.τ) (Cert.UpProj.main (F := Bits))) ⟨m, fun _ => 0, g⟩ (fun r => (∀ c : Dev Cert.UpProj.nD,
      r.2.mem ((c.tc : Thread Cert.UpProj.nD Cert.UpProj.τ).loc Cert.UpProj.main_arg0) = m ((c.tc : Thread Cert.UpProj.nD Cert.UpProj.τ).loc Cert.UpProj.main_arg0)
      ∧ r.2.mem ((c.tc : Thread Cert.UpProj.nD Cert.UpProj.τ).loc Cert.UpProj.main_arg1) = m ((c.tc : Thread Cert.UpProj.nD Cert.UpProj.τ).loc Cert.UpProj.main_arg1))
      ∧ r.2.sem = fun _ => 0)

def quiescent_UpProjIdeal [hUpProjIdeal : Cert.UpProjIdeal.Facts] : Prop :=
  ∀ (m : (ℓ : Loc Cert.UpProjIdeal.nD Cert.UpProjIdeal.τ Cert.UpProjIdeal.sig) → Buf (Elt Ideal) ℓ) (g : Dev Cert.UpProjIdeal.nD → PrngReg), Pre_UpProjIdeal m →
    θ_run (Cert.UpProjIdeal.defs (F := Ideal)) (onTc (τ := Cert.UpProjIdeal.τ) (Cert.UpProjIdeal.main (F := Ideal))) ⟨m, fun _ => 0, g⟩ (fun r => (∀ c : Dev Cert.UpProjIdeal.nD,
      r.2.mem ((c.tc : Thread Cert.UpProjIdeal.nD Cert.UpProjIdeal.τ).loc Cert.UpProjIdeal.main_arg0) = m ((c.tc : Thread Cert.UpProjIdeal.nD Cert.UpProjIdeal.τ).loc Cert.UpProjIdeal.main_arg0)
      ∧ r.2.mem ((c.tc : Thread Cert.UpProjIdeal.nD Cert.UpProjIdeal.τ).loc Cert.UpProjIdeal.main_arg1) = m ((c.tc : Thread Cert.UpProjIdeal.nD Cert.UpProjIdeal.τ).loc Cert.UpProjIdeal.main_arg1))
      ∧ r.2.sem = fun _ => 0)

def quiescent_UpProjRefIdeal [hUpProjRefIdeal : Cert.UpProjRefIdeal.Facts] : Prop :=
  ∀ (m : (ℓ : Loc Cert.UpProjRefIdeal.nD Cert.UpProjRefIdeal.τ Cert.UpProjRefIdeal.sig) → Buf (Elt Ideal) ℓ) (g : Dev Cert.UpProjRefIdeal.nD → PrngReg), Pre_UpProjRefIdeal m →
    θ_run (Cert.UpProjRefIdeal.defs (F := Ideal)) (onTc (τ := Cert.UpProjRefIdeal.τ) (Cert.UpProjRefIdeal.main (F := Ideal))) ⟨m, fun _ => 0, g⟩ (fun r => (∀ c : Dev Cert.UpProjRefIdeal.nD,
      r.2.mem ((c.tc : Thread Cert.UpProjRefIdeal.nD Cert.UpProjRefIdeal.τ).loc Cert.UpProjRefIdeal.main_arg0) = m ((c.tc : Thread Cert.UpProjRefIdeal.nD Cert.UpProjRefIdeal.τ).loc Cert.UpProjRefIdeal.main_arg0)
      ∧ r.2.mem ((c.tc : Thread Cert.UpProjRefIdeal.nD Cert.UpProjRefIdeal.τ).loc Cert.UpProjRefIdeal.main_arg1) = m ((c.tc : Thread Cert.UpProjRefIdeal.nD Cert.UpProjRefIdeal.τ).loc Cert.UpProjRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_UpBwd [hUpBwd : Cert.UpBwd.Facts] : Prop :=
  ∀ (m : (ℓ : Loc Cert.UpBwd.nD Cert.UpBwd.τ Cert.UpBwd.sig) → Buf (Elt Bits) ℓ) (g : Dev Cert.UpBwd.nD → PrngReg), Pre_UpBwd m →
    θ_run (Cert.UpBwd.defs (F := Bits)) (onTc (τ := Cert.UpBwd.τ) (Cert.UpBwd.main (F := Bits))) ⟨m, fun _ => 0, g⟩ (fun r => (∀ c : Dev Cert.UpBwd.nD,
      r.2.mem ((c.tc : Thread Cert.UpBwd.nD Cert.UpBwd.τ).loc Cert.UpBwd.main_arg0) = m ((c.tc : Thread Cert.UpBwd.nD Cert.UpBwd.τ).loc Cert.UpBwd.main_arg0)
      ∧ r.2.mem ((c.tc : Thread Cert.UpBwd.nD Cert.UpBwd.τ).loc Cert.UpBwd.main_arg1) = m ((c.tc : Thread Cert.UpBwd.nD Cert.UpBwd.τ).loc Cert.UpBwd.main_arg1)
      ∧ r.2.mem ((c.tc : Thread Cert.UpBwd.nD Cert.UpBwd.τ).loc Cert.UpBwd.main_arg2) = m ((c.tc : Thread Cert.UpBwd.nD Cert.UpBwd.τ).loc Cert.UpBwd.main_arg2)
      ∧ r.2.mem ((c.tc : Thread Cert.UpBwd.nD Cert.UpBwd.τ).loc Cert.UpBwd.main_arg3) = m ((c.tc : Thread Cert.UpBwd.nD Cert.UpBwd.τ).loc Cert.UpBwd.main_arg3)
      ∧ r.2.mem ((c.tc : Thread Cert.UpBwd.nD Cert.UpBwd.τ).loc Cert.UpBwd.main_arg4) = m ((c.tc : Thread Cert.UpBwd.nD Cert.UpBwd.τ).loc Cert.UpBwd.main_arg4)
      ∧ r.2.mem ((c.tc : Thread Cert.UpBwd.nD Cert.UpBwd.τ).loc Cert.UpBwd.main_arg5) = m ((c.tc : Thread Cert.UpBwd.nD Cert.UpBwd.τ).loc Cert.UpBwd.main_arg5))
      ∧ r.2.sem = fun _ => 0)

def quiescent_UpBwdIdeal [hUpBwdIdeal : Cert.UpBwdIdeal.Facts] : Prop :=
  ∀ (m : (ℓ : Loc Cert.UpBwdIdeal.nD Cert.UpBwdIdeal.τ Cert.UpBwdIdeal.sig) → Buf (Elt Ideal) ℓ) (g : Dev Cert.UpBwdIdeal.nD → PrngReg), Pre_UpBwdIdeal m →
    θ_run (Cert.UpBwdIdeal.defs (F := Ideal)) (onTc (τ := Cert.UpBwdIdeal.τ) (Cert.UpBwdIdeal.main (F := Ideal))) ⟨m, fun _ => 0, g⟩ (fun r => (∀ c : Dev Cert.UpBwdIdeal.nD,
      r.2.mem ((c.tc : Thread Cert.UpBwdIdeal.nD Cert.UpBwdIdeal.τ).loc Cert.UpBwdIdeal.main_arg0) = m ((c.tc : Thread Cert.UpBwdIdeal.nD Cert.UpBwdIdeal.τ).loc Cert.UpBwdIdeal.main_arg0)
      ∧ r.2.mem ((c.tc : Thread Cert.UpBwdIdeal.nD Cert.UpBwdIdeal.τ).loc Cert.UpBwdIdeal.main_arg1) = m ((c.tc : Thread Cert.UpBwdIdeal.nD Cert.UpBwdIdeal.τ).loc Cert.UpBwdIdeal.main_arg1)
      ∧ r.2.mem ((c.tc : Thread Cert.UpBwdIdeal.nD Cert.UpBwdIdeal.τ).loc Cert.UpBwdIdeal.main_arg2) = m ((c.tc : Thread Cert.UpBwdIdeal.nD Cert.UpBwdIdeal.τ).loc Cert.UpBwdIdeal.main_arg2)
      ∧ r.2.mem ((c.tc : Thread Cert.UpBwdIdeal.nD Cert.UpBwdIdeal.τ).loc Cert.UpBwdIdeal.main_arg3) = m ((c.tc : Thread Cert.UpBwdIdeal.nD Cert.UpBwdIdeal.τ).loc Cert.UpBwdIdeal.main_arg3)
      ∧ r.2.mem ((c.tc : Thread Cert.UpBwdIdeal.nD Cert.UpBwdIdeal.τ).loc Cert.UpBwdIdeal.main_arg4) = m ((c.tc : Thread Cert.UpBwdIdeal.nD Cert.UpBwdIdeal.τ).loc Cert.UpBwdIdeal.main_arg4)
      ∧ r.2.mem ((c.tc : Thread Cert.UpBwdIdeal.nD Cert.UpBwdIdeal.τ).loc Cert.UpBwdIdeal.main_arg5) = m ((c.tc : Thread Cert.UpBwdIdeal.nD Cert.UpBwdIdeal.τ).loc Cert.UpBwdIdeal.main_arg5))
      ∧ r.2.sem = fun _ => 0)

def quiescent_UpBwdRefIdeal [hUpBwdRefIdeal : Cert.UpBwdRefIdeal.Facts] : Prop :=
  ∀ (m : (ℓ : Loc Cert.UpBwdRefIdeal.nD Cert.UpBwdRefIdeal.τ Cert.UpBwdRefIdeal.sig) → Buf (Elt Ideal) ℓ) (g : Dev Cert.UpBwdRefIdeal.nD → PrngReg), Pre_UpBwdRefIdeal m →
    θ_run (Cert.UpBwdRefIdeal.defs (F := Ideal)) (onTc (τ := Cert.UpBwdRefIdeal.τ) (Cert.UpBwdRefIdeal.main (F := Ideal))) ⟨m, fun _ => 0, g⟩ (fun r => (∀ c : Dev Cert.UpBwdRefIdeal.nD,
      r.2.mem ((c.tc : Thread Cert.UpBwdRefIdeal.nD Cert.UpBwdRefIdeal.τ).loc Cert.UpBwdRefIdeal.main_arg0) = m ((c.tc : Thread Cert.UpBwdRefIdeal.nD Cert.UpBwdRefIdeal.τ).loc Cert.UpBwdRefIdeal.main_arg0)
      ∧ r.2.mem ((c.tc : Thread Cert.UpBwdRefIdeal.nD Cert.UpBwdRefIdeal.τ).loc Cert.UpBwdRefIdeal.main_arg1) = m ((c.tc : Thread Cert.UpBwdRefIdeal.nD Cert.UpBwdRefIdeal.τ).loc Cert.UpBwdRefIdeal.main_arg1)
      ∧ r.2.mem ((c.tc : Thread Cert.UpBwdRefIdeal.nD Cert.UpBwdRefIdeal.τ).loc Cert.UpBwdRefIdeal.main_arg2) = m ((c.tc : Thread Cert.UpBwdRefIdeal.nD Cert.UpBwdRefIdeal.τ).loc Cert.UpBwdRefIdeal.main_arg2)
      ∧ r.2.mem ((c.tc : Thread Cert.UpBwdRefIdeal.nD Cert.UpBwdRefIdeal.τ).loc Cert.UpBwdRefIdeal.main_arg3) = m ((c.tc : Thread Cert.UpBwdRefIdeal.nD Cert.UpBwdRefIdeal.τ).loc Cert.UpBwdRefIdeal.main_arg3)
      ∧ r.2.mem ((c.tc : Thread Cert.UpBwdRefIdeal.nD Cert.UpBwdRefIdeal.τ).loc Cert.UpBwdRefIdeal.main_arg4) = m ((c.tc : Thread Cert.UpBwdRefIdeal.nD Cert.UpBwdRefIdeal.τ).loc Cert.UpBwdRefIdeal.main_arg4)
      ∧ r.2.mem ((c.tc : Thread Cert.UpBwdRefIdeal.nD Cert.UpBwdRefIdeal.τ).loc Cert.UpBwdRefIdeal.main_arg5) = m ((c.tc : Thread Cert.UpBwdRefIdeal.nD Cert.UpBwdRefIdeal.τ).loc Cert.UpBwdRefIdeal.main_arg5))
      ∧ r.2.sem = fun _ => 0)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4))
      ∧ r.2.sem = fun _ => 0)

def quiescent_InBwdRefIdeal [hInBwdRefIdeal : Cert.InBwdRefIdeal.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4))
      ∧ r.2.sem = fun _ => 0)

def quiescent_DownProj [hDownProj : Cert.DownProj.Facts] : Prop :=
  ∀ (m : (ℓ : Loc Cert.DownProj.nD Cert.DownProj.τ Cert.DownProj.sig) → Buf (Elt Bits) ℓ) (g : Dev Cert.DownProj.nD → PrngReg), Pre_DownProj m →
    θ_run (Cert.DownProj.defs (F := Bits)) (onTc (τ := Cert.DownProj.τ) (Cert.DownProj.main (F := Bits))) ⟨m, fun _ => 0, g⟩ (fun r => (∀ c : Dev Cert.DownProj.nD,
      r.2.mem ((c.tc : Thread Cert.DownProj.nD Cert.DownProj.τ).loc Cert.DownProj.main_arg0) = m ((c.tc : Thread Cert.DownProj.nD Cert.DownProj.τ).loc Cert.DownProj.main_arg0)
      ∧ r.2.mem ((c.tc : Thread Cert.DownProj.nD Cert.DownProj.τ).loc Cert.DownProj.main_arg1) = m ((c.tc : Thread Cert.DownProj.nD Cert.DownProj.τ).loc Cert.DownProj.main_arg1)
      ∧ r.2.mem ((c.tc : Thread Cert.DownProj.nD Cert.DownProj.τ).loc Cert.DownProj.main_arg2) = m ((c.tc : Thread Cert.DownProj.nD Cert.DownProj.τ).loc Cert.DownProj.main_arg2)
      ∧ r.2.mem ((c.tc : Thread Cert.DownProj.nD Cert.DownProj.τ).loc Cert.DownProj.main_arg3) = m ((c.tc : Thread Cert.DownProj.nD Cert.DownProj.τ).loc Cert.DownProj.main_arg3)
      ∧ r.2.mem ((c.tc : Thread Cert.DownProj.nD Cert.DownProj.τ).loc Cert.DownProj.main_arg4) = m ((c.tc : Thread Cert.DownProj.nD Cert.DownProj.τ).loc Cert.DownProj.main_arg4))
      ∧ r.2.sem = fun _ => 0)

def quiescent_DownProjIdeal [hDownProjIdeal : Cert.DownProjIdeal.Facts] : Prop :=
  ∀ (m : (ℓ : Loc Cert.DownProjIdeal.nD Cert.DownProjIdeal.τ Cert.DownProjIdeal.sig) → Buf (Elt Ideal) ℓ) (g : Dev Cert.DownProjIdeal.nD → PrngReg), Pre_DownProjIdeal m →
    θ_run (Cert.DownProjIdeal.defs (F := Ideal)) (onTc (τ := Cert.DownProjIdeal.τ) (Cert.DownProjIdeal.main (F := Ideal))) ⟨m, fun _ => 0, g⟩ (fun r => (∀ c : Dev Cert.DownProjIdeal.nD,
      r.2.mem ((c.tc : Thread Cert.DownProjIdeal.nD Cert.DownProjIdeal.τ).loc Cert.DownProjIdeal.main_arg0) = m ((c.tc : Thread Cert.DownProjIdeal.nD Cert.DownProjIdeal.τ).loc Cert.DownProjIdeal.main_arg0)
      ∧ r.2.mem ((c.tc : Thread Cert.DownProjIdeal.nD Cert.DownProjIdeal.τ).loc Cert.DownProjIdeal.main_arg1) = m ((c.tc : Thread Cert.DownProjIdeal.nD Cert.DownProjIdeal.τ).loc Cert.DownProjIdeal.main_arg1)
      ∧ r.2.mem ((c.tc : Thread Cert.DownProjIdeal.nD Cert.DownProjIdeal.τ).loc Cert.DownProjIdeal.main_arg2) = m ((c.tc : Thread Cert.DownProjIdeal.nD Cert.DownProjIdeal.τ).loc Cert.DownProjIdeal.main_arg2)
      ∧ r.2.mem ((c.tc : Thread Cert.DownProjIdeal.nD Cert.DownProjIdeal.τ).loc Cert.DownProjIdeal.main_arg3) = m ((c.tc : Thread Cert.DownProjIdeal.nD Cert.DownProjIdeal.τ).loc Cert.DownProjIdeal.main_arg3)
      ∧ r.2.mem ((c.tc : Thread Cert.DownProjIdeal.nD Cert.DownProjIdeal.τ).loc Cert.DownProjIdeal.main_arg4) = m ((c.tc : Thread Cert.DownProjIdeal.nD Cert.DownProjIdeal.τ).loc Cert.DownProjIdeal.main_arg4))
      ∧ r.2.sem = fun _ => 0)

def quiescent_DownProjRefIdeal [hDownProjRefIdeal : Cert.DownProjRefIdeal.Facts] : Prop :=
  ∀ (m : (ℓ : Loc Cert.DownProjRefIdeal.nD Cert.DownProjRefIdeal.τ Cert.DownProjRefIdeal.sig) → Buf (Elt Ideal) ℓ) (g : Dev Cert.DownProjRefIdeal.nD → PrngReg), Pre_DownProjRefIdeal m →
    θ_run (Cert.DownProjRefIdeal.defs (F := Ideal)) (onTc (τ := Cert.DownProjRefIdeal.τ) (Cert.DownProjRefIdeal.main (F := Ideal))) ⟨m, fun _ => 0, g⟩ (fun r => (∀ c : Dev Cert.DownProjRefIdeal.nD,
      r.2.mem ((c.tc : Thread Cert.DownProjRefIdeal.nD Cert.DownProjRefIdeal.τ).loc Cert.DownProjRefIdeal.main_arg0) = m ((c.tc : Thread Cert.DownProjRefIdeal.nD Cert.DownProjRefIdeal.τ).loc Cert.DownProjRefIdeal.main_arg0)
      ∧ r.2.mem ((c.tc : Thread Cert.DownProjRefIdeal.nD Cert.DownProjRefIdeal.τ).loc Cert.DownProjRefIdeal.main_arg1) = m ((c.tc : Thread Cert.DownProjRefIdeal.nD Cert.DownProjRefIdeal.τ).loc Cert.DownProjRefIdeal.main_arg1)
      ∧ r.2.mem ((c.tc : Thread Cert.DownProjRefIdeal.nD Cert.DownProjRefIdeal.τ).loc Cert.DownProjRefIdeal.main_arg2) = m ((c.tc : Thread Cert.DownProjRefIdeal.nD Cert.DownProjRefIdeal.τ).loc Cert.DownProjRefIdeal.main_arg2)
      ∧ r.2.mem ((c.tc : Thread Cert.DownProjRefIdeal.nD Cert.DownProjRefIdeal.τ).loc Cert.DownProjRefIdeal.main_arg3) = m ((c.tc : Thread Cert.DownProjRefIdeal.nD Cert.DownProjRefIdeal.τ).loc Cert.DownProjRefIdeal.main_arg3)
      ∧ r.2.mem ((c.tc : Thread Cert.DownProjRefIdeal.nD Cert.DownProjRefIdeal.τ).loc Cert.DownProjRefIdeal.main_arg4) = m ((c.tc : Thread Cert.DownProjRefIdeal.nD Cert.DownProjRefIdeal.τ).loc Cert.DownProjRefIdeal.main_arg4))
      ∧ r.2.sem = fun _ => 0)

def quiescent_AdamwIn [hAdamwIn : Cert.AdamwIn.Facts] [hPre_on_the_mesh_in : Cert.Pre_on_the_mesh_in.Facts] : Prop :=
  ∀ (m : (ℓ : Loc Cert.AdamwIn.nD Cert.AdamwIn.τ Cert.AdamwIn.sig) → Buf (Elt Bits) ℓ) (g : Dev Cert.AdamwIn.nD → PrngReg), Pre_AdamwIn m →
    θ_run (Cert.AdamwIn.defs (F := Bits)) (onTc (τ := Cert.AdamwIn.τ) (Cert.AdamwIn.main (F := Bits))) ⟨m, fun _ => 0, g⟩ (fun r => (∀ c : Dev Cert.AdamwIn.nD,
      r.2.mem ((c.tc : Thread Cert.AdamwIn.nD Cert.AdamwIn.τ).loc Cert.AdamwIn.main_arg0) = m ((c.tc : Thread Cert.AdamwIn.nD Cert.AdamwIn.τ).loc Cert.AdamwIn.main_arg0)
      ∧ r.2.mem ((c.tc : Thread Cert.AdamwIn.nD Cert.AdamwIn.τ).loc Cert.AdamwIn.main_arg1) = m ((c.tc : Thread Cert.AdamwIn.nD Cert.AdamwIn.τ).loc Cert.AdamwIn.main_arg1)
      ∧ r.2.mem ((c.tc : Thread Cert.AdamwIn.nD Cert.AdamwIn.τ).loc Cert.AdamwIn.main_arg2) = m ((c.tc : Thread Cert.AdamwIn.nD Cert.AdamwIn.τ).loc Cert.AdamwIn.main_arg2)
      ∧ r.2.mem ((c.tc : Thread Cert.AdamwIn.nD Cert.AdamwIn.τ).loc Cert.AdamwIn.main_arg3) = m ((c.tc : Thread Cert.AdamwIn.nD Cert.AdamwIn.τ).loc Cert.AdamwIn.main_arg3)
      ∧ r.2.mem ((c.tc : Thread Cert.AdamwIn.nD Cert.AdamwIn.τ).loc Cert.AdamwIn.main_arg4) = m ((c.tc : Thread Cert.AdamwIn.nD Cert.AdamwIn.τ).loc Cert.AdamwIn.main_arg4)
      ∧ r.2.mem ((c.tc : Thread Cert.AdamwIn.nD Cert.AdamwIn.τ).loc Cert.AdamwIn.main_arg5) = m ((c.tc : Thread Cert.AdamwIn.nD Cert.AdamwIn.τ).loc Cert.AdamwIn.main_arg5))
      ∧ r.2.sem = fun _ => 0)

def quiescent_AdamwInIdeal [hAdamwInIdeal : Cert.AdamwInIdeal.Facts] [hPre_on_the_mesh_in : Cert.Pre_on_the_mesh_in.Facts] : Prop :=
  ∀ (m : (ℓ : Loc Cert.AdamwInIdeal.nD Cert.AdamwInIdeal.τ Cert.AdamwInIdeal.sig) → Buf (Elt Ideal) ℓ) (g : Dev Cert.AdamwInIdeal.nD → PrngReg), Pre_AdamwInIdeal m →
    θ_run (Cert.AdamwInIdeal.defs (F := Ideal)) (onTc (τ := Cert.AdamwInIdeal.τ) (Cert.AdamwInIdeal.main (F := Ideal))) ⟨m, fun _ => 0, g⟩ (fun r => (∀ c : Dev Cert.AdamwInIdeal.nD,
      r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
      ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
      ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
      ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3)
      ∧ r.2.mem ((c.tc : Thread Cert.AdamwInIdeal.nD Cert.AdamwInIdeal.τ).loc Cert.AdamwInIdeal.main_arg4) = m ((c.tc : Thread Cert.AdamwInIdeal.nD Cert.AdamwInIdeal.τ).loc Cert.AdamwInIdeal.main_arg4)
      ∧ r.2.mem ((c.tc : Thread Cert.AdamwInIdeal.nD Cert.AdamwInIdeal.τ).loc Cert.AdamwInIdeal.main_arg5) = m ((c.tc : Thread Cert.AdamwInIdeal.nD Cert.AdamwInIdeal.τ).loc Cert.AdamwInIdeal.main_arg5))
      ∧ r.2.sem = fun _ => 0)

def quiescent_AdamwInRefIdeal [hAdamwInRefIdeal : Cert.AdamwInRefIdeal.Facts] [hPre_on_the_mesh_in : Cert.Pre_on_the_mesh_in.Facts] : Prop :=
  ∀ (m : (ℓ : Loc Cert.AdamwInRefIdeal.nD Cert.AdamwInRefIdeal.τ Cert.AdamwInRefIdeal.sig) → Buf (Elt Ideal) ℓ) (g : Dev Cert.AdamwInRefIdeal.nD → PrngReg), Pre_AdamwInRefIdeal m →
    θ_run (Cert.AdamwInRefIdeal.defs (F := Ideal)) (onTc (τ := Cert.AdamwInRefIdeal.τ) (Cert.AdamwInRefIdeal.main (F := Ideal))) ⟨m, fun _ => 0, g⟩ (fun r => (∀ c : Dev Cert.AdamwInRefIdeal.nD,
      r.2.mem ((c.tc : Thread Cert.AdamwInRefIdeal.nD Cert.AdamwInRefIdeal.τ).loc Cert.AdamwInRefIdeal.main_arg0) = m ((c.tc : Thread Cert.AdamwInRefIdeal.nD Cert.AdamwInRefIdeal.τ).loc Cert.AdamwInRefIdeal.main_arg0)
      ∧ r.2.mem ((c.tc : Thread Cert.AdamwInRefIdeal.nD Cert.AdamwInRefIdeal.τ).loc Cert.AdamwInRefIdeal.main_arg1) = m ((c.tc : Thread Cert.AdamwInRefIdeal.nD Cert.AdamwInRefIdeal.τ).loc Cert.AdamwInRefIdeal.main_arg1)
      ∧ r.2.mem ((c.tc : Thread Cert.AdamwInRefIdeal.nD Cert.AdamwInRefIdeal.τ).loc Cert.AdamwInRefIdeal.main_arg2) = m ((c.tc : Thread Cert.AdamwInRefIdeal.nD Cert.AdamwInRefIdeal.τ).loc Cert.AdamwInRefIdeal.main_arg2)
      ∧ r.2.mem ((c.tc : Thread Cert.AdamwInRefIdeal.nD Cert.AdamwInRefIdeal.τ).loc Cert.AdamwInRefIdeal.main_arg3) = m ((c.tc : Thread Cert.AdamwInRefIdeal.nD Cert.AdamwInRefIdeal.τ).loc Cert.AdamwInRefIdeal.main_arg3)
      ∧ r.2.mem ((c.tc : Thread Cert.AdamwInRefIdeal.nD Cert.AdamwInRefIdeal.τ).loc Cert.AdamwInRefIdeal.main_arg4) = m ((c.tc : Thread Cert.AdamwInRefIdeal.nD Cert.AdamwInRefIdeal.τ).loc Cert.AdamwInRefIdeal.main_arg4)
      ∧ r.2.mem ((c.tc : Thread Cert.AdamwInRefIdeal.nD Cert.AdamwInRefIdeal.τ).loc Cert.AdamwInRefIdeal.main_arg5) = m ((c.tc : Thread Cert.AdamwInRefIdeal.nD Cert.AdamwInRefIdeal.τ).loc Cert.AdamwInRefIdeal.main_arg5))
      ∧ r.2.sem = fun _ => 0)

def quiescent_AdamwUp [hAdamwUp : Cert.AdamwUp.Facts] [hPre_on_the_mesh_up : Cert.Pre_on_the_mesh_up.Facts] : Prop :=
  ∀ (m : (ℓ : Loc Cert.AdamwUp.nD Cert.AdamwUp.τ Cert.AdamwUp.sig) → Buf (Elt Bits) ℓ) (g : Dev Cert.AdamwUp.nD → PrngReg), Pre_AdamwUp m →
    θ_run (Cert.AdamwUp.defs (F := Bits)) (onTc (τ := Cert.AdamwUp.τ) (Cert.AdamwUp.main (F := Bits))) ⟨m, fun _ => 0, g⟩ (fun r => (∀ c : Dev Cert.AdamwUp.nD,
      r.2.mem ((c.tc : Thread Cert.AdamwUp.nD Cert.AdamwUp.τ).loc Cert.AdamwUp.main_arg0) = m ((c.tc : Thread Cert.AdamwUp.nD Cert.AdamwUp.τ).loc Cert.AdamwUp.main_arg0)
      ∧ r.2.mem ((c.tc : Thread Cert.AdamwUp.nD Cert.AdamwUp.τ).loc Cert.AdamwUp.main_arg1) = m ((c.tc : Thread Cert.AdamwUp.nD Cert.AdamwUp.τ).loc Cert.AdamwUp.main_arg1)
      ∧ r.2.mem ((c.tc : Thread Cert.AdamwUp.nD Cert.AdamwUp.τ).loc Cert.AdamwUp.main_arg2) = m ((c.tc : Thread Cert.AdamwUp.nD Cert.AdamwUp.τ).loc Cert.AdamwUp.main_arg2)
      ∧ r.2.mem ((c.tc : Thread Cert.AdamwUp.nD Cert.AdamwUp.τ).loc Cert.AdamwUp.main_arg3) = m ((c.tc : Thread Cert.AdamwUp.nD Cert.AdamwUp.τ).loc Cert.AdamwUp.main_arg3)
      ∧ r.2.mem ((c.tc : Thread Cert.AdamwUp.nD Cert.AdamwUp.τ).loc Cert.AdamwUp.main_arg4) = m ((c.tc : Thread Cert.AdamwUp.nD Cert.AdamwUp.τ).loc Cert.AdamwUp.main_arg4)
      ∧ r.2.mem ((c.tc : Thread Cert.AdamwUp.nD Cert.AdamwUp.τ).loc Cert.AdamwUp.main_arg5) = m ((c.tc : Thread Cert.AdamwUp.nD Cert.AdamwUp.τ).loc Cert.AdamwUp.main_arg5))
      ∧ r.2.sem = fun _ => 0)

def quiescent_AdamwUpIdeal [hAdamwUpIdeal : Cert.AdamwUpIdeal.Facts] [hPre_on_the_mesh_up : Cert.Pre_on_the_mesh_up.Facts] : Prop :=
  ∀ (m : (ℓ : Loc Cert.AdamwUpIdeal.nD Cert.AdamwUpIdeal.τ Cert.AdamwUpIdeal.sig) → Buf (Elt Ideal) ℓ) (g : Dev Cert.AdamwUpIdeal.nD → PrngReg), Pre_AdamwUpIdeal m →
    θ_run (Cert.AdamwUpIdeal.defs (F := Ideal)) (onTc (τ := Cert.AdamwUpIdeal.τ) (Cert.AdamwUpIdeal.main (F := Ideal))) ⟨m, fun _ => 0, g⟩ (fun r => (∀ c : Dev Cert.AdamwUpIdeal.nD,
      r.2.mem ((c.tc : Thread Cert.AdamwUpIdeal.nD Cert.AdamwUpIdeal.τ).loc Cert.AdamwUpIdeal.main_arg0) = m ((c.tc : Thread Cert.AdamwUpIdeal.nD Cert.AdamwUpIdeal.τ).loc Cert.AdamwUpIdeal.main_arg0)
      ∧ r.2.mem ((c.tc : Thread Cert.AdamwUpIdeal.nD Cert.AdamwUpIdeal.τ).loc Cert.AdamwUpIdeal.main_arg1) = m ((c.tc : Thread Cert.AdamwUpIdeal.nD Cert.AdamwUpIdeal.τ).loc Cert.AdamwUpIdeal.main_arg1)
      ∧ r.2.mem ((c.tc : Thread Cert.AdamwUpIdeal.nD Cert.AdamwUpIdeal.τ).loc Cert.AdamwUpIdeal.main_arg2) = m ((c.tc : Thread Cert.AdamwUpIdeal.nD Cert.AdamwUpIdeal.τ).loc Cert.AdamwUpIdeal.main_arg2)
      ∧ r.2.mem ((c.tc : Thread Cert.AdamwUpIdeal.nD Cert.AdamwUpIdeal.τ).loc Cert.AdamwUpIdeal.main_arg3) = m ((c.tc : Thread Cert.AdamwUpIdeal.nD Cert.AdamwUpIdeal.τ).loc Cert.AdamwUpIdeal.main_arg3)
      ∧ r.2.mem ((c.tc : Thread Cert.AdamwUpIdeal.nD Cert.AdamwUpIdeal.τ).loc Cert.AdamwUpIdeal.main_arg4) = m ((c.tc : Thread Cert.AdamwUpIdeal.nD Cert.AdamwUpIdeal.τ).loc Cert.AdamwUpIdeal.main_arg4)
      ∧ r.2.mem ((c.tc : Thread Cert.AdamwUpIdeal.nD Cert.AdamwUpIdeal.τ).loc Cert.AdamwUpIdeal.main_arg5) = m ((c.tc : Thread Cert.AdamwUpIdeal.nD Cert.AdamwUpIdeal.τ).loc Cert.AdamwUpIdeal.main_arg5))
      ∧ r.2.sem = fun _ => 0)

def quiescent_AdamwUpRefIdeal [hAdamwUpRefIdeal : Cert.AdamwUpRefIdeal.Facts] [hPre_on_the_mesh_up : Cert.Pre_on_the_mesh_up.Facts] : Prop :=
  ∀ (m : (ℓ : Loc Cert.AdamwUpRefIdeal.nD Cert.AdamwUpRefIdeal.τ Cert.AdamwUpRefIdeal.sig) → Buf (Elt Ideal) ℓ) (g : Dev Cert.AdamwUpRefIdeal.nD → PrngReg), Pre_AdamwUpRefIdeal m →
    θ_run (Cert.AdamwUpRefIdeal.defs (F := Ideal)) (onTc (τ := Cert.AdamwUpRefIdeal.τ) (Cert.AdamwUpRefIdeal.main (F := Ideal))) ⟨m, fun _ => 0, g⟩ (fun r => (∀ c : Dev Cert.AdamwUpRefIdeal.nD,
      r.2.mem ((c.tc : Thread Cert.AdamwUpRefIdeal.nD Cert.AdamwUpRefIdeal.τ).loc Cert.AdamwUpRefIdeal.main_arg0) = m ((c.tc : Thread Cert.AdamwUpRefIdeal.nD Cert.AdamwUpRefIdeal.τ).loc Cert.AdamwUpRefIdeal.main_arg0)
      ∧ r.2.mem ((c.tc : Thread Cert.AdamwUpRefIdeal.nD Cert.AdamwUpRefIdeal.τ).loc Cert.AdamwUpRefIdeal.main_arg1) = m ((c.tc : Thread Cert.AdamwUpRefIdeal.nD Cert.AdamwUpRefIdeal.τ).loc Cert.AdamwUpRefIdeal.main_arg1)
      ∧ r.2.mem ((c.tc : Thread Cert.AdamwUpRefIdeal.nD Cert.AdamwUpRefIdeal.τ).loc Cert.AdamwUpRefIdeal.main_arg2) = m ((c.tc : Thread Cert.AdamwUpRefIdeal.nD Cert.AdamwUpRefIdeal.τ).loc Cert.AdamwUpRefIdeal.main_arg2)
      ∧ r.2.mem ((c.tc : Thread Cert.AdamwUpRefIdeal.nD Cert.AdamwUpRefIdeal.τ).loc Cert.AdamwUpRefIdeal.main_arg3) = m ((c.tc : Thread Cert.AdamwUpRefIdeal.nD Cert.AdamwUpRefIdeal.τ).loc Cert.AdamwUpRefIdeal.main_arg3)
      ∧ r.2.mem ((c.tc : Thread Cert.AdamwUpRefIdeal.nD Cert.AdamwUpRefIdeal.τ).loc Cert.AdamwUpRefIdeal.main_arg4) = m ((c.tc : Thread Cert.AdamwUpRefIdeal.nD Cert.AdamwUpRefIdeal.τ).loc Cert.AdamwUpRefIdeal.main_arg4)
      ∧ r.2.mem ((c.tc : Thread Cert.AdamwUpRefIdeal.nD Cert.AdamwUpRefIdeal.τ).loc Cert.AdamwUpRefIdeal.main_arg5) = m ((c.tc : Thread Cert.AdamwUpRefIdeal.nD Cert.AdamwUpRefIdeal.τ).loc Cert.AdamwUpRefIdeal.main_arg5))
      ∧ r.2.sem = fun _ => 0)

def quiescent_AdamwDown [hAdamwDown : Cert.AdamwDown.Facts] [hPre_on_the_mesh_down : Cert.Pre_on_the_mesh_down.Facts] : Prop :=
  ∀ (m : (ℓ : Loc Cert.AdamwDown.nD Cert.AdamwDown.τ Cert.AdamwDown.sig) → Buf (Elt Bits) ℓ) (g : Dev Cert.AdamwDown.nD → PrngReg), Pre_AdamwDown m →
    θ_run (Cert.AdamwDown.defs (F := Bits)) (onTc (τ := Cert.AdamwDown.τ) (Cert.AdamwDown.main (F := Bits))) ⟨m, fun _ => 0, g⟩ (fun r => (∀ c : Dev Cert.AdamwDown.nD,
      r.2.mem ((c.tc : Thread Cert.AdamwDown.nD Cert.AdamwDown.τ).loc Cert.AdamwDown.main_arg0) = m ((c.tc : Thread Cert.AdamwDown.nD Cert.AdamwDown.τ).loc Cert.AdamwDown.main_arg0)
      ∧ r.2.mem ((c.tc : Thread Cert.AdamwDown.nD Cert.AdamwDown.τ).loc Cert.AdamwDown.main_arg1) = m ((c.tc : Thread Cert.AdamwDown.nD Cert.AdamwDown.τ).loc Cert.AdamwDown.main_arg1)
      ∧ r.2.mem ((c.tc : Thread Cert.AdamwDown.nD Cert.AdamwDown.τ).loc Cert.AdamwDown.main_arg2) = m ((c.tc : Thread Cert.AdamwDown.nD Cert.AdamwDown.τ).loc Cert.AdamwDown.main_arg2)
      ∧ r.2.mem ((c.tc : Thread Cert.AdamwDown.nD Cert.AdamwDown.τ).loc Cert.AdamwDown.main_arg3) = m ((c.tc : Thread Cert.AdamwDown.nD Cert.AdamwDown.τ).loc Cert.AdamwDown.main_arg3)
      ∧ r.2.mem ((c.tc : Thread Cert.AdamwDown.nD Cert.AdamwDown.τ).loc Cert.AdamwDown.main_arg4) = m ((c.tc : Thread Cert.AdamwDown.nD Cert.AdamwDown.τ).loc Cert.AdamwDown.main_arg4)
      ∧ r.2.mem ((c.tc : Thread Cert.AdamwDown.nD Cert.AdamwDown.τ).loc Cert.AdamwDown.main_arg5) = m ((c.tc : Thread Cert.AdamwDown.nD Cert.AdamwDown.τ).loc Cert.AdamwDown.main_arg5))
      ∧ r.2.sem = fun _ => 0)

def quiescent_AdamwDownIdeal [hAdamwDownIdeal : Cert.AdamwDownIdeal.Facts] [hPre_on_the_mesh_down : Cert.Pre_on_the_mesh_down.Facts] : Prop :=
  ∀ (m : (ℓ : Loc Cert.AdamwDownIdeal.nD Cert.AdamwDownIdeal.τ Cert.AdamwDownIdeal.sig) → Buf (Elt Ideal) ℓ) (g : Dev Cert.AdamwDownIdeal.nD → PrngReg), Pre_AdamwDownIdeal m →
    θ_run (Cert.AdamwDownIdeal.defs (F := Ideal)) (onTc (τ := Cert.AdamwDownIdeal.τ) (Cert.AdamwDownIdeal.main (F := Ideal))) ⟨m, fun _ => 0, g⟩ (fun r => (∀ c : Dev Cert.AdamwDownIdeal.nD,
      r.2.mem ((c.tc : Thread Cert.AdamwDownIdeal.nD Cert.AdamwDownIdeal.τ).loc Cert.AdamwDownIdeal.main_arg0) = m ((c.tc : Thread Cert.AdamwDownIdeal.nD Cert.AdamwDownIdeal.τ).loc Cert.AdamwDownIdeal.main_arg0)
      ∧ r.2.mem ((c.tc : Thread Cert.AdamwDownIdeal.nD Cert.AdamwDownIdeal.τ).loc Cert.AdamwDownIdeal.main_arg1) = m ((c.tc : Thread Cert.AdamwDownIdeal.nD Cert.AdamwDownIdeal.τ).loc Cert.AdamwDownIdeal.main_arg1)
      ∧ r.2.mem ((c.tc : Thread Cert.AdamwDownIdeal.nD Cert.AdamwDownIdeal.τ).loc Cert.AdamwDownIdeal.main_arg2) = m ((c.tc : Thread Cert.AdamwDownIdeal.nD Cert.AdamwDownIdeal.τ).loc Cert.AdamwDownIdeal.main_arg2)
      ∧ r.2.mem ((c.tc : Thread Cert.AdamwDownIdeal.nD Cert.AdamwDownIdeal.τ).loc Cert.AdamwDownIdeal.main_arg3) = m ((c.tc : Thread Cert.AdamwDownIdeal.nD Cert.AdamwDownIdeal.τ).loc Cert.AdamwDownIdeal.main_arg3)
      ∧ r.2.mem ((c.tc : Thread Cert.AdamwDownIdeal.nD Cert.AdamwDownIdeal.τ).loc Cert.AdamwDownIdeal.main_arg4) = m ((c.tc : Thread Cert.AdamwDownIdeal.nD Cert.AdamwDownIdeal.τ).loc Cert.AdamwDownIdeal.main_arg4)
      ∧ r.2.mem ((c.tc : Thread Cert.AdamwDownIdeal.nD Cert.AdamwDownIdeal.τ).loc Cert.AdamwDownIdeal.main_arg5) = m ((c.tc : Thread Cert.AdamwDownIdeal.nD Cert.AdamwDownIdeal.τ).loc Cert.AdamwDownIdeal.main_arg5))
      ∧ r.2.sem = fun _ => 0)

def quiescent_AdamwDownRefIdeal [hAdamwDownRefIdeal : Cert.AdamwDownRefIdeal.Facts] [hPre_on_the_mesh_down : Cert.Pre_on_the_mesh_down.Facts] : Prop :=
  ∀ (m : (ℓ : Loc Cert.AdamwDownRefIdeal.nD Cert.AdamwDownRefIdeal.τ Cert.AdamwDownRefIdeal.sig) → Buf (Elt Ideal) ℓ) (g : Dev Cert.AdamwDownRefIdeal.nD → PrngReg), Pre_AdamwDownRefIdeal m →
    θ_run (Cert.AdamwDownRefIdeal.defs (F := Ideal)) (onTc (τ := Cert.AdamwDownRefIdeal.τ) (Cert.AdamwDownRefIdeal.main (F := Ideal))) ⟨m, fun _ => 0, g⟩ (fun r => (∀ c : Dev Cert.AdamwDownRefIdeal.nD,
      r.2.mem ((c.tc : Thread Cert.AdamwDownRefIdeal.nD Cert.AdamwDownRefIdeal.τ).loc Cert.AdamwDownRefIdeal.main_arg0) = m ((c.tc : Thread Cert.AdamwDownRefIdeal.nD Cert.AdamwDownRefIdeal.τ).loc Cert.AdamwDownRefIdeal.main_arg0)
      ∧ r.2.mem ((c.tc : Thread Cert.AdamwDownRefIdeal.nD Cert.AdamwDownRefIdeal.τ).loc Cert.AdamwDownRefIdeal.main_arg1) = m ((c.tc : Thread Cert.AdamwDownRefIdeal.nD Cert.AdamwDownRefIdeal.τ).loc Cert.AdamwDownRefIdeal.main_arg1)
      ∧ r.2.mem ((c.tc : Thread Cert.AdamwDownRefIdeal.nD Cert.AdamwDownRefIdeal.τ).loc Cert.AdamwDownRefIdeal.main_arg2) = m ((c.tc : Thread Cert.AdamwDownRefIdeal.nD Cert.AdamwDownRefIdeal.τ).loc Cert.AdamwDownRefIdeal.main_arg2)
      ∧ r.2.mem ((c.tc : Thread Cert.AdamwDownRefIdeal.nD Cert.AdamwDownRefIdeal.τ).loc Cert.AdamwDownRefIdeal.main_arg3) = m ((c.tc : Thread Cert.AdamwDownRefIdeal.nD Cert.AdamwDownRefIdeal.τ).loc Cert.AdamwDownRefIdeal.main_arg3)
      ∧ r.2.mem ((c.tc : Thread Cert.AdamwDownRefIdeal.nD Cert.AdamwDownRefIdeal.τ).loc Cert.AdamwDownRefIdeal.main_arg4) = m ((c.tc : Thread Cert.AdamwDownRefIdeal.nD Cert.AdamwDownRefIdeal.τ).loc Cert.AdamwDownRefIdeal.main_arg4)
      ∧ r.2.mem ((c.tc : Thread Cert.AdamwDownRefIdeal.nD Cert.AdamwDownRefIdeal.τ).loc Cert.AdamwDownRefIdeal.main_arg5) = m ((c.tc : Thread Cert.AdamwDownRefIdeal.nD Cert.AdamwDownRefIdeal.τ).loc Cert.AdamwDownRefIdeal.main_arg5))
      ∧ r.2.sem = fun _ => 0)

def quiescent_AdamwOut [hAdamwOut : Cert.AdamwOut.Facts] [hPre_on_the_mesh_out : Cert.Pre_on_the_mesh_out.Facts] : Prop :=
  ∀ (m : (ℓ : Loc Cert.AdamwOut.nD Cert.AdamwOut.τ Cert.AdamwOut.sig) → Buf (Elt Bits) ℓ) (g : Dev Cert.AdamwOut.nD → PrngReg), Pre_AdamwOut m →
    θ_run (Cert.AdamwOut.defs (F := Bits)) (onTc (τ := Cert.AdamwOut.τ) (Cert.AdamwOut.main (F := Bits))) ⟨m, fun _ => 0, g⟩ (fun r => (∀ c : Dev Cert.AdamwOut.nD,
      r.2.mem ((c.tc : Thread Cert.AdamwOut.nD Cert.AdamwOut.τ).loc Cert.AdamwOut.main_arg0) = m ((c.tc : Thread Cert.AdamwOut.nD Cert.AdamwOut.τ).loc Cert.AdamwOut.main_arg0)
      ∧ r.2.mem ((c.tc : Thread Cert.AdamwOut.nD Cert.AdamwOut.τ).loc Cert.AdamwOut.main_arg1) = m ((c.tc : Thread Cert.AdamwOut.nD Cert.AdamwOut.τ).loc Cert.AdamwOut.main_arg1)
      ∧ r.2.mem ((c.tc : Thread Cert.AdamwOut.nD Cert.AdamwOut.τ).loc Cert.AdamwOut.main_arg2) = m ((c.tc : Thread Cert.AdamwOut.nD Cert.AdamwOut.τ).loc Cert.AdamwOut.main_arg2)
      ∧ r.2.mem ((c.tc : Thread Cert.AdamwOut.nD Cert.AdamwOut.τ).loc Cert.AdamwOut.main_arg3) = m ((c.tc : Thread Cert.AdamwOut.nD Cert.AdamwOut.τ).loc Cert.AdamwOut.main_arg3)
      ∧ r.2.mem ((c.tc : Thread Cert.AdamwOut.nD Cert.AdamwOut.τ).loc Cert.AdamwOut.main_arg4) = m ((c.tc : Thread Cert.AdamwOut.nD Cert.AdamwOut.τ).loc Cert.AdamwOut.main_arg4)
      ∧ r.2.mem ((c.tc : Thread Cert.AdamwOut.nD Cert.AdamwOut.τ).loc Cert.AdamwOut.main_arg5) = m ((c.tc : Thread Cert.AdamwOut.nD Cert.AdamwOut.τ).loc Cert.AdamwOut.main_arg5))
      ∧ r.2.sem = fun _ => 0)

def quiescent_AdamwOutIdeal [hAdamwOutIdeal : Cert.AdamwOutIdeal.Facts] [hPre_on_the_mesh_out : Cert.Pre_on_the_mesh_out.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg), Pre_AdamwOutIdeal m →
    θ_run (Cert.AdamwOutIdeal.defs (F := Ideal)) (onTc (τ := Cert.AdamwOutIdeal.τ) (Cert.AdamwOutIdeal.main (F := Ideal))) ⟨m, fun _ => 0, g⟩ (fun r => (∀ c : Dev Cert.AdamwOutIdeal.nD,
      r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
      ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
      ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
      ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3)
      ∧ r.2.mem ((c.tc : Thread Cert.AdamwOutIdeal.nD Cert.AdamwOutIdeal.τ).loc Cert.AdamwOutIdeal.main_arg4) = m ((c.tc : Thread Cert.AdamwOutIdeal.nD Cert.AdamwOutIdeal.τ).loc Cert.AdamwOutIdeal.main_arg4)
      ∧ r.2.mem ((c.tc : Thread Cert.AdamwOutIdeal.nD Cert.AdamwOutIdeal.τ).loc Cert.AdamwOutIdeal.main_arg5) = m ((c.tc : Thread Cert.AdamwOutIdeal.nD Cert.AdamwOutIdeal.τ).loc Cert.AdamwOutIdeal.main_arg5))
      ∧ r.2.sem = fun _ => 0)

def quiescent_AdamwOutRefIdeal [hAdamwOutRefIdeal : Cert.AdamwOutRefIdeal.Facts] [hPre_on_the_mesh_out : Cert.Pre_on_the_mesh_out.Facts] : Prop :=
  ∀ (m : (ℓ : Loc Cert.AdamwOutRefIdeal.nD Cert.AdamwOutRefIdeal.τ Cert.AdamwOutRefIdeal.sig) → Buf (Elt Ideal) ℓ) (g : Dev Cert.AdamwOutRefIdeal.nD → PrngReg), Pre_AdamwOutRefIdeal m →
    θ_run (Cert.AdamwOutRefIdeal.defs (F := Ideal)) (onTc (τ := Cert.AdamwOutRefIdeal.τ) (Cert.AdamwOutRefIdeal.main (F := Ideal))) ⟨m, fun _ => 0, g⟩ (fun r => (∀ c : Dev Cert.AdamwOutRefIdeal.nD,
      r.2.mem ((c.tc : Thread Cert.AdamwOutRefIdeal.nD Cert.AdamwOutRefIdeal.τ).loc Cert.AdamwOutRefIdeal.main_arg0) = m ((c.tc : Thread Cert.AdamwOutRefIdeal.nD Cert.AdamwOutRefIdeal.τ).loc Cert.AdamwOutRefIdeal.main_arg0)
      ∧ r.2.mem ((c.tc : Thread Cert.AdamwOutRefIdeal.nD Cert.AdamwOutRefIdeal.τ).loc Cert.AdamwOutRefIdeal.main_arg1) = m ((c.tc : Thread Cert.AdamwOutRefIdeal.nD Cert.AdamwOutRefIdeal.τ).loc Cert.AdamwOutRefIdeal.main_arg1)
      ∧ r.2.mem ((c.tc : Thread Cert.AdamwOutRefIdeal.nD Cert.AdamwOutRefIdeal.τ).loc Cert.AdamwOutRefIdeal.main_arg2) = m ((c.tc : Thread Cert.AdamwOutRefIdeal.nD Cert.AdamwOutRefIdeal.τ).loc Cert.AdamwOutRefIdeal.main_arg2)
      ∧ r.2.mem ((c.tc : Thread Cert.AdamwOutRefIdeal.nD Cert.AdamwOutRefIdeal.τ).loc Cert.AdamwOutRefIdeal.main_arg3) = m ((c.tc : Thread Cert.AdamwOutRefIdeal.nD Cert.AdamwOutRefIdeal.τ).loc Cert.AdamwOutRefIdeal.main_arg3)
      ∧ r.2.mem ((c.tc : Thread Cert.AdamwOutRefIdeal.nD Cert.AdamwOutRefIdeal.τ).loc Cert.AdamwOutRefIdeal.main_arg4) = m ((c.tc : Thread Cert.AdamwOutRefIdeal.nD Cert.AdamwOutRefIdeal.τ).loc Cert.AdamwOutRefIdeal.main_arg4)
      ∧ r.2.mem ((c.tc : Thread Cert.AdamwOutRefIdeal.nD Cert.AdamwOutRefIdeal.τ).loc Cert.AdamwOutRefIdeal.main_arg5) = m ((c.tc : Thread Cert.AdamwOutRefIdeal.nD Cert.AdamwOutRefIdeal.τ).loc Cert.AdamwOutRefIdeal.main_arg5))
      ∧ r.2.sem = fun _ => 0)

def quiescent_AdamwProj [hAdamwProj : Cert.AdamwProj.Facts] [hPre_on_the_mesh_proj : Cert.Pre_on_the_mesh_proj.Facts] : Prop :=
  ∀ (m : (ℓ : Loc Cert.AdamwProj.nD Cert.AdamwProj.τ Cert.AdamwProj.sig) → Buf (Elt Bits) ℓ) (g : Dev Cert.AdamwProj.nD → PrngReg), Pre_AdamwProj m →
    θ_run (Cert.AdamwProj.defs (F := Bits)) (onTc (τ := Cert.AdamwProj.τ) (Cert.AdamwProj.main (F := Bits))) ⟨m, fun _ => 0, g⟩ (fun r => (∀ c : Dev Cert.AdamwProj.nD,
      r.2.mem ((c.tc : Thread Cert.AdamwProj.nD Cert.AdamwProj.τ).loc Cert.AdamwProj.main_arg0) = m ((c.tc : Thread Cert.AdamwProj.nD Cert.AdamwProj.τ).loc Cert.AdamwProj.main_arg0)
      ∧ r.2.mem ((c.tc : Thread Cert.AdamwProj.nD Cert.AdamwProj.τ).loc Cert.AdamwProj.main_arg1) = m ((c.tc : Thread Cert.AdamwProj.nD Cert.AdamwProj.τ).loc Cert.AdamwProj.main_arg1)
      ∧ r.2.mem ((c.tc : Thread Cert.AdamwProj.nD Cert.AdamwProj.τ).loc Cert.AdamwProj.main_arg2) = m ((c.tc : Thread Cert.AdamwProj.nD Cert.AdamwProj.τ).loc Cert.AdamwProj.main_arg2)
      ∧ r.2.mem ((c.tc : Thread Cert.AdamwProj.nD Cert.AdamwProj.τ).loc Cert.AdamwProj.main_arg3) = m ((c.tc : Thread Cert.AdamwProj.nD Cert.AdamwProj.τ).loc Cert.AdamwProj.main_arg3)
      ∧ r.2.mem ((c.tc : Thread Cert.AdamwProj.nD Cert.AdamwProj.τ).loc Cert.AdamwProj.main_arg4) = m ((c.tc : Thread Cert.AdamwProj.nD Cert.AdamwProj.τ).loc Cert.AdamwProj.main_arg4)
      ∧ r.2.mem ((c.tc : Thread Cert.AdamwProj.nD Cert.AdamwProj.τ).loc Cert.AdamwProj.main_arg5) = m ((c.tc : Thread Cert.AdamwProj.nD Cert.AdamwProj.τ).loc Cert.AdamwProj.main_arg5))
      ∧ r.2.sem = fun _ => 0)

def quiescent_AdamwProjIdeal [hAdamwProjIdeal : Cert.AdamwProjIdeal.Facts] [hPre_on_the_mesh_proj : Cert.Pre_on_the_mesh_proj.Facts] : Prop :=
  ∀ (m : (ℓ : Loc Cert.AdamwProjIdeal.nD Cert.AdamwProjIdeal.τ Cert.AdamwProjIdeal.sig) → Buf (Elt Ideal) ℓ) (g : Dev Cert.AdamwProjIdeal.nD → PrngReg), Pre_AdamwProjIdeal m →
    θ_run (Cert.AdamwProjIdeal.defs (F := Ideal)) (onTc (τ := Cert.AdamwProjIdeal.τ) (Cert.AdamwProjIdeal.main (F := Ideal))) ⟨m, fun _ => 0, g⟩ (fun r => (∀ c : Dev Cert.AdamwProjIdeal.nD,
      r.2.mem ((c.tc : Thread Cert.AdamwProjIdeal.nD Cert.AdamwProjIdeal.τ).loc Cert.AdamwProjIdeal.main_arg0) = m ((c.tc : Thread Cert.AdamwProjIdeal.nD Cert.AdamwProjIdeal.τ).loc Cert.AdamwProjIdeal.main_arg0)
      ∧ r.2.mem ((c.tc : Thread Cert.AdamwProjIdeal.nD Cert.AdamwProjIdeal.τ).loc Cert.AdamwProjIdeal.main_arg1) = m ((c.tc : Thread Cert.AdamwProjIdeal.nD Cert.AdamwProjIdeal.τ).loc Cert.AdamwProjIdeal.main_arg1)
      ∧ r.2.mem ((c.tc : Thread Cert.AdamwProjIdeal.nD Cert.AdamwProjIdeal.τ).loc Cert.AdamwProjIdeal.main_arg2) = m ((c.tc : Thread Cert.AdamwProjIdeal.nD Cert.AdamwProjIdeal.τ).loc Cert.AdamwProjIdeal.main_arg2)
      ∧ r.2.mem ((c.tc : Thread Cert.AdamwProjIdeal.nD Cert.AdamwProjIdeal.τ).loc Cert.AdamwProjIdeal.main_arg3) = m ((c.tc : Thread Cert.AdamwProjIdeal.nD Cert.AdamwProjIdeal.τ).loc Cert.AdamwProjIdeal.main_arg3)
      ∧ r.2.mem ((c.tc : Thread Cert.AdamwProjIdeal.nD Cert.AdamwProjIdeal.τ).loc Cert.AdamwProjIdeal.main_arg4) = m ((c.tc : Thread Cert.AdamwProjIdeal.nD Cert.AdamwProjIdeal.τ).loc Cert.AdamwProjIdeal.main_arg4)
      ∧ r.2.mem ((c.tc : Thread Cert.AdamwProjIdeal.nD Cert.AdamwProjIdeal.τ).loc Cert.AdamwProjIdeal.main_arg5) = m ((c.tc : Thread Cert.AdamwProjIdeal.nD Cert.AdamwProjIdeal.τ).loc Cert.AdamwProjIdeal.main_arg5))
      ∧ r.2.sem = fun _ => 0)

def quiescent_AdamwProjRefIdeal [hAdamwProjRefIdeal : Cert.AdamwProjRefIdeal.Facts] [hPre_on_the_mesh_proj : Cert.Pre_on_the_mesh_proj.Facts] : Prop :=
  ∀ (m : (ℓ : Loc Cert.AdamwProjRefIdeal.nD Cert.AdamwProjRefIdeal.τ Cert.AdamwProjRefIdeal.sig) → Buf (Elt Ideal) ℓ) (g : Dev Cert.AdamwProjRefIdeal.nD → PrngReg), Pre_AdamwProjRefIdeal m →
    θ_run (Cert.AdamwProjRefIdeal.defs (F := Ideal)) (onTc (τ := Cert.AdamwProjRefIdeal.τ) (Cert.AdamwProjRefIdeal.main (F := Ideal))) ⟨m, fun _ => 0, g⟩ (fun r => (∀ c : Dev Cert.AdamwProjRefIdeal.nD,
      r.2.mem ((c.tc : Thread Cert.AdamwProjRefIdeal.nD Cert.AdamwProjRefIdeal.τ).loc Cert.AdamwProjRefIdeal.main_arg0) = m ((c.tc : Thread Cert.AdamwProjRefIdeal.nD Cert.AdamwProjRefIdeal.τ).loc Cert.AdamwProjRefIdeal.main_arg0)
      ∧ r.2.mem ((c.tc : Thread Cert.AdamwProjRefIdeal.nD Cert.AdamwProjRefIdeal.τ).loc Cert.AdamwProjRefIdeal.main_arg1) = m ((c.tc : Thread Cert.AdamwProjRefIdeal.nD Cert.AdamwProjRefIdeal.τ).loc Cert.AdamwProjRefIdeal.main_arg1)
      ∧ r.2.mem ((c.tc : Thread Cert.AdamwProjRefIdeal.nD Cert.AdamwProjRefIdeal.τ).loc Cert.AdamwProjRefIdeal.main_arg2) = m ((c.tc : Thread Cert.AdamwProjRefIdeal.nD Cert.AdamwProjRefIdeal.τ).loc Cert.AdamwProjRefIdeal.main_arg2)
      ∧ r.2.mem ((c.tc : Thread Cert.AdamwProjRefIdeal.nD Cert.AdamwProjRefIdeal.τ).loc Cert.AdamwProjRefIdeal.main_arg3) = m ((c.tc : Thread Cert.AdamwProjRefIdeal.nD Cert.AdamwProjRefIdeal.τ).loc Cert.AdamwProjRefIdeal.main_arg3)
      ∧ r.2.mem ((c.tc : Thread Cert.AdamwProjRefIdeal.nD Cert.AdamwProjRefIdeal.τ).loc Cert.AdamwProjRefIdeal.main_arg4) = m ((c.tc : Thread Cert.AdamwProjRefIdeal.nD Cert.AdamwProjRefIdeal.τ).loc Cert.AdamwProjRefIdeal.main_arg4)
      ∧ r.2.mem ((c.tc : Thread Cert.AdamwProjRefIdeal.nD Cert.AdamwProjRefIdeal.τ).loc Cert.AdamwProjRefIdeal.main_arg5) = m ((c.tc : Thread Cert.AdamwProjRefIdeal.nD Cert.AdamwProjRefIdeal.τ).loc Cert.AdamwProjRefIdeal.main_arg5))
      ∧ r.2.sem = fun _ => 0)

def quiescent_AdamwGlu [hAdamwGlu : Cert.AdamwGlu.Facts] [hPre_on_the_mesh_glu : Cert.Pre_on_the_mesh_glu.Facts] : Prop :=
  ∀ (m : (ℓ : Loc Cert.AdamwGlu.nD Cert.AdamwGlu.τ Cert.AdamwGlu.sig) → Buf (Elt Bits) ℓ) (g : Dev Cert.AdamwGlu.nD → PrngReg), Pre_AdamwGlu m →
    θ_run (Cert.AdamwGlu.defs (F := Bits)) (onTc (τ := Cert.AdamwGlu.τ) (Cert.AdamwGlu.main (F := Bits))) ⟨m, fun _ => 0, g⟩ (fun r => (∀ c : Dev Cert.AdamwGlu.nD,
      r.2.mem ((c.tc : Thread Cert.AdamwGlu.nD Cert.AdamwGlu.τ).loc Cert.AdamwGlu.main_arg0) = m ((c.tc : Thread Cert.AdamwGlu.nD Cert.AdamwGlu.τ).loc Cert.AdamwGlu.main_arg0)
      ∧ r.2.mem ((c.tc : Thread Cert.AdamwGlu.nD Cert.AdamwGlu.τ).loc Cert.AdamwGlu.main_arg1) = m ((c.tc : Thread Cert.AdamwGlu.nD Cert.AdamwGlu.τ).loc Cert.AdamwGlu.main_arg1)
      ∧ r.2.mem ((c.tc : Thread Cert.AdamwGlu.nD Cert.AdamwGlu.τ).loc Cert.AdamwGlu.main_arg2) = m ((c.tc : Thread Cert.AdamwGlu.nD Cert.AdamwGlu.τ).loc Cert.AdamwGlu.main_arg2)
      ∧ r.2.mem ((c.tc : Thread Cert.AdamwGlu.nD Cert.AdamwGlu.τ).loc Cert.AdamwGlu.main_arg3) = m ((c.tc : Thread Cert.AdamwGlu.nD Cert.AdamwGlu.τ).loc Cert.AdamwGlu.main_arg3)
      ∧ r.2.mem ((c.tc : Thread Cert.AdamwGlu.nD Cert.AdamwGlu.τ).loc Cert.AdamwGlu.main_arg4) = m ((c.tc : Thread Cert.AdamwGlu.nD Cert.AdamwGlu.τ).loc Cert.AdamwGlu.main_arg4)
      ∧ r.2.mem ((c.tc : Thread Cert.AdamwGlu.nD Cert.AdamwGlu.τ).loc Cert.AdamwGlu.main_arg5) = m ((c.tc : Thread Cert.AdamwGlu.nD Cert.AdamwGlu.τ).loc Cert.AdamwGlu.main_arg5))
      ∧ r.2.sem = fun _ => 0)

def quiescent_AdamwGluIdeal [hAdamwGluIdeal : Cert.AdamwGluIdeal.Facts] [hPre_on_the_mesh_glu : Cert.Pre_on_the_mesh_glu.Facts] : Prop :=
  ∀ (m : (ℓ : Loc Cert.AdamwGluIdeal.nD Cert.AdamwGluIdeal.τ Cert.AdamwGluIdeal.sig) → Buf (Elt Ideal) ℓ) (g : Dev Cert.AdamwGluIdeal.nD → PrngReg), Pre_AdamwGluIdeal m →
    θ_run (Cert.AdamwGluIdeal.defs (F := Ideal)) (onTc (τ := Cert.AdamwGluIdeal.τ) (Cert.AdamwGluIdeal.main (F := Ideal))) ⟨m, fun _ => 0, g⟩ (fun r => (∀ c : Dev Cert.AdamwGluIdeal.nD,
      r.2.mem ((c.tc : Thread Cert.AdamwGluIdeal.nD Cert.AdamwGluIdeal.τ).loc Cert.AdamwGluIdeal.main_arg0) = m ((c.tc : Thread Cert.AdamwGluIdeal.nD Cert.AdamwGluIdeal.τ).loc Cert.AdamwGluIdeal.main_arg0)
      ∧ r.2.mem ((c.tc : Thread Cert.AdamwGluIdeal.nD Cert.AdamwGluIdeal.τ).loc Cert.AdamwGluIdeal.main_arg1) = m ((c.tc : Thread Cert.AdamwGluIdeal.nD Cert.AdamwGluIdeal.τ).loc Cert.AdamwGluIdeal.main_arg1)
      ∧ r.2.mem ((c.tc : Thread Cert.AdamwGluIdeal.nD Cert.AdamwGluIdeal.τ).loc Cert.AdamwGluIdeal.main_arg2) = m ((c.tc : Thread Cert.AdamwGluIdeal.nD Cert.AdamwGluIdeal.τ).loc Cert.AdamwGluIdeal.main_arg2)
      ∧ r.2.mem ((c.tc : Thread Cert.AdamwGluIdeal.nD Cert.AdamwGluIdeal.τ).loc Cert.AdamwGluIdeal.main_arg3) = m ((c.tc : Thread Cert.AdamwGluIdeal.nD Cert.AdamwGluIdeal.τ).loc Cert.AdamwGluIdeal.main_arg3)
      ∧ r.2.mem ((c.tc : Thread Cert.AdamwGluIdeal.nD Cert.AdamwGluIdeal.τ).loc Cert.AdamwGluIdeal.main_arg4) = m ((c.tc : Thread Cert.AdamwGluIdeal.nD Cert.AdamwGluIdeal.τ).loc Cert.AdamwGluIdeal.main_arg4)
      ∧ r.2.mem ((c.tc : Thread Cert.AdamwGluIdeal.nD Cert.AdamwGluIdeal.τ).loc Cert.AdamwGluIdeal.main_arg5) = m ((c.tc : Thread Cert.AdamwGluIdeal.nD Cert.AdamwGluIdeal.τ).loc Cert.AdamwGluIdeal.main_arg5))
      ∧ r.2.sem = fun _ => 0)

def quiescent_AdamwGluRefIdeal [hAdamwGluRefIdeal : Cert.AdamwGluRefIdeal.Facts] [hPre_on_the_mesh_glu : Cert.Pre_on_the_mesh_glu.Facts] : Prop :=
  ∀ (m : (ℓ : Loc Cert.AdamwGluRefIdeal.nD Cert.AdamwGluRefIdeal.τ Cert.AdamwGluRefIdeal.sig) → Buf (Elt Ideal) ℓ) (g : Dev Cert.AdamwGluRefIdeal.nD → PrngReg), Pre_AdamwGluRefIdeal m →
    θ_run (Cert.AdamwGluRefIdeal.defs (F := Ideal)) (onTc (τ := Cert.AdamwGluRefIdeal.τ) (Cert.AdamwGluRefIdeal.main (F := Ideal))) ⟨m, fun _ => 0, g⟩ (fun r => (∀ c : Dev Cert.AdamwGluRefIdeal.nD,
      r.2.mem ((c.tc : Thread Cert.AdamwGluRefIdeal.nD Cert.AdamwGluRefIdeal.τ).loc Cert.AdamwGluRefIdeal.main_arg0) = m ((c.tc : Thread Cert.AdamwGluRefIdeal.nD Cert.AdamwGluRefIdeal.τ).loc Cert.AdamwGluRefIdeal.main_arg0)
      ∧ r.2.mem ((c.tc : Thread Cert.AdamwGluRefIdeal.nD Cert.AdamwGluRefIdeal.τ).loc Cert.AdamwGluRefIdeal.main_arg1) = m ((c.tc : Thread Cert.AdamwGluRefIdeal.nD Cert.AdamwGluRefIdeal.τ).loc Cert.AdamwGluRefIdeal.main_arg1)
      ∧ r.2.mem ((c.tc : Thread Cert.AdamwGluRefIdeal.nD Cert.AdamwGluRefIdeal.τ).loc Cert.AdamwGluRefIdeal.main_arg2) = m ((c.tc : Thread Cert.AdamwGluRefIdeal.nD Cert.AdamwGluRefIdeal.τ).loc Cert.AdamwGluRefIdeal.main_arg2)
      ∧ r.2.mem ((c.tc : Thread Cert.AdamwGluRefIdeal.nD Cert.AdamwGluRefIdeal.τ).loc Cert.AdamwGluRefIdeal.main_arg3) = m ((c.tc : Thread Cert.AdamwGluRefIdeal.nD Cert.AdamwGluRefIdeal.τ).loc Cert.AdamwGluRefIdeal.main_arg3)
      ∧ r.2.mem ((c.tc : Thread Cert.AdamwGluRefIdeal.nD Cert.AdamwGluRefIdeal.τ).loc Cert.AdamwGluRefIdeal.main_arg4) = m ((c.tc : Thread Cert.AdamwGluRefIdeal.nD Cert.AdamwGluRefIdeal.τ).loc Cert.AdamwGluRefIdeal.main_arg4)
      ∧ r.2.mem ((c.tc : Thread Cert.AdamwGluRefIdeal.nD Cert.AdamwGluRefIdeal.τ).loc Cert.AdamwGluRefIdeal.main_arg5) = m ((c.tc : Thread Cert.AdamwGluRefIdeal.nD Cert.AdamwGluRefIdeal.τ).loc Cert.AdamwGluRefIdeal.main_arg5))
      ∧ r.2.sem = fun _ => 0)

def preserves_DownBwd_DownBwdIdeal : Prop :=
  True

def algebraic_DownBwdIdeal_DownBwdRefIdeal [hDownBwdIdeal : Cert.DownBwdIdeal.Facts] [hDownBwdRefIdeal : Cert.DownBwdRefIdeal.Facts] : Prop :=
  ∀ (m : (ℓ : Loc Cert.DownBwdIdeal.nD Cert.DownBwdIdeal.τ Cert.DownBwdIdeal.sig) → Buf (Elt Ideal) ℓ) (g : Dev Cert.DownBwdIdeal.nD → PrngReg)
    (m' : (ℓ : Loc Cert.DownBwdRefIdeal.nD Cert.DownBwdRefIdeal.τ Cert.DownBwdRefIdeal.sig) → Buf (Elt Ideal) ℓ) (g' : Dev Cert.DownBwdRefIdeal.nD → PrngReg), Pre_DownBwdIdeal m →
    (∀ c : Dev Cert.DownBwdIdeal.nD,
      m' ((c.tc : Thread Cert.DownBwdRefIdeal.nD Cert.DownBwdRefIdeal.τ).loc Cert.DownBwdRefIdeal.main_arg0) = m ((c.tc : Thread Cert.DownBwdIdeal.nD Cert.DownBwdIdeal.τ).loc Cert.DownBwdIdeal.main_arg0)
      ∧ m' ((c.tc : Thread Cert.DownBwdRefIdeal.nD Cert.DownBwdRefIdeal.τ).loc Cert.DownBwdRefIdeal.main_arg1) = m ((c.tc : Thread Cert.DownBwdIdeal.nD Cert.DownBwdIdeal.τ).loc Cert.DownBwdIdeal.main_arg1)) →
    ∃ (v0 : (c : Dev Cert.DownBwdIdeal.nD) → Buf (Elt Ideal) ((c.tc : Thread Cert.DownBwdIdeal.nD Cert.DownBwdIdeal.τ).loc Cert.DownBwdIdeal.main_v0)),
      θ_run (Cert.DownBwdIdeal.defs (F := Ideal)) (onTc (τ := Cert.DownBwdIdeal.τ) (Cert.DownBwdIdeal.main (F := Ideal))) ⟨m, fun _ => 0, g⟩ (fun r => ∀ c : Dev Cert.DownBwdIdeal.nD,
          r.2.mem ((c.tc : Thread Cert.DownBwdIdeal.nD Cert.DownBwdIdeal.τ).loc Cert.DownBwdIdeal.main_v0) = v0 c
          ∧ r.2.mem ((c.tc : Thread Cert.DownBwdIdeal.nD Cert.DownBwdIdeal.τ).loc Cert.DownBwdIdeal.main_arg0) = m ((c.tc : Thread Cert.DownBwdIdeal.nD Cert.DownBwdIdeal.τ).loc Cert.DownBwdIdeal.main_arg0)
          ∧ r.2.mem ((c.tc : Thread Cert.DownBwdIdeal.nD Cert.DownBwdIdeal.τ).loc Cert.DownBwdIdeal.main_arg1) = m ((c.tc : Thread Cert.DownBwdIdeal.nD Cert.DownBwdIdeal.τ).loc Cert.DownBwdIdeal.main_arg1))
      ∧ θ_run (Cert.DownBwdRefIdeal.defs (F := Ideal)) (onTc (τ := Cert.DownBwdRefIdeal.τ) (Cert.DownBwdRefIdeal.main (F := Ideal))) ⟨m', fun _ => 0, g'⟩ (fun r => ∀ c : Dev Cert.DownBwdRefIdeal.nD,
          r.2.mem ((c.tc : Thread Cert.DownBwdRefIdeal.nD Cert.DownBwdRefIdeal.τ).loc Cert.DownBwdRefIdeal.main_v4) = v0 c
          ∧ r.2.mem ((c.tc : Thread Cert.DownBwdRefIdeal.nD Cert.DownBwdRefIdeal.τ).loc Cert.DownBwdRefIdeal.main_arg0) = m' ((c.tc : Thread Cert.DownBwdRefIdeal.nD Cert.DownBwdRefIdeal.τ).loc Cert.DownBwdRefIdeal.main_arg0)
          ∧ r.2.mem ((c.tc : Thread Cert.DownBwdRefIdeal.nD Cert.DownBwdRefIdeal.τ).loc Cert.DownBwdRefIdeal.main_arg1) = m' ((c.tc : Thread Cert.DownBwdRefIdeal.nD Cert.DownBwdRefIdeal.τ).loc Cert.DownBwdRefIdeal.main_arg1))

def preserves_DownWgrad_DownWgradIdeal : Prop :=
  True

def algebraic_DownWgradIdeal_DownWgradRefIdeal [hDownWgradIdeal : Cert.DownWgradIdeal.Facts] [hDownWgradRefIdeal : Cert.DownWgradRefIdeal.Facts] : Prop :=
  ∀ (m : (ℓ : Loc Cert.DownWgradIdeal.nD Cert.DownWgradIdeal.τ Cert.DownWgradIdeal.sig) → Buf (Elt Ideal) ℓ) (g : Dev Cert.DownWgradIdeal.nD → PrngReg)
    (m' : (ℓ : Loc Cert.DownWgradRefIdeal.nD Cert.DownWgradRefIdeal.τ Cert.DownWgradRefIdeal.sig) → Buf (Elt Ideal) ℓ) (g' : Dev Cert.DownWgradRefIdeal.nD → PrngReg), Pre_DownWgradIdeal m →
    (∀ c : Dev Cert.DownWgradIdeal.nD,
      m' ((c.tc : Thread Cert.DownWgradRefIdeal.nD Cert.DownWgradRefIdeal.τ).loc Cert.DownWgradRefIdeal.main_arg0) = m ((c.tc : Thread Cert.DownWgradIdeal.nD Cert.DownWgradIdeal.τ).loc Cert.DownWgradIdeal.main_arg0)
      ∧ m' ((c.tc : Thread Cert.DownWgradRefIdeal.nD Cert.DownWgradRefIdeal.τ).loc Cert.DownWgradRefIdeal.main_arg1) = m ((c.tc : Thread Cert.DownWgradIdeal.nD Cert.DownWgradIdeal.τ).loc Cert.DownWgradIdeal.main_arg1)) →
    ∃ (v0 : (c : Dev Cert.DownWgradIdeal.nD) → Buf (Elt Ideal) ((c.tc : Thread Cert.DownWgradIdeal.nD Cert.DownWgradIdeal.τ).loc Cert.DownWgradIdeal.main_v0)),
      θ_run (Cert.DownWgradIdeal.defs (F := Ideal)) (onTc (τ := Cert.DownWgradIdeal.τ) (Cert.DownWgradIdeal.main (F := Ideal))) ⟨m, fun _ => 0, g⟩ (fun r => ∀ c : Dev Cert.DownWgradIdeal.nD,
          r.2.mem ((c.tc : Thread Cert.DownWgradIdeal.nD Cert.DownWgradIdeal.τ).loc Cert.DownWgradIdeal.main_v0) = v0 c
          ∧ r.2.mem ((c.tc : Thread Cert.DownWgradIdeal.nD Cert.DownWgradIdeal.τ).loc Cert.DownWgradIdeal.main_arg0) = m ((c.tc : Thread Cert.DownWgradIdeal.nD Cert.DownWgradIdeal.τ).loc Cert.DownWgradIdeal.main_arg0)
          ∧ r.2.mem ((c.tc : Thread Cert.DownWgradIdeal.nD Cert.DownWgradIdeal.τ).loc Cert.DownWgradIdeal.main_arg1) = m ((c.tc : Thread Cert.DownWgradIdeal.nD Cert.DownWgradIdeal.τ).loc Cert.DownWgradIdeal.main_arg1))
      ∧ θ_run (Cert.DownWgradRefIdeal.defs (F := Ideal)) (onTc (τ := Cert.DownWgradRefIdeal.τ) (Cert.DownWgradRefIdeal.main (F := Ideal))) ⟨m', fun _ => 0, g'⟩ (fun r => ∀ c : Dev Cert.DownWgradRefIdeal.nD,
          r.2.mem ((c.tc : Thread Cert.DownWgradRefIdeal.nD Cert.DownWgradRefIdeal.τ).loc Cert.DownWgradRefIdeal.main_v5) = v0 c
          ∧ r.2.mem ((c.tc : Thread Cert.DownWgradRefIdeal.nD Cert.DownWgradRefIdeal.τ).loc Cert.DownWgradRefIdeal.main_arg0) = m' ((c.tc : Thread Cert.DownWgradRefIdeal.nD Cert.DownWgradRefIdeal.τ).loc Cert.DownWgradRefIdeal.main_arg0)
          ∧ r.2.mem ((c.tc : Thread Cert.DownWgradRefIdeal.nD Cert.DownWgradRefIdeal.τ).loc Cert.DownWgradRefIdeal.main_arg1) = m' ((c.tc : Thread Cert.DownWgradRefIdeal.nD Cert.DownWgradRefIdeal.τ).loc Cert.DownWgradRefIdeal.main_arg1))

def preserves_UpWgrad_UpWgradIdeal : Prop :=
  True

def algebraic_UpWgradIdeal_UpWgradRefIdeal [hUpWgradIdeal : Cert.UpWgradIdeal.Facts] [hUpWgradRefIdeal : Cert.UpWgradRefIdeal.Facts] : Prop :=
  ∀ (m : (ℓ : Loc Cert.UpWgradIdeal.nD Cert.UpWgradIdeal.τ Cert.UpWgradIdeal.sig) → Buf (Elt Ideal) ℓ) (g : Dev Cert.UpWgradIdeal.nD → PrngReg)
    (m' : (ℓ : Loc Cert.UpWgradRefIdeal.nD Cert.UpWgradRefIdeal.τ Cert.UpWgradRefIdeal.sig) → Buf (Elt Ideal) ℓ) (g' : Dev Cert.UpWgradRefIdeal.nD → PrngReg), Pre_UpWgradIdeal m →
    (∀ c : Dev Cert.UpWgradIdeal.nD,
      m' ((c.tc : Thread Cert.UpWgradRefIdeal.nD Cert.UpWgradRefIdeal.τ).loc Cert.UpWgradRefIdeal.main_arg0) = m ((c.tc : Thread Cert.UpWgradIdeal.nD Cert.UpWgradIdeal.τ).loc Cert.UpWgradIdeal.main_arg0)
      ∧ m' ((c.tc : Thread Cert.UpWgradRefIdeal.nD Cert.UpWgradRefIdeal.τ).loc Cert.UpWgradRefIdeal.main_arg1) = m ((c.tc : Thread Cert.UpWgradIdeal.nD Cert.UpWgradIdeal.τ).loc Cert.UpWgradIdeal.main_arg1)
      ∧ m' ((c.tc : Thread Cert.UpWgradRefIdeal.nD Cert.UpWgradRefIdeal.τ).loc Cert.UpWgradRefIdeal.main_arg2) = m ((c.tc : Thread Cert.UpWgradIdeal.nD Cert.UpWgradIdeal.τ).loc Cert.UpWgradIdeal.main_arg2)) →
    ∃ (v0 : (c : Dev Cert.UpWgradIdeal.nD) → Buf (Elt Ideal) ((c.tc : Thread Cert.UpWgradIdeal.nD Cert.UpWgradIdeal.τ).loc Cert.UpWgradIdeal.main_v0)),
      θ_run (Cert.UpWgradIdeal.defs (F := Ideal)) (onTc (τ := Cert.UpWgradIdeal.τ) (Cert.UpWgradIdeal.main (F := Ideal))) ⟨m, fun _ => 0, g⟩ (fun r => ∀ c : Dev Cert.UpWgradIdeal.nD,
          r.2.mem ((c.tc : Thread Cert.UpWgradIdeal.nD Cert.UpWgradIdeal.τ).loc Cert.UpWgradIdeal.main_v0) = v0 c
          ∧ r.2.mem ((c.tc : Thread Cert.UpWgradIdeal.nD Cert.UpWgradIdeal.τ).loc Cert.UpWgradIdeal.main_arg0) = m ((c.tc : Thread Cert.UpWgradIdeal.nD Cert.UpWgradIdeal.τ).loc Cert.UpWgradIdeal.main_arg0)
          ∧ r.2.mem ((c.tc : Thread Cert.UpWgradIdeal.nD Cert.UpWgradIdeal.τ).loc Cert.UpWgradIdeal.main_arg1) = m ((c.tc : Thread Cert.UpWgradIdeal.nD Cert.UpWgradIdeal.τ).loc Cert.UpWgradIdeal.main_arg1)
          ∧ r.2.mem ((c.tc : Thread Cert.UpWgradIdeal.nD Cert.UpWgradIdeal.τ).loc Cert.UpWgradIdeal.main_arg2) = m ((c.tc : Thread Cert.UpWgradIdeal.nD Cert.UpWgradIdeal.τ).loc Cert.UpWgradIdeal.main_arg2))
      ∧ θ_run (Cert.UpWgradRefIdeal.defs (F := Ideal)) (onTc (τ := Cert.UpWgradRefIdeal.τ) (Cert.UpWgradRefIdeal.main (F := Ideal))) ⟨m', fun _ => 0, g'⟩ (fun r => ∀ c : Dev Cert.UpWgradRefIdeal.nD,
          r.2.mem ((c.tc : Thread Cert.UpWgradRefIdeal.nD Cert.UpWgradRefIdeal.τ).loc Cert.UpWgradRefIdeal.main_v9) = v0 c
          ∧ r.2.mem ((c.tc : Thread Cert.UpWgradRefIdeal.nD Cert.UpWgradRefIdeal.τ).loc Cert.UpWgradRefIdeal.main_arg0) = m' ((c.tc : Thread Cert.UpWgradRefIdeal.nD Cert.UpWgradRefIdeal.τ).loc Cert.UpWgradRefIdeal.main_arg0)
          ∧ r.2.mem ((c.tc : Thread Cert.UpWgradRefIdeal.nD Cert.UpWgradRefIdeal.τ).loc Cert.UpWgradRefIdeal.main_arg1) = m' ((c.tc : Thread Cert.UpWgradRefIdeal.nD Cert.UpWgradRefIdeal.τ).loc Cert.UpWgradRefIdeal.main_arg1)
          ∧ r.2.mem ((c.tc : Thread Cert.UpWgradRefIdeal.nD Cert.UpWgradRefIdeal.τ).loc Cert.UpWgradRefIdeal.main_arg2) = m' ((c.tc : Thread Cert.UpWgradRefIdeal.nD Cert.UpWgradRefIdeal.τ).loc Cert.UpWgradRefIdeal.main_arg2))

def preserves_InWgrad_InWgradIdeal : Prop :=
  True

def algebraic_InWgradIdeal_InWgradRefIdeal [hInWgradIdeal : Cert.InWgradIdeal.Facts] [hInWgradRefIdeal : Cert.InWgradRefIdeal.Facts] : Prop :=
  ∀ (m : (ℓ : Loc Cert.InWgradIdeal.nD Cert.InWgradIdeal.τ Cert.InWgradIdeal.sig) → Buf (Elt Ideal) ℓ) (g : Dev Cert.InWgradIdeal.nD → PrngReg)
    (m' : (ℓ : Loc Cert.InWgradRefIdeal.nD Cert.InWgradRefIdeal.τ Cert.InWgradRefIdeal.sig) → Buf (Elt Ideal) ℓ) (g' : Dev Cert.InWgradRefIdeal.nD → PrngReg), Pre_InWgradIdeal m →
    (∀ c : Dev Cert.InWgradIdeal.nD,
      m' ((c.tc : Thread Cert.InWgradRefIdeal.nD Cert.InWgradRefIdeal.τ).loc Cert.InWgradRefIdeal.main_arg0) = m ((c.tc : Thread Cert.InWgradIdeal.nD Cert.InWgradIdeal.τ).loc Cert.InWgradIdeal.main_arg0)
      ∧ m' ((c.tc : Thread Cert.InWgradRefIdeal.nD Cert.InWgradRefIdeal.τ).loc Cert.InWgradRefIdeal.main_arg1) = m ((c.tc : Thread Cert.InWgradIdeal.nD Cert.InWgradIdeal.τ).loc Cert.InWgradIdeal.main_arg1)) →
    ∃ (v0 : (c : Dev Cert.InWgradIdeal.nD) → Buf (Elt Ideal) ((c.tc : Thread Cert.InWgradIdeal.nD Cert.InWgradIdeal.τ).loc Cert.InWgradIdeal.main_v0)),
      θ_run (Cert.InWgradIdeal.defs (F := Ideal)) (onTc (τ := Cert.InWgradIdeal.τ) (Cert.InWgradIdeal.main (F := Ideal))) ⟨m, fun _ => 0, g⟩ (fun r => ∀ c : Dev Cert.InWgradIdeal.nD,
          r.2.mem ((c.tc : Thread Cert.InWgradIdeal.nD Cert.InWgradIdeal.τ).loc Cert.InWgradIdeal.main_v0) = v0 c
          ∧ r.2.mem ((c.tc : Thread Cert.InWgradIdeal.nD Cert.InWgradIdeal.τ).loc Cert.InWgradIdeal.main_arg0) = m ((c.tc : Thread Cert.InWgradIdeal.nD Cert.InWgradIdeal.τ).loc Cert.InWgradIdeal.main_arg0)
          ∧ r.2.mem ((c.tc : Thread Cert.InWgradIdeal.nD Cert.InWgradIdeal.τ).loc Cert.InWgradIdeal.main_arg1) = m ((c.tc : Thread Cert.InWgradIdeal.nD Cert.InWgradIdeal.τ).loc Cert.InWgradIdeal.main_arg1))
      ∧ θ_run (Cert.InWgradRefIdeal.defs (F := Ideal)) (onTc (τ := Cert.InWgradRefIdeal.τ) (Cert.InWgradRefIdeal.main (F := Ideal))) ⟨m', fun _ => 0, g'⟩ (fun r => ∀ c : Dev Cert.InWgradRefIdeal.nD,
          r.2.mem ((c.tc : Thread Cert.InWgradRefIdeal.nD Cert.InWgradRefIdeal.τ).loc Cert.InWgradRefIdeal.main_v8) = v0 c
          ∧ r.2.mem ((c.tc : Thread Cert.InWgradRefIdeal.nD Cert.InWgradRefIdeal.τ).loc Cert.InWgradRefIdeal.main_arg0) = m' ((c.tc : Thread Cert.InWgradRefIdeal.nD Cert.InWgradRefIdeal.τ).loc Cert.InWgradRefIdeal.main_arg0)
          ∧ r.2.mem ((c.tc : Thread Cert.InWgradRefIdeal.nD Cert.InWgradRefIdeal.τ).loc Cert.InWgradRefIdeal.main_arg1) = m' ((c.tc : Thread Cert.InWgradRefIdeal.nD Cert.InWgradRefIdeal.τ).loc Cert.InWgradRefIdeal.main_arg1))

def preserves_OutBwd_OutBwdIdeal : Prop :=
  True

def algebraic_OutBwdIdeal_OutBwdRefIdeal [hOutBwdIdeal : Cert.OutBwdIdeal.Facts] [hOutBwdRefIdeal : Cert.OutBwdRefIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.OutBwdRefIdeal.nD Cert.OutBwdRefIdeal.τ Cert.OutBwdRefIdeal.sig) → Buf (Elt Ideal) ℓ) (g' : Dev Cert.OutBwdRefIdeal.nD → PrngReg), Pre_OutBwdIdeal m →
    (∀ c : Dev Cert.OutBwdIdeal.nD,
      m' ((c.tc : Thread Cert.OutBwdRefIdeal.nD Cert.OutBwdRefIdeal.τ).loc Cert.OutBwdRefIdeal.main_arg0) = m ((c.tc : Thread Cert.OutBwdIdeal.nD Cert.OutBwdIdeal.τ).loc Cert.OutBwdIdeal.main_arg0)
      ∧ m' ((c.tc : Thread Cert.OutBwdRefIdeal.nD Cert.OutBwdRefIdeal.τ).loc Cert.OutBwdRefIdeal.main_arg1) = m ((c.tc : Thread Cert.OutBwdIdeal.nD Cert.OutBwdIdeal.τ).loc Cert.OutBwdIdeal.main_arg1)) →
    ∃ (v0 : (c : Dev Cert.OutBwdIdeal.nD) → Buf (Elt Ideal) ((c.tc : Thread Cert.OutBwdIdeal.nD Cert.OutBwdIdeal.τ).loc Cert.OutBwdIdeal.main_v0)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          r.2.mem ((c.tc : Thread Cert.OutBwdIdeal.nD Cert.OutBwdIdeal.τ).loc Cert.OutBwdIdeal.main_v0) = v0 c
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1))
      ∧ θ_run (Cert.OutBwdRefIdeal.defs (F := Ideal)) (onTc (τ := Cert.OutBwdRefIdeal.τ) (Cert.OutBwdRefIdeal.main (F := Ideal))) ⟨m', fun _ => 0, g'⟩ (fun r => ∀ c : Dev Cert.OutBwdRefIdeal.nD,
          r.2.mem ((c.tc : Thread Cert.OutBwdRefIdeal.nD Cert.OutBwdRefIdeal.τ).loc Cert.OutBwdRefIdeal.main_v4) = v0 c
          ∧ r.2.mem ((c.tc : Thread Cert.OutBwdRefIdeal.nD Cert.OutBwdRefIdeal.τ).loc Cert.OutBwdRefIdeal.main_arg0) = m' ((c.tc : Thread Cert.OutBwdRefIdeal.nD Cert.OutBwdRefIdeal.τ).loc Cert.OutBwdRefIdeal.main_arg0)
          ∧ r.2.mem ((c.tc : Thread Cert.OutBwdRefIdeal.nD Cert.OutBwdRefIdeal.τ).loc Cert.OutBwdRefIdeal.main_arg1) = m' ((c.tc : Thread Cert.OutBwdRefIdeal.nD Cert.OutBwdRefIdeal.τ).loc Cert.OutBwdRefIdeal.main_arg1))

def preserves_OutWgrad_OutWgradIdeal : Prop :=
  True

def algebraic_OutWgradIdeal_OutWgradRefIdeal [hOutWgradIdeal : Cert.OutWgradIdeal.Facts] [hOutWgradRefIdeal : Cert.OutWgradRefIdeal.Facts] : Prop :=
  ∀ (m : (ℓ : Loc Cert.OutWgradIdeal.nD Cert.OutWgradIdeal.τ Cert.OutWgradIdeal.sig) → Buf (Elt Ideal) ℓ) (g : Dev Cert.OutWgradIdeal.nD → PrngReg)
    (m' : (ℓ : Loc Cert.OutWgradRefIdeal.nD Cert.OutWgradRefIdeal.τ Cert.OutWgradRefIdeal.sig) → Buf (Elt Ideal) ℓ) (g' : Dev Cert.OutWgradRefIdeal.nD → PrngReg), Pre_OutWgradIdeal m →
    (∀ c : Dev Cert.OutWgradIdeal.nD,
      m' ((c.tc : Thread Cert.OutWgradRefIdeal.nD Cert.OutWgradRefIdeal.τ).loc Cert.OutWgradRefIdeal.main_arg0) = m ((c.tc : Thread Cert.OutWgradIdeal.nD Cert.OutWgradIdeal.τ).loc Cert.OutWgradIdeal.main_arg0)
      ∧ m' ((c.tc : Thread Cert.OutWgradRefIdeal.nD Cert.OutWgradRefIdeal.τ).loc Cert.OutWgradRefIdeal.main_arg1) = m ((c.tc : Thread Cert.OutWgradIdeal.nD Cert.OutWgradIdeal.τ).loc Cert.OutWgradIdeal.main_arg1)) →
    ∃ (v0 : (c : Dev Cert.OutWgradIdeal.nD) → Buf (Elt Ideal) ((c.tc : Thread Cert.OutWgradIdeal.nD Cert.OutWgradIdeal.τ).loc Cert.OutWgradIdeal.main_v0)),
      θ_run (Cert.OutWgradIdeal.defs (F := Ideal)) (onTc (τ := Cert.OutWgradIdeal.τ) (Cert.OutWgradIdeal.main (F := Ideal))) ⟨m, fun _ => 0, g⟩ (fun r => ∀ c : Dev Cert.OutWgradIdeal.nD,
          r.2.mem ((c.tc : Thread Cert.OutWgradIdeal.nD Cert.OutWgradIdeal.τ).loc Cert.OutWgradIdeal.main_v0) = v0 c
          ∧ r.2.mem ((c.tc : Thread Cert.OutWgradIdeal.nD Cert.OutWgradIdeal.τ).loc Cert.OutWgradIdeal.main_arg0) = m ((c.tc : Thread Cert.OutWgradIdeal.nD Cert.OutWgradIdeal.τ).loc Cert.OutWgradIdeal.main_arg0)
          ∧ r.2.mem ((c.tc : Thread Cert.OutWgradIdeal.nD Cert.OutWgradIdeal.τ).loc Cert.OutWgradIdeal.main_arg1) = m ((c.tc : Thread Cert.OutWgradIdeal.nD Cert.OutWgradIdeal.τ).loc Cert.OutWgradIdeal.main_arg1))
      ∧ θ_run (Cert.OutWgradRefIdeal.defs (F := Ideal)) (onTc (τ := Cert.OutWgradRefIdeal.τ) (Cert.OutWgradRefIdeal.main (F := Ideal))) ⟨m', fun _ => 0, g'⟩ (fun r => ∀ c : Dev Cert.OutWgradRefIdeal.nD,
          r.2.mem ((c.tc : Thread Cert.OutWgradRefIdeal.nD Cert.OutWgradRefIdeal.τ).loc Cert.OutWgradRefIdeal.main_v5) = v0 c
          ∧ r.2.mem ((c.tc : Thread Cert.OutWgradRefIdeal.nD Cert.OutWgradRefIdeal.τ).loc Cert.OutWgradRefIdeal.main_arg0) = m' ((c.tc : Thread Cert.OutWgradRefIdeal.nD Cert.OutWgradRefIdeal.τ).loc Cert.OutWgradRefIdeal.main_arg0)
          ∧ r.2.mem ((c.tc : Thread Cert.OutWgradRefIdeal.nD Cert.OutWgradRefIdeal.τ).loc Cert.OutWgradRefIdeal.main_arg1) = m' ((c.tc : Thread Cert.OutWgradRefIdeal.nD Cert.OutWgradRefIdeal.τ).loc Cert.OutWgradRefIdeal.main_arg1))

def preserves_ProjBwd_ProjBwdIdeal : Prop :=
  True

def algebraic_ProjBwdIdeal_ProjBwdRefIdeal [hProjBwdIdeal : Cert.ProjBwdIdeal.Facts] [hProjBwdRefIdeal : Cert.ProjBwdRefIdeal.Facts] : Prop :=
  ∀ (m : (ℓ : Loc Cert.ProjBwdIdeal.nD Cert.ProjBwdIdeal.τ Cert.ProjBwdIdeal.sig) → Buf (Elt Ideal) ℓ) (g : Dev Cert.ProjBwdIdeal.nD → PrngReg)
    (m' : (ℓ : Loc Cert.ProjBwdRefIdeal.nD Cert.ProjBwdRefIdeal.τ Cert.ProjBwdRefIdeal.sig) → Buf (Elt Ideal) ℓ) (g' : Dev Cert.ProjBwdRefIdeal.nD → PrngReg), Pre_ProjBwdIdeal m →
    (∀ c : Dev Cert.ProjBwdIdeal.nD,
      m' ((c.tc : Thread Cert.ProjBwdRefIdeal.nD Cert.ProjBwdRefIdeal.τ).loc Cert.ProjBwdRefIdeal.main_arg0) = m ((c.tc : Thread Cert.ProjBwdIdeal.nD Cert.ProjBwdIdeal.τ).loc Cert.ProjBwdIdeal.main_arg0)
      ∧ m' ((c.tc : Thread Cert.ProjBwdRefIdeal.nD Cert.ProjBwdRefIdeal.τ).loc Cert.ProjBwdRefIdeal.main_arg1) = m ((c.tc : Thread Cert.ProjBwdIdeal.nD Cert.ProjBwdIdeal.τ).loc Cert.ProjBwdIdeal.main_arg1)) →
    ∃ (v0 : (c : Dev Cert.ProjBwdIdeal.nD) → Buf (Elt Ideal) ((c.tc : Thread Cert.ProjBwdIdeal.nD Cert.ProjBwdIdeal.τ).loc Cert.ProjBwdIdeal.main_v0)),
      θ_run (Cert.ProjBwdIdeal.defs (F := Ideal)) (onTc (τ := Cert.ProjBwdIdeal.τ) (Cert.ProjBwdIdeal.main (F := Ideal))) ⟨m, fun _ => 0, g⟩ (fun r => ∀ c : Dev Cert.ProjBwdIdeal.nD,
          r.2.mem ((c.tc : Thread Cert.ProjBwdIdeal.nD Cert.ProjBwdIdeal.τ).loc Cert.ProjBwdIdeal.main_v0) = v0 c
          ∧ r.2.mem ((c.tc : Thread Cert.ProjBwdIdeal.nD Cert.ProjBwdIdeal.τ).loc Cert.ProjBwdIdeal.main_arg0) = m ((c.tc : Thread Cert.ProjBwdIdeal.nD Cert.ProjBwdIdeal.τ).loc Cert.ProjBwdIdeal.main_arg0)
          ∧ r.2.mem ((c.tc : Thread Cert.ProjBwdIdeal.nD Cert.ProjBwdIdeal.τ).loc Cert.ProjBwdIdeal.main_arg1) = m ((c.tc : Thread Cert.ProjBwdIdeal.nD Cert.ProjBwdIdeal.τ).loc Cert.ProjBwdIdeal.main_arg1))
      ∧ θ_run (Cert.ProjBwdRefIdeal.defs (F := Ideal)) (onTc (τ := Cert.ProjBwdRefIdeal.τ) (Cert.ProjBwdRefIdeal.main (F := Ideal))) ⟨m', fun _ => 0, g'⟩ (fun r => ∀ c : Dev Cert.ProjBwdRefIdeal.nD,
          r.2.mem ((c.tc : Thread Cert.ProjBwdRefIdeal.nD Cert.ProjBwdRefIdeal.τ).loc Cert.ProjBwdRefIdeal.main_v4) = v0 c
          ∧ r.2.mem ((c.tc : Thread Cert.ProjBwdRefIdeal.nD Cert.ProjBwdRefIdeal.τ).loc Cert.ProjBwdRefIdeal.main_arg0) = m' ((c.tc : Thread Cert.ProjBwdRefIdeal.nD Cert.ProjBwdRefIdeal.τ).loc Cert.ProjBwdRefIdeal.main_arg0)
          ∧ r.2.mem ((c.tc : Thread Cert.ProjBwdRefIdeal.nD Cert.ProjBwdRefIdeal.τ).loc Cert.ProjBwdRefIdeal.main_arg1) = m' ((c.tc : Thread Cert.ProjBwdRefIdeal.nD Cert.ProjBwdRefIdeal.τ).loc Cert.ProjBwdRefIdeal.main_arg1))

def preserves_ProjWgrad_ProjWgradIdeal : Prop :=
  True

def algebraic_ProjWgradIdeal_ProjWgradRefIdeal [hProjWgradIdeal : Cert.ProjWgradIdeal.Facts] [hProjWgradRefIdeal : Cert.ProjWgradRefIdeal.Facts] : Prop :=
  ∀ (m : (ℓ : Loc Cert.ProjWgradIdeal.nD Cert.ProjWgradIdeal.τ Cert.ProjWgradIdeal.sig) → Buf (Elt Ideal) ℓ) (g : Dev Cert.ProjWgradIdeal.nD → PrngReg)
    (m' : (ℓ : Loc Cert.ProjWgradRefIdeal.nD Cert.ProjWgradRefIdeal.τ Cert.ProjWgradRefIdeal.sig) → Buf (Elt Ideal) ℓ) (g' : Dev Cert.ProjWgradRefIdeal.nD → PrngReg), Pre_ProjWgradIdeal m →
    (∀ c : Dev Cert.ProjWgradIdeal.nD,
      m' ((c.tc : Thread Cert.ProjWgradRefIdeal.nD Cert.ProjWgradRefIdeal.τ).loc Cert.ProjWgradRefIdeal.main_arg0) = m ((c.tc : Thread Cert.ProjWgradIdeal.nD Cert.ProjWgradIdeal.τ).loc Cert.ProjWgradIdeal.main_arg0)
      ∧ m' ((c.tc : Thread Cert.ProjWgradRefIdeal.nD Cert.ProjWgradRefIdeal.τ).loc Cert.ProjWgradRefIdeal.main_arg1) = m ((c.tc : Thread Cert.ProjWgradIdeal.nD Cert.ProjWgradIdeal.τ).loc Cert.ProjWgradIdeal.main_arg1)) →
    ∃ (v0 : (c : Dev Cert.ProjWgradIdeal.nD) → Buf (Elt Ideal) ((c.tc : Thread Cert.ProjWgradIdeal.nD Cert.ProjWgradIdeal.τ).loc Cert.ProjWgradIdeal.main_v0)),
      θ_run (Cert.ProjWgradIdeal.defs (F := Ideal)) (onTc (τ := Cert.ProjWgradIdeal.τ) (Cert.ProjWgradIdeal.main (F := Ideal))) ⟨m, fun _ => 0, g⟩ (fun r => ∀ c : Dev Cert.ProjWgradIdeal.nD,
          r.2.mem ((c.tc : Thread Cert.ProjWgradIdeal.nD Cert.ProjWgradIdeal.τ).loc Cert.ProjWgradIdeal.main_v0) = v0 c
          ∧ r.2.mem ((c.tc : Thread Cert.ProjWgradIdeal.nD Cert.ProjWgradIdeal.τ).loc Cert.ProjWgradIdeal.main_arg0) = m ((c.tc : Thread Cert.ProjWgradIdeal.nD Cert.ProjWgradIdeal.τ).loc Cert.ProjWgradIdeal.main_arg0)
          ∧ r.2.mem ((c.tc : Thread Cert.ProjWgradIdeal.nD Cert.ProjWgradIdeal.τ).loc Cert.ProjWgradIdeal.main_arg1) = m ((c.tc : Thread Cert.ProjWgradIdeal.nD Cert.ProjWgradIdeal.τ).loc Cert.ProjWgradIdeal.main_arg1))
      ∧ θ_run (Cert.ProjWgradRefIdeal.defs (F := Ideal)) (onTc (τ := Cert.ProjWgradRefIdeal.τ) (Cert.ProjWgradRefIdeal.main (F := Ideal))) ⟨m', fun _ => 0, g'⟩ (fun r => ∀ c : Dev Cert.ProjWgradRefIdeal.nD,
          r.2.mem ((c.tc : Thread Cert.ProjWgradRefIdeal.nD Cert.ProjWgradRefIdeal.τ).loc Cert.ProjWgradRefIdeal.main_v6) = v0 c
          ∧ r.2.mem ((c.tc : Thread Cert.ProjWgradRefIdeal.nD Cert.ProjWgradRefIdeal.τ).loc Cert.ProjWgradRefIdeal.main_arg0) = m' ((c.tc : Thread Cert.ProjWgradRefIdeal.nD Cert.ProjWgradRefIdeal.τ).loc Cert.ProjWgradRefIdeal.main_arg0)
          ∧ r.2.mem ((c.tc : Thread Cert.ProjWgradRefIdeal.nD Cert.ProjWgradRefIdeal.τ).loc Cert.ProjWgradRefIdeal.main_arg1) = m' ((c.tc : Thread Cert.ProjWgradRefIdeal.nD Cert.ProjWgradRefIdeal.τ).loc Cert.ProjWgradRefIdeal.main_arg1))

def preserves_GluWgrad_GluWgradIdeal : Prop :=
  True

def algebraic_GluWgradIdeal_GluWgradRefIdeal [hGluWgradIdeal : Cert.GluWgradIdeal.Facts] [hGluWgradRefIdeal : Cert.GluWgradRefIdeal.Facts] : Prop :=
  ∀ (m : (ℓ : Loc Cert.GluWgradIdeal.nD Cert.GluWgradIdeal.τ Cert.GluWgradIdeal.sig) → Buf (Elt Ideal) ℓ) (g : Dev Cert.GluWgradIdeal.nD → PrngReg)
    (m' : (ℓ : Loc Cert.GluWgradRefIdeal.nD Cert.GluWgradRefIdeal.τ Cert.GluWgradRefIdeal.sig) → Buf (Elt Ideal) ℓ) (g' : Dev Cert.GluWgradRefIdeal.nD → PrngReg), Pre_GluWgradIdeal m →
    (∀ c : Dev Cert.GluWgradIdeal.nD,
      m' ((c.tc : Thread Cert.GluWgradRefIdeal.nD Cert.GluWgradRefIdeal.τ).loc Cert.GluWgradRefIdeal.main_arg0) = m ((c.tc : Thread Cert.GluWgradIdeal.nD Cert.GluWgradIdeal.τ).loc Cert.GluWgradIdeal.main_arg0)
      ∧ m' ((c.tc : Thread Cert.GluWgradRefIdeal.nD Cert.GluWgradRefIdeal.τ).loc Cert.GluWgradRefIdeal.main_arg1) = m ((c.tc : Thread Cert.GluWgradIdeal.nD Cert.GluWgradIdeal.τ).loc Cert.GluWgradIdeal.main_arg1)) →
    ∃ (v0 : (c : Dev Cert.GluWgradIdeal.nD) → Buf (Elt Ideal) ((c.tc : Thread Cert.GluWgradIdeal.nD Cert.GluWgradIdeal.τ).loc Cert.GluWgradIdeal.main_v0)),
      θ_run (Cert.GluWgradIdeal.defs (F := Ideal)) (onTc (τ := Cert.GluWgradIdeal.τ) (Cert.GluWgradIdeal.main (F := Ideal))) ⟨m, fun _ => 0, g⟩ (fun r => ∀ c : Dev Cert.GluWgradIdeal.nD,
          r.2.mem ((c.tc : Thread Cert.GluWgradIdeal.nD Cert.GluWgradIdeal.τ).loc Cert.GluWgradIdeal.main_v0) = v0 c
          ∧ r.2.mem ((c.tc : Thread Cert.GluWgradIdeal.nD Cert.GluWgradIdeal.τ).loc Cert.GluWgradIdeal.main_arg0) = m ((c.tc : Thread Cert.GluWgradIdeal.nD Cert.GluWgradIdeal.τ).loc Cert.GluWgradIdeal.main_arg0)
          ∧ r.2.mem ((c.tc : Thread Cert.GluWgradIdeal.nD Cert.GluWgradIdeal.τ).loc Cert.GluWgradIdeal.main_arg1) = m ((c.tc : Thread Cert.GluWgradIdeal.nD Cert.GluWgradIdeal.τ).loc Cert.GluWgradIdeal.main_arg1))
      ∧ θ_run (Cert.GluWgradRefIdeal.defs (F := Ideal)) (onTc (τ := Cert.GluWgradRefIdeal.τ) (Cert.GluWgradRefIdeal.main (F := Ideal))) ⟨m', fun _ => 0, g'⟩ (fun r => ∀ c : Dev Cert.GluWgradRefIdeal.nD,
          r.2.mem ((c.tc : Thread Cert.GluWgradRefIdeal.nD Cert.GluWgradRefIdeal.τ).loc Cert.GluWgradRefIdeal.main_v6) = v0 c
          ∧ r.2.mem ((c.tc : Thread Cert.GluWgradRefIdeal.nD Cert.GluWgradRefIdeal.τ).loc Cert.GluWgradRefIdeal.main_arg0) = m' ((c.tc : Thread Cert.GluWgradRefIdeal.nD Cert.GluWgradRefIdeal.τ).loc Cert.GluWgradRefIdeal.main_arg0)
          ∧ r.2.mem ((c.tc : Thread Cert.GluWgradRefIdeal.nD Cert.GluWgradRefIdeal.τ).loc Cert.GluWgradRefIdeal.main_arg1) = m' ((c.tc : Thread Cert.GluWgradRefIdeal.nD Cert.GluWgradRefIdeal.τ).loc Cert.GluWgradRefIdeal.main_arg1))

def preserves_UpProj_UpProjIdeal : Prop :=
  True

def algebraic_UpProjIdeal_UpProjRefIdeal [hUpProjIdeal : Cert.UpProjIdeal.Facts] [hUpProjRefIdeal : Cert.UpProjRefIdeal.Facts] : Prop :=
  ∀ (m : (ℓ : Loc Cert.UpProjIdeal.nD Cert.UpProjIdeal.τ Cert.UpProjIdeal.sig) → Buf (Elt Ideal) ℓ) (g : Dev Cert.UpProjIdeal.nD → PrngReg)
    (m' : (ℓ : Loc Cert.UpProjRefIdeal.nD Cert.UpProjRefIdeal.τ Cert.UpProjRefIdeal.sig) → Buf (Elt Ideal) ℓ) (g' : Dev Cert.UpProjRefIdeal.nD → PrngReg), Pre_UpProjIdeal m →
    (∀ c : Dev Cert.UpProjIdeal.nD,
      m' ((c.tc : Thread Cert.UpProjRefIdeal.nD Cert.UpProjRefIdeal.τ).loc Cert.UpProjRefIdeal.main_arg0) = m ((c.tc : Thread Cert.UpProjIdeal.nD Cert.UpProjIdeal.τ).loc Cert.UpProjIdeal.main_arg0)
      ∧ m' ((c.tc : Thread Cert.UpProjRefIdeal.nD Cert.UpProjRefIdeal.τ).loc Cert.UpProjRefIdeal.main_arg1) = m ((c.tc : Thread Cert.UpProjIdeal.nD Cert.UpProjIdeal.τ).loc Cert.UpProjIdeal.main_arg1)) →
    ∃ (v0 : (c : Dev Cert.UpProjIdeal.nD) → Buf (Elt Ideal) ((c.tc : Thread Cert.UpProjIdeal.nD Cert.UpProjIdeal.τ).loc Cert.UpProjIdeal.main_v0)),
      θ_run (Cert.UpProjIdeal.defs (F := Ideal)) (onTc (τ := Cert.UpProjIdeal.τ) (Cert.UpProjIdeal.main (F := Ideal))) ⟨m, fun _ => 0, g⟩ (fun r => ∀ c : Dev Cert.UpProjIdeal.nD,
          r.2.mem ((c.tc : Thread Cert.UpProjIdeal.nD Cert.UpProjIdeal.τ).loc Cert.UpProjIdeal.main_v0) = v0 c
          ∧ r.2.mem ((c.tc : Thread Cert.UpProjIdeal.nD Cert.UpProjIdeal.τ).loc Cert.UpProjIdeal.main_arg0) = m ((c.tc : Thread Cert.UpProjIdeal.nD Cert.UpProjIdeal.τ).loc Cert.UpProjIdeal.main_arg0)
          ∧ r.2.mem ((c.tc : Thread Cert.UpProjIdeal.nD Cert.UpProjIdeal.τ).loc Cert.UpProjIdeal.main_arg1) = m ((c.tc : Thread Cert.UpProjIdeal.nD Cert.UpProjIdeal.τ).loc Cert.UpProjIdeal.main_arg1))
      ∧ θ_run (Cert.UpProjRefIdeal.defs (F := Ideal)) (onTc (τ := Cert.UpProjRefIdeal.τ) (Cert.UpProjRefIdeal.main (F := Ideal))) ⟨m', fun _ => 0, g'⟩ (fun r => ∀ c : Dev Cert.UpProjRefIdeal.nD,
          r.2.mem ((c.tc : Thread Cert.UpProjRefIdeal.nD Cert.UpProjRefIdeal.τ).loc Cert.UpProjRefIdeal.main_v12) = v0 c
          ∧ r.2.mem ((c.tc : Thread Cert.UpProjRefIdeal.nD Cert.UpProjRefIdeal.τ).loc Cert.UpProjRefIdeal.main_arg0) = m' ((c.tc : Thread Cert.UpProjRefIdeal.nD Cert.UpProjRefIdeal.τ).loc Cert.UpProjRefIdeal.main_arg0)
          ∧ r.2.mem ((c.tc : Thread Cert.UpProjRefIdeal.nD Cert.UpProjRefIdeal.τ).loc Cert.UpProjRefIdeal.main_arg1) = m' ((c.tc : Thread Cert.UpProjRefIdeal.nD Cert.UpProjRefIdeal.τ).loc Cert.UpProjRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v3) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_UpBwd_UpBwdIdeal : Prop :=
  True

def algebraic_UpBwdIdeal_UpBwdRefIdeal [hUpBwdIdeal : Cert.UpBwdIdeal.Facts] [hUpBwdRefIdeal : Cert.UpBwdRefIdeal.Facts] : Prop :=
  ∀ (m : (ℓ : Loc Cert.UpBwdIdeal.nD Cert.UpBwdIdeal.τ Cert.UpBwdIdeal.sig) → Buf (Elt Ideal) ℓ) (g : Dev Cert.UpBwdIdeal.nD → PrngReg)
    (m' : (ℓ : Loc Cert.UpBwdRefIdeal.nD Cert.UpBwdRefIdeal.τ Cert.UpBwdRefIdeal.sig) → Buf (Elt Ideal) ℓ) (g' : Dev Cert.UpBwdRefIdeal.nD → PrngReg), Pre_UpBwdIdeal m →
    (∀ c : Dev Cert.UpBwdIdeal.nD,
      m' ((c.tc : Thread Cert.UpBwdRefIdeal.nD Cert.UpBwdRefIdeal.τ).loc Cert.UpBwdRefIdeal.main_arg0) = m ((c.tc : Thread Cert.UpBwdIdeal.nD Cert.UpBwdIdeal.τ).loc Cert.UpBwdIdeal.main_arg0)
      ∧ m' ((c.tc : Thread Cert.UpBwdRefIdeal.nD Cert.UpBwdRefIdeal.τ).loc Cert.UpBwdRefIdeal.main_arg1) = m ((c.tc : Thread Cert.UpBwdIdeal.nD Cert.UpBwdIdeal.τ).loc Cert.UpBwdIdeal.main_arg1)
      ∧ m' ((c.tc : Thread Cert.UpBwdRefIdeal.nD Cert.UpBwdRefIdeal.τ).loc Cert.UpBwdRefIdeal.main_arg2) = m ((c.tc : Thread Cert.UpBwdIdeal.nD Cert.UpBwdIdeal.τ).loc Cert.UpBwdIdeal.main_arg2)
      ∧ m' ((c.tc : Thread Cert.UpBwdRefIdeal.nD Cert.UpBwdRefIdeal.τ).loc Cert.UpBwdRefIdeal.main_arg3) = m ((c.tc : Thread Cert.UpBwdIdeal.nD Cert.UpBwdIdeal.τ).loc Cert.UpBwdIdeal.main_arg3)
      ∧ m' ((c.tc : Thread Cert.UpBwdRefIdeal.nD Cert.UpBwdRefIdeal.τ).loc Cert.UpBwdRefIdeal.main_arg4) = m ((c.tc : Thread Cert.UpBwdIdeal.nD Cert.UpBwdIdeal.τ).loc Cert.UpBwdIdeal.main_arg4)
      ∧ m' ((c.tc : Thread Cert.UpBwdRefIdeal.nD Cert.UpBwdRefIdeal.τ).loc Cert.UpBwdRefIdeal.main_arg5) = m ((c.tc : Thread Cert.UpBwdIdeal.nD Cert.UpBwdIdeal.τ).loc Cert.UpBwdIdeal.main_arg5)) →
    ∃ (v0 : (c : Dev Cert.UpBwdIdeal.nD) → Buf (Elt Ideal) ((c.tc : Thread Cert.UpBwdIdeal.nD Cert.UpBwdIdeal.τ).loc Cert.UpBwdIdeal.main_v0_0)) (v1 : (c : Dev Cert.UpBwdIdeal.nD) → Buf (Elt Ideal) ((c.tc : Thread Cert.UpBwdIdeal.nD Cert.UpBwdIdeal.τ).loc Cert.UpBwdIdeal.main_v0_1)),
      θ_run (Cert.UpBwdIdeal.defs (F := Ideal)) (onTc (τ := Cert.UpBwdIdeal.τ) (Cert.UpBwdIdeal.main (F := Ideal))) ⟨m, fun _ => 0, g⟩ (fun r => ∀ c : Dev Cert.UpBwdIdeal.nD,
          r.2.mem ((c.tc : Thread Cert.UpBwdIdeal.nD Cert.UpBwdIdeal.τ).loc Cert.UpBwdIdeal.main_v0_0) = v0 c
          ∧ r.2.mem ((c.tc : Thread Cert.UpBwdIdeal.nD Cert.UpBwdIdeal.τ).loc Cert.UpBwdIdeal.main_v0_1) = v1 c
          ∧ r.2.mem ((c.tc : Thread Cert.UpBwdIdeal.nD Cert.UpBwdIdeal.τ).loc Cert.UpBwdIdeal.main_arg0) = m ((c.tc : Thread Cert.UpBwdIdeal.nD Cert.UpBwdIdeal.τ).loc Cert.UpBwdIdeal.main_arg0)
          ∧ r.2.mem ((c.tc : Thread Cert.UpBwdIdeal.nD Cert.UpBwdIdeal.τ).loc Cert.UpBwdIdeal.main_arg1) = m ((c.tc : Thread Cert.UpBwdIdeal.nD Cert.UpBwdIdeal.τ).loc Cert.UpBwdIdeal.main_arg1)
          ∧ r.2.mem ((c.tc : Thread Cert.UpBwdIdeal.nD Cert.UpBwdIdeal.τ).loc Cert.UpBwdIdeal.main_arg2) = m ((c.tc : Thread Cert.UpBwdIdeal.nD Cert.UpBwdIdeal.τ).loc Cert.UpBwdIdeal.main_arg2)
          ∧ r.2.mem ((c.tc : Thread Cert.UpBwdIdeal.nD Cert.UpBwdIdeal.τ).loc Cert.UpBwdIdeal.main_arg3) = m ((c.tc : Thread Cert.UpBwdIdeal.nD Cert.UpBwdIdeal.τ).loc Cert.UpBwdIdeal.main_arg3)
          ∧ r.2.mem ((c.tc : Thread Cert.UpBwdIdeal.nD Cert.UpBwdIdeal.τ).loc Cert.UpBwdIdeal.main_arg4) = m ((c.tc : Thread Cert.UpBwdIdeal.nD Cert.UpBwdIdeal.τ).loc Cert.UpBwdIdeal.main_arg4)
          ∧ r.2.mem ((c.tc : Thread Cert.UpBwdIdeal.nD Cert.UpBwdIdeal.τ).loc Cert.UpBwdIdeal.main_arg5) = m ((c.tc : Thread Cert.UpBwdIdeal.nD Cert.UpBwdIdeal.τ).loc Cert.UpBwdIdeal.main_arg5))
      ∧ θ_run (Cert.UpBwdRefIdeal.defs (F := Ideal)) (onTc (τ := Cert.UpBwdRefIdeal.τ) (Cert.UpBwdRefIdeal.main (F := Ideal))) ⟨m', fun _ => 0, g'⟩ (fun r => ∀ c : Dev Cert.UpBwdRefIdeal.nD,
          r.2.mem ((c.tc : Thread Cert.UpBwdRefIdeal.nD Cert.UpBwdRefIdeal.τ).loc Cert.UpBwdRefIdeal.main_v48) = v0 c
          ∧ r.2.mem ((c.tc : Thread Cert.UpBwdRefIdeal.nD Cert.UpBwdRefIdeal.τ).loc Cert.UpBwdRefIdeal.main_v31) = v1 c
          ∧ r.2.mem ((c.tc : Thread Cert.UpBwdRefIdeal.nD Cert.UpBwdRefIdeal.τ).loc Cert.UpBwdRefIdeal.main_arg0) = m' ((c.tc : Thread Cert.UpBwdRefIdeal.nD Cert.UpBwdRefIdeal.τ).loc Cert.UpBwdRefIdeal.main_arg0)
          ∧ r.2.mem ((c.tc : Thread Cert.UpBwdRefIdeal.nD Cert.UpBwdRefIdeal.τ).loc Cert.UpBwdRefIdeal.main_arg1) = m' ((c.tc : Thread Cert.UpBwdRefIdeal.nD Cert.UpBwdRefIdeal.τ).loc Cert.UpBwdRefIdeal.main_arg1)
          ∧ r.2.mem ((c.tc : Thread Cert.UpBwdRefIdeal.nD Cert.UpBwdRefIdeal.τ).loc Cert.UpBwdRefIdeal.main_arg2) = m' ((c.tc : Thread Cert.UpBwdRefIdeal.nD Cert.UpBwdRefIdeal.τ).loc Cert.UpBwdRefIdeal.main_arg2)
          ∧ r.2.mem ((c.tc : Thread Cert.UpBwdRefIdeal.nD Cert.UpBwdRefIdeal.τ).loc Cert.UpBwdRefIdeal.main_arg3) = m' ((c.tc : Thread Cert.UpBwdRefIdeal.nD Cert.UpBwdRefIdeal.τ).loc Cert.UpBwdRefIdeal.main_arg3)
          ∧ r.2.mem ((c.tc : Thread Cert.UpBwdRefIdeal.nD Cert.UpBwdRefIdeal.τ).loc Cert.UpBwdRefIdeal.main_arg4) = m' ((c.tc : Thread Cert.UpBwdRefIdeal.nD Cert.UpBwdRefIdeal.τ).loc Cert.UpBwdRefIdeal.main_arg4)
          ∧ r.2.mem ((c.tc : Thread Cert.UpBwdRefIdeal.nD Cert.UpBwdRefIdeal.τ).loc Cert.UpBwdRefIdeal.main_arg5) = m' ((c.tc : Thread Cert.UpBwdRefIdeal.nD Cert.UpBwdRefIdeal.τ).loc Cert.UpBwdRefIdeal.main_arg5))

def preserves_InBwd_InBwdIdeal : Prop :=
  True

def algebraic_InBwdIdeal_InBwdRefIdeal [hInBwdIdeal : Cert.InBwdIdeal.Facts] [hInBwdRefIdeal : Cert.InBwdRefIdeal.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InBwdRefIdeal.nD Cert.InBwdRefIdeal.τ Cert.InBwdRefIdeal.sig) → Buf (Elt Ideal) ℓ) (g' : Dev Cert.InBwdRefIdeal.nD → PrngReg), Pre_InBwdIdeal m →
    (∀ c : Dev Cert.InBwdIdeal.nD,
      m' ((c.tc : Thread Cert.InBwdRefIdeal.nD Cert.InBwdRefIdeal.τ).loc Cert.InBwdRefIdeal.main_arg0) = m ((c.tc : Thread Cert.InBwdIdeal.nD Cert.InBwdIdeal.τ).loc Cert.InBwdIdeal.main_arg0)
      ∧ m' ((c.tc : Thread Cert.InBwdRefIdeal.nD Cert.InBwdRefIdeal.τ).loc Cert.InBwdRefIdeal.main_arg1) = m ((c.tc : Thread Cert.InBwdIdeal.nD Cert.InBwdIdeal.τ).loc Cert.InBwdIdeal.main_arg1)
      ∧ m' ((c.tc : Thread Cert.InBwdRefIdeal.nD Cert.InBwdRefIdeal.τ).loc Cert.InBwdRefIdeal.main_arg2) = m ((c.tc : Thread Cert.InBwdIdeal.nD Cert.InBwdIdeal.τ).loc Cert.InBwdIdeal.main_arg2)
      ∧ m' ((c.tc : Thread Cert.InBwdRefIdeal.nD Cert.InBwdRefIdeal.τ).loc Cert.InBwdRefIdeal.main_arg3) = m ((c.tc : Thread Cert.InBwdIdeal.nD Cert.InBwdIdeal.τ).loc Cert.InBwdIdeal.main_arg3)
      ∧ m' ((c.tc : Thread Cert.InBwdRefIdeal.nD Cert.InBwdRefIdeal.τ).loc Cert.InBwdRefIdeal.main_arg4) = m ((c.tc : Thread Cert.InBwdIdeal.nD Cert.InBwdIdeal.τ).loc Cert.InBwdIdeal.main_arg4)) →
    ∃ (v0 : (c : Dev Cert.InBwdIdeal.nD) → Buf (Elt Ideal) ((c.tc : Thread Cert.InBwdIdeal.nD Cert.InBwdIdeal.τ).loc Cert.InBwdIdeal.main_v0_0)) (v1 : (c : Dev Cert.InBwdIdeal.nD) → Buf (Elt Ideal) ((c.tc : Thread Cert.InBwdIdeal.nD Cert.InBwdIdeal.τ).loc Cert.InBwdIdeal.main_v0_1)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v0_0) = v0 c
          ∧ r.2.mem ((c.tc : Thread Cert.InBwdIdeal.nD Cert.InBwdIdeal.τ).loc Cert.InBwdIdeal.main_v0_1) = v1 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4))
      ∧ θ_run (Cert.InBwdRefIdeal.defs (F := Ideal)) (onTc (τ := Cert.InBwdRefIdeal.τ) (Cert.InBwdRefIdeal.main (F := Ideal))) ⟨m', fun _ => 0, g'⟩ (fun r => ∀ c : Dev Cert.InBwdRefIdeal.nD,
          r.2.mem ((c.tc : Thread Cert.InBwdRefIdeal.nD Cert.InBwdRefIdeal.τ).loc Cert.InBwdRefIdeal.main_v47) = v0 c
          ∧ r.2.mem ((c.tc : Thread Cert.InBwdRefIdeal.nD Cert.InBwdRefIdeal.τ).loc Cert.InBwdRefIdeal.main_v30) = v1 c
          ∧ r.2.mem ((c.tc : Thread Cert.InBwdRefIdeal.nD Cert.InBwdRefIdeal.τ).loc Cert.InBwdRefIdeal.main_arg0) = m' ((c.tc : Thread Cert.InBwdRefIdeal.nD Cert.InBwdRefIdeal.τ).loc Cert.InBwdRefIdeal.main_arg0)
          ∧ r.2.mem ((c.tc : Thread Cert.InBwdRefIdeal.nD Cert.InBwdRefIdeal.τ).loc Cert.InBwdRefIdeal.main_arg1) = m' ((c.tc : Thread Cert.InBwdRefIdeal.nD Cert.InBwdRefIdeal.τ).loc Cert.InBwdRefIdeal.main_arg1)
          ∧ r.2.mem ((c.tc : Thread Cert.InBwdRefIdeal.nD Cert.InBwdRefIdeal.τ).loc Cert.InBwdRefIdeal.main_arg2) = m' ((c.tc : Thread Cert.InBwdRefIdeal.nD Cert.InBwdRefIdeal.τ).loc Cert.InBwdRefIdeal.main_arg2)
          ∧ r.2.mem ((c.tc : Thread Cert.InBwdRefIdeal.nD Cert.InBwdRefIdeal.τ).loc Cert.InBwdRefIdeal.main_arg3) = m' ((c.tc : Thread Cert.InBwdRefIdeal.nD Cert.InBwdRefIdeal.τ).loc Cert.InBwdRefIdeal.main_arg3)
          ∧ r.2.mem ((c.tc : Thread Cert.InBwdRefIdeal.nD Cert.InBwdRefIdeal.τ).loc Cert.InBwdRefIdeal.main_arg4) = m' ((c.tc : Thread Cert.InBwdRefIdeal.nD Cert.InBwdRefIdeal.τ).loc Cert.InBwdRefIdeal.main_arg4))

def preserves_DownProj_DownProjIdeal : Prop :=
  True

def algebraic_DownProjIdeal_DownProjRefIdeal [hDownProjIdeal : Cert.DownProjIdeal.Facts] [hDownProjRefIdeal : Cert.DownProjRefIdeal.Facts] : Prop :=
  ∀ (m : (ℓ : Loc Cert.DownProjIdeal.nD Cert.DownProjIdeal.τ Cert.DownProjIdeal.sig) → Buf (Elt Ideal) ℓ) (g : Dev Cert.DownProjIdeal.nD → PrngReg)
    (m' : (ℓ : Loc Cert.DownProjRefIdeal.nD Cert.DownProjRefIdeal.τ Cert.DownProjRefIdeal.sig) → Buf (Elt Ideal) ℓ) (g' : Dev Cert.DownProjRefIdeal.nD → PrngReg), Pre_DownProjIdeal m →
    (∀ c : Dev Cert.DownProjIdeal.nD,
      m' ((c.tc : Thread Cert.DownProjRefIdeal.nD Cert.DownProjRefIdeal.τ).loc Cert.DownProjRefIdeal.main_arg0) = m ((c.tc : Thread Cert.DownProjIdeal.nD Cert.DownProjIdeal.τ).loc Cert.DownProjIdeal.main_arg0)
      ∧ m' ((c.tc : Thread Cert.DownProjRefIdeal.nD Cert.DownProjRefIdeal.τ).loc Cert.DownProjRefIdeal.main_arg1) = m ((c.tc : Thread Cert.DownProjIdeal.nD Cert.DownProjIdeal.τ).loc Cert.DownProjIdeal.main_arg1)
      ∧ m' ((c.tc : Thread Cert.DownProjRefIdeal.nD Cert.DownProjRefIdeal.τ).loc Cert.DownProjRefIdeal.main_arg2) = m ((c.tc : Thread Cert.DownProjIdeal.nD Cert.DownProjIdeal.τ).loc Cert.DownProjIdeal.main_arg2)
      ∧ m' ((c.tc : Thread Cert.DownProjRefIdeal.nD Cert.DownProjRefIdeal.τ).loc Cert.DownProjRefIdeal.main_arg3) = m ((c.tc : Thread Cert.DownProjIdeal.nD Cert.DownProjIdeal.τ).loc Cert.DownProjIdeal.main_arg3)
      ∧ m' ((c.tc : Thread Cert.DownProjRefIdeal.nD Cert.DownProjRefIdeal.τ).loc Cert.DownProjRefIdeal.main_arg4) = m ((c.tc : Thread Cert.DownProjIdeal.nD Cert.DownProjIdeal.τ).loc Cert.DownProjIdeal.main_arg4)) →
    ∃ (v0 : (c : Dev Cert.DownProjIdeal.nD) → Buf (Elt Ideal) ((c.tc : Thread Cert.DownProjIdeal.nD Cert.DownProjIdeal.τ).loc Cert.DownProjIdeal.main_v0_0)) (v1 : (c : Dev Cert.DownProjIdeal.nD) → Buf (Elt Ideal) ((c.tc : Thread Cert.DownProjIdeal.nD Cert.DownProjIdeal.τ).loc Cert.DownProjIdeal.main_v0_1)) (v2 : (c : Dev Cert.DownProjIdeal.nD) → Buf (Elt Ideal) ((c.tc : Thread Cert.DownProjIdeal.nD Cert.DownProjIdeal.τ).loc Cert.DownProjIdeal.main_v0_2)),
      θ_run (Cert.DownProjIdeal.defs (F := Ideal)) (onTc (τ := Cert.DownProjIdeal.τ) (Cert.DownProjIdeal.main (F := Ideal))) ⟨m, fun _ => 0, g⟩ (fun r => ∀ c : Dev Cert.DownProjIdeal.nD,
          r.2.mem ((c.tc : Thread Cert.DownProjIdeal.nD Cert.DownProjIdeal.τ).loc Cert.DownProjIdeal.main_v0_0) = v0 c
          ∧ r.2.mem ((c.tc : Thread Cert.DownProjIdeal.nD Cert.DownProjIdeal.τ).loc Cert.DownProjIdeal.main_v0_1) = v1 c
          ∧ r.2.mem ((c.tc : Thread Cert.DownProjIdeal.nD Cert.DownProjIdeal.τ).loc Cert.DownProjIdeal.main_v0_2) = v2 c
          ∧ r.2.mem ((c.tc : Thread Cert.DownProjIdeal.nD Cert.DownProjIdeal.τ).loc Cert.DownProjIdeal.main_arg0) = m ((c.tc : Thread Cert.DownProjIdeal.nD Cert.DownProjIdeal.τ).loc Cert.DownProjIdeal.main_arg0)
          ∧ r.2.mem ((c.tc : Thread Cert.DownProjIdeal.nD Cert.DownProjIdeal.τ).loc Cert.DownProjIdeal.main_arg1) = m ((c.tc : Thread Cert.DownProjIdeal.nD Cert.DownProjIdeal.τ).loc Cert.DownProjIdeal.main_arg1)
          ∧ r.2.mem ((c.tc : Thread Cert.DownProjIdeal.nD Cert.DownProjIdeal.τ).loc Cert.DownProjIdeal.main_arg2) = m ((c.tc : Thread Cert.DownProjIdeal.nD Cert.DownProjIdeal.τ).loc Cert.DownProjIdeal.main_arg2)
          ∧ r.2.mem ((c.tc : Thread Cert.DownProjIdeal.nD Cert.DownProjIdeal.τ).loc Cert.DownProjIdeal.main_arg3) = m ((c.tc : Thread Cert.DownProjIdeal.nD Cert.DownProjIdeal.τ).loc Cert.DownProjIdeal.main_arg3)
          ∧ r.2.mem ((c.tc : Thread Cert.DownProjIdeal.nD Cert.DownProjIdeal.τ).loc Cert.DownProjIdeal.main_arg4) = m ((c.tc : Thread Cert.DownProjIdeal.nD Cert.DownProjIdeal.τ).loc Cert.DownProjIdeal.main_arg4))
      ∧ θ_run (Cert.DownProjRefIdeal.defs (F := Ideal)) (onTc (τ := Cert.DownProjRefIdeal.τ) (Cert.DownProjRefIdeal.main (F := Ideal))) ⟨m', fun _ => 0, g'⟩ (fun r => ∀ c : Dev Cert.DownProjRefIdeal.nD,
          r.2.mem ((c.tc : Thread Cert.DownProjRefIdeal.nD Cert.DownProjRefIdeal.τ).loc Cert.DownProjRefIdeal.main_v52) = v0 c
          ∧ r.2.mem ((c.tc : Thread Cert.DownProjRefIdeal.nD Cert.DownProjRefIdeal.τ).loc Cert.DownProjRefIdeal.main_v36) = v1 c
          ∧ r.2.mem ((c.tc : Thread Cert.DownProjRefIdeal.nD Cert.DownProjRefIdeal.τ).loc Cert.DownProjRefIdeal.main_v53) = v2 c
          ∧ r.2.mem ((c.tc : Thread Cert.DownProjRefIdeal.nD Cert.DownProjRefIdeal.τ).loc Cert.DownProjRefIdeal.main_arg0) = m' ((c.tc : Thread Cert.DownProjRefIdeal.nD Cert.DownProjRefIdeal.τ).loc Cert.DownProjRefIdeal.main_arg0)
          ∧ r.2.mem ((c.tc : Thread Cert.DownProjRefIdeal.nD Cert.DownProjRefIdeal.τ).loc Cert.DownProjRefIdeal.main_arg1) = m' ((c.tc : Thread Cert.DownProjRefIdeal.nD Cert.DownProjRefIdeal.τ).loc Cert.DownProjRefIdeal.main_arg1)
          ∧ r.2.mem ((c.tc : Thread Cert.DownProjRefIdeal.nD Cert.DownProjRefIdeal.τ).loc Cert.DownProjRefIdeal.main_arg2) = m' ((c.tc : Thread Cert.DownProjRefIdeal.nD Cert.DownProjRefIdeal.τ).loc Cert.DownProjRefIdeal.main_arg2)
          ∧ r.2.mem ((c.tc : Thread Cert.DownProjRefIdeal.nD Cert.DownProjRefIdeal.τ).loc Cert.DownProjRefIdeal.main_arg3) = m' ((c.tc : Thread Cert.DownProjRefIdeal.nD Cert.DownProjRefIdeal.τ).loc Cert.DownProjRefIdeal.main_arg3)
          ∧ r.2.mem ((c.tc : Thread Cert.DownProjRefIdeal.nD Cert.DownProjRefIdeal.τ).loc Cert.DownProjRefIdeal.main_arg4) = m' ((c.tc : Thread Cert.DownProjRefIdeal.nD Cert.DownProjRefIdeal.τ).loc Cert.DownProjRefIdeal.main_arg4))

def preserves_AdamwIn_AdamwInIdeal : Prop :=
  True

def algebraic_AdamwInIdeal_AdamwInRefIdeal [hAdamwInIdeal : Cert.AdamwInIdeal.Facts] [hAdamwInRefIdeal : Cert.AdamwInRefIdeal.Facts] [hPre_on_the_mesh_in : Cert.Pre_on_the_mesh_in.Facts] : Prop :=
  ∀ (m : (ℓ : Loc Cert.AdamwInIdeal.nD Cert.AdamwInIdeal.τ Cert.AdamwInIdeal.sig) → Buf (Elt Ideal) ℓ) (g : Dev Cert.AdamwInIdeal.nD → PrngReg)
    (m' : (ℓ : Loc Cert.AdamwInRefIdeal.nD Cert.AdamwInRefIdeal.τ Cert.AdamwInRefIdeal.sig) → Buf (Elt Ideal) ℓ) (g' : Dev Cert.AdamwInRefIdeal.nD → PrngReg), Pre_AdamwInIdeal m →
    (∀ c : Dev Cert.AdamwInIdeal.nD,
      m' ((c.tc : Thread Cert.AdamwInRefIdeal.nD Cert.AdamwInRefIdeal.τ).loc Cert.AdamwInRefIdeal.main_arg0) = m ((c.tc : Thread Cert.AdamwInIdeal.nD Cert.AdamwInIdeal.τ).loc Cert.AdamwInIdeal.main_arg0)
      ∧ m' ((c.tc : Thread Cert.AdamwInRefIdeal.nD Cert.AdamwInRefIdeal.τ).loc Cert.AdamwInRefIdeal.main_arg1) = m ((c.tc : Thread Cert.AdamwInIdeal.nD Cert.AdamwInIdeal.τ).loc Cert.AdamwInIdeal.main_arg1)
      ∧ m' ((c.tc : Thread Cert.AdamwInRefIdeal.nD Cert.AdamwInRefIdeal.τ).loc Cert.AdamwInRefIdeal.main_arg2) = m ((c.tc : Thread Cert.AdamwInIdeal.nD Cert.AdamwInIdeal.τ).loc Cert.AdamwInIdeal.main_arg2)
      ∧ m' ((c.tc : Thread Cert.AdamwInRefIdeal.nD Cert.AdamwInRefIdeal.τ).loc Cert.AdamwInRefIdeal.main_arg3) = m ((c.tc : Thread Cert.AdamwInIdeal.nD Cert.AdamwInIdeal.τ).loc Cert.AdamwInIdeal.main_arg3)
      ∧ m' ((c.tc : Thread Cert.AdamwInRefIdeal.nD Cert.AdamwInRefIdeal.τ).loc Cert.AdamwInRefIdeal.main_arg4) = m ((c.tc : Thread Cert.AdamwInIdeal.nD Cert.AdamwInIdeal.τ).loc Cert.AdamwInIdeal.main_arg4)
      ∧ m' ((c.tc : Thread Cert.AdamwInRefIdeal.nD Cert.AdamwInRefIdeal.τ).loc Cert.AdamwInRefIdeal.main_arg5) = m ((c.tc : Thread Cert.AdamwInIdeal.nD Cert.AdamwInIdeal.τ).loc Cert.AdamwInIdeal.main_arg5)) →
    ∃ (v0 : (c : Dev Cert.AdamwInIdeal.nD) → Buf (Elt Ideal) ((c.tc : Thread Cert.AdamwInIdeal.nD Cert.AdamwInIdeal.τ).loc Cert.AdamwInIdeal.main_v0_0)) (v1 : (c : Dev Cert.AdamwInIdeal.nD) → Buf (Elt Ideal) ((c.tc : Thread Cert.AdamwInIdeal.nD Cert.AdamwInIdeal.τ).loc Cert.AdamwInIdeal.main_v0_1)) (v2 : (c : Dev Cert.AdamwInIdeal.nD) → Buf (Elt Ideal) ((c.tc : Thread Cert.AdamwInIdeal.nD Cert.AdamwInIdeal.τ).loc Cert.AdamwInIdeal.main_v0_2)) (v3 : (c : Dev Cert.AdamwInIdeal.nD) → Buf (Elt Ideal) ((c.tc : Thread Cert.AdamwInIdeal.nD Cert.AdamwInIdeal.τ).loc Cert.AdamwInIdeal.main_v0_3)),
      θ_run (Cert.AdamwInIdeal.defs (F := Ideal)) (onTc (τ := Cert.AdamwInIdeal.τ) (Cert.AdamwInIdeal.main (F := Ideal))) ⟨m, fun _ => 0, g⟩ (fun r => ∀ c : Dev Cert.AdamwInIdeal.nD,
          r.2.mem ((c.tc : Thread Cert.AdamwInIdeal.nD Cert.AdamwInIdeal.τ).loc Cert.AdamwInIdeal.main_v0_0) = v0 c
          ∧ r.2.mem ((c.tc : Thread Cert.AdamwInIdeal.nD Cert.AdamwInIdeal.τ).loc Cert.AdamwInIdeal.main_v0_1) = v1 c
          ∧ r.2.mem ((c.tc : Thread Cert.AdamwInIdeal.nD Cert.AdamwInIdeal.τ).loc Cert.AdamwInIdeal.main_v0_2) = v2 c
          ∧ r.2.mem ((c.tc : Thread Cert.AdamwInIdeal.nD Cert.AdamwInIdeal.τ).loc Cert.AdamwInIdeal.main_v0_3) = v3 c
          ∧ r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
          ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
          ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
          ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3)
          ∧ r.2.mem ((c.tc : Thread Cert.AdamwInIdeal.nD Cert.AdamwInIdeal.τ).loc Cert.AdamwInIdeal.main_arg4) = m ((c.tc : Thread Cert.AdamwInIdeal.nD Cert.AdamwInIdeal.τ).loc Cert.AdamwInIdeal.main_arg4)
          ∧ r.2.mem ((c.tc : Thread Cert.AdamwInIdeal.nD Cert.AdamwInIdeal.τ).loc Cert.AdamwInIdeal.main_arg5) = m ((c.tc : Thread Cert.AdamwInIdeal.nD Cert.AdamwInIdeal.τ).loc Cert.AdamwInIdeal.main_arg5))
      ∧ θ_run (Cert.AdamwInRefIdeal.defs (F := Ideal)) (onTc (τ := Cert.AdamwInRefIdeal.τ) (Cert.AdamwInRefIdeal.main (F := Ideal))) ⟨m', fun _ => 0, g'⟩ (fun r => ∀ c : Dev Cert.AdamwInRefIdeal.nD,
          r.2.mem ((c.tc : Thread Cert.AdamwInRefIdeal.nD Cert.AdamwInRefIdeal.τ).loc Cert.AdamwInRefIdeal.main_v5) = v0 c
          ∧ r.2.mem ((c.tc : Thread Cert.AdamwInRefIdeal.nD Cert.AdamwInRefIdeal.τ).loc Cert.AdamwInRefIdeal.main_v29) = v1 c
          ∧ r.2.mem ((c.tc : Thread Cert.AdamwInRefIdeal.nD Cert.AdamwInRefIdeal.τ).loc Cert.AdamwInRefIdeal.main_v10) = v2 c
          ∧ r.2.mem ((c.tc : Thread Cert.AdamwInRefIdeal.nD Cert.AdamwInRefIdeal.τ).loc Cert.AdamwInRefIdeal.main_v16) = v3 c
          ∧ r.2.mem ((c.tc : Thread Cert.AdamwInRefIdeal.nD Cert.AdamwInRefIdeal.τ).loc Cert.AdamwInRefIdeal.main_arg0) = m' ((c.tc : Thread Cert.AdamwInRefIdeal.nD Cert.AdamwInRefIdeal.τ).loc Cert.AdamwInRefIdeal.main_arg0)
          ∧ r.2.mem ((c.tc : Thread Cert.AdamwInRefIdeal.nD Cert.AdamwInRefIdeal.τ).loc Cert.AdamwInRefIdeal.main_arg1) = m' ((c.tc : Thread Cert.AdamwInRefIdeal.nD Cert.AdamwInRefIdeal.τ).loc Cert.AdamwInRefIdeal.main_arg1)
          ∧ r.2.mem ((c.tc : Thread Cert.AdamwInRefIdeal.nD Cert.AdamwInRefIdeal.τ).loc Cert.AdamwInRefIdeal.main_arg2) = m' ((c.tc : Thread Cert.AdamwInRefIdeal.nD Cert.AdamwInRefIdeal.τ).loc Cert.AdamwInRefIdeal.main_arg2)
          ∧ r.2.mem ((c.tc : Thread Cert.AdamwInRefIdeal.nD Cert.AdamwInRefIdeal.τ).loc Cert.AdamwInRefIdeal.main_arg3) = m' ((c.tc : Thread Cert.AdamwInRefIdeal.nD Cert.AdamwInRefIdeal.τ).loc Cert.AdamwInRefIdeal.main_arg3)
          ∧ r.2.mem ((c.tc : Thread Cert.AdamwInRefIdeal.nD Cert.AdamwInRefIdeal.τ).loc Cert.AdamwInRefIdeal.main_arg4) = m' ((c.tc : Thread Cert.AdamwInRefIdeal.nD Cert.AdamwInRefIdeal.τ).loc Cert.AdamwInRefIdeal.main_arg4)
          ∧ r.2.mem ((c.tc : Thread Cert.AdamwInRefIdeal.nD Cert.AdamwInRefIdeal.τ).loc Cert.AdamwInRefIdeal.main_arg5) = m' ((c.tc : Thread Cert.AdamwInRefIdeal.nD Cert.AdamwInRefIdeal.τ).loc Cert.AdamwInRefIdeal.main_arg5))

def preserves_AdamwUp_AdamwUpIdeal : Prop :=
  True

def algebraic_AdamwUpIdeal_AdamwUpRefIdeal [hAdamwUpIdeal : Cert.AdamwUpIdeal.Facts] [hAdamwUpRefIdeal : Cert.AdamwUpRefIdeal.Facts] [hPre_on_the_mesh_up : Cert.Pre_on_the_mesh_up.Facts] : Prop :=
  ∀ (m : (ℓ : Loc Cert.AdamwUpIdeal.nD Cert.AdamwUpIdeal.τ Cert.AdamwUpIdeal.sig) → Buf (Elt Ideal) ℓ) (g : Dev Cert.AdamwUpIdeal.nD → PrngReg)
    (m' : (ℓ : Loc Cert.AdamwUpRefIdeal.nD Cert.AdamwUpRefIdeal.τ Cert.AdamwUpRefIdeal.sig) → Buf (Elt Ideal) ℓ) (g' : Dev Cert.AdamwUpRefIdeal.nD → PrngReg), Pre_AdamwUpIdeal m →
    (∀ c : Dev Cert.AdamwUpIdeal.nD,
      m' ((c.tc : Thread Cert.AdamwUpRefIdeal.nD Cert.AdamwUpRefIdeal.τ).loc Cert.AdamwUpRefIdeal.main_arg0) = m ((c.tc : Thread Cert.AdamwUpIdeal.nD Cert.AdamwUpIdeal.τ).loc Cert.AdamwUpIdeal.main_arg0)
      ∧ m' ((c.tc : Thread Cert.AdamwUpRefIdeal.nD Cert.AdamwUpRefIdeal.τ).loc Cert.AdamwUpRefIdeal.main_arg1) = m ((c.tc : Thread Cert.AdamwUpIdeal.nD Cert.AdamwUpIdeal.τ).loc Cert.AdamwUpIdeal.main_arg1)
      ∧ m' ((c.tc : Thread Cert.AdamwUpRefIdeal.nD Cert.AdamwUpRefIdeal.τ).loc Cert.AdamwUpRefIdeal.main_arg2) = m ((c.tc : Thread Cert.AdamwUpIdeal.nD Cert.AdamwUpIdeal.τ).loc Cert.AdamwUpIdeal.main_arg2)
      ∧ m' ((c.tc : Thread Cert.AdamwUpRefIdeal.nD Cert.AdamwUpRefIdeal.τ).loc Cert.AdamwUpRefIdeal.main_arg3) = m ((c.tc : Thread Cert.AdamwUpIdeal.nD Cert.AdamwUpIdeal.τ).loc Cert.AdamwUpIdeal.main_arg3)
      ∧ m' ((c.tc : Thread Cert.AdamwUpRefIdeal.nD Cert.AdamwUpRefIdeal.τ).loc Cert.AdamwUpRefIdeal.main_arg4) = m ((c.tc : Thread Cert.AdamwUpIdeal.nD Cert.AdamwUpIdeal.τ).loc Cert.AdamwUpIdeal.main_arg4)
      ∧ m' ((c.tc : Thread Cert.AdamwUpRefIdeal.nD Cert.AdamwUpRefIdeal.τ).loc Cert.AdamwUpRefIdeal.main_arg5) = m ((c.tc : Thread Cert.AdamwUpIdeal.nD Cert.AdamwUpIdeal.τ).loc Cert.AdamwUpIdeal.main_arg5)) →
    ∃ (v0 : (c : Dev Cert.AdamwUpIdeal.nD) → Buf (Elt Ideal) ((c.tc : Thread Cert.AdamwUpIdeal.nD Cert.AdamwUpIdeal.τ).loc Cert.AdamwUpIdeal.main_v0_0)) (v1 : (c : Dev Cert.AdamwUpIdeal.nD) → Buf (Elt Ideal) ((c.tc : Thread Cert.AdamwUpIdeal.nD Cert.AdamwUpIdeal.τ).loc Cert.AdamwUpIdeal.main_v0_1)) (v2 : (c : Dev Cert.AdamwUpIdeal.nD) → Buf (Elt Ideal) ((c.tc : Thread Cert.AdamwUpIdeal.nD Cert.AdamwUpIdeal.τ).loc Cert.AdamwUpIdeal.main_v0_2)) (v3 : (c : Dev Cert.AdamwUpIdeal.nD) → Buf (Elt Ideal) ((c.tc : Thread Cert.AdamwUpIdeal.nD Cert.AdamwUpIdeal.τ).loc Cert.AdamwUpIdeal.main_v0_3)),
      θ_run (Cert.AdamwUpIdeal.defs (F := Ideal)) (onTc (τ := Cert.AdamwUpIdeal.τ) (Cert.AdamwUpIdeal.main (F := Ideal))) ⟨m, fun _ => 0, g⟩ (fun r => ∀ c : Dev Cert.AdamwUpIdeal.nD,
          r.2.mem ((c.tc : Thread Cert.AdamwUpIdeal.nD Cert.AdamwUpIdeal.τ).loc Cert.AdamwUpIdeal.main_v0_0) = v0 c
          ∧ r.2.mem ((c.tc : Thread Cert.AdamwUpIdeal.nD Cert.AdamwUpIdeal.τ).loc Cert.AdamwUpIdeal.main_v0_1) = v1 c
          ∧ r.2.mem ((c.tc : Thread Cert.AdamwUpIdeal.nD Cert.AdamwUpIdeal.τ).loc Cert.AdamwUpIdeal.main_v0_2) = v2 c
          ∧ r.2.mem ((c.tc : Thread Cert.AdamwUpIdeal.nD Cert.AdamwUpIdeal.τ).loc Cert.AdamwUpIdeal.main_v0_3) = v3 c
          ∧ r.2.mem ((c.tc : Thread Cert.AdamwUpIdeal.nD Cert.AdamwUpIdeal.τ).loc Cert.AdamwUpIdeal.main_arg0) = m ((c.tc : Thread Cert.AdamwUpIdeal.nD Cert.AdamwUpIdeal.τ).loc Cert.AdamwUpIdeal.main_arg0)
          ∧ r.2.mem ((c.tc : Thread Cert.AdamwUpIdeal.nD Cert.AdamwUpIdeal.τ).loc Cert.AdamwUpIdeal.main_arg1) = m ((c.tc : Thread Cert.AdamwUpIdeal.nD Cert.AdamwUpIdeal.τ).loc Cert.AdamwUpIdeal.main_arg1)
          ∧ r.2.mem ((c.tc : Thread Cert.AdamwUpIdeal.nD Cert.AdamwUpIdeal.τ).loc Cert.AdamwUpIdeal.main_arg2) = m ((c.tc : Thread Cert.AdamwUpIdeal.nD Cert.AdamwUpIdeal.τ).loc Cert.AdamwUpIdeal.main_arg2)
          ∧ r.2.mem ((c.tc : Thread Cert.AdamwUpIdeal.nD Cert.AdamwUpIdeal.τ).loc Cert.AdamwUpIdeal.main_arg3) = m ((c.tc : Thread Cert.AdamwUpIdeal.nD Cert.AdamwUpIdeal.τ).loc Cert.AdamwUpIdeal.main_arg3)
          ∧ r.2.mem ((c.tc : Thread Cert.AdamwUpIdeal.nD Cert.AdamwUpIdeal.τ).loc Cert.AdamwUpIdeal.main_arg4) = m ((c.tc : Thread Cert.AdamwUpIdeal.nD Cert.AdamwUpIdeal.τ).loc Cert.AdamwUpIdeal.main_arg4)
          ∧ r.2.mem ((c.tc : Thread Cert.AdamwUpIdeal.nD Cert.AdamwUpIdeal.τ).loc Cert.AdamwUpIdeal.main_arg5) = m ((c.tc : Thread Cert.AdamwUpIdeal.nD Cert.AdamwUpIdeal.τ).loc Cert.AdamwUpIdeal.main_arg5))
      ∧ θ_run (Cert.AdamwUpRefIdeal.defs (F := Ideal)) (onTc (τ := Cert.AdamwUpRefIdeal.τ) (Cert.AdamwUpRefIdeal.main (F := Ideal))) ⟨m', fun _ => 0, g'⟩ (fun r => ∀ c : Dev Cert.AdamwUpRefIdeal.nD,
          r.2.mem ((c.tc : Thread Cert.AdamwUpRefIdeal.nD Cert.AdamwUpRefIdeal.τ).loc Cert.AdamwUpRefIdeal.main_v5) = v0 c
          ∧ r.2.mem ((c.tc : Thread Cert.AdamwUpRefIdeal.nD Cert.AdamwUpRefIdeal.τ).loc Cert.AdamwUpRefIdeal.main_v29) = v1 c
          ∧ r.2.mem ((c.tc : Thread Cert.AdamwUpRefIdeal.nD Cert.AdamwUpRefIdeal.τ).loc Cert.AdamwUpRefIdeal.main_v10) = v2 c
          ∧ r.2.mem ((c.tc : Thread Cert.AdamwUpRefIdeal.nD Cert.AdamwUpRefIdeal.τ).loc Cert.AdamwUpRefIdeal.main_v16) = v3 c
          ∧ r.2.mem ((c.tc : Thread Cert.AdamwUpRefIdeal.nD Cert.AdamwUpRefIdeal.τ).loc Cert.AdamwUpRefIdeal.main_arg0) = m' ((c.tc : Thread Cert.AdamwUpRefIdeal.nD Cert.AdamwUpRefIdeal.τ).loc Cert.AdamwUpRefIdeal.main_arg0)
          ∧ r.2.mem ((c.tc : Thread Cert.AdamwUpRefIdeal.nD Cert.AdamwUpRefIdeal.τ).loc Cert.AdamwUpRefIdeal.main_arg1) = m' ((c.tc : Thread Cert.AdamwUpRefIdeal.nD Cert.AdamwUpRefIdeal.τ).loc Cert.AdamwUpRefIdeal.main_arg1)
          ∧ r.2.mem ((c.tc : Thread Cert.AdamwUpRefIdeal.nD Cert.AdamwUpRefIdeal.τ).loc Cert.AdamwUpRefIdeal.main_arg2) = m' ((c.tc : Thread Cert.AdamwUpRefIdeal.nD Cert.AdamwUpRefIdeal.τ).loc Cert.AdamwUpRefIdeal.main_arg2)
          ∧ r.2.mem ((c.tc : Thread Cert.AdamwUpRefIdeal.nD Cert.AdamwUpRefIdeal.τ).loc Cert.AdamwUpRefIdeal.main_arg3) = m' ((c.tc : Thread Cert.AdamwUpRefIdeal.nD Cert.AdamwUpRefIdeal.τ).loc Cert.AdamwUpRefIdeal.main_arg3)
          ∧ r.2.mem ((c.tc : Thread Cert.AdamwUpRefIdeal.nD Cert.AdamwUpRefIdeal.τ).loc Cert.AdamwUpRefIdeal.main_arg4) = m' ((c.tc : Thread Cert.AdamwUpRefIdeal.nD Cert.AdamwUpRefIdeal.τ).loc Cert.AdamwUpRefIdeal.main_arg4)
          ∧ r.2.mem ((c.tc : Thread Cert.AdamwUpRefIdeal.nD Cert.AdamwUpRefIdeal.τ).loc Cert.AdamwUpRefIdeal.main_arg5) = m' ((c.tc : Thread Cert.AdamwUpRefIdeal.nD Cert.AdamwUpRefIdeal.τ).loc Cert.AdamwUpRefIdeal.main_arg5))

def preserves_AdamwDown_AdamwDownIdeal : Prop :=
  True

def algebraic_AdamwDownIdeal_AdamwDownRefIdeal [hAdamwDownIdeal : Cert.AdamwDownIdeal.Facts] [hAdamwDownRefIdeal : Cert.AdamwDownRefIdeal.Facts] [hPre_on_the_mesh_down : Cert.Pre_on_the_mesh_down.Facts] : Prop :=
  ∀ (m : (ℓ : Loc Cert.AdamwDownIdeal.nD Cert.AdamwDownIdeal.τ Cert.AdamwDownIdeal.sig) → Buf (Elt Ideal) ℓ) (g : Dev Cert.AdamwDownIdeal.nD → PrngReg)
    (m' : (ℓ : Loc Cert.AdamwDownRefIdeal.nD Cert.AdamwDownRefIdeal.τ Cert.AdamwDownRefIdeal.sig) → Buf (Elt Ideal) ℓ) (g' : Dev Cert.AdamwDownRefIdeal.nD → PrngReg), Pre_AdamwDownIdeal m →
    (∀ c : Dev Cert.AdamwDownIdeal.nD,
      m' ((c.tc : Thread Cert.AdamwDownRefIdeal.nD Cert.AdamwDownRefIdeal.τ).loc Cert.AdamwDownRefIdeal.main_arg0) = m ((c.tc : Thread Cert.AdamwDownIdeal.nD Cert.AdamwDownIdeal.τ).loc Cert.AdamwDownIdeal.main_arg0)
      ∧ m' ((c.tc : Thread Cert.AdamwDownRefIdeal.nD Cert.AdamwDownRefIdeal.τ).loc Cert.AdamwDownRefIdeal.main_arg1) = m ((c.tc : Thread Cert.AdamwDownIdeal.nD Cert.AdamwDownIdeal.τ).loc Cert.AdamwDownIdeal.main_arg1)
      ∧ m' ((c.tc : Thread Cert.AdamwDownRefIdeal.nD Cert.AdamwDownRefIdeal.τ).loc Cert.AdamwDownRefIdeal.main_arg2) = m ((c.tc : Thread Cert.AdamwDownIdeal.nD Cert.AdamwDownIdeal.τ).loc Cert.AdamwDownIdeal.main_arg2)
      ∧ m' ((c.tc : Thread Cert.AdamwDownRefIdeal.nD Cert.AdamwDownRefIdeal.τ).loc Cert.AdamwDownRefIdeal.main_arg3) = m ((c.tc : Thread Cert.AdamwDownIdeal.nD Cert.AdamwDownIdeal.τ).loc Cert.AdamwDownIdeal.main_arg3)
      ∧ m' ((c.tc : Thread Cert.AdamwDownRefIdeal.nD Cert.AdamwDownRefIdeal.τ).loc Cert.AdamwDownRefIdeal.main_arg4) = m ((c.tc : Thread Cert.AdamwDownIdeal.nD Cert.AdamwDownIdeal.τ).loc Cert.AdamwDownIdeal.main_arg4)
      ∧ m' ((c.tc : Thread Cert.AdamwDownRefIdeal.nD Cert.AdamwDownRefIdeal.τ).loc Cert.AdamwDownRefIdeal.main_arg5) = m ((c.tc : Thread Cert.AdamwDownIdeal.nD Cert.AdamwDownIdeal.τ).loc Cert.AdamwDownIdeal.main_arg5)) →
    ∃ (v0 : (c : Dev Cert.AdamwDownIdeal.nD) → Buf (Elt Ideal) ((c.tc : Thread Cert.AdamwDownIdeal.nD Cert.AdamwDownIdeal.τ).loc Cert.AdamwDownIdeal.main_v0_0)) (v1 : (c : Dev Cert.AdamwDownIdeal.nD) → Buf (Elt Ideal) ((c.tc : Thread Cert.AdamwDownIdeal.nD Cert.AdamwDownIdeal.τ).loc Cert.AdamwDownIdeal.main_v0_1)) (v2 : (c : Dev Cert.AdamwDownIdeal.nD) → Buf (Elt Ideal) ((c.tc : Thread Cert.AdamwDownIdeal.nD Cert.AdamwDownIdeal.τ).loc Cert.AdamwDownIdeal.main_v0_2)) (v3 : (c : Dev Cert.AdamwDownIdeal.nD) → Buf (Elt Ideal) ((c.tc : Thread Cert.AdamwDownIdeal.nD Cert.AdamwDownIdeal.τ).loc Cert.AdamwDownIdeal.main_v0_3)),
      θ_run (Cert.AdamwDownIdeal.defs (F := Ideal)) (onTc (τ := Cert.AdamwDownIdeal.τ) (Cert.AdamwDownIdeal.main (F := Ideal))) ⟨m, fun _ => 0, g⟩ (fun r => ∀ c : Dev Cert.AdamwDownIdeal.nD,
          r.2.mem ((c.tc : Thread Cert.AdamwDownIdeal.nD Cert.AdamwDownIdeal.τ).loc Cert.AdamwDownIdeal.main_v0_0) = v0 c
          ∧ r.2.mem ((c.tc : Thread Cert.AdamwDownIdeal.nD Cert.AdamwDownIdeal.τ).loc Cert.AdamwDownIdeal.main_v0_1) = v1 c
          ∧ r.2.mem ((c.tc : Thread Cert.AdamwDownIdeal.nD Cert.AdamwDownIdeal.τ).loc Cert.AdamwDownIdeal.main_v0_2) = v2 c
          ∧ r.2.mem ((c.tc : Thread Cert.AdamwDownIdeal.nD Cert.AdamwDownIdeal.τ).loc Cert.AdamwDownIdeal.main_v0_3) = v3 c
          ∧ r.2.mem ((c.tc : Thread Cert.AdamwDownIdeal.nD Cert.AdamwDownIdeal.τ).loc Cert.AdamwDownIdeal.main_arg0) = m ((c.tc : Thread Cert.AdamwDownIdeal.nD Cert.AdamwDownIdeal.τ).loc Cert.AdamwDownIdeal.main_arg0)
          ∧ r.2.mem ((c.tc : Thread Cert.AdamwDownIdeal.nD Cert.AdamwDownIdeal.τ).loc Cert.AdamwDownIdeal.main_arg1) = m ((c.tc : Thread Cert.AdamwDownIdeal.nD Cert.AdamwDownIdeal.τ).loc Cert.AdamwDownIdeal.main_arg1)
          ∧ r.2.mem ((c.tc : Thread Cert.AdamwDownIdeal.nD Cert.AdamwDownIdeal.τ).loc Cert.AdamwDownIdeal.main_arg2) = m ((c.tc : Thread Cert.AdamwDownIdeal.nD Cert.AdamwDownIdeal.τ).loc Cert.AdamwDownIdeal.main_arg2)
          ∧ r.2.mem ((c.tc : Thread Cert.AdamwDownIdeal.nD Cert.AdamwDownIdeal.τ).loc Cert.AdamwDownIdeal.main_arg3) = m ((c.tc : Thread Cert.AdamwDownIdeal.nD Cert.AdamwDownIdeal.τ).loc Cert.AdamwDownIdeal.main_arg3)
          ∧ r.2.mem ((c.tc : Thread Cert.AdamwDownIdeal.nD Cert.AdamwDownIdeal.τ).loc Cert.AdamwDownIdeal.main_arg4) = m ((c.tc : Thread Cert.AdamwDownIdeal.nD Cert.AdamwDownIdeal.τ).loc Cert.AdamwDownIdeal.main_arg4)
          ∧ r.2.mem ((c.tc : Thread Cert.AdamwDownIdeal.nD Cert.AdamwDownIdeal.τ).loc Cert.AdamwDownIdeal.main_arg5) = m ((c.tc : Thread Cert.AdamwDownIdeal.nD Cert.AdamwDownIdeal.τ).loc Cert.AdamwDownIdeal.main_arg5))
      ∧ θ_run (Cert.AdamwDownRefIdeal.defs (F := Ideal)) (onTc (τ := Cert.AdamwDownRefIdeal.τ) (Cert.AdamwDownRefIdeal.main (F := Ideal))) ⟨m', fun _ => 0, g'⟩ (fun r => ∀ c : Dev Cert.AdamwDownRefIdeal.nD,
          r.2.mem ((c.tc : Thread Cert.AdamwDownRefIdeal.nD Cert.AdamwDownRefIdeal.τ).loc Cert.AdamwDownRefIdeal.main_v5) = v0 c
          ∧ r.2.mem ((c.tc : Thread Cert.AdamwDownRefIdeal.nD Cert.AdamwDownRefIdeal.τ).loc Cert.AdamwDownRefIdeal.main_v29) = v1 c
          ∧ r.2.mem ((c.tc : Thread Cert.AdamwDownRefIdeal.nD Cert.AdamwDownRefIdeal.τ).loc Cert.AdamwDownRefIdeal.main_v10) = v2 c
          ∧ r.2.mem ((c.tc : Thread Cert.AdamwDownRefIdeal.nD Cert.AdamwDownRefIdeal.τ).loc Cert.AdamwDownRefIdeal.main_v16) = v3 c
          ∧ r.2.mem ((c.tc : Thread Cert.AdamwDownRefIdeal.nD Cert.AdamwDownRefIdeal.τ).loc Cert.AdamwDownRefIdeal.main_arg0) = m' ((c.tc : Thread Cert.AdamwDownRefIdeal.nD Cert.AdamwDownRefIdeal.τ).loc Cert.AdamwDownRefIdeal.main_arg0)
          ∧ r.2.mem ((c.tc : Thread Cert.AdamwDownRefIdeal.nD Cert.AdamwDownRefIdeal.τ).loc Cert.AdamwDownRefIdeal.main_arg1) = m' ((c.tc : Thread Cert.AdamwDownRefIdeal.nD Cert.AdamwDownRefIdeal.τ).loc Cert.AdamwDownRefIdeal.main_arg1)
          ∧ r.2.mem ((c.tc : Thread Cert.AdamwDownRefIdeal.nD Cert.AdamwDownRefIdeal.τ).loc Cert.AdamwDownRefIdeal.main_arg2) = m' ((c.tc : Thread Cert.AdamwDownRefIdeal.nD Cert.AdamwDownRefIdeal.τ).loc Cert.AdamwDownRefIdeal.main_arg2)
          ∧ r.2.mem ((c.tc : Thread Cert.AdamwDownRefIdeal.nD Cert.AdamwDownRefIdeal.τ).loc Cert.AdamwDownRefIdeal.main_arg3) = m' ((c.tc : Thread Cert.AdamwDownRefIdeal.nD Cert.AdamwDownRefIdeal.τ).loc Cert.AdamwDownRefIdeal.main_arg3)
          ∧ r.2.mem ((c.tc : Thread Cert.AdamwDownRefIdeal.nD Cert.AdamwDownRefIdeal.τ).loc Cert.AdamwDownRefIdeal.main_arg4) = m' ((c.tc : Thread Cert.AdamwDownRefIdeal.nD Cert.AdamwDownRefIdeal.τ).loc Cert.AdamwDownRefIdeal.main_arg4)
          ∧ r.2.mem ((c.tc : Thread Cert.AdamwDownRefIdeal.nD Cert.AdamwDownRefIdeal.τ).loc Cert.AdamwDownRefIdeal.main_arg5) = m' ((c.tc : Thread Cert.AdamwDownRefIdeal.nD Cert.AdamwDownRefIdeal.τ).loc Cert.AdamwDownRefIdeal.main_arg5))

def preserves_AdamwOut_AdamwOutIdeal : Prop :=
  True

def algebraic_AdamwOutIdeal_AdamwOutRefIdeal [hAdamwOutIdeal : Cert.AdamwOutIdeal.Facts] [hAdamwOutRefIdeal : Cert.AdamwOutRefIdeal.Facts] [hPre_on_the_mesh_out : Cert.Pre_on_the_mesh_out.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg)
    (m' : (ℓ : Loc Cert.AdamwOutRefIdeal.nD Cert.AdamwOutRefIdeal.τ Cert.AdamwOutRefIdeal.sig) → Buf (Elt Ideal) ℓ) (g' : Dev Cert.AdamwOutRefIdeal.nD → PrngReg), Pre_AdamwOutIdeal m →
    (∀ c : Dev Cert.AdamwOutIdeal.nD,
      m' ((c.tc : Thread Cert.AdamwOutRefIdeal.nD Cert.AdamwOutRefIdeal.τ).loc Cert.AdamwOutRefIdeal.main_arg0) = m ((c.tc : Thread Cert.AdamwOutIdeal.nD Cert.AdamwOutIdeal.τ).loc Cert.AdamwOutIdeal.main_arg0)
      ∧ m' ((c.tc : Thread Cert.AdamwOutRefIdeal.nD Cert.AdamwOutRefIdeal.τ).loc Cert.AdamwOutRefIdeal.main_arg1) = m ((c.tc : Thread Cert.AdamwOutIdeal.nD Cert.AdamwOutIdeal.τ).loc Cert.AdamwOutIdeal.main_arg1)
      ∧ m' ((c.tc : Thread Cert.AdamwOutRefIdeal.nD Cert.AdamwOutRefIdeal.τ).loc Cert.AdamwOutRefIdeal.main_arg2) = m ((c.tc : Thread Cert.AdamwOutIdeal.nD Cert.AdamwOutIdeal.τ).loc Cert.AdamwOutIdeal.main_arg2)
      ∧ m' ((c.tc : Thread Cert.AdamwOutRefIdeal.nD Cert.AdamwOutRefIdeal.τ).loc Cert.AdamwOutRefIdeal.main_arg3) = m ((c.tc : Thread Cert.AdamwOutIdeal.nD Cert.AdamwOutIdeal.τ).loc Cert.AdamwOutIdeal.main_arg3)
      ∧ m' ((c.tc : Thread Cert.AdamwOutRefIdeal.nD Cert.AdamwOutRefIdeal.τ).loc Cert.AdamwOutRefIdeal.main_arg4) = m ((c.tc : Thread Cert.AdamwOutIdeal.nD Cert.AdamwOutIdeal.τ).loc Cert.AdamwOutIdeal.main_arg4)
      ∧ m' ((c.tc : Thread Cert.AdamwOutRefIdeal.nD Cert.AdamwOutRefIdeal.τ).loc Cert.AdamwOutRefIdeal.main_arg5) = m ((c.tc : Thread Cert.AdamwOutIdeal.nD Cert.AdamwOutIdeal.τ).loc Cert.AdamwOutIdeal.main_arg5)) →
    ∃ (v0 : (c : Dev Cert.AdamwOutIdeal.nD) → Buf (Elt Ideal) ((c.tc : Thread Cert.AdamwOutIdeal.nD Cert.AdamwOutIdeal.τ).loc Cert.AdamwOutIdeal.main_v0_0)) (v1 : (c : Dev Cert.AdamwOutIdeal.nD) → Buf (Elt Ideal) ((c.tc : Thread Cert.AdamwOutIdeal.nD Cert.AdamwOutIdeal.τ).loc Cert.AdamwOutIdeal.main_v0_1)) (v2 : (c : Dev Cert.AdamwOutIdeal.nD) → Buf (Elt Ideal) ((c.tc : Thread Cert.AdamwOutIdeal.nD Cert.AdamwOutIdeal.τ).loc Cert.AdamwOutIdeal.main_v0_2)) (v3 : (c : Dev Cert.AdamwOutIdeal.nD) → Buf (Elt Ideal) ((c.tc : Thread Cert.AdamwOutIdeal.nD Cert.AdamwOutIdeal.τ).loc Cert.AdamwOutIdeal.main_v0_3)),
      θ_run (Cert.AdamwOutIdeal.defs (F := Ideal)) (onTc (τ := Cert.AdamwOutIdeal.τ) (Cert.AdamwOutIdeal.main (F := Ideal))) ⟨m, fun _ => 0, g⟩ (fun r => ∀ c : Dev Cert.AdamwOutIdeal.nD,
          r.2.mem ((c.tc : Thread Cert.AdamwOutIdeal.nD Cert.AdamwOutIdeal.τ).loc Cert.AdamwOutIdeal.main_v0_0) = v0 c
          ∧ r.2.mem ((c.tc : Thread Cert.AdamwOutIdeal.nD Cert.AdamwOutIdeal.τ).loc Cert.AdamwOutIdeal.main_v0_1) = v1 c
          ∧ r.2.mem ((c.tc : Thread Cert.AdamwOutIdeal.nD Cert.AdamwOutIdeal.τ).loc Cert.AdamwOutIdeal.main_v0_2) = v2 c
          ∧ r.2.mem ((c.tc : Thread Cert.AdamwOutIdeal.nD Cert.AdamwOutIdeal.τ).loc Cert.AdamwOutIdeal.main_v0_3) = v3 c
          ∧ r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
          ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
          ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
          ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3)
          ∧ r.2.mem ((c.tc : Thread Cert.AdamwOutIdeal.nD Cert.AdamwOutIdeal.τ).loc Cert.AdamwOutIdeal.main_arg4) = m ((c.tc : Thread Cert.AdamwOutIdeal.nD Cert.AdamwOutIdeal.τ).loc Cert.AdamwOutIdeal.main_arg4)
          ∧ r.2.mem ((c.tc : Thread Cert.AdamwOutIdeal.nD Cert.AdamwOutIdeal.τ).loc Cert.AdamwOutIdeal.main_arg5) = m ((c.tc : Thread Cert.AdamwOutIdeal.nD Cert.AdamwOutIdeal.τ).loc Cert.AdamwOutIdeal.main_arg5))
      ∧ θ_run (Cert.AdamwOutRefIdeal.defs (F := Ideal)) (onTc (τ := Cert.AdamwOutRefIdeal.τ) (Cert.AdamwOutRefIdeal.main (F := Ideal))) ⟨m', fun _ => 0, g'⟩ (fun r => ∀ c : Dev Cert.AdamwOutRefIdeal.nD,
          r.2.mem ((c.tc : Thread Cert.AdamwOutRefIdeal.nD Cert.AdamwOutRefIdeal.τ).loc Cert.AdamwOutRefIdeal.main_v5) = v0 c
          ∧ r.2.mem ((c.tc : Thread Cert.AdamwOutRefIdeal.nD Cert.AdamwOutRefIdeal.τ).loc Cert.AdamwOutRefIdeal.main_v29) = v1 c
          ∧ r.2.mem ((c.tc : Thread Cert.AdamwOutRefIdeal.nD Cert.AdamwOutRefIdeal.τ).loc Cert.AdamwOutRefIdeal.main_v10) = v2 c
          ∧ r.2.mem ((c.tc : Thread Cert.AdamwOutRefIdeal.nD Cert.AdamwOutRefIdeal.τ).loc Cert.AdamwOutRefIdeal.main_v16) = v3 c
          ∧ r.2.mem ((c.tc : Thread Cert.AdamwOutRefIdeal.nD Cert.AdamwOutRefIdeal.τ).loc Cert.AdamwOutRefIdeal.main_arg0) = m' ((c.tc : Thread Cert.AdamwOutRefIdeal.nD Cert.AdamwOutRefIdeal.τ).loc Cert.AdamwOutRefIdeal.main_arg0)
          ∧ r.2.mem ((c.tc : Thread Cert.AdamwOutRefIdeal.nD Cert.AdamwOutRefIdeal.τ).loc Cert.AdamwOutRefIdeal.main_arg1) = m' ((c.tc : Thread Cert.AdamwOutRefIdeal.nD Cert.AdamwOutRefIdeal.τ).loc Cert.AdamwOutRefIdeal.main_arg1)
          ∧ r.2.mem ((c.tc : Thread Cert.AdamwOutRefIdeal.nD Cert.AdamwOutRefIdeal.τ).loc Cert.AdamwOutRefIdeal.main_arg2) = m' ((c.tc : Thread Cert.AdamwOutRefIdeal.nD Cert.AdamwOutRefIdeal.τ).loc Cert.AdamwOutRefIdeal.main_arg2)
          ∧ r.2.mem ((c.tc : Thread Cert.AdamwOutRefIdeal.nD Cert.AdamwOutRefIdeal.τ).loc Cert.AdamwOutRefIdeal.main_arg3) = m' ((c.tc : Thread Cert.AdamwOutRefIdeal.nD Cert.AdamwOutRefIdeal.τ).loc Cert.AdamwOutRefIdeal.main_arg3)
          ∧ r.2.mem ((c.tc : Thread Cert.AdamwOutRefIdeal.nD Cert.AdamwOutRefIdeal.τ).loc Cert.AdamwOutRefIdeal.main_arg4) = m' ((c.tc : Thread Cert.AdamwOutRefIdeal.nD Cert.AdamwOutRefIdeal.τ).loc Cert.AdamwOutRefIdeal.main_arg4)
          ∧ r.2.mem ((c.tc : Thread Cert.AdamwOutRefIdeal.nD Cert.AdamwOutRefIdeal.τ).loc Cert.AdamwOutRefIdeal.main_arg5) = m' ((c.tc : Thread Cert.AdamwOutRefIdeal.nD Cert.AdamwOutRefIdeal.τ).loc Cert.AdamwOutRefIdeal.main_arg5))

def preserves_AdamwProj_AdamwProjIdeal : Prop :=
  True

def algebraic_AdamwProjIdeal_AdamwProjRefIdeal [hAdamwProjIdeal : Cert.AdamwProjIdeal.Facts] [hAdamwProjRefIdeal : Cert.AdamwProjRefIdeal.Facts] [hPre_on_the_mesh_proj : Cert.Pre_on_the_mesh_proj.Facts] : Prop :=
  ∀ (m : (ℓ : Loc Cert.AdamwProjIdeal.nD Cert.AdamwProjIdeal.τ Cert.AdamwProjIdeal.sig) → Buf (Elt Ideal) ℓ) (g : Dev Cert.AdamwProjIdeal.nD → PrngReg)
    (m' : (ℓ : Loc Cert.AdamwProjRefIdeal.nD Cert.AdamwProjRefIdeal.τ Cert.AdamwProjRefIdeal.sig) → Buf (Elt Ideal) ℓ) (g' : Dev Cert.AdamwProjRefIdeal.nD → PrngReg), Pre_AdamwProjIdeal m →
    (∀ c : Dev Cert.AdamwProjIdeal.nD,
      m' ((c.tc : Thread Cert.AdamwProjRefIdeal.nD Cert.AdamwProjRefIdeal.τ).loc Cert.AdamwProjRefIdeal.main_arg0) = m ((c.tc : Thread Cert.AdamwProjIdeal.nD Cert.AdamwProjIdeal.τ).loc Cert.AdamwProjIdeal.main_arg0)
      ∧ m' ((c.tc : Thread Cert.AdamwProjRefIdeal.nD Cert.AdamwProjRefIdeal.τ).loc Cert.AdamwProjRefIdeal.main_arg1) = m ((c.tc : Thread Cert.AdamwProjIdeal.nD Cert.AdamwProjIdeal.τ).loc Cert.AdamwProjIdeal.main_arg1)
      ∧ m' ((c.tc : Thread Cert.AdamwProjRefIdeal.nD Cert.AdamwProjRefIdeal.τ).loc Cert.AdamwProjRefIdeal.main_arg2) = m ((c.tc : Thread Cert.AdamwProjIdeal.nD Cert.AdamwProjIdeal.τ).loc Cert.AdamwProjIdeal.main_arg2)
      ∧ m' ((c.tc : Thread Cert.AdamwProjRefIdeal.nD Cert.AdamwProjRefIdeal.τ).loc Cert.AdamwProjRefIdeal.main_arg3) = m ((c.tc : Thread Cert.AdamwProjIdeal.nD Cert.AdamwProjIdeal.τ).loc Cert.AdamwProjIdeal.main_arg3)
      ∧ m' ((c.tc : Thread Cert.AdamwProjRefIdeal.nD Cert.AdamwProjRefIdeal.τ).loc Cert.AdamwProjRefIdeal.main_arg4) = m ((c.tc : Thread Cert.AdamwProjIdeal.nD Cert.AdamwProjIdeal.τ).loc Cert.AdamwProjIdeal.main_arg4)
      ∧ m' ((c.tc : Thread Cert.AdamwProjRefIdeal.nD Cert.AdamwProjRefIdeal.τ).loc Cert.AdamwProjRefIdeal.main_arg5) = m ((c.tc : Thread Cert.AdamwProjIdeal.nD Cert.AdamwProjIdeal.τ).loc Cert.AdamwProjIdeal.main_arg5)) →
    ∃ (v0 : (c : Dev Cert.AdamwProjIdeal.nD) → Buf (Elt Ideal) ((c.tc : Thread Cert.AdamwProjIdeal.nD Cert.AdamwProjIdeal.τ).loc Cert.AdamwProjIdeal.main_v0_0)) (v1 : (c : Dev Cert.AdamwProjIdeal.nD) → Buf (Elt Ideal) ((c.tc : Thread Cert.AdamwProjIdeal.nD Cert.AdamwProjIdeal.τ).loc Cert.AdamwProjIdeal.main_v0_1)) (v2 : (c : Dev Cert.AdamwProjIdeal.nD) → Buf (Elt Ideal) ((c.tc : Thread Cert.AdamwProjIdeal.nD Cert.AdamwProjIdeal.τ).loc Cert.AdamwProjIdeal.main_v0_2)) (v3 : (c : Dev Cert.AdamwProjIdeal.nD) → Buf (Elt Ideal) ((c.tc : Thread Cert.AdamwProjIdeal.nD Cert.AdamwProjIdeal.τ).loc Cert.AdamwProjIdeal.main_v0_3)),
      θ_run (Cert.AdamwProjIdeal.defs (F := Ideal)) (onTc (τ := Cert.AdamwProjIdeal.τ) (Cert.AdamwProjIdeal.main (F := Ideal))) ⟨m, fun _ => 0, g⟩ (fun r => ∀ c : Dev Cert.AdamwProjIdeal.nD,
          r.2.mem ((c.tc : Thread Cert.AdamwProjIdeal.nD Cert.AdamwProjIdeal.τ).loc Cert.AdamwProjIdeal.main_v0_0) = v0 c
          ∧ r.2.mem ((c.tc : Thread Cert.AdamwProjIdeal.nD Cert.AdamwProjIdeal.τ).loc Cert.AdamwProjIdeal.main_v0_1) = v1 c
          ∧ r.2.mem ((c.tc : Thread Cert.AdamwProjIdeal.nD Cert.AdamwProjIdeal.τ).loc Cert.AdamwProjIdeal.main_v0_2) = v2 c
          ∧ r.2.mem ((c.tc : Thread Cert.AdamwProjIdeal.nD Cert.AdamwProjIdeal.τ).loc Cert.AdamwProjIdeal.main_v0_3) = v3 c
          ∧ r.2.mem ((c.tc : Thread Cert.AdamwProjIdeal.nD Cert.AdamwProjIdeal.τ).loc Cert.AdamwProjIdeal.main_arg0) = m ((c.tc : Thread Cert.AdamwProjIdeal.nD Cert.AdamwProjIdeal.τ).loc Cert.AdamwProjIdeal.main_arg0)
          ∧ r.2.mem ((c.tc : Thread Cert.AdamwProjIdeal.nD Cert.AdamwProjIdeal.τ).loc Cert.AdamwProjIdeal.main_arg1) = m ((c.tc : Thread Cert.AdamwProjIdeal.nD Cert.AdamwProjIdeal.τ).loc Cert.AdamwProjIdeal.main_arg1)
          ∧ r.2.mem ((c.tc : Thread Cert.AdamwProjIdeal.nD Cert.AdamwProjIdeal.τ).loc Cert.AdamwProjIdeal.main_arg2) = m ((c.tc : Thread Cert.AdamwProjIdeal.nD Cert.AdamwProjIdeal.τ).loc Cert.AdamwProjIdeal.main_arg2)
          ∧ r.2.mem ((c.tc : Thread Cert.AdamwProjIdeal.nD Cert.AdamwProjIdeal.τ).loc Cert.AdamwProjIdeal.main_arg3) = m ((c.tc : Thread Cert.AdamwProjIdeal.nD Cert.AdamwProjIdeal.τ).loc Cert.AdamwProjIdeal.main_arg3)
          ∧ r.2.mem ((c.tc : Thread Cert.AdamwProjIdeal.nD Cert.AdamwProjIdeal.τ).loc Cert.AdamwProjIdeal.main_arg4) = m ((c.tc : Thread Cert.AdamwProjIdeal.nD Cert.AdamwProjIdeal.τ).loc Cert.AdamwProjIdeal.main_arg4)
          ∧ r.2.mem ((c.tc : Thread Cert.AdamwProjIdeal.nD Cert.AdamwProjIdeal.τ).loc Cert.AdamwProjIdeal.main_arg5) = m ((c.tc : Thread Cert.AdamwProjIdeal.nD Cert.AdamwProjIdeal.τ).loc Cert.AdamwProjIdeal.main_arg5))
      ∧ θ_run (Cert.AdamwProjRefIdeal.defs (F := Ideal)) (onTc (τ := Cert.AdamwProjRefIdeal.τ) (Cert.AdamwProjRefIdeal.main (F := Ideal))) ⟨m', fun _ => 0, g'⟩ (fun r => ∀ c : Dev Cert.AdamwProjRefIdeal.nD,
          r.2.mem ((c.tc : Thread Cert.AdamwProjRefIdeal.nD Cert.AdamwProjRefIdeal.τ).loc Cert.AdamwProjRefIdeal.main_v5) = v0 c
          ∧ r.2.mem ((c.tc : Thread Cert.AdamwProjRefIdeal.nD Cert.AdamwProjRefIdeal.τ).loc Cert.AdamwProjRefIdeal.main_v29) = v1 c
          ∧ r.2.mem ((c.tc : Thread Cert.AdamwProjRefIdeal.nD Cert.AdamwProjRefIdeal.τ).loc Cert.AdamwProjRefIdeal.main_v10) = v2 c
          ∧ r.2.mem ((c.tc : Thread Cert.AdamwProjRefIdeal.nD Cert.AdamwProjRefIdeal.τ).loc Cert.AdamwProjRefIdeal.main_v16) = v3 c
          ∧ r.2.mem ((c.tc : Thread Cert.AdamwProjRefIdeal.nD Cert.AdamwProjRefIdeal.τ).loc Cert.AdamwProjRefIdeal.main_arg0) = m' ((c.tc : Thread Cert.AdamwProjRefIdeal.nD Cert.AdamwProjRefIdeal.τ).loc Cert.AdamwProjRefIdeal.main_arg0)
          ∧ r.2.mem ((c.tc : Thread Cert.AdamwProjRefIdeal.nD Cert.AdamwProjRefIdeal.τ).loc Cert.AdamwProjRefIdeal.main_arg1) = m' ((c.tc : Thread Cert.AdamwProjRefIdeal.nD Cert.AdamwProjRefIdeal.τ).loc Cert.AdamwProjRefIdeal.main_arg1)
          ∧ r.2.mem ((c.tc : Thread Cert.AdamwProjRefIdeal.nD Cert.AdamwProjRefIdeal.τ).loc Cert.AdamwProjRefIdeal.main_arg2) = m' ((c.tc : Thread Cert.AdamwProjRefIdeal.nD Cert.AdamwProjRefIdeal.τ).loc Cert.AdamwProjRefIdeal.main_arg2)
          ∧ r.2.mem ((c.tc : Thread Cert.AdamwProjRefIdeal.nD Cert.AdamwProjRefIdeal.τ).loc Cert.AdamwProjRefIdeal.main_arg3) = m' ((c.tc : Thread Cert.AdamwProjRefIdeal.nD Cert.AdamwProjRefIdeal.τ).loc Cert.AdamwProjRefIdeal.main_arg3)
          ∧ r.2.mem ((c.tc : Thread Cert.AdamwProjRefIdeal.nD Cert.AdamwProjRefIdeal.τ).loc Cert.AdamwProjRefIdeal.main_arg4) = m' ((c.tc : Thread Cert.AdamwProjRefIdeal.nD Cert.AdamwProjRefIdeal.τ).loc Cert.AdamwProjRefIdeal.main_arg4)
          ∧ r.2.mem ((c.tc : Thread Cert.AdamwProjRefIdeal.nD Cert.AdamwProjRefIdeal.τ).loc Cert.AdamwProjRefIdeal.main_arg5) = m' ((c.tc : Thread Cert.AdamwProjRefIdeal.nD Cert.AdamwProjRefIdeal.τ).loc Cert.AdamwProjRefIdeal.main_arg5))

def preserves_AdamwGlu_AdamwGluIdeal : Prop :=
  True

def algebraic_AdamwGluIdeal_AdamwGluRefIdeal [hAdamwGluIdeal : Cert.AdamwGluIdeal.Facts] [hAdamwGluRefIdeal : Cert.AdamwGluRefIdeal.Facts] [hPre_on_the_mesh_glu : Cert.Pre_on_the_mesh_glu.Facts] : Prop :=
  ∀ (m : (ℓ : Loc Cert.AdamwGluIdeal.nD Cert.AdamwGluIdeal.τ Cert.AdamwGluIdeal.sig) → Buf (Elt Ideal) ℓ) (g : Dev Cert.AdamwGluIdeal.nD → PrngReg)
    (m' : (ℓ : Loc Cert.AdamwGluRefIdeal.nD Cert.AdamwGluRefIdeal.τ Cert.AdamwGluRefIdeal.sig) → Buf (Elt Ideal) ℓ) (g' : Dev Cert.AdamwGluRefIdeal.nD → PrngReg), Pre_AdamwGluIdeal m →
    (∀ c : Dev Cert.AdamwGluIdeal.nD,
      m' ((c.tc : Thread Cert.AdamwGluRefIdeal.nD Cert.AdamwGluRefIdeal.τ).loc Cert.AdamwGluRefIdeal.main_arg0) = m ((c.tc : Thread Cert.AdamwGluIdeal.nD Cert.AdamwGluIdeal.τ).loc Cert.AdamwGluIdeal.main_arg0)
      ∧ m' ((c.tc : Thread Cert.AdamwGluRefIdeal.nD Cert.AdamwGluRefIdeal.τ).loc Cert.AdamwGluRefIdeal.main_arg1) = m ((c.tc : Thread Cert.AdamwGluIdeal.nD Cert.AdamwGluIdeal.τ).loc Cert.AdamwGluIdeal.main_arg1)
      ∧ m' ((c.tc : Thread Cert.AdamwGluRefIdeal.nD Cert.AdamwGluRefIdeal.τ).loc Cert.AdamwGluRefIdeal.main_arg2) = m ((c.tc : Thread Cert.AdamwGluIdeal.nD Cert.AdamwGluIdeal.τ).loc Cert.AdamwGluIdeal.main_arg2)
      ∧ m' ((c.tc : Thread Cert.AdamwGluRefIdeal.nD Cert.AdamwGluRefIdeal.τ).loc Cert.AdamwGluRefIdeal.main_arg3) = m ((c.tc : Thread Cert.AdamwGluIdeal.nD Cert.AdamwGluIdeal.τ).loc Cert.AdamwGluIdeal.main_arg3)
      ∧ m' ((c.tc : Thread Cert.AdamwGluRefIdeal.nD Cert.AdamwGluRefIdeal.τ).loc Cert.AdamwGluRefIdeal.main_arg4) = m ((c.tc : Thread Cert.AdamwGluIdeal.nD Cert.AdamwGluIdeal.τ).loc Cert.AdamwGluIdeal.main_arg4)
      ∧ m' ((c.tc : Thread Cert.AdamwGluRefIdeal.nD Cert.AdamwGluRefIdeal.τ).loc Cert.AdamwGluRefIdeal.main_arg5) = m ((c.tc : Thread Cert.AdamwGluIdeal.nD Cert.AdamwGluIdeal.τ).loc Cert.AdamwGluIdeal.main_arg5)) →
    ∃ (v0 : (c : Dev Cert.AdamwGluIdeal.nD) → Buf (Elt Ideal) ((c.tc : Thread Cert.AdamwGluIdeal.nD Cert.AdamwGluIdeal.τ).loc Cert.AdamwGluIdeal.main_v0_0)) (v1 : (c : Dev Cert.AdamwGluIdeal.nD) → Buf (Elt Ideal) ((c.tc : Thread Cert.AdamwGluIdeal.nD Cert.AdamwGluIdeal.τ).loc Cert.AdamwGluIdeal.main_v0_1)) (v2 : (c : Dev Cert.AdamwGluIdeal.nD) → Buf (Elt Ideal) ((c.tc : Thread Cert.AdamwGluIdeal.nD Cert.AdamwGluIdeal.τ).loc Cert.AdamwGluIdeal.main_v0_2)) (v3 : (c : Dev Cert.AdamwGluIdeal.nD) → Buf (Elt Ideal) ((c.tc : Thread Cert.AdamwGluIdeal.nD Cert.AdamwGluIdeal.τ).loc Cert.AdamwGluIdeal.main_v0_3)),
      θ_run (Cert.AdamwGluIdeal.defs (F := Ideal)) (onTc (τ := Cert.AdamwGluIdeal.τ) (Cert.AdamwGluIdeal.main (F := Ideal))) ⟨m, fun _ => 0, g⟩ (fun r => ∀ c : Dev Cert.AdamwGluIdeal.nD,
          r.2.mem ((c.tc : Thread Cert.AdamwGluIdeal.nD Cert.AdamwGluIdeal.τ).loc Cert.AdamwGluIdeal.main_v0_0) = v0 c
          ∧ r.2.mem ((c.tc : Thread Cert.AdamwGluIdeal.nD Cert.AdamwGluIdeal.τ).loc Cert.AdamwGluIdeal.main_v0_1) = v1 c
          ∧ r.2.mem ((c.tc : Thread Cert.AdamwGluIdeal.nD Cert.AdamwGluIdeal.τ).loc Cert.AdamwGluIdeal.main_v0_2) = v2 c
          ∧ r.2.mem ((c.tc : Thread Cert.AdamwGluIdeal.nD Cert.AdamwGluIdeal.τ).loc Cert.AdamwGluIdeal.main_v0_3) = v3 c
          ∧ r.2.mem ((c.tc : Thread Cert.AdamwGluIdeal.nD Cert.AdamwGluIdeal.τ).loc Cert.AdamwGluIdeal.main_arg0) = m ((c.tc : Thread Cert.AdamwGluIdeal.nD Cert.AdamwGluIdeal.τ).loc Cert.AdamwGluIdeal.main_arg0)
          ∧ r.2.mem ((c.tc : Thread Cert.AdamwGluIdeal.nD Cert.AdamwGluIdeal.τ).loc Cert.AdamwGluIdeal.main_arg1) = m ((c.tc : Thread Cert.AdamwGluIdeal.nD Cert.AdamwGluIdeal.τ).loc Cert.AdamwGluIdeal.main_arg1)
          ∧ r.2.mem ((c.tc : Thread Cert.AdamwGluIdeal.nD Cert.AdamwGluIdeal.τ).loc Cert.AdamwGluIdeal.main_arg2) = m ((c.tc : Thread Cert.AdamwGluIdeal.nD Cert.AdamwGluIdeal.τ).loc Cert.AdamwGluIdeal.main_arg2)
          ∧ r.2.mem ((c.tc : Thread Cert.AdamwGluIdeal.nD Cert.AdamwGluIdeal.τ).loc Cert.AdamwGluIdeal.main_arg3) = m ((c.tc : Thread Cert.AdamwGluIdeal.nD Cert.AdamwGluIdeal.τ).loc Cert.AdamwGluIdeal.main_arg3)
          ∧ r.2.mem ((c.tc : Thread Cert.AdamwGluIdeal.nD Cert.AdamwGluIdeal.τ).loc Cert.AdamwGluIdeal.main_arg4) = m ((c.tc : Thread Cert.AdamwGluIdeal.nD Cert.AdamwGluIdeal.τ).loc Cert.AdamwGluIdeal.main_arg4)
          ∧ r.2.mem ((c.tc : Thread Cert.AdamwGluIdeal.nD Cert.AdamwGluIdeal.τ).loc Cert.AdamwGluIdeal.main_arg5) = m ((c.tc : Thread Cert.AdamwGluIdeal.nD Cert.AdamwGluIdeal.τ).loc Cert.AdamwGluIdeal.main_arg5))
      ∧ θ_run (Cert.AdamwGluRefIdeal.defs (F := Ideal)) (onTc (τ := Cert.AdamwGluRefIdeal.τ) (Cert.AdamwGluRefIdeal.main (F := Ideal))) ⟨m', fun _ => 0, g'⟩ (fun r => ∀ c : Dev Cert.AdamwGluRefIdeal.nD,
          r.2.mem ((c.tc : Thread Cert.AdamwGluRefIdeal.nD Cert.AdamwGluRefIdeal.τ).loc Cert.AdamwGluRefIdeal.main_v5) = v0 c
          ∧ r.2.mem ((c.tc : Thread Cert.AdamwGluRefIdeal.nD Cert.AdamwGluRefIdeal.τ).loc Cert.AdamwGluRefIdeal.main_v29) = v1 c
          ∧ r.2.mem ((c.tc : Thread Cert.AdamwGluRefIdeal.nD Cert.AdamwGluRefIdeal.τ).loc Cert.AdamwGluRefIdeal.main_v10) = v2 c
          ∧ r.2.mem ((c.tc : Thread Cert.AdamwGluRefIdeal.nD Cert.AdamwGluRefIdeal.τ).loc Cert.AdamwGluRefIdeal.main_v16) = v3 c
          ∧ r.2.mem ((c.tc : Thread Cert.AdamwGluRefIdeal.nD Cert.AdamwGluRefIdeal.τ).loc Cert.AdamwGluRefIdeal.main_arg0) = m' ((c.tc : Thread Cert.AdamwGluRefIdeal.nD Cert.AdamwGluRefIdeal.τ).loc Cert.AdamwGluRefIdeal.main_arg0)
          ∧ r.2.mem ((c.tc : Thread Cert.AdamwGluRefIdeal.nD Cert.AdamwGluRefIdeal.τ).loc Cert.AdamwGluRefIdeal.main_arg1) = m' ((c.tc : Thread Cert.AdamwGluRefIdeal.nD Cert.AdamwGluRefIdeal.τ).loc Cert.AdamwGluRefIdeal.main_arg1)
          ∧ r.2.mem ((c.tc : Thread Cert.AdamwGluRefIdeal.nD Cert.AdamwGluRefIdeal.τ).loc Cert.AdamwGluRefIdeal.main_arg2) = m' ((c.tc : Thread Cert.AdamwGluRefIdeal.nD Cert.AdamwGluRefIdeal.τ).loc Cert.AdamwGluRefIdeal.main_arg2)
          ∧ r.2.mem ((c.tc : Thread Cert.AdamwGluRefIdeal.nD Cert.AdamwGluRefIdeal.τ).loc Cert.AdamwGluRefIdeal.main_arg3) = m' ((c.tc : Thread Cert.AdamwGluRefIdeal.nD Cert.AdamwGluRefIdeal.τ).loc Cert.AdamwGluRefIdeal.main_arg3)
          ∧ r.2.mem ((c.tc : Thread Cert.AdamwGluRefIdeal.nD Cert.AdamwGluRefIdeal.τ).loc Cert.AdamwGluRefIdeal.main_arg4) = m' ((c.tc : Thread Cert.AdamwGluRefIdeal.nD Cert.AdamwGluRefIdeal.τ).loc Cert.AdamwGluRefIdeal.main_arg4)
          ∧ r.2.mem ((c.tc : Thread Cert.AdamwGluRefIdeal.nD Cert.AdamwGluRefIdeal.τ).loc Cert.AdamwGluRefIdeal.main_arg5) = m' ((c.tc : Thread Cert.AdamwGluRefIdeal.nD Cert.AdamwGluRefIdeal.τ).loc Cert.AdamwGluRefIdeal.main_arg5))

def Claim : Prop :=
  ∃ (hKernelIdeal : Cert.KernelIdeal.Facts) (hReferenceIdeal : Cert.ReferenceIdeal.Facts) (hDownBwd : Cert.DownBwd.Facts) (hDownBwdIdeal : Cert.DownBwdIdeal.Facts) (hDownBwdRefIdeal : Cert.DownBwdRefIdeal.Facts) (hDownWgrad : Cert.DownWgrad.Facts) (hDownWgradIdeal : Cert.DownWgradIdeal.Facts) (hDownWgradRefIdeal : Cert.DownWgradRefIdeal.Facts) (hUpWgrad : Cert.UpWgrad.Facts) (hUpWgradIdeal : Cert.UpWgradIdeal.Facts) (hUpWgradRefIdeal : Cert.UpWgradRefIdeal.Facts) (hInWgrad : Cert.InWgrad.Facts) (hInWgradIdeal : Cert.InWgradIdeal.Facts) (hInWgradRefIdeal : Cert.InWgradRefIdeal.Facts) (hOutBwd : Cert.OutBwd.Facts) (hOutBwdIdeal : Cert.OutBwdIdeal.Facts) (hOutBwdRefIdeal : Cert.OutBwdRefIdeal.Facts) (hOutWgrad : Cert.OutWgrad.Facts) (hOutWgradIdeal : Cert.OutWgradIdeal.Facts) (hOutWgradRefIdeal : Cert.OutWgradRefIdeal.Facts) (hProjBwd : Cert.ProjBwd.Facts) (hProjBwdIdeal : Cert.ProjBwdIdeal.Facts) (hProjBwdRefIdeal : Cert.ProjBwdRefIdeal.Facts) (hProjWgrad : Cert.ProjWgrad.Facts) (hProjWgradIdeal : Cert.ProjWgradIdeal.Facts) (hProjWgradRefIdeal : Cert.ProjWgradRefIdeal.Facts) (hGluWgrad : Cert.GluWgrad.Facts) (hGluWgradIdeal : Cert.GluWgradIdeal.Facts) (hGluWgradRefIdeal : Cert.GluWgradRefIdeal.Facts) (hUpProj : Cert.UpProj.Facts) (hUpProjIdeal : Cert.UpProjIdeal.Facts) (hUpProjRefIdeal : Cert.UpProjRefIdeal.Facts) (hProj : Cert.Proj.Facts) (hProjIdeal : Cert.ProjIdeal.Facts) (hProjRefIdeal : Cert.ProjRefIdeal.Facts) (hOutProj : Cert.OutProj.Facts) (hOutProjIdeal : Cert.OutProjIdeal.Facts) (hOutProjRefIdeal : Cert.OutProjRefIdeal.Facts) (hUpBwd : Cert.UpBwd.Facts) (hUpBwdIdeal : Cert.UpBwdIdeal.Facts) (hUpBwdRefIdeal : Cert.UpBwdRefIdeal.Facts) (hInBwd : Cert.InBwd.Facts) (hInBwdIdeal : Cert.InBwdIdeal.Facts) (hInBwdRefIdeal : Cert.InBwdRefIdeal.Facts) (hDownProj : Cert.DownProj.Facts) (hDownProjIdeal : Cert.DownProjIdeal.Facts) (hDownProjRefIdeal : Cert.DownProjRefIdeal.Facts) (hAdamwIn : Cert.AdamwIn.Facts) (hAdamwInIdeal : Cert.AdamwInIdeal.Facts) (hAdamwInRefIdeal : Cert.AdamwInRefIdeal.Facts) (hAdamwUp : Cert.AdamwUp.Facts) (hAdamwUpIdeal : Cert.AdamwUpIdeal.Facts) (hAdamwUpRefIdeal : Cert.AdamwUpRefIdeal.Facts) (hAdamwDown : Cert.AdamwDown.Facts) (hAdamwDownIdeal : Cert.AdamwDownIdeal.Facts) (hAdamwDownRefIdeal : Cert.AdamwDownRefIdeal.Facts) (hAdamwOut : Cert.AdamwOut.Facts) (hAdamwOutIdeal : Cert.AdamwOutIdeal.Facts) (hAdamwOutRefIdeal : Cert.AdamwOutRefIdeal.Facts) (hAdamwProj : Cert.AdamwProj.Facts) (hAdamwProjIdeal : Cert.AdamwProjIdeal.Facts) (hAdamwProjRefIdeal : Cert.AdamwProjRefIdeal.Facts) (hAdamwGlu : Cert.AdamwGlu.Facts) (hAdamwGluIdeal : Cert.AdamwGluIdeal.Facts) (hAdamwGluRefIdeal : Cert.AdamwGluRefIdeal.Facts) (hPre_on_the_mesh_in : Cert.Pre_on_the_mesh_in.Facts) (hPre_on_the_mesh_up : Cert.Pre_on_the_mesh_up.Facts) (hPre_on_the_mesh_down : Cert.Pre_on_the_mesh_down.Facts) (hPre_on_the_mesh_out : Cert.Pre_on_the_mesh_out.Facts) (hPre_on_the_mesh_proj : Cert.Pre_on_the_mesh_proj.Facts) (hPre_on_the_mesh_glu : Cert.Pre_on_the_mesh_glu.Facts),
    quiescent_KernelIdeal (hKernelIdeal := hKernelIdeal)
    ∧ quiescent_ReferenceIdeal (hReferenceIdeal := hReferenceIdeal)
    ∧ quiescent_DownBwd (hDownBwd := hDownBwd)
    ∧ quiescent_DownBwdIdeal (hDownBwdIdeal := hDownBwdIdeal)
    ∧ quiescent_DownBwdRefIdeal (hDownBwdRefIdeal := hDownBwdRefIdeal)
    ∧ quiescent_DownWgrad (hDownWgrad := hDownWgrad)
    ∧ quiescent_DownWgradIdeal (hDownWgradIdeal := hDownWgradIdeal)
    ∧ quiescent_DownWgradRefIdeal (hDownWgradRefIdeal := hDownWgradRefIdeal)
    ∧ quiescent_UpWgrad (hUpWgrad := hUpWgrad)
    ∧ quiescent_UpWgradIdeal (hUpWgradIdeal := hUpWgradIdeal)
    ∧ quiescent_UpWgradRefIdeal (hUpWgradRefIdeal := hUpWgradRefIdeal)
    ∧ quiescent_InWgrad (hInWgrad := hInWgrad)
    ∧ quiescent_InWgradIdeal (hInWgradIdeal := hInWgradIdeal)
    ∧ quiescent_InWgradRefIdeal (hInWgradRefIdeal := hInWgradRefIdeal)
    ∧ quiescent_OutBwd (hOutBwd := hOutBwd)
    ∧ quiescent_OutBwdIdeal (hOutBwdIdeal := hOutBwdIdeal)
    ∧ quiescent_OutBwdRefIdeal (hOutBwdRefIdeal := hOutBwdRefIdeal)
    ∧ quiescent_OutWgrad (hOutWgrad := hOutWgrad)
    ∧ quiescent_OutWgradIdeal (hOutWgradIdeal := hOutWgradIdeal)
    ∧ quiescent_OutWgradRefIdeal (hOutWgradRefIdeal := hOutWgradRefIdeal)
    ∧ quiescent_ProjBwd (hProjBwd := hProjBwd)
    ∧ quiescent_ProjBwdIdeal (hProjBwdIdeal := hProjBwdIdeal)
    ∧ quiescent_ProjBwdRefIdeal (hProjBwdRefIdeal := hProjBwdRefIdeal)
    ∧ quiescent_ProjWgrad (hProjWgrad := hProjWgrad)
    ∧ quiescent_ProjWgradIdeal (hProjWgradIdeal := hProjWgradIdeal)
    ∧ quiescent_ProjWgradRefIdeal (hProjWgradRefIdeal := hProjWgradRefIdeal)
    ∧ quiescent_GluWgrad (hGluWgrad := hGluWgrad)
    ∧ quiescent_GluWgradIdeal (hGluWgradIdeal := hGluWgradIdeal)
    ∧ quiescent_GluWgradRefIdeal (hGluWgradRefIdeal := hGluWgradRefIdeal)
    ∧ quiescent_UpProj (hUpProj := hUpProj)
    ∧ quiescent_UpProjIdeal (hUpProjIdeal := hUpProjIdeal)
    ∧ quiescent_UpProjRefIdeal (hUpProjRefIdeal := hUpProjRefIdeal)
    ∧ quiescent_Proj (hProj := hProj)
    ∧ quiescent_ProjIdeal (hProjIdeal := hProjIdeal)
    ∧ quiescent_ProjRefIdeal (hProjRefIdeal := hProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_UpBwd (hUpBwd := hUpBwd)
    ∧ quiescent_UpBwdIdeal (hUpBwdIdeal := hUpBwdIdeal)
    ∧ quiescent_UpBwdRefIdeal (hUpBwdRefIdeal := hUpBwdRefIdeal)
    ∧ quiescent_InBwd (hInBwd := hInBwd)
    ∧ quiescent_InBwdIdeal (hInBwdIdeal := hInBwdIdeal)
    ∧ quiescent_InBwdRefIdeal (hInBwdRefIdeal := hInBwdRefIdeal)
    ∧ quiescent_DownProj (hDownProj := hDownProj)
    ∧ quiescent_DownProjIdeal (hDownProjIdeal := hDownProjIdeal)
    ∧ quiescent_DownProjRefIdeal (hDownProjRefIdeal := hDownProjRefIdeal)
    ∧ quiescent_AdamwIn (hAdamwIn := hAdamwIn) (hPre_on_the_mesh_in := hPre_on_the_mesh_in)
    ∧ quiescent_AdamwInIdeal (hAdamwInIdeal := hAdamwInIdeal) (hPre_on_the_mesh_in := hPre_on_the_mesh_in)
    ∧ quiescent_AdamwInRefIdeal (hAdamwInRefIdeal := hAdamwInRefIdeal) (hPre_on_the_mesh_in := hPre_on_the_mesh_in)
    ∧ quiescent_AdamwUp (hAdamwUp := hAdamwUp) (hPre_on_the_mesh_up := hPre_on_the_mesh_up)
    ∧ quiescent_AdamwUpIdeal (hAdamwUpIdeal := hAdamwUpIdeal) (hPre_on_the_mesh_up := hPre_on_the_mesh_up)
    ∧ quiescent_AdamwUpRefIdeal (hAdamwUpRefIdeal := hAdamwUpRefIdeal) (hPre_on_the_mesh_up := hPre_on_the_mesh_up)
    ∧ quiescent_AdamwDown (hAdamwDown := hAdamwDown) (hPre_on_the_mesh_down := hPre_on_the_mesh_down)
    ∧ quiescent_AdamwDownIdeal (hAdamwDownIdeal := hAdamwDownIdeal) (hPre_on_the_mesh_down := hPre_on_the_mesh_down)
    ∧ quiescent_AdamwDownRefIdeal (hAdamwDownRefIdeal := hAdamwDownRefIdeal) (hPre_on_the_mesh_down := hPre_on_the_mesh_down)
    ∧ quiescent_AdamwOut (hAdamwOut := hAdamwOut) (hPre_on_the_mesh_out := hPre_on_the_mesh_out)
    ∧ quiescent_AdamwOutIdeal (hAdamwOutIdeal := hAdamwOutIdeal) (hPre_on_the_mesh_out := hPre_on_the_mesh_out)
    ∧ quiescent_AdamwOutRefIdeal (hAdamwOutRefIdeal := hAdamwOutRefIdeal) (hPre_on_the_mesh_out := hPre_on_the_mesh_out)
    ∧ quiescent_AdamwProj (hAdamwProj := hAdamwProj) (hPre_on_the_mesh_proj := hPre_on_the_mesh_proj)
    ∧ quiescent_AdamwProjIdeal (hAdamwProjIdeal := hAdamwProjIdeal) (hPre_on_the_mesh_proj := hPre_on_the_mesh_proj)
    ∧ quiescent_AdamwProjRefIdeal (hAdamwProjRefIdeal := hAdamwProjRefIdeal) (hPre_on_the_mesh_proj := hPre_on_the_mesh_proj)
    ∧ quiescent_AdamwGlu (hAdamwGlu := hAdamwGlu) (hPre_on_the_mesh_glu := hPre_on_the_mesh_glu)
    ∧ quiescent_AdamwGluIdeal (hAdamwGluIdeal := hAdamwGluIdeal) (hPre_on_the_mesh_glu := hPre_on_the_mesh_glu)
    ∧ quiescent_AdamwGluRefIdeal (hAdamwGluRefIdeal := hAdamwGluRefIdeal) (hPre_on_the_mesh_glu := hPre_on_the_mesh_glu)
    ∧ preserves_DownBwd_DownBwdIdeal
    ∧ algebraic_DownBwdIdeal_DownBwdRefIdeal (hDownBwdIdeal := hDownBwdIdeal) (hDownBwdRefIdeal := hDownBwdRefIdeal)
    ∧ preserves_DownWgrad_DownWgradIdeal
    ∧ algebraic_DownWgradIdeal_DownWgradRefIdeal (hDownWgradIdeal := hDownWgradIdeal) (hDownWgradRefIdeal := hDownWgradRefIdeal)
    ∧ preserves_UpWgrad_UpWgradIdeal
    ∧ algebraic_UpWgradIdeal_UpWgradRefIdeal (hUpWgradIdeal := hUpWgradIdeal) (hUpWgradRefIdeal := hUpWgradRefIdeal)
    ∧ preserves_InWgrad_InWgradIdeal
    ∧ algebraic_InWgradIdeal_InWgradRefIdeal (hInWgradIdeal := hInWgradIdeal) (hInWgradRefIdeal := hInWgradRefIdeal)
    ∧ preserves_OutBwd_OutBwdIdeal
    ∧ algebraic_OutBwdIdeal_OutBwdRefIdeal (hOutBwdIdeal := hOutBwdIdeal) (hOutBwdRefIdeal := hOutBwdRefIdeal)
    ∧ preserves_OutWgrad_OutWgradIdeal
    ∧ algebraic_OutWgradIdeal_OutWgradRefIdeal (hOutWgradIdeal := hOutWgradIdeal) (hOutWgradRefIdeal := hOutWgradRefIdeal)
    ∧ preserves_ProjBwd_ProjBwdIdeal
    ∧ algebraic_ProjBwdIdeal_ProjBwdRefIdeal (hProjBwdIdeal := hProjBwdIdeal) (hProjBwdRefIdeal := hProjBwdRefIdeal)
    ∧ preserves_ProjWgrad_ProjWgradIdeal
    ∧ algebraic_ProjWgradIdeal_ProjWgradRefIdeal (hProjWgradIdeal := hProjWgradIdeal) (hProjWgradRefIdeal := hProjWgradRefIdeal)
    ∧ preserves_GluWgrad_GluWgradIdeal
    ∧ algebraic_GluWgradIdeal_GluWgradRefIdeal (hGluWgradIdeal := hGluWgradIdeal) (hGluWgradRefIdeal := hGluWgradRefIdeal)
    ∧ preserves_UpProj_UpProjIdeal
    ∧ algebraic_UpProjIdeal_UpProjRefIdeal (hUpProjIdeal := hUpProjIdeal) (hUpProjRefIdeal := hUpProjRefIdeal)
    ∧ preserves_Proj_ProjIdeal
    ∧ algebraic_ProjIdeal_ProjRefIdeal (hProjIdeal := hProjIdeal) (hProjRefIdeal := hProjRefIdeal)
    ∧ preserves_OutProj_OutProjIdeal
    ∧ algebraic_OutProjIdeal_OutProjRefIdeal (hOutProjIdeal := hOutProjIdeal) (hOutProjRefIdeal := hOutProjRefIdeal)
    ∧ preserves_UpBwd_UpBwdIdeal
    ∧ algebraic_UpBwdIdeal_UpBwdRefIdeal (hUpBwdIdeal := hUpBwdIdeal) (hUpBwdRefIdeal := hUpBwdRefIdeal)
    ∧ preserves_InBwd_InBwdIdeal
    ∧ algebraic_InBwdIdeal_InBwdRefIdeal (hInBwdIdeal := hInBwdIdeal) (hInBwdRefIdeal := hInBwdRefIdeal)
    ∧ preserves_DownProj_DownProjIdeal
    ∧ algebraic_DownProjIdeal_DownProjRefIdeal (hDownProjIdeal := hDownProjIdeal) (hDownProjRefIdeal := hDownProjRefIdeal)
    ∧ preserves_AdamwIn_AdamwInIdeal
    ∧ algebraic_AdamwInIdeal_AdamwInRefIdeal (hAdamwInIdeal := hAdamwInIdeal) (hAdamwInRefIdeal := hAdamwInRefIdeal) (hPre_on_the_mesh_in := hPre_on_the_mesh_in)
    ∧ preserves_AdamwUp_AdamwUpIdeal
    ∧ algebraic_AdamwUpIdeal_AdamwUpRefIdeal (hAdamwUpIdeal := hAdamwUpIdeal) (hAdamwUpRefIdeal := hAdamwUpRefIdeal) (hPre_on_the_mesh_up := hPre_on_the_mesh_up)
    ∧ preserves_AdamwDown_AdamwDownIdeal
    ∧ algebraic_AdamwDownIdeal_AdamwDownRefIdeal (hAdamwDownIdeal := hAdamwDownIdeal) (hAdamwDownRefIdeal := hAdamwDownRefIdeal) (hPre_on_the_mesh_down := hPre_on_the_mesh_down)
    ∧ preserves_AdamwOut_AdamwOutIdeal
    ∧ algebraic_AdamwOutIdeal_AdamwOutRefIdeal (hAdamwOutIdeal := hAdamwOutIdeal) (hAdamwOutRefIdeal := hAdamwOutRefIdeal) (hPre_on_the_mesh_out := hPre_on_the_mesh_out)
    ∧ preserves_AdamwProj_AdamwProjIdeal
    ∧ algebraic_AdamwProjIdeal_AdamwProjRefIdeal (hAdamwProjIdeal := hAdamwProjIdeal) (hAdamwProjRefIdeal := hAdamwProjRefIdeal) (hPre_on_the_mesh_proj := hPre_on_the_mesh_proj)
    ∧ preserves_AdamwGlu_AdamwGluIdeal
    ∧ algebraic_AdamwGluIdeal_AdamwGluRefIdeal (hAdamwGluIdeal := hAdamwGluIdeal) (hAdamwGluRefIdeal := hAdamwGluRefIdeal) (hPre_on_the_mesh_glu := hPre_on_the_mesh_glu)
-- ==== Pre_on_the_mesh_down.lean ====
abbrev S704x1024 : Shape := ⟨2, ![704, 1024]⟩
abbrev S352x1024 : Shape := ⟨2, ![352, 1024]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S704x1024 .f32) (main_arg1 : FVec F S704x1024 .f32) (main_arg2 : FVec F S704x1024 .f32) (main_arg3 : FVec F S352x1024 .f32) (main_arg4 : FVec F S352x1024 .f32) (main_arg5 : IVec S2 32) : IVec S_ 1 :=
  let main_v0 : IVec S1 32 := (extractStridedSlice S1 ![0] · slices_S2_S1_0) main_arg5
  let main_v1 : IVec S_ 32 := shapeCast S_ main_v0 shapeCasts_S1_S_
  let main_v2 : IVec S1 32 := (extractStridedSlice S1 ![1] · slices_S2_S1_1) main_arg5
  let main_v3 : IVec S_ 32 := shapeCast S_ main_v2 shapeCasts_S1_S_
  let main_c : IVec S_ 32 := constantI S_ 32 0#32
  let main_v4 : IVec S_ 1 := cmpi .sge main_v1 main_c
  let main_c_0 : IVec S_ 32 := constantI S_ 32 2#32
  let main_v5 : IVec S_ 1 := cmpi .slt main_v1 main_c_0
  let main_v6 : IVec S_ 1 := andi main_v4 main_v5
  let main_c_1 : IVec S_ 32 := constantI S_ 32 0#32
  let main_v7 : IVec S_ 1 := cmpi .sge main_v3 main_c_1
  let main_v8 : IVec S_ 1 := andi main_v6 main_v7
  let main_c_2 : IVec S_ 32 := constantI S_ 32 4#32
  let main_v9 : IVec S_ 1 := cmpi .slt main_v3 main_c_2
  let main_v10 : IVec S_ 1 := andi main_v8 main_v9
  main_v10
-- ==== Pre_on_the_mesh_glu.lean ====
abbrev S128x512 : Shape := ⟨2, ![128, 512]⟩
abbrev S64x512 : Shape := ⟨2, ![64, 512]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S128x512 .f32) (main_arg1 : FVec F S128x512 .f32) (main_arg2 : FVec F S128x512 .f32) (main_arg3 : FVec F S64x512 .f32) (main_arg4 : FVec F S64x512 .f32) (main_arg5 : IVec S2 32) : IVec S_ 1 :=
  let main_v0 : IVec S1 32 := (extractStridedSlice S1 ![0] · slices_S2_S1_0) main_arg5
  let main_v1 : IVec S_ 32 := shapeCast S_ main_v0 shapeCasts_S1_S_
  let main_v2 : IVec S1 32 := (extractStridedSlice S1 ![1] · slices_S2_S1_1) main_arg5
  let main_v3 : IVec S_ 32 := shapeCast S_ main_v2 shapeCasts_S1_S_
  let main_c : IVec S_ 32 := constantI S_ 32 0#32
  let main_v4 : IVec S_ 1 := cmpi .sge main_v1 main_c
  let main_c_0 : IVec S_ 32 := constantI S_ 32 2#32
  let main_v5 : IVec S_ 1 := cmpi .slt main_v1 main_c_0
  let main_v6 : IVec S_ 1 := andi main_v4 main_v5
  let main_c_1 : IVec S_ 32 := constantI S_ 32 0#32
  let main_v7 : IVec S_ 1 := cmpi .sge main_v3 main_c_1
  let main_v8 : IVec S_ 1 := andi main_v6 main_v7
  let main_c_2 : IVec S_ 32 := constantI S_ 32 4#32
  let main_v9 : IVec S_ 1 := cmpi .slt main_v3 main_c_2
  let main_v10 : IVec S_ 1 := andi main_v8 main_v9
  main_v10
-- ==== Pre_on_the_mesh_in.lean ====
abbrev S1024x1152 : Shape := ⟨2, ![1024, 1152]⟩
abbrev S512x1152 : Shape := ⟨2, ![512, 1152]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S1024x1152 .f32) (main_arg1 : FVec F S1024x1152 .f32) (main_arg2 : FVec F S1024x1152 .f32) (main_arg3 : FVec F S512x1152 .f32) (main_arg4 : FVec F S512x1152 .f32) (main_arg5 : IVec S2 32) : IVec S_ 1 :=
  let main_v0 : IVec S1 32 := (extractStridedSlice S1 ![0] · slices_S2_S1_0) main_arg5
  let main_v1 : IVec S_ 32 := shapeCast S_ main_v0 shapeCasts_S1_S_
  let main_v2 : IVec S1 32 := (extractStridedSlice S1 ![1] · slices_S2_S1_1) main_arg5
  let main_v3 : IVec S_ 32 := shapeCast S_ main_v2 shapeCasts_S1_S_
  let main_c : IVec S_ 32 := constantI S_ 32 0#32
  let main_v4 : IVec S_ 1 := cmpi .sge main_v1 main_c
  let main_c_0 : IVec S_ 32 := constantI S_ 32 2#32
  let main_v5 : IVec S_ 1 := cmpi .slt main_v1 main_c_0
  let main_v6 : IVec S_ 1 := andi main_v4 main_v5
  let main_c_1 : IVec S_ 32 := constantI S_ 32 0#32
  let main_v7 : IVec S_ 1 := cmpi .sge main_v3 main_c_1
  let main_v8 : IVec S_ 1 := andi main_v6 main_v7
  let main_c_2 : IVec S_ 32 := constantI S_ 32 4#32
  let main_v9 : IVec S_ 1 := cmpi .slt main_v3 main_c_2
  let main_v10 : IVec S_ 1 := andi main_v8 main_v9
  main_v10
-- ==== Pre_on_the_mesh_out.lean ====
abbrev S256x1024 : Shape := ⟨2, ![256, 1024]⟩
abbrev S128x1024 : Shape := ⟨2, ![128, 1024]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S256x1024 .f32) (main_arg1 : FVec F S256x1024 .f32) (main_arg2 : FVec F S256x1024 .f32) (main_arg3 : FVec F S128x1024 .f32) (main_arg4 : FVec F S128x1024 .f32) (main_arg5 : IVec S2 32) : IVec S_ 1 :=
  let main_v0 : IVec S1 32 := (extractStridedSlice S1 ![0] · slices_S2_S1_0) main_arg5
  let main_v1 : IVec S_ 32 := shapeCast S_ main_v0 shapeCasts_S1_S_
  let main_v2 : IVec S1 32 := (extractStridedSlice S1 ![1] · slices_S2_S1_1) main_arg5
  let main_v3 : IVec S_ 32 := shapeCast S_ main_v2 shapeCasts_S1_S_
  let main_c : IVec S_ 32 := constantI S_ 32 0#32
  let main_v4 : IVec S_ 1 := cmpi .sge main_v1 main_c
  let main_c_0 : IVec S_ 32 := constantI S_ 32 2#32
  let main_v5 : IVec S_ 1 := cmpi .slt main_v1 main_c_0
  let main_v6 : IVec S_ 1 := andi main_v4 main_v5
  let main_c_1 : IVec S_ 32 := constantI S_ 32 0#32
  let main_v7 : IVec S_ 1 := cmpi .sge main_v3 main_c_1
  let main_v8 : IVec S_ 1 := andi main_v6 main_v7
  let main_c_2 : IVec S_ 32 := constantI S_ 32 4#32
  let main_v9 : IVec S_ 1 := cmpi .slt main_v3 main_c_2
  let main_v10 : IVec S_ 1 := andi main_v8 main_v9
  main_v10
-- ==== Pre_on_the_mesh_proj.lean ====
abbrev S512x256 : Shape := ⟨2, ![512, 256]⟩
abbrev S256x256 : Shape := ⟨2, ![256, 256]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S512x256 .f32) (main_arg1 : FVec F S512x256 .f32) (main_arg2 : FVec F S512x256 .f32) (main_arg3 : FVec F S256x256 .f32) (main_arg4 : FVec F S256x256 .f32) (main_arg5 : IVec S2 32) : IVec S_ 1 :=
  let main_v0 : IVec S1 32 := (extractStridedSlice S1 ![0] · slices_S2_S1_0) main_arg5
  let main_v1 : IVec S_ 32 := shapeCast S_ main_v0 shapeCasts_S1_S_
  let main_v2 : IVec S1 32 := (extractStridedSlice S1 ![1] · slices_S2_S1_1) main_arg5
  let main_v3 : IVec S_ 32 := shapeCast S_ main_v2 shapeCasts_S1_S_
  let main_c : IVec S_ 32 := constantI S_ 32 0#32
  let main_v4 : IVec S_ 1 := cmpi .sge main_v1 main_c
  let main_c_0 : IVec S_ 32 := constantI S_ 32 2#32
  let main_v5 : IVec S_ 1 := cmpi .slt main_v1 main_c_0
  let main_v6 : IVec S_ 1 := andi main_v4 main_v5
  let main_c_1 : IVec S_ 32 := constantI S_ 32 0#32
  let main_v7 : IVec S_ 1 := cmpi .sge main_v3 main_c_1
  let main_v8 : IVec S_ 1 := andi main_v6 main_v7
  let main_c_2 : IVec S_ 32 := constantI S_ 32 4#32
  let main_v9 : IVec S_ 1 := cmpi .slt main_v3 main_c_2
  let main_v10 : IVec S_ 1 := andi main_v8 main_v9
  main_v10
-- ==== Pre_on_the_mesh_up.lean ====
abbrev S1024x1408 : Shape := ⟨2, ![1024, 1408]⟩
abbrev S512x1408 : Shape := ⟨2, ![512, 1408]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S1024x1408 .f32) (main_arg1 : FVec F S1024x1408 .f32) (main_arg2 : FVec F S1024x1408 .f32) (main_arg3 : FVec F S512x1408 .f32) (main_arg4 : FVec F S512x1408 .f32) (main_arg5 : IVec S2 32) : IVec S_ 1 :=
  let main_v0 : IVec S1 32 := (extractStridedSlice S1 ![0] · slices_S2_S1_0) main_arg5
  let main_v1 : IVec S_ 32 := shapeCast S_ main_v0 shapeCasts_S1_S_
  let main_v2 : IVec S1 32 := (extractStridedSlice S1 ![1] · slices_S2_S1_1) main_arg5
  let main_v3 : IVec S_ 32 := shapeCast S_ main_v2 shapeCasts_S1_S_
  let main_c : IVec S_ 32 := constantI S_ 32 0#32
  let main_v4 : IVec S_ 1 := cmpi .sge main_v1 main_c
  let main_c_0 : IVec S_ 32 := constantI S_ 32 2#32
  let main_v5 : IVec S_ 1 := cmpi .slt main_v1 main_c_0
  let main_v6 : IVec S_ 1 := andi main_v4 main_v5
  let main_c_1 : IVec S_ 32 := constantI S_ 32 0#32
  let main_v7 : IVec S_ 1 := cmpi .sge main_v3 main_c_1
  let main_v8 : IVec S_ 1 := andi main_v6 main_v7
  let main_c_2 : IVec S_ 32 := constantI S_ 32 4#32
  let main_v9 : IVec S_ 1 := cmpi .slt main_v3 main_c_2
  let main_v10 : IVec S_ 1 := andi main_v8 main_v9
  main_v10
-- ==== KernelIdeal.lean ====
abbrev S4096x512 : Shape := ⟨2, ![4096, 512]⟩
abbrev S4096x4608 : Shape := ⟨2, ![4096, 4608]⟩
abbrev S32x64 : Shape := ⟨2, ![32, 64]⟩
abbrev S32x64x16 : Shape := ⟨3, ![32, 64, 16]⟩
abbrev S32x16x64 : Shape := ⟨3, ![32, 16, 64]⟩
abbrev S1x512 : Shape := ⟨2, ![1, 512]⟩
abbrev S4x8x64x16 : Shape := ⟨4, ![4, 8, 64, 16]⟩
abbrev S4x8x16x64 : Shape := ⟨4, ![4, 8, 16, 64]⟩
abbrev S8x8 : Shape := ⟨2, ![8, 8]⟩
abbrev S_ : Shape := ⟨0, ![]⟩
abbrev S4x8x16x1x64 : Shape := ⟨5, ![4, 8, 16, 1, 64]⟩
abbrev S1x8x1x8x1 : Shape := ⟨5, ![1, 8, 1, 8, 1]⟩
abbrev S4x8x16x8x64 : Shape := ⟨5, ![4, 8, 16, 8, 64]⟩
abbrev S4x128x512 : Shape := ⟨3, ![4, 128, 512]⟩
abbrev S4x8x64x1x16 : Shape := ⟨5, ![4, 8, 64, 1, 16]⟩
abbrev S4x8x64x8x16 : Shape := ⟨5, ![4, 8, 64, 8, 16]⟩
abbrev S4x512x128 : Shape := ⟨3, ![4, 512, 128]⟩
abbrev S2048 : Shape := ⟨1, ![2048]⟩
abbrev S8 : Shape := ⟨1, ![8]⟩
abbrev S8x1 : Shape := ⟨2, ![8, 1]⟩
abbrev S1x2048 : Shape := ⟨2, ![1, 2048]⟩
abbrev S8x2048 : Shape := ⟨2, ![8, 2048]⟩
abbrev S64x2048 : Shape := ⟨2, ![64, 2048]⟩
abbrev S4096x2048 : Shape := ⟨2, ![4096, 2048]⟩
abbrev S2048x128 : Shape := ⟨2, ![2048, 128]⟩
abbrev S1x128x512 : Shape := ⟨3, ![1, 128, 512]⟩
abbrev S1x512x128 : Shape := ⟨3, ![1, 512, 128]⟩
abbrev S64x512 : Shape := ⟨2, ![64, 512]⟩
abbrev S1x128 : Shape := ⟨2, ![1, 128]⟩
abbrev S2048x512 : Shape := ⟨2, ![2048, 512]⟩
abbrev S128x512 : Shape := ⟨2, ![128, 512]⟩
abbrev S8x128 : Shape := ⟨2, ![8, 128]⟩
abbrev S512x128 : Shape := ⟨2, ![512, 128]⟩
abbrev S4x2x512 : Shape := ⟨3, ![4, 2, 512]⟩
abbrev S1x2x512 : Shape := ⟨3, ![1, 2, 512]⟩
abbrev S128 : Shape := ⟨1, ![128]⟩
abbrev S2x512 : Shape := ⟨2, ![2, 512]⟩
abbrev S4x1x512 : Shape := ⟨3, ![4, 1, 512]⟩
abbrev S4x512 : Shape := ⟨2, ![4, 512]⟩
abbrev S4x16x8x64 : Shape := ⟨4, ![4, 16, 8, 64]⟩
abbrev S4x64x8x16 : Shape := ⟨4, ![4, 64, 8, 16]⟩

abbrev nBuf : Space → Nat
  | .hbm => 374
  | .vmem => 56
  | .smem => 0
  | _ => 0

abbrev hbmTy0_0 (i : Nat) : BufTy := match i % 128 with
  | 0 => ⟨S4096x512, .f32⟩
  | 1 => ⟨S4096x4608, .f32⟩
  | 2 => ⟨S32x64, .f32⟩
  | 3 => ⟨S32x64, .f32⟩
  | 4 => ⟨S32x64x16, .f32⟩
  | 5 => ⟨S32x64x16, .f32⟩
  | 6 => ⟨S32x16x64, .f32⟩
  | 7 => ⟨S32x16x64, .f32⟩
  | 8 => ⟨S1x512, .f32⟩
  | 9 => ⟨S4x8x64x16, .f32⟩
  | 10 => ⟨S4x8x16x64, .f32⟩
  | 11 => ⟨S8x8, .i32⟩
  | 12 => ⟨S8x8, .i32⟩
  | 13 => ⟨S_, .i32⟩
  | 14 => ⟨S8x8, .i32⟩
  | 15 => ⟨S8x8, .i32⟩
  | 16 => ⟨S8x8, .i1⟩
  | 17 => ⟨S8x8, .f32⟩
  | 18 => ⟨S4x8x16x1x64, .f32⟩
  | 19 => ⟨S1x8x1x8x1, .f32⟩
  | 20 => ⟨S4x8x16x8x64, .f32⟩
  | 21 => ⟨S4x8x16x8x64, .f32⟩
  | 22 => ⟨S4x8x16x8x64, .f32⟩
  | 23 => ⟨S4x128x512, .f32⟩
  | 24 => ⟨S4x128x512, .bf16⟩
  | 25 => ⟨S4x8x64x16, .f32⟩
  | 26 => ⟨S4x8x16x64, .f32⟩
  | 27 => ⟨S8x8, .i32⟩
  | 28 => ⟨S8x8, .i32⟩
  | 29 => ⟨S_, .i32⟩
  | 30 => ⟨S8x8, .i32⟩
  | 31 => ⟨S8x8, .i32⟩
  | 32 => ⟨S8x8, .i1⟩
  | 33 => ⟨S8x8, .f32⟩
  | 34 => ⟨S4x8x16x1x64, .f32⟩
  | 35 => ⟨S1x8x1x8x1, .f32⟩
  | 36 => ⟨S4x8x16x8x64, .f32⟩
  | 37 => ⟨S4x8x16x8x64, .f32⟩
  | 38 => ⟨S4x8x16x8x64, .f32⟩
  | 39 => ⟨S4x128x512, .f32⟩
  | 40 => ⟨S4x128x512, .bf16⟩
  | 41 => ⟨S4x8x16x64, .f32⟩
  | 42 => ⟨S4x8x64x16, .f32⟩
  | 43 => ⟨S8x8, .i32⟩
  | 44 => ⟨S8x8, .i32⟩
  | 45 => ⟨S_, .i32⟩
  | 46 => ⟨S8x8, .i32⟩
  | 47 => ⟨S8x8, .i32⟩
  | 48 => ⟨S8x8, .i1⟩
  | 49 => ⟨S8x8, .f32⟩
  | 50 => ⟨S4x8x64x1x16, .f32⟩
  | 51 => ⟨S1x8x1x8x1, .f32⟩
  | 52 => ⟨S4x8x64x8x16, .f32⟩
  | 53 => ⟨S4x8x64x8x16, .f32⟩
  | 54 => ⟨S4x8x64x8x16, .f32⟩
  | 55 => ⟨S4x512x128, .f32⟩
  | 56 => ⟨S4x512x128, .bf16⟩
  | 57 => ⟨S4x8x16x64, .f32⟩
  | 58 => ⟨S4x8x64x16, .f32⟩
  | 59 => ⟨S8x8, .i32⟩
  | 60 => ⟨S8x8, .i32⟩
  | 61 => ⟨S_, .i32⟩
  | 62 => ⟨S8x8, .i32⟩
  | 63 => ⟨S8x8, .i32⟩
  | 64 => ⟨S8x8, .i1⟩
  | 65 => ⟨S8x8, .f32⟩
  | 66 => ⟨S4x8x64x1x16, .f32⟩
  | 67 => ⟨S1x8x1x8x1, .f32⟩
  | 68 => ⟨S4x8x64x8x16, .f32⟩
  | 69 => ⟨S4x8x64x8x16, .f32⟩
  | 70 => ⟨S4x8x64x8x16, .f32⟩
  | 71 => ⟨S4x512x128, .f32⟩
  | 72 => ⟨S4x512x128, .bf16⟩
  | 73 => ⟨S2048, .f32⟩
  | 74 => ⟨S2048, .f32⟩
  | 75 => ⟨S2048, .f32⟩
  | 76 => ⟨S2048, .f32⟩
  | 77 => ⟨S2048, .f32⟩
  | 78 => ⟨S2048, .f32⟩
  | 79 => ⟨S2048, .f32⟩
  | 80 => ⟨S2048, .f32⟩
  | 81 => ⟨S2048, .f32⟩
  | 82 => ⟨S2048, .f32⟩
  | 83 => ⟨S2048, .f32⟩
  | 84 => ⟨S2048, .f32⟩
  | 85 => ⟨S2048, .f32⟩
  | 86 => ⟨S2048, .f32⟩
  | 87 => ⟨S2048, .f32⟩
  | 88 => ⟨S2048, .f32⟩
  | 89 => ⟨S2048, .f32⟩
  | 90 => ⟨S2048, .f32⟩
  | 91 => ⟨S2048, .f32⟩
  | 92 => ⟨S2048, .f32⟩
  | 93 => ⟨S2048, .f32⟩
  | 94 => ⟨S2048, .f32⟩
  | 95 => ⟨S2048, .f32⟩
  | 96 => ⟨S2048, .f32⟩
  | 97 => ⟨S2048, .f32⟩
  | 98 => ⟨S2048, .f32⟩
  | 99 => ⟨S2048, .f32⟩
  | 100 => ⟨S2048, .f32⟩
  | 101 => ⟨S2048, .f32⟩
  | 102 => ⟨S2048, .f32⟩
  | 103 => ⟨S2048, .f32⟩
  | 104 => ⟨S2048, .f32⟩
  | 105 => ⟨S2048, .f32⟩
  | 106 => ⟨S2048, .f32⟩
  | 107 => ⟨S2048, .f32⟩
  | 108 => ⟨S2048, .f32⟩
  | 109 => ⟨S2048, .f32⟩
  | 110 => ⟨S2048, .f32⟩
  | 111 => ⟨S2048, .f32⟩
  | 112 => ⟨S2048, .f32⟩
  | 113 => ⟨S2048, .f32⟩
  | 114 => ⟨S2048, .f32⟩
  | 115 => ⟨S2048, .f32⟩
  | 116 => ⟨S2048, .f32⟩
  | 117 => ⟨S8, .i32⟩
  | 118 => ⟨S8x1, .i32⟩
  | 119 => ⟨S_, .i32⟩
  | 120 => ⟨S8x1, .i32⟩
  | 121 => ⟨S8x1, .i1⟩
  | 122 => ⟨S1x2048, .f32⟩
  | 123 => ⟨S_, .f32⟩
  | 124 => ⟨S_, .f32⟩
  | 125 => ⟨S8x2048, .i1⟩
  | 126 => ⟨S8x2048, .f32⟩
  | 127 => ⟨S8x2048, .f32⟩
  | _ => ⟨S4096x512, .f32⟩

abbrev hbmTy0_1 (i : Nat) : BufTy := match i % 128 with
  | 0 => ⟨S8x2048, .f32⟩
  | 1 => ⟨S1x2048, .f32⟩
  | 2 => ⟨S_, .f32⟩
  | 3 => ⟨S_, .f32⟩
  | 4 => ⟨S8x2048, .i1⟩
  | 5 => ⟨S8x2048, .f32⟩
  | 6 => ⟨S8x2048, .f32⟩
  | 7 => ⟨S8x2048, .f32⟩
  | 8 => ⟨S_, .i32⟩
  | 9 => ⟨S8x1, .i32⟩
  | 10 => ⟨S8x1, .i1⟩
  | 11 => ⟨S1x2048, .f32⟩
  | 12 => ⟨S_, .f32⟩
  | 13 => ⟨S_, .f32⟩
  | 14 => ⟨S8x2048, .i1⟩
  | 15 => ⟨S8x2048, .f32⟩
  | 16 => ⟨S8x2048, .f32⟩
  | 17 => ⟨S8x2048, .f32⟩
  | 18 => ⟨S1x2048, .f32⟩
  | 19 => ⟨S_, .f32⟩
  | 20 => ⟨S_, .f32⟩
  | 21 => ⟨S8x2048, .i1⟩
  | 22 => ⟨S8x2048, .f32⟩
  | 23 => ⟨S8x2048, .f32⟩
  | 24 => ⟨S8x2048, .f32⟩
  | 25 => ⟨S_, .i32⟩
  | 26 => ⟨S8x1, .i32⟩
  | 27 => ⟨S8x1, .i1⟩
  | 28 => ⟨S1x2048, .f32⟩
  | 29 => ⟨S_, .f32⟩
  | 30 => ⟨S_, .f32⟩
  | 31 => ⟨S8x2048, .i1⟩
  | 32 => ⟨S8x2048, .f32⟩
  | 33 => ⟨S8x2048, .f32⟩
  | 34 => ⟨S8x2048, .f32⟩
  | 35 => ⟨S1x2048, .f32⟩
  | 36 => ⟨S_, .f32⟩
  | 37 => ⟨S_, .f32⟩
  | 38 => ⟨S8x2048, .i1⟩
  | 39 => ⟨S8x2048, .f32⟩
  | 40 => ⟨S8x2048, .f32⟩
  | 41 => ⟨S8x2048, .f32⟩
  | 42 => ⟨S1x2048, .f32⟩
  | 43 => ⟨S1x2048, .f32⟩
  | 44 => ⟨S1x2048, .f32⟩
  | 45 => ⟨S1x2048, .f32⟩
  | 46 => ⟨S1x2048, .f32⟩
  | 47 => ⟨S1x2048, .f32⟩
  | 48 => ⟨S1x2048, .f32⟩
  | 49 => ⟨S1x2048, .f32⟩
  | 50 => ⟨S8x2048, .f32⟩
  | 51 => ⟨S1x2048, .f32⟩
  | 52 => ⟨S1x2048, .f32⟩
  | 53 => ⟨S1x2048, .f32⟩
  | 54 => ⟨S1x2048, .f32⟩
  | 55 => ⟨S1x2048, .f32⟩
  | 56 => ⟨S1x2048, .f32⟩
  | 57 => ⟨S1x2048, .f32⟩
  | 58 => ⟨S1x2048, .f32⟩
  | 59 => ⟨S8x2048, .f32⟩
  | 60 => ⟨S64x2048, .f32⟩
  | 61 => ⟨S2048, .f32⟩
  | 62 => ⟨S2048, .f32⟩
  | 63 => ⟨S2048, .f32⟩
  | 64 => ⟨S2048, .f32⟩
  | 65 => ⟨S2048, .f32⟩
  | 66 => ⟨S2048, .f32⟩
  | 67 => ⟨S2048, .f32⟩
  | 68 => ⟨S2048, .f32⟩
  | 69 => ⟨S2048, .f32⟩
  | 70 => ⟨S2048, .f32⟩
  | 71 => ⟨S2048, .f32⟩
  | 72 => ⟨S2048, .f32⟩
  | 73 => ⟨S2048, .f32⟩
  | 74 => ⟨S2048, .f32⟩
  | 75 => ⟨S2048, .f32⟩
  | 76 => ⟨S2048, .f32⟩
  | 77 => ⟨S2048, .f32⟩
  | 78 => ⟨S2048, .f32⟩
  | 79 => ⟨S2048, .f32⟩
  | 80 => ⟨S2048, .f32⟩
  | 81 => ⟨S2048, .f32⟩
  | 82 => ⟨S2048, .f32⟩
  | 83 => ⟨S2048, .f32⟩
  | 84 => ⟨S2048, .f32⟩
  | 85 => ⟨S2048, .f32⟩
  | 86 => ⟨S2048, .f32⟩
  | 87 => ⟨S2048, .f32⟩
  | 88 => ⟨S2048, .f32⟩
  | 89 => ⟨S2048, .f32⟩
  | 90 => ⟨S2048, .f32⟩
  | 91 => ⟨S2048, .f32⟩
  | 92 => ⟨S2048, .f32⟩
  | 93 => ⟨S2048, .f32⟩
  | 94 => ⟨S2048, .f32⟩
  | 95 => ⟨S2048, .f32⟩
  | 96 => ⟨S2048, .f32⟩
  | 97 => ⟨S2048, .f32⟩
  | 98 => ⟨S2048, .f32⟩
  | 99 => ⟨S2048, .f32⟩
  | 100 => ⟨S2048, .f32⟩
  | 101 => ⟨S2048, .f32⟩
  | 102 => ⟨S2048, .f32⟩
  | 103 => ⟨S2048, .f32⟩
  | 104 => ⟨S2048, .f32⟩
  | 105 => ⟨S2048, .f32⟩
  | 106 => ⟨S8, .i32⟩
  | 107 => ⟨S8x1, .i32⟩
  | 108 => ⟨S_, .i32⟩
  | 109 => ⟨S8x1, .i32⟩
  | 110 => ⟨S8x1, .i1⟩
  | 111 => ⟨S1x2048, .f32⟩
  | 112 => ⟨S_, .f32⟩
  | 113 => ⟨S_, .f32⟩
  | 114 => ⟨S8x2048, .i1⟩
  | 115 => ⟨S8x2048, .f32⟩
  | 116 => ⟨S8x2048, .f32⟩
  | 117 => ⟨S8x2048, .f32⟩
  | 118 => ⟨S1x2048, .f32⟩
  | 119 => ⟨S_, .f32⟩
  | 120 => ⟨S_, .f32⟩
  | 121 => ⟨S8x2048, .i1⟩
  | 122 => ⟨S8x2048, .f32⟩
  | 123 => ⟨S8x2048, .f32⟩
  | 124 => ⟨S8x2048, .f32⟩
  | 125 => ⟨S_, .i32⟩
  | 126 => ⟨S8x1, .i32⟩
  | 127 => ⟨S8x1, .i1⟩
  | _ => ⟨S4096x512, .f32⟩

abbrev hbmTy0_2 (i : Nat) : BufTy := match i % 128 with
  | 0 => ⟨S1x2048, .f32⟩
  | 1 => ⟨S_, .f32⟩
  | 2 => ⟨S_, .f32⟩
  | 3 => ⟨S8x2048, .i1⟩
  | 4 => ⟨S8x2048, .f32⟩
  | 5 => ⟨S8x2048, .f32⟩
  | 6 => ⟨S8x2048, .f32⟩
  | 7 => ⟨S1x2048, .f32⟩
  | 8 => ⟨S_, .f32⟩
  | 9 => ⟨S_, .f32⟩
  | 10 => ⟨S8x2048, .i1⟩
  | 11 => ⟨S8x2048, .f32⟩
  | 12 => ⟨S8x2048, .f32⟩
  | 13 => ⟨S8x2048, .f32⟩
  | 14 => ⟨S_, .i32⟩
  | 15 => ⟨S8x1, .i32⟩
  | 16 => ⟨S8x1, .i1⟩
  | 17 => ⟨S1x2048, .f32⟩
  | 18 => ⟨S_, .f32⟩
  | 19 => ⟨S_, .f32⟩
  | 20 => ⟨S8x2048, .i1⟩
  | 21 => ⟨S8x2048, .f32⟩
  | 22 => ⟨S8x2048, .f32⟩
  | 23 => ⟨S8x2048, .f32⟩
  | 24 => ⟨S1x2048, .f32⟩
  | 25 => ⟨S_, .f32⟩
  | 26 => ⟨S_, .f32⟩
  | 27 => ⟨S8x2048, .i1⟩
  | 28 => ⟨S8x2048, .f32⟩
  | 29 => ⟨S8x2048, .f32⟩
  | 30 => ⟨S8x2048, .f32⟩
  | 31 => ⟨S1x2048, .f32⟩
  | 32 => ⟨S1x2048, .f32⟩
  | 33 => ⟨S1x2048, .f32⟩
  | 34 => ⟨S1x2048, .f32⟩
  | 35 => ⟨S1x2048, .f32⟩
  | 36 => ⟨S1x2048, .f32⟩
  | 37 => ⟨S1x2048, .f32⟩
  | 38 => ⟨S1x2048, .f32⟩
  | 39 => ⟨S8x2048, .f32⟩
  | 40 => ⟨S1x2048, .f32⟩
  | 41 => ⟨S1x2048, .f32⟩
  | 42 => ⟨S1x2048, .f32⟩
  | 43 => ⟨S1x2048, .f32⟩
  | 44 => ⟨S1x2048, .f32⟩
  | 45 => ⟨S1x2048, .f32⟩
  | 46 => ⟨S1x2048, .f32⟩
  | 47 => ⟨S1x2048, .f32⟩
  | 48 => ⟨S8x2048, .f32⟩
  | 49 => ⟨S64x2048, .f32⟩
  | 50 => ⟨S4096x512, .f32⟩
  | 51 => ⟨S4096x2048, .f32⟩
  | 52 => ⟨S4096x2048, .f32⟩
  | 53 => ⟨S4096x512, .bf16⟩
  | 54 => ⟨S4x128x512, .f32⟩
  | 55 => ⟨S4x128x512, .f32⟩
  | 56 => ⟨S4x512x128, .f32⟩
  | 57 => ⟨S4x512x128, .f32⟩
  | 58 => ⟨S4x2x512, .f32⟩
  | 59 => ⟨S1x512, .f32⟩
  | 60 => ⟨S4x1x512, .f32⟩
  | 61 => ⟨S4x512, .f32⟩
  | 62 => ⟨S32x64, .f32⟩
  | 63 => ⟨S4x1x512, .f32⟩
  | 64 => ⟨S4x512, .f32⟩
  | 65 => ⟨S32x64, .f32⟩
  | 66 => ⟨S4x8x16x8x64, .f32⟩
  | 67 => ⟨S8x8, .i32⟩
  | 68 => ⟨S8x8, .i32⟩
  | 69 => ⟨S8x8, .i1⟩
  | 70 => ⟨S4x8x16x8x64, .i1⟩
  | 71 => ⟨S_, .f32⟩
  | 72 => ⟨S4x8x16x8x64, .f32⟩
  | 73 => ⟨S4x8x16x8x64, .f32⟩
  | 74 => ⟨S_, .f32⟩
  | 75 => ⟨S4x16x8x64, .f32⟩
  | 76 => ⟨S4x8x16x64, .f32⟩
  | 77 => ⟨S4x8x64x16, .f32⟩
  | 78 => ⟨S32x64x16, .f32⟩
  | 79 => ⟨S4x8x16x8x64, .f32⟩
  | 80 => ⟨S8x8, .i32⟩
  | 81 => ⟨S8x8, .i32⟩
  | 82 => ⟨S8x8, .i1⟩
  | 83 => ⟨S4x8x16x8x64, .i1⟩
  | 84 => ⟨S_, .f32⟩
  | 85 => ⟨S4x8x16x8x64, .f32⟩
  | 86 => ⟨S4x8x16x8x64, .f32⟩
  | 87 => ⟨S_, .f32⟩
  | 88 => ⟨S4x16x8x64, .f32⟩
  | 89 => ⟨S4x8x16x64, .f32⟩
  | 90 => ⟨S4x8x64x16, .f32⟩
  | 91 => ⟨S32x64x16, .f32⟩
  | 92 => ⟨S4x8x64x8x16, .f32⟩
  | 93 => ⟨S8x8, .i32⟩
  | 94 => ⟨S8x8, .i32⟩
  | 95 => ⟨S8x8, .i1⟩
  | 96 => ⟨S4x8x64x8x16, .i1⟩
  | 97 => ⟨S_, .f32⟩
  | 98 => ⟨S4x8x64x8x16, .f32⟩
  | 99 => ⟨S4x8x64x8x16, .f32⟩
  | 100 => ⟨S_, .f32⟩
  | 101 => ⟨S4x64x8x16, .f32⟩
  | 102 => ⟨S4x8x64x16, .f32⟩
  | 103 => ⟨S4x8x16x64, .f32⟩
  | 104 => ⟨S32x16x64, .f32⟩
  | 105 => ⟨S4x8x64x8x16, .f32⟩
  | 106 => ⟨S8x8, .i32⟩
  | 107 => ⟨S8x8, .i32⟩
  | 108 => ⟨S8x8, .i1⟩
  | 109 => ⟨S4x8x64x8x16, .i1⟩
  | 110 => ⟨S_, .f32⟩
  | 111 => ⟨S4x8x64x8x16, .f32⟩
  | 112 => ⟨S4x8x64x8x16, .f32⟩
  | 113 => ⟨S_, .f32⟩
  | 114 => ⟨S4x64x8x16, .f32⟩
  | 115 => ⟨S4x8x64x16, .f32⟩
  | 116 => ⟨S4x8x16x64, .f32⟩
  | 117 => ⟨S32x16x64, .f32⟩
  | _ => ⟨S4096x512, .f32⟩

abbrev hbmTy (i : Nat) : BufTy := match i / 128 with
  | 0 => hbmTy0_0 i
  | 1 => hbmTy0_1 i
  | 2 => hbmTy0_2 i
  | _ => ⟨S4096x512, .f32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S1x128x512, .bf16⟩
  | .local _ .vmem, ⟨3, _⟩ => ⟨S1x128x512, .bf16⟩
  | .local _ .vmem, ⟨4, _⟩ => ⟨S1x128x512, .bf16⟩
  | .local _ .vmem, ⟨5, _⟩ => ⟨S1x128x512, .bf16⟩
  | .local _ .vmem, ⟨6, _⟩ => ⟨S1x512x128, .bf16⟩
  | .local _ .vmem, ⟨7, _⟩ => ⟨S1x512x128, .bf16⟩
  | .local _ .vmem, ⟨8, _⟩ => ⟨S1x512x128, .bf16⟩
  | .local _ .vmem, ⟨9, _⟩ => ⟨S1x512x128, .bf16⟩
  | .local _ .vmem, ⟨10, _⟩ => ⟨S64x512, .f32⟩
  | .local _ .vmem, ⟨11, _⟩ => ⟨S64x512, .f32⟩
  | .local _ .vmem, ⟨12, _⟩ => ⟨S1x128, .f32⟩
  | .local _ .vmem, ⟨13, _⟩ => ⟨S1x128, .f32⟩
  | .local _ .vmem, ⟨14, _⟩ => ⟨S2048x128, .f32⟩
  | .local _ .vmem, ⟨15, _⟩ => ⟨S2048x128, .f32⟩
  | .local _ .vmem, ⟨16, _⟩ => ⟨S2048x512, .f32⟩
  | .local _ .vmem, ⟨17, _⟩ => ⟨S2048x512, .f32⟩
  | .local _ .vmem, ⟨18, _⟩ => ⟨S2048x512, .f32⟩
  | .local _ .vmem, ⟨19, _⟩ => ⟨S2048x512, .f32⟩
  | .local _ .vmem, ⟨20, _⟩ => ⟨S2048x128, .f32⟩
  | .local _ .vmem, ⟨21, _⟩ => ⟨S2048x128, .f32⟩
  | .local _ .vmem, ⟨22, _⟩ => ⟨S2048x128, .f32⟩
  | .local _ .vmem, ⟨23, _⟩ => ⟨S2048x128, .f32⟩
  | .local _ .vmem, ⟨24, _⟩ => ⟨S2048x512, .f32⟩
  | .local _ .vmem, ⟨25, _⟩ => ⟨S2048x512, .f32⟩
  | .local _ .vmem, ⟨26, _⟩ => ⟨S2048x512, .f32⟩
  | .local _ .vmem, ⟨27, _⟩ => ⟨S2048x512, .f32⟩
  | .local _ .vmem, ⟨28, _⟩ => ⟨S1x128x512, .bf16⟩
  | .local _ .vmem, ⟨29, _⟩ => ⟨S1x128x512, .bf16⟩
  | .local _ .vmem, ⟨30, _⟩ => ⟨S1x128x512, .bf16⟩
  | .local _ .vmem, ⟨31, _⟩ => ⟨S1x128x512, .bf16⟩
  | .local _ .vmem, ⟨32, _⟩ => ⟨S1x512x128, .bf16⟩
  | .local _ .vmem, ⟨33, _⟩ => ⟨S1x512x128, .bf16⟩
  | .local _ .vmem, ⟨34, _⟩ => ⟨S1x512x128, .bf16⟩
  | .local _ .vmem, ⟨35, _⟩ => ⟨S1x512x128, .bf16⟩
  | .local _ .vmem, ⟨36, _⟩ => ⟨S64x512, .f32⟩
  | .local _ .vmem, ⟨37, _⟩ => ⟨S64x512, .f32⟩
  | .local _ .vmem, ⟨38, _⟩ => ⟨S1x128, .f32⟩
  | .local _ .vmem, ⟨39, _⟩ => ⟨S1x128, .f32⟩
  | .local _ .vmem, ⟨40, _⟩ => ⟨S2048x128, .bf16⟩
  | .local _ .vmem, ⟨41, _⟩ => ⟨S2048x128, .bf16⟩
  | .local _ .vmem, ⟨42, _⟩ => ⟨S1x128x512, .f32⟩
  | .local _ .vmem, ⟨43, _⟩ => ⟨S1x128x512, .f32⟩
  | .local _ .vmem, ⟨44, _⟩ => ⟨S1x128x512, .f32⟩
  | .local _ .vmem, ⟨45, _⟩ => ⟨S1x128x512, .f32⟩
  | .local _ .vmem, ⟨46, _⟩ => ⟨S1x512x128, .f32⟩
  | .local _ .vmem, ⟨47, _⟩ => ⟨S1x512x128, .f32⟩
  | .local _ .vmem, ⟨48, _⟩ => ⟨S1x512x128, .f32⟩
  | .local _ .vmem, ⟨49, _⟩ => ⟨S1x512x128, .f32⟩
  | .local _ .vmem, ⟨50, _⟩ => ⟨S1x2x512, .f32⟩
  | .local _ .vmem, ⟨51, _⟩ => ⟨S1x2x512, .f32⟩
  | .local _ .vmem, ⟨52, _⟩ => ⟨S1x128, .f32⟩
  | .local _ .vmem, ⟨53, _⟩ => ⟨S1x128, .f32⟩
  | .local _ .vmem, ⟨54, _⟩ => ⟨S2048x512, .f32⟩
  | .local _ .vmem, ⟨55, _⟩ => ⟨S2048x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c_1 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_c_2 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_c_3 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_cst : Ref sig .tc := ⟨.hbm, 123, rfl⟩
abbrev main_call0_v0 : Ref sig .tc := ⟨.hbm, 124, rfl⟩
abbrev main_call0_v1 : Ref sig .tc := ⟨.hbm, 125, rfl⟩
abbrev main_call0_v2 : Ref sig .tc := ⟨.hbm, 126, rfl⟩
abbrev main_call0_v3 : Ref sig .tc := ⟨.hbm, 127, rfl⟩
abbrev main_v109 : Ref sig .tc := ⟨.hbm, 128, rfl⟩
abbrev main_v110 : Ref sig .tc := ⟨.hbm, 129, rfl⟩
abbrev main_cst_4 : Ref sig .tc := ⟨.hbm, 130, rfl⟩
abbrev main_call1_v0 : Ref sig .tc := ⟨.hbm, 131, rfl⟩
abbrev main_call1_v1 : Ref sig .tc := ⟨.hbm, 132, rfl⟩
abbrev main_call1_v2 : Ref sig .tc := ⟨.hbm, 133, rfl⟩
abbrev main_call1_v3 : Ref sig .tc := ⟨.hbm, 134, rfl⟩
abbrev main_v111 : Ref sig .tc := ⟨.hbm, 135, rfl⟩
abbrev main_c_5 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_cst_6 : Ref sig .tc := ⟨.hbm, 140, rfl⟩
abbrev main_call2_v0 : Ref sig .tc := ⟨.hbm, 141, rfl⟩
abbrev main_call2_v1 : Ref sig .tc := ⟨.hbm, 142, rfl⟩
abbrev main_call2_v2 : Ref sig .tc := ⟨.hbm, 143, rfl⟩
abbrev main_call2_v3 : Ref sig .tc := ⟨.hbm, 144, rfl⟩
abbrev main_v115 : Ref sig .tc := ⟨.hbm, 145, rfl⟩
abbrev main_v116 : Ref sig .tc := ⟨.hbm, 146, rfl⟩
abbrev main_cst_7 : Ref sig .tc := ⟨.hbm, 147, rfl⟩
abbrev main_call3_v0 : Ref sig .tc := ⟨.hbm, 148, rfl⟩
abbrev main_call3_v1 : Ref sig .tc := ⟨.hbm, 149, rfl⟩
abbrev main_call3_v2 : Ref sig .tc := ⟨.hbm, 150, rfl⟩
abbrev main_call3_v3 : Ref sig .tc := ⟨.hbm, 151, rfl⟩
abbrev main_v117 : Ref sig .tc := ⟨.hbm, 152, rfl⟩
abbrev main_c_8 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_cst_9 : Ref sig .tc := ⟨.hbm, 157, rfl⟩
abbrev main_call4_v0 : Ref sig .tc := ⟨.hbm, 158, rfl⟩
abbrev main_call4_v1 : Ref sig .tc := ⟨.hbm, 159, rfl⟩
abbrev main_call4_v2 : Ref sig .tc := ⟨.hbm, 160, rfl⟩
abbrev main_call4_v3 : Ref sig .tc := ⟨.hbm, 161, rfl⟩
abbrev main_v121 : Ref sig .tc := ⟨.hbm, 162, rfl⟩
abbrev main_v122 : Ref sig .tc := ⟨.hbm, 163, rfl⟩
abbrev main_cst_10 : Ref sig .tc := ⟨.hbm, 164, rfl⟩
abbrev main_call5_v0 : Ref sig .tc := ⟨.hbm, 165, rfl⟩
abbrev main_call5_v1 : Ref sig .tc := ⟨.hbm, 166, rfl⟩
abbrev main_call5_v2 : Ref sig .tc := ⟨.hbm, 167, rfl⟩
abbrev main_call5_v3 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_v177 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_v181 : Ref sig .tc := ⟨.hbm, 227, rfl⟩
abbrev main_v182 : Ref sig .tc := ⟨.hbm, 228, rfl⟩
abbrev main_v183 : Ref sig .tc := ⟨.hbm, 229, rfl⟩
abbrev main_v184 : Ref sig .tc := ⟨.hbm, 230, rfl⟩
abbrev main_v185 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_c_11 : Ref sig .tc := ⟨.hbm, 236, rfl⟩
abbrev main_v190 : Ref sig .tc := ⟨.hbm, 237, rfl⟩
abbrev main_v191 : Ref sig .tc := ⟨.hbm, 238, rfl⟩
abbrev main_v192 : Ref sig .tc := ⟨.hbm, 239, rfl⟩
abbrev main_cst_12 : Ref sig .tc := ⟨.hbm, 240, rfl⟩
abbrev main_call6_v0 : Ref sig .tc := ⟨.hbm, 241, rfl⟩
abbrev main_call6_v1 : Ref sig .tc := ⟨.hbm, 242, rfl⟩
abbrev main_call6_v2 : Ref sig .tc := ⟨.hbm, 243, rfl⟩
abbrev main_call6_v3 : Ref sig .tc := ⟨.hbm, 244, rfl⟩
abbrev main_v193 : Ref sig .tc := ⟨.hbm, 245, rfl⟩
abbrev main_v194 : Ref sig .tc := ⟨.hbm, 246, rfl⟩
abbrev main_cst_13 : Ref sig .tc := ⟨.hbm, 247, rfl⟩
abbrev main_call7_v0 : Ref sig .tc := ⟨.hbm, 248, rfl⟩
abbrev main_call7_v1 : Ref sig .tc := ⟨.hbm, 249, rfl⟩
abbrev main_call7_v2 : Ref sig .tc := ⟨.hbm, 250, rfl⟩
abbrev main_call7_v3 : Ref sig .tc := ⟨.hbm, 251, rfl⟩
abbrev main_v195 : Ref sig .tc := ⟨.hbm, 252, rfl⟩
abbrev main_c_14 : Ref sig .tc := ⟨.hbm, 253, rfl⟩
abbrev main_v196 : Ref sig .tc := ⟨.hbm, 254, rfl⟩
abbrev main_v197 : Ref sig .tc := ⟨.hbm, 255, rfl⟩
abbrev main_v198 : Ref sig .tc := ⟨.hbm, 256, rfl⟩
abbrev main_cst_15 : Ref sig .tc := ⟨.hbm, 257, rfl⟩
abbrev main_call8_v0 : Ref sig .tc := ⟨.hbm, 258, rfl⟩
abbrev main_call8_v1 : Ref sig .tc := ⟨.hbm, 259, rfl⟩
abbrev main_call8_v2 : Ref sig .tc := ⟨.hbm, 260, rfl⟩
abbrev main_call8_v3 : Ref sig .tc := ⟨.hbm, 261, rfl⟩
abbrev main_v199 : Ref sig .tc := ⟨.hbm, 262, rfl⟩
abbrev main_v200 : Ref sig .tc := ⟨.hbm, 263, rfl⟩
abbrev main_cst_16 : Ref sig .tc := ⟨.hbm, 264, rfl⟩
abbrev main_call9_v0 : Ref sig .tc := ⟨.hbm, 265, rfl⟩
abbrev main_call9_v1 : Ref sig .tc := ⟨.hbm, 266, rfl⟩
abbrev main_call9_v2 : Ref sig .tc := ⟨.hbm, 267, rfl⟩
abbrev main_call9_v3 : Ref sig .tc := ⟨.hbm, 268, rfl⟩
abbrev main_v201 : Ref sig .tc := ⟨.hbm, 269, rfl⟩
abbrev main_c_17 : Ref sig .tc := ⟨.hbm, 270, rfl⟩
abbrev main_v202 : Ref sig .tc := ⟨.hbm, 271, rfl⟩
abbrev main_v203 : Ref sig .tc := ⟨.hbm, 272, rfl⟩
abbrev main_v204 : Ref sig .tc := ⟨.hbm, 273, rfl⟩
abbrev main_cst_18 : Ref sig .tc := ⟨.hbm, 274, rfl⟩
abbrev main_call10_v0 : Ref sig .tc := ⟨.hbm, 275, rfl⟩
abbrev main_call10_v1 : Ref sig .tc := ⟨.hbm, 276, rfl⟩
abbrev main_call10_v2 : Ref sig .tc := ⟨.hbm, 277, rfl⟩
abbrev main_call10_v3 : Ref sig .tc := ⟨.hbm, 278, rfl⟩
abbrev main_v205 : Ref sig .tc := ⟨.hbm, 279, rfl⟩
abbrev main_v206 : Ref sig .tc := ⟨.hbm, 280, rfl⟩
abbrev main_cst_19 : Ref sig .tc := ⟨.hbm, 281, rfl⟩
abbrev main_call11_v0 : Ref sig .tc := ⟨.hbm, 282, rfl⟩
abbrev main_call11_v1 : Ref sig .tc := ⟨.hbm, 283, rfl⟩
abbrev main_call11_v2 : Ref sig .tc := ⟨.hbm, 284, rfl⟩
abbrev main_call11_v3 : Ref sig .tc := ⟨.hbm, 285, rfl⟩
abbrev main_v207 : Ref sig .tc := ⟨.hbm, 286, rfl⟩
abbrev main_v208 : Ref sig .tc := ⟨.hbm, 287, rfl⟩
abbrev main_v209 : Ref sig .tc := ⟨.hbm, 288, rfl⟩
abbrev main_v210 : Ref sig .tc := ⟨.hbm, 289, rfl⟩
abbrev main_v211 : Ref sig .tc := ⟨.hbm, 290, rfl⟩
abbrev main_v212 : Ref sig .tc := ⟨.hbm, 291, rfl⟩
abbrev main_v213 : Ref sig .tc := ⟨.hbm, 292, rfl⟩
abbrev main_v214 : Ref sig .tc := ⟨.hbm, 293, rfl⟩
abbrev main_v215 : Ref sig .tc := ⟨.hbm, 294, rfl⟩
abbrev main_v216 : Ref sig .tc := ⟨.hbm, 295, rfl⟩
abbrev main_v217 : Ref sig .tc := ⟨.hbm, 296, rfl⟩
abbrev main_v218 : Ref sig .tc := ⟨.hbm, 297, rfl⟩
abbrev main_v219 : Ref sig .tc := ⟨.hbm, 298, rfl⟩
abbrev main_v220 : Ref sig .tc := ⟨.hbm, 299, rfl⟩
abbrev main_v221 : Ref sig .tc := ⟨.hbm, 300, rfl⟩
abbrev main_v222 : Ref sig .tc := ⟨.hbm, 301, rfl⟩
abbrev main_v223 : Ref sig .tc := ⟨.hbm, 302, rfl⟩
abbrev main_v224 : Ref sig .tc := ⟨.hbm, 303, rfl⟩
abbrev main_v225 : Ref sig .tc := ⟨.hbm, 304, rfl⟩
abbrev main_v226 : Ref sig .tc := ⟨.hbm, 305, rfl⟩
abbrev main_v227_0 : Ref sig .tc := ⟨.hbm, 306, rfl⟩
abbrev main_v227_1 : Ref sig .tc := ⟨.hbm, 307, rfl⟩
abbrev main_v227_2 : Ref sig .tc := ⟨.hbm, 308, rfl⟩
abbrev main_v228_0 : Ref sig .tc := ⟨.hbm, 309, rfl⟩
abbrev main_v228_1 : Ref sig .tc := ⟨.hbm, 310, rfl⟩
abbrev main_v228_2 : Ref sig .tc := ⟨.hbm, 311, rfl⟩
abbrev main_v228_3 : Ref sig .tc := ⟨.hbm, 312, rfl⟩
abbrev main_v228_4 : Ref sig .tc := ⟨.hbm, 313, rfl⟩
abbrev main_v228_5 : Ref sig .tc := ⟨.hbm, 314, rfl⟩
abbrev main_v228_6 : Ref sig .tc := ⟨.hbm, 315, rfl⟩
abbrev main_v229 : Ref sig .tc := ⟨.hbm, 316, rfl⟩
abbrev main_v230 : Ref sig .tc := ⟨.hbm, 317, rfl⟩
abbrev main_v231 : Ref sig .tc := ⟨.hbm, 318, rfl⟩
abbrev main_v232 : Ref sig .tc := ⟨.hbm, 319, rfl⟩
abbrev main_v233 : Ref sig .tc := ⟨.hbm, 320, rfl⟩
abbrev main_v234 : Ref sig .tc := ⟨.hbm, 321, rfl⟩
abbrev main_v235 : Ref sig .tc := ⟨.hbm, 322, rfl⟩
abbrev main_v236 : Ref sig .tc := ⟨.hbm, 323, rfl⟩
abbrev main_v237 : Ref sig .tc := ⟨.hbm, 324, rfl⟩
abbrev main_v238 : Ref sig .tc := ⟨.hbm, 325, rfl⟩
abbrev main_v239 : Ref sig .tc := ⟨.hbm, 326, rfl⟩
abbrev main_cst_20 : Ref sig .tc := ⟨.hbm, 327, rfl⟩
abbrev main_v240 : Ref sig .tc := ⟨.hbm, 328, rfl⟩
abbrev main_v241 : Ref sig .tc := ⟨.hbm, 329, rfl⟩
abbrev main_cst_21 : Ref sig .tc := ⟨.hbm, 330, rfl⟩
abbrev main_v242 : Ref sig .tc := ⟨.hbm, 331, rfl⟩
abbrev main_v243 : Ref sig .tc := ⟨.hbm, 332, rfl⟩
abbrev main_v244 : Ref sig .tc := ⟨.hbm, 333, rfl⟩
abbrev main_v245 : Ref sig .tc := ⟨.hbm, 334, rfl⟩
abbrev main_v246 : Ref sig .tc := ⟨.hbm, 335, rfl⟩
abbrev main_v247 : Ref sig .tc := ⟨.hbm, 336, rfl⟩
abbrev main_v248 : Ref sig .tc := ⟨.hbm, 337, rfl⟩
abbrev main_v249 : Ref sig .tc := ⟨.hbm, 338, rfl⟩
abbrev main_v250 : Ref sig .tc := ⟨.hbm, 339, rfl⟩
abbrev main_cst_22 : Ref sig .tc := ⟨.hbm, 340, rfl⟩
abbrev main_v251 : Ref sig .tc := ⟨.hbm, 341, rfl⟩
abbrev main_v252 : Ref sig .tc := ⟨.hbm, 342, rfl⟩
abbrev main_cst_23 : Ref sig .tc := ⟨.hbm, 343, rfl⟩
abbrev main_v253 : Ref sig .tc := ⟨.hbm, 344, rfl⟩
abbrev main_v254 : Ref sig .tc := ⟨.hbm, 345, rfl⟩
abbrev main_v255 : Ref sig .tc := ⟨.hbm, 346, rfl⟩
abbrev main_v256 : Ref sig .tc := ⟨.hbm, 347, rfl⟩
abbrev main_v257 : Ref sig .tc := ⟨.hbm, 348, rfl⟩
abbrev main_v258 : Ref sig .tc := ⟨.hbm, 349, rfl⟩
abbrev main_v259 : Ref sig .tc := ⟨.hbm, 350, rfl⟩
abbrev main_v260 : Ref sig .tc := ⟨.hbm, 351, rfl⟩
abbrev main_v261 : Ref sig .tc := ⟨.hbm, 352, rfl⟩
abbrev main_cst_24 : Ref sig .tc := ⟨.hbm, 353, rfl⟩
abbrev main_v262 : Ref sig .tc := ⟨.hbm, 354, rfl⟩
abbrev main_v263 : Ref sig .tc := ⟨.hbm, 355, rfl⟩
abbrev main_cst_25 : Ref sig .tc := ⟨.hbm, 356, rfl⟩
abbrev main_v264 : Ref sig .tc := ⟨.hbm, 357, rfl⟩
abbrev main_v265 : Ref sig .tc := ⟨.hbm, 358, rfl⟩
abbrev main_v266 : Ref sig .tc := ⟨.hbm, 359, rfl⟩
abbrev main_v267 : Ref sig .tc := ⟨.hbm, 360, rfl⟩
abbrev main_v268 : Ref sig .tc := ⟨.hbm, 361, rfl⟩
abbrev main_v269 : Ref sig .tc := ⟨.hbm, 362, rfl⟩
abbrev main_v270 : Ref sig .tc := ⟨.hbm, 363, rfl⟩
abbrev main_v271 : Ref sig .tc := ⟨.hbm, 364, rfl⟩
abbrev main_v272 : Ref sig .tc := ⟨.hbm, 365, rfl⟩
abbrev main_cst_26 : Ref sig .tc := ⟨.hbm, 366, rfl⟩
abbrev main_v273 : Ref sig .tc := ⟨.hbm, 367, rfl⟩
abbrev main_v274 : Ref sig .tc := ⟨.hbm, 368, rfl⟩
abbrev main_cst_27 : Ref sig .tc := ⟨.hbm, 369, rfl⟩
abbrev main_v275 : Ref sig .tc := ⟨.hbm, 370, rfl⟩
abbrev main_v276 : Ref sig .tc := ⟨.hbm, 371, rfl⟩
abbrev main_v277 : Ref sig .tc := ⟨.hbm, 372, rfl⟩
abbrev main_v278 : Ref sig .tc := ⟨.hbm, 373, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg3_1 : Ref sig .tc := ⟨.vmem, 27, rfl⟩
abbrev cc1_stg4_0 : Ref sig .tc := ⟨.vmem, 28, rfl⟩
abbrev cc1_stg4_1 : Ref sig .tc := ⟨.vmem, 29, rfl⟩
abbrev cc1_stg5_0 : Ref sig .tc := ⟨.vmem, 30, rfl⟩
abbrev cc1_stg5_1 : Ref sig .tc := ⟨.vmem, 31, rfl⟩
abbrev cc1_stg6_0 : Ref sig .tc := ⟨.vmem, 32, rfl⟩
abbrev cc1_stg6_1 : Ref sig .tc := ⟨.vmem, 33, rfl⟩
abbrev cc1_stg7_0 : Ref sig .tc := ⟨.vmem, 34, rfl⟩
abbrev cc1_stg7_1 : Ref sig .tc := ⟨.vmem, 35, rfl⟩
abbrev cc1_stg8_0 : Ref sig .tc := ⟨.vmem, 36, rfl⟩
abbrev cc1_stg8_1 : Ref sig .tc := ⟨.vmem, 37, rfl⟩
abbrev cc1_stg9_0 : Ref sig .tc := ⟨.vmem, 38, rfl⟩
abbrev cc1_stg9_1 : Ref sig .tc := ⟨.vmem, 39, rfl⟩
abbrev cc1_stg10_0 : Ref sig .tc := ⟨.vmem, 40, rfl⟩
abbrev cc1_stg10_1 : Ref sig .tc := ⟨.vmem, 41, rfl⟩
abbrev cc1_stg11_0 : Ref sig .tc := ⟨.vmem, 42, rfl⟩
abbrev cc1_stg11_1 : Ref sig .tc := ⟨.vmem, 43, rfl⟩
abbrev cc1_stg12_0 : Ref sig .tc := ⟨.vmem, 44, rfl⟩
abbrev cc1_stg12_1 : Ref sig .tc := ⟨.vmem, 45, rfl⟩
abbrev cc1_stg13_0 : Ref sig .tc := ⟨.vmem, 46, rfl⟩
abbrev cc1_stg13_1 : Ref sig .tc := ⟨.vmem, 47, rfl⟩
abbrev cc1_stg14_0 : Ref sig .tc := ⟨.vmem, 48, rfl⟩
abbrev cc1_stg14_1 : Ref sig .tc := ⟨.vmem, 49, rfl⟩
abbrev cc1_stg15_0 : Ref sig .tc := ⟨.vmem, 50, rfl⟩
abbrev cc1_stg15_1 : Ref sig .tc := ⟨.vmem, 51, rfl⟩
abbrev cc1_stg16_0 : Ref sig .tc := ⟨.vmem, 52, rfl⟩
abbrev cc1_stg16_1 : Ref sig .tc := ⟨.vmem, 53, rfl⟩
abbrev cc1_scratch0 : Ref sig .tc := ⟨.vmem, 54, rfl⟩
abbrev cc1_scratch1 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem3_1 : DmaSem sig := 27
abbrev cc1_sem4_0 : DmaSem sig := 28
abbrev cc1_sem4_1 : DmaSem sig := 29
abbrev cc1_sem5_0 : DmaSem sig := 30
abbrev cc1_sem5_1 : DmaSem sig := 31
abbrev cc1_sem6_0 : DmaSem sig := 32
abbrev cc1_sem6_1 : DmaSem sig := 33
abbrev cc1_sem7_0 : DmaSem sig := 34
abbrev cc1_sem7_1 : DmaSem sig := 35
abbrev cc1_sem8_0 : DmaSem sig := 36
abbrev cc1_sem8_1 : DmaSem sig := 37
abbrev cc1_sem9_0 : DmaSem sig := 38
abbrev cc1_sem9_1 : DmaSem sig := 39
abbrev cc1_sem10_0 : DmaSem sig := 40
abbrev cc1_sem10_1 : DmaSem sig := 41
abbrev cc1_sem11_0 : DmaSem sig := 42
abbrev cc1_sem11_1 : DmaSem sig := 43
abbrev cc1_sem12_0 : DmaSem sig := 44
abbrev cc1_sem12_1 : DmaSem sig := 45
abbrev cc1_sem13_0 : DmaSem sig := 46
abbrev cc1_sem13_1 : DmaSem sig := 47
abbrev cc1_sem14_0 : DmaSem sig := 48
abbrev cc1_sem14_1 : DmaSem sig := 49
abbrev cc1_sem15_0 : DmaSem sig := 50
abbrev cc1_sem15_1 : DmaSem sig := 51
abbrev cc1_sem16_0 : DmaSem sig := 52
abbrev cc1_sem16_1 : DmaSem sig := 53

abbrev nD : Nat := 1
abbrev τ : Topo := Topo.v7x

variable {F : FTy → Type} [FloatOps F]

abbrev grid0 : Pipeline.Grid := ⟨2, ![2, 4], ![false, false]⟩

@[reducible] def k0_t1_loop : Scf.Loop 32 :=
  let c0_i32 : BitVec 32 := 0#32
  let c256_i32 : BitVec 32 := 256#32
  let v12 : BitVec 32 := Scalar.addi c0_i32 c256_i32
  let c1_i32 : BitVec 32 := 1#32
  ⟨c0_i32, v12, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32 : BitVec 32 := 8#32
  let v32 : BitVec 32 := Scalar.muli arg12 c8_i32
  v32
def k0_off1 (k0_t1 : Fin k0_t1_loop.trips) : Fin 2 → Nat :=
  let c0_i32 : BitVec 32 := 0#32
  let c1_i32 : BitVec 32 := 1#32
  let arg12 : BitVec 32 := Scf.iv c0_i32 c1_i32 k0_t1
  let c8_i32 : BitVec 32 := 8#32
  let v32 : BitVec 32 := Scalar.muli arg12 c8_i32
  let v33 : BitVec 32 := v32
  let v50 : Index := Scalar.indexCast v33
  let c0_39 : Index := 0#32
  ![v50.toNat, 0]
def k0_off2 (k0_t1 : Fin k0_t1_loop.trips) : Fin 2 → Nat :=
  let c0_i32 : BitVec 32 := 0#32
  let c1_i32 : BitVec 32 := 1#32
  let arg12 : BitVec 32 := Scf.iv c0_i32 c1_i32 k0_t1
  let c8_i32 : BitVec 32 := 8#32
  let v32 : BitVec 32 := Scalar.muli arg12 c8_i32
  let v33 : BitVec 32 := v32
  let v120 : Index := Scalar.indexCast v33
  let c128_62 : Index := 128#32
  ![v120.toNat, 128]
def k0_off3 (k0_t1 : Fin k0_t1_loop.trips) : Fin 2 → Nat :=
  let c0_i32 : BitVec 32 := 0#32
  let c1_i32 : BitVec 32 := 1#32
  let arg12 : BitVec 32 := Scf.iv c0_i32 c1_i32 k0_t1
  let c8_i32 : BitVec 32 := 8#32
  let v32 : BitVec 32 := Scalar.muli arg12 c8_i32
  let v33 : BitVec 32 := v32
  let v190 : Index := Scalar.indexCast v33
  let c256_87 : Index := 256#32
  ![v190.toNat, 256]
def k0_off4 (k0_t1 : Fin k0_t1_loop.trips) : Fin 2 → Nat :=
  let c0_i32 : BitVec 32 := 0#32
  let c1_i32 : BitVec 32 := 1#32
  let arg12 : BitVec 32 := Scf.iv c0_i32 c1_i32 k0_t1
  let c8_i32 : BitVec 32 := 8#32
  let v32 : BitVec 32 := Scalar.muli arg12 c8_i32
  let v33 : BitVec 32 := v32
  let v260 : Index := Scalar.indexCast v33
  let c384_112 : Index := 384#32
  ![v260.toNat, 384]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨2, ![4, 2], ![false, false]⟩

@[reducible] def k1_t1_loop : Scf.Loop 32 :=
  let c0_i32 : BitVec 32 := 0#32
  let c256_i32 : BitVec 32 := 256#32
  let v20 : BitVec 32 := Scalar.addi c0_i32 c256_i32
  let c1_i32 : BitVec 32 := 1#32
  ⟨c0_i32, v20, c1_i32⟩
def k1_mult1 (k1_t1 : Fin k1_t1_loop.trips) : BitVec 32 :=
  let c255_i32 : BitVec 32 := 255#32
  let c0_i32 : BitVec 32 := 0#32
  let c1_i32 : BitVec 32 := 1#32
  let arg21 : BitVec 32 := Scf.iv c0_i32 c1_i32 k1_t1
  let v110 : BitVec 32 := Scalar.subi c255_i32 arg21
  let c8_i32 : BitVec 32 := 8#32
  let v111 : BitVec 32 := Scalar.muli v110 c8_i32
  v111
def k1_off1 (k1_t1 : Fin k1_t1_loop.trips) : Fin 2 → Nat :=
  let c255_i32 : BitVec 32 := 255#32
  let c0_i32 : BitVec 32 := 0#32
  let c1_i32 : BitVec 32 := 1#32
  let arg21 : BitVec 32 := Scf.iv c0_i32 c1_i32 k1_t1
  let v110 : BitVec 32 := Scalar.subi c255_i32 arg21
  let c8_i32 : BitVec 32 := 8#32
  let v111 : BitVec 32 := Scalar.muli v110 c8_i32
  let v112 : BitVec 32 := v111
  let v129 : Index := Scalar.indexCast v112
  let c0_78 : Index := 0#32
  ![v129.toNat, 0]
def k1_off2 (k1_t1 : Fin k1_t1_loop.trips) : Fin 2 → Nat :=
  let c255_i32 : BitVec 32 := 255#32
  let c0_i32 : BitVec 32 := 0#32
  let c1_i32 : BitVec 32 := 1#32
  let arg21 : BitVec 32 := Scf.iv c0_i32 c1_i32 k1_t1
  let v110 : BitVec 32 := Scalar.subi c255_i32 arg21
  let c8_i32 : BitVec 32 := 8#32
  let v111 : BitVec 32 := Scalar.muli v110 c8_i32
  let v112 : BitVec 32 := v111
  let v223 : Index := Scalar.indexCast v112
  let c128_106 : Index := 128#32
  ![v223.toNat, 128]
def k1_off3 (k1_t1 : Fin k1_t1_loop.trips) : Fin 2 → Nat :=
  let c255_i32 : BitVec 32 := 255#32
  let c0_i32 : BitVec 32 := 0#32
  let c1_i32 : BitVec 32 := 1#32
  let arg21 : BitVec 32 := Scf.iv c0_i32 c1_i32 k1_t1
  let v110 : BitVec 32 := Scalar.subi c255_i32 arg21
  let c8_i32 : BitVec 32 := 8#32
  let v111 : BitVec 32 := Scalar.muli v110 c8_i32
  let v112 : BitVec 32 := v111
  let v317 : Index := Scalar.indexCast v112
  let c256_137 : Index := 256#32
  ![v317.toNat, 256]
def k1_off4 (k1_t1 : Fin k1_t1_loop.trips) : Fin 2 → Nat :=
  let c255_i32 : BitVec 32 := 255#32
  let c0_i32 : BitVec 32 := 0#32
  let c1_i32 : BitVec 32 := 1#32
  let arg21 : BitVec 32 := Scf.iv c0_i32 c1_i32 k1_t1
  let v110 : BitVec 32 := Scalar.subi c255_i32 arg21
  let c8_i32 : BitVec 32 := 8#32
  let v111 : BitVec 32 := Scalar.muli v110 c8_i32
  let v112 : BitVec 32 := v111
  let v411 : Index := Scalar.indexCast v112
  let c384_168 : Index := 384#32
  ![v411.toNat, 384]
def k1_cond1 (i : grid1.Coords) : BitVec 1 :=
  let arg1 : BitVec 32 := BitVec.ofNat 32 (i 1).val
  let c0_i32_51 : BitVec 32 := 0#32
  let v79 : BitVec 1 := Scalar.cmpi .eq arg1 c0_i32_51
  let v80 : BitVec 32 := Scalar.extui v79
  let c0_i32_52 : BitVec 32 := 0#32
  let v81 : BitVec 1 := Scalar.cmpi .ne v80 c0_i32_52
  v81

def k1_cond2 (i : grid1.Coords) : BitVec 1 :=
  let arg1 : BitVec 32 := BitVec.ofNat 32 (i 1).val
  let c0_i32_51 : BitVec 32 := 0#32
  let v79 : BitVec 1 := Scalar.cmpi .eq arg1 c0_i32_51
  let v_true : BitVec 1 := 1#1
  let v82 : BitVec 1 := Scalar.xori v79 v_true
  let v83 : BitVec 32 := Scalar.extui v82
  let c0_i32_53 : BitVec 32 := 0#32
  let v84 : BitVec 1 := Scalar.cmpi .ne v83 c0_i32_53
  v84

def k1_cond3 (i : grid1.Coords) : BitVec 1 :=
  let arg1 : BitVec 32 := BitVec.ofNat 32 (i 1).val
  let c0_i32_51 : BitVec 32 := 0#32
  let v79 : BitVec 1 := Scalar.cmpi .eq arg1 c0_i32_51
  let v85 : BitVec 32 := Scalar.extui v79
  let c0_i32_54 : BitVec 32 := 0#32
  let v86 : BitVec 1 := Scalar.cmpi .ne v85 c0_i32_54
  v86

def k1_cond4 (i : grid1.Coords) : BitVec 1 :=
  let arg1 : BitVec 32 := BitVec.ofNat 32 (i 1).val
  let c0_i32_51 : BitVec 32 := 0#32
  let v79 : BitVec 1 := Scalar.cmpi .eq arg1 c0_i32_51
  let true_55 : BitVec 1 := 1#1
  let v87 : BitVec 1 := Scalar.xori v79 true_55
  let v88 : BitVec 32 := Scalar.extui v87
  let c0_i32_56 : BitVec 32 := 0#32
  let v89 : BitVec 1 := Scalar.cmpi .ne v88 c0_i32_56
  v89

def k1_cond5 (i : grid1.Coords) : BitVec 1 :=
  let arg1 : BitVec 32 := BitVec.ofNat 32 (i 1).val
  let c0_i32_51 : BitVec 32 := 0#32
  let v79 : BitVec 1 := Scalar.cmpi .eq arg1 c0_i32_51
  let v90 : BitVec 32 := Scalar.extui v79
  let c0_i32_57 : BitVec 32 := 0#32
  let v91 : BitVec 1 := Scalar.cmpi .ne v90 c0_i32_57
  v91

def k1_cond6 (i : grid1.Coords) : BitVec 1 :=
  let arg1 : BitVec 32 := BitVec.ofNat 32 (i 1).val
  let c0_i32_51 : BitVec 32 := 0#32
  let v79 : BitVec 1 := Scalar.cmpi .eq arg1 c0_i32_51
  let true_58 : BitVec 1 := 1#1
  let v92 : BitVec 1 := Scalar.xori v79 true_58
  let v93 : BitVec 32 := Scalar.extui v92
  let c0_i32_59 : BitVec 32 := 0#32
  let v94 : BitVec 1 := Scalar.cmpi .ne v93 c0_i32_59
  v94

def k1_cond7 (i : grid1.Coords) : BitVec 1 :=
  let arg1 : BitVec 32 := BitVec.ofNat 32 (i 1).val
  let c0_i32_51 : BitVec 32 := 0#32
  let v79 : BitVec 1 := Scalar.cmpi .eq arg1 c0_i32_51
  let v95 : BitVec 32 := Scalar.extui v79
  let c0_i32_60 : BitVec 32 := 0#32
  let v96 : BitVec 1 := Scalar.cmpi .ne v95 c0_i32_60
  v96

def k1_cond8 (i : grid1.Coords) : BitVec 1 :=
  let arg1 : BitVec 32 := BitVec.ofNat 32 (i 1).val
  let c0_i32_51 : BitVec 32 := 0#32
  let v79 : BitVec 1 := Scalar.cmpi .eq arg1 c0_i32_51
  let true_61 : BitVec 1 := 1#1
  let v97 : BitVec 1 := Scalar.xori v79 true_61
  let v98 : BitVec 32 := Scalar.extui v97
  let c0_i32_62 : BitVec 32 := 0#32
  let v99 : BitVec 1 := Scalar.cmpi .ne v98 c0_i32_62
  v99

def k1_cond9 (i : grid1.Coords) : BitVec 1 :=
  let arg1 : BitVec 32 := BitVec.ofNat 32 (i 1).val
  let c0_i32_51 : BitVec 32 := 0#32
  let v79 : BitVec 1 := Scalar.cmpi .eq arg1 c0_i32_51
  let v100 : BitVec 32 := Scalar.extui v79
  let c0_i32_63 : BitVec 32 := 0#32
  let v101 : BitVec 1 := Scalar.cmpi .ne v100 c0_i32_63
  v101

def k1_cond10 (i : grid1.Coords) : BitVec 1 :=
  let arg1 : BitVec 32 := BitVec.ofNat 32 (i 1).val
  let c0_i32_51 : BitVec 32 := 0#32
  let v79 : BitVec 1 := Scalar.cmpi .eq arg1 c0_i32_51
  let true_64 : BitVec 1 := 1#1
  let v102 : BitVec 1 := Scalar.xori v79 true_64
  let v103 : BitVec 32 := Scalar.extui v102
  let c0_i32_65 : BitVec 32 := 0#32
  let v104 : BitVec 1 := Scalar.cmpi .ne v103 c0_i32_65
  v104

def k1_cond11 (i : grid1.Coords) : BitVec 1 :=
  let arg1 : BitVec 32 := BitVec.ofNat 32 (i 1).val
  let c0_i32_51 : BitVec 32 := 0#32
  let v79 : BitVec 1 := Scalar.cmpi .eq arg1 c0_i32_51
  let v105 : BitVec 32 := Scalar.extui v79
  let c0_i32_66 : BitVec 32 := 0#32
  let v106 : BitVec 1 := Scalar.cmpi .ne v105 c0_i32_66
  v106

def k1_cond12 (i : grid1.Coords) : BitVec 1 :=
  let arg1 : BitVec 32 := BitVec.ofNat 32 (i 1).val
  let c0_i32_51 : BitVec 32 := 0#32
  let v79 : BitVec 1 := Scalar.cmpi .eq arg1 c0_i32_51
  let true_67 : BitVec 1 := 1#1
  let v107 : BitVec 1 := Scalar.xori v79 true_67
  let v108 : BitVec 32 := Scalar.extui v107
  let c0_i32_68 : BitVec 32 := 0#32
  let v109 : BitVec 1 := Scalar.cmpi .ne v108 c0_i32_68
  v109

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_12 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_13 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_14 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_15 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_16 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2048x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S2048x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x128x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x128x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x512x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1x512x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S64x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S1x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev stage1_10 : Fin 2 → Memref sig .tc .vmem S2048x128 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S1x128x512 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, false]

abbrev stage1_12 : Fin 2 → Memref sig .tc .vmem S1x128x512 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, false]

abbrev stage1_13 : Fin 2 → Memref sig .tc .vmem S1x512x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, false]

abbrev stage1_14 : Fin 2 → Memref sig .tc .vmem S1x512x128 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, false]

abbrev stage1_15 : Fin 2 → Memref sig .tc .vmem S1x2x512 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true, false]

abbrev stage1_16 : Fin 2 → Memref sig .tc .vmem S1x128 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true, false]
-- ==== ReferenceIdeal.lean ====
abbrev S4096x512 : Shape := ⟨2, ![4096, 512]⟩
abbrev S4096x4608 : Shape := ⟨2, ![4096, 4608]⟩
abbrev S32x64 : Shape := ⟨2, ![32, 64]⟩
abbrev S32x64x16 : Shape := ⟨3, ![32, 64, 16]⟩
abbrev S32x16x64 : Shape := ⟨3, ![32, 16, 64]⟩
abbrev S1x512 : Shape := ⟨2, ![1, 512]⟩
abbrev S2x2048x512 : Shape := ⟨3, ![2, 2048, 512]⟩
abbrev S2x2048x32x16 : Shape := ⟨4, ![2, 2048, 32, 16]⟩
abbrev S32x64x2x2048 : Shape := ⟨4, ![32, 64, 2, 2048]⟩
abbrev S2x2048x32x64 : Shape := ⟨4, ![2, 2048, 32, 64]⟩
abbrev S_ : Shape := ⟨0, ![]⟩
abbrev S2x32x64 : Shape := ⟨3, ![2, 32, 64]⟩
abbrev S2048x2x32x64 : Shape := ⟨4, ![2048, 2, 32, 64]⟩
abbrev S1x32x64 : Shape := ⟨3, ![1, 32, 64]⟩
abbrev S1x2x32x64 : Shape := ⟨4, ![1, 2, 32, 64]⟩
abbrev S32x16x2048x2 : Shape := ⟨4, ![32, 16, 2048, 2]⟩
abbrev S32x16 : Shape := ⟨2, ![32, 16]⟩
abbrev S1x1x32x16 : Shape := ⟨4, ![1, 1, 32, 16]⟩
abbrev S32x2048x2x64 : Shape := ⟨4, ![32, 2048, 2, 64]⟩
abbrev S32x2x2048x16 : Shape := ⟨4, ![32, 2, 2048, 16]⟩

abbrev nBuf : Space → Nat
  | .hbm => 249
  | .vmem => 0
  | .smem => 0
  | _ => 0

abbrev hbmTy0_0 (i : Nat) : BufTy := match i % 128 with
  | 0 => ⟨S4096x512, .f32⟩
  | 1 => ⟨S4096x4608, .f32⟩
  | 2 => ⟨S32x64, .f32⟩
  | 3 => ⟨S32x64, .f32⟩
  | 4 => ⟨S32x64x16, .f32⟩
  | 5 => ⟨S32x64x16, .f32⟩
  | 6 => ⟨S32x16x64, .f32⟩
  | 7 => ⟨S32x16x64, .f32⟩
  | 8 => ⟨S1x512, .f32⟩
  | 9 => ⟨S4096x512, .f32⟩
  | 10 => ⟨S2x2048x512, .f32⟩
  | 11 => ⟨S2x2048x32x16, .f32⟩
  | 12 => ⟨S32x64x2x2048, .f32⟩
  | 13 => ⟨S2x2048x32x64, .f32⟩
  | 14 => ⟨S32x64x2x2048, .f32⟩
  | 15 => ⟨S2x2048x32x64, .f32⟩
  | 16 => ⟨S_, .f32⟩
  | 17 => ⟨S2x32x64, .f32⟩
  | 18 => ⟨S2048x2x32x64, .f32⟩
  | 19 => ⟨S2048x2x32x64, .f32⟩
  | 20 => ⟨S1x32x64, .f32⟩
  | 21 => ⟨S1x32x64, .f32⟩
  | 22 => ⟨S1x32x64, .f32⟩
  | 23 => ⟨S1x32x64, .f32⟩
  | 24 => ⟨S_, .f32⟩
  | 25 => ⟨S2048x2x32x64, .f32⟩
  | 26 => ⟨S_, .f32⟩
  | 27 => ⟨S2048x2x32x64, .f32⟩
  | 28 => ⟨S_, .f32⟩
  | 29 => ⟨S2048x2x32x64, .f32⟩
  | 30 => ⟨S_, .f32⟩
  | 31 => ⟨S2048x2x32x64, .f32⟩
  | 32 => ⟨S_, .i32⟩
  | 33 => ⟨S2048x2x32x64, .f32⟩
  | 34 => ⟨S2048x2x32x64, .f32⟩
  | 35 => ⟨S1x32x64, .f32⟩
  | 36 => ⟨S1x32x64, .f32⟩
  | 37 => ⟨S1x32x64, .f32⟩
  | 38 => ⟨S1x32x64, .f32⟩
  | 39 => ⟨S_, .i32⟩
  | 40 => ⟨S2x32x64, .f32⟩
  | 41 => ⟨S2x32x64, .f32⟩
  | 42 => ⟨S2048x2x32x64, .f32⟩
  | 43 => ⟨S2048x2x32x64, .f32⟩
  | 44 => ⟨S2048x2x32x64, .f32⟩
  | 45 => ⟨S2048x2x32x64, .f32⟩
  | 46 => ⟨S_, .i32⟩
  | 47 => ⟨S_, .i1⟩
  | 48 => ⟨S_, .i32⟩
  | 49 => ⟨S_, .i32⟩
  | 50 => ⟨S_, .i32⟩
  | 51 => ⟨S1x2x32x64, .f32⟩
  | 52 => ⟨S2x32x64, .f32⟩
  | 53 => ⟨S_, .i32⟩
  | 54 => ⟨S_, .i32⟩
  | 55 => ⟨S_, .i32⟩
  | 56 => ⟨S1x2x32x64, .f32⟩
  | 57 => ⟨S2x32x64, .f32⟩
  | 58 => ⟨S2x32x64, .f32⟩
  | 59 => ⟨S2x32x64, .f32⟩
  | 60 => ⟨S2x32x64, .f32⟩
  | 61 => ⟨S2x32x64, .f32⟩
  | 62 => ⟨S2x32x64, .f32⟩
  | 63 => ⟨S2x32x64, .f32⟩
  | 64 => ⟨S2x32x64, .f32⟩
  | 65 => ⟨S2x32x64, .f32⟩
  | 66 => ⟨S2x32x64, .f32⟩
  | 67 => ⟨S2x32x64, .f32⟩
  | 68 => ⟨S2x32x64, .f32⟩
  | 69 => ⟨S2x32x64, .f32⟩
  | 70 => ⟨S1x2x32x64, .f32⟩
  | 71 => ⟨S_, .i32⟩
  | 72 => ⟨S_, .i32⟩
  | 73 => ⟨S_, .i32⟩
  | 74 => ⟨S2048x2x32x64, .f32⟩
  | 75 => ⟨S1x2x32x64, .f32⟩
  | 76 => ⟨S_, .i32⟩
  | 77 => ⟨S_, .i32⟩
  | 78 => ⟨S_, .i32⟩
  | 79 => ⟨S2048x2x32x64, .f32⟩
  | 80 => ⟨S1x2x32x64, .f32⟩
  | 81 => ⟨S_, .i32⟩
  | 82 => ⟨S_, .i32⟩
  | 83 => ⟨S_, .i32⟩
  | 84 => ⟨S2048x2x32x64, .f32⟩
  | 85 => ⟨S1x2x32x64, .f32⟩
  | 86 => ⟨S_, .i32⟩
  | 87 => ⟨S_, .i32⟩
  | 88 => ⟨S_, .i32⟩
  | 89 => ⟨S2048x2x32x64, .f32⟩
  | 90 => ⟨S_, .i32⟩
  | 91 => ⟨S_, .i32⟩
  | 92 => ⟨S32x16x2048x2, .f32⟩
  | 93 => ⟨S2x2048x32x16, .f32⟩
  | 94 => ⟨S32x16x2048x2, .f32⟩
  | 95 => ⟨S2x2048x32x16, .f32⟩
  | 96 => ⟨S2x2048x32x16, .f32⟩
  | 97 => ⟨S32x16, .f32⟩
  | 98 => ⟨S1x1x32x16, .f32⟩
  | 99 => ⟨S2x2048x32x16, .f32⟩
  | 100 => ⟨S2x2048x32x16, .f32⟩
  | 101 => ⟨S2x2048x32x16, .f32⟩
  | 102 => ⟨S2x2048x512, .f32⟩
  | 103 => ⟨S2x2048x512, .f32⟩
  | 104 => ⟨S_, .f32⟩
  | 105 => ⟨S2x32x64, .f32⟩
  | 106 => ⟨S_, .f32⟩
  | 107 => ⟨S2x32x64, .f32⟩
  | 108 => ⟨S2x2048x32x16, .f32⟩
  | 109 => ⟨S2x2048x32x16, .f32⟩
  | 110 => ⟨S2x2048x32x16, .f32⟩
  | 111 => ⟨S2x2048x32x16, .f32⟩
  | 112 => ⟨S_, .f32⟩
  | 113 => ⟨S32x16, .f32⟩
  | 114 => ⟨S1x1x32x16, .f32⟩
  | 115 => ⟨S_, .f32⟩
  | 116 => ⟨S32x16, .f32⟩
  | 117 => ⟨S1x512, .f32⟩
  | 118 => ⟨S2x2048x32x16, .f32⟩
  | 119 => ⟨S32x16x2048x2, .f32⟩
  | 120 => ⟨S32x2048x2x64, .f32⟩
  | 121 => ⟨S2048x2x32x64, .f32⟩
  | 122 => ⟨S32x16x64, .f32⟩
  | 123 => ⟨S32x16x2048x2, .f32⟩
  | 124 => ⟨S32x2048x2x64, .f32⟩
  | 125 => ⟨S2048x2x32x64, .f32⟩
  | 126 => ⟨S32x16x64, .f32⟩
  | 127 => ⟨S_, .f32⟩
  | _ => ⟨S4096x512, .f32⟩

abbrev hbmTy0_1 (i : Nat) : BufTy := match i % 128 with
  | 0 => ⟨S2x32x64, .f32⟩
  | 1 => ⟨S_, .f32⟩
  | 2 => ⟨S2x32x64, .f32⟩
  | 3 => ⟨S_, .f32⟩
  | 4 => ⟨S32x64, .f32⟩
  | 5 => ⟨S_, .f32⟩
  | 6 => ⟨S32x64, .f32⟩
  | 7 => ⟨S_, .f32⟩
  | 8 => ⟨S2048x2x32x64, .f32⟩
  | 9 => ⟨S_, .f32⟩
  | 10 => ⟨S2048x2x32x64, .f32⟩
  | 11 => ⟨S_, .i32⟩
  | 12 => ⟨S2048x2x32x64, .f32⟩
  | 13 => ⟨S2048x2x32x64, .f32⟩
  | 14 => ⟨S2048x2x32x64, .f32⟩
  | 15 => ⟨S2048x2x32x64, .f32⟩
  | 16 => ⟨S1x32x64, .f32⟩
  | 17 => ⟨S1x32x64, .f32⟩
  | 18 => ⟨S1x32x64, .f32⟩
  | 19 => ⟨S1x32x64, .f32⟩
  | 20 => ⟨S_, .i32⟩
  | 21 => ⟨S32x64, .f32⟩
  | 22 => ⟨S32x64, .f32⟩
  | 23 => ⟨S2x32x64, .f32⟩
  | 24 => ⟨S2x32x64, .f32⟩
  | 25 => ⟨S2048x2x32x64, .f32⟩
  | 26 => ⟨S2048x2x32x64, .f32⟩
  | 27 => ⟨S_, .i32⟩
  | 28 => ⟨S_, .i1⟩
  | 29 => ⟨S_, .i32⟩
  | 30 => ⟨S_, .i32⟩
  | 31 => ⟨S_, .i32⟩
  | 32 => ⟨S_, .i32⟩
  | 33 => ⟨S_, .i32⟩
  | 34 => ⟨S_, .i32⟩
  | 35 => ⟨S_, .i32⟩
  | 36 => ⟨S1x2x32x64, .f32⟩
  | 37 => ⟨S2x32x64, .f32⟩
  | 38 => ⟨S_, .i32⟩
  | 39 => ⟨S_, .i32⟩
  | 40 => ⟨S_, .i32⟩
  | 41 => ⟨S1x2x32x64, .f32⟩
  | 42 => ⟨S2x32x64, .f32⟩
  | 43 => ⟨S_, .i32⟩
  | 44 => ⟨S_, .i32⟩
  | 45 => ⟨S_, .i32⟩
  | 46 => ⟨S1x2x32x64, .f32⟩
  | 47 => ⟨S2x32x64, .f32⟩
  | 48 => ⟨S_, .i32⟩
  | 49 => ⟨S_, .i32⟩
  | 50 => ⟨S_, .i32⟩
  | 51 => ⟨S1x2x32x64, .f32⟩
  | 52 => ⟨S2x32x64, .f32⟩
  | 53 => ⟨S2x32x64, .f32⟩
  | 54 => ⟨S2x32x64, .f32⟩
  | 55 => ⟨S2x32x64, .f32⟩
  | 56 => ⟨S2x32x64, .f32⟩
  | 57 => ⟨S2x32x64, .f32⟩
  | 58 => ⟨S_, .f32⟩
  | 59 => ⟨S32x64, .f32⟩
  | 60 => ⟨S1x32x64, .f32⟩
  | 61 => ⟨S_, .f32⟩
  | 62 => ⟨S32x64, .f32⟩
  | 63 => ⟨S32x64, .f32⟩
  | 64 => ⟨S2x32x64, .f32⟩
  | 65 => ⟨S2x32x64, .f32⟩
  | 66 => ⟨S2x32x64, .f32⟩
  | 67 => ⟨S_, .f32⟩
  | 68 => ⟨S32x64, .f32⟩
  | 69 => ⟨S1x32x64, .f32⟩
  | 70 => ⟨S_, .f32⟩
  | 71 => ⟨S32x64, .f32⟩
  | 72 => ⟨S32x64, .f32⟩
  | 73 => ⟨S2x32x64, .f32⟩
  | 74 => ⟨S2x32x64, .f32⟩
  | 75 => ⟨S2x32x64, .f32⟩
  | 76 => ⟨S2x32x64, .f32⟩
  | 77 => ⟨S2x32x64, .f32⟩
  | 78 => ⟨S_, .f32⟩
  | 79 => ⟨S32x64, .f32⟩
  | 80 => ⟨S1x32x64, .f32⟩
  | 81 => ⟨S_, .f32⟩
  | 82 => ⟨S32x64, .f32⟩
  | 83 => ⟨S32x64, .f32⟩
  | 84 => ⟨S2x32x64, .f32⟩
  | 85 => ⟨S2x32x64, .f32⟩
  | 86 => ⟨S2x32x64, .f32⟩
  | 87 => ⟨S2x32x64, .f32⟩
  | 88 => ⟨S_, .f32⟩
  | 89 => ⟨S32x64, .f32⟩
  | 90 => ⟨S1x32x64, .f32⟩
  | 91 => ⟨S_, .f32⟩
  | 92 => ⟨S32x64, .f32⟩
  | 93 => ⟨S32x64, .f32⟩
  | 94 => ⟨S1x2x32x64, .f32⟩
  | 95 => ⟨S_, .i32⟩
  | 96 => ⟨S_, .i32⟩
  | 97 => ⟨S_, .i32⟩
  | 98 => ⟨S2048x2x32x64, .f32⟩
  | 99 => ⟨S1x2x32x64, .f32⟩
  | 100 => ⟨S_, .i32⟩
  | 101 => ⟨S_, .i32⟩
  | 102 => ⟨S_, .i32⟩
  | 103 => ⟨S2048x2x32x64, .f32⟩
  | 104 => ⟨S_, .i32⟩
  | 105 => ⟨S_, .i32⟩
  | 106 => ⟨S2x2048x32x64, .f32⟩
  | 107 => ⟨S2x2048x32x64, .f32⟩
  | 108 => ⟨S32x64x2x2048, .f32⟩
  | 109 => ⟨S32x2x2048x16, .f32⟩
  | 110 => ⟨S2x2048x32x16, .f32⟩
  | 111 => ⟨S2x2048x32x16, .f32⟩
  | 112 => ⟨S32x64x16, .f32⟩
  | 113 => ⟨S32x64x2x2048, .f32⟩
  | 114 => ⟨S32x2x2048x16, .f32⟩
  | 115 => ⟨S2x2048x32x16, .f32⟩
  | 116 => ⟨S2x2048x32x16, .f32⟩
  | 117 => ⟨S32x64x16, .f32⟩
  | 118 => ⟨S2x2048x512, .f32⟩
  | 119 => ⟨S4096x512, .f32⟩
  | 120 => ⟨S4096x512, .bf16⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_c : Ref sig .tc := ⟨.hbm, 32, rfl⟩
abbrev main_v18_0 : Ref sig .tc := ⟨.hbm, 33, rfl⟩
abbrev main_v18_1 : Ref sig .tc := ⟨.hbm, 34, rfl⟩
abbrev main_v18_2 : Ref sig .tc := ⟨.hbm, 35, rfl⟩
abbrev main_v18_3 : Ref sig .tc := ⟨.hbm, 36, rfl⟩
abbrev main_v18_4 : Ref sig .tc := ⟨.hbm, 37, rfl⟩
abbrev main_v18_5 : Ref sig .tc := ⟨.hbm, 38, rfl⟩
abbrev main_v18_6 : Ref sig .tc := ⟨.hbm, 39, rfl⟩
abbrev main_v18_7 : Ref sig .tc := ⟨.hbm, 40, rfl⟩
abbrev main_v18_8 : Ref sig .tc := ⟨.hbm, 41, rfl⟩
abbrev main_v18_9 : Ref sig .tc := ⟨.hbm, 42, rfl⟩
abbrev main_v18_10 : Ref sig .tc := ⟨.hbm, 43, rfl⟩
abbrev main_v18_11 : Ref sig .tc := ⟨.hbm, 44, rfl⟩
abbrev main_v18_12 : Ref sig .tc := ⟨.hbm, 45, rfl⟩
abbrev main_while0c_c_27 : Ref sig .tc := ⟨.hbm, 46, rfl⟩
abbrev main_while0c_v72 : Ref sig .tc := ⟨.hbm, 47, rfl⟩
abbrev main_while0b_call0_c : Ref sig .tc := ⟨.hbm, 48, rfl⟩
abbrev main_while0b_call0_c_0 : Ref sig .tc := ⟨.hbm, 49, rfl⟩
abbrev main_while0b_call0_c_1 : Ref sig .tc := ⟨.hbm, 50, rfl⟩
abbrev main_while0b_call0_v0 : Ref sig .tc := ⟨.hbm, 51, rfl⟩
abbrev main_while0b_v72 : Ref sig .tc := ⟨.hbm, 52, rfl⟩
abbrev main_while0b_call1_c : Ref sig .tc := ⟨.hbm, 53, rfl⟩
abbrev main_while0b_call1_c_0 : Ref sig .tc := ⟨.hbm, 54, rfl⟩
abbrev main_while0b_call1_c_1 : Ref sig .tc := ⟨.hbm, 55, rfl⟩
abbrev main_while0b_call1_v0 : Ref sig .tc := ⟨.hbm, 56, rfl⟩
abbrev main_while0b_v73 : Ref sig .tc := ⟨.hbm, 57, rfl⟩
abbrev main_while0b_v74 : Ref sig .tc := ⟨.hbm, 58, rfl⟩
abbrev main_while0b_v75 : Ref sig .tc := ⟨.hbm, 59, rfl⟩
abbrev main_while0b_v76 : Ref sig .tc := ⟨.hbm, 60, rfl⟩
abbrev main_while0b_v77 : Ref sig .tc := ⟨.hbm, 61, rfl⟩
abbrev main_while0b_v78 : Ref sig .tc := ⟨.hbm, 62, rfl⟩
abbrev main_while0b_v79 : Ref sig .tc := ⟨.hbm, 63, rfl⟩
abbrev main_while0b_v80 : Ref sig .tc := ⟨.hbm, 64, rfl⟩
abbrev main_while0b_v81 : Ref sig .tc := ⟨.hbm, 65, rfl⟩
abbrev main_while0b_v82 : Ref sig .tc := ⟨.hbm, 66, rfl⟩
abbrev main_while0b_v83 : Ref sig .tc := ⟨.hbm, 67, rfl⟩
abbrev main_while0b_v84 : Ref sig .tc := ⟨.hbm, 68, rfl⟩
abbrev main_while0b_v85 : Ref sig .tc := ⟨.hbm, 69, rfl⟩
abbrev main_while0b_call2_v0 : Ref sig .tc := ⟨.hbm, 70, rfl⟩
abbrev main_while0b_call2_c : Ref sig .tc := ⟨.hbm, 71, rfl⟩
abbrev main_while0b_call2_c_0 : Ref sig .tc := ⟨.hbm, 72, rfl⟩
abbrev main_while0b_call2_c_1 : Ref sig .tc := ⟨.hbm, 73, rfl⟩
abbrev main_while0b_v86 : Ref sig .tc := ⟨.hbm, 74, rfl⟩
abbrev main_while0b_call3_v0 : Ref sig .tc := ⟨.hbm, 75, rfl⟩
abbrev main_while0b_call3_c : Ref sig .tc := ⟨.hbm, 76, rfl⟩
abbrev main_while0b_call3_c_0 : Ref sig .tc := ⟨.hbm, 77, rfl⟩
abbrev main_while0b_call3_c_1 : Ref sig .tc := ⟨.hbm, 78, rfl⟩
abbrev main_while0b_v87 : Ref sig .tc := ⟨.hbm, 79, rfl⟩
abbrev main_while0b_call4_v0 : Ref sig .tc := ⟨.hbm, 80, rfl⟩
abbrev main_while0b_call4_c : Ref sig .tc := ⟨.hbm, 81, rfl⟩
abbrev main_while0b_call4_c_0 : Ref sig .tc := ⟨.hbm, 82, rfl⟩
abbrev main_while0b_call4_c_1 : Ref sig .tc := ⟨.hbm, 83, rfl⟩
abbrev main_while0b_v88 : Ref sig .tc := ⟨.hbm, 84, rfl⟩
abbrev main_while0b_call5_v0 : Ref sig .tc := ⟨.hbm, 85, rfl⟩
abbrev main_while0b_call5_c : Ref sig .tc := ⟨.hbm, 86, rfl⟩
abbrev main_while0b_call5_c_0 : Ref sig .tc := ⟨.hbm, 87, rfl⟩
abbrev main_while0b_call5_c_1 : Ref sig .tc := ⟨.hbm, 88, rfl⟩
abbrev main_while0b_v89 : Ref sig .tc := ⟨.hbm, 89, rfl⟩
abbrev main_while0b_c_27 : Ref sig .tc := ⟨.hbm, 90, rfl⟩
abbrev main_while0b_v90 : Ref sig .tc := ⟨.hbm, 91, rfl⟩
abbrev main_v19 : Ref sig .tc := ⟨.hbm, 92, rfl⟩
abbrev main_v20 : Ref sig .tc := ⟨.hbm, 93, rfl⟩
abbrev main_v21 : Ref sig .tc := ⟨.hbm, 94, rfl⟩
abbrev main_v22 : Ref sig .tc := ⟨.hbm, 95, rfl⟩
abbrev main_v23 : Ref sig .tc := ⟨.hbm, 96, rfl⟩
abbrev main_v24 : Ref sig .tc := ⟨.hbm, 97, rfl⟩
abbrev main_v25 : Ref sig .tc := ⟨.hbm, 98, rfl⟩
abbrev main_v26 : Ref sig .tc := ⟨.hbm, 99, rfl⟩
abbrev main_v27 : Ref sig .tc := ⟨.hbm, 100, rfl⟩
abbrev main_v28 : Ref sig .tc := ⟨.hbm, 101, rfl⟩
abbrev main_v29 : Ref sig .tc := ⟨.hbm, 102, rfl⟩
abbrev main_v30 : Ref sig .tc := ⟨.hbm, 103, rfl⟩
abbrev main_cst_4 : Ref sig .tc := ⟨.hbm, 104, rfl⟩
abbrev main_v31 : Ref sig .tc := ⟨.hbm, 105, rfl⟩
abbrev main_cst_5 : Ref sig .tc := ⟨.hbm, 106, rfl⟩
abbrev main_v32 : Ref sig .tc := ⟨.hbm, 107, rfl⟩
abbrev main_v33 : Ref sig .tc := ⟨.hbm, 108, rfl⟩
abbrev main_v34 : Ref sig .tc := ⟨.hbm, 109, rfl⟩
abbrev main_v35 : Ref sig .tc := ⟨.hbm, 110, rfl⟩
abbrev main_v36 : Ref sig .tc := ⟨.hbm, 111, rfl⟩
abbrev main_cst_6 : Ref sig .tc := ⟨.hbm, 112, rfl⟩
abbrev main_v37 : Ref sig .tc := ⟨.hbm, 113, rfl⟩
abbrev main_v38 : Ref sig .tc := ⟨.hbm, 114, rfl⟩
abbrev main_cst_7 : Ref sig .tc := ⟨.hbm, 115, rfl⟩
abbrev main_v39 : Ref sig .tc := ⟨.hbm, 116, rfl⟩
abbrev main_v40 : Ref sig .tc := ⟨.hbm, 117, rfl⟩
abbrev main_v41 : Ref sig .tc := ⟨.hbm, 118, rfl⟩
abbrev main_v42 : Ref sig .tc := ⟨.hbm, 119, rfl⟩
abbrev main_v43 : Ref sig .tc := ⟨.hbm, 120, rfl⟩
abbrev main_v44 : Ref sig .tc := ⟨.hbm, 121, rfl⟩
abbrev main_v45 : Ref sig .tc := ⟨.hbm, 122, rfl⟩
abbrev main_v46 : Ref sig .tc := ⟨.hbm, 123, rfl⟩
abbrev main_v47 : Ref sig .tc := ⟨.hbm, 124, rfl⟩
abbrev main_v48 : Ref sig .tc := ⟨.hbm, 125, rfl⟩
abbrev main_v49 : Ref sig .tc := ⟨.hbm, 126, rfl⟩
abbrev main_cst_8 : Ref sig .tc := ⟨.hbm, 127, rfl⟩
abbrev main_v50 : Ref sig .tc := ⟨.hbm, 128, rfl⟩
abbrev main_cst_9 : Ref sig .tc := ⟨.hbm, 129, rfl⟩
abbrev main_v51 : Ref sig .tc := ⟨.hbm, 130, rfl⟩
abbrev main_cst_10 : Ref sig .tc := ⟨.hbm, 131, rfl⟩
abbrev main_v52 : Ref sig .tc := ⟨.hbm, 132, rfl⟩
abbrev main_cst_11 : Ref sig .tc := ⟨.hbm, 133, rfl⟩
abbrev main_v53 : Ref sig .tc := ⟨.hbm, 134, rfl⟩
abbrev main_cst_12 : Ref sig .tc := ⟨.hbm, 135, rfl⟩
abbrev main_v54 : Ref sig .tc := ⟨.hbm, 136, rfl⟩
abbrev main_cst_13 : Ref sig .tc := ⟨.hbm, 137, rfl⟩
abbrev main_v55 : Ref sig .tc := ⟨.hbm, 138, rfl⟩
abbrev main_c_14 : Ref sig .tc := ⟨.hbm, 139, rfl⟩
abbrev main_v56_0 : Ref sig .tc := ⟨.hbm, 140, rfl⟩
abbrev main_v56_1 : Ref sig .tc := ⟨.hbm, 141, rfl⟩
abbrev main_v56_2 : Ref sig .tc := ⟨.hbm, 142, rfl⟩
abbrev main_v56_3 : Ref sig .tc := ⟨.hbm, 143, rfl⟩
abbrev main_v56_4 : Ref sig .tc := ⟨.hbm, 144, rfl⟩
abbrev main_v56_5 : Ref sig .tc := ⟨.hbm, 145, rfl⟩
abbrev main_v56_6 : Ref sig .tc := ⟨.hbm, 146, rfl⟩
abbrev main_v56_7 : Ref sig .tc := ⟨.hbm, 147, rfl⟩
abbrev main_v56_8 : Ref sig .tc := ⟨.hbm, 148, rfl⟩
abbrev main_v56_9 : Ref sig .tc := ⟨.hbm, 149, rfl⟩
abbrev main_v56_10 : Ref sig .tc := ⟨.hbm, 150, rfl⟩
abbrev main_v56_11 : Ref sig .tc := ⟨.hbm, 151, rfl⟩
abbrev main_v56_12 : Ref sig .tc := ⟨.hbm, 152, rfl⟩
abbrev main_v56_13 : Ref sig .tc := ⟨.hbm, 153, rfl⟩
abbrev main_v56_14 : Ref sig .tc := ⟨.hbm, 154, rfl⟩
abbrev main_while1c_c_29 : Ref sig .tc := ⟨.hbm, 155, rfl⟩
abbrev main_while1c_v72 : Ref sig .tc := ⟨.hbm, 156, rfl⟩
abbrev main_while1b_c_29 : Ref sig .tc := ⟨.hbm, 157, rfl⟩
abbrev main_while1b_v72 : Ref sig .tc := ⟨.hbm, 158, rfl⟩
abbrev main_while1b_c_30 : Ref sig .tc := ⟨.hbm, 159, rfl⟩
abbrev main_while1b_v73 : Ref sig .tc := ⟨.hbm, 160, rfl⟩
abbrev main_while1b_call6_c : Ref sig .tc := ⟨.hbm, 161, rfl⟩
abbrev main_while1b_call6_c_0 : Ref sig .tc := ⟨.hbm, 162, rfl⟩
abbrev main_while1b_call6_c_1 : Ref sig .tc := ⟨.hbm, 163, rfl⟩
abbrev main_while1b_call6_v0 : Ref sig .tc := ⟨.hbm, 164, rfl⟩
abbrev main_while1b_v74 : Ref sig .tc := ⟨.hbm, 165, rfl⟩
abbrev main_while1b_call7_c : Ref sig .tc := ⟨.hbm, 166, rfl⟩
abbrev main_while1b_call7_c_0 : Ref sig .tc := ⟨.hbm, 167, rfl⟩
abbrev main_while1b_call7_c_1 : Ref sig .tc := ⟨.hbm, 168, rfl⟩
abbrev main_while1b_call7_v0 : Ref sig .tc := ⟨.hbm, 169, rfl⟩
abbrev main_while1b_v75 : Ref sig .tc := ⟨.hbm, 170, rfl⟩
abbrev main_while1b_call8_c : Ref sig .tc := ⟨.hbm, 171, rfl⟩
abbrev main_while1b_call8_c_0 : Ref sig .tc := ⟨.hbm, 172, rfl⟩
abbrev main_while1b_call8_c_1 : Ref sig .tc := ⟨.hbm, 173, rfl⟩
abbrev main_while1b_call8_v0 : Ref sig .tc := ⟨.hbm, 174, rfl⟩
abbrev main_while1b_v76 : Ref sig .tc := ⟨.hbm, 175, rfl⟩
abbrev main_while1b_call9_c : Ref sig .tc := ⟨.hbm, 176, rfl⟩
abbrev main_while1b_call9_c_0 : Ref sig .tc := ⟨.hbm, 177, rfl⟩
abbrev main_while1b_call9_c_1 : Ref sig .tc := ⟨.hbm, 178, rfl⟩
abbrev main_while1b_call9_v0 : Ref sig .tc := ⟨.hbm, 179, rfl⟩
abbrev main_while1b_v77 : Ref sig .tc := ⟨.hbm, 180, rfl⟩
abbrev main_while1b_v78 : Ref sig .tc := ⟨.hbm, 181, rfl⟩
abbrev main_while1b_v79 : Ref sig .tc := ⟨.hbm, 182, rfl⟩
abbrev main_while1b_v80 : Ref sig .tc := ⟨.hbm, 183, rfl⟩
abbrev main_while1b_v81 : Ref sig .tc := ⟨.hbm, 184, rfl⟩
abbrev main_while1b_v82 : Ref sig .tc := ⟨.hbm, 185, rfl⟩
abbrev main_while1b_cst_31 : Ref sig .tc := ⟨.hbm, 186, rfl⟩
abbrev main_while1b_v83 : Ref sig .tc := ⟨.hbm, 187, rfl⟩
abbrev main_while1b_v84 : Ref sig .tc := ⟨.hbm, 188, rfl⟩
abbrev main_while1b_cst_32 : Ref sig .tc := ⟨.hbm, 189, rfl⟩
abbrev main_while1b_v85 : Ref sig .tc := ⟨.hbm, 190, rfl⟩
abbrev main_while1b_v86 : Ref sig .tc := ⟨.hbm, 191, rfl⟩
abbrev main_while1b_v87 : Ref sig .tc := ⟨.hbm, 192, rfl⟩
abbrev main_while1b_v88 : Ref sig .tc := ⟨.hbm, 193, rfl⟩
abbrev main_while1b_v89 : Ref sig .tc := ⟨.hbm, 194, rfl⟩
abbrev main_while1b_cst_33 : Ref sig .tc := ⟨.hbm, 195, rfl⟩
abbrev main_while1b_v90 : Ref sig .tc := ⟨.hbm, 196, rfl⟩
abbrev main_while1b_v91 : Ref sig .tc := ⟨.hbm, 197, rfl⟩
abbrev main_while1b_cst_34 : Ref sig .tc := ⟨.hbm, 198, rfl⟩
abbrev main_while1b_v92 : Ref sig .tc := ⟨.hbm, 199, rfl⟩
abbrev main_while1b_v93 : Ref sig .tc := ⟨.hbm, 200, rfl⟩
abbrev main_while1b_v94 : Ref sig .tc := ⟨.hbm, 201, rfl⟩
abbrev main_while1b_v95 : Ref sig .tc := ⟨.hbm, 202, rfl⟩
abbrev main_while1b_v96 : Ref sig .tc := ⟨.hbm, 203, rfl⟩
abbrev main_while1b_v97 : Ref sig .tc := ⟨.hbm, 204, rfl⟩
abbrev main_while1b_v98 : Ref sig .tc := ⟨.hbm, 205, rfl⟩
abbrev main_while1b_cst_35 : Ref sig .tc := ⟨.hbm, 206, rfl⟩
abbrev main_while1b_v99 : Ref sig .tc := ⟨.hbm, 207, rfl⟩
abbrev main_while1b_v100 : Ref sig .tc := ⟨.hbm, 208, rfl⟩
abbrev main_while1b_cst_36 : Ref sig .tc := ⟨.hbm, 209, rfl⟩
abbrev main_while1b_v101 : Ref sig .tc := ⟨.hbm, 210, rfl⟩
abbrev main_while1b_v102 : Ref sig .tc := ⟨.hbm, 211, rfl⟩
abbrev main_while1b_v103 : Ref sig .tc := ⟨.hbm, 212, rfl⟩
abbrev main_while1b_v104 : Ref sig .tc := ⟨.hbm, 213, rfl⟩
abbrev main_while1b_v105 : Ref sig .tc := ⟨.hbm, 214, rfl⟩
abbrev main_while1b_v106 : Ref sig .tc := ⟨.hbm, 215, rfl⟩
abbrev main_while1b_cst_37 : Ref sig .tc := ⟨.hbm, 216, rfl⟩
abbrev main_while1b_v107 : Ref sig .tc := ⟨.hbm, 217, rfl⟩
abbrev main_while1b_v108 : Ref sig .tc := ⟨.hbm, 218, rfl⟩
abbrev main_while1b_cst_38 : Ref sig .tc := ⟨.hbm, 219, rfl⟩
abbrev main_while1b_v109 : Ref sig .tc := ⟨.hbm, 220, rfl⟩
abbrev main_while1b_v110 : Ref sig .tc := ⟨.hbm, 221, rfl⟩
abbrev main_while1b_call10_v0 : Ref sig .tc := ⟨.hbm, 222, rfl⟩
abbrev main_while1b_call10_c : Ref sig .tc := ⟨.hbm, 223, rfl⟩
abbrev main_while1b_call10_c_0 : Ref sig .tc := ⟨.hbm, 224, rfl⟩
abbrev main_while1b_call10_c_1 : Ref sig .tc := ⟨.hbm, 225, rfl⟩
abbrev main_while1b_v111 : Ref sig .tc := ⟨.hbm, 226, rfl⟩
abbrev main_while1b_call11_v0 : Ref sig .tc := ⟨.hbm, 227, rfl⟩
abbrev main_while1b_call11_c : Ref sig .tc := ⟨.hbm, 228, rfl⟩
abbrev main_while1b_call11_c_0 : Ref sig .tc := ⟨.hbm, 229, rfl⟩
abbrev main_while1b_call11_c_1 : Ref sig .tc := ⟨.hbm, 230, rfl⟩
abbrev main_while1b_v112 : Ref sig .tc := ⟨.hbm, 231, rfl⟩
abbrev main_while1b_c_39 : Ref sig .tc := ⟨.hbm, 232, rfl⟩
abbrev main_while1b_v113 : Ref sig .tc := ⟨.hbm, 233, rfl⟩
abbrev main_v57 : Ref sig .tc := ⟨.hbm, 234, rfl⟩
abbrev main_v58 : Ref sig .tc := ⟨.hbm, 235, rfl⟩
abbrev main_v59 : Ref sig .tc := ⟨.hbm, 236, rfl⟩
abbrev main_v60 : Ref sig .tc := ⟨.hbm, 237, rfl⟩
abbrev main_v61 : Ref sig .tc := ⟨.hbm, 238, rfl⟩
abbrev main_v62 : Ref sig .tc := ⟨.hbm, 239, rfl⟩
abbrev main_v63 : Ref sig .tc := ⟨.hbm, 240, rfl⟩
abbrev main_v64 : Ref sig .tc := ⟨.hbm, 241, rfl⟩
abbrev main_v65 : Ref sig .tc := ⟨.hbm, 242, rfl⟩
abbrev main_v66 : Ref sig .tc := ⟨.hbm, 243, rfl⟩
abbrev main_v67 : Ref sig .tc := ⟨.hbm, 244, rfl⟩
abbrev main_v68 : Ref sig .tc := ⟨.hbm, 245, rfl⟩
abbrev main_v69 : Ref sig .tc := ⟨.hbm, 246, rfl⟩
abbrev main_v70 : Ref sig .tc := ⟨.hbm, 247, rfl⟩
abbrev main_v71 : Ref sig .tc := ⟨.hbm, 248, rfl⟩

abbrev nD : Nat := 1
abbrev τ : Topo := Topo.v7x

variable {F : FTy → Type} [FloatOps F]

abbrev main_while0_count : Scf.Loop 32 := ⟨0#32, 2048#32, 1#32⟩

abbrev main_while1_count : Scf.Loop 32 := ⟨0#32, 2048#32, 1#32⟩
-- ==== DownBwd.lean ====
abbrev S4096x1024 : Shape := ⟨2, ![4096, 1024]⟩
abbrev S2816x1024 : Shape := ⟨2, ![2816, 1024]⟩
abbrev S4096x2816 : Shape := ⟨2, ![4096, 2816]⟩
abbrev S2048x1024 : Shape := ⟨2, ![2048, 1024]⟩
abbrev S1408x1024 : Shape := ⟨2, ![1408, 1024]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S4096x2816, .bf16⟩
  | .local _ .vmem, ⟨0, _⟩ => ⟨S2048x1024, .f32⟩
  | .local _ .vmem, ⟨1, _⟩ => ⟨S2048x1024, .f32⟩
  | .local _ .vmem, ⟨2, _⟩ => ⟨S1408x1024, .bf16⟩
  | .local _ .vmem, ⟨3, _⟩ => ⟨S1408x1024, .bf16⟩
  | .local _ .vmem, ⟨4, _⟩ => ⟨S2048x1408, .bf16⟩
  | .local _ .vmem, ⟨5, _⟩ => ⟨S2048x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownBwdRefIdeal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S_, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x2816, .f32⟩
  | .hbm, ⟨7, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DownWgrad.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== DownWgradRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UpWgrad.lean ====
abbrev S4096x1024 : Shape := ⟨2, ![4096, 1024]⟩
abbrev S4096x2816 : Shape := ⟨2, ![4096, 2816]⟩
abbrev S4x1024x1408 : Shape := ⟨3, ![4, 1024, 1408]⟩
abbrev S1024x1024 : Shape := ⟨2, ![1024, 1024]⟩
abbrev S1024x1408 : Shape := ⟨2, ![1024, 1408]⟩
abbrev S1x1024x1408 : Shape := ⟨3, ![1, 1024, 1408]⟩

abbrev nBuf : Space → Nat
  | .hbm => 4
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S4096x2816, .bf16⟩
  | .hbm, ⟨3, _⟩ => ⟨S4x1024x1408, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 4], ![false, false, false]⟩

def k0_cond4 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 1 := Scalar.cmpi .slt arg0 c2_i32
  let c0_i32 : BitVec 32 := 0#32
  let v1 : BitVec 32 := Scalar.select v0 arg2 c0_i32
  let c1_i32 : BitVec 32 := 1#32
  let v2 : BitVec 32 := Scalar.minsi arg0 c1_i32
  let c0_i32_0 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 1 := Scalar.cmpi .slt arg0 c2_i32
  let c0_i32 : BitVec 32 := 0#32
  let v1 : BitVec 32 := Scalar.select v0 c0_i32 arg2
  let c2_i32_0 : BitVec 32 := 2#32
  let v2 : BitVec 32 := Scalar.subi arg0 c2_i32_0
  let c0_i32_1 : BitVec 32 := 0#32
  let v3 : BitVec 32 := Scalar.maxsi v2 c0_i32_1
  let c0_i32_2 : BitVec 32 := 0#32
  ![v1.toNat, v3.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== UpWgradRefIdeal.lean ====
abbrev S4096x1024 : Shape := ⟨2, ![4096, 1024]⟩
abbrev S4096x2816 : Shape := ⟨2, ![4096, 2816]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S4096x2816, .bf16⟩
  | .hbm, ⟨3, _⟩ => ⟨S4096x5632, .bf16⟩
  | .hbm, ⟨4, _⟩ => ⟨S_, .f32⟩
  | .hbm, ⟨5, _⟩ => ⟨S1024x5632, .f32⟩
  | .hbm, ⟨6, _⟩ => ⟨S4096x1024, .f32⟩
  | .hbm, ⟨7, _⟩ => ⟨S4096x5632, .f32⟩
  | .hbm, ⟨8, _⟩ => ⟨S4096x5632, .f32⟩
  | .hbm, ⟨9, _⟩ => ⟨S5632x1024, .f32⟩
  | .hbm, ⟨10, _⟩ => ⟨S1024x5632, .f32⟩
  | .hbm, ⟨11, _⟩ => ⟨S1024x4x1408, .f32⟩
  | .hbm, ⟨12, _⟩ => ⟨S4x1024x1408, .f32⟩
  | .hbm, ⟨13, _⟩ => ⟨S4x1024x1408, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== InWgrad.lean ====
abbrev S4096x1024 : Shape := ⟨2, ![4096, 1024]⟩
abbrev S4096x4608 : Shape := ⟨2, ![4096, 4608]⟩
abbrev S4x1024x1152 : Shape := ⟨3, ![4, 1024, 1152]⟩
abbrev S2048x1024 : Shape := ⟨2, ![2048, 1024]⟩
abbrev S2048x1152 : Shape := ⟨2, ![2048, 1152]⟩
abbrev S1x1024x1152 : Shape := ⟨3, ![1, 1024, 1152]⟩
abbrev S1024x1152 : Shape := ⟨2, ![1024, 1152]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x4608, .bf16⟩
  | .hbm, ⟨2, _⟩ => ⟨S4x1024x1152, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1152, .bf16⟩
  | .local _ .vmem, ⟨3, _⟩ => ⟨S2048x1152, .bf16⟩
  | .local _ .vmem, ⟨4, _⟩ => ⟨S1x1024x1152, .bf16⟩
  | .local _ .vmem, ⟨5, _⟩ => ⟨S1x1024x1152, .bf16⟩
  | .local _ .vmem, ⟨6, _⟩ => ⟨S1024x1152, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== InWgradRefIdeal.lean ====
abbrev S4096x1024 : Shape := ⟨2, ![4096, 1024]⟩
abbrev S4096x4608 : Shape := ⟨2, ![4096, 4608]⟩
abbrev S_ : Shape := ⟨0, ![]⟩
abbrev S1024x4608 : Shape := ⟨2, ![1024, 4608]⟩
abbrev S4608x1024 : Shape := ⟨2, ![4608, 1024]⟩
abbrev S1024x4x1152 : Shape := ⟨3, ![1024, 4, 1152]⟩
abbrev S4x1024x1152 : Shape := ⟨3, ![4, 1024, 1152]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4608, .bf16⟩
  | .hbm, ⟨2, _⟩ => ⟨S_, .f32⟩
  | .hbm, ⟨3, _⟩ => ⟨S1024x4608, .f32⟩
  | .hbm, ⟨4, _⟩ => ⟨S4096x1024, .f32⟩
  | .hbm, ⟨5, _⟩ => ⟨S4096x4608, .f32⟩
  | .hbm, ⟨6, _⟩ => ⟨S4096x4608, .f32⟩
  | .hbm, ⟨7, _⟩ => ⟨S4608x1024, .f32⟩
  | .hbm, ⟨8, _⟩ => ⟨S1024x4608, .f32⟩
  | .hbm, ⟨9, _⟩ => ⟨S1024x4x1152, .f32⟩
  | .hbm, ⟨10, _⟩ => ⟨S4x1024x1152, .f32⟩
  | .hbm, ⟨11, _⟩ => ⟨S4x1024x1152, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== OutBwd.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .bf16⟩
  | .local _ .vmem, ⟨0, _⟩ => ⟨S2048x1024, .f32⟩
  | .local _ .vmem, ⟨1, _⟩ => ⟨S2048x1024, .f32⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutBwdRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutWgrad.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]
-- ==== OutWgradRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ProjBwd.lean ====
abbrev S4096x1024 : Shape := ⟨2, ![4096, 1024]⟩
abbrev S512x1024 : Shape := ⟨2, ![512, 1024]⟩
abbrev S4096x512 : Shape := ⟨2, ![4096, 512]⟩
abbrev S2048x1024 : Shape := ⟨2, ![2048, 1024]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S512x1024, .bf16⟩
  | .hbm, ⟨2, _⟩ => ⟨S4096x512, .f32⟩
  | .local _ .vmem, ⟨0, _⟩ => ⟨S2048x1024, .bf16⟩
  | .local _ .vmem, ⟨1, _⟩ => ⟨S2048x1024, .bf16⟩
  | .local _ .vmem, ⟨2, _⟩ => ⟨S512x1024, .bf16⟩
  | .local _ .vmem, ⟨3, _⟩ => ⟨S2048x512, .f32⟩
  | .local _ .vmem, ⟨4, _⟩ => ⟨S2048x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjBwdRefIdeal.lean ====
abbrev S4096x1024 : Shape := ⟨2, ![4096, 1024]⟩
abbrev S512x1024 : Shape := ⟨2, ![512, 1024]⟩
abbrev S_ : Shape := ⟨0, ![]⟩
abbrev S4096x512 : Shape := ⟨2, ![4096, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S512x1024, .bf16⟩
  | .hbm, ⟨2, _⟩ => ⟨S_, .f32⟩
  | .hbm, ⟨3, _⟩ => ⟨S4096x512, .f32⟩
  | .hbm, ⟨4, _⟩ => ⟨S512x1024, .f32⟩
  | .hbm, ⟨5, _⟩ => ⟨S4096x1024, .f32⟩
  | .hbm, ⟨6, _⟩ => ⟨S4096x1024, .f32⟩
  | .hbm, ⟨7, _⟩ => ⟨S4096x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ProjWgrad.lean ====
abbrev S4096x512 : Shape := ⟨2, ![4096, 512]⟩
abbrev S4096x1024 : Shape := ⟨2, ![4096, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]
-- ==== ProjWgradRefIdeal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S_, .f32⟩
  | .hbm, ⟨3, _⟩ => ⟨S512x1024, .f32⟩
  | .hbm, ⟨4, _⟩ => ⟨S4096x512, .f32⟩
  | .hbm, ⟨5, _⟩ => ⟨S4096x1024, .f32⟩
  | .hbm, ⟨6, _⟩ => ⟨S4096x1024, .f32⟩
  | .hbm, ⟨7, _⟩ => ⟨S1024x512, .f32⟩
  | .hbm, ⟨8, _⟩ => ⟨S512x1024, .f32⟩
  | .hbm, ⟨9, _⟩ => ⟨S512x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GluWgrad.lean ====
abbrev S4096x512 : Shape := ⟨2, ![4096, 512]⟩
abbrev S512x512 : Shape := ⟨2, ![512, 512]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S512x512, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S512x512, .bf16⟩
  | .local _ .vmem, ⟨5, _⟩ => ⟨S512x512, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]
-- ==== GluWgradRefIdeal.lean ====
abbrev S4096x512 : Shape := ⟨2, ![4096, 512]⟩
abbrev S_ : Shape := ⟨0, ![]⟩
abbrev S512x512 : Shape := ⟨2, ![512, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S_, .f32⟩
  | .hbm, ⟨3, _⟩ => ⟨S512x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S512x512, .f32⟩
  | .hbm, ⟨8, _⟩ => ⟨S512x512, .f32⟩
  | .hbm, ⟨9, _⟩ => ⟨S512x512, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UpProj.lean ====
abbrev S4096x1024 : Shape := ⟨2, ![4096, 1024]⟩
abbrev S4x1024x1408 : Shape := ⟨3, ![4, 1024, 1408]⟩
abbrev S4096x5632 : Shape := ⟨2, ![4096, 5632]⟩
abbrev S2048x1024 : Shape := ⟨2, ![2048, 1024]⟩
abbrev S1x1024x1408 : Shape := ⟨3, ![1, 1024, 1408]⟩
abbrev S2048x1408 : Shape := ⟨2, ![2048, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x1024x1408, .bf16⟩
  | .hbm, ⟨2, _⟩ => ⟨S4096x5632, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S2048x1408, .bf16⟩
  | .local _ .vmem, ⟨5, _⟩ => ⟨S2048x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpProjRefIdeal.lean ====
abbrev S4096x1024 : Shape := ⟨2, ![4096, 1024]⟩
abbrev S4x1024x1408 : Shape := ⟨3, ![4, 1024, 1408]⟩
abbrev S1x1024x1408 : Shape := ⟨3, ![1, 1024, 1408]⟩
abbrev S1024x1408 : Shape := ⟨2, ![1024, 1408]⟩
abbrev S1024x5632 : Shape := ⟨2, ![1024, 5632]⟩
abbrev S4096x5632 : Shape := ⟨2, ![4096, 5632]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x1408, .bf16⟩
  | .hbm, ⟨2, _⟩ => ⟨S1x1024x1408, .bf16⟩
  | .hbm, ⟨3, _⟩ => ⟨S1024x1408, .bf16⟩
  | .hbm, ⟨4, _⟩ => ⟨S1x1024x1408, .bf16⟩
  | .hbm, ⟨5, _⟩ => ⟨S1024x1408, .bf16⟩
  | .hbm, ⟨6, _⟩ => ⟨S1x1024x1408, .bf16⟩
  | .hbm, ⟨7, _⟩ => ⟨S1024x1408, .bf16⟩
  | .hbm, ⟨8, _⟩ => ⟨S1x1024x1408, .bf16⟩
  | .hbm, ⟨9, _⟩ => ⟨S1024x1408, .bf16⟩
  | .hbm, ⟨10, _⟩ => ⟨S1024x5632, .bf16⟩
  | .hbm, ⟨11, _⟩ => ⟨S4096x1024, .f32⟩
  | .hbm, ⟨12, _⟩ => ⟨S1024x5632, .f32⟩
  | .hbm, ⟨13, _⟩ => ⟨S4096x5632, .f32⟩
  | .hbm, ⟨14, _⟩ => ⟨S4096x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩

abbrev nD : Nat := 1
abbrev τ : Topo := Topo.v7x

variable {F : FTy → Type} [FloatOps F]
-- ==== Proj.lean ====
abbrev S4096x512 : Shape := ⟨2, ![4096, 512]⟩
abbrev S512x1024 : Shape := ⟨2, ![512, 1024]⟩
abbrev S4096x1024 : Shape := ⟨2, ![4096, 1024]⟩
abbrev S2048x512 : Shape := ⟨2, ![2048, 512]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x1024, .bf16⟩
  | .local _ .vmem, ⟨0, _⟩ => ⟨S2048x512, .bf16⟩
  | .local _ .vmem, ⟨1, _⟩ => ⟨S2048x512, .bf16⟩
  | .local _ .vmem, ⟨2, _⟩ => ⟨S512x1024, .bf16⟩
  | .local _ .vmem, ⟨3, _⟩ => ⟨S2048x1024, .bf16⟩
  | .local _ .vmem, ⟨4, _⟩ => ⟨S2048x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== ProjRefIdeal.lean ====
abbrev S4096x512 : Shape := ⟨2, ![4096, 512]⟩
abbrev S512x1024 : Shape := ⟨2, ![512, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x512, .f32⟩
  | .hbm, ⟨3, _⟩ => ⟨S512x1024, .f32⟩
  | .hbm, ⟨4, _⟩ => ⟨S4096x1024, .f32⟩
  | .hbm, ⟨5, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutProj.lean ====
abbrev S4096x1024 : Shape := ⟨2, ![4096, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== OutProjRefIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== UpBwd.lean ====
abbrev S4096x2816 : Shape := ⟨2, ![4096, 2816]⟩
abbrev S4x1024x1408 : Shape := ⟨3, ![4, 1024, 1408]⟩
abbrev S4096x1024 : Shape := ⟨2, ![4096, 1024]⟩
abbrev S1x1024 : Shape := ⟨2, ![1, 1024]⟩
abbrev S512x1408 : Shape := ⟨2, ![512, 1408]⟩
abbrev S1x1024x1408 : Shape := ⟨3, ![1, 1024, 1408]⟩
abbrev S512x1024 : Shape := ⟨2, ![512, 1024]⟩
abbrev S1024x1408 : Shape := ⟨2, ![1024, 1408]⟩
abbrev S512 : Shape := ⟨1, ![512]⟩
abbrev S512x1 : Shape := ⟨2, ![512, 1]⟩
abbrev S1024 : Shape := ⟨1, ![1024]⟩

abbrev nBuf : Space → Nat
  | .hbm => 8
  | .vmem => 15
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S4x1024x1408, .bf16⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S1x1024, .f32⟩
  | .local _ .vmem, ⟨0, _⟩ => ⟨S512x1408, .bf16⟩
  | .local _ .vmem, ⟨1, _⟩ => ⟨S512x1408, .bf16⟩
  | .local _ .vmem, ⟨2, _⟩ => ⟨S512x1408, .bf16⟩
  | .local _ .vmem, ⟨3, _⟩ => ⟨S512x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨3, ![8, 1, 4], ![false, false, false]⟩

def k0_cond4 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_4 : BitVec 32 := 0#32
  let v12 : BitVec 1 := Scalar.cmpi .ne v11 c0_i32_4
  v12

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v44 : BitVec 32 := Scalar.extui v0
  let c0_i32_19 : BitVec 32 := 0#32
  let v45 : BitVec 1 := Scalar.cmpi .ne v44 c0_i32_19
  v45

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_20 : BitVec 1 := 1#1
  let v46 : BitVec 1 := Scalar.xori v0 true_20
  let v47 : BitVec 32 := Scalar.extui v46
  let c0_i32_21 : BitVec 32 := 0#32
  let v48 : BitVec 1 := Scalar.cmpi .ne v47 c0_i32_21
  v48

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.minsi arg2 c1_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let v1 : BitVec 32 := Scalar.maxsi v0 c0_i32
  let c0_i32_0 : BitVec 32 := 0#32
  ![arg0.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== UpBwdRefIdeal.lean ====
abbrev S4096x2816 : Shape := ⟨2, ![4096, 2816]⟩
abbrev S4x1024x1408 : Shape := ⟨3, ![4, 1024, 1408]⟩
abbrev S4096x1024 : Shape := ⟨2, ![4096, 1024]⟩
abbrev S1x1024 : Shape := ⟨2, ![1, 1024]⟩
abbrev S4096x5632 : Shape := ⟨2, ![4096, 5632]⟩
abbrev S1x1024x1408 : Shape := ⟨3, ![1, 1024, 1408]⟩
abbrev S1024x1408 : Shape := ⟨2, ![1024, 1408]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 63
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S4x1024x1408, .bf16⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x5632, .bf16⟩
  | .hbm, ⟨7, _⟩ => ⟨S1x1024x1408, .bf16⟩
  | .hbm, ⟨8, _⟩ => ⟨S1024x1408, .bf16⟩
  | .hbm, ⟨9, _⟩ => ⟨S1x1024x1408, .bf16⟩
  | .hbm, ⟨10, _⟩ => ⟨S1024x1408, .bf16⟩
  | .hbm, ⟨11, _⟩ => ⟨S1x1024x1408, .bf16⟩
  | .hbm, ⟨12, _⟩ => ⟨S1024x1408, .bf16⟩
  | .hbm, ⟨13, _⟩ => ⟨S1x1024x1408, .bf16⟩
  | .hbm, ⟨14, _⟩ => ⟨S1024x1408, .bf16⟩
  | .hbm, ⟨15, _⟩ => ⟨S1024x5632, .bf16⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S1024x5632, .f32⟩
  | .hbm, ⟨36, _⟩ => ⟨S4096x5632, .f32⟩
  | .hbm, ⟨37, _⟩ => ⟨S4096x5632, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096, .f32⟩
  | .hbm, ⟨48, _⟩ => ⟨S4096x1, .f32⟩
  | .hbm, ⟨49, _⟩ => ⟨S4096x1024, .f32⟩
  | .hbm, ⟨50, _⟩ => ⟨S4096x1024, .f32⟩
  | .hbm, ⟨51, _⟩ => ⟨S4096x1, .f32⟩
  | .hbm, ⟨52, _⟩ => ⟨S_, .f32⟩
  | .hbm, ⟨53, _⟩ => ⟨S4096x1, .f32⟩
  | .hbm, ⟨54, _⟩ => ⟨S4096x1, .f32⟩
  | .hbm, ⟨55, _⟩ => ⟨S_, .f32⟩
  | .hbm, ⟨56, _⟩ => ⟨S4096, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_5 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩

abbrev nD : Nat := 1
abbrev τ : Topo := Topo.v7x

variable {F : FTy → Type} [FloatOps F]
-- ==== InBwd.lean ====
abbrev S4096x4608 : Shape := ⟨2, ![4096, 4608]⟩
abbrev S4x1024x1152 : Shape := ⟨3, ![4, 1024, 1152]⟩
abbrev S4096x1024 : Shape := ⟨2, ![4096, 1024]⟩
abbrev S1x1024 : Shape := ⟨2, ![1, 1024]⟩
abbrev S512x1152 : Shape := ⟨2, ![512, 1152]⟩
abbrev S1x1024x1152 : Shape := ⟨3, ![1, 1024, 1152]⟩
abbrev S512x1024 : Shape := ⟨2, ![512, 1024]⟩
abbrev S1024x1152 : Shape := ⟨2, ![1024, 1152]⟩
abbrev S512 : Shape := ⟨1, ![512]⟩
abbrev S512x1 : Shape := ⟨2, ![512, 1]⟩
abbrev S1024 : Shape := ⟨1, ![1024]⟩

abbrev nBuf : Space → Nat
  | .hbm => 7
  | .vmem => 13
  | .smem => 0
  | _ => 0

abbrev bufTy : (tb : Table) → Fin (tcTables nBuf tb) → BufTy
  | .hbm, ⟨0, _⟩ => ⟨S4096x4608, .bf16⟩
  | .hbm, ⟨1, _⟩ => ⟨S4x1024x1152, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S512x1152, .bf16⟩
  | .local _ .vmem, ⟨1, _⟩ => ⟨S512x1152, .bf16⟩
  | .local _ .vmem, ⟨2, _⟩ => ⟨S1x1024x1152, .bf16⟩
  | .local _ .vmem, ⟨3, _⟩ => ⟨S1x1024x1152, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | _, _ => ⟨S4096x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_10 : BitVec 32 := 0#32
  let v15 : BitVec 1 := Scalar.cmpi .ne v14 c0_i32_10
  v15

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v47 : BitVec 32 := Scalar.extui v0
  let c0_i32_27 : BitVec 32 := 0#32
  let v48 : BitVec 1 := Scalar.cmpi .ne v47 c0_i32_27
  v48

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v49 : BitVec 1 := Scalar.xori v0 v_true
  let v50 : BitVec 32 := Scalar.extui v49
  let c0_i32_28 : BitVec 32 := 0#32
  let v51 : BitVec 1 := Scalar.cmpi .ne v50 c0_i32_28
  v51

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== InBwdRefIdeal.lean ====
abbrev S4096x4608 : Shape := ⟨2, ![4096, 4608]⟩
abbrev S4x1024x1152 : Shape := ⟨3, ![4, 1024, 1152]⟩
abbrev S4096x1024 : Shape := ⟨2, ![4096, 1024]⟩
abbrev S1x1024 : Shape := ⟨2, ![1, 1024]⟩
abbrev S1x1024x1152 : Shape := ⟨3, ![1, 1024, 1152]⟩
abbrev S1024x1152 : Shape := ⟨2, ![1024, 1152]⟩
abbrev S1024x4608 : Shape := ⟨2, ![1024, 4608]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 61
  | .vmem => 0
  | .smem => 0
  | _ => 0

abbrev bufTy : (tb : Table) → Fin (tcTables nBuf tb) → BufTy
  | .hbm, ⟨0, _⟩ => ⟨S4096x4608, .bf16⟩
  | .hbm, ⟨1, _⟩ => ⟨S4x1024x1152, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1x1024x1152, .bf16⟩
  | .hbm, ⟨6, _⟩ => ⟨S1024x1152, .bf16⟩
  | .hbm, ⟨7, _⟩ => ⟨S1x1024x1152, .bf16⟩
  | .hbm, ⟨8, _⟩ => ⟨S1024x1152, .bf16⟩
  | .hbm, ⟨9, _⟩ => ⟨S1x1024x1152, .bf16⟩
  | .hbm, ⟨10, _⟩ => ⟨S1024x1152, .bf16⟩
  | .hbm, ⟨11, _⟩ => ⟨S1x1024x1152, .bf16⟩
  | .hbm, ⟨12, _⟩ => ⟨S1024x1152, .bf16⟩
  | .hbm, ⟨13, _⟩ => ⟨S1024x4608, .bf16⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S1024x4608, .f32⟩
  | .hbm, ⟨34, _⟩ => ⟨S4096x4608, .f32⟩
  | .hbm, ⟨35, _⟩ => ⟨S4096x4608, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S_, .f32⟩
  | .hbm, ⟨54, _⟩ => ⟨S4096, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | _, _ => ⟨S4096x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_5 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩

abbrev nD : Nat := 1
abbrev τ : Topo := Topo.v7x

variable {F : FTy → Type} [FloatOps F]
-- ==== DownProj.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1x128 : Shape := ⟨2, ![1, 128]⟩
abbrev S512x1408 : Shape := ⟨2, ![512, 1408]⟩
abbrev S1408x1024 : Shape := ⟨2, ![1408, 1024]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 8
  | .vmem => 14
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1x1024, .f32⟩
  | .hbm, ⟨7, _⟩ => ⟨S1x128, .f32⟩
  | .local _ .vmem, ⟨0, _⟩ => ⟨S512x1408, .bf16⟩
  | .local _ .vmem, ⟨1, _⟩ => ⟨S512x1408, .bf16⟩
  | .local _ .vmem, ⟨2, _⟩ => ⟨S1408x1024, .bf16⟩
  | .local _ .vmem, ⟨3, _⟩ => ⟨S1408x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x128, .f32⟩
  | .local _ .vmem, ⟨13, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_9 : BitVec 32 := 0#32
  let v14 : BitVec 1 := Scalar.cmpi .ne v13 c0_i32_9
  v14

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v62 : BitVec 32 := Scalar.extui v0
  let c0_i32_31 : BitVec 32 := 0#32
  let v63 : BitVec 1 := Scalar.cmpi .ne v62 c0_i32_31
  v63

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v64 : BitVec 1 := Scalar.xori v0 v_true
  let v65 : BitVec 32 := Scalar.extui v64
  let c0_i32_32 : BitVec 32 := 0#32
  let v66 : BitVec 1 := Scalar.cmpi .ne v65 c0_i32_32
  v66

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v67 : BitVec 32 := Scalar.extui v0
  let c0_i32_33 : BitVec 32 := 0#32
  let v68 : BitVec 1 := Scalar.cmpi .ne v67 c0_i32_33
  v68

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_34 : BitVec 1 := 1#1
  let v69 : BitVec 1 := Scalar.xori v0 true_34
  let v70 : BitVec 32 := Scalar.extui v69
  let c0_i32_35 : BitVec 32 := 0#32
  let v71 : BitVec 1 := Scalar.cmpi .ne v70 c0_i32_35
  v71

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== DownProjRefIdeal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x2816, .f32⟩
  | .hbm, ⟨6, _⟩ => ⟨S2816x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S_, .f32⟩
  | .hbm, ⟨33, _⟩ => ⟨S4096, .f32⟩
  | .hbm, ⟨34, _⟩ => ⟨S4096, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S4096, .f32⟩
  | .hbm, ⟨43, _⟩ => ⟨S_, .f32⟩
  | .hbm, ⟨44, _⟩ => ⟨S4096, .f32⟩
  | .hbm, ⟨45, _⟩ => ⟨S4096, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S4096x1024, .f32⟩
  | .hbm, ⟨61, _⟩ => ⟨S4096x1024, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S_, .f32⟩
  | .hbm, ⟨67, _⟩ => ⟨S4096, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S1x128, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_10 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_11 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_12 : Ref sig .tc := ⟨.hbm, 63, rfl⟩
abbrev main_v45 : Ref sig .tc := ⟨.hbm, 64, rfl⟩
abbrev main_v46 : Ref sig .tc := ⟨.hbm, 65, rfl⟩
abbrev main_cst_13 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== AdamwIn.lean ====
abbrev S1024x1152 : Shape := ⟨2, ![1024, 1152]⟩
abbrev S512x1152 : Shape := ⟨2, ![512, 1152]⟩
abbrev S2 : Shape := ⟨1, ![2]⟩
abbrev S256x1152 : Shape := ⟨2, ![256, 1152]⟩
abbrev S1 : Shape := ⟨1, ![1]⟩

abbrev nBuf : Space → Nat
  | .hbm => 9
  | .vmem => 18
  | .smem => 1
  | _ => 0

abbrev bufTy : (tb : Table) → Fin (tcTables nBuf tb) → BufTy
  | .hbm, ⟨0, _⟩ => ⟨S1024x1152, .f32⟩
  | .hbm, ⟨1, _⟩ => ⟨S1024x1152, .f32⟩
  | .hbm, ⟨2, _⟩ => ⟨S1024x1152, .f32⟩
  | .hbm, ⟨3, _⟩ => ⟨S512x1152, .f32⟩
  | .hbm, ⟨4, _⟩ => ⟨S512x1152, .f32⟩
  | .hbm, ⟨5, _⟩ => ⟨S1024x1152, .f32⟩
  | .hbm, ⟨6, _⟩ => ⟨S1024x1152, .f32⟩
  | .hbm, ⟨7, _⟩ => ⟨S1024x1152, .f32⟩
  | .hbm, ⟨8, _⟩ => ⟨S1024x1152, .f32⟩
  | .local _ .vmem, ⟨0, _⟩ => ⟨S256x1152, .f32⟩
  | .local _ .vmem, ⟨1, _⟩ => ⟨S256x1152, .f32⟩
  | .local _ .vmem, ⟨2, _⟩ => ⟨S256x1152, .f32⟩
  | .local _ .vmem, ⟨3, _⟩ => ⟨S256x1152, .f32⟩
  | .local _ .vmem, ⟨4, _⟩ => ⟨S256x1152, .f32⟩
  | .local _ .vmem, ⟨5, _⟩ => ⟨S256x1152, .f32⟩
  | .local _ .vmem, ⟨6, _⟩ => ⟨S256x1152, .f32⟩
  | .local _ .vmem, ⟨7, _⟩ => ⟨S256x1152, .f32⟩
  | .local _ .vmem, ⟨8, _⟩ => ⟨S256x1152, .f32⟩
  | .local _ .vmem, ⟨9, _⟩ => ⟨S256x1152, .f32⟩
  | .local _ .vmem, ⟨10, _⟩ => ⟨S256x1152, .f32⟩
  | .local _ .vmem, ⟨11, _⟩ => ⟨S256x1152, .f32⟩
  | .local _ .vmem, ⟨12, _⟩ => ⟨S256x1152, .f32⟩
  | .local _ .vmem, ⟨13, _⟩ => ⟨S256x1152, .f32⟩
  | .local _ .vmem, ⟨14, _⟩ => ⟨S256x1152, .f32⟩
  | .local _ .vmem, ⟨15, _⟩ => ⟨S256x1152, .f32⟩
  | .local _ .vmem, ⟨16, _⟩ => ⟨S256x1152, .f32⟩
  | .local _ .vmem, ⟨17, _⟩ => ⟨S256x1152, .f32⟩
  | .local _ .smem, ⟨0, _⟩ => ⟨S2, .i32⟩
  | _, _ => ⟨S1024x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) (v17 : BitVec 32) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let v18 : BitVec 1 := Scalar.cmpi .eq v16 v17
  let v19 : BitVec 32 := Scalar.extui v18
  let c0_i32_4 : BitVec 32 := 0#32
  let v20 : BitVec 1 := Scalar.cmpi .ne v19 c0_i32_4
  v20

def k0_cond2 (i : grid0.Coords) (v17 : BitVec 32) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let v18 : BitVec 1 := Scalar.cmpi .eq v16 v17
  let v_true : BitVec 1 := 1#1
  let v21 : BitVec 1 := Scalar.xori v18 v_true
  let v22 : BitVec 32 := Scalar.extui v21
  let c0_i32_5 : BitVec 32 := 0#32
  let v23 : BitVec 1 := Scalar.cmpi .ne v22 c0_i32_5
  v23

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (inb_S2_S1_0 : ∀ a, (![0] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0 : Index := 0#32
  let v17 : BitVec 32 := pf.at 0 (Rect.unit (s := S2) ![0] S1.size inb_S2_S1_0) numel1_S1
  let v18 : BitVec 1 := Scalar.cmpi .eq v16 v17
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.select v18 v28 c0_i32_10
  let c0_i32_11 : BitVec 32 := 0#32
  let c0_i32_12 : BitVec 32 := 0#32
  ![v29.toNat, c0_i32_11.toNat]

def cc0_transform_4 (inb_S2_S1_0 : ∀ a, (![0] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0 : Index := 0#32
  let v17 : BitVec 32 := pf.at 0 (Rect.unit (s := S2) ![0] S1.size inb_S2_S1_0) numel1_S1
  let v18 : BitVec 1 := Scalar.cmpi .eq v16 v17
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.select v18 c0_i32_10 v28
  let c0_i32_11 : BitVec 32 := 0#32
  let c0_i32_12 : BitVec 32 := 0#32
  ![v29.toNat, c0_i32_11.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1152 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamwInIdeal.lean ====
abbrev S1024x1152 : Shape := ⟨2, ![1024, 1152]⟩
abbrev S512x1152 : Shape := ⟨2, ![512, 1152]⟩
abbrev S2 : Shape := ⟨1, ![2]⟩
abbrev S256x1152 : Shape := ⟨2, ![256, 1152]⟩
abbrev S1 : Shape := ⟨1, ![1]⟩

abbrev nBuf : Space → Nat
  | .hbm => 9
  | .vmem => 18
  | .smem => 1
  | _ => 0

abbrev bufTy : (tb : Table) → Fin (tcTables nBuf tb) → BufTy
  | .hbm, ⟨0, _⟩ => ⟨S1024x1152, .f32⟩
  | .hbm, ⟨1, _⟩ => ⟨S1024x1152, .f32⟩
  | .hbm, ⟨2, _⟩ => ⟨S1024x1152, .f32⟩
  | .hbm, ⟨3, _⟩ => ⟨S512x1152, .f32⟩
  | .hbm, ⟨4, _⟩ => ⟨S512x1152, .f32⟩
  | .hbm, ⟨5, _⟩ => ⟨S1024x1152, .f32⟩
  | .hbm, ⟨6, _⟩ => ⟨S1024x1152, .f32⟩
  | .hbm, ⟨7, _⟩ => ⟨S1024x1152, .f32⟩
  | .hbm, ⟨8, _⟩ => ⟨S1024x1152, .f32⟩
  | .local _ .vmem, ⟨0, _⟩ => ⟨S256x1152, .f32⟩
  | .local _ .vmem, ⟨1, _⟩ => ⟨S256x1152, .f32⟩
  | .local _ .vmem, ⟨2, _⟩ => ⟨S256x1152, .f32⟩
  | .local _ .vmem, ⟨3, _⟩ => ⟨S256x1152, .f32⟩
  | .local _ .vmem, ⟨4, _⟩ => ⟨S256x1152, .f32⟩
  | .local _ .vmem, ⟨5, _⟩ => ⟨S256x1152, .f32⟩
  | .local _ .vmem, ⟨6, _⟩ => ⟨S256x1152, .f32⟩
  | .local _ .vmem, ⟨7, _⟩ => ⟨S256x1152, .f32⟩
  | .local _ .vmem, ⟨8, _⟩ => ⟨S256x1152, .f32⟩
  | .local _ .vmem, ⟨9, _⟩ => ⟨S256x1152, .f32⟩
  | .local _ .vmem, ⟨10, _⟩ => ⟨S256x1152, .f32⟩
  | .local _ .vmem, ⟨11, _⟩ => ⟨S256x1152, .f32⟩
  | .local _ .vmem, ⟨12, _⟩ => ⟨S256x1152, .f32⟩
  | .local _ .vmem, ⟨13, _⟩ => ⟨S256x1152, .f32⟩
  | .local _ .vmem, ⟨14, _⟩ => ⟨S256x1152, .f32⟩
  | .local _ .vmem, ⟨15, _⟩ => ⟨S256x1152, .f32⟩
  | .local _ .vmem, ⟨16, _⟩ => ⟨S256x1152, .f32⟩
  | .local _ .vmem, ⟨17, _⟩ => ⟨S256x1152, .f32⟩
  | .local _ .smem, ⟨0, _⟩ => ⟨S2, .i32⟩
  | _, _ => ⟨S1024x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) (v17 : BitVec 32) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let v18 : BitVec 1 := Scalar.cmpi .eq v16 v17
  let v19 : BitVec 32 := Scalar.extui v18
  let c0_i32_4 : BitVec 32 := 0#32
  let v20 : BitVec 1 := Scalar.cmpi .ne v19 c0_i32_4
  v20

def k0_cond2 (i : grid0.Coords) (v17 : BitVec 32) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let v18 : BitVec 1 := Scalar.cmpi .eq v16 v17
  let v_true : BitVec 1 := 1#1
  let v21 : BitVec 1 := Scalar.xori v18 v_true
  let v22 : BitVec 32 := Scalar.extui v21
  let c0_i32_5 : BitVec 32 := 0#32
  let v23 : BitVec 1 := Scalar.cmpi .ne v22 c0_i32_5
  v23

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (inb_S2_S1_0 : ∀ a, (![0] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0 : Index := 0#32
  let v17 : BitVec 32 := pf.at 0 (Rect.unit (s := S2) ![0] S1.size inb_S2_S1_0) numel1_S1
  let v18 : BitVec 1 := Scalar.cmpi .eq v16 v17
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.select v18 v28 c0_i32_10
  let c0_i32_11 : BitVec 32 := 0#32
  let c0_i32_12 : BitVec 32 := 0#32
  ![v29.toNat, c0_i32_11.toNat]

def cc0_transform_4 (inb_S2_S1_0 : ∀ a, (![0] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0 : Index := 0#32
  let v17 : BitVec 32 := pf.at 0 (Rect.unit (s := S2) ![0] S1.size inb_S2_S1_0) numel1_S1
  let v18 : BitVec 1 := Scalar.cmpi .eq v16 v17
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.select v18 c0_i32_10 v28
  let c0_i32_11 : BitVec 32 := 0#32
  let c0_i32_12 : BitVec 32 := 0#32
  ![v29.toNat, c0_i32_11.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1152 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamwInRefIdeal.lean ====
abbrev S1024x1152 : Shape := ⟨2, ![1024, 1152]⟩
abbrev S512x1152 : Shape := ⟨2, ![512, 1152]⟩
abbrev S2 : Shape := ⟨1, ![2]⟩
abbrev S1 : Shape := ⟨1, ![1]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S1024x1152, .f32⟩
  | .hbm, ⟨1, _⟩ => ⟨S1024x1152, .f32⟩
  | .hbm, ⟨2, _⟩ => ⟨S1024x1152, .f32⟩
  | .hbm, ⟨3, _⟩ => ⟨S512x1152, .f32⟩
  | .hbm, ⟨4, _⟩ => ⟨S512x1152, .f32⟩
  | .hbm, ⟨5, _⟩ => ⟨S2, .i32⟩
  | .hbm, ⟨6, _⟩ => ⟨S1, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S1024x1152, .f32⟩
  | .hbm, ⟨11, _⟩ => ⟨S1024x1152, .f32⟩
  | .hbm, ⟨12, _⟩ => ⟨S1024x1152, .f32⟩
  | .hbm, ⟨13, _⟩ => ⟨S_, .f32⟩
  | .hbm, ⟨14, _⟩ => ⟨S1024x1152, .f32⟩
  | .hbm, ⟨15, _⟩ => ⟨S1024x1152, .f32⟩
  | .hbm, ⟨16, _⟩ => ⟨S_, .f32⟩
  | .hbm, ⟨17, _⟩ => ⟨S1024x1152, .f32⟩
  | .hbm, ⟨18, _⟩ => ⟨S1024x1152, .f32⟩
  | .hbm, ⟨19, _⟩ => ⟨S1024x1152, .f32⟩
  | .hbm, ⟨20, _⟩ => ⟨S_, .f32⟩
  | .hbm, ⟨21, _⟩ => ⟨S1024x1152, .f32⟩
  | .hbm, ⟨22, _⟩ => ⟨S1024x1152, .f32⟩
  | .hbm, ⟨23, _⟩ => ⟨S1024x1152, .f32⟩
  | .hbm, ⟨24, _⟩ => ⟨S_, .f32⟩
  | .hbm, ⟨25, _⟩ => ⟨S1024x1152, .f32⟩
  | .hbm, ⟨26, _⟩ => ⟨S1024x1152, .f32⟩
  | .hbm, ⟨27, _⟩ => ⟨S1024x1152, .f32⟩
  | .hbm, ⟨28, _⟩ => ⟨S_, .f32⟩
  | .hbm, ⟨29, _⟩ => ⟨S1024x1152, .f32⟩
  | .hbm, ⟨30, _⟩ => ⟨S1024x1152, .f32⟩
  | .hbm, ⟨31, _⟩ => ⟨S_, .f32⟩
  | .hbm, ⟨32, _⟩ => ⟨S1024x1152, .f32⟩
  | .hbm, ⟨33, _⟩ => ⟨S1024x1152, .f32⟩
  | .hbm, ⟨34, _⟩ => ⟨S1024x1152, .f32⟩
  | .hbm, ⟨35, _⟩ => ⟨S_, .f32⟩
  | .hbm, ⟨36, _⟩ => ⟨S1024x1152, .f32⟩
  | .hbm, ⟨37, _⟩ => ⟨S1024x1152, .f32⟩
  | .hbm, ⟨38, _⟩ => ⟨S1024x1152, .f32⟩
  | .hbm, ⟨39, _⟩ => ⟨S_, .f32⟩
  | .hbm, ⟨40, _⟩ => ⟨S1024x1152, .f32⟩
  | .hbm, ⟨41, _⟩ => ⟨S1024x1152, .f32⟩
  | .hbm, ⟨42, _⟩ => ⟨S1024x1152, .f32⟩
  | .hbm, ⟨43, _⟩ => ⟨S_, .f32⟩
  | .hbm, ⟨44, _⟩ => ⟨S1024x1152, .f32⟩
  | .hbm, ⟨45, _⟩ => ⟨S1024x1152, .f32⟩
  | _, _ => ⟨S1024x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]
-- ==== AdamwUp.lean ====
abbrev S1024x1408 : Shape := ⟨2, ![1024, 1408]⟩
abbrev S512x1408 : Shape := ⟨2, ![512, 1408]⟩
abbrev S2 : Shape := ⟨1, ![2]⟩
abbrev S256x1408 : Shape := ⟨2, ![256, 1408]⟩
abbrev S1 : Shape := ⟨1, ![1]⟩

abbrev nBuf : Space → Nat
  | .hbm => 9
  | .vmem => 18
  | .smem => 1
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S512x1408, .f32⟩
  | .hbm, ⟨4, _⟩ => ⟨S512x1408, .f32⟩
  | .hbm, ⟨5, _⟩ => ⟨S1024x1408, .f32⟩
  | .hbm, ⟨6, _⟩ => ⟨S1024x1408, .f32⟩
  | .hbm, ⟨7, _⟩ => ⟨S1024x1408, .f32⟩
  | .hbm, ⟨8, _⟩ => ⟨S1024x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | .local _ .vmem, ⟨16, _⟩ => ⟨S256x1408, .f32⟩
  | .local _ .vmem, ⟨17, _⟩ => ⟨S256x1408, .f32⟩
  | .local _ .smem, ⟨0, _⟩ => ⟨S2, .i32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) (v17 : BitVec 32) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let v18 : BitVec 1 := Scalar.cmpi .eq v16 v17
  let v19 : BitVec 32 := Scalar.extui v18
  let c0_i32_4 : BitVec 32 := 0#32
  let v20 : BitVec 1 := Scalar.cmpi .ne v19 c0_i32_4
  v20

def k0_cond2 (i : grid0.Coords) (v17 : BitVec 32) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let v18 : BitVec 1 := Scalar.cmpi .eq v16 v17
  let v_true : BitVec 1 := 1#1
  let v21 : BitVec 1 := Scalar.xori v18 v_true
  let v22 : BitVec 32 := Scalar.extui v21
  let c0_i32_5 : BitVec 32 := 0#32
  let v23 : BitVec 1 := Scalar.cmpi .ne v22 c0_i32_5
  v23

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (inb_S2_S1_0 : ∀ a, (![0] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0 : Index := 0#32
  let v17 : BitVec 32 := pf.at 0 (Rect.unit (s := S2) ![0] S1.size inb_S2_S1_0) numel1_S1
  let v18 : BitVec 1 := Scalar.cmpi .eq v16 v17
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.select v18 v28 c0_i32_10
  let c0_i32_11 : BitVec 32 := 0#32
  let c0_i32_12 : BitVec 32 := 0#32
  ![v29.toNat, c0_i32_11.toNat]

def cc0_transform_4 (inb_S2_S1_0 : ∀ a, (![0] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0 : Index := 0#32
  let v17 : BitVec 32 := pf.at 0 (Rect.unit (s := S2) ![0] S1.size inb_S2_S1_0) numel1_S1
  let v18 : BitVec 1 := Scalar.cmpi .eq v16 v17
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.select v18 c0_i32_10 v28
  let c0_i32_11 : BitVec 32 := 0#32
  let c0_i32_12 : BitVec 32 := 0#32
  ![v29.toNat, c0_i32_11.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamwUpIdeal.lean ====
abbrev S1024x1408 : Shape := ⟨2, ![1024, 1408]⟩
abbrev S512x1408 : Shape := ⟨2, ![512, 1408]⟩
abbrev S2 : Shape := ⟨1, ![2]⟩
abbrev S256x1408 : Shape := ⟨2, ![256, 1408]⟩
abbrev S1 : Shape := ⟨1, ![1]⟩

abbrev nBuf : Space → Nat
  | .hbm => 9
  | .vmem => 18
  | .smem => 1
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S512x1408, .f32⟩
  | .hbm, ⟨4, _⟩ => ⟨S512x1408, .f32⟩
  | .hbm, ⟨5, _⟩ => ⟨S1024x1408, .f32⟩
  | .hbm, ⟨6, _⟩ => ⟨S1024x1408, .f32⟩
  | .hbm, ⟨7, _⟩ => ⟨S1024x1408, .f32⟩
  | .hbm, ⟨8, _⟩ => ⟨S1024x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | .local _ .vmem, ⟨16, _⟩ => ⟨S256x1408, .f32⟩
  | .local _ .vmem, ⟨17, _⟩ => ⟨S256x1408, .f32⟩
  | .local _ .smem, ⟨0, _⟩ => ⟨S2, .i32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) (v17 : BitVec 32) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let v18 : BitVec 1 := Scalar.cmpi .eq v16 v17
  let v19 : BitVec 32 := Scalar.extui v18
  let c0_i32_4 : BitVec 32 := 0#32
  let v20 : BitVec 1 := Scalar.cmpi .ne v19 c0_i32_4
  v20

def k0_cond2 (i : grid0.Coords) (v17 : BitVec 32) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let v18 : BitVec 1 := Scalar.cmpi .eq v16 v17
  let v_true : BitVec 1 := 1#1
  let v21 : BitVec 1 := Scalar.xori v18 v_true
  let v22 : BitVec 32 := Scalar.extui v21
  let c0_i32_5 : BitVec 32 := 0#32
  let v23 : BitVec 1 := Scalar.cmpi .ne v22 c0_i32_5
  v23

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (inb_S2_S1_0 : ∀ a, (![0] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0 : Index := 0#32
  let v17 : BitVec 32 := pf.at 0 (Rect.unit (s := S2) ![0] S1.size inb_S2_S1_0) numel1_S1
  let v18 : BitVec 1 := Scalar.cmpi .eq v16 v17
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.select v18 v28 c0_i32_10
  let c0_i32_11 : BitVec 32 := 0#32
  let c0_i32_12 : BitVec 32 := 0#32
  ![v29.toNat, c0_i32_11.toNat]

def cc0_transform_4 (inb_S2_S1_0 : ∀ a, (![0] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0 : Index := 0#32
  let v17 : BitVec 32 := pf.at 0 (Rect.unit (s := S2) ![0] S1.size inb_S2_S1_0) numel1_S1
  let v18 : BitVec 1 := Scalar.cmpi .eq v16 v17
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.select v18 c0_i32_10 v28
  let c0_i32_11 : BitVec 32 := 0#32
  let c0_i32_12 : BitVec 32 := 0#32
  ![v29.toNat, c0_i32_11.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamwUpRefIdeal.lean ====
abbrev S1024x1408 : Shape := ⟨2, ![1024, 1408]⟩
abbrev S512x1408 : Shape := ⟨2, ![512, 1408]⟩
abbrev S2 : Shape := ⟨1, ![2]⟩
abbrev S1 : Shape := ⟨1, ![1]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S512x1408, .f32⟩
  | .hbm, ⟨4, _⟩ => ⟨S512x1408, .f32⟩
  | .hbm, ⟨5, _⟩ => ⟨S2, .i32⟩
  | .hbm, ⟨6, _⟩ => ⟨S1, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S1024x1408, .f32⟩
  | .hbm, ⟨11, _⟩ => ⟨S1024x1408, .f32⟩
  | .hbm, ⟨12, _⟩ => ⟨S1024x1408, .f32⟩
  | .hbm, ⟨13, _⟩ => ⟨S_, .f32⟩
  | .hbm, ⟨14, _⟩ => ⟨S1024x1408, .f32⟩
  | .hbm, ⟨15, _⟩ => ⟨S1024x1408, .f32⟩
  | .hbm, ⟨16, _⟩ => ⟨S_, .f32⟩
  | .hbm, ⟨17, _⟩ => ⟨S1024x1408, .f32⟩
  | .hbm, ⟨18, _⟩ => ⟨S1024x1408, .f32⟩
  | .hbm, ⟨19, _⟩ => ⟨S1024x1408, .f32⟩
  | .hbm, ⟨20, _⟩ => ⟨S_, .f32⟩
  | .hbm, ⟨21, _⟩ => ⟨S1024x1408, .f32⟩
  | .hbm, ⟨22, _⟩ => ⟨S1024x1408, .f32⟩
  | .hbm, ⟨23, _⟩ => ⟨S1024x1408, .f32⟩
  | .hbm, ⟨24, _⟩ => ⟨S_, .f32⟩
  | .hbm, ⟨25, _⟩ => ⟨S1024x1408, .f32⟩
  | .hbm, ⟨26, _⟩ => ⟨S1024x1408, .f32⟩
  | .hbm, ⟨27, _⟩ => ⟨S1024x1408, .f32⟩
  | .hbm, ⟨28, _⟩ => ⟨S_, .f32⟩
  | .hbm, ⟨29, _⟩ => ⟨S1024x1408, .f32⟩
  | .hbm, ⟨30, _⟩ => ⟨S1024x1408, .f32⟩
  | .hbm, ⟨31, _⟩ => ⟨S_, .f32⟩
  | .hbm, ⟨32, _⟩ => ⟨S1024x1408, .f32⟩
  | .hbm, ⟨33, _⟩ => ⟨S1024x1408, .f32⟩
  | .hbm, ⟨34, _⟩ => ⟨S1024x1408, .f32⟩
  | .hbm, ⟨35, _⟩ => ⟨S_, .f32⟩
  | .hbm, ⟨36, _⟩ => ⟨S1024x1408, .f32⟩
  | .hbm, ⟨37, _⟩ => ⟨S1024x1408, .f32⟩
  | .hbm, ⟨38, _⟩ => ⟨S1024x1408, .f32⟩
  | .hbm, ⟨39, _⟩ => ⟨S_, .f32⟩
  | .hbm, ⟨40, _⟩ => ⟨S1024x1408, .f32⟩
  | .hbm, ⟨41, _⟩ => ⟨S1024x1408, .f32⟩
  | .hbm, ⟨42, _⟩ => ⟨S1024x1408, .f32⟩
  | .hbm, ⟨43, _⟩ => ⟨S_, .f32⟩
  | .hbm, ⟨44, _⟩ => ⟨S1024x1408, .f32⟩
  | .hbm, ⟨45, _⟩ => ⟨S1024x1408, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]
-- ==== AdamwDown.lean ====
abbrev S704x1024 : Shape := ⟨2, ![704, 1024]⟩
abbrev S352x1024 : Shape := ⟨2, ![352, 1024]⟩
abbrev S2 : Shape := ⟨1, ![2]⟩
abbrev S176x1024 : Shape := ⟨2, ![176, 1024]⟩
abbrev S1 : Shape := ⟨1, ![1]⟩

abbrev nBuf : Space → Nat
  | .hbm => 9
  | .vmem => 18
  | .smem => 1
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S352x1024, .f32⟩
  | .hbm, ⟨4, _⟩ => ⟨S352x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | .local _ .smem, ⟨0, _⟩ => ⟨S2, .i32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) (v17 : BitVec 32) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let v18 : BitVec 1 := Scalar.cmpi .eq v16 v17
  let v19 : BitVec 32 := Scalar.extui v18
  let c0_i32_4 : BitVec 32 := 0#32
  let v20 : BitVec 1 := Scalar.cmpi .ne v19 c0_i32_4
  v20

def k0_cond2 (i : grid0.Coords) (v17 : BitVec 32) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let v18 : BitVec 1 := Scalar.cmpi .eq v16 v17
  let v_true : BitVec 1 := 1#1
  let v21 : BitVec 1 := Scalar.xori v18 v_true
  let v22 : BitVec 32 := Scalar.extui v21
  let c0_i32_5 : BitVec 32 := 0#32
  let v23 : BitVec 1 := Scalar.cmpi .ne v22 c0_i32_5
  v23

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (inb_S2_S1_0 : ∀ a, (![0] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0 : Index := 0#32
  let v17 : BitVec 32 := pf.at 0 (Rect.unit (s := S2) ![0] S1.size inb_S2_S1_0) numel1_S1
  let v18 : BitVec 1 := Scalar.cmpi .eq v16 v17
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.select v18 v28 c0_i32_10
  let c0_i32_11 : BitVec 32 := 0#32
  let c0_i32_12 : BitVec 32 := 0#32
  ![v29.toNat, c0_i32_11.toNat]

def cc0_transform_4 (inb_S2_S1_0 : ∀ a, (![0] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0 : Index := 0#32
  let v17 : BitVec 32 := pf.at 0 (Rect.unit (s := S2) ![0] S1.size inb_S2_S1_0) numel1_S1
  let v18 : BitVec 1 := Scalar.cmpi .eq v16 v17
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.select v18 c0_i32_10 v28
  let c0_i32_11 : BitVec 32 := 0#32
  let c0_i32_12 : BitVec 32 := 0#32
  ![v29.toNat, c0_i32_11.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamwDownIdeal.lean ====
abbrev S704x1024 : Shape := ⟨2, ![704, 1024]⟩
abbrev S352x1024 : Shape := ⟨2, ![352, 1024]⟩
abbrev S2 : Shape := ⟨1, ![2]⟩
abbrev S176x1024 : Shape := ⟨2, ![176, 1024]⟩
abbrev S1 : Shape := ⟨1, ![1]⟩

abbrev nBuf : Space → Nat
  | .hbm => 9
  | .vmem => 18
  | .smem => 1
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S352x1024, .f32⟩
  | .hbm, ⟨4, _⟩ => ⟨S352x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | .local _ .smem, ⟨0, _⟩ => ⟨S2, .i32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) (v17 : BitVec 32) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let v18 : BitVec 1 := Scalar.cmpi .eq v16 v17
  let v19 : BitVec 32 := Scalar.extui v18
  let c0_i32_4 : BitVec 32 := 0#32
  let v20 : BitVec 1 := Scalar.cmpi .ne v19 c0_i32_4
  v20

def k0_cond2 (i : grid0.Coords) (v17 : BitVec 32) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let v18 : BitVec 1 := Scalar.cmpi .eq v16 v17
  let v_true : BitVec 1 := 1#1
  let v21 : BitVec 1 := Scalar.xori v18 v_true
  let v22 : BitVec 32 := Scalar.extui v21
  let c0_i32_5 : BitVec 32 := 0#32
  let v23 : BitVec 1 := Scalar.cmpi .ne v22 c0_i32_5
  v23

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (inb_S2_S1_0 : ∀ a, (![0] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0 : Index := 0#32
  let v17 : BitVec 32 := pf.at 0 (Rect.unit (s := S2) ![0] S1.size inb_S2_S1_0) numel1_S1
  let v18 : BitVec 1 := Scalar.cmpi .eq v16 v17
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.select v18 v28 c0_i32_10
  let c0_i32_11 : BitVec 32 := 0#32
  let c0_i32_12 : BitVec 32 := 0#32
  ![v29.toNat, c0_i32_11.toNat]

def cc0_transform_4 (inb_S2_S1_0 : ∀ a, (![0] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0 : Index := 0#32
  let v17 : BitVec 32 := pf.at 0 (Rect.unit (s := S2) ![0] S1.size inb_S2_S1_0) numel1_S1
  let v18 : BitVec 1 := Scalar.cmpi .eq v16 v17
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.select v18 c0_i32_10 v28
  let c0_i32_11 : BitVec 32 := 0#32
  let c0_i32_12 : BitVec 32 := 0#32
  ![v29.toNat, c0_i32_11.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamwDownRefIdeal.lean ====
abbrev S704x1024 : Shape := ⟨2, ![704, 1024]⟩
abbrev S352x1024 : Shape := ⟨2, ![352, 1024]⟩
abbrev S2 : Shape := ⟨1, ![2]⟩
abbrev S1 : Shape := ⟨1, ![1]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S352x1024, .f32⟩
  | .hbm, ⟨4, _⟩ => ⟨S352x1024, .f32⟩
  | .hbm, ⟨5, _⟩ => ⟨S2, .i32⟩
  | .hbm, ⟨6, _⟩ => ⟨S1, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S704x1024, .f32⟩
  | .hbm, ⟨11, _⟩ => ⟨S704x1024, .f32⟩
  | .hbm, ⟨12, _⟩ => ⟨S704x1024, .f32⟩
  | .hbm, ⟨13, _⟩ => ⟨S_, .f32⟩
  | .hbm, ⟨14, _⟩ => ⟨S704x1024, .f32⟩
  | .hbm, ⟨15, _⟩ => ⟨S704x1024, .f32⟩
  | .hbm, ⟨16, _⟩ => ⟨S_, .f32⟩
  | .hbm, ⟨17, _⟩ => ⟨S704x1024, .f32⟩
  | .hbm, ⟨18, _⟩ => ⟨S704x1024, .f32⟩
  | .hbm, ⟨19, _⟩ => ⟨S704x1024, .f32⟩
  | .hbm, ⟨20, _⟩ => ⟨S_, .f32⟩
  | .hbm, ⟨21, _⟩ => ⟨S704x1024, .f32⟩
  | .hbm, ⟨22, _⟩ => ⟨S704x1024, .f32⟩
  | .hbm, ⟨23, _⟩ => ⟨S704x1024, .f32⟩
  | .hbm, ⟨24, _⟩ => ⟨S_, .f32⟩
  | .hbm, ⟨25, _⟩ => ⟨S704x1024, .f32⟩
  | .hbm, ⟨26, _⟩ => ⟨S704x1024, .f32⟩
  | .hbm, ⟨27, _⟩ => ⟨S704x1024, .f32⟩
  | .hbm, ⟨28, _⟩ => ⟨S_, .f32⟩
  | .hbm, ⟨29, _⟩ => ⟨S704x1024, .f32⟩
  | .hbm, ⟨30, _⟩ => ⟨S704x1024, .f32⟩
  | .hbm, ⟨31, _⟩ => ⟨S_, .f32⟩
  | .hbm, ⟨32, _⟩ => ⟨S704x1024, .f32⟩
  | .hbm, ⟨33, _⟩ => ⟨S704x1024, .f32⟩
  | .hbm, ⟨34, _⟩ => ⟨S704x1024, .f32⟩
  | .hbm, ⟨35, _⟩ => ⟨S_, .f32⟩
  | .hbm, ⟨36, _⟩ => ⟨S704x1024, .f32⟩
  | .hbm, ⟨37, _⟩ => ⟨S704x1024, .f32⟩
  | .hbm, ⟨38, _⟩ => ⟨S704x1024, .f32⟩
  | .hbm, ⟨39, _⟩ => ⟨S_, .f32⟩
  | .hbm, ⟨40, _⟩ => ⟨S704x1024, .f32⟩
  | .hbm, ⟨41, _⟩ => ⟨S704x1024, .f32⟩
  | .hbm, ⟨42, _⟩ => ⟨S704x1024, .f32⟩
  | .hbm, ⟨43, _⟩ => ⟨S_, .f32⟩
  | .hbm, ⟨44, _⟩ => ⟨S704x1024, .f32⟩
  | .hbm, ⟨45, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]
-- ==== AdamwOut.lean ====
abbrev S256x1024 : Shape := ⟨2, ![256, 1024]⟩
abbrev S128x1024 : Shape := ⟨2, ![128, 1024]⟩
abbrev S2 : Shape := ⟨1, ![2]⟩
abbrev S1 : Shape := ⟨1, ![1]⟩

abbrev nBuf : Space → Nat
  | .hbm => 9
  | .vmem => 16
  | .smem => 1
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S128x1024, .f32⟩
  | .hbm, ⟨4, _⟩ => ⟨S128x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .smem, ⟨0, _⟩ => ⟨S2, .i32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) (v17 : BitVec 32) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let v0 : BitVec 32 := Scalar.divsi arg0 c1_i32
  let c1_i32_4 : BitVec 32 := 1#32
  let v15 : BitVec 32 := Scalar.subi v0 c1_i32_4
  let v16 : BitVec 32 := Scalar.select v14 v15 v0
  let v18 : BitVec 1 := Scalar.cmpi .eq v16 v17
  let v19 : BitVec 32 := Scalar.extui v18
  let c0_i32_5 : BitVec 32 := 0#32
  let v20 : BitVec 1 := Scalar.cmpi .ne v19 c0_i32_5
  v20

def k0_cond2 (i : grid0.Coords) (v17 : BitVec 32) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let v0 : BitVec 32 := Scalar.divsi arg0 c1_i32
  let c1_i32_4 : BitVec 32 := 1#32
  let v15 : BitVec 32 := Scalar.subi v0 c1_i32_4
  let v16 : BitVec 32 := Scalar.select v14 v15 v0
  let v18 : BitVec 1 := Scalar.cmpi .eq v16 v17
  let v_true : BitVec 1 := 1#1
  let v21 : BitVec 1 := Scalar.xori v18 v_true
  let v22 : BitVec 32 := Scalar.extui v21
  let c0_i32_6 : BitVec 32 := 0#32
  let v23 : BitVec 1 := Scalar.cmpi .ne v22 c0_i32_6
  v23

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamwOutIdeal.lean ====
abbrev S256x1024 : Shape := ⟨2, ![256, 1024]⟩
abbrev S128x1024 : Shape := ⟨2, ![128, 1024]⟩
abbrev S2 : Shape := ⟨1, ![2]⟩
abbrev S1 : Shape := ⟨1, ![1]⟩

abbrev nBuf : Space → Nat
  | .hbm => 9
  | .vmem => 16
  | .smem => 1
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S128x1024, .f32⟩
  | .hbm, ⟨4, _⟩ => ⟨S128x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .smem, ⟨0, _⟩ => ⟨S2, .i32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) (v17 : BitVec 32) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let v0 : BitVec 32 := Scalar.divsi arg0 c1_i32
  let c1_i32_4 : BitVec 32 := 1#32
  let v15 : BitVec 32 := Scalar.subi v0 c1_i32_4
  let v16 : BitVec 32 := Scalar.select v14 v15 v0
  let v18 : BitVec 1 := Scalar.cmpi .eq v16 v17
  let v19 : BitVec 32 := Scalar.extui v18
  let c0_i32_5 : BitVec 32 := 0#32
  let v20 : BitVec 1 := Scalar.cmpi .ne v19 c0_i32_5
  v20

def k0_cond2 (i : grid0.Coords) (v17 : BitVec 32) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let v0 : BitVec 32 := Scalar.divsi arg0 c1_i32
  let c1_i32_4 : BitVec 32 := 1#32
  let v15 : BitVec 32 := Scalar.subi v0 c1_i32_4
  let v16 : BitVec 32 := Scalar.select v14 v15 v0
  let v18 : BitVec 1 := Scalar.cmpi .eq v16 v17
  let v_true : BitVec 1 := 1#1
  let v21 : BitVec 1 := Scalar.xori v18 v_true
  let v22 : BitVec 32 := Scalar.extui v21
  let c0_i32_6 : BitVec 32 := 0#32
  let v23 : BitVec 1 := Scalar.cmpi .ne v22 c0_i32_6
  v23

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamwOutRefIdeal.lean ====
abbrev S256x1024 : Shape := ⟨2, ![256, 1024]⟩
abbrev S128x1024 : Shape := ⟨2, ![128, 1024]⟩
abbrev S2 : Shape := ⟨1, ![2]⟩
abbrev S1 : Shape := ⟨1, ![1]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S128x1024, .f32⟩
  | .hbm, ⟨4, _⟩ => ⟨S128x1024, .f32⟩
  | .hbm, ⟨5, _⟩ => ⟨S2, .i32⟩
  | .hbm, ⟨6, _⟩ => ⟨S1, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S256x1024, .f32⟩
  | .hbm, ⟨11, _⟩ => ⟨S256x1024, .f32⟩
  | .hbm, ⟨12, _⟩ => ⟨S256x1024, .f32⟩
  | .hbm, ⟨13, _⟩ => ⟨S_, .f32⟩
  | .hbm, ⟨14, _⟩ => ⟨S256x1024, .f32⟩
  | .hbm, ⟨15, _⟩ => ⟨S256x1024, .f32⟩
  | .hbm, ⟨16, _⟩ => ⟨S_, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S_, .f32⟩
  | .hbm, ⟨21, _⟩ => ⟨S256x1024, .f32⟩
  | .hbm, ⟨22, _⟩ => ⟨S256x1024, .f32⟩
  | .hbm, ⟨23, _⟩ => ⟨S256x1024, .f32⟩
  | .hbm, ⟨24, _⟩ => ⟨S_, .f32⟩
  | .hbm, ⟨25, _⟩ => ⟨S256x1024, .f32⟩
  | .hbm, ⟨26, _⟩ => ⟨S256x1024, .f32⟩
  | .hbm, ⟨27, _⟩ => ⟨S256x1024, .f32⟩
  | .hbm, ⟨28, _⟩ => ⟨S_, .f32⟩
  | .hbm, ⟨29, _⟩ => ⟨S256x1024, .f32⟩
  | .hbm, ⟨30, _⟩ => ⟨S256x1024, .f32⟩
  | .hbm, ⟨31, _⟩ => ⟨S_, .f32⟩
  | .hbm, ⟨32, _⟩ => ⟨S256x1024, .f32⟩
  | .hbm, ⟨33, _⟩ => ⟨S256x1024, .f32⟩
  | .hbm, ⟨34, _⟩ => ⟨S256x1024, .f32⟩
  | .hbm, ⟨35, _⟩ => ⟨S_, .f32⟩
  | .hbm, ⟨36, _⟩ => ⟨S256x1024, .f32⟩
  | .hbm, ⟨37, _⟩ => ⟨S256x1024, .f32⟩
  | .hbm, ⟨38, _⟩ => ⟨S256x1024, .f32⟩
  | .hbm, ⟨39, _⟩ => ⟨S_, .f32⟩
  | .hbm, ⟨40, _⟩ => ⟨S256x1024, .f32⟩
  | .hbm, ⟨41, _⟩ => ⟨S256x1024, .f32⟩
  | .hbm, ⟨42, _⟩ => ⟨S256x1024, .f32⟩
  | .hbm, ⟨43, _⟩ => ⟨S_, .f32⟩
  | .hbm, ⟨44, _⟩ => ⟨S256x1024, .f32⟩
  | .hbm, ⟨45, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]
-- ==== AdamwProj.lean ====
abbrev S512x256 : Shape := ⟨2, ![512, 256]⟩
abbrev S256x256 : Shape := ⟨2, ![256, 256]⟩
abbrev S2 : Shape := ⟨1, ![2]⟩
abbrev S1 : Shape := ⟨1, ![1]⟩

abbrev nBuf : Space → Nat
  | .hbm => 9
  | .vmem => 16
  | .smem => 1
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S256x256, .f32⟩
  | .hbm, ⟨4, _⟩ => ⟨S256x256, .f32⟩
  | .hbm, ⟨5, _⟩ => ⟨S512x256, .f32⟩
  | .hbm, ⟨6, _⟩ => ⟨S512x256, .f32⟩
  | .hbm, ⟨7, _⟩ => ⟨S512x256, .f32⟩
  | .hbm, ⟨8, _⟩ => ⟨S512x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .smem, ⟨0, _⟩ => ⟨S2, .i32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) (v17 : BitVec 32) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let v0 : BitVec 32 := Scalar.divsi arg0 c1_i32
  let c1_i32_4 : BitVec 32 := 1#32
  let v15 : BitVec 32 := Scalar.subi v0 c1_i32_4
  let v16 : BitVec 32 := Scalar.select v14 v15 v0
  let v18 : BitVec 1 := Scalar.cmpi .eq v16 v17
  let v19 : BitVec 32 := Scalar.extui v18
  let c0_i32_5 : BitVec 32 := 0#32
  let v20 : BitVec 1 := Scalar.cmpi .ne v19 c0_i32_5
  v20

def k0_cond2 (i : grid0.Coords) (v17 : BitVec 32) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let v0 : BitVec 32 := Scalar.divsi arg0 c1_i32
  let c1_i32_4 : BitVec 32 := 1#32
  let v15 : BitVec 32 := Scalar.subi v0 c1_i32_4
  let v16 : BitVec 32 := Scalar.select v14 v15 v0
  let v18 : BitVec 1 := Scalar.cmpi .eq v16 v17
  let v_true : BitVec 1 := 1#1
  let v21 : BitVec 1 := Scalar.xori v18 v_true
  let v22 : BitVec 32 := Scalar.extui v21
  let c0_i32_6 : BitVec 32 := 0#32
  let v23 : BitVec 1 := Scalar.cmpi .ne v22 c0_i32_6
  v23

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamwProjIdeal.lean ====
abbrev S512x256 : Shape := ⟨2, ![512, 256]⟩
abbrev S256x256 : Shape := ⟨2, ![256, 256]⟩
abbrev S2 : Shape := ⟨1, ![2]⟩
abbrev S1 : Shape := ⟨1, ![1]⟩

abbrev nBuf : Space → Nat
  | .hbm => 9
  | .vmem => 16
  | .smem => 1
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S256x256, .f32⟩
  | .hbm, ⟨4, _⟩ => ⟨S256x256, .f32⟩
  | .hbm, ⟨5, _⟩ => ⟨S512x256, .f32⟩
  | .hbm, ⟨6, _⟩ => ⟨S512x256, .f32⟩
  | .hbm, ⟨7, _⟩ => ⟨S512x256, .f32⟩
  | .hbm, ⟨8, _⟩ => ⟨S512x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .smem, ⟨0, _⟩ => ⟨S2, .i32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) (v17 : BitVec 32) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let v0 : BitVec 32 := Scalar.divsi arg0 c1_i32
  let c1_i32_4 : BitVec 32 := 1#32
  let v15 : BitVec 32 := Scalar.subi v0 c1_i32_4
  let v16 : BitVec 32 := Scalar.select v14 v15 v0
  let v18 : BitVec 1 := Scalar.cmpi .eq v16 v17
  let v19 : BitVec 32 := Scalar.extui v18
  let c0_i32_5 : BitVec 32 := 0#32
  let v20 : BitVec 1 := Scalar.cmpi .ne v19 c0_i32_5
  v20

def k0_cond2 (i : grid0.Coords) (v17 : BitVec 32) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let v0 : BitVec 32 := Scalar.divsi arg0 c1_i32
  let c1_i32_4 : BitVec 32 := 1#32
  let v15 : BitVec 32 := Scalar.subi v0 c1_i32_4
  let v16 : BitVec 32 := Scalar.select v14 v15 v0
  let v18 : BitVec 1 := Scalar.cmpi .eq v16 v17
  let v_true : BitVec 1 := 1#1
  let v21 : BitVec 1 := Scalar.xori v18 v_true
  let v22 : BitVec 32 := Scalar.extui v21
  let c0_i32_6 : BitVec 32 := 0#32
  let v23 : BitVec 1 := Scalar.cmpi .ne v22 c0_i32_6
  v23

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamwProjRefIdeal.lean ====
abbrev S512x256 : Shape := ⟨2, ![512, 256]⟩
abbrev S256x256 : Shape := ⟨2, ![256, 256]⟩
abbrev S2 : Shape := ⟨1, ![2]⟩
abbrev S1 : Shape := ⟨1, ![1]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S256x256, .f32⟩
  | .hbm, ⟨4, _⟩ => ⟨S256x256, .f32⟩
  | .hbm, ⟨5, _⟩ => ⟨S2, .i32⟩
  | .hbm, ⟨6, _⟩ => ⟨S1, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S512x256, .f32⟩
  | .hbm, ⟨11, _⟩ => ⟨S512x256, .f32⟩
  | .hbm, ⟨12, _⟩ => ⟨S512x256, .f32⟩
  | .hbm, ⟨13, _⟩ => ⟨S_, .f32⟩
  | .hbm, ⟨14, _⟩ => ⟨S512x256, .f32⟩
  | .hbm, ⟨15, _⟩ => ⟨S512x256, .f32⟩
  | .hbm, ⟨16, _⟩ => ⟨S_, .f32⟩
  | .hbm, ⟨17, _⟩ => ⟨S512x256, .f32⟩
  | .hbm, ⟨18, _⟩ => ⟨S512x256, .f32⟩
  | .hbm, ⟨19, _⟩ => ⟨S512x256, .f32⟩
  | .hbm, ⟨20, _⟩ => ⟨S_, .f32⟩
  | .hbm, ⟨21, _⟩ => ⟨S512x256, .f32⟩
  | .hbm, ⟨22, _⟩ => ⟨S512x256, .f32⟩
  | .hbm, ⟨23, _⟩ => ⟨S512x256, .f32⟩
  | .hbm, ⟨24, _⟩ => ⟨S_, .f32⟩
  | .hbm, ⟨25, _⟩ => ⟨S512x256, .f32⟩
  | .hbm, ⟨26, _⟩ => ⟨S512x256, .f32⟩
  | .hbm, ⟨27, _⟩ => ⟨S512x256, .f32⟩
  | .hbm, ⟨28, _⟩ => ⟨S_, .f32⟩
  | .hbm, ⟨29, _⟩ => ⟨S512x256, .f32⟩
  | .hbm, ⟨30, _⟩ => ⟨S512x256, .f32⟩
  | .hbm, ⟨31, _⟩ => ⟨S_, .f32⟩
  | .hbm, ⟨32, _⟩ => ⟨S512x256, .f32⟩
  | .hbm, ⟨33, _⟩ => ⟨S512x256, .f32⟩
  | .hbm, ⟨34, _⟩ => ⟨S512x256, .f32⟩
  | .hbm, ⟨35, _⟩ => ⟨S_, .f32⟩
  | .hbm, ⟨36, _⟩ => ⟨S512x256, .f32⟩
  | .hbm, ⟨37, _⟩ => ⟨S512x256, .f32⟩
  | .hbm, ⟨38, _⟩ => ⟨S512x256, .f32⟩
  | .hbm, ⟨39, _⟩ => ⟨S_, .f32⟩
  | .hbm, ⟨40, _⟩ => ⟨S512x256, .f32⟩
  | .hbm, ⟨41, _⟩ => ⟨S512x256, .f32⟩
  | .hbm, ⟨42, _⟩ => ⟨S512x256, .f32⟩
  | .hbm, ⟨43, _⟩ => ⟨S_, .f32⟩
  | .hbm, ⟨44, _⟩ => ⟨S512x256, .f32⟩
  | .hbm, ⟨45, _⟩ => ⟨S512x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]
-- ==== AdamwGlu.lean ====
abbrev S128x512 : Shape := ⟨2, ![128, 512]⟩
abbrev S64x512 : Shape := ⟨2, ![64, 512]⟩
abbrev S2 : Shape := ⟨1, ![2]⟩
abbrev S1 : Shape := ⟨1, ![1]⟩

abbrev nBuf : Space → Nat
  | .hbm => 9
  | .vmem => 16
  | .smem => 1
  | _ => 0

abbrev bufTy : (tb : Table) → Fin (tcTables nBuf tb) → BufTy
  | .hbm, ⟨0, _⟩ => ⟨S128x512, .f32⟩
  | .hbm, ⟨1, _⟩ => ⟨S128x512, .f32⟩
  | .hbm, ⟨2, _⟩ => ⟨S128x512, .f32⟩
  | .hbm, ⟨3, _⟩ => ⟨S64x512, .f32⟩
  | .hbm, ⟨4, _⟩ => ⟨S64x512, .f32⟩
  | .hbm, ⟨5, _⟩ => ⟨S128x512, .f32⟩
  | .hbm, ⟨6, _⟩ => ⟨S128x512, .f32⟩
  | .hbm, ⟨7, _⟩ => ⟨S128x512, .f32⟩
  | .hbm, ⟨8, _⟩ => ⟨S128x512, .f32⟩
  | .local _ .vmem, ⟨0, _⟩ => ⟨S64x512, .f32⟩
  | .local _ .vmem, ⟨1, _⟩ => ⟨S64x512, .f32⟩
  | .local _ .vmem, ⟨2, _⟩ => ⟨S64x512, .f32⟩
  | .local _ .vmem, ⟨3, _⟩ => ⟨S64x512, .f32⟩
  | .local _ .vmem, ⟨4, _⟩ => ⟨S64x512, .f32⟩
  | .local _ .vmem, ⟨5, _⟩ => ⟨S64x512, .f32⟩
  | .local _ .vmem, ⟨6, _⟩ => ⟨S64x512, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S64x512, .f32⟩
  | .local _ .vmem, ⟨11, _⟩ => ⟨S64x512, .f32⟩
  | .local _ .vmem, ⟨12, _⟩ => ⟨S64x512, .f32⟩
  | .local _ .vmem, ⟨13, _⟩ => ⟨S64x512, .f32⟩
  | .local _ .vmem, ⟨14, _⟩ => ⟨S64x512, .f32⟩
  | .local _ .vmem, ⟨15, _⟩ => ⟨S64x512, .f32⟩
  | .local _ .smem, ⟨0, _⟩ => ⟨S2, .i32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) (v17 : BitVec 32) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let v0 : BitVec 32 := Scalar.divsi arg0 c1_i32
  let c1_i32_4 : BitVec 32 := 1#32
  let v15 : BitVec 32 := Scalar.subi v0 c1_i32_4
  let v16 : BitVec 32 := Scalar.select v14 v15 v0
  let v18 : BitVec 1 := Scalar.cmpi .eq v16 v17
  let v19 : BitVec 32 := Scalar.extui v18
  let c0_i32_5 : BitVec 32 := 0#32
  let v20 : BitVec 1 := Scalar.cmpi .ne v19 c0_i32_5
  v20

def k0_cond2 (i : grid0.Coords) (v17 : BitVec 32) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let v0 : BitVec 32 := Scalar.divsi arg0 c1_i32
  let c1_i32_4 : BitVec 32 := 1#32
  let v15 : BitVec 32 := Scalar.subi v0 c1_i32_4
  let v16 : BitVec 32 := Scalar.select v14 v15 v0
  let v18 : BitVec 1 := Scalar.cmpi .eq v16 v17
  let v_true : BitVec 1 := 1#1
  let v21 : BitVec 1 := Scalar.xori v18 v_true
  let v22 : BitVec 32 := Scalar.extui v21
  let c0_i32_6 : BitVec 32 := 0#32
  let v23 : BitVec 1 := Scalar.cmpi .ne v22 c0_i32_6
  v23

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamwGluRefIdeal.lean ====
abbrev S128x512 : Shape := ⟨2, ![128, 512]⟩
abbrev S64x512 : Shape := ⟨2, ![64, 512]⟩
abbrev S2 : Shape := ⟨1, ![2]⟩
abbrev S1 : Shape := ⟨1, ![1]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S128x512, .f32⟩
  | .hbm, ⟨1, _⟩ => ⟨S128x512, .f32⟩
  | .hbm, ⟨2, _⟩ => ⟨S128x512, .f32⟩
  | .hbm, ⟨3, _⟩ => ⟨S64x512, .f32⟩
  | .hbm, ⟨4, _⟩ => ⟨S64x512, .f32⟩
  | .hbm, ⟨5, _⟩ => ⟨S2, .i32⟩
  | .hbm, ⟨6, _⟩ => ⟨S1, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S128x512, .f32⟩
  | .hbm, ⟨11, _⟩ => ⟨S128x512, .f32⟩
  | .hbm, ⟨12, _⟩ => ⟨S128x512, .f32⟩
  | .hbm, ⟨13, _⟩ => ⟨S_, .f32⟩
  | .hbm, ⟨14, _⟩ => ⟨S128x512, .f32⟩
  | .hbm, ⟨15, _⟩ => ⟨S128x512, .f32⟩
  | .hbm, ⟨16, _⟩ => ⟨S_, .f32⟩
  | .hbm, ⟨17, _⟩ => ⟨S128x512, .f32⟩
  | .hbm, ⟨18, _⟩ => ⟨S128x512, .f32⟩
  | .hbm, ⟨19, _⟩ => ⟨S128x512, .f32⟩
  | .hbm, ⟨20, _⟩ => ⟨S_, .f32⟩
  | .hbm, ⟨21, _⟩ => ⟨S128x512, .f32⟩
  | .hbm, ⟨22, _⟩ => ⟨S128x512, .f32⟩
  | .hbm, ⟨23, _⟩ => ⟨S128x512, .f32⟩
  | .hbm, ⟨24, _⟩ => ⟨S_, .f32⟩
  | .hbm, ⟨25, _⟩ => ⟨S128x512, .f32⟩
  | .hbm, ⟨26, _⟩ => ⟨S128x512, .f32⟩
  | .hbm, ⟨27, _⟩ => ⟨S128x512, .f32⟩
  | .hbm, ⟨28, _⟩ => ⟨S_, .f32⟩
  | .hbm, ⟨29, _⟩ => ⟨S128x512, .f32⟩
  | .hbm, ⟨30, _⟩ => ⟨S128x512, .f32⟩
  | .hbm, ⟨31, _⟩ => ⟨S_, .f32⟩
  | .hbm, ⟨32, _⟩ => ⟨S128x512, .f32⟩
  | .hbm, ⟨33, _⟩ => ⟨S128x512, .f32⟩
  | .hbm, ⟨34, _⟩ => ⟨S128x512, .f32⟩
  | .hbm, ⟨35, _⟩ => ⟨S_, .f32⟩
  | .hbm, ⟨36, _⟩ => ⟨S128x512, .f32⟩
  | .hbm, ⟨37, _⟩ => ⟨S128x512, .f32⟩
  | .hbm, ⟨38, _⟩ => ⟨S128x512, .f32⟩
  | .hbm, ⟨39, _⟩ => ⟨S_, .f32⟩
  | .hbm, ⟨40, _⟩ => ⟨S128x512, .f32⟩
  | .hbm, ⟨41, _⟩ => ⟨S128x512, .f32⟩
  | .hbm, ⟨42, _⟩ => ⟨S128x512, .f32⟩
  | .hbm, ⟨43, _⟩ => ⟨S_, .f32⟩
  | .hbm, ⟨44, _⟩ => ⟨S128x512, .f32⟩
  | .hbm, ⟨45, _⟩ => ⟨S128x512, .f32⟩
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]
-- ==== Proof.KRegion0.lean ====
/-
  The first kernel call (the forward recurrence): what one grid point leaves in each window, from any contents of its arrays.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.S5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

/-! ## The windows' blocks -/

/-- Window `w`'s block at point `t`, read off its array as the region finds it (`V`). -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 7, through which its contents are stated (`View.read_writes_of_cover`: the
    choice does not matter). -/
abbrev VO0_7 : View sig .tc .vmem S2048x128 .f32 := (Memref.whole cc0_stg7_0 : Memref sig .tc .vmem S2048x128 .f32).view
/-- One staging buffer of output window 8, through which its contents are stated (`View.read_writes_of_cover`: the
    choice does not matter). -/
abbrev VO0_8 : View sig .tc .vmem S2048x512 .f32 := (Memref.whole cc0_stg8_0 : Memref sig .tc .vmem S2048x512 .f32).view
/-- One staging buffer of output window 9, through which its contents are stated (`View.read_writes_of_cover`: the
    choice does not matter). -/
abbrev VO0_9 : View sig .tc .vmem S2048x512 .f32 := (Memref.whole cc0_stg9_0 : Memref sig .tc .vmem S2048x512 .f32).view
/-- Each window's current staging memref at point `t`, spelled as the pipeline passes it (`bodyAt0`), and its wholeness. -/
abbrev ms0_0 (t : Fin cfg0.N) : Memref sig .tc .vmem S2048x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2048x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2048x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2048x512 .f32 := win0_9.stage (cfg0.slots t 9)
abbrev hs0_9 (t : Fin cfg0.N) : (ms0_9 t).IsWhole := hstage0_9 ((cfg0.slots t 9).cast nbuf0_9)

set_option maxHeartbeats 1000000 in
noncomputable def kernelRun0_A (c : Dev nD) (i : grid0.Coords) (arg2 : Memref sig .tc .vmem S2048x128 .f32) (harg2 : arg2.IsWhole) (arg3 : Memref sig .tc .vmem S1x128x512 .bf16) (harg3 : arg3.IsWhole) (arg4 : Memref sig .tc .vmem S1x128x512 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S64x512 .f32) (harg7 : arg7.IsWhole) (arg8 : Memref sig .tc .vmem S1x128 .f32) (harg8 : arg8.IsWhole) (arg9 : Memref sig .tc .vmem S2048x128 .f32) (harg9 : arg9.IsWhole) (arg10 : Memref sig .tc .vmem S2048x512 .f32) (harg10 : arg10.IsWhole) (arg11 : Memref sig .tc .vmem S2048x512 .f32) (harg11 : arg11.IsWhole)
    (x0 : Vec F S2048x128 .f32) (x1 : Vec F S1x128x512 .bf16) (x2 : Vec F S1x128x512 .bf16) (x3 : Vec F S1x512x128 .bf16) (x4 : Vec F S1x512x128 .bf16) (x5 : Vec F S64x512 .f32) (x6 : Vec F S1x128 .f32) :
    Σ' (L7 : List (View.Piece (Elt F) S2048x128 .f32)), Σ' (L8 : List (View.Piece (Elt F) S2048x512 .f32)), { L9 : List (View.Piece (Elt F) S2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9)) -∗ K ⟨⟩))
          ⊢ wp frame (wpE (defs₀ (F := F)) Variants.none c none) E (cc0_s5_fwd i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0_s5_fwd_eq_skeleton]; unfold cc0_s5_fwd_skel
    simp only [k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    iexists _; iexact H9

theorem cover0_A_7 (c : Dev nD) (i : grid0.Coords) (arg2 : Memref sig .tc .vmem S2048x128 .f32) (harg2 : arg2.IsWhole) (arg3 : Memref sig .tc .vmem S1x128x512 .bf16) (harg3 : arg3.IsWhole) (arg4 : Memref sig .tc .vmem S1x128x512 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S64x512 .f32) (harg7 : arg7.IsWhole) (arg8 : Memref sig .tc .vmem S1x128 .f32) (harg8 : arg8.IsWhole) (arg9 : Memref sig .tc .vmem S2048x128 .f32) (harg9 : arg9.IsWhole) (arg10 : Memref sig .tc .vmem S2048x512 .f32) (harg10 : arg10.IsWhole) (arg11 : Memref sig .tc .vmem S2048x512 .f32) (harg11 : arg11.IsWhole)
    (x0 : Vec F S2048x128 .f32) (x1 : Vec F S1x128x512 .bf16) (x2 : Vec F S1x128x512 .bf16) (x3 : Vec F S1x512x128 .bf16) (x4 : Vec F S1x512x128 .bf16) (x5 : Vec F S64x512 .f32) (x6 : Vec F S1x128 .f32) (y : S2048x128.Idx) :
    ∃ pc ∈ (kernelRun0_A c i arg2 harg2 arg3 harg3 arg4 harg4 arg5 harg5 arg6 harg6 arg7 harg7 arg8 harg8 arg9 harg9 arg10 harg10 arg11 harg11 x0 x1 x2 x3 x4 x5 x6).1, y ∈ pc.1.set :=
  View.cover_of_tiledL (kernelRun0_A c i arg2 harg2 arg3 harg3 arg4 harg4 arg5 harg5 arg6 harg6 arg7 harg7 arg8 harg8 arg9 harg9 arg10 harg10 arg11 harg11 x0 x1 x2 x3 x4 x5 x6).1 S2048x128.size (by sl_kernel_rfl) y

/-- What the run leaves in output 7's staging buffer: its pieces read back over junk. -/
def out0_A_7 (c : Dev nD) (i : grid0.Coords) (arg2 : Memref sig .tc .vmem S2048x128 .f32) (harg2 : arg2.IsWhole) (arg3 : Memref sig .tc .vmem S1x128x512 .bf16) (harg3 : arg3.IsWhole) (arg4 : Memref sig .tc .vmem S1x128x512 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S64x512 .f32) (harg7 : arg7.IsWhole) (arg8 : Memref sig .tc .vmem S1x128 .f32) (harg8 : arg8.IsWhole) (arg9 : Memref sig .tc .vmem S2048x128 .f32) (harg9 : arg9.IsWhole) (arg10 : Memref sig .tc .vmem S2048x512 .f32) (harg10 : arg10.IsWhole) (arg11 : Memref sig .tc .vmem S2048x512 .f32) (harg11 : arg11.IsWhole)
    (x0 : Vec F S2048x128 .f32) (x1 : Vec F S1x128x512 .bf16) (x2 : Vec F S1x128x512 .bf16) (x3 : Vec F S1x512x128 .bf16) (x4 : Vec F S1x512x128 .bf16) (x5 : Vec F S64x512 .f32) (x6 : Vec F S1x128 .f32) : Vec F S2048x128 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 x0 x1 x2 x3 x4 x5 x6).1)

theorem cover0_A_8 (c : Dev nD) (i : grid0.Coords) (arg2 : Memref sig .tc .vmem S2048x128 .f32) (harg2 : arg2.IsWhole) (arg3 : Memref sig .tc .vmem S1x128x512 .bf16) (harg3 : arg3.IsWhole) (arg4 : Memref sig .tc .vmem S1x128x512 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S64x512 .f32) (harg7 : arg7.IsWhole) (arg8 : Memref sig .tc .vmem S1x128 .f32) (harg8 : arg8.IsWhole) (arg9 : Memref sig .tc .vmem S2048x128 .f32) (harg9 : arg9.IsWhole) (arg10 : Memref sig .tc .vmem S2048x512 .f32) (harg10 : arg10.IsWhole) (arg11 : Memref sig .tc .vmem S2048x512 .f32) (harg11 : arg11.IsWhole)
    (x0 : Vec F S2048x128 .f32) (x1 : Vec F S1x128x512 .bf16) (x2 : Vec F S1x128x512 .bf16) (x3 : Vec F S1x512x128 .bf16) (x4 : Vec F S1x512x128 .bf16) (x5 : Vec F S64x512 .f32) (x6 : Vec F S1x128 .f32) (y : S2048x512.Idx) :
    ∃ pc ∈ (kernelRun0_A c i arg2 harg2 arg3 harg3 arg4 harg4 arg5 harg5 arg6 harg6 arg7 harg7 arg8 harg8 arg9 harg9 arg10 harg10 arg11 harg11 x0 x1 x2 x3 x4 x5 x6).2.1, y ∈ pc.1.set :=
  View.cover_of_tiledBy (kernelRun0_A c i arg2 harg2 arg3 harg3 arg4 harg4 arg5 harg5 arg6 harg6 arg7 harg7 arg8 harg8 arg9 harg9 arg10 harg10 arg11 harg11 x0 x1 x2 x3 x4 x5 x6).2.1 ![8, 128] (by sl_kernel_rfl) y

/-- What the run leaves in output 8's staging buffer: its pieces read back over junk. -/
def out0_A_8 (c : Dev nD) (i : grid0.Coords) (arg2 : Memref sig .tc .vmem S2048x128 .f32) (harg2 : arg2.IsWhole) (arg3 : Memref sig .tc .vmem S1x128x512 .bf16) (harg3 : arg3.IsWhole) (arg4 : Memref sig .tc .vmem S1x128x512 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S64x512 .f32) (harg7 : arg7.IsWhole) (arg8 : Memref sig .tc .vmem S1x128 .f32) (harg8 : arg8.IsWhole) (arg9 : Memref sig .tc .vmem S2048x128 .f32) (harg9 : arg9.IsWhole) (arg10 : Memref sig .tc .vmem S2048x512 .f32) (harg10 : arg10.IsWhole) (arg11 : Memref sig .tc .vmem S2048x512 .f32) (harg11 : arg11.IsWhole)
    (x0 : Vec F S2048x128 .f32) (x1 : Vec F S1x128x512 .bf16) (x2 : Vec F S1x128x512 .bf16) (x3 : Vec F S1x512x128 .bf16) (x4 : Vec F S1x512x128 .bf16) (x5 : Vec F S64x512 .f32) (x6 : Vec F S1x128 .f32) : Vec F S2048x512 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 x0 x1 x2 x3 x4 x5 x6).2.1)

theorem cover0_A_9 (c : Dev nD) (i : grid0.Coords) (arg2 : Memref sig .tc .vmem S2048x128 .f32) (harg2 : arg2.IsWhole) (arg3 : Memref sig .tc .vmem S1x128x512 .bf16) (harg3 : arg3.IsWhole) (arg4 : Memref sig .tc .vmem S1x128x512 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S64x512 .f32) (harg7 : arg7.IsWhole) (arg8 : Memref sig .tc .vmem S1x128 .f32) (harg8 : arg8.IsWhole) (arg9 : Memref sig .tc .vmem S2048x128 .f32) (harg9 : arg9.IsWhole) (arg10 : Memref sig .tc .vmem S2048x512 .f32) (harg10 : arg10.IsWhole) (arg11 : Memref sig .tc .vmem S2048x512 .f32) (harg11 : arg11.IsWhole)
    (x0 : Vec F S2048x128 .f32) (x1 : Vec F S1x128x512 .bf16) (x2 : Vec F S1x128x512 .bf16) (x3 : Vec F S1x512x128 .bf16) (x4 : Vec F S1x512x128 .bf16) (x5 : Vec F S64x512 .f32) (x6 : Vec F S1x128 .f32) (y : S2048x512.Idx) :
    ∃ pc ∈ (kernelRun0_A c i arg2 harg2 arg3 harg3 arg4 harg4 arg5 harg5 arg6 harg6 arg7 harg7 arg8 harg8 arg9 harg9 arg10 harg10 arg11 harg11 x0 x1 x2 x3 x4 x5 x6).2.2.1, y ∈ pc.1.set :=
  View.cover_of_tiledBy (kernelRun0_A c i arg2 harg2 arg3 harg3 arg4 harg4 arg5 harg5 arg6 harg6 arg7 harg7 arg8 harg8 arg9 harg9 arg10 harg10 arg11 harg11 x0 x1 x2 x3 x4 x5 x6).2.2.1 ![8, 128] (by sl_kernel_rfl) y

/-- What the run leaves in output 9's staging buffer: its pieces read back over junk. -/
def out0_A_9 (c : Dev nD) (i : grid0.Coords) (arg2 : Memref sig .tc .vmem S2048x128 .f32) (harg2 : arg2.IsWhole) (arg3 : Memref sig .tc .vmem S1x128x512 .bf16) (harg3 : arg3.IsWhole) (arg4 : Memref sig .tc .vmem S1x128x512 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S64x512 .f32) (harg7 : arg7.IsWhole) (arg8 : Memref sig .tc .vmem S1x128 .f32) (harg8 : arg8.IsWhole) (arg9 : Memref sig .tc .vmem S2048x128 .f32) (harg9 : arg9.IsWhole) (arg10 : Memref sig .tc .vmem S2048x512 .f32) (harg10 : arg10.IsWhole) (arg11 : Memref sig .tc .vmem S2048x512 .f32) (harg11 : arg11.IsWhole)
    (x0 : Vec F S2048x128 .f32) (x1 : Vec F S1x128x512 .bf16) (x2 : Vec F S1x128x512 .bf16) (x3 : Vec F S1x512x128 .bf16) (x4 : Vec F S1x512x128 .bf16) (x5 : Vec F S64x512 .f32) (x6 : Vec F S1x128 .f32) : Vec F S2048x512 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 x0 x1 x2 x3 x4 x5 x6).2.2.1)

/-! ## What the outputs hold after each point -/

/-- What the outputs' staging buffers hold after the body at point `t` (as a tuple, in window order): the run's contents at
    the point's memrefs and input blocks. -/
def outsAt0 (c : Dev nD) (t : Fin cfg0.N) : Vec F S2048x128 .f32 × Vec F S2048x512 .f32 × Vec F S2048x512 .f32 :=
  (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk0 V c 0 t) (iblk0 V c 1 t) (iblk0 V c 2 t) (iblk0 V c 3 t) (iblk0 V c 4 t) (iblk0 V c 5 t) (iblk0 V c 6 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk0 V c 0 t) (iblk0 V c 1 t) (iblk0 V c 2 t) (iblk0 V c 3 t) (iblk0 V c 4 t) (iblk0 V c 5 t) (iblk0 V c 6 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk0 V c 0 t) (iblk0 V c 1 t) (iblk0 V c 2 t) (iblk0 V c 3 t) (iblk0 V c 4 t) (iblk0 V c 5 t) (iblk0 V c 6 t))

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t).1
    | ⟨8, _⟩ => (outsAt0 V c t).2.1
    | ⟨9, _⟩ => (outsAt0 V c t).2.2
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = (outsAt0 V c t).1 := by dsimp only [dat0]
theorem after0_8 (c : Dev nD) (t : Fin cfg0.N) : (dat0 V c).after 8 t = (outsAt0 V c t).2.1 := by dsimp only [dat0]
theorem after0_9 (c : Dev nD) (t : Fin cfg0.N) : (dat0 V c).after 9 t = (outsAt0 V c t).2.2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t))

set_option maxHeartbeats 800000 in
/-- The body at any point: the inputs' memrefs hold their blocks (`before0_W`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  unfold outsAt0
  unfold out0_A_7 out0_A_8 out0_A_9; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_A c (grid0.coords t) _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, ⟨%e7, H7⟩, ⟨%e8, H8⟩, ⟨%e9, H9⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (cover0_A_7 c _ _ _ _ _ _ _ _ _ _ _ _ _ _ _ _ _ _ _ _ _ _ _ _ _ _ _ _)
  isplitl [H8]
  · unfold owns; iexists _; isplitr
    swap; · iexact H8
    ipureintro; exact View.read_writes_of_cover _ _ _ _ _ (cover0_A_8 c _ _ _ _ _ _ _ _ _ _ _ _ _ _ _ _ _ _ _ _ _ _ _ _ _ _ _ _)
  unfold owns; iexists _; isplitr
  swap; · iexact H9
  ipureintro; exact View.read_writes_of_cover _ _ _ _ _ (cover0_A_9 c _ _ _ _ _ _ _ _ _ _ _ _ _ _ _ _ _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.S5

end
-- ==== Proof.KRegion1a.lean ====
/-
  The second kernel call (the gradient): its two kinds of grid point, first and second sequence of a column block, and which windows are fresh at each.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Pipeline.TableIdle
public import Idealize.ShloMosaic.Lib.Tactic
public import Idealize.ShloMosaic.Lib.WordCmp

@[expose] public section

set_option maxRecDepth 16384

noncomputable section

namespace Cert.KernelIdeal.S5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

/-! ## The windows' blocks -/

/-- Window `w`'s block at point `t`, read off its array as the region finds it (`V`). -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := k1_cond1 i = 1#1
/-- It holds at the points ≡ 0 (mod 2) — by arithmetic of the point. -/
theorem hcond1_0 : ∀ t : Fin cfg1.N, cond1_0 (grid1.coords t) ↔ t.val % 2 = 0 :=
  (fun t => by
    have ht : t.val < 8 := Nat.lt_of_lt_of_eq t.isLt N_1
    have e0 : (grid1.coords t 0).val = t.val / 2 % 4 := Pipeline.Grid.coords_val t 0 (by decide) rfl
    have e1 : (grid1.coords t 1).val = t.val / 1 % 2 := Pipeline.Grid.coords_val t 1 (by decide) rfl
    simp only [cond1_0, k1_cond1, e0, e1]
    word_cmp
   : ∀ t : Fin grid1.N, cond1_0 (grid1.coords t) ↔ t.val % 2 = 0)

/-- The condition of the body's `scf.if` 1 (`k1_h2`), from the grid coordinates (the skeleton's scalar
    chain substituted). -/
abbrev cond1_1 (i : grid1.Coords) : Prop := k1_cond2 i = 1#1
/-- It holds at the points ≡ 1 (mod 2) — decided over the grid. -/
theorem hcond1_1 : ∀ t : Fin cfg1.N, cond1_1 (grid1.coords t) ↔ t.val % 2 = 1 :=
  (by decide +kernel : ∀ t : Fin grid1.N, cond1_1 (grid1.coords t) ↔ t.val % 2 = 1)

/-- The condition of the body's `scf.if` 2 (`k1_h3`), from the grid coordinates (the skeleton's scalar
    chain substituted). -/
abbrev cond1_2 (i : grid1.Coords) : Prop := k1_cond3 i = 1#1
/-- It holds at the points ≡ 0 (mod 2) — by arithmetic of the point. -/
theorem hcond1_2 : ∀ t : Fin cfg1.N, cond1_2 (grid1.coords t) ↔ t.val % 2 = 0 :=
  (fun t => by
    have ht : t.val < 8 := Nat.lt_of_lt_of_eq t.isLt N_1
    have e0 : (grid1.coords t 0).val = t.val / 2 % 4 := Pipeline.Grid.coords_val t 0 (by decide) rfl
    have e1 : (grid1.coords t 1).val = t.val / 1 % 2 := Pipeline.Grid.coords_val t 1 (by decide) rfl
    simp only [cond1_2, k1_cond3, e0, e1]
    word_cmp
   : ∀ t : Fin grid1.N, cond1_2 (grid1.coords t) ↔ t.val % 2 = 0)

/-- The condition of the body's `scf.if` 3 (`k1_h4`), from the grid coordinates (the skeleton's scalar
    chain substituted). -/
abbrev cond1_3 (i : grid1.Coords) : Prop := k1_cond4 i = 1#1
/-- It holds at the points ≡ 1 (mod 2) — decided over the grid. -/
theorem hcond1_3 : ∀ t : Fin cfg1.N, cond1_3 (grid1.coords t) ↔ t.val % 2 = 1 :=
  (by decide +kernel : ∀ t : Fin grid1.N, cond1_3 (grid1.coords t) ↔ t.val % 2 = 1)

/-- The condition of the body's `scf.if` 4 (`k1_h5`), from the grid coordinates (the skeleton's scalar
    chain substituted). -/
abbrev cond1_4 (i : grid1.Coords) : Prop := k1_cond5 i = 1#1
/-- It holds at the points ≡ 0 (mod 2) — by arithmetic of the point. -/
theorem hcond1_4 : ∀ t : Fin cfg1.N, cond1_4 (grid1.coords t) ↔ t.val % 2 = 0 :=
  (fun t => by
    have ht : t.val < 8 := Nat.lt_of_lt_of_eq t.isLt N_1
    have e0 : (grid1.coords t 0).val = t.val / 2 % 4 := Pipeline.Grid.coords_val t 0 (by decide) rfl
    have e1 : (grid1.coords t 1).val = t.val / 1 % 2 := Pipeline.Grid.coords_val t 1 (by decide) rfl
    simp only [cond1_4, k1_cond5, e0, e1]
    word_cmp
   : ∀ t : Fin grid1.N, cond1_4 (grid1.coords t) ↔ t.val % 2 = 0)

/-- The condition of the body's `scf.if` 5 (`k1_h6`), from the grid coordinates (the skeleton's scalar
    chain substituted). -/
abbrev cond1_5 (i : grid1.Coords) : Prop := k1_cond6 i = 1#1
/-- It holds at the points ≡ 1 (mod 2) — decided over the grid. -/
theorem hcond1_5 : ∀ t : Fin cfg1.N, cond1_5 (grid1.coords t) ↔ t.val % 2 = 1 :=
  (by decide +kernel : ∀ t : Fin grid1.N, cond1_5 (grid1.coords t) ↔ t.val % 2 = 1)

/-- The condition of the body's `scf.if` 6 (`k1_h7`), from the grid coordinates (the skeleton's scalar
    chain substituted). -/
abbrev cond1_6 (i : grid1.Coords) : Prop := k1_cond7 i = 1#1
/-- It holds at the points ≡ 0 (mod 2) — by arithmetic of the point. -/
theorem hcond1_6 : ∀ t : Fin cfg1.N, cond1_6 (grid1.coords t) ↔ t.val % 2 = 0 :=
  (fun t => by
    have ht : t.val < 8 := Nat.lt_of_lt_of_eq t.isLt N_1
    have e0 : (grid1.coords t 0).val = t.val / 2 % 4 := Pipeline.Grid.coords_val t 0 (by decide) rfl
    have e1 : (grid1.coords t 1).val = t.val / 1 % 2 := Pipeline.Grid.coords_val t 1 (by decide) rfl
    simp only [cond1_6, k1_cond7, e0, e1]
    word_cmp
   : ∀ t : Fin grid1.N, cond1_6 (grid1.coords t) ↔ t.val % 2 = 0)

/-- The condition of the body's `scf.if` 7 (`k1_h8`), from the grid coordinates (the skeleton's scalar
    chain substituted). -/
abbrev cond1_7 (i : grid1.Coords) : Prop := k1_cond8 i = 1#1
/-- It holds at the points ≡ 1 (mod 2) — decided over the grid. -/
theorem hcond1_7 : ∀ t : Fin cfg1.N, cond1_7 (grid1.coords t) ↔ t.val % 2 = 1 :=
  (by decide +kernel : ∀ t : Fin grid1.N, cond1_7 (grid1.coords t) ↔ t.val % 2 = 1)

/-- The condition of the body's `scf.if` 8 (`k1_h9`), from the grid coordinates (the skeleton's scalar
    chain substituted). -/
abbrev cond1_8 (i : grid1.Coords) : Prop := k1_cond9 i = 1#1
/-- It holds at the points ≡ 0 (mod 2) — by arithmetic of the point. -/
theorem hcond1_8 : ∀ t : Fin cfg1.N, cond1_8 (grid1.coords t) ↔ t.val % 2 = 0 :=
  (fun t => by
    have ht : t.val < 8 := Nat.lt_of_lt_of_eq t.isLt N_1
    have e0 : (grid1.coords t 0).val = t.val / 2 % 4 := Pipeline.Grid.coords_val t 0 (by decide) rfl
    have e1 : (grid1.coords t 1).val = t.val / 1 % 2 := Pipeline.Grid.coords_val t 1 (by decide) rfl
    simp only [cond1_8, k1_cond9, e0, e1]
    word_cmp
   : ∀ t : Fin grid1.N, cond1_8 (grid1.coords t) ↔ t.val % 2 = 0)

/-- The condition of the body's `scf.if` 9 (`k1_h10`), from the grid coordinates (the skeleton's scalar
    chain substituted). -/
abbrev cond1_9 (i : grid1.Coords) : Prop := k1_cond10 i = 1#1
/-- It holds at the points ≡ 1 (mod 2) — decided over the grid. -/
theorem hcond1_9 : ∀ t : Fin cfg1.N, cond1_9 (grid1.coords t) ↔ t.val % 2 = 1 :=
  (by decide +kernel : ∀ t : Fin grid1.N, cond1_9 (grid1.coords t) ↔ t.val % 2 = 1)

/-- The condition of the body's `scf.if` 10 (`k1_h11`), from the grid coordinates (the skeleton's scalar
    chain substituted). -/
abbrev cond1_10 (i : grid1.Coords) : Prop := k1_cond11 i = 1#1
/-- It holds at the points ≡ 0 (mod 2) — by arithmetic of the point. -/
theorem hcond1_10 : ∀ t : Fin cfg1.N, cond1_10 (grid1.coords t) ↔ t.val % 2 = 0 :=
  (fun t => by
    have ht : t.val < 8 := Nat.lt_of_lt_of_eq t.isLt N_1
    have e0 : (grid1.coords t 0).val = t.val / 2 % 4 := Pipeline.Grid.coords_val t 0 (by decide) rfl
    have e1 : (grid1.coords t 1).val = t.val / 1 % 2 := Pipeline.Grid.coords_val t 1 (by decide) rfl
    simp only [cond1_10, k1_cond11, e0, e1]
    word_cmp
   : ∀ t : Fin grid1.N, cond1_10 (grid1.coords t) ↔ t.val % 2 = 0)

/-- The condition of the body's `scf.if` 11 (`k1_h12`), from the grid coordinates (the skeleton's scalar
    chain substituted). -/
abbrev cond1_11 (i : grid1.Coords) : Prop := k1_cond12 i = 1#1
/-- It holds at the points ≡ 1 (mod 2) — decided over the grid. -/
theorem hcond1_11 : ∀ t : Fin cfg1.N, cond1_11 (grid1.coords t) ↔ t.val % 2 = 1 :=
  (by decide +kernel : ∀ t : Fin grid1.N, cond1_11 (grid1.coords t) ↔ t.val % 2 = 1)

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- Window 3 is never idle (an input). -/
theorem liveAt1_3 : ∀ t : Fin cfg1.N, cfg1.idle 3 (grid1.coords t) = false := fun _ => rfl
/-- Window 4 is never idle (an input). -/
theorem liveAt1_4 : ∀ t : Fin cfg1.N, cfg1.idle 4 (grid1.coords t) = false := fun _ => rfl
/-- Window 5 is never idle (an input). -/
theorem liveAt1_5 : ∀ t : Fin cfg1.N, cfg1.idle 5 (grid1.coords t) = false := fun _ => rfl
/-- Window 6 is never idle (an input). -/
theorem liveAt1_6 : ∀ t : Fin cfg1.N, cfg1.idle 6 (grid1.coords t) = false := fun _ => rfl
/-- Window 7 is never idle (an input). -/
theorem liveAt1_7 : ∀ t : Fin cfg1.N, cfg1.idle 7 (grid1.coords t) = false := fun _ => rfl
/-- Window 8 is never idle (an input). -/
theorem liveAt1_8 : ∀ t : Fin cfg1.N, cfg1.idle 8 (grid1.coords t) = false := fun _ => rfl
/-- Window 9 is never idle (an input). -/
theorem liveAt1_9 : ∀ t : Fin cfg1.N, cfg1.idle 9 (grid1.coords t) = false := fun _ => rfl
/-- Window 10 is never idle (an output stored at every point, under no condition). -/
theorem liveAt1_10 : ∀ t : Fin cfg1.N, cfg1.idle 10 (grid1.coords t) = false := fun _ => rfl
/-! A case with many branch conditions on the grid states them as ONE proposition, its `Decidable` instance assembled
one condition at a time: the facts below about that case's points are decided under it and restated with one premise
per condition, so that the instance `decide` searches for does not grow with their number. -/

/-- Case A's branch conditions on the grid, as one proposition. -/
abbrev conds1_A (i : grid1.Coords) : Prop := cond1_0 i ∧ ¬cond1_1 i ∧ cond1_2 i ∧ ¬cond1_3 i ∧ cond1_4 i ∧ ¬cond1_5 i ∧ cond1_6 i ∧ ¬cond1_7 i ∧ cond1_8 i ∧ ¬cond1_9 i ∧ cond1_10 i ∧ ¬cond1_11 i
instance conds1_A.dec (i : grid1.Coords) : Decidable (conds1_A i) :=
  @instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance inferInstance))))))))))
/-- Case B's branch conditions on the grid, as one proposition. -/
abbrev conds1_B (i : grid1.Coords) : Prop := ¬cond1_0 i ∧ cond1_1 i ∧ ¬cond1_2 i ∧ cond1_3 i ∧ ¬cond1_4 i ∧ cond1_5 i ∧ ¬cond1_6 i ∧ cond1_7 i ∧ ¬cond1_8 i ∧ cond1_9 i ∧ ¬cond1_10 i ∧ cond1_11 i
instance conds1_B.dec (i : grid1.Coords) : Decidable (conds1_B i) :=
  @instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance inferInstance))))))))))
def freshTab1_11 : ℕ → Bool
  | 0 => true
  | n + 1 => (0xaa : ℕ).testBit n
theorem freshTab1_11_step : ∀ t : Fin cfg1.N,
    freshTab1_11 (t.val + 1) = ((cfg1.win 11).flush t || (cfg1.idle 11 (cfg1.grid.coords t) && freshTab1_11 t.val)) := by decide +kernel
theorem fresh1_11_eq (t : Fin cfg1.N) : cfg1.fresh 11 t.val = freshTab1_11 t.val :=
  Pipeline.Cfg.fresh_tab cfg1 11 freshTab1_11 rfl freshTab1_11_step t.val (Nat.le_of_lt t.isLt)
/-- At the points of case A the printed configuration (`Cfg.idle`) calls output 11 live: the case stores into it. -/
theorem liveAt1_11_A : ∀ t : Fin cfg1.N, cond1_0 (grid1.coords t) → ¬cond1_1 (grid1.coords t) → cond1_2 (grid1.coords t) → ¬cond1_3 (grid1.coords t) → cond1_4 (grid1.coords t) → ¬cond1_5 (grid1.coords t) → cond1_6 (grid1.coords t) → ¬cond1_7 (grid1.coords t) → cond1_8 (grid1.coords t) → ¬cond1_9 (grid1.coords t) → cond1_10 (grid1.coords t) → ¬cond1_11 (grid1.coords t) → cfg1.idle 11 (grid1.coords t) = false :=
  fun t h0 h1 h2 h3 h4 h5 h6 h7 h8 h9 h10 h11 => (by decide +kernel : ∀ t : Fin cfg1.N, conds1_A (grid1.coords t) → cfg1.idle 11 (grid1.coords t) = false) t ⟨h0, h1, h2, h3, h4, h5, h6, h7, h8, h9, h10, h11⟩
/-- At the points of case B the printed configuration (`Cfg.idle`) calls output 11 live: the case stores into it. -/
theorem liveAt1_11_B : ∀ t : Fin cfg1.N, ¬cond1_0 (grid1.coords t) → cond1_1 (grid1.coords t) → ¬cond1_2 (grid1.coords t) → cond1_3 (grid1.coords t) → ¬cond1_4 (grid1.coords t) → cond1_5 (grid1.coords t) → ¬cond1_6 (grid1.coords t) → cond1_7 (grid1.coords t) → ¬cond1_8 (grid1.coords t) → cond1_9 (grid1.coords t) → ¬cond1_10 (grid1.coords t) → cond1_11 (grid1.coords t) → cfg1.idle 11 (grid1.coords t) = false :=
  fun t h0 h1 h2 h3 h4 h5 h6 h7 h8 h9 h10 h11 => (by decide +kernel : ∀ t : Fin cfg1.N, conds1_B (grid1.coords t) → cfg1.idle 11 (grid1.coords t) = false) t ⟨h0, h1, h2, h3, h4, h5, h6, h7, h8, h9, h10, h11⟩
theorem notFresh1_11_B : ∀ t : Fin cfg1.N, ¬cond1_0 (grid1.coords t) → cond1_1 (grid1.coords t) → ¬cond1_2 (grid1.coords t) → cond1_3 (grid1.coords t) → ¬cond1_4 (grid1.coords t) → cond1_5 (grid1.coords t) → ¬cond1_6 (grid1.coords t) → cond1_7 (grid1.coords t) → ¬cond1_8 (grid1.coords t) → cond1_9 (grid1.coords t) → ¬cond1_10 (grid1.coords t) → cond1_11 (grid1.coords t) → cfg1.fresh 11 t.val = false :=
  fun t h0 h1 h2 h3 h4 h5 h6 h7 h8 h9 h10 h11 => (by intro t; rw [fresh1_11_eq t]; revert t; decide +kernel : ∀ t : Fin cfg1.N, conds1_B (grid1.coords t) → cfg1.fresh 11 t.val = false) t ⟨h0, h1, h2, h3, h4, h5, h6, h7, h8, h9, h10, h11⟩
def freshTab1_12 : ℕ → Bool
  | 0 => true
  | n + 1 => (0xaa : ℕ).testBit n
theorem freshTab1_12_step : ∀ t : Fin cfg1.N,
    freshTab1_12 (t.val + 1) = ((cfg1.win 12).flush t || (cfg1.idle 12 (cfg1.grid.coords t) && freshTab1_12 t.val)) := by decide +kernel
theorem fresh1_12_eq (t : Fin cfg1.N) : cfg1.fresh 12 t.val = freshTab1_12 t.val :=
  Pipeline.Cfg.fresh_tab cfg1 12 freshTab1_12 rfl freshTab1_12_step t.val (Nat.le_of_lt t.isLt)
/-- At the points of case A the printed configuration (`Cfg.idle`) calls output 12 live: the case stores into it. -/
theorem liveAt1_12_A : ∀ t : Fin cfg1.N, cond1_0 (grid1.coords t) → ¬cond1_1 (grid1.coords t) → cond1_2 (grid1.coords t) → ¬cond1_3 (grid1.coords t) → cond1_4 (grid1.coords t) → ¬cond1_5 (grid1.coords t) → cond1_6 (grid1.coords t) → ¬cond1_7 (grid1.coords t) → cond1_8 (grid1.coords t) → ¬cond1_9 (grid1.coords t) → cond1_10 (grid1.coords t) → ¬cond1_11 (grid1.coords t) → cfg1.idle 12 (grid1.coords t) = false :=
  fun t h0 h1 h2 h3 h4 h5 h6 h7 h8 h9 h10 h11 => (by decide +kernel : ∀ t : Fin cfg1.N, conds1_A (grid1.coords t) → cfg1.idle 12 (grid1.coords t) = false) t ⟨h0, h1, h2, h3, h4, h5, h6, h7, h8, h9, h10, h11⟩
/-- At the points of case B the printed configuration (`Cfg.idle`) calls output 12 live: the case stores into it. -/
theorem liveAt1_12_B : ∀ t : Fin cfg1.N, ¬cond1_0 (grid1.coords t) → cond1_1 (grid1.coords t) → ¬cond1_2 (grid1.coords t) → cond1_3 (grid1.coords t) → ¬cond1_4 (grid1.coords t) → cond1_5 (grid1.coords t) → ¬cond1_6 (grid1.coords t) → cond1_7 (grid1.coords t) → ¬cond1_8 (grid1.coords t) → cond1_9 (grid1.coords t) → ¬cond1_10 (grid1.coords t) → cond1_11 (grid1.coords t) → cfg1.idle 12 (grid1.coords t) = false :=
  fun t h0 h1 h2 h3 h4 h5 h6 h7 h8 h9 h10 h11 => (by decide +kernel : ∀ t : Fin cfg1.N, conds1_B (grid1.coords t) → cfg1.idle 12 (grid1.coords t) = false) t ⟨h0, h1, h2, h3, h4, h5, h6, h7, h8, h9, h10, h11⟩
theorem notFresh1_12_B : ∀ t : Fin cfg1.N, ¬cond1_0 (grid1.coords t) → cond1_1 (grid1.coords t) → ¬cond1_2 (grid1.coords t) → cond1_3 (grid1.coords t) → ¬cond1_4 (grid1.coords t) → cond1_5 (grid1.coords t) → ¬cond1_6 (grid1.coords t) → cond1_7 (grid1.coords t) → ¬cond1_8 (grid1.coords t) → cond1_9 (grid1.coords t) → ¬cond1_10 (grid1.coords t) → cond1_11 (grid1.coords t) → cfg1.fresh 12 t.val = false :=
  fun t h0 h1 h2 h3 h4 h5 h6 h7 h8 h9 h10 h11 => (by intro t; rw [fresh1_12_eq t]; revert t; decide +kernel : ∀ t : Fin cfg1.N, conds1_B (grid1.coords t) → cfg1.fresh 12 t.val = false) t ⟨h0, h1, h2, h3, h4, h5, h6, h7, h8, h9, h10, h11⟩
def freshTab1_13 : ℕ → Bool
  | 0 => true
  | n + 1 => (0xaa : ℕ).testBit n
theorem freshTab1_13_step : ∀ t : Fin cfg1.N,
    freshTab1_13 (t.val + 1) = ((cfg1.win 13).flush t || (cfg1.idle 13 (cfg1.grid.coords t) && freshTab1_13 t.val)) := by decide +kernel
theorem fresh1_13_eq (t : Fin cfg1.N) : cfg1.fresh 13 t.val = freshTab1_13 t.val :=
  Pipeline.Cfg.fresh_tab cfg1 13 freshTab1_13 rfl freshTab1_13_step t.val (Nat.le_of_lt t.isLt)
/-- At the points of case A the printed configuration (`Cfg.idle`) calls output 13 live: the case stores into it. -/
theorem liveAt1_13_A : ∀ t : Fin cfg1.N, cond1_0 (grid1.coords t) → ¬cond1_1 (grid1.coords t) → cond1_2 (grid1.coords t) → ¬cond1_3 (grid1.coords t) → cond1_4 (grid1.coords t) → ¬cond1_5 (grid1.coords t) → cond1_6 (grid1.coords t) → ¬cond1_7 (grid1.coords t) → cond1_8 (grid1.coords t) → ¬cond1_9 (grid1.coords t) → cond1_10 (grid1.coords t) → ¬cond1_11 (grid1.coords t) → cfg1.idle 13 (grid1.coords t) = false :=
  fun t h0 h1 h2 h3 h4 h5 h6 h7 h8 h9 h10 h11 => (by decide +kernel : ∀ t : Fin cfg1.N, conds1_A (grid1.coords t) → cfg1.idle 13 (grid1.coords t) = false) t ⟨h0, h1, h2, h3, h4, h5, h6, h7, h8, h9, h10, h11⟩
/-- At the points of case B the printed configuration (`Cfg.idle`) calls output 13 live: the case stores into it. -/
theorem liveAt1_13_B : ∀ t : Fin cfg1.N, ¬cond1_0 (grid1.coords t) → cond1_1 (grid1.coords t) → ¬cond1_2 (grid1.coords t) → cond1_3 (grid1.coords t) → ¬cond1_4 (grid1.coords t) → cond1_5 (grid1.coords t) → ¬cond1_6 (grid1.coords t) → cond1_7 (grid1.coords t) → ¬cond1_8 (grid1.coords t) → cond1_9 (grid1.coords t) → ¬cond1_10 (grid1.coords t) → cond1_11 (grid1.coords t) → cfg1.idle 13 (grid1.coords t) = false :=
  fun t h0 h1 h2 h3 h4 h5 h6 h7 h8 h9 h10 h11 => (by decide +kernel : ∀ t : Fin cfg1.N, conds1_B (grid1.coords t) → cfg1.idle 13 (grid1.coords t) = false) t ⟨h0, h1, h2, h3, h4, h5, h6, h7, h8, h9, h10, h11⟩
theorem notFresh1_13_B : ∀ t : Fin cfg1.N, ¬cond1_0 (grid1.coords t) → cond1_1 (grid1.coords t) → ¬cond1_2 (grid1.coords t) → cond1_3 (grid1.coords t) → ¬cond1_4 (grid1.coords t) → cond1_5 (grid1.coords t) → ¬cond1_6 (grid1.coords t) → cond1_7 (grid1.coords t) → ¬cond1_8 (grid1.coords t) → cond1_9 (grid1.coords t) → ¬cond1_10 (grid1.coords t) → cond1_11 (grid1.coords t) → cfg1.fresh 13 t.val = false :=
  fun t h0 h1 h2 h3 h4 h5 h6 h7 h8 h9 h10 h11 => (by intro t; rw [fresh1_13_eq t]; revert t; decide +kernel : ∀ t : Fin cfg1.N, conds1_B (grid1.coords t) → cfg1.fresh 13 t.val = false) t ⟨h0, h1, h2, h3, h4, h5, h6, h7, h8, h9, h10, h11⟩
def freshTab1_14 : ℕ → Bool
  | 0 => true
  | n + 1 => (0xaa : ℕ).testBit n
theorem freshTab1_14_step : ∀ t : Fin cfg1.N,
    freshTab1_14 (t.val + 1) = ((cfg1.win 14).flush t || (cfg1.idle 14 (cfg1.grid.coords t) && freshTab1_14 t.val)) := by decide +kernel
theorem fresh1_14_eq (t : Fin cfg1.N) : cfg1.fresh 14 t.val = freshTab1_14 t.val :=
  Pipeline.Cfg.fresh_tab cfg1 14 freshTab1_14 rfl freshTab1_14_step t.val (Nat.le_of_lt t.isLt)
/-- At the points of case A the printed configuration (`Cfg.idle`) calls output 14 live: the case stores into it. -/
theorem liveAt1_14_A : ∀ t : Fin cfg1.N, cond1_0 (grid1.coords t) → ¬cond1_1 (grid1.coords t) → cond1_2 (grid1.coords t) → ¬cond1_3 (grid1.coords t) → cond1_4 (grid1.coords t) → ¬cond1_5 (grid1.coords t) → cond1_6 (grid1.coords t) → ¬cond1_7 (grid1.coords t) → cond1_8 (grid1.coords t) → ¬cond1_9 (grid1.coords t) → cond1_10 (grid1.coords t) → ¬cond1_11 (grid1.coords t) → cfg1.idle 14 (grid1.coords t) = false :=
  fun t h0 h1 h2 h3 h4 h5 h6 h7 h8 h9 h10 h11 => (by decide +kernel : ∀ t : Fin cfg1.N, conds1_A (grid1.coords t) → cfg1.idle 14 (grid1.coords t) = false) t ⟨h0, h1, h2, h3, h4, h5, h6, h7, h8, h9, h10, h11⟩
/-- At the points of case B the printed configuration (`Cfg.idle`) calls output 14 live: the case stores into it. -/
theorem liveAt1_14_B : ∀ t : Fin cfg1.N, ¬cond1_0 (grid1.coords t) → cond1_1 (grid1.coords t) → ¬cond1_2 (grid1.coords t) → cond1_3 (grid1.coords t) → ¬cond1_4 (grid1.coords t) → cond1_5 (grid1.coords t) → ¬cond1_6 (grid1.coords t) → cond1_7 (grid1.coords t) → ¬cond1_8 (grid1.coords t) → cond1_9 (grid1.coords t) → ¬cond1_10 (grid1.coords t) → cond1_11 (grid1.coords t) → cfg1.idle 14 (grid1.coords t) = false :=
  fun t h0 h1 h2 h3 h4 h5 h6 h7 h8 h9 h10 h11 => (by decide +kernel : ∀ t : Fin cfg1.N, conds1_B (grid1.coords t) → cfg1.idle 14 (grid1.coords t) = false) t ⟨h0, h1, h2, h3, h4, h5, h6, h7, h8, h9, h10, h11⟩
theorem notFresh1_14_B : ∀ t : Fin cfg1.N, ¬cond1_0 (grid1.coords t) → cond1_1 (grid1.coords t) → ¬cond1_2 (grid1.coords t) → cond1_3 (grid1.coords t) → ¬cond1_4 (grid1.coords t) → cond1_5 (grid1.coords t) → ¬cond1_6 (grid1.coords t) → cond1_7 (grid1.coords t) → ¬cond1_8 (grid1.coords t) → cond1_9 (grid1.coords t) → ¬cond1_10 (grid1.coords t) → cond1_11 (grid1.coords t) → cfg1.fresh 14 t.val = false :=
  fun t h0 h1 h2 h3 h4 h5 h6 h7 h8 h9 h10 h11 => (by intro t; rw [fresh1_14_eq t]; revert t; decide +kernel : ∀ t : Fin cfg1.N, conds1_B (grid1.coords t) → cfg1.fresh 14 t.val = false) t ⟨h0, h1, h2, h3, h4, h5, h6, h7, h8, h9, h10, h11⟩
def freshTab1_15 : ℕ → Bool
  | 0 => true
  | n + 1 => (0xaa : ℕ).testBit n
theorem freshTab1_15_step : ∀ t : Fin cfg1.N,
    freshTab1_15 (t.val + 1) = ((cfg1.win 15).flush t || (cfg1.idle 15 (cfg1.grid.coords t) && freshTab1_15 t.val)) := by decide +kernel
theorem fresh1_15_eq (t : Fin cfg1.N) : cfg1.fresh 15 t.val = freshTab1_15 t.val :=
  Pipeline.Cfg.fresh_tab cfg1 15 freshTab1_15 rfl freshTab1_15_step t.val (Nat.le_of_lt t.isLt)
/-- At the points of case A the printed configuration (`Cfg.idle`) calls output 15 live: the case stores into it. -/
theorem liveAt1_15_A : ∀ t : Fin cfg1.N, cond1_0 (grid1.coords t) → ¬cond1_1 (grid1.coords t) → cond1_2 (grid1.coords t) → ¬cond1_3 (grid1.coords t) → cond1_4 (grid1.coords t) → ¬cond1_5 (grid1.coords t) → cond1_6 (grid1.coords t) → ¬cond1_7 (grid1.coords t) → cond1_8 (grid1.coords t) → ¬cond1_9 (grid1.coords t) → cond1_10 (grid1.coords t) → ¬cond1_11 (grid1.coords t) → cfg1.idle 15 (grid1.coords t) = false :=
  fun t h0 h1 h2 h3 h4 h5 h6 h7 h8 h9 h10 h11 => (by decide +kernel : ∀ t : Fin cfg1.N, conds1_A (grid1.coords t) → cfg1.idle 15 (grid1.coords t) = false) t ⟨h0, h1, h2, h3, h4, h5, h6, h7, h8, h9, h10, h11⟩
/-- At the points of case B the printed configuration (`Cfg.idle`) calls output 15 live: the case stores into it. -/
theorem liveAt1_15_B : ∀ t : Fin cfg1.N, ¬cond1_0 (grid1.coords t) → cond1_1 (grid1.coords t) → ¬cond1_2 (grid1.coords t) → cond1_3 (grid1.coords t) → ¬cond1_4 (grid1.coords t) → cond1_5 (grid1.coords t) → ¬cond1_6 (grid1.coords t) → cond1_7 (grid1.coords t) → ¬cond1_8 (grid1.coords t) → cond1_9 (grid1.coords t) → ¬cond1_10 (grid1.coords t) → cond1_11 (grid1.coords t) → cfg1.idle 15 (grid1.coords t) = false :=
  fun t h0 h1 h2 h3 h4 h5 h6 h7 h8 h9 h10 h11 => (by decide +kernel : ∀ t : Fin cfg1.N, conds1_B (grid1.coords t) → cfg1.idle 15 (grid1.coords t) = false) t ⟨h0, h1, h2, h3, h4, h5, h6, h7, h8, h9, h10, h11⟩
theorem notFresh1_15_B : ∀ t : Fin cfg1.N, ¬cond1_0 (grid1.coords t) → cond1_1 (grid1.coords t) → ¬cond1_2 (grid1.coords t) → cond1_3 (grid1.coords t) → ¬cond1_4 (grid1.coords t) → cond1_5 (grid1.coords t) → ¬cond1_6 (grid1.coords t) → cond1_7 (grid1.coords t) → ¬cond1_8 (grid1.coords t) → cond1_9 (grid1.coords t) → ¬cond1_10 (grid1.coords t) → cond1_11 (grid1.coords t) → cfg1.fresh 15 t.val = false :=
  fun t h0 h1 h2 h3 h4 h5 h6 h7 h8 h9 h10 h11 => (by intro t; rw [fresh1_15_eq t]; revert t; decide +kernel : ∀ t : Fin cfg1.N, conds1_B (grid1.coords t) → cfg1.fresh 15 t.val = false) t ⟨h0, h1, h2, h3, h4, h5, h6, h7, h8, h9, h10, h11⟩
def freshTab1_16 : ℕ → Bool
  | 0 => true
  | n + 1 => (0xaa : ℕ).testBit n
theorem freshTab1_16_step : ∀ t : Fin cfg1.N,
    freshTab1_16 (t.val + 1) = ((cfg1.win 16).flush t || (cfg1.idle 16 (cfg1.grid.coords t) && freshTab1_16 t.val)) := by decide +kernel
theorem fresh1_16_eq (t : Fin cfg1.N) : cfg1.fresh 16 t.val = freshTab1_16 t.val :=
  Pipeline.Cfg.fresh_tab cfg1 16 freshTab1_16 rfl freshTab1_16_step t.val (Nat.le_of_lt t.isLt)
/-- At the points of case A the printed configuration (`Cfg.idle`) calls output 16 live: the case stores into it. -/
theorem liveAt1_16_A : ∀ t : Fin cfg1.N, cond1_0 (grid1.coords t) → ¬cond1_1 (grid1.coords t) → cond1_2 (grid1.coords t) → ¬cond1_3 (grid1.coords t) → cond1_4 (grid1.coords t) → ¬cond1_5 (grid1.coords t) → cond1_6 (grid1.coords t) → ¬cond1_7 (grid1.coords t) → cond1_8 (grid1.coords t) → ¬cond1_9 (grid1.coords t) → cond1_10 (grid1.coords t) → ¬cond1_11 (grid1.coords t) → cfg1.idle 16 (grid1.coords t) = false :=
  fun t h0 h1 h2 h3 h4 h5 h6 h7 h8 h9 h10 h11 => (by decide +kernel : ∀ t : Fin cfg1.N, conds1_A (grid1.coords t) → cfg1.idle 16 (grid1.coords t) = false) t ⟨h0, h1, h2, h3, h4, h5, h6, h7, h8, h9, h10, h11⟩
/-- At the points of case B the printed configuration (`Cfg.idle`) calls output 16 live: the case stores into it. -/
theorem liveAt1_16_B : ∀ t : Fin cfg1.N, ¬cond1_0 (grid1.coords t) → cond1_1 (grid1.coords t) → ¬cond1_2 (grid1.coords t) → cond1_3 (grid1.coords t) → ¬cond1_4 (grid1.coords t) → cond1_5 (grid1.coords t) → ¬cond1_6 (grid1.coords t) → cond1_7 (grid1.coords t) → ¬cond1_8 (grid1.coords t) → cond1_9 (grid1.coords t) → ¬cond1_10 (grid1.coords t) → cond1_11 (grid1.coords t) → cfg1.idle 16 (grid1.coords t) = false :=
  fun t h0 h1 h2 h3 h4 h5 h6 h7 h8 h9 h10 h11 => (by decide +kernel : ∀ t : Fin cfg1.N, conds1_B (grid1.coords t) → cfg1.idle 16 (grid1.coords t) = false) t ⟨h0, h1, h2, h3, h4, h5, h6, h7, h8, h9, h10, h11⟩
theorem notFresh1_16_B : ∀ t : Fin cfg1.N, ¬cond1_0 (grid1.coords t) → cond1_1 (grid1.coords t) → ¬cond1_2 (grid1.coords t) → cond1_3 (grid1.coords t) → ¬cond1_4 (grid1.coords t) → cond1_5 (grid1.coords t) → ¬cond1_6 (grid1.coords t) → cond1_7 (grid1.coords t) → ¬cond1_8 (grid1.coords t) → cond1_9 (grid1.coords t) → ¬cond1_10 (grid1.coords t) → cond1_11 (grid1.coords t) → cfg1.fresh 16 t.val = false :=
  fun t h0 h1 h2 h3 h4 h5 h6 h7 h8 h9 h10 h11 => (by intro t; rw [fresh1_16_eq t]; revert t; decide +kernel : ∀ t : Fin cfg1.N, conds1_B (grid1.coords t) → cfg1.fresh 16 t.val = false) t ⟨h0, h1, h2, h3, h4, h5, h6, h7, h8, h9, h10, h11⟩

/-! ## The kernel body on any staging memrefs: a subtype the run finds -/

/-- One staging buffer of output window 10, through which its contents are stated (`View.read_writes_of_cover`: the
    choice does not matter). -/
abbrev VO1_10 : View sig .tc .vmem S2048x128 .bf16 := (Memref.whole cc1_stg10_0 : Memref sig .tc .vmem S2048x128 .bf16).view
/-- One staging buffer of output window 11, through which its contents are stated (`View.read_writes_of_cover`: the
    choice does not matter). -/
abbrev VO1_11 : View sig .tc .vmem S1x128x512 .f32 := (Memref.whole cc1_stg11_0 : Memref sig .tc .vmem S1x128x512 .f32).view
/-- One staging buffer of output window 12, through which its contents are stated (`View.read_writes_of_cover`: the
    choice does not matter). -/
abbrev VO1_12 : View sig .tc .vmem S1x128x512 .f32 := (Memref.whole cc1_stg12_0 : Memref sig .tc .vmem S1x128x512 .f32).view
/-- One staging buffer of output window 13, through which its contents are stated (`View.read_writes_of_cover`: the
    choice does not matter). -/
abbrev VO1_13 : View sig .tc .vmem S1x512x128 .f32 := (Memref.whole cc1_stg13_0 : Memref sig .tc .vmem S1x512x128 .f32).view
/-- One staging buffer of output window 14, through which its contents are stated (`View.read_writes_of_cover`: the
    choice does not matter). -/
abbrev VO1_14 : View sig .tc .vmem S1x512x128 .f32 := (Memref.whole cc1_stg14_0 : Memref sig .tc .vmem S1x512x128 .f32).view
/-- One staging buffer of output window 15, through which its contents are stated (`View.read_writes_of_cover`: the
    choice does not matter). -/
abbrev VO1_15 : View sig .tc .vmem S1x2x512 .f32 := (Memref.whole cc1_stg15_0 : Memref sig .tc .vmem S1x2x512 .f32).view
/-- One staging buffer of output window 16, through which its contents are stated (`View.read_writes_of_cover`: the
    choice does not matter). -/
abbrev VO1_16 : View sig .tc .vmem S1x128 .f32 := (Memref.whole cc1_stg16_0 : Memref sig .tc .vmem S1x128 .f32).view
/-- Each window's current staging memref at point `t`, spelled as the pipeline passes it (`bodyAt1`), and its wholeness. -/
abbrev ms1_0 (t : Fin cfg1.N) : Memref sig .tc .vmem S2048x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128x512 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128x512 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x512x128 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x512x128 .bf16 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S64x512 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x128 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S2048x128 .bf16 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S1x128x512 .f32 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S1x128x512 .f32 := win1_12.stage (cfg1.slots t 12)
abbrev hs1_12 (t : Fin cfg1.N) : (ms1_12 t).IsWhole := hstage1_12 ((cfg1.slots t 12).cast nbuf1_12)
abbrev ms1_13 (t : Fin cfg1.N) : Memref sig .tc .vmem S1x512x128 .f32 := win1_13.stage (cfg1.slots t 13)
abbrev hs1_13 (t : Fin cfg1.N) : (ms1_13 t).IsWhole := hstage1_13 ((cfg1.slots t 13).cast nbuf1_13)
abbrev ms1_14 (t : Fin cfg1.N) : Memref sig .tc .vmem S1x512x128 .f32 := win1_14.stage (cfg1.slots t 14)
abbrev hs1_14 (t : Fin cfg1.N) : (ms1_14 t).IsWhole := hstage1_14 ((cfg1.slots t 14).cast nbuf1_14)
abbrev ms1_15 (t : Fin cfg1.N) : Memref sig .tc .vmem S1x2x512 .f32 := win1_15.stage (cfg1.slots t 15)
abbrev hs1_15 (t : Fin cfg1.N) : (ms1_15 t).IsWhole := hstage1_15 ((cfg1.slots t 15).cast nbuf1_15)
abbrev ms1_16 (t : Fin cfg1.N) : Memref sig .tc .vmem S1x128 .f32 := win1_16.stage (cfg1.slots t 16)
abbrev hs1_16 (t : Fin cfg1.N) : (ms1_16 t).IsWhole := hstage1_16 ((cfg1.slots t 16).cast nbuf1_16)
/-- The scratch operands: whole scoped buffers of the kernel's own, passed beside the windows. -/
abbrev scM1_0 : Memref sig .tc .vmem S2048x512 .f32 := Memref.whole cc1_scratch0
abbrev scM1_1 : Memref sig .tc .vmem S2048x512 .f32 := Memref.whole cc1_scratch1

theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

end Regions

end Cert.KernelIdeal.S5

end
-- ==== Proof.KRegion1b.lean ====
/-
  The second kernel call: what one grid point of each kind leaves in each output window.
-/
module

public import proofs.«01_k».proof.Proof.KRegion1a
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Pipeline.TableIdle
public import Idealize.ShloMosaic.Lib.Tactic
public import Idealize.ShloMosaic.Lib.WordCmp

@[expose] public section

set_option maxRecDepth 16384

noncomputable section

namespace Cert.KernelIdeal.S5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

set_option maxHeartbeats 1000000 in
noncomputable def kernelRun1_A (c : Dev nD) (i : grid1.Coords) (arg2 : Memref sig .tc .vmem S2048x128 .f32) (harg2 : arg2.IsWhole) (arg3 : Memref sig .tc .vmem S2048x128 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S1x128x512 .bf16) (harg6 : arg6.IsWhole) (arg7 : Memref sig .tc .vmem S1x128x512 .bf16) (harg7 : arg7.IsWhole) (arg8 : Memref sig .tc .vmem S1x512x128 .bf16) (harg8 : arg8.IsWhole) (arg9 : Memref sig .tc .vmem S1x512x128 .bf16) (harg9 : arg9.IsWhole) (arg10 : Memref sig .tc .vmem S64x512 .f32) (harg10 : arg10.IsWhole) (arg11 : Memref sig .tc .vmem S1x128 .f32) (harg11 : arg11.IsWhole) (arg12 : Memref sig .tc .vmem S2048x128 .bf16) (harg12 : arg12.IsWhole) (arg13 : Memref sig .tc .vmem S1x128x512 .f32) (harg13 : arg13.IsWhole) (arg14 : Memref sig .tc .vmem S1x128x512 .f32) (harg14 : arg14.IsWhole) (arg15 : Memref sig .tc .vmem S1x512x128 .f32) (harg15 : arg15.IsWhole) (arg16 : Memref sig .tc .vmem S1x512x128 .f32) (harg16 : arg16.IsWhole) (arg17 : Memref sig .tc .vmem S1x2x512 .f32) (harg17 : arg17.IsWhole) (arg18 : Memref sig .tc .vmem S1x128 .f32) (harg18 : arg18.IsWhole) (arg19 : Memref sig .tc .vmem S2048x512 .f32) (harg19 : arg19.IsWhole) (arg20 : Memref sig .tc .vmem S2048x512 .f32) (harg20 : arg20.IsWhole) (hc0 : cond1_0 i) (hc1 : ¬cond1_1 i) (hc2 : cond1_2 i) (hc3 : ¬cond1_3 i) (hc4 : cond1_4 i) (hc5 : ¬cond1_5 i) (hc6 : cond1_6 i) (hc7 : ¬cond1_7 i) (hc8 : cond1_8 i) (hc9 : ¬cond1_9 i) (hc10 : cond1_10 i) (hc11 : ¬cond1_11 i)
    (x0 : Vec F S2048x128 .f32) (x1 : Vec F S2048x128 .f32) (x2 : Vec F S2048x512 .f32) (x3 : Vec F S2048x512 .f32) (x4 : Vec F S1x128x512 .bf16) (x5 : Vec F S1x128x512 .bf16) (x6 : Vec F S1x512x128 .bf16) (x7 : Vec F S1x512x128 .bf16) (x8 : Vec F S64x512 .f32) (x9 : Vec F S1x128 .f32) :
    Σ' (L10 : List (View.Piece (Elt F) S2048x128 .bf16)), Σ' (L11 : List (View.Piece (Elt F) S1x128x512 .f32)), Σ' (L12 : List (View.Piece (Elt F) S1x128x512 .f32)), Σ' (L13 : List (View.Piece (Elt F) S1x512x128 .f32)), Σ' (L14 : List (View.Piece (Elt F) S1x512x128 .f32)), Σ' (L15 : List (View.Piece (Elt F) S1x2x512 .f32)), { L16 : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ d, owns (c : Thread nD τ) arg19 fullShare d) ∗ (∃ d, owns (c : Thread nD τ) arg20 fullShare d)) -∗ K ⟨⟩))
          ⊢ wp frame (wpE (defs₀ (F := F)) Variants.none c none) E (cc1_s5_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, ?_, ?_, ?_, fun E K => ?run⟩
  case run =>
    simp only [cc1_s5_bwd_eq_skeleton]; unfold cc1_s5_bwd_skel
    simp only [k1_part9_eq_skeleton, k1_part10_eq_skeleton, k1_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | sl_exact hc0 | sl_exact hc1 | sl_exact hc2 | sl_exact hc3 | sl_exact hc4 | sl_exact hc5 | sl_exact hc6 | sl_exact hc7 | sl_exact hc8 | sl_exact hc9 | sl_exact hc10 | sl_exact hc11)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [HS0]
    · iexists _, _; isplitr; swap; · iexact HS0
      ipureintro; rfl
    iexists _, _; isplitr; swap; · iexact HS1
    ipureintro; rfl

section CaseA
/-! One case's conditions and the buffers' contents before it. -/
variable (c : Dev nD) (i : grid1.Coords) (arg2 : Memref sig .tc .vmem S2048x128 .f32) (harg2 : arg2.IsWhole) (arg3 : Memref sig .tc .vmem S2048x128 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S1x128x512 .bf16) (harg6 : arg6.IsWhole) (arg7 : Memref sig .tc .vmem S1x128x512 .bf16) (harg7 : arg7.IsWhole) (arg8 : Memref sig .tc .vmem S1x512x128 .bf16) (harg8 : arg8.IsWhole) (arg9 : Memref sig .tc .vmem S1x512x128 .bf16) (harg9 : arg9.IsWhole) (arg10 : Memref sig .tc .vmem S64x512 .f32) (harg10 : arg10.IsWhole) (arg11 : Memref sig .tc .vmem S1x128 .f32) (harg11 : arg11.IsWhole) (arg12 : Memref sig .tc .vmem S2048x128 .bf16) (harg12 : arg12.IsWhole) (arg13 : Memref sig .tc .vmem S1x128x512 .f32) (harg13 : arg13.IsWhole) (arg14 : Memref sig .tc .vmem S1x128x512 .f32) (harg14 : arg14.IsWhole) (arg15 : Memref sig .tc .vmem S1x512x128 .f32) (harg15 : arg15.IsWhole) (arg16 : Memref sig .tc .vmem S1x512x128 .f32) (harg16 : arg16.IsWhole) (arg17 : Memref sig .tc .vmem S1x2x512 .f32) (harg17 : arg17.IsWhole) (arg18 : Memref sig .tc .vmem S1x128 .f32) (harg18 : arg18.IsWhole) (arg19 : Memref sig .tc .vmem S2048x512 .f32) (harg19 : arg19.IsWhole) (arg20 : Memref sig .tc .vmem S2048x512 .f32) (harg20 : arg20.IsWhole) (hc0 : cond1_0 i) (hc1 : ¬cond1_1 i) (hc2 : cond1_2 i) (hc3 : ¬cond1_3 i) (hc4 : cond1_4 i) (hc5 : ¬cond1_5 i) (hc6 : cond1_6 i) (hc7 : ¬cond1_7 i) (hc8 : cond1_8 i) (hc9 : ¬cond1_9 i) (hc10 : cond1_10 i) (hc11 : ¬cond1_11 i)
    (x0 : Vec F S2048x128 .f32) (x1 : Vec F S2048x128 .f32) (x2 : Vec F S2048x512 .f32) (x3 : Vec F S2048x512 .f32) (x4 : Vec F S1x128x512 .bf16) (x5 : Vec F S1x128x512 .bf16) (x6 : Vec F S1x512x128 .bf16) (x7 : Vec F S1x512x128 .bf16) (x8 : Vec F S64x512 .f32) (x9 : Vec F S1x128 .f32)

theorem cover1_A_10 (y : S2048x128.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 x0 x1 x2 x3 x4 x5 x6 x7 x8 x9).1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 x0 x1 x2 x3 x4 x5 x6 x7 x8 x9).1 S2048x128.size (by sl_kernel_rfl) y

/-- What case A leaves in output 10's staging buffer: its pieces read back over junk. -/
def out1_A_10 : Vec F S2048x128 .bf16 :=
  VO1_10.read (Elt F) (VO1_10.writes (Elt F) VO1_10.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 x0 x1 x2 x3 x4 x5 x6 x7 x8 x9).1)

theorem cover1_A_11 (y : S1x128x512.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 x0 x1 x2 x3 x4 x5 x6 x7 x8 x9).2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 x0 x1 x2 x3 x4 x5 x6 x7 x8 x9).2.1 S1x128x512.size (by sl_kernel_rfl) y

/-- What case A leaves in output 11's staging buffer: its pieces read back over junk. -/
def out1_A_11 : Vec F S1x128x512 .f32 :=
  VO1_11.read (Elt F) (VO1_11.writes (Elt F) VO1_11.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 x0 x1 x2 x3 x4 x5 x6 x7 x8 x9).2.1)

theorem cover1_A_12 (y : S1x128x512.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 x0 x1 x2 x3 x4 x5 x6 x7 x8 x9).2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 x0 x1 x2 x3 x4 x5 x6 x7 x8 x9).2.2.1 S1x128x512.size (by sl_kernel_rfl) y

/-- What case A leaves in output 12's staging buffer: its pieces read back over junk. -/
def out1_A_12 : Vec F S1x128x512 .f32 :=
  VO1_12.read (Elt F) (VO1_12.writes (Elt F) VO1_12.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 x0 x1 x2 x3 x4 x5 x6 x7 x8 x9).2.2.1)

theorem cover1_A_13 (y : S1x512x128.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 x0 x1 x2 x3 x4 x5 x6 x7 x8 x9).2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 x0 x1 x2 x3 x4 x5 x6 x7 x8 x9).2.2.2.1 S1x512x128.size (by sl_kernel_rfl) y

/-- What case A leaves in output 13's staging buffer: its pieces read back over junk. -/
def out1_A_13 : Vec F S1x512x128 .f32 :=
  VO1_13.read (Elt F) (VO1_13.writes (Elt F) VO1_13.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 x0 x1 x2 x3 x4 x5 x6 x7 x8 x9).2.2.2.1)

theorem cover1_A_14 (y : S1x512x128.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 x0 x1 x2 x3 x4 x5 x6 x7 x8 x9).2.2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 x0 x1 x2 x3 x4 x5 x6 x7 x8 x9).2.2.2.2.1 S1x512x128.size (by sl_kernel_rfl) y

/-- What case A leaves in output 14's staging buffer: its pieces read back over junk. -/
def out1_A_14 : Vec F S1x512x128 .f32 :=
  VO1_14.read (Elt F) (VO1_14.writes (Elt F) VO1_14.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 x0 x1 x2 x3 x4 x5 x6 x7 x8 x9).2.2.2.2.1)

theorem cover1_A_15 (y : S1x2x512.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 x0 x1 x2 x3 x4 x5 x6 x7 x8 x9).2.2.2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 x0 x1 x2 x3 x4 x5 x6 x7 x8 x9).2.2.2.2.2.1 S1x2x512.size (by sl_kernel_rfl) y

/-- What case A leaves in output 15's staging buffer: its pieces read back over junk. -/
def out1_A_15 : Vec F S1x2x512 .f32 :=
  VO1_15.read (Elt F) (VO1_15.writes (Elt F) VO1_15.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 x0 x1 x2 x3 x4 x5 x6 x7 x8 x9).2.2.2.2.2.1)

theorem cover1_A_16 (y : S1x128.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 x0 x1 x2 x3 x4 x5 x6 x7 x8 x9).2.2.2.2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 x0 x1 x2 x3 x4 x5 x6 x7 x8 x9).2.2.2.2.2.2.1 S1x128.size (by sl_kernel_rfl) y

/-- What case A leaves in output 16's staging buffer: its pieces read back over junk. -/
def out1_A_16 : Vec F S1x128 .f32 :=
  VO1_16.read (Elt F) (VO1_16.writes (Elt F) VO1_16.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 x0 x1 x2 x3 x4 x5 x6 x7 x8 x9).2.2.2.2.2.2.1)

end CaseA

set_option maxHeartbeats 1000000 in
noncomputable def kernelRun1_B (c : Dev nD) (i : grid1.Coords) (arg2 : Memref sig .tc .vmem S2048x128 .f32) (harg2 : arg2.IsWhole) (arg3 : Memref sig .tc .vmem S2048x128 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S1x128x512 .bf16) (harg6 : arg6.IsWhole) (arg7 : Memref sig .tc .vmem S1x128x512 .bf16) (harg7 : arg7.IsWhole) (arg8 : Memref sig .tc .vmem S1x512x128 .bf16) (harg8 : arg8.IsWhole) (arg9 : Memref sig .tc .vmem S1x512x128 .bf16) (harg9 : arg9.IsWhole) (arg10 : Memref sig .tc .vmem S64x512 .f32) (harg10 : arg10.IsWhole) (arg11 : Memref sig .tc .vmem S1x128 .f32) (harg11 : arg11.IsWhole) (arg12 : Memref sig .tc .vmem S2048x128 .bf16) (harg12 : arg12.IsWhole) (arg13 : Memref sig .tc .vmem S1x128x512 .f32) (harg13 : arg13.IsWhole) (arg14 : Memref sig .tc .vmem S1x128x512 .f32) (harg14 : arg14.IsWhole) (arg15 : Memref sig .tc .vmem S1x512x128 .f32) (harg15 : arg15.IsWhole) (arg16 : Memref sig .tc .vmem S1x512x128 .f32) (harg16 : arg16.IsWhole) (arg17 : Memref sig .tc .vmem S1x2x512 .f32) (harg17 : arg17.IsWhole) (arg18 : Memref sig .tc .vmem S1x128 .f32) (harg18 : arg18.IsWhole) (arg19 : Memref sig .tc .vmem S2048x512 .f32) (harg19 : arg19.IsWhole) (arg20 : Memref sig .tc .vmem S2048x512 .f32) (harg20 : arg20.IsWhole) (hc0 : ¬cond1_0 i) (hc1 : cond1_1 i) (hc2 : ¬cond1_2 i) (hc3 : cond1_3 i) (hc4 : ¬cond1_4 i) (hc5 : cond1_5 i) (hc6 : ¬cond1_6 i) (hc7 : cond1_7 i) (hc8 : ¬cond1_8 i) (hc9 : cond1_9 i) (hc10 : ¬cond1_10 i) (hc11 : cond1_11 i)
    (x0 : Vec F S2048x128 .f32) (x1 : Vec F S2048x128 .f32) (x2 : Vec F S2048x512 .f32) (x3 : Vec F S2048x512 .f32) (x4 : Vec F S1x128x512 .bf16) (x5 : Vec F S1x128x512 .bf16) (x6 : Vec F S1x512x128 .bf16) (x7 : Vec F S1x512x128 .bf16) (x8 : Vec F S64x512 .f32) (x9 : Vec F S1x128 .f32) (xo11 : Vec F S1x128x512 .f32) (xo12 : Vec F S1x128x512 .f32) (xo13 : Vec F S1x512x128 .f32) (xo14 : Vec F S1x512x128 .f32) (xo15 : Vec F S1x2x512 .f32) (xo16 : Vec F S1x128 .f32) :
    Σ' (L10 : List (View.Piece (Elt F) S2048x128 .bf16)), Σ' (L11 : List (View.Piece (Elt F) S1x128x512 .f32)), Σ' (L12 : List (View.Piece (Elt F) S1x128x512 .f32)), Σ' (L13 : List (View.Piece (Elt F) S1x512x128 .f32)), Σ' (L14 : List (View.Piece (Elt F) S1x512x128 .f32)), Σ' (L15 : List (View.Piece (Elt F) S1x2x512 .f32)), { L16 : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare xo11 ∗ owns (c : Thread nD τ) arg14 fullShare xo12 ∗ owns (c : Thread nD τ) arg15 fullShare xo13 ∗ owns (c : Thread nD τ) arg16 fullShare xo14 ∗ owns (c : Thread nD τ) arg17 fullShare xo15 ∗ owns (c : Thread nD τ) arg18 fullShare xo16 ∗ (∃ d, owns (c : Thread nD τ) arg19 fullShare d) ∗ (∃ d, owns (c : Thread nD τ) arg20 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ d, owns (c : Thread nD τ) arg19 fullShare d) ∗ (∃ d, owns (c : Thread nD τ) arg20 fullShare d)) -∗ K ⟨⟩))
          ⊢ wp frame (wpE (defs₀ (F := F)) Variants.none c none) E (cc1_s5_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, ?_, ?_, ?_, fun E K => ?run⟩
  case run =>
    simp only [cc1_s5_bwd_eq_skeleton]; unfold cc1_s5_bwd_skel
    simp only [k1_part9_eq_skeleton, k1_part10_eq_skeleton, k1_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hf11; obtain rfl := harg14.eq_unread hf12; obtain rfl := harg15.eq_unread hf13; obtain rfl := harg16.eq_unread hf14; obtain rfl := harg17.eq_unread hf15; obtain rfl := harg18.eq_unread hf16
    sl_exec (disch := first | sl_exact hc0 | sl_exact hc1 | sl_exact hc2 | sl_exact hc3 | sl_exact hc4 | sl_exact hc5 | sl_exact hc6 | sl_exact hc7 | sl_exact hc8 | sl_exact hc9 | sl_exact hc10 | sl_exact hc11)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [HS0]
    · iexists _, _; isplitr; swap; · iexact HS0
      ipureintro; rfl
    iexists _, _; isplitr; swap; · iexact HS1
    ipureintro; rfl

section CaseB
/-! One case's conditions and the buffers' contents before it. -/
variable (c : Dev nD) (i : grid1.Coords) (arg2 : Memref sig .tc .vmem S2048x128 .f32) (harg2 : arg2.IsWhole) (arg3 : Memref sig .tc .vmem S2048x128 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S1x128x512 .bf16) (harg6 : arg6.IsWhole) (arg7 : Memref sig .tc .vmem S1x128x512 .bf16) (harg7 : arg7.IsWhole) (arg8 : Memref sig .tc .vmem S1x512x128 .bf16) (harg8 : arg8.IsWhole) (arg9 : Memref sig .tc .vmem S1x512x128 .bf16) (harg9 : arg9.IsWhole) (arg10 : Memref sig .tc .vmem S64x512 .f32) (harg10 : arg10.IsWhole) (arg11 : Memref sig .tc .vmem S1x128 .f32) (harg11 : arg11.IsWhole) (arg12 : Memref sig .tc .vmem S2048x128 .bf16) (harg12 : arg12.IsWhole) (arg13 : Memref sig .tc .vmem S1x128x512 .f32) (harg13 : arg13.IsWhole) (arg14 : Memref sig .tc .vmem S1x128x512 .f32) (harg14 : arg14.IsWhole) (arg15 : Memref sig .tc .vmem S1x512x128 .f32) (harg15 : arg15.IsWhole) (arg16 : Memref sig .tc .vmem S1x512x128 .f32) (harg16 : arg16.IsWhole) (arg17 : Memref sig .tc .vmem S1x2x512 .f32) (harg17 : arg17.IsWhole) (arg18 : Memref sig .tc .vmem S1x128 .f32) (harg18 : arg18.IsWhole) (arg19 : Memref sig .tc .vmem S2048x512 .f32) (harg19 : arg19.IsWhole) (arg20 : Memref sig .tc .vmem S2048x512 .f32) (harg20 : arg20.IsWhole) (hc0 : ¬cond1_0 i) (hc1 : cond1_1 i) (hc2 : ¬cond1_2 i) (hc3 : cond1_3 i) (hc4 : ¬cond1_4 i) (hc5 : cond1_5 i) (hc6 : ¬cond1_6 i) (hc7 : cond1_7 i) (hc8 : ¬cond1_8 i) (hc9 : cond1_9 i) (hc10 : ¬cond1_10 i) (hc11 : cond1_11 i)
    (x0 : Vec F S2048x128 .f32) (x1 : Vec F S2048x128 .f32) (x2 : Vec F S2048x512 .f32) (x3 : Vec F S2048x512 .f32) (x4 : Vec F S1x128x512 .bf16) (x5 : Vec F S1x128x512 .bf16) (x6 : Vec F S1x512x128 .bf16) (x7 : Vec F S1x512x128 .bf16) (x8 : Vec F S64x512 .f32) (x9 : Vec F S1x128 .f32) (xo11 : Vec F S1x128x512 .f32) (xo12 : Vec F S1x128x512 .f32) (xo13 : Vec F S1x512x128 .f32) (xo14 : Vec F S1x512x128 .f32) (xo15 : Vec F S1x2x512 .f32) (xo16 : Vec F S1x128 .f32)

theorem cover1_B_10 (y : S2048x128.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 x0 x1 x2 x3 x4 x5 x6 x7 x8 x9 xo11 xo12 xo13 xo14 xo15 xo16).1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 x0 x1 x2 x3 x4 x5 x6 x7 x8 x9 xo11 xo12 xo13 xo14 xo15 xo16).1 S2048x128.size (by sl_kernel_rfl) y

/-- What case B leaves in output 10's staging buffer: its pieces read back over junk. -/
def out1_B_10 : Vec F S2048x128 .bf16 :=
  VO1_10.read (Elt F) (VO1_10.writes (Elt F) VO1_10.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 x0 x1 x2 x3 x4 x5 x6 x7 x8 x9 xo11 xo12 xo13 xo14 xo15 xo16).1)

theorem cover1_B_11 (y : S1x128x512.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 x0 x1 x2 x3 x4 x5 x6 x7 x8 x9 xo11 xo12 xo13 xo14 xo15 xo16).2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 x0 x1 x2 x3 x4 x5 x6 x7 x8 x9 xo11 xo12 xo13 xo14 xo15 xo16).2.1 S1x128x512.size (by sl_kernel_rfl) y

/-- What case B leaves in output 11's staging buffer: its pieces read back over junk. -/
def out1_B_11 : Vec F S1x128x512 .f32 :=
  VO1_11.read (Elt F) (VO1_11.writes (Elt F) VO1_11.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 x0 x1 x2 x3 x4 x5 x6 x7 x8 x9 xo11 xo12 xo13 xo14 xo15 xo16).2.1)

theorem cover1_B_12 (y : S1x128x512.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 x0 x1 x2 x3 x4 x5 x6 x7 x8 x9 xo11 xo12 xo13 xo14 xo15 xo16).2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 x0 x1 x2 x3 x4 x5 x6 x7 x8 x9 xo11 xo12 xo13 xo14 xo15 xo16).2.2.1 S1x128x512.size (by sl_kernel_rfl) y

/-- What case B leaves in output 12's staging buffer: its pieces read back over junk. -/
def out1_B_12 : Vec F S1x128x512 .f32 :=
  VO1_12.read (Elt F) (VO1_12.writes (Elt F) VO1_12.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 x0 x1 x2 x3 x4 x5 x6 x7 x8 x9 xo11 xo12 xo13 xo14 xo15 xo16).2.2.1)

theorem cover1_B_13 (y : S1x512x128.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 x0 x1 x2 x3 x4 x5 x6 x7 x8 x9 xo11 xo12 xo13 xo14 xo15 xo16).2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 x0 x1 x2 x3 x4 x5 x6 x7 x8 x9 xo11 xo12 xo13 xo14 xo15 xo16).2.2.2.1 S1x512x128.size (by sl_kernel_rfl) y

/-- What case B leaves in output 13's staging buffer: its pieces read back over junk. -/
def out1_B_13 : Vec F S1x512x128 .f32 :=
  VO1_13.read (Elt F) (VO1_13.writes (Elt F) VO1_13.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 x0 x1 x2 x3 x4 x5 x6 x7 x8 x9 xo11 xo12 xo13 xo14 xo15 xo16).2.2.2.1)

theorem cover1_B_14 (y : S1x512x128.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 x0 x1 x2 x3 x4 x5 x6 x7 x8 x9 xo11 xo12 xo13 xo14 xo15 xo16).2.2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 x0 x1 x2 x3 x4 x5 x6 x7 x8 x9 xo11 xo12 xo13 xo14 xo15 xo16).2.2.2.2.1 S1x512x128.size (by sl_kernel_rfl) y

/-- What case B leaves in output 14's staging buffer: its pieces read back over junk. -/
def out1_B_14 : Vec F S1x512x128 .f32 :=
  VO1_14.read (Elt F) (VO1_14.writes (Elt F) VO1_14.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 x0 x1 x2 x3 x4 x5 x6 x7 x8 x9 xo11 xo12 xo13 xo14 xo15 xo16).2.2.2.2.1)

theorem cover1_B_15 (y : S1x2x512.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 x0 x1 x2 x3 x4 x5 x6 x7 x8 x9 xo11 xo12 xo13 xo14 xo15 xo16).2.2.2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 x0 x1 x2 x3 x4 x5 x6 x7 x8 x9 xo11 xo12 xo13 xo14 xo15 xo16).2.2.2.2.2.1 S1x2x512.size (by sl_kernel_rfl) y

/-- What case B leaves in output 15's staging buffer: its pieces read back over junk. -/
def out1_B_15 : Vec F S1x2x512 .f32 :=
  VO1_15.read (Elt F) (VO1_15.writes (Elt F) VO1_15.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 x0 x1 x2 x3 x4 x5 x6 x7 x8 x9 xo11 xo12 xo13 xo14 xo15 xo16).2.2.2.2.2.1)

theorem cover1_B_16 (y : S1x128.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 x0 x1 x2 x3 x4 x5 x6 x7 x8 x9 xo11 xo12 xo13 xo14 xo15 xo16).2.2.2.2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 x0 x1 x2 x3 x4 x5 x6 x7 x8 x9 xo11 xo12 xo13 xo14 xo15 xo16).2.2.2.2.2.2.1 S1x128.size (by sl_kernel_rfl) y

/-- What case B leaves in output 16's staging buffer: its pieces read back over junk. -/
def out1_B_16 : Vec F S1x128 .f32 :=
  VO1_16.read (Elt F) (VO1_16.writes (Elt F) VO1_16.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 x0 x1 x2 x3 x4 x5 x6 x7 x8 x9 xo11 xo12 xo13 xo14 xo15 xo16).2.2.2.2.2.2.1)

end CaseB

/-! ## What the outputs hold after each point -/

end Regions

end Cert.KernelIdeal.S5

end
-- ==== Proof.KRegion1c.lean ====
/-
  The second kernel call: its outputs over the whole grid, and that the body keeps to them.
-/
module

public import proofs.«01_k».proof.Proof.KRegion1b
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Pipeline.TableIdle
public import Idealize.ShloMosaic.Lib.Tactic
public import Idealize.ShloMosaic.Lib.WordCmp

@[expose] public section

set_option maxRecDepth 16384

noncomputable section

namespace Cert.KernelIdeal.S5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

theorem not_odd {n : ℕ} (e : n % 2 = 0) : ¬n % 2 = 1 := by omega

theorem odd {n : ℕ} (e : ¬n % 2 = 0) : n % 2 = 1 := by omega

/-- What the seven outputs' buffers hold. -/
abbrev Outs (F : FTy → Type) : Type := Vec F S2048x128 .bf16 × Vec F S1x128x512 .f32 × Vec F S1x128x512 .f32 × Vec F S1x512x128 .f32 × Vec F S1x512x128 .f32 × Vec F S1x2x512 .f32 × Vec F S1x128 .f32

/-- What an even point leaves: it stores each output anew. -/
def evenOuts (c : Dev nD) (t : Fin cfg1.N) (e : t.val % 2 = 0) : Outs F :=
  (out1_A_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) scM1_0 (Memref.isWhole_whole _) scM1_1 (Memref.isWhole_whole _) ((hcond1_0 t).mpr e) (fun h => (not_odd e) ((hcond1_1 t).mp h)) ((hcond1_2 t).mpr e) (fun h => (not_odd e) ((hcond1_3 t).mp h)) ((hcond1_4 t).mpr e) (fun h => (not_odd e) ((hcond1_5 t).mp h)) ((hcond1_6 t).mpr e) (fun h => (not_odd e) ((hcond1_7 t).mp h)) ((hcond1_8 t).mpr e) (fun h => (not_odd e) ((hcond1_9 t).mp h)) ((hcond1_10 t).mpr e) (fun h => (not_odd e) ((hcond1_11 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t),
    out1_A_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) scM1_0 (Memref.isWhole_whole _) scM1_1 (Memref.isWhole_whole _) ((hcond1_0 t).mpr e) (fun h => (not_odd e) ((hcond1_1 t).mp h)) ((hcond1_2 t).mpr e) (fun h => (not_odd e) ((hcond1_3 t).mp h)) ((hcond1_4 t).mpr e) (fun h => (not_odd e) ((hcond1_5 t).mp h)) ((hcond1_6 t).mpr e) (fun h => (not_odd e) ((hcond1_7 t).mp h)) ((hcond1_8 t).mpr e) (fun h => (not_odd e) ((hcond1_9 t).mp h)) ((hcond1_10 t).mpr e) (fun h => (not_odd e) ((hcond1_11 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t),
    out1_A_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) scM1_0 (Memref.isWhole_whole _) scM1_1 (Memref.isWhole_whole _) ((hcond1_0 t).mpr e) (fun h => (not_odd e) ((hcond1_1 t).mp h)) ((hcond1_2 t).mpr e) (fun h => (not_odd e) ((hcond1_3 t).mp h)) ((hcond1_4 t).mpr e) (fun h => (not_odd e) ((hcond1_5 t).mp h)) ((hcond1_6 t).mpr e) (fun h => (not_odd e) ((hcond1_7 t).mp h)) ((hcond1_8 t).mpr e) (fun h => (not_odd e) ((hcond1_9 t).mp h)) ((hcond1_10 t).mpr e) (fun h => (not_odd e) ((hcond1_11 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t),
    out1_A_13 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) scM1_0 (Memref.isWhole_whole _) scM1_1 (Memref.isWhole_whole _) ((hcond1_0 t).mpr e) (fun h => (not_odd e) ((hcond1_1 t).mp h)) ((hcond1_2 t).mpr e) (fun h => (not_odd e) ((hcond1_3 t).mp h)) ((hcond1_4 t).mpr e) (fun h => (not_odd e) ((hcond1_5 t).mp h)) ((hcond1_6 t).mpr e) (fun h => (not_odd e) ((hcond1_7 t).mp h)) ((hcond1_8 t).mpr e) (fun h => (not_odd e) ((hcond1_9 t).mp h)) ((hcond1_10 t).mpr e) (fun h => (not_odd e) ((hcond1_11 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t),
    out1_A_14 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) scM1_0 (Memref.isWhole_whole _) scM1_1 (Memref.isWhole_whole _) ((hcond1_0 t).mpr e) (fun h => (not_odd e) ((hcond1_1 t).mp h)) ((hcond1_2 t).mpr e) (fun h => (not_odd e) ((hcond1_3 t).mp h)) ((hcond1_4 t).mpr e) (fun h => (not_odd e) ((hcond1_5 t).mp h)) ((hcond1_6 t).mpr e) (fun h => (not_odd e) ((hcond1_7 t).mp h)) ((hcond1_8 t).mpr e) (fun h => (not_odd e) ((hcond1_9 t).mp h)) ((hcond1_10 t).mpr e) (fun h => (not_odd e) ((hcond1_11 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t),
    out1_A_15 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) scM1_0 (Memref.isWhole_whole _) scM1_1 (Memref.isWhole_whole _) ((hcond1_0 t).mpr e) (fun h => (not_odd e) ((hcond1_1 t).mp h)) ((hcond1_2 t).mpr e) (fun h => (not_odd e) ((hcond1_3 t).mp h)) ((hcond1_4 t).mpr e) (fun h => (not_odd e) ((hcond1_5 t).mp h)) ((hcond1_6 t).mpr e) (fun h => (not_odd e) ((hcond1_7 t).mp h)) ((hcond1_8 t).mpr e) (fun h => (not_odd e) ((hcond1_9 t).mp h)) ((hcond1_10 t).mpr e) (fun h => (not_odd e) ((hcond1_11 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t),
    out1_A_16 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) scM1_0 (Memref.isWhole_whole _) scM1_1 (Memref.isWhole_whole _) ((hcond1_0 t).mpr e) (fun h => (not_odd e) ((hcond1_1 t).mp h)) ((hcond1_2 t).mpr e) (fun h => (not_odd e) ((hcond1_3 t).mp h)) ((hcond1_4 t).mpr e) (fun h => (not_odd e) ((hcond1_5 t).mp h)) ((hcond1_6 t).mpr e) (fun h => (not_odd e) ((hcond1_7 t).mp h)) ((hcond1_8 t).mpr e) (fun h => (not_odd e) ((hcond1_9 t).mp h)) ((hcond1_10 t).mpr e) (fun h => (not_odd e) ((hcond1_11 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t))

/-- What an odd point leaves over `p`, which it found: it adds to the last six. -/
def oddOuts (c : Dev nD) (t : Fin cfg1.N) (p : Outs F) (e : ¬t.val % 2 = 0) : Outs F :=
  (out1_B_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) scM1_0 (Memref.isWhole_whole _) scM1_1 (Memref.isWhole_whole _) (fun h => e ((hcond1_0 t).mp h)) ((hcond1_1 t).mpr (odd e)) (fun h => e ((hcond1_2 t).mp h)) ((hcond1_3 t).mpr (odd e)) (fun h => e ((hcond1_4 t).mp h)) ((hcond1_5 t).mpr (odd e)) (fun h => e ((hcond1_6 t).mp h)) ((hcond1_7 t).mpr (odd e)) (fun h => e ((hcond1_8 t).mp h)) ((hcond1_9 t).mpr (odd e)) (fun h => e ((hcond1_10 t).mp h)) ((hcond1_11 t).mpr (odd e)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) p.2.1 p.2.2.1 p.2.2.2.1 p.2.2.2.2.1 p.2.2.2.2.2.1 p.2.2.2.2.2.2,
    out1_B_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) scM1_0 (Memref.isWhole_whole _) scM1_1 (Memref.isWhole_whole _) (fun h => e ((hcond1_0 t).mp h)) ((hcond1_1 t).mpr (odd e)) (fun h => e ((hcond1_2 t).mp h)) ((hcond1_3 t).mpr (odd e)) (fun h => e ((hcond1_4 t).mp h)) ((hcond1_5 t).mpr (odd e)) (fun h => e ((hcond1_6 t).mp h)) ((hcond1_7 t).mpr (odd e)) (fun h => e ((hcond1_8 t).mp h)) ((hcond1_9 t).mpr (odd e)) (fun h => e ((hcond1_10 t).mp h)) ((hcond1_11 t).mpr (odd e)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) p.2.1 p.2.2.1 p.2.2.2.1 p.2.2.2.2.1 p.2.2.2.2.2.1 p.2.2.2.2.2.2,
    out1_B_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) scM1_0 (Memref.isWhole_whole _) scM1_1 (Memref.isWhole_whole _) (fun h => e ((hcond1_0 t).mp h)) ((hcond1_1 t).mpr (odd e)) (fun h => e ((hcond1_2 t).mp h)) ((hcond1_3 t).mpr (odd e)) (fun h => e ((hcond1_4 t).mp h)) ((hcond1_5 t).mpr (odd e)) (fun h => e ((hcond1_6 t).mp h)) ((hcond1_7 t).mpr (odd e)) (fun h => e ((hcond1_8 t).mp h)) ((hcond1_9 t).mpr (odd e)) (fun h => e ((hcond1_10 t).mp h)) ((hcond1_11 t).mpr (odd e)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) p.2.1 p.2.2.1 p.2.2.2.1 p.2.2.2.2.1 p.2.2.2.2.2.1 p.2.2.2.2.2.2,
    out1_B_13 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) scM1_0 (Memref.isWhole_whole _) scM1_1 (Memref.isWhole_whole _) (fun h => e ((hcond1_0 t).mp h)) ((hcond1_1 t).mpr (odd e)) (fun h => e ((hcond1_2 t).mp h)) ((hcond1_3 t).mpr (odd e)) (fun h => e ((hcond1_4 t).mp h)) ((hcond1_5 t).mpr (odd e)) (fun h => e ((hcond1_6 t).mp h)) ((hcond1_7 t).mpr (odd e)) (fun h => e ((hcond1_8 t).mp h)) ((hcond1_9 t).mpr (odd e)) (fun h => e ((hcond1_10 t).mp h)) ((hcond1_11 t).mpr (odd e)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) p.2.1 p.2.2.1 p.2.2.2.1 p.2.2.2.2.1 p.2.2.2.2.2.1 p.2.2.2.2.2.2,
    out1_B_14 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) scM1_0 (Memref.isWhole_whole _) scM1_1 (Memref.isWhole_whole _) (fun h => e ((hcond1_0 t).mp h)) ((hcond1_1 t).mpr (odd e)) (fun h => e ((hcond1_2 t).mp h)) ((hcond1_3 t).mpr (odd e)) (fun h => e ((hcond1_4 t).mp h)) ((hcond1_5 t).mpr (odd e)) (fun h => e ((hcond1_6 t).mp h)) ((hcond1_7 t).mpr (odd e)) (fun h => e ((hcond1_8 t).mp h)) ((hcond1_9 t).mpr (odd e)) (fun h => e ((hcond1_10 t).mp h)) ((hcond1_11 t).mpr (odd e)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) p.2.1 p.2.2.1 p.2.2.2.1 p.2.2.2.2.1 p.2.2.2.2.2.1 p.2.2.2.2.2.2,
    out1_B_15 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) scM1_0 (Memref.isWhole_whole _) scM1_1 (Memref.isWhole_whole _) (fun h => e ((hcond1_0 t).mp h)) ((hcond1_1 t).mpr (odd e)) (fun h => e ((hcond1_2 t).mp h)) ((hcond1_3 t).mpr (odd e)) (fun h => e ((hcond1_4 t).mp h)) ((hcond1_5 t).mpr (odd e)) (fun h => e ((hcond1_6 t).mp h)) ((hcond1_7 t).mpr (odd e)) (fun h => e ((hcond1_8 t).mp h)) ((hcond1_9 t).mpr (odd e)) (fun h => e ((hcond1_10 t).mp h)) ((hcond1_11 t).mpr (odd e)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) p.2.1 p.2.2.1 p.2.2.2.1 p.2.2.2.2.1 p.2.2.2.2.2.1 p.2.2.2.2.2.2,
    out1_B_16 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) scM1_0 (Memref.isWhole_whole _) scM1_1 (Memref.isWhole_whole _) (fun h => e ((hcond1_0 t).mp h)) ((hcond1_1 t).mpr (odd e)) (fun h => e ((hcond1_2 t).mp h)) ((hcond1_3 t).mpr (odd e)) (fun h => e ((hcond1_4 t).mp h)) ((hcond1_5 t).mpr (odd e)) (fun h => e ((hcond1_6 t).mp h)) ((hcond1_7 t).mpr (odd e)) (fun h => e ((hcond1_8 t).mp h)) ((hcond1_9 t).mpr (odd e)) (fun h => e ((hcond1_10 t).mp h)) ((hcond1_11 t).mpr (odd e)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) p.2.1 p.2.2.1 p.2.2.2.1 p.2.2.2.2.1 p.2.2.2.2.2.1 p.2.2.2.2.2.2)

/-- What the outputs' buffers hold after the body at position `n`. -/
def outsAt1 (c : Dev nD) : (n : ℕ) → n < cfg1.N → Outs F
  | 0, hn => evenOuts V c ⟨0, hn⟩ (Nat.zero_mod 2)
  | n + 1, hn =>
    if h : (n + 1) % 2 = 0 then evenOuts V c ⟨n + 1, hn⟩ h
    else oddOuts V c ⟨n + 1, hn⟩ (outsAt1 c n (Nat.lt_of_succ_lt hn)) h

theorem outsAt1_A (c : Dev nD) (t : Fin cfg1.N) (h : t.val % 2 = 0) : outsAt1 V c t.val t.isLt = evenOuts V c t h := by
  obtain ⟨n, hn⟩ := t
  cases n with
  | zero => rfl
  | succ n => exact dif_pos h

theorem outsAt1_B (c : Dev nD) (t : Fin cfg1.N) (h : ¬t.val % 2 = 0) :
    outsAt1 V c t.val t.isLt = oddOuts V c t (outsAt1 V c (t.val - 1) (Nat.lt_of_le_of_lt (Nat.sub_le _ _) t.isLt)) h := by
  obtain ⟨n, hn⟩ := t
  cases n with
  | zero => exact absurd (Nat.zero_mod 2) h
  | succ n => exact dif_neg h

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => (outsAt1 V c t.val t.isLt).1
    | ⟨11, _⟩ => (outsAt1 V c t.val t.isLt).2.1
    | ⟨12, _⟩ => (outsAt1 V c t.val t.isLt).2.2.1
    | ⟨13, _⟩ => (outsAt1 V c t.val t.isLt).2.2.2.1
    | ⟨14, _⟩ => (outsAt1 V c t.val t.isLt).2.2.2.2.1
    | ⟨15, _⟩ => (outsAt1 V c t.val t.isLt).2.2.2.2.2.1
    | ⟨16, _⟩ => (outsAt1 V c t.val t.isLt).2.2.2.2.2.2
    | ⟨_ + 17, h⟩ => absurd h (Nat.not_lt.2 (Nat.le_add_left _ _))
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = (outsAt1 V c t.val t.isLt).1 := by dsimp only [dat1]
theorem after1_11 (c : Dev nD) (t : Fin cfg1.N) : (dat1 V c).after 11 t = (outsAt1 V c t.val t.isLt).2.1 := by dsimp only [dat1]
theorem after1_12 (c : Dev nD) (t : Fin cfg1.N) : (dat1 V c).after 12 t = (outsAt1 V c t.val t.isLt).2.2.1 := by dsimp only [dat1]
theorem after1_13 (c : Dev nD) (t : Fin cfg1.N) : (dat1 V c).after 13 t = (outsAt1 V c t.val t.isLt).2.2.2.1 := by dsimp only [dat1]
theorem after1_14 (c : Dev nD) (t : Fin cfg1.N) : (dat1 V c).after 14 t = (outsAt1 V c t.val t.isLt).2.2.2.2.1 := by dsimp only [dat1]
theorem after1_15 (c : Dev nD) (t : Fin cfg1.N) : (dat1 V c).after 15 t = (outsAt1 V c t.val t.isLt).2.2.2.2.2.1 := by dsimp only [dat1]
theorem after1_16 (c : Dev nD) (t : Fin cfg1.N) : (dat1 V c).after 16 t = (outsAt1 V c t.val t.isLt).2.2.2.2.2.2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

/-- Every point stores into each of the last six outputs. -/
theorem stored : ∀ w : Fin cfg1.W, 11 ≤ w.val → ∀ t : Fin cfg1.N, cfg1.idle w (grid1.coords t) = false := by decide +kernel

/-- So no point leaves one of them as the point before did. -/
theorem hcarry1 (c : Dev nD) (w : Fin cfg1.W) (hw : 11 ≤ w.val) : ∀ (t : Fin cfg1.N) (_ : t.val ≠ 0), cfg1.idle w (grid1.coords t) = true →
    cfg1.fresh w t.val = false → (dat1 V c).after w t = (dat1 V c).after w ⟨t.val - 1, by omega⟩ :=
  fun t _ hi _ => Bool.noConfusion ((stored w hw t).symm.trans hi)

theorem before1_11_B (c : Dev nD) (t : Fin cfg1.N) (h0 : ¬t.val % 2 = 0) (h1 : t.val % 2 = 1) (h2 : ¬t.val % 2 = 0) (h3 : t.val % 2 = 1) (h4 : ¬t.val % 2 = 0) (h5 : t.val % 2 = 1) (h6 : ¬t.val % 2 = 0) (h7 : t.val % 2 = 1) (h8 : ¬t.val % 2 = 0) (h9 : t.val % 2 = 1) (h10 : ¬t.val % 2 = 0) (h11 : t.val % 2 = 1) (d) :
    (dat1 V c).before 11 t d = (outsAt1 V c (t.val - 1) (Nat.lt_of_le_of_lt (Nat.sub_le _ _) t.isLt)).2.1 := by
  rw [Dat.before_out_traj _ 11 rfl (fun _ _ => rfl) (hcarry1 V c 11 (by decide)) t.val t rfl d,
    if_neg (by rw [notFresh1_11_B t (fun h => h0 ((hcond1_0 t).mp h)) ((hcond1_1 t).mpr h1) (fun h => h2 ((hcond1_2 t).mp h)) ((hcond1_3 t).mpr h3) (fun h => h4 ((hcond1_4 t).mp h)) ((hcond1_5 t).mpr h5) (fun h => h6 ((hcond1_6 t).mp h)) ((hcond1_7 t).mpr h7) (fun h => h8 ((hcond1_8 t).mp h)) ((hcond1_9 t).mpr h9) (fun h => h10 ((hcond1_10 t).mp h)) ((hcond1_11 t).mpr h11)]; exact Bool.false_ne_true)]
  dsimp only [dat1]
theorem before1_12_B (c : Dev nD) (t : Fin cfg1.N) (h0 : ¬t.val % 2 = 0) (h1 : t.val % 2 = 1) (h2 : ¬t.val % 2 = 0) (h3 : t.val % 2 = 1) (h4 : ¬t.val % 2 = 0) (h5 : t.val % 2 = 1) (h6 : ¬t.val % 2 = 0) (h7 : t.val % 2 = 1) (h8 : ¬t.val % 2 = 0) (h9 : t.val % 2 = 1) (h10 : ¬t.val % 2 = 0) (h11 : t.val % 2 = 1) (d) :
    (dat1 V c).before 12 t d = (outsAt1 V c (t.val - 1) (Nat.lt_of_le_of_lt (Nat.sub_le _ _) t.isLt)).2.2.1 := by
  rw [Dat.before_out_traj _ 12 rfl (fun _ _ => rfl) (hcarry1 V c 12 (by decide)) t.val t rfl d,
    if_neg (by rw [notFresh1_12_B t (fun h => h0 ((hcond1_0 t).mp h)) ((hcond1_1 t).mpr h1) (fun h => h2 ((hcond1_2 t).mp h)) ((hcond1_3 t).mpr h3) (fun h => h4 ((hcond1_4 t).mp h)) ((hcond1_5 t).mpr h5) (fun h => h6 ((hcond1_6 t).mp h)) ((hcond1_7 t).mpr h7) (fun h => h8 ((hcond1_8 t).mp h)) ((hcond1_9 t).mpr h9) (fun h => h10 ((hcond1_10 t).mp h)) ((hcond1_11 t).mpr h11)]; exact Bool.false_ne_true)]
  dsimp only [dat1]
theorem before1_13_B (c : Dev nD) (t : Fin cfg1.N) (h0 : ¬t.val % 2 = 0) (h1 : t.val % 2 = 1) (h2 : ¬t.val % 2 = 0) (h3 : t.val % 2 = 1) (h4 : ¬t.val % 2 = 0) (h5 : t.val % 2 = 1) (h6 : ¬t.val % 2 = 0) (h7 : t.val % 2 = 1) (h8 : ¬t.val % 2 = 0) (h9 : t.val % 2 = 1) (h10 : ¬t.val % 2 = 0) (h11 : t.val % 2 = 1) (d) :
    (dat1 V c).before 13 t d = (outsAt1 V c (t.val - 1) (Nat.lt_of_le_of_lt (Nat.sub_le _ _) t.isLt)).2.2.2.1 := by
  rw [Dat.before_out_traj _ 13 rfl (fun _ _ => rfl) (hcarry1 V c 13 (by decide)) t.val t rfl d,
    if_neg (by rw [notFresh1_13_B t (fun h => h0 ((hcond1_0 t).mp h)) ((hcond1_1 t).mpr h1) (fun h => h2 ((hcond1_2 t).mp h)) ((hcond1_3 t).mpr h3) (fun h => h4 ((hcond1_4 t).mp h)) ((hcond1_5 t).mpr h5) (fun h => h6 ((hcond1_6 t).mp h)) ((hcond1_7 t).mpr h7) (fun h => h8 ((hcond1_8 t).mp h)) ((hcond1_9 t).mpr h9) (fun h => h10 ((hcond1_10 t).mp h)) ((hcond1_11 t).mpr h11)]; exact Bool.false_ne_true)]
  dsimp only [dat1]
theorem before1_14_B (c : Dev nD) (t : Fin cfg1.N) (h0 : ¬t.val % 2 = 0) (h1 : t.val % 2 = 1) (h2 : ¬t.val % 2 = 0) (h3 : t.val % 2 = 1) (h4 : ¬t.val % 2 = 0) (h5 : t.val % 2 = 1) (h6 : ¬t.val % 2 = 0) (h7 : t.val % 2 = 1) (h8 : ¬t.val % 2 = 0) (h9 : t.val % 2 = 1) (h10 : ¬t.val % 2 = 0) (h11 : t.val % 2 = 1) (d) :
    (dat1 V c).before 14 t d = (outsAt1 V c (t.val - 1) (Nat.lt_of_le_of_lt (Nat.sub_le _ _) t.isLt)).2.2.2.2.1 := by
  rw [Dat.before_out_traj _ 14 rfl (fun _ _ => rfl) (hcarry1 V c 14 (by decide)) t.val t rfl d,
    if_neg (by rw [notFresh1_14_B t (fun h => h0 ((hcond1_0 t).mp h)) ((hcond1_1 t).mpr h1) (fun h => h2 ((hcond1_2 t).mp h)) ((hcond1_3 t).mpr h3) (fun h => h4 ((hcond1_4 t).mp h)) ((hcond1_5 t).mpr h5) (fun h => h6 ((hcond1_6 t).mp h)) ((hcond1_7 t).mpr h7) (fun h => h8 ((hcond1_8 t).mp h)) ((hcond1_9 t).mpr h9) (fun h => h10 ((hcond1_10 t).mp h)) ((hcond1_11 t).mpr h11)]; exact Bool.false_ne_true)]
  dsimp only [dat1]
theorem before1_15_B (c : Dev nD) (t : Fin cfg1.N) (h0 : ¬t.val % 2 = 0) (h1 : t.val % 2 = 1) (h2 : ¬t.val % 2 = 0) (h3 : t.val % 2 = 1) (h4 : ¬t.val % 2 = 0) (h5 : t.val % 2 = 1) (h6 : ¬t.val % 2 = 0) (h7 : t.val % 2 = 1) (h8 : ¬t.val % 2 = 0) (h9 : t.val % 2 = 1) (h10 : ¬t.val % 2 = 0) (h11 : t.val % 2 = 1) (d) :
    (dat1 V c).before 15 t d = (outsAt1 V c (t.val - 1) (Nat.lt_of_le_of_lt (Nat.sub_le _ _) t.isLt)).2.2.2.2.2.1 := by
  rw [Dat.before_out_traj _ 15 rfl (fun _ _ => rfl) (hcarry1 V c 15 (by decide)) t.val t rfl d,
    if_neg (by rw [notFresh1_15_B t (fun h => h0 ((hcond1_0 t).mp h)) ((hcond1_1 t).mpr h1) (fun h => h2 ((hcond1_2 t).mp h)) ((hcond1_3 t).mpr h3) (fun h => h4 ((hcond1_4 t).mp h)) ((hcond1_5 t).mpr h5) (fun h => h6 ((hcond1_6 t).mp h)) ((hcond1_7 t).mpr h7) (fun h => h8 ((hcond1_8 t).mp h)) ((hcond1_9 t).mpr h9) (fun h => h10 ((hcond1_10 t).mp h)) ((hcond1_11 t).mpr h11)]; exact Bool.false_ne_true)]
  dsimp only [dat1]
theorem before1_16_B (c : Dev nD) (t : Fin cfg1.N) (h0 : ¬t.val % 2 = 0) (h1 : t.val % 2 = 1) (h2 : ¬t.val % 2 = 0) (h3 : t.val % 2 = 1) (h4 : ¬t.val % 2 = 0) (h5 : t.val % 2 = 1) (h6 : ¬t.val % 2 = 0) (h7 : t.val % 2 = 1) (h8 : ¬t.val % 2 = 0) (h9 : t.val % 2 = 1) (h10 : ¬t.val % 2 = 0) (h11 : t.val % 2 = 1) (d) :
    (dat1 V c).before 16 t d = (outsAt1 V c (t.val - 1) (Nat.lt_of_le_of_lt (Nat.sub_le _ _) t.isLt)).2.2.2.2.2.2 := by
  rw [Dat.before_out_traj _ 16 rfl (fun _ _ => rfl) (hcarry1 V c 16 (by decide)) t.val t rfl d,
    if_neg (by rw [notFresh1_16_B t (fun h => h0 ((hcond1_0 t).mp h)) ((hcond1_1 t).mpr h1) (fun h => h2 ((hcond1_2 t).mp h)) ((hcond1_3 t).mpr h3) (fun h => h4 ((hcond1_4 t).mp h)) ((hcond1_5 t).mpr h5) (fun h => h6 ((hcond1_6 t).mp h)) ((hcond1_7 t).mpr h7) (fun h => h8 ((hcond1_8 t).mp h)) ((hcond1_9 t).mpr h9) (fun h => h10 ((hcond1_10 t).mp h)) ((hcond1_11 t).mpr h11)]; exact Bool.false_ne_true)]
  dsimp only [dat1]

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d))
    ∗ (∃ d, owns (c : Thread nD τ) (ms1_13 t) fullShare ((dat1 V c).before 13 t d))
    ∗ (∃ d, owns (c : Thread nD τ) (ms1_14 t) fullShare ((dat1 V c).before 14 t d))
    ∗ (∃ d, owns (c : Thread nD τ) (ms1_15 t) fullShare ((dat1 V c).before 15 t d))
    ∗ (∃ d, owns (c : Thread nD τ) (ms1_16 t) fullShare ((dat1 V c).before 16 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t
    ∗ (dat1 V c).leavesExact 12 t
    ∗ (dat1 V c).leavesExact 13 t
    ∗ (dat1 V c).leavesExact 14 t
    ∗ (dat1 V c).leavesExact 15 t
    ∗ (dat1 V c).leavesExact 16 t)

set_option maxHeartbeats 3200000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl]
  rw [show (dat1 V c).Φ t.castSucc = Pipeline.ΦA spec1 c from rfl, PhiA1_eq]
  have hN : t.val < 8 := lt_of_lt_of_eq t.isLt (show cfg1.N = 8 from N_1)
  by_cases h0 : t.val % 2 = 0
  · have h1 := not_odd h0
    have h2 := h0; have h4 := h0; have h6 := h0; have h8 := h0; have h10 := h0
    have h3 := h1; have h5 := h1; have h7 := h1; have h9 := h1; have h11 := h1
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [show (dat1 V c).leavesExact 4 t = owns (c : Thread nD τ) (ms1_4 t) fullShare ((dat1 V c).after 4 t) from by
      unfold Dat.leavesExact; rw [liveAt1_4 t], after1_4]
    rw [show (dat1 V c).leavesExact 5 t = owns (c : Thread nD τ) (ms1_5 t) fullShare ((dat1 V c).after 5 t) from by
      unfold Dat.leavesExact; rw [liveAt1_5 t], after1_5]
    rw [show (dat1 V c).leavesExact 6 t = owns (c : Thread nD τ) (ms1_6 t) fullShare ((dat1 V c).after 6 t) from by
      unfold Dat.leavesExact; rw [liveAt1_6 t], after1_6]
    rw [show (dat1 V c).leavesExact 7 t = owns (c : Thread nD τ) (ms1_7 t) fullShare ((dat1 V c).after 7 t) from by
      unfold Dat.leavesExact; rw [liveAt1_7 t], after1_7]
    rw [show (dat1 V c).leavesExact 8 t = owns (c : Thread nD τ) (ms1_8 t) fullShare ((dat1 V c).after 8 t) from by
      unfold Dat.leavesExact; rw [liveAt1_8 t], after1_8]
    rw [show (dat1 V c).leavesExact 9 t = owns (c : Thread nD τ) (ms1_9 t) fullShare ((dat1 V c).after 9 t) from by
      unfold Dat.leavesExact; rw [liveAt1_9 t], after1_9]
    rw [show (dat1 V c).leavesExact 10 t = owns (c : Thread nD τ) (ms1_10 t) fullShare ((dat1 V c).after 10 t) from by
      unfold Dat.leavesExact; rw [liveAt1_10 t], after1_10]
    rw [show (dat1 V c).leavesExact 11 t = owns (c : Thread nD τ) (ms1_11 t) fullShare ((dat1 V c).after 11 t) from by
      unfold Dat.leavesExact; rw [liveAt1_11_A t ((hcond1_0 t).mpr h0) (fun h => h1 ((hcond1_1 t).mp h)) ((hcond1_2 t).mpr h2) (fun h => h3 ((hcond1_3 t).mp h)) ((hcond1_4 t).mpr h4) (fun h => h5 ((hcond1_5 t).mp h)) ((hcond1_6 t).mpr h6) (fun h => h7 ((hcond1_7 t).mp h)) ((hcond1_8 t).mpr h8) (fun h => h9 ((hcond1_9 t).mp h)) ((hcond1_10 t).mpr h10) (fun h => h11 ((hcond1_11 t).mp h))], after1_11]
    rw [show (dat1 V c).leavesExact 12 t = owns (c : Thread nD τ) (ms1_12 t) fullShare ((dat1 V c).after 12 t) from by
      unfold Dat.leavesExact; rw [liveAt1_12_A t ((hcond1_0 t).mpr h0) (fun h => h1 ((hcond1_1 t).mp h)) ((hcond1_2 t).mpr h2) (fun h => h3 ((hcond1_3 t).mp h)) ((hcond1_4 t).mpr h4) (fun h => h5 ((hcond1_5 t).mp h)) ((hcond1_6 t).mpr h6) (fun h => h7 ((hcond1_7 t).mp h)) ((hcond1_8 t).mpr h8) (fun h => h9 ((hcond1_9 t).mp h)) ((hcond1_10 t).mpr h10) (fun h => h11 ((hcond1_11 t).mp h))], after1_12]
    rw [show (dat1 V c).leavesExact 13 t = owns (c : Thread nD τ) (ms1_13 t) fullShare ((dat1 V c).after 13 t) from by
      unfold Dat.leavesExact; rw [liveAt1_13_A t ((hcond1_0 t).mpr h0) (fun h => h1 ((hcond1_1 t).mp h)) ((hcond1_2 t).mpr h2) (fun h => h3 ((hcond1_3 t).mp h)) ((hcond1_4 t).mpr h4) (fun h => h5 ((hcond1_5 t).mp h)) ((hcond1_6 t).mpr h6) (fun h => h7 ((hcond1_7 t).mp h)) ((hcond1_8 t).mpr h8) (fun h => h9 ((hcond1_9 t).mp h)) ((hcond1_10 t).mpr h10) (fun h => h11 ((hcond1_11 t).mp h))], after1_13]
    rw [show (dat1 V c).leavesExact 14 t = owns (c : Thread nD τ) (ms1_14 t) fullShare ((dat1 V c).after 14 t) from by
      unfold Dat.leavesExact; rw [liveAt1_14_A t ((hcond1_0 t).mpr h0) (fun h => h1 ((hcond1_1 t).mp h)) ((hcond1_2 t).mpr h2) (fun h => h3 ((hcond1_3 t).mp h)) ((hcond1_4 t).mpr h4) (fun h => h5 ((hcond1_5 t).mp h)) ((hcond1_6 t).mpr h6) (fun h => h7 ((hcond1_7 t).mp h)) ((hcond1_8 t).mpr h8) (fun h => h9 ((hcond1_9 t).mp h)) ((hcond1_10 t).mpr h10) (fun h => h11 ((hcond1_11 t).mp h))], after1_14]
    rw [show (dat1 V c).leavesExact 15 t = owns (c : Thread nD τ) (ms1_15 t) fullShare ((dat1 V c).after 15 t) from by
      unfold Dat.leavesExact; rw [liveAt1_15_A t ((hcond1_0 t).mpr h0) (fun h => h1 ((hcond1_1 t).mp h)) ((hcond1_2 t).mpr h2) (fun h => h3 ((hcond1_3 t).mp h)) ((hcond1_4 t).mpr h4) (fun h => h5 ((hcond1_5 t).mp h)) ((hcond1_6 t).mpr h6) (fun h => h7 ((hcond1_7 t).mp h)) ((hcond1_8 t).mpr h8) (fun h => h9 ((hcond1_9 t).mp h)) ((hcond1_10 t).mpr h10) (fun h => h11 ((hcond1_11 t).mp h))], after1_15]
    rw [show (dat1 V c).leavesExact 16 t = owns (c : Thread nD τ) (ms1_16 t) fullShare ((dat1 V c).after 16 t) from by
      unfold Dat.leavesExact; rw [liveAt1_16_A t ((hcond1_0 t).mpr h0) (fun h => h1 ((hcond1_1 t).mp h)) ((hcond1_2 t).mpr h2) (fun h => h3 ((hcond1_3 t).mp h)) ((hcond1_4 t).mpr h4) (fun h => h5 ((hcond1_5 t).mp h)) ((hcond1_6 t).mpr h6) (fun h => h7 ((hcond1_7 t).mp h)) ((hcond1_8 t).mpr h8) (fun h => h9 ((hcond1_9 t).mp h)) ((hcond1_10 t).mpr h10) (fun h => h11 ((hcond1_11 t).mp h))], after1_16]
    rw [outsAt1_A V c t h0]
    unfold evenOuts
    unfold out1_A_10 out1_A_11 out1_A_12 out1_A_13 out1_A_14 out1_A_15 out1_A_16; (try dsimp only)
    iintro ⟨⟨⟨HR0, HR1, HR2, HR3, HR4, HR5, HR6, HR7, HR8, HR9, HR10, HR11, HR12, HR13, HR14, HR15, HR16, HR17, HR18, HR19, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply ((kernelRun1_A c (grid1.coords t) _ _ _ _ _ _ _ _ _ _ _ _ _ _ _ _ _ _ _ _ _ _ _ _ _ _ _ _ _ _ _ _ _ _ _ _ _ _ ((hcond1_0 t).mpr h0) (fun h => h1 ((hcond1_1 t).mp h)) ((hcond1_2 t).mpr h2) (fun h => h3 ((hcond1_3 t).mp h)) ((hcond1_4 t).mpr h4) (fun h => h5 ((hcond1_5 t).mp h)) ((hcond1_6 t).mpr h6) (fun h => h7 ((hcond1_7 t).mp h)) ((hcond1_8 t).mpr h8) (fun h => h9 ((hcond1_9 t).mp h)) ((hcond1_10 t).mpr h10) (fun h => h11 ((hcond1_11 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)).2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [HS0]; · iexact HS0
    isplitl [HS1]; · iexact HS1
    iintro ⟨H0, H1, H2, H3, H4, H5, H6, H7, H8, H9, ⟨%e10, H10⟩, ⟨%e11, H11⟩, ⟨%e12, H12⟩, ⟨%e13, H13⟩, ⟨%e14, H14⟩, ⟨%e15, H15⟩, ⟨%e16, H16⟩, HS0, HS1⟩
    isplitl [HR0 HR1 HR2 HR3 HR4 HR5 HR6 HR7 HR8 HR9 HR10 HR11 HR12 HR13 HR14 HR15 HR16 HR17 HR18 HR19 HS0 HS1 Hg]
    · isplitl [HR0 HR1 HR2 HR3 HR4 HR5 HR6 HR7 HR8 HR9 HR10 HR11 HR12 HR13 HR14 HR15 HR16 HR17 HR18 HR19 HS0 HS1]
      · isplitl [HR0]
        · iexact HR0
        isplitl [HR1]
        · iexact HR1
        isplitl [HR2]
        · iexact HR2
        isplitl [HR3]
        · iexact HR3
        isplitl [HR4]
        · iexact HR4
        isplitl [HR5]
        · iexact HR5
        isplitl [HR6]
        · iexact HR6
        isplitl [HR7]
        · iexact HR7
        isplitl [HR8]
        · iexact HR8
        isplitl [HR9]
        · iexact HR9
        isplitl [HR10]
        · iexact HR10
        isplitl [HR11]
        · iexact HR11
        isplitl [HR12]
        · iexact HR12
        isplitl [HR13]
        · iexact HR13
        isplitl [HR14]
        · iexact HR14
        isplitl [HR15]
        · iexact HR15
        isplitl [HR16]
        · iexact HR16
        isplitl [HR17]
        · iexact HR17
        isplitl [HR18]
        · iexact HR18
        isplitl [HR19]
        · iexact HR19
        isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro; exact View.read_writes_of_cover _ _ _ _ _ (cover1_A_10 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H11]
    · unfold owns; iexists _; isplitr
      swap; · iexact H11
      ipureintro; exact View.read_writes_of_cover _ _ _ _ _ (cover1_A_11 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H12]
    · unfold owns; iexists _; isplitr
      swap; · iexact H12
      ipureintro; exact View.read_writes_of_cover _ _ _ _ _ (cover1_A_12 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H13]
    · unfold owns; iexists _; isplitr
      swap; · iexact H13
      ipureintro; exact View.read_writes_of_cover _ _ _ _ _ (cover1_A_13 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H14]
    · unfold owns; iexists _; isplitr
      swap; · iexact H14
      ipureintro; exact View.read_writes_of_cover _ _ _ _ _ (cover1_A_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H15]
    · unfold owns; iexists _; isplitr
      swap; · iexact H15
      ipureintro; exact View.read_writes_of_cover _ _ _ _ _ (cover1_A_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H16
    ipureintro; exact View.read_writes_of_cover _ _ _ _ _ (cover1_A_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  · have h1 := odd h0
    have h2 := h0; have h4 := h0; have h6 := h0; have h8 := h0; have h10 := h0
    have h3 := h1; have h5 := h1; have h7 := h1; have h9 := h1; have h11 := h1
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [show (dat1 V c).leavesExact 4 t = owns (c : Thread nD τ) (ms1_4 t) fullShare ((dat1 V c).after 4 t) from by
      unfold Dat.leavesExact; rw [liveAt1_4 t], after1_4]
    rw [show (dat1 V c).leavesExact 5 t = owns (c : Thread nD τ) (ms1_5 t) fullShare ((dat1 V c).after 5 t) from by
      unfold Dat.leavesExact; rw [liveAt1_5 t], after1_5]
    rw [show (dat1 V c).leavesExact 6 t = owns (c : Thread nD τ) (ms1_6 t) fullShare ((dat1 V c).after 6 t) from by
      unfold Dat.leavesExact; rw [liveAt1_6 t], after1_6]
    rw [show (dat1 V c).leavesExact 7 t = owns (c : Thread nD τ) (ms1_7 t) fullShare ((dat1 V c).after 7 t) from by
      unfold Dat.leavesExact; rw [liveAt1_7 t], after1_7]
    rw [show (dat1 V c).leavesExact 8 t = owns (c : Thread nD τ) (ms1_8 t) fullShare ((dat1 V c).after 8 t) from by
      unfold Dat.leavesExact; rw [liveAt1_8 t], after1_8]
    rw [show (dat1 V c).leavesExact 9 t = owns (c : Thread nD τ) (ms1_9 t) fullShare ((dat1 V c).after 9 t) from by
      unfold Dat.leavesExact; rw [liveAt1_9 t], after1_9]
    rw [show (dat1 V c).leavesExact 10 t = owns (c : Thread nD τ) (ms1_10 t) fullShare ((dat1 V c).after 10 t) from by
      unfold Dat.leavesExact; rw [liveAt1_10 t], after1_10]
    rw [show (dat1 V c).leavesExact 11 t = owns (c : Thread nD τ) (ms1_11 t) fullShare ((dat1 V c).after 11 t) from by
      unfold Dat.leavesExact; rw [liveAt1_11_B t (fun h => h0 ((hcond1_0 t).mp h)) ((hcond1_1 t).mpr h1) (fun h => h2 ((hcond1_2 t).mp h)) ((hcond1_3 t).mpr h3) (fun h => h4 ((hcond1_4 t).mp h)) ((hcond1_5 t).mpr h5) (fun h => h6 ((hcond1_6 t).mp h)) ((hcond1_7 t).mpr h7) (fun h => h8 ((hcond1_8 t).mp h)) ((hcond1_9 t).mpr h9) (fun h => h10 ((hcond1_10 t).mp h)) ((hcond1_11 t).mpr h11)], after1_11]
    rw [show (dat1 V c).leavesExact 12 t = owns (c : Thread nD τ) (ms1_12 t) fullShare ((dat1 V c).after 12 t) from by
      unfold Dat.leavesExact; rw [liveAt1_12_B t (fun h => h0 ((hcond1_0 t).mp h)) ((hcond1_1 t).mpr h1) (fun h => h2 ((hcond1_2 t).mp h)) ((hcond1_3 t).mpr h3) (fun h => h4 ((hcond1_4 t).mp h)) ((hcond1_5 t).mpr h5) (fun h => h6 ((hcond1_6 t).mp h)) ((hcond1_7 t).mpr h7) (fun h => h8 ((hcond1_8 t).mp h)) ((hcond1_9 t).mpr h9) (fun h => h10 ((hcond1_10 t).mp h)) ((hcond1_11 t).mpr h11)], after1_12]
    rw [show (dat1 V c).leavesExact 13 t = owns (c : Thread nD τ) (ms1_13 t) fullShare ((dat1 V c).after 13 t) from by
      unfold Dat.leavesExact; rw [liveAt1_13_B t (fun h => h0 ((hcond1_0 t).mp h)) ((hcond1_1 t).mpr h1) (fun h => h2 ((hcond1_2 t).mp h)) ((hcond1_3 t).mpr h3) (fun h => h4 ((hcond1_4 t).mp h)) ((hcond1_5 t).mpr h5) (fun h => h6 ((hcond1_6 t).mp h)) ((hcond1_7 t).mpr h7) (fun h => h8 ((hcond1_8 t).mp h)) ((hcond1_9 t).mpr h9) (fun h => h10 ((hcond1_10 t).mp h)) ((hcond1_11 t).mpr h11)], after1_13]
    rw [show (dat1 V c).leavesExact 14 t = owns (c : Thread nD τ) (ms1_14 t) fullShare ((dat1 V c).after 14 t) from by
      unfold Dat.leavesExact; rw [liveAt1_14_B t (fun h => h0 ((hcond1_0 t).mp h)) ((hcond1_1 t).mpr h1) (fun h => h2 ((hcond1_2 t).mp h)) ((hcond1_3 t).mpr h3) (fun h => h4 ((hcond1_4 t).mp h)) ((hcond1_5 t).mpr h5) (fun h => h6 ((hcond1_6 t).mp h)) ((hcond1_7 t).mpr h7) (fun h => h8 ((hcond1_8 t).mp h)) ((hcond1_9 t).mpr h9) (fun h => h10 ((hcond1_10 t).mp h)) ((hcond1_11 t).mpr h11)], after1_14]
    rw [show (dat1 V c).leavesExact 15 t = owns (c : Thread nD τ) (ms1_15 t) fullShare ((dat1 V c).after 15 t) from by
      unfold Dat.leavesExact; rw [liveAt1_15_B t (fun h => h0 ((hcond1_0 t).mp h)) ((hcond1_1 t).mpr h1) (fun h => h2 ((hcond1_2 t).mp h)) ((hcond1_3 t).mpr h3) (fun h => h4 ((hcond1_4 t).mp h)) ((hcond1_5 t).mpr h5) (fun h => h6 ((hcond1_6 t).mp h)) ((hcond1_7 t).mpr h7) (fun h => h8 ((hcond1_8 t).mp h)) ((hcond1_9 t).mpr h9) (fun h => h10 ((hcond1_10 t).mp h)) ((hcond1_11 t).mpr h11)], after1_15]
    rw [show (dat1 V c).leavesExact 16 t = owns (c : Thread nD τ) (ms1_16 t) fullShare ((dat1 V c).after 16 t) from by
      unfold Dat.leavesExact; rw [liveAt1_16_B t (fun h => h0 ((hcond1_0 t).mp h)) ((hcond1_1 t).mpr h1) (fun h => h2 ((hcond1_2 t).mp h)) ((hcond1_3 t).mpr h3) (fun h => h4 ((hcond1_4 t).mp h)) ((hcond1_5 t).mpr h5) (fun h => h6 ((hcond1_6 t).mp h)) ((hcond1_7 t).mpr h7) (fun h => h8 ((hcond1_8 t).mp h)) ((hcond1_9 t).mpr h9) (fun h => h10 ((hcond1_10 t).mp h)) ((hcond1_11 t).mpr h11)], after1_16]
    rw [outsAt1_B V c t h0]
    unfold oddOuts
    simp only [before1_11_B V c t h0 h1 h2 h3 h4 h5 h6 h7 h8 h9 h10 h11, before1_12_B V c t h0 h1 h2 h3 h4 h5 h6 h7 h8 h9 h10 h11, before1_13_B V c t h0 h1 h2 h3 h4 h5 h6 h7 h8 h9 h10 h11, before1_14_B V c t h0 h1 h2 h3 h4 h5 h6 h7 h8 h9 h10 h11, before1_15_B V c t h0 h1 h2 h3 h4 h5 h6 h7 h8 h9 h10 h11, before1_16_B V c t h0 h1 h2 h3 h4 h5 h6 h7 h8 h9 h10 h11]
    unfold out1_B_10 out1_B_11 out1_B_12 out1_B_13 out1_B_14 out1_B_15 out1_B_16; (try dsimp only)
    iintro ⟨⟨⟨HR0, HR1, HR2, HR3, HR4, HR5, HR6, HR7, HR8, HR9, HR10, HR11, HR12, HR13, HR14, HR15, HR16, HR17, HR18, HR19, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply ((kernelRun1_B c (grid1.coords t) _ _ _ _ _ _ _ _ _ _ _ _ _ _ _ _ _ _ _ _ _ _ _ _ _ _ _ _ _ _ _ _ _ _ _ _ _ _ (fun h => h0 ((hcond1_0 t).mp h)) ((hcond1_1 t).mpr h1) (fun h => h2 ((hcond1_2 t).mp h)) ((hcond1_3 t).mpr h3) (fun h => h4 ((hcond1_4 t).mp h)) ((hcond1_5 t).mpr h5) (fun h => h6 ((hcond1_6 t).mp h)) ((hcond1_7 t).mpr h7) (fun h => h8 ((hcond1_8 t).mp h)) ((hcond1_9 t).mpr h9) (fun h => h10 ((hcond1_10 t).mp h)) ((hcond1_11 t).mpr h11) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _ _ _ _ _ _).2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexact H11
    isplitl [H12]; · iexact H12
    isplitl [H13]; · iexact H13
    isplitl [H14]; · iexact H14
    isplitl [H15]; · iexact H15
    isplitl [H16]; · iexact H16
    isplitl [HS0]; · iexact HS0
    isplitl [HS1]; · iexact HS1
    iintro ⟨H0, H1, H2, H3, H4, H5, H6, H7, H8, H9, ⟨%e10, H10⟩, ⟨%e11, H11⟩, ⟨%e12, H12⟩, ⟨%e13, H13⟩, ⟨%e14, H14⟩, ⟨%e15, H15⟩, ⟨%e16, H16⟩, HS0, HS1⟩
    isplitl [HR0 HR1 HR2 HR3 HR4 HR5 HR6 HR7 HR8 HR9 HR10 HR11 HR12 HR13 HR14 HR15 HR16 HR17 HR18 HR19 HS0 HS1 Hg]
    · isplitl [HR0 HR1 HR2 HR3 HR4 HR5 HR6 HR7 HR8 HR9 HR10 HR11 HR12 HR13 HR14 HR15 HR16 HR17 HR18 HR19 HS0 HS1]
      · isplitl [HR0]
        · iexact HR0
        isplitl [HR1]
        · iexact HR1
        isplitl [HR2]
        · iexact HR2
        isplitl [HR3]
        · iexact HR3
        isplitl [HR4]
        · iexact HR4
        isplitl [HR5]
        · iexact HR5
        isplitl [HR6]
        · iexact HR6
        isplitl [HR7]
        · iexact HR7
        isplitl [HR8]
        · iexact HR8
        isplitl [HR9]
        · iexact HR9
        isplitl [HR10]
        · iexact HR10
        isplitl [HR11]
        · iexact HR11
        isplitl [HR12]
        · iexact HR12
        isplitl [HR13]
        · iexact HR13
        isplitl [HR14]
        · iexact HR14
        isplitl [HR15]
        · iexact HR15
        isplitl [HR16]
        · iexact HR16
        isplitl [HR17]
        · iexact HR17
        isplitl [HR18]
        · iexact HR18
        isplitl [HR19]
        · iexact HR19
        isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro; exact View.read_writes_of_cover _ _ _ _ _ (cover1_B_10 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H11]
    · unfold owns; iexists _; isplitr
      swap; · iexact H11
      ipureintro; exact View.read_writes_of_cover _ _ _ _ _ (cover1_B_11 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H12]
    · unfold owns; iexists _; isplitr
      swap; · iexact H12
      ipureintro; exact View.read_writes_of_cover _ _ _ _ _ (cover1_B_12 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H13]
    · unfold owns; iexists _; isplitr
      swap; · iexact H13
      ipureintro; exact View.read_writes_of_cover _ _ _ _ _ (cover1_B_13 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H14]
    · unfold owns; iexists _; isplitr
      swap; · iexact H14
      ipureintro; exact View.read_writes_of_cover _ _ _ _ _ (cover1_B_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H15]
    · unfold owns; iexists _; isplitr
      swap; · iexact H15
      ipureintro; exact View.read_writes_of_cover _ _ _ _ _ (cover1_B_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H16
    ipureintro; exact View.read_writes_of_cover _ _ _ _ _ (cover1_B_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.S5

end
-- ==== Proof.KHosts.lean ====
/-
  The host operations before, between and after the two kernel calls: what each stretch writes.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.S5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's argument arrays, as TensorCore references: what the frame claim reads back. -/
abbrev argRefs : List (Ref sig .tc) := [main_arg0, main_arg1, main_arg2, main_arg3, main_arg4, main_arg5, main_arg6, main_arg7, main_arg8]

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_c, main_v4, main_v5, main_v6, main_v7, main_v8, main_v9, main_v10, main_v11, main_v12, main_v13, main_v14, main_v15, main_v16, main_v17, main_v18, main_c_0, main_v19, main_v20, main_v21, main_v22, main_v23, main_v24, main_v25, main_v26, main_v27, main_v28, main_v29, main_v30, main_v31, main_v32, main_v33, main_c_1, main_v34, main_v35, main_v36, main_v37, main_v38, main_v39, main_v40, main_v41, main_v42, main_v43, main_v44, main_v45, main_v46, main_v47, main_v48, main_c_2, main_v49, main_v50, main_v51, main_v52, main_v53, main_v54, main_v55, main_v56, main_v57, main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94, main_v95, main_v96, main_v97, main_v98, main_v99, main_v100, main_v101, main_v102, main_v103, main_v104, main_v105, main_c_3, main_v106, main_v107, main_v108, main_cst]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps0_1` allocates a buffer. -/
theorem hostOps0_1_fresh : (hostOps0_1 : List (HloOp τ sig (Elt F))).Forall fun op => op.fresh = ∅ := by
  simp only [List.Forall]; repeat' constructor
/-- The reference each operation of `hostOps0_1` writes, in order. -/
abbrev hostOps0_1_W : List (Ref sig .tc) := [main_call0_v0, main_call0_v1, main_call0_v2, main_call0_v3, main_v109]
theorem hostOps0_1_writes : (hostOps0_1 : List (HloOp τ sig (Elt F))).Forall fun op => op.writes ⊆ (hostOps0_1_W.map (Proc.devRef (τ := τ) .tc)).toFinset :=
  StableHlo.forall_writes_sub_of_map rfl
/-- `hostOps0_1` writes none of the argument arrays (checked: each argument against each reference it writes). -/
theorem hostOps0_1_args : ∀ a ∈ argRefs, a ∉ hostOps0_1_W := ListAll.forall_mem_of_all_decide (by decide +kernel)

/-- No operation of `hostOps0_2` allocates a buffer. -/
theorem hostOps0_2_fresh : (hostOps0_2 : List (HloOp τ sig (Elt F))).Forall fun op => op.fresh = ∅ := by
  simp only [List.Forall]; repeat' constructor
/-- The reference each operation of `hostOps0_2` writes, in order. -/
abbrev hostOps0_2_W : List (Ref sig .tc) := [main_v110, main_cst_4]
theorem hostOps0_2_writes : (hostOps0_2 : List (HloOp τ sig (Elt F))).Forall fun op => op.writes ⊆ (hostOps0_2_W.map (Proc.devRef (τ := τ) .tc)).toFinset :=
  StableHlo.forall_writes_sub_of_map rfl
/-- `hostOps0_2` writes none of the argument arrays (checked: each argument against each reference it writes). -/
theorem hostOps0_2_args : ∀ a ∈ argRefs, a ∉ hostOps0_2_W := ListAll.forall_mem_of_all_decide (by decide +kernel)

/-- No operation of `hostOps0_3` allocates a buffer. -/
theorem hostOps0_3_fresh : (hostOps0_3 : List (HloOp τ sig (Elt F))).Forall fun op => op.fresh = ∅ := by
  simp only [List.Forall]; repeat' constructor
/-- The reference each operation of `hostOps0_3` writes, in order. -/
abbrev hostOps0_3_W : List (Ref sig .tc) := [main_call1_v0, main_call1_v1, main_call1_v2, main_call1_v3, main_v111]
theorem hostOps0_3_writes : (hostOps0_3 : List (HloOp τ sig (Elt F))).Forall fun op => op.writes ⊆ (hostOps0_3_W.map (Proc.devRef (τ := τ) .tc)).toFinset :=
  StableHlo.forall_writes_sub_of_map rfl
/-- `hostOps0_3` writes none of the argument arrays (checked: each argument against each reference it writes). -/
theorem hostOps0_3_args : ∀ a ∈ argRefs, a ∉ hostOps0_3_W := ListAll.forall_mem_of_all_decide (by decide +kernel)

/-- No operation of `hostOps0_4` allocates a buffer. -/
theorem hostOps0_4_fresh : (hostOps0_4 : List (HloOp τ sig (Elt F))).Forall fun op => op.fresh = ∅ := by
  simp only [List.Forall]; repeat' constructor
/-- The reference each operation of `hostOps0_4` writes, in order. -/
abbrev hostOps0_4_W : List (Ref sig .tc) := [main_c_5, main_v112, main_v113, main_v114, main_cst_6]
theorem hostOps0_4_writes : (hostOps0_4 : List (HloOp τ sig (Elt F))).Forall fun op => op.writes ⊆ (hostOps0_4_W.map (Proc.devRef (τ := τ) .tc)).toFinset :=
  StableHlo.forall_writes_sub_of_map rfl
/-- `hostOps0_4` writes none of the argument arrays (checked: each argument against each reference it writes). -/
theorem hostOps0_4_args : ∀ a ∈ argRefs, a ∉ hostOps0_4_W := ListAll.forall_mem_of_all_decide (by decide +kernel)

/-- No operation of `hostOps0_5` allocates a buffer. -/
theorem hostOps0_5_fresh : (hostOps0_5 : List (HloOp τ sig (Elt F))).Forall fun op => op.fresh = ∅ := by
  simp only [List.Forall]; repeat' constructor
/-- The reference each operation of `hostOps0_5` writes, in order. -/
abbrev hostOps0_5_W : List (Ref sig .tc) := [main_call2_v0, main_call2_v1, main_call2_v2, main_call2_v3, main_v115]
theorem hostOps0_5_writes : (hostOps0_5 : List (HloOp τ sig (Elt F))).Forall fun op => op.writes ⊆ (hostOps0_5_W.map (Proc.devRef (τ := τ) .tc)).toFinset :=
  StableHlo.forall_writes_sub_of_map rfl
/-- `hostOps0_5` writes none of the argument arrays (checked: each argument against each reference it writes). -/
theorem hostOps0_5_args : ∀ a ∈ argRefs, a ∉ hostOps0_5_W := ListAll.forall_mem_of_all_decide (by decide +kernel)

/-- No operation of `hostOps0_6` allocates a buffer. -/
theorem hostOps0_6_fresh : (hostOps0_6 : List (HloOp τ sig (Elt F))).Forall fun op => op.fresh = ∅ := by
  simp only [List.Forall]; repeat' constructor
/-- The reference each operation of `hostOps0_6` writes, in order. -/
abbrev hostOps0_6_W : List (Ref sig .tc) := [main_v116, main_cst_7]
theorem hostOps0_6_writes : (hostOps0_6 : List (HloOp τ sig (Elt F))).Forall fun op => op.writes ⊆ (hostOps0_6_W.map (Proc.devRef (τ := τ) .tc)).toFinset :=
  StableHlo.forall_writes_sub_of_map rfl
/-- `hostOps0_6` writes none of the argument arrays (checked: each argument against each reference it writes). -/
theorem hostOps0_6_args : ∀ a ∈ argRefs, a ∉ hostOps0_6_W := ListAll.forall_mem_of_all_decide (by decide +kernel)

/-- No operation of `hostOps0_7` allocates a buffer. -/
theorem hostOps0_7_fresh : (hostOps0_7 : List (HloOp τ sig (Elt F))).Forall fun op => op.fresh = ∅ := by
  simp only [List.Forall]; repeat' constructor
/-- The reference each operation of `hostOps0_7` writes, in order. -/
abbrev hostOps0_7_W : List (Ref sig .tc) := [main_call3_v0, main_call3_v1, main_call3_v2, main_call3_v3, main_v117]
theorem hostOps0_7_writes : (hostOps0_7 : List (HloOp τ sig (Elt F))).Forall fun op => op.writes ⊆ (hostOps0_7_W.map (Proc.devRef (τ := τ) .tc)).toFinset :=
  StableHlo.forall_writes_sub_of_map rfl
/-- `hostOps0_7` writes none of the argument arrays (checked: each argument against each reference it writes). -/
theorem hostOps0_7_args : ∀ a ∈ argRefs, a ∉ hostOps0_7_W := ListAll.forall_mem_of_all_decide (by decide +kernel)

/-- No operation of `hostOps0_8` allocates a buffer. -/
theorem hostOps0_8_fresh : (hostOps0_8 : List (HloOp τ sig (Elt F))).Forall fun op => op.fresh = ∅ := by
  simp only [List.Forall]; repeat' constructor
/-- The reference each operation of `hostOps0_8` writes, in order. -/
abbrev hostOps0_8_W : List (Ref sig .tc) := [main_c_8, main_v118, main_v119, main_v120, main_cst_9]
theorem hostOps0_8_writes : (hostOps0_8 : List (HloOp τ sig (Elt F))).Forall fun op => op.writes ⊆ (hostOps0_8_W.map (Proc.devRef (τ := τ) .tc)).toFinset :=
  StableHlo.forall_writes_sub_of_map rfl
/-- `hostOps0_8` writes none of the argument arrays (checked: each argument against each reference it writes). -/
theorem hostOps0_8_args : ∀ a ∈ argRefs, a ∉ hostOps0_8_W := ListAll.forall_mem_of_all_decide (by decide +kernel)

/-- No operation of `hostOps0_9` allocates a buffer. -/
theorem hostOps0_9_fresh : (hostOps0_9 : List (HloOp τ sig (Elt F))).Forall fun op => op.fresh = ∅ := by
  simp only [List.Forall]; repeat' constructor
/-- The reference each operation of `hostOps0_9` writes, in order. -/
abbrev hostOps0_9_W : List (Ref sig .tc) := [main_call4_v0, main_call4_v1, main_call4_v2, main_call4_v3, main_v121]
theorem hostOps0_9_writes : (hostOps0_9 : List (HloOp τ sig (Elt F))).Forall fun op => op.writes ⊆ (hostOps0_9_W.map (Proc.devRef (τ := τ) .tc)).toFinset :=
  StableHlo.forall_writes_sub_of_map rfl
/-- `hostOps0_9` writes none of the argument arrays (checked: each argument against each reference it writes). -/
theorem hostOps0_9_args : ∀ a ∈ argRefs, a ∉ hostOps0_9_W := ListAll.forall_mem_of_all_decide (by decide +kernel)

/-- No operation of `hostOps0_10` allocates a buffer. -/
theorem hostOps0_10_fresh : (hostOps0_10 : List (HloOp τ sig (Elt F))).Forall fun op => op.fresh = ∅ := by
  simp only [List.Forall]; repeat' constructor
/-- The reference each operation of `hostOps0_10` writes, in order. -/
abbrev hostOps0_10_W : List (Ref sig .tc) := [main_v122, main_cst_10]
theorem hostOps0_10_writes : (hostOps0_10 : List (HloOp τ sig (Elt F))).Forall fun op => op.writes ⊆ (hostOps0_10_W.map (Proc.devRef (τ := τ) .tc)).toFinset :=
  StableHlo.forall_writes_sub_of_map rfl
/-- `hostOps0_10` writes none of the argument arrays (checked: each argument against each reference it writes). -/
theorem hostOps0_10_args : ∀ a ∈ argRefs, a ∉ hostOps0_10_W := ListAll.forall_mem_of_all_decide (by decide +kernel)

/-- No operation of `hostOps0_11` allocates a buffer. -/
theorem hostOps0_11_fresh : (hostOps0_11 : List (HloOp τ sig (Elt F))).Forall fun op => op.fresh = ∅ := by
  simp only [List.Forall]; repeat' constructor
/-- The reference each operation of `hostOps0_11` writes, in order. -/
abbrev hostOps0_11_W : List (Ref sig .tc) := [main_call5_v0, main_call5_v1, main_call5_v2, main_call5_v3, main_v123]
theorem hostOps0_11_writes : (hostOps0_11 : List (HloOp τ sig (Elt F))).Forall fun op => op.writes ⊆ (hostOps0_11_W.map (Proc.devRef (τ := τ) .tc)).toFinset :=
  StableHlo.forall_writes_sub_of_map rfl
/-- `hostOps0_11` writes none of the argument arrays (checked: each argument against each reference it writes). -/
theorem hostOps0_11_args : ∀ a ∈ argRefs, a ∉ hostOps0_11_W := ListAll.forall_mem_of_all_decide (by decide +kernel)

/-- No operation of `hostOps0_12` allocates a buffer. -/
theorem hostOps0_12_fresh : (hostOps0_12 : List (HloOp τ sig (Elt F))).Forall fun op => op.fresh = ∅ := by
  simp only [List.Forall]; repeat' constructor
/-- The reference each operation of `hostOps0_12` writes, in order. -/
abbrev hostOps0_12_W : List (Ref sig .tc) := [main_v124, main_v125, main_v126, main_v127, main_v128, main_v129, main_v130, main_v131, main_v132, main_v133, main_v134, main_v135, main_v136, main_v137, main_v138, main_v139, main_v140, main_v141, main_v142, main_v143, main_v144, main_v145, main_v146, main_v147, main_v148, main_v149, main_v150, main_v151, main_v152, main_v153, main_v154, main_v155, main_v156, main_v157, main_v158, main_v159, main_v160, main_v161, main_v162, main_v163, main_v164, main_v165, main_v166, main_v167, main_v168, main_v169, main_v170, main_v171, main_v172, main_v173, main_v174, main_v175, main_v176, main_v177, main_v178, main_v179, main_v180, main_v181, main_v182, main_v183, main_v184, main_v185, main_v186, main_v187, main_v188, main_v189, main_c_11, main_v190, main_v191, main_v192, main_cst_12]
theorem hostOps0_12_writes : (hostOps0_12 : List (HloOp τ sig (Elt F))).Forall fun op => op.writes ⊆ (hostOps0_12_W.map (Proc.devRef (τ := τ) .tc)).toFinset :=
  StableHlo.forall_writes_sub_of_map rfl
/-- `hostOps0_12` writes none of the argument arrays (checked: each argument against each reference it writes). -/
theorem hostOps0_12_args : ∀ a ∈ argRefs, a ∉ hostOps0_12_W := ListAll.forall_mem_of_all_decide (by decide +kernel)

/-- No operation of `hostOps0_13` allocates a buffer. -/
theorem hostOps0_13_fresh : (hostOps0_13 : List (HloOp τ sig (Elt F))).Forall fun op => op.fresh = ∅ := by
  simp only [List.Forall]; repeat' constructor
/-- The reference each operation of `hostOps0_13` writes, in order. -/
abbrev hostOps0_13_W : List (Ref sig .tc) := [main_call6_v0, main_call6_v1, main_call6_v2, main_call6_v3, main_v193]
theorem hostOps0_13_writes : (hostOps0_13 : List (HloOp τ sig (Elt F))).Forall fun op => op.writes ⊆ (hostOps0_13_W.map (Proc.devRef (τ := τ) .tc)).toFinset :=
  StableHlo.forall_writes_sub_of_map rfl
/-- `hostOps0_13` writes none of the argument arrays (checked: each argument against each reference it writes). -/
theorem hostOps0_13_args : ∀ a ∈ argRefs, a ∉ hostOps0_13_W := ListAll.forall_mem_of_all_decide (by decide +kernel)

/-- No operation of `hostOps0_14` allocates a buffer. -/
theorem hostOps0_14_fresh : (hostOps0_14 : List (HloOp τ sig (Elt F))).Forall fun op => op.fresh = ∅ := by
  simp only [List.Forall]; repeat' constructor
/-- The reference each operation of `hostOps0_14` writes, in order. -/
abbrev hostOps0_14_W : List (Ref sig .tc) := [main_v194, main_cst_13]
theorem hostOps0_14_writes : (hostOps0_14 : List (HloOp τ sig (Elt F))).Forall fun op => op.writes ⊆ (hostOps0_14_W.map (Proc.devRef (τ := τ) .tc)).toFinset :=
  StableHlo.forall_writes_sub_of_map rfl
/-- `hostOps0_14` writes none of the argument arrays (checked: each argument against each reference it writes). -/
theorem hostOps0_14_args : ∀ a ∈ argRefs, a ∉ hostOps0_14_W := ListAll.forall_mem_of_all_decide (by decide +kernel)

/-- No operation of `hostOps0_15` allocates a buffer. -/
theorem hostOps0_15_fresh : (hostOps0_15 : List (HloOp τ sig (Elt F))).Forall fun op => op.fresh = ∅ := by
  simp only [List.Forall]; repeat' constructor
/-- The reference each operation of `hostOps0_15` writes, in order. -/
abbrev hostOps0_15_W : List (Ref sig .tc) := [main_call7_v0, main_call7_v1, main_call7_v2, main_call7_v3, main_v195]
theorem hostOps0_15_writes : (hostOps0_15 : List (HloOp τ sig (Elt F))).Forall fun op => op.writes ⊆ (hostOps0_15_W.map (Proc.devRef (τ := τ) .tc)).toFinset :=
  StableHlo.forall_writes_sub_of_map rfl
/-- `hostOps0_15` writes none of the argument arrays (checked: each argument against each reference it writes). -/
theorem hostOps0_15_args : ∀ a ∈ argRefs, a ∉ hostOps0_15_W := ListAll.forall_mem_of_all_decide (by decide +kernel)

/-- No operation of `hostOps0_16` allocates a buffer. -/
theorem hostOps0_16_fresh : (hostOps0_16 : List (HloOp τ sig (Elt F))).Forall fun op => op.fresh = ∅ := by
  simp only [List.Forall]; repeat' constructor
/-- The reference each operation of `hostOps0_16` writes, in order. -/
abbrev hostOps0_16_W : List (Ref sig .tc) := [main_c_14, main_v196, main_v197, main_v198, main_cst_15]
theorem hostOps0_16_writes : (hostOps0_16 : List (HloOp τ sig (Elt F))).Forall fun op => op.writes ⊆ (hostOps0_16_W.map (Proc.devRef (τ := τ) .tc)).toFinset :=
  StableHlo.forall_writes_sub_of_map rfl
/-- `hostOps0_16` writes none of the argument arrays (checked: each argument against each reference it writes). -/
theorem hostOps0_16_args : ∀ a ∈ argRefs, a ∉ hostOps0_16_W := ListAll.forall_mem_of_all_decide (by decide +kernel)

/-- No operation of `hostOps0_17` allocates a buffer. -/
theorem hostOps0_17_fresh : (hostOps0_17 : List (HloOp τ sig (Elt F))).Forall fun op => op.fresh = ∅ := by
  simp only [List.Forall]; repeat' constructor
/-- The reference each operation of `hostOps0_17` writes, in order. -/
abbrev hostOps0_17_W : List (Ref sig .tc) := [main_call8_v0, main_call8_v1, main_call8_v2, main_call8_v3, main_v199]
theorem hostOps0_17_writes : (hostOps0_17 : List (HloOp τ sig (Elt F))).Forall fun op => op.writes ⊆ (hostOps0_17_W.map (Proc.devRef (τ := τ) .tc)).toFinset :=
  StableHlo.forall_writes_sub_of_map rfl
/-- `hostOps0_17` writes none of the argument arrays (checked: each argument against each reference it writes). -/
theorem hostOps0_17_args : ∀ a ∈ argRefs, a ∉ hostOps0_17_W := ListAll.forall_mem_of_all_decide (by decide +kernel)

/-- No operation of `hostOps0_18` allocates a buffer. -/
theorem hostOps0_18_fresh : (hostOps0_18 : List (HloOp τ sig (Elt F))).Forall fun op => op.fresh = ∅ := by
  simp only [List.Forall]; repeat' constructor
/-- The reference each operation of `hostOps0_18` writes, in order. -/
abbrev hostOps0_18_W : List (Ref sig .tc) := [main_v200, main_cst_16]
theorem hostOps0_18_writes : (hostOps0_18 : List (HloOp τ sig (Elt F))).Forall fun op => op.writes ⊆ (hostOps0_18_W.map (Proc.devRef (τ := τ) .tc)).toFinset :=
  StableHlo.forall_writes_sub_of_map rfl
/-- `hostOps0_18` writes none of the argument arrays (checked: each argument against each reference it writes). -/
theorem hostOps0_18_args : ∀ a ∈ argRefs, a ∉ hostOps0_18_W := ListAll.forall_mem_of_all_decide (by decide +kernel)

/-- No operation of `hostOps0_19` allocates a buffer. -/
theorem hostOps0_19_fresh : (hostOps0_19 : List (HloOp τ sig (Elt F))).Forall fun op => op.fresh = ∅ := by
  simp only [List.Forall]; repeat' constructor
/-- The reference each operation of `hostOps0_19` writes, in order. -/
abbrev hostOps0_19_W : List (Ref sig .tc) := [main_call9_v0, main_call9_v1, main_call9_v2, main_call9_v3, main_v201]
theorem hostOps0_19_writes : (hostOps0_19 : List (HloOp τ sig (Elt F))).Forall fun op => op.writes ⊆ (hostOps0_19_W.map (Proc.devRef (τ := τ) .tc)).toFinset :=
  StableHlo.forall_writes_sub_of_map rfl
/-- `hostOps0_19` writes none of the argument arrays (checked: each argument against each reference it writes). -/
theorem hostOps0_19_args : ∀ a ∈ argRefs, a ∉ hostOps0_19_W := ListAll.forall_mem_of_all_decide (by decide +kernel)

/-- No operation of `hostOps0_20` allocates a buffer. -/
theorem hostOps0_20_fresh : (hostOps0_20 : List (HloOp τ sig (Elt F))).Forall fun op => op.fresh = ∅ := by
  simp only [List.Forall]; repeat' constructor
/-- The reference each operation of `hostOps0_20` writes, in order. -/
abbrev hostOps0_20_W : List (Ref sig .tc) := [main_c_17, main_v202, main_v203, main_v204, main_cst_18]
theorem hostOps0_20_writes : (hostOps0_20 : List (HloOp τ sig (Elt F))).Forall fun op => op.writes ⊆ (hostOps0_20_W.map (Proc.devRef (τ := τ) .tc)).toFinset :=
  StableHlo.forall_writes_sub_of_map rfl
/-- `hostOps0_20` writes none of the argument arrays (checked: each argument against each reference it writes). -/
theorem hostOps0_20_args : ∀ a ∈ argRefs, a ∉ hostOps0_20_W := ListAll.forall_mem_of_all_decide (by decide +kernel)

/-- No operation of `hostOps0_21` allocates a buffer. -/
theorem hostOps0_21_fresh : (hostOps0_21 : List (HloOp τ sig (Elt F))).Forall fun op => op.fresh = ∅ := by
  simp only [List.Forall]; repeat' constructor
/-- The reference each operation of `hostOps0_21` writes, in order. -/
abbrev hostOps0_21_W : List (Ref sig .tc) := [main_call10_v0, main_call10_v1, main_call10_v2, main_call10_v3, main_v205]
theorem hostOps0_21_writes : (hostOps0_21 : List (HloOp τ sig (Elt F))).Forall fun op => op.writes ⊆ (hostOps0_21_W.map (Proc.devRef (τ := τ) .tc)).toFinset :=
  StableHlo.forall_writes_sub_of_map rfl
/-- `hostOps0_21` writes none of the argument arrays (checked: each argument against each reference it writes). -/
theorem hostOps0_21_args : ∀ a ∈ argRefs, a ∉ hostOps0_21_W := ListAll.forall_mem_of_all_decide (by decide +kernel)

/-- No operation of `hostOps0_22` allocates a buffer. -/
theorem hostOps0_22_fresh : (hostOps0_22 : List (HloOp τ sig (Elt F))).Forall fun op => op.fresh = ∅ := by
  simp only [List.Forall]; repeat' constructor
/-- The reference each operation of `hostOps0_22` writes, in order. -/
abbrev hostOps0_22_W : List (Ref sig .tc) := [main_v206, main_cst_19]
theorem hostOps0_22_writes : (hostOps0_22 : List (HloOp τ sig (Elt F))).Forall fun op => op.writes ⊆ (hostOps0_22_W.map (Proc.devRef (τ := τ) .tc)).toFinset :=
  StableHlo.forall_writes_sub_of_map rfl
/-- `hostOps0_22` writes none of the argument arrays (checked: each argument against each reference it writes). -/
theorem hostOps0_22_args : ∀ a ∈ argRefs, a ∉ hostOps0_22_W := ListAll.forall_mem_of_all_decide (by decide +kernel)

/-- No operation of `hostOps0_23` allocates a buffer. -/
theorem hostOps0_23_fresh : (hostOps0_23 : List (HloOp τ sig (Elt F))).Forall fun op => op.fresh = ∅ := by
  simp only [List.Forall]; repeat' constructor
/-- The reference each operation of `hostOps0_23` writes, in order. -/
abbrev hostOps0_23_W : List (Ref sig .tc) := [main_call11_v0, main_call11_v1, main_call11_v2, main_call11_v3, main_v207]
theorem hostOps0_23_writes : (hostOps0_23 : List (HloOp τ sig (Elt F))).Forall fun op => op.writes ⊆ (hostOps0_23_W.map (Proc.devRef (τ := τ) .tc)).toFinset :=
  StableHlo.forall_writes_sub_of_map rfl
/-- `hostOps0_23` writes none of the argument arrays (checked: each argument against each reference it writes). -/
theorem hostOps0_23_args : ∀ a ∈ argRefs, a ∉ hostOps0_23_W := ListAll.forall_mem_of_all_decide (by decide +kernel)

/-- No operation of `hostOps0_24` allocates a buffer. -/
theorem hostOps0_24_fresh : (hostOps0_24 : List (HloOp τ sig (Elt F))).Forall fun op => op.fresh = ∅ := by
  simp only [List.Forall]; repeat' constructor
/-- The reference each operation of `hostOps0_24` writes, in order. -/
abbrev hostOps0_24_W : List (Ref sig .tc) := [main_v208, main_v209, main_v210, main_v211, main_v212, main_v213, main_v214, main_v215, main_v216, main_v217, main_v218, main_v219, main_v220, main_v221, main_v222, main_v223, main_v224, main_v225, main_v226]
theorem hostOps0_24_writes : (hostOps0_24 : List (HloOp τ sig (Elt F))).Forall fun op => op.writes ⊆ (hostOps0_24_W.map (Proc.devRef (τ := τ) .tc)).toFinset :=
  StableHlo.forall_writes_sub_of_map rfl
/-- `hostOps0_24` writes none of the argument arrays (checked: each argument against each reference it writes). -/
theorem hostOps0_24_args : ∀ a ∈ argRefs, a ∉ hostOps0_24_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v229, main_v230, main_v231, main_v232, main_v233, main_v234, main_v235, main_v236, main_v237, main_v238, main_v239, main_cst_20, main_v240, main_v241, main_cst_21, main_v242, main_v243, main_v244, main_v245, main_v246, main_v247, main_v248, main_v249, main_v250, main_cst_22, main_v251, main_v252, main_cst_23, main_v253, main_v254, main_v255, main_v256, main_v257, main_v258, main_v259, main_v260, main_v261, main_cst_24, main_v262, main_v263, main_cst_25, main_v264, main_v265, main_v266, main_v267, main_v268, main_v269, main_v270, main_v271, main_v272, main_cst_26, main_v273, main_v274, main_cst_27, main_v275, main_v276, main_v277, main_v278]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

end Cert.KernelIdeal.S5

end
-- ==== Proof.KFold.lean ====
/-
  Every buffer's contents at each boundary of the program: after each stretch of host operations and each kernel call.
-/
module

public import proofs.«01_k».proof.Proof.KRegion0
public import proofs.«01_k».proof.Proof.KRegion1c
public import proofs.«01_k».proof.Proof.KHosts

@[expose] public section

set_option maxRecDepth 16384

noncomputable section

namespace Cert.KernelIdeal.S5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- After `hostOps0_1`. -/
abbrev W2 : Dev nD → Valuation τ sig (Elt F) := fun c => StableHlo.after hostOps0_1 (W1 m ρ c)
/-- A reference `hostOps0_1` does not write keeps its contents across it. -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
/-- After `hostOps0_2`. -/
abbrev W3 : Dev nD → Valuation τ sig (Elt F) := fun c => StableHlo.after hostOps0_2 (W2 m ρ c)
/-- A reference `hostOps0_2` does not write keeps its contents across it. -/
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)
/-- After `hostOps0_3`. -/
abbrev W4 : Dev nD → Valuation τ sig (Elt F) := fun c => StableHlo.after hostOps0_3 (W3 m ρ c)
/-- A reference `hostOps0_3` does not write keeps its contents across it. -/
theorem W4_of (c : Dev nD) (r : Ref sig .tc) (h : r ∉ hostOps0_3_W) : W4 m ρ c (Proc.devRef .tc r) = W3 m ρ c (Proc.devRef .tc r) :=
  StableHlo.after_of_writes_sub hostOps0_3 _ hostOps0_3_writes h
theorem W4_args (c : Dev nD) : ∀ a ∈ argRefs, W4 m ρ c (Proc.devRef .tc a) = m ((c : Thread nD τ).loc a) :=
  fun a ha => (W4_of m ρ c a (hostOps0_3_args a ha)).trans (W3_args m ρ c a ha)
/-- After `hostOps0_4`. -/
abbrev W5 : Dev nD → Valuation τ sig (Elt F) := fun c => StableHlo.after hostOps0_4 (W4 m ρ c)
/-- A reference `hostOps0_4` does not write keeps its contents across it. -/
theorem W5_of (c : Dev nD) (r : Ref sig .tc) (h : r ∉ hostOps0_4_W) : W5 m ρ c (Proc.devRef .tc r) = W4 m ρ c (Proc.devRef .tc r) :=
  StableHlo.after_of_writes_sub hostOps0_4 _ hostOps0_4_writes h
theorem W5_args (c : Dev nD) : ∀ a ∈ argRefs, W5 m ρ c (Proc.devRef .tc a) = m ((c : Thread nD τ).loc a) :=
  fun a ha => (W5_of m ρ c a (hostOps0_4_args a ha)).trans (W4_args m ρ c a ha)
/-- After `hostOps0_5`. -/
abbrev W6 : Dev nD → Valuation τ sig (Elt F) := fun c => StableHlo.after hostOps0_5 (W5 m ρ c)
/-- A reference `hostOps0_5` does not write keeps its contents across it. -/
theorem W6_of (c : Dev nD) (r : Ref sig .tc) (h : r ∉ hostOps0_5_W) : W6 m ρ c (Proc.devRef .tc r) = W5 m ρ c (Proc.devRef .tc r) :=
  StableHlo.after_of_writes_sub hostOps0_5 _ hostOps0_5_writes h
theorem W6_args (c : Dev nD) : ∀ a ∈ argRefs, W6 m ρ c (Proc.devRef .tc a) = m ((c : Thread nD τ).loc a) :=
  fun a ha => (W6_of m ρ c a (hostOps0_5_args a ha)).trans (W5_args m ρ c a ha)
/-- After `hostOps0_6`. -/
abbrev W7 : Dev nD → Valuation τ sig (Elt F) := fun c => StableHlo.after hostOps0_6 (W6 m ρ c)
/-- A reference `hostOps0_6` does not write keeps its contents across it. -/
theorem W7_of (c : Dev nD) (r : Ref sig .tc) (h : r ∉ hostOps0_6_W) : W7 m ρ c (Proc.devRef .tc r) = W6 m ρ c (Proc.devRef .tc r) :=
  StableHlo.after_of_writes_sub hostOps0_6 _ hostOps0_6_writes h
theorem W7_args (c : Dev nD) : ∀ a ∈ argRefs, W7 m ρ c (Proc.devRef .tc a) = m ((c : Thread nD τ).loc a) :=
  fun a ha => (W7_of m ρ c a (hostOps0_6_args a ha)).trans (W6_args m ρ c a ha)
/-- After `hostOps0_7`. -/
abbrev W8 : Dev nD → Valuation τ sig (Elt F) := fun c => StableHlo.after hostOps0_7 (W7 m ρ c)
/-- A reference `hostOps0_7` does not write keeps its contents across it. -/
theorem W8_of (c : Dev nD) (r : Ref sig .tc) (h : r ∉ hostOps0_7_W) : W8 m ρ c (Proc.devRef .tc r) = W7 m ρ c (Proc.devRef .tc r) :=
  StableHlo.after_of_writes_sub hostOps0_7 _ hostOps0_7_writes h
theorem W8_args (c : Dev nD) : ∀ a ∈ argRefs, W8 m ρ c (Proc.devRef .tc a) = m ((c : Thread nD τ).loc a) :=
  fun a ha => (W8_of m ρ c a (hostOps0_7_args a ha)).trans (W7_args m ρ c a ha)
/-- After `hostOps0_8`. -/
abbrev W9 : Dev nD → Valuation τ sig (Elt F) := fun c => StableHlo.after hostOps0_8 (W8 m ρ c)
/-- A reference `hostOps0_8` does not write keeps its contents across it. -/
theorem W9_of (c : Dev nD) (r : Ref sig .tc) (h : r ∉ hostOps0_8_W) : W9 m ρ c (Proc.devRef .tc r) = W8 m ρ c (Proc.devRef .tc r) :=
  StableHlo.after_of_writes_sub hostOps0_8 _ hostOps0_8_writes h
theorem W9_args (c : Dev nD) : ∀ a ∈ argRefs, W9 m ρ c (Proc.devRef .tc a) = m ((c : Thread nD τ).loc a) :=
  fun a ha => (W9_of m ρ c a (hostOps0_8_args a ha)).trans (W8_args m ρ c a ha)
/-- After `hostOps0_9`. -/
abbrev W10 : Dev nD → Valuation τ sig (Elt F) := fun c => StableHlo.after hostOps0_9 (W9 m ρ c)
/-- A reference `hostOps0_9` does not write keeps its contents across it. -/
theorem W10_of (c : Dev nD) (r : Ref sig .tc) (h : r ∉ hostOps0_9_W) : W10 m ρ c (Proc.devRef .tc r) = W9 m ρ c (Proc.devRef .tc r) :=
  StableHlo.after_of_writes_sub hostOps0_9 _ hostOps0_9_writes h
theorem W10_args (c : Dev nD) : ∀ a ∈ argRefs, W10 m ρ c (Proc.devRef .tc a) = m ((c : Thread nD τ).loc a) :=
  fun a ha => (W10_of m ρ c a (hostOps0_9_args a ha)).trans (W9_args m ρ c a ha)
/-- After `hostOps0_10`. -/
abbrev W11 : Dev nD → Valuation τ sig (Elt F) := fun c => StableHlo.after hostOps0_10 (W10 m ρ c)
/-- A reference `hostOps0_10` does not write keeps its contents across it. -/
theorem W11_of (c : Dev nD) (r : Ref sig .tc) (h : r ∉ hostOps0_10_W) : W11 m ρ c (Proc.devRef .tc r) = W10 m ρ c (Proc.devRef .tc r) :=
  StableHlo.after_of_writes_sub hostOps0_10 _ hostOps0_10_writes h
theorem W11_args (c : Dev nD) : ∀ a ∈ argRefs, W11 m ρ c (Proc.devRef .tc a) = m ((c : Thread nD τ).loc a) :=
  fun a ha => (W11_of m ρ c a (hostOps0_10_args a ha)).trans (W10_args m ρ c a ha)
/-- After `hostOps0_11`. -/
abbrev W12 : Dev nD → Valuation τ sig (Elt F) := fun c => StableHlo.after hostOps0_11 (W11 m ρ c)
/-- A reference `hostOps0_11` does not write keeps its contents across it. -/
theorem W12_of (c : Dev nD) (r : Ref sig .tc) (h : r ∉ hostOps0_11_W) : W12 m ρ c (Proc.devRef .tc r) = W11 m ρ c (Proc.devRef .tc r) :=
  StableHlo.after_of_writes_sub hostOps0_11 _ hostOps0_11_writes h
theorem W12_args (c : Dev nD) : ∀ a ∈ argRefs, W12 m ρ c (Proc.devRef .tc a) = m ((c : Thread nD τ).loc a) :=
  fun a ha => (W12_of m ρ c a (hostOps0_11_args a ha)).trans (W11_args m ρ c a ha)
/-- After `hostOps0_12`. -/
abbrev W13 : Dev nD → Valuation τ sig (Elt F) := fun c => StableHlo.after hostOps0_12 (W12 m ρ c)
/-- A reference `hostOps0_12` does not write keeps its contents across it. -/
theorem W13_of (c : Dev nD) (r : Ref sig .tc) (h : r ∉ hostOps0_12_W) : W13 m ρ c (Proc.devRef .tc r) = W12 m ρ c (Proc.devRef .tc r) :=
  StableHlo.after_of_writes_sub hostOps0_12 _ hostOps0_12_writes h
theorem W13_args (c : Dev nD) : ∀ a ∈ argRefs, W13 m ρ c (Proc.devRef .tc a) = m ((c : Thread nD τ).loc a) :=
  fun a ha => (W13_of m ρ c a (hostOps0_12_args a ha)).trans (W12_args m ρ c a ha)
/-- After `hostOps0_13`. -/
abbrev W14 : Dev nD → Valuation τ sig (Elt F) := fun c => StableHlo.after hostOps0_13 (W13 m ρ c)
/-- A reference `hostOps0_13` does not write keeps its contents across it. -/
theorem W14_of (c : Dev nD) (r : Ref sig .tc) (h : r ∉ hostOps0_13_W) : W14 m ρ c (Proc.devRef .tc r) = W13 m ρ c (Proc.devRef .tc r) :=
  StableHlo.after_of_writes_sub hostOps0_13 _ hostOps0_13_writes h
theorem W14_args (c : Dev nD) : ∀ a ∈ argRefs, W14 m ρ c (Proc.devRef .tc a) = m ((c : Thread nD τ).loc a) :=
  fun a ha => (W14_of m ρ c a (hostOps0_13_args a ha)).trans (W13_args m ρ c a ha)
/-- After `hostOps0_14`. -/
abbrev W15 : Dev nD → Valuation τ sig (Elt F) := fun c => StableHlo.after hostOps0_14 (W14 m ρ c)
/-- A reference `hostOps0_14` does not write keeps its contents across it. -/
theorem W15_of (c : Dev nD) (r : Ref sig .tc) (h : r ∉ hostOps0_14_W) : W15 m ρ c (Proc.devRef .tc r) = W14 m ρ c (Proc.devRef .tc r) :=
  StableHlo.after_of_writes_sub hostOps0_14 _ hostOps0_14_writes h
theorem W15_args (c : Dev nD) : ∀ a ∈ argRefs, W15 m ρ c (Proc.devRef .tc a) = m ((c : Thread nD τ).loc a) :=
  fun a ha => (W15_of m ρ c a (hostOps0_14_args a ha)).trans (W14_args m ρ c a ha)
/-- After `hostOps0_15`. -/
abbrev W16 : Dev nD → Valuation τ sig (Elt F) := fun c => StableHlo.after hostOps0_15 (W15 m ρ c)
/-- A reference `hostOps0_15` does not write keeps its contents across it. -/
theorem W16_of (c : Dev nD) (r : Ref sig .tc) (h : r ∉ hostOps0_15_W) : W16 m ρ c (Proc.devRef .tc r) = W15 m ρ c (Proc.devRef .tc r) :=
  StableHlo.after_of_writes_sub hostOps0_15 _ hostOps0_15_writes h
theorem W16_args (c : Dev nD) : ∀ a ∈ argRefs, W16 m ρ c (Proc.devRef .tc a) = m ((c : Thread nD τ).loc a) :=
  fun a ha => (W16_of m ρ c a (hostOps0_15_args a ha)).trans (W15_args m ρ c a ha)
/-- After `hostOps0_16`. -/
abbrev W17 : Dev nD → Valuation τ sig (Elt F) := fun c => StableHlo.after hostOps0_16 (W16 m ρ c)
/-- A reference `hostOps0_16` does not write keeps its contents across it. -/
theorem W17_of (c : Dev nD) (r : Ref sig .tc) (h : r ∉ hostOps0_16_W) : W17 m ρ c (Proc.devRef .tc r) = W16 m ρ c (Proc.devRef .tc r) :=
  StableHlo.after_of_writes_sub hostOps0_16 _ hostOps0_16_writes h
theorem W17_args (c : Dev nD) : ∀ a ∈ argRefs, W17 m ρ c (Proc.devRef .tc a) = m ((c : Thread nD τ).loc a) :=
  fun a ha => (W17_of m ρ c a (hostOps0_16_args a ha)).trans (W16_args m ρ c a ha)
/-- After `hostOps0_17`. -/
abbrev W18 : Dev nD → Valuation τ sig (Elt F) := fun c => StableHlo.after hostOps0_17 (W17 m ρ c)
/-- A reference `hostOps0_17` does not write keeps its contents across it. -/
theorem W18_of (c : Dev nD) (r : Ref sig .tc) (h : r ∉ hostOps0_17_W) : W18 m ρ c (Proc.devRef .tc r) = W17 m ρ c (Proc.devRef .tc r) :=
  StableHlo.after_of_writes_sub hostOps0_17 _ hostOps0_17_writes h
theorem W18_args (c : Dev nD) : ∀ a ∈ argRefs, W18 m ρ c (Proc.devRef .tc a) = m ((c : Thread nD τ).loc a) :=
  fun a ha => (W18_of m ρ c a (hostOps0_17_args a ha)).trans (W17_args m ρ c a ha)
/-- After `hostOps0_18`. -/
abbrev W19 : Dev nD → Valuation τ sig (Elt F) := fun c => StableHlo.after hostOps0_18 (W18 m ρ c)
/-- A reference `hostOps0_18` does not write keeps its contents across it. -/
theorem W19_of (c : Dev nD) (r : Ref sig .tc) (h : r ∉ hostOps0_18_W) : W19 m ρ c (Proc.devRef .tc r) = W18 m ρ c (Proc.devRef .tc r) :=
  StableHlo.after_of_writes_sub hostOps0_18 _ hostOps0_18_writes h
theorem W19_args (c : Dev nD) : ∀ a ∈ argRefs, W19 m ρ c (Proc.devRef .tc a) = m ((c : Thread nD τ).loc a) :=
  fun a ha => (W19_of m ρ c a (hostOps0_18_args a ha)).trans (W18_args m ρ c a ha)
/-- After `hostOps0_19`. -/
abbrev W20 : Dev nD → Valuation τ sig (Elt F) := fun c => StableHlo.after hostOps0_19 (W19 m ρ c)
/-- A reference `hostOps0_19` does not write keeps its contents across it. -/
theorem W20_of (c : Dev nD) (r : Ref sig .tc) (h : r ∉ hostOps0_19_W) : W20 m ρ c (Proc.devRef .tc r) = W19 m ρ c (Proc.devRef .tc r) :=
  StableHlo.after_of_writes_sub hostOps0_19 _ hostOps0_19_writes h
theorem W20_args (c : Dev nD) : ∀ a ∈ argRefs, W20 m ρ c (Proc.devRef .tc a) = m ((c : Thread nD τ).loc a) :=
  fun a ha => (W20_of m ρ c a (hostOps0_19_args a ha)).trans (W19_args m ρ c a ha)
/-- After `hostOps0_20`. -/
abbrev W21 : Dev nD → Valuation τ sig (Elt F) := fun c => StableHlo.after hostOps0_20 (W20 m ρ c)
/-- A reference `hostOps0_20` does not write keeps its contents across it. -/
theorem W21_of (c : Dev nD) (r : Ref sig .tc) (h : r ∉ hostOps0_20_W) : W21 m ρ c (Proc.devRef .tc r) = W20 m ρ c (Proc.devRef .tc r) :=
  StableHlo.after_of_writes_sub hostOps0_20 _ hostOps0_20_writes h
theorem W21_args (c : Dev nD) : ∀ a ∈ argRefs, W21 m ρ c (Proc.devRef .tc a) = m ((c : Thread nD τ).loc a) :=
  fun a ha => (W21_of m ρ c a (hostOps0_20_args a ha)).trans (W20_args m ρ c a ha)
/-- After `hostOps0_21`. -/
abbrev W22 : Dev nD → Valuation τ sig (Elt F) := fun c => StableHlo.after hostOps0_21 (W21 m ρ c)
/-- A reference `hostOps0_21` does not write keeps its contents across it. -/
theorem W22_of (c : Dev nD) (r : Ref sig .tc) (h : r ∉ hostOps0_21_W) : W22 m ρ c (Proc.devRef .tc r) = W21 m ρ c (Proc.devRef .tc r) :=
  StableHlo.after_of_writes_sub hostOps0_21 _ hostOps0_21_writes h
theorem W22_args (c : Dev nD) : ∀ a ∈ argRefs, W22 m ρ c (Proc.devRef .tc a) = m ((c : Thread nD τ).loc a) :=
  fun a ha => (W22_of m ρ c a (hostOps0_21_args a ha)).trans (W21_args m ρ c a ha)
/-- After `hostOps0_22`. -/
abbrev W23 : Dev nD → Valuation τ sig (Elt F) := fun c => StableHlo.after hostOps0_22 (W22 m ρ c)
/-- A reference `hostOps0_22` does not write keeps its contents across it. -/
theorem W23_of (c : Dev nD) (r : Ref sig .tc) (h : r ∉ hostOps0_22_W) : W23 m ρ c (Proc.devRef .tc r) = W22 m ρ c (Proc.devRef .tc r) :=
  StableHlo.after_of_writes_sub hostOps0_22 _ hostOps0_22_writes h
theorem W23_args (c : Dev nD) : ∀ a ∈ argRefs, W23 m ρ c (Proc.devRef .tc a) = m ((c : Thread nD τ).loc a) :=
  fun a ha => (W23_of m ρ c a (hostOps0_22_args a ha)).trans (W22_args m ρ c a ha)
/-- After `hostOps0_23`. -/
abbrev W24 : Dev nD → Valuation τ sig (Elt F) := fun c => StableHlo.after hostOps0_23 (W23 m ρ c)
/-- A reference `hostOps0_23` does not write keeps its contents across it. -/
theorem W24_of (c : Dev nD) (r : Ref sig .tc) (h : r ∉ hostOps0_23_W) : W24 m ρ c (Proc.devRef .tc r) = W23 m ρ c (Proc.devRef .tc r) :=
  StableHlo.after_of_writes_sub hostOps0_23 _ hostOps0_23_writes h
theorem W24_args (c : Dev nD) : ∀ a ∈ argRefs, W24 m ρ c (Proc.devRef .tc a) = m ((c : Thread nD τ).loc a) :=
  fun a ha => (W24_of m ρ c a (hostOps0_23_args a ha)).trans (W23_args m ρ c a ha)
/-- After `hostOps0_24` (region 0's entry). -/
abbrev W25 : Dev nD → Valuation τ sig (Elt F) := fun c => StableHlo.after hostOps0_24 (W24 m ρ c)
/-- A reference `hostOps0_24` does not write keeps its contents across it. -/
theorem W25_of (c : Dev nD) (r : Ref sig .tc) (h : r ∉ hostOps0_24_W) : W25 m ρ c (Proc.devRef .tc r) = W24 m ρ c (Proc.devRef .tc r) :=
  StableHlo.after_of_writes_sub hostOps0_24 _ hostOps0_24_writes h
theorem W25_args (c : Dev nD) : ∀ a ∈ argRefs, W25 m ρ c (Proc.devRef .tc a) = m ((c : Thread nD τ).loc a) :=
  fun a ha => (W25_of m ρ c a (hostOps0_24_args a ha)).trans (W24_args m ρ c a ha)
/-- The same read at the TensorCore's references (what region 0's proof data take). -/
abbrev V25 : (c : Dev nD) → (b : Ref sig .tc) → Buf (Elt F) ((c : Thread nD τ).loc b) := fun c b => W25 m ρ c b
def W26 (c : Dev nD) : Valuation τ sig (Elt F) :=
  Pipeline.withArrays spec0 c (W25 m ρ c) fun w => (dat0 (V25 m ρ) c).arrAt w cfg0.N
theorem W26_arr (c : Dev nD) (w : Fin cfg0.W) :
    W26 m ρ c (Proc.devRef .tc (Pipeline.arrRef spec0 w)) = (dat0 (V25 m ρ) c).arrAt w cfg0.N := by
  unfold W26; exact Pipeline.withArrays_arr spec0 launch0.win.arr_inj c _ _ w
theorem W26_of_ne (c : Dev nD) (b : Ref sig .tc) (hb : ∀ w, Pipeline.arrRef spec0 w ≠ b) :
    W26 m ρ c (Proc.devRef .tc b) = W25 m ρ c (Proc.devRef .tc b) := by
  unfold W26; exact Pipeline.withArrays_of_ne spec0 c _ _ b hb
/-- A reference that is none of region 0's OUTPUT arrays keeps its entry contents across it: an input window's
    array is never written back (`Dat.arrAt_in`, `A_eq0`); any other buffer is left as is. -/
theorem W26_of (c : Dev nD) (r : Ref sig .tc) (h : ∀ w : Fin cfg0.W, Pipeline.arrRef spec0 w = r → (cfg0.win w).isOut = false) :
    W26 m ρ c (Proc.devRef .tc r) = W25 m ρ c (Proc.devRef .tc r) := by
  by_cases hw : ∃ w : Fin cfg0.W, Pipeline.arrRef spec0 w = r
  · obtain ⟨w, rfl⟩ := hw
    exact (W26_arr m ρ c w).trans (((dat0 (V25 m ρ) c).arrAt_in w (h w rfl) _).trans (A_eq0 (V25 m ρ) c w))
  · exact W26_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W26_args (c : Dev nD) : ∀ a ∈ argRefs, W26 m ρ c (Proc.devRef .tc a) = m ((c : Thread nD τ).loc a) :=
  fun a ha => (W26_of m ρ c a (argsIn0 a ha)).trans (W25_args m ρ c a ha)
/-- The same read at the TensorCore's references (region 0's exit contents). -/
abbrev V26 : (c : Dev nD) → (b : Ref sig .tc) → Buf (Elt F) ((c : Thread nD τ).loc b) := fun c b => W26 m ρ c b
theorem hF0 (c : Dev nD) (w : Fin cfg0.W) : (dat0 (V25 m ρ) c).arrAt w cfg0.N = V26 m ρ c (Pipeline.arrRef spec0 w) :=
  (W26_arr m ρ c w).symm
theorem hrest0 (c : Dev nD) : ∀ b, b ∉ Finset.univ.image (Pipeline.arrRef spec0) → V26 m ρ c b = V25 m ρ c b :=
  fun b hb => W26_of_ne m ρ c b fun w e => hb (Finset.mem_image.mpr ⟨w, Finset.mem_univ _, e⟩)

def W27 (c : Dev nD) : Valuation τ sig (Elt F) :=
  Pipeline.withArrays spec1 c (W26 m ρ c) fun w => (dat1 (V26 m ρ) c).arrAt w cfg1.N
theorem W27_arr (c : Dev nD) (w : Fin cfg1.W) :
    W27 m ρ c (Proc.devRef .tc (Pipeline.arrRef spec1 w)) = (dat1 (V26 m ρ) c).arrAt w cfg1.N := by
  unfold W27; exact Pipeline.withArrays_arr spec1 launch1.win.arr_inj c _ _ w
theorem W27_of_ne (c : Dev nD) (b : Ref sig .tc) (hb : ∀ w, Pipeline.arrRef spec1 w ≠ b) :
    W27 m ρ c (Proc.devRef .tc b) = W26 m ρ c (Proc.devRef .tc b) := by
  unfold W27; exact Pipeline.withArrays_of_ne spec1 c _ _ b hb
/-- A reference that is none of region 1's OUTPUT arrays keeps its entry contents across it: an input window's
    array is never written back (`Dat.arrAt_in`, `A_eq1`); any other buffer is left as is. -/
theorem W27_of (c : Dev nD) (r : Ref sig .tc) (h : ∀ w : Fin cfg1.W, Pipeline.arrRef spec1 w = r → (cfg1.win w).isOut = false) :
    W27 m ρ c (Proc.devRef .tc r) = W26 m ρ c (Proc.devRef .tc r) := by
  by_cases hw : ∃ w : Fin cfg1.W, Pipeline.arrRef spec1 w = r
  · obtain ⟨w, rfl⟩ := hw
    exact (W27_arr m ρ c w).trans (((dat1 (V26 m ρ) c).arrAt_in w (h w rfl) _).trans (A_eq1 (V26 m ρ) c w))
  · exact W27_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W27_args (c : Dev nD) : ∀ a ∈ argRefs, W27 m ρ c (Proc.devRef .tc a) = m ((c : Thread nD τ).loc a) :=
  fun a ha => (W27_of m ρ c a (argsIn1 a ha)).trans (W26_args m ρ c a ha)
/-- The same read at the TensorCore's references (region 1's exit contents). -/
abbrev V27 : (c : Dev nD) → (b : Ref sig .tc) → Buf (Elt F) ((c : Thread nD τ).loc b) := fun c b => W27 m ρ c b
theorem hF1 (c : Dev nD) (w : Fin cfg1.W) : (dat1 (V26 m ρ) c).arrAt w cfg1.N = V27 m ρ c (Pipeline.arrRef spec1 w) :=
  (W27_arr m ρ c w).symm
theorem hrest1 (c : Dev nD) : ∀ b, b ∉ Finset.univ.image (Pipeline.arrRef spec1) → V27 m ρ c b = V26 m ρ c b :=
  fun b hb => W27_of_ne m ρ c b fun w e => hb (Finset.mem_image.mpr ⟨w, Finset.mem_univ _, e⟩)

/-- After `hostOps2`. -/
abbrev W28 : Dev nD → Valuation τ sig (Elt F) := fun c => StableHlo.after hostOps2 (W27 m ρ c)
/-- A reference `hostOps2` does not write keeps its contents across it. -/
theorem W28_of (c : Dev nD) (r : Ref sig .tc) (h : r ∉ hostOps2_W) : W28 m ρ c (Proc.devRef .tc r) = W27 m ρ c (Proc.devRef .tc r) :=
  StableHlo.after_of_writes_sub hostOps2 _ hostOps2_writes h
theorem W28_args (c : Dev nD) : ∀ a ∈ argRefs, W28 m ρ c (Proc.devRef .tc a) = m ((c : Thread nD τ).loc a) :=
  fun a ha => (W28_of m ρ c a (hostOps2_args a ha)).trans (W27_args m ρ c a ha)

/-! ### The arguments end as launched: no host stretch writes one and no region may change one (a region reads it
    through an input window or bypasses it) -/

theorem W28_main_arg0 (c : Dev nD) : W28 m ρ c (Proc.devRef .tc main_arg0) = m ((c : Thread nD τ).loc main_arg0) :=
  W28_args m ρ c main_arg0 (by decide)
theorem W28_main_arg1 (c : Dev nD) : W28 m ρ c (Proc.devRef .tc main_arg1) = m ((c : Thread nD τ).loc main_arg1) :=
  W28_args m ρ c main_arg1 (by decide)
theorem W28_main_arg2 (c : Dev nD) : W28 m ρ c (Proc.devRef .tc main_arg2) = m ((c : Thread nD τ).loc main_arg2) :=
  W28_args m ρ c main_arg2 (by decide)
theorem W28_main_arg3 (c : Dev nD) : W28 m ρ c (Proc.devRef .tc main_arg3) = m ((c : Thread nD τ).loc main_arg3) :=
  W28_args m ρ c main_arg3 (by decide)
theorem W28_main_arg4 (c : Dev nD) : W28 m ρ c (Proc.devRef .tc main_arg4) = m ((c : Thread nD τ).loc main_arg4) :=
  W28_args m ρ c main_arg4 (by decide)
theorem W28_main_arg5 (c : Dev nD) : W28 m ρ c (Proc.devRef .tc main_arg5) = m ((c : Thread nD τ).loc main_arg5) :=
  W28_args m ρ c main_arg5 (by decide)
theorem W28_main_arg6 (c : Dev nD) : W28 m ρ c (Proc.devRef .tc main_arg6) = m ((c : Thread nD τ).loc main_arg6) :=
  W28_args m ρ c main_arg6 (by decide)
theorem W28_main_arg7 (c : Dev nD) : W28 m ρ c (Proc.devRef .tc main_arg7) = m ((c : Thread nD τ).loc main_arg7) :=
  W28_args m ρ c main_arg7 (by decide)
theorem W28_main_arg8 (c : Dev nD) : W28 m ρ c (Proc.devRef .tc main_arg8) = m ((c : Thread nD τ).loc main_arg8) :=
  W28_args m ρ c main_arg8 (by decide)
end Cert.KernelIdeal.S5

end
-- ==== Proof.KState.lean ====
/-
  The state held between the program's parts.
-/
module

public import proofs.«01_k».proof.Proof.KFold

@[expose] public section

set_option maxRecDepth 16384

noncomputable section

namespace Cert.KernelIdeal.S5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V25 m ρ) c
  | ⟨1, _⟩ => fun c => dat1 (V26 m ρ) c
abbrev 𝒱₀ : Variants := Variants.none
/-- No core owes another anything: no level is assigned. -/
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W28 m ρ c) ∗ ∃ r, prngReg c r)

end Cert.KernelIdeal.S5

end
-- ==== Proof.KRecord0.lean ====
/-
  The first kernel call as one part of the run.
-/
module

public import proofs.«01_k».proof.Proof.KState

@[expose] public section

set_option maxRecDepth 16384

noncomputable section

namespace Cert.KernelIdeal.S5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V25 m ρ) c).loose
  hwaits := Pipeline.hwaits_of_owed_zero _ _ _ _ L lv 0 fun _ _ => rfl
  pre c := iprop(StableHlo.held (c : Thread nD τ) (Pipeline.ucRefs τ sig) (W25 m ρ c) ∗ R c)
  post c := iprop(StableHlo.held (c : Thread nD τ) (Pipeline.ucRefs τ sig) (W26 m ρ c) ∗ R c)
  X c := iprop(∃ r, prngReg c r)
  Y c := iprop(∃ r, prngReg c r)
  Z c := Pipeline.unscopedRest (Ix := Unit) (Name := ℕ) (U := UR sig nD τ) (Lvl := ℕ) spec0 c (V25 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V25 m ρ c) (A_eq0 (V25 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V25 m ρ c) (V26 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.S5

end
-- ==== Proof.KRecord1.lean ====
/-
  The second kernel call as one part of the run.
-/
module

public import proofs.«01_k».proof.Proof.KState

@[expose] public section

set_option maxRecDepth 16384

noncomputable section

namespace Cert.KernelIdeal.S5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V26 m ρ) c).loose
  hwaits := Pipeline.hwaits_of_owed_zero _ _ _ _ L lv 1 fun _ _ => rfl
  pre c := iprop(StableHlo.held (c : Thread nD τ) (Pipeline.ucRefs τ sig) (W26 m ρ c) ∗ R c)
  post c := iprop(StableHlo.held (c : Thread nD τ) (Pipeline.ucRefs τ sig) (W27 m ρ c) ∗ R c)
  X c := iprop(∃ r, prngReg c r)
  Y c := iprop(∃ r, prngReg c r)
  Z c := Pipeline.unscopedRest (Ix := Unit) (Name := ℕ) (U := UR sig nD τ) (Lvl := ℕ) spec1 c (V26 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V26 m ρ c) (A_eq1 (V26 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V26 m ρ c) (V27 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.S5

end
-- ==== Proof.KFrame.lean ====
/-
  The run of the whole program: every execution ends with every array at the last boundary's contents.
-/
module

public import proofs.«01_k».proof.Proof.KRecord0
public import proofs.«01_k».proof.Proof.KRecord1

@[expose] public section

set_option maxRecDepth 16384

noncomputable section

namespace Cert.KernelIdeal.S5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 28 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .host (hseg hostOps0_8 hostOps0_8_sub hostOps0_8_fresh (W8 m ρ)),
    .host (hseg hostOps0_9 hostOps0_9_sub hostOps0_9_fresh (W9 m ρ)),
    .host (hseg hostOps0_10 hostOps0_10_sub hostOps0_10_fresh (W10 m ρ)),
    .host (hseg hostOps0_11 hostOps0_11_sub hostOps0_11_fresh (W11 m ρ)),
    .host (hseg hostOps0_12 hostOps0_12_sub hostOps0_12_fresh (W12 m ρ)),
    .host (hseg hostOps0_13 hostOps0_13_sub hostOps0_13_fresh (W13 m ρ)),
    .host (hseg hostOps0_14 hostOps0_14_sub hostOps0_14_fresh (W14 m ρ)),
    .host (hseg hostOps0_15 hostOps0_15_sub hostOps0_15_fresh (W15 m ρ)),
    .host (hseg hostOps0_16 hostOps0_16_sub hostOps0_16_fresh (W16 m ρ)),
    .host (hseg hostOps0_17 hostOps0_17_sub hostOps0_17_fresh (W17 m ρ)),
    .host (hseg hostOps0_18 hostOps0_18_sub hostOps0_18_fresh (W18 m ρ)),
    .host (hseg hostOps0_19 hostOps0_19_sub hostOps0_19_fresh (W19 m ρ)),
    .host (hseg hostOps0_20 hostOps0_20_sub hostOps0_20_fresh (W20 m ρ)),
    .host (hseg hostOps0_21 hostOps0_21_sub hostOps0_21_fresh (W21 m ρ)),
    .host (hseg hostOps0_22 hostOps0_22_sub hostOps0_22_fresh (W22 m ρ)),
    .host (hseg hostOps0_23 hostOps0_23_sub hostOps0_23_fresh (W23 m ρ)),
    .host (hseg hostOps0_24 hostOps0_24_sub hostOps0_24_fresh (W24 m ρ)),
    .region (reg0 m ρ),
    .region (reg1 m ρ),
    .host (hseg hostOps2 hostOps2_sub hostOps2_fresh (W27 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- Every execution ends, every array ends at the last boundary's contents, and every counter ends at zero. -/
theorem run_all : θ_run defs (onTc (τ := τ) (main (F := F))) ⟨m, fun _ => 0, ρ⟩ (fun r =>
      (∀ c : Dev nD, ∀ b ∈ Pipeline.ucRefs τ sig, r.2.mem ((c : Dev nD), b) = W28 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W28 m ρ c b)
    (hfin := fun c s' => by
      iintro ⟨⟨Hh, -⟩, HSI⟩
      unfold StableHlo.held
      imodintro
      iapply (pointsTo_read_all (Pipeline.ucRefs τ sig) (fun b => (((c : Thread nD τ)).1, b)) (W28 m ρ c) s')
      isplitl [Hh] <;> iassumption)
    (hQ := fun s h hz => ⟨h, funext fun g => hz g (.inr (no_unscoped g.2))⟩)

/-- The argument arrays end unchanged and the counters end at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r ⟨h, hz⟩ => ⟨fun c =>
      ⟨(h c _ (mem_uc main_arg0 (by decide))).trans (W28_main_arg0 m ρ c),
       (h c _ (mem_uc main_arg1 (by decide))).trans (W28_main_arg1 m ρ c),
       (h c _ (mem_uc main_arg2 (by decide))).trans (W28_main_arg2 m ρ c),
       (h c _ (mem_uc main_arg3 (by decide))).trans (W28_main_arg3 m ρ c),
       (h c _ (mem_uc main_arg4 (by decide))).trans (W28_main_arg4 m ρ c),
       (h c _ (mem_uc main_arg5 (by decide))).trans (W28_main_arg5 m ρ c),
       (h c _ (mem_uc main_arg6 (by decide))).trans (W28_main_arg6 m ρ c),
       (h c _ (mem_uc main_arg7 (by decide))).trans (W28_main_arg7 m ρ c),
       (h c _ (mem_uc main_arg8 (by decide))).trans (W28_main_arg8 m ρ c)⟩, hz⟩) (run_all m ρ)

end Cert.KernelIdeal.S5

end
-- ==== Proof.RefOps.lean ====
/-
  The reference program's host operations as lists: the operations before its forward loop, one trip of that loop, the
  operations between the two loops, one trip of the backward loop, and the operations after it. `main_chain` and the two
  `…_body_chain` equations say that the program is exactly these lists in order.
-/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead

@[expose] public section

noncomputable section

namespace Cert.RefRun

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-- What a buffer of shape `S` and element type `e` holds. -/
abbrev Ct (F : FTy → Type) (S : Shape) (e : EltTy) := (⟨S, e⟩ : BufTy).Contents (Elt F)
/-- The type of the reference's host programs. -/
abbrev HostProg (F : FTy → Type) [FloatOps F] := Prog (TpuEff nD τ sig (Elt F) (HostLoop.Sig (Pipeline.Sig Λ₀ (Fin 0) fun p => (pcfgs (F := F) p).Adm) 2) .tc) PUnit

/-- The operations before the forward loop. -/
abbrev preOps : List (HloOp τ sig (Elt F)) :=
  ( StableHlo.unary main_arg1 main_v0 ((extractStridedSlice S4096x512 ![0, 0] · slices_S4096x4608_S4096x512_0_0) : Ct F S4096x4608 .f32 → Ct F S4096x512 .f32)
  :: StableHlo.reshape main_v0 main_v1 (rfl : (.f32 : EltTy) = .f32) shapeCasts_S4096x512_S2x2048x512
  :: StableHlo.reshape main_v1 main_v2 (rfl : (.f32 : EltTy) = .f32) shapeCasts_S2x2048x512_S2x2048x32x16
  :: StableHlo.binary main_arg4 main_v2 main_v3 ((fun l r => Host.dotGeneral dot_S32x64x16_S2x2048x32x16_S32x64x2x2048_2_3_1_01_0_2 none l r) : Ct F S32x64x16 .f32 → Ct F S2x2048x32x16 .f32 → Ct F S32x64x2x2048 .f32)
  :: StableHlo.unary main_v3 main_v4 ((transpose S2x2048x32x64 [2, 3, 0, 1] · transposes_S32x64x2x2048_S2x2048x32x64_2_3_0_1) : Ct F S32x64x2x2048 .f32 → Ct F S2x2048x32x64 .f32)
  :: StableHlo.binary main_arg5 main_v2 main_v5 ((fun l r => Host.dotGeneral dot_S32x64x16_S2x2048x32x16_S32x64x2x2048_2_3_1_01_0_2 none l r) : Ct F S32x64x16 .f32 → Ct F S2x2048x32x16 .f32 → Ct F S32x64x2x2048 .f32)
  :: StableHlo.unary main_v5 main_v6 ((transpose S2x2048x32x64 [2, 3, 0, 1] · transposes_S32x64x2x2048_S2x2048x32x64_2_3_0_1) : Ct F S32x64x2x2048 .f32 → Ct F S2x2048x32x64 .f32)
  :: StableHlo.nullary main_cst (constant S_ .f32 0x00000000#32)
  :: StableHlo.unary main_cst main_v7 (broadcastInDim S2x32x64 ![] bcast_S_S2x32x64 : Ct F S_ .f32 → Ct F S2x32x64 .f32)
  :: StableHlo.unary main_v4 main_v8 ((transpose S2048x2x32x64 [1, 0, 2, 3] · transposes_S2x2048x32x64_S2048x2x32x64_1_0_2_3) : Ct F S2x2048x32x64 .f32 → Ct F S2048x2x32x64 .f32)
  :: StableHlo.unary main_v6 main_v9 ((transpose S2048x2x32x64 [1, 0, 2, 3] · transposes_S2x2048x32x64_S2048x2x32x64_1_0_2_3) : Ct F S2x2048x32x64 .f32 → Ct F S2048x2x32x64 .f32)
  :: StableHlo.unary main_arg2 main_v10 (broadcastInDim S1x32x64 ![1, 2] bcast_S32x64_S1x32x64_1_2 : Ct F S32x64 .f32 → Ct F S1x32x64 .f32)
  :: StableHlo.unary main_arg3 main_v11 (broadcastInDim S1x32x64 ![1, 2] bcast_S32x64_S1x32x64_1_2 : Ct F S32x64 .f32 → Ct F S1x32x64 .f32)
  :: StableHlo.unary main_arg2 main_v12 (broadcastInDim S1x32x64 ![1, 2] bcast_S32x64_S1x32x64_1_2 : Ct F S32x64 .f32 → Ct F S1x32x64 .f32)
  :: StableHlo.unary main_arg3 main_v13 (broadcastInDim S1x32x64 ![1, 2] bcast_S32x64_S1x32x64_1_2 : Ct F S32x64 .f32 → Ct F S1x32x64 .f32)
  :: StableHlo.nullary main_cst_0 (constant S_ .f32 0x00000000#32)
  :: StableHlo.unary main_cst_0 main_v14 (broadcastInDim S2048x2x32x64 ![] bcast_S_S2048x2x32x64 : Ct F S_ .f32 → Ct F S2048x2x32x64 .f32)
  :: StableHlo.nullary main_cst_1 (constant S_ .f32 0x00000000#32)
  :: StableHlo.unary main_cst_1 main_v15 (broadcastInDim S2048x2x32x64 ![] bcast_S_S2048x2x32x64 : Ct F S_ .f32 → Ct F S2048x2x32x64 .f32)
  :: StableHlo.nullary main_cst_2 (constant S_ .f32 0x00000000#32)
  :: StableHlo.unary main_cst_2 main_v16 (broadcastInDim S2048x2x32x64 ![] bcast_S_S2048x2x32x64 : Ct F S_ .f32 → Ct F S2048x2x32x64 .f32)
  :: StableHlo.nullary main_cst_3 (constant S_ .f32 0x00000000#32)
  :: StableHlo.unary main_cst_3 main_v17 (broadcastInDim S2048x2x32x64 ![] bcast_S_S2048x2x32x64 : Ct F S_ .f32 → Ct F S2048x2x32x64 .f32)
  :: StableHlo.nullary main_c (constantI S_ 32 0#32)
  :: StableHlo.unary main_v8 main_v18_0 id
  :: StableHlo.unary main_v9 main_v18_1 id
  :: StableHlo.unary main_v10 main_v18_2 id
  :: StableHlo.unary main_v11 main_v18_3 id
  :: StableHlo.unary main_v12 main_v18_4 id
  :: StableHlo.unary main_v13 main_v18_5 id
  :: StableHlo.unary main_c main_v18_6 id
  :: StableHlo.unary main_v7 main_v18_7 id
  :: StableHlo.unary main_v7 main_v18_8 id
  :: StableHlo.unary main_v14 main_v18_9 id
  :: StableHlo.unary main_v15 main_v18_10 id
  :: StableHlo.unary main_v16 main_v18_11 id
  :: StableHlo.unary main_v17 main_v18_12 id
  :: [] )
theorem preOps_sub : (preOps : List (HloOp τ sig (Elt F))).Forall fun op => op.bufs ⊆ StableHlo.tcRefs τ sig :=
  ⟨StableHlo.unary_bufs_sub .., StableHlo.reshape_bufs_sub .., StableHlo.reshape_bufs_sub .., StableHlo.binary_bufs_sub .., StableHlo.unary_bufs_sub .., StableHlo.binary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
theorem preOps_fresh : (preOps : List (HloOp τ sig (Elt F))).Forall fun op => op.fresh = ∅ :=
  StableHlo.forall_fresh_of_map rfl
/-- What `preOps` writes. -/
abbrev preOps_W : List (Ref sig .tc) := [main_v0, main_v1, main_v2, main_v3, main_v4, main_v5, main_v6, main_cst, main_v7, main_v8, main_v9, main_v10, main_v11, main_v12, main_v13, main_cst_0, main_v14, main_cst_1, main_v15, main_cst_2, main_v16, main_cst_3, main_v17, main_c, main_v18_0, main_v18_1, main_v18_2, main_v18_3, main_v18_4, main_v18_5, main_v18_6, main_v18_7, main_v18_8, main_v18_9, main_v18_10, main_v18_11, main_v18_12]
theorem preOps_writes : (preOps : List (HloOp τ sig (Elt F))).Forall fun op => op.writes ⊆ (preOps_W.map (Proc.devRef (τ := τ) .tc)).toFinset :=
  StableHlo.forall_writes_sub_of_map rfl

/-- The operations between the two loops, first part. -/
abbrev midOps : List (HloOp τ sig (Elt F)) :=
  [ StableHlo.binary main_arg6 main_v18_9 main_v19 ((fun l r => Host.dotGeneral dot_S32x16x64_S2048x2x32x64_S32x16x2048x2_2_3_1_01_0_2 none l r) : Ct F S32x16x64 .f32 → Ct F S2048x2x32x64 .f32 → Ct F S32x16x2048x2 .f32),
    StableHlo.unary main_v19 main_v20 ((transpose S2x2048x32x16 [3, 2, 0, 1] · transposes_S32x16x2048x2_S2x2048x32x16_3_2_0_1) : Ct F S32x16x2048x2 .f32 → Ct F S2x2048x32x16 .f32),
    StableHlo.binary main_arg7 main_v18_10 main_v21 ((fun l r => Host.dotGeneral dot_S32x16x64_S2048x2x32x64_S32x16x2048x2_2_3_1_01_0_2 none l r) : Ct F S32x16x64 .f32 → Ct F S2048x2x32x64 .f32 → Ct F S32x16x2048x2 .f32),
    StableHlo.unary main_v21 main_v22 ((transpose S2x2048x32x16 [3, 2, 0, 1] · transposes_S32x16x2048x2_S2x2048x32x16_3_2_0_1) : Ct F S32x16x2048x2 .f32 → Ct F S2x2048x32x16 .f32),
    StableHlo.binary main_v20 main_v22 main_v23 (subf : Ct F S2x2048x32x16 .f32 → Ct F S2x2048x32x16 .f32 → Ct F S2x2048x32x16 .f32),
    StableHlo.reshape main_arg8 main_v24 (rfl : (.f32 : EltTy) = .f32) shapeCasts_S1x512_S32x16,
    StableHlo.unary main_v24 main_v25 (broadcastInDim S1x1x32x16 ![2, 3] bcast_S32x16_S1x1x32x16_2_3 : Ct F S32x16 .f32 → Ct F S1x1x32x16 .f32),
    StableHlo.unary main_v25 main_v26 (broadcastInDim S2x2048x32x16 ![0, 1, 2, 3] bcast_S1x1x32x16_S2x2048x32x16_0_1_2_3 : Ct F S1x1x32x16 .f32 → Ct F S2x2048x32x16 .f32),
    StableHlo.binary main_v26 main_v2 main_v27 (mulf : Ct F S2x2048x32x16 .f32 → Ct F S2x2048x32x16 .f32 → Ct F S2x2048x32x16 .f32),
    StableHlo.binary main_v23 main_v27 main_v28 (addf : Ct F S2x2048x32x16 .f32 → Ct F S2x2048x32x16 .f32 → Ct F S2x2048x32x16 .f32),
    StableHlo.reshape main_v28 main_v29 (rfl : (.f32 : EltTy) = .f32) shapeCasts_S2x2048x32x16_S2x2048x512,
    StableHlo.reshape main_arg0 main_v30 (rfl : (.f32 : EltTy) = .f32) shapeCasts_S4096x512_S2x2048x512,
    StableHlo.nullary main_cst_4 (constant S_ .f32 0x00000000#32),
    StableHlo.unary main_cst_4 main_v31 (broadcastInDim S2x32x64 ![] bcast_S_S2x32x64 : Ct F S_ .f32 → Ct F S2x32x64 .f32),
    StableHlo.nullary main_cst_5 (constant S_ .f32 0x00000000#32),
    StableHlo.unary main_cst_5 main_v32 (broadcastInDim S2x32x64 ![] bcast_S_S2x32x64 : Ct F S_ .f32 → Ct F S2x32x64 .f32),
    StableHlo.reshape main_v30 main_v33 (rfl : (.f32 : EltTy) = .f32) shapeCasts_S2x2048x512_S2x2048x32x16,
    StableHlo.unary main_v25 main_v34 (broadcastInDim S2x2048x32x16 ![0, 1, 2, 3] bcast_S1x1x32x16_S2x2048x32x16_0_1_2_3 : Ct F S1x1x32x16 .f32 → Ct F S2x2048x32x16 .f32),
    StableHlo.binary main_v34 main_v33 main_v35 (mulf : Ct F S2x2048x32x16 .f32 → Ct F S2x2048x32x16 .f32 → Ct F S2x2048x32x16 .f32),
    StableHlo.binary main_v33 main_v2 main_v36 (mulf : Ct F S2x2048x32x16 .f32 → Ct F S2x2048x32x16 .f32 → Ct F S2x2048x32x16 .f32),
    StableHlo.nullary main_cst_6 (constant S_ .f32 0x00000000#32),
    StableHlo.binary main_v36 main_cst_6 main_v37 ((fun x v => Host.reduceAdd x v reducesTo_S2x2048x32x16_S32x16_d0_1 h_S_) : Ct F S2x2048x32x16 .f32 → Ct F S_ .f32 → Ct F S32x16 .f32) ]
theorem midOps_sub : (midOps : List (HloOp τ sig (Elt F))).Forall fun op => op.bufs ⊆ StableHlo.tcRefs τ sig :=
  ⟨StableHlo.binary_bufs_sub .., StableHlo.unary_bufs_sub .., StableHlo.binary_bufs_sub .., StableHlo.unary_bufs_sub .., StableHlo.binary_bufs_sub .., StableHlo.reshape_bufs_sub .., StableHlo.unary_bufs_sub .., StableHlo.unary_bufs_sub .., StableHlo.binary_bufs_sub .., StableHlo.binary_bufs_sub .., StableHlo.reshape_bufs_sub .., StableHlo.reshape_bufs_sub .., StableHlo.nullary_bufs_sub .., StableHlo.unary_bufs_sub .., StableHlo.nullary_bufs_sub .., StableHlo.unary_bufs_sub .., StableHlo.reshape_bufs_sub .., StableHlo.unary_bufs_sub .., StableHlo.binary_bufs_sub .., StableHlo.binary_bufs_sub .., StableHlo.nullary_bufs_sub .., StableHlo.binary_bufs_sub ..⟩
theorem midOps_fresh : (midOps : List (HloOp τ sig (Elt F))).Forall fun op => op.fresh = ∅ :=
  StableHlo.forall_fresh_of_map rfl
/-- What `midOps` writes. -/
abbrev midOps_W : List (Ref sig .tc) := [main_v19, main_v20, main_v21, main_v22, main_v23, main_v24, main_v25, main_v26, main_v27, main_v28, main_v29, main_v30, main_cst_4, main_v31, main_cst_5, main_v32, main_v33, main_v34, main_v35, main_v36, main_cst_6, main_v37]
theorem midOps_writes : (midOps : List (HloOp τ sig (Elt F))).Forall fun op => op.writes ⊆ (midOps_W.map (Proc.devRef (τ := τ) .tc)).toFinset :=
  StableHlo.forall_writes_sub_of_map rfl

/-- The operations between the two loops, second part. -/
abbrev midOps2 : List (HloOp τ sig (Elt F)) :=
  ( StableHlo.reshape main_v37 main_v38 (rfl : (.f32 : EltTy) = .f32) shapeCasts_S32x16_S1x1x32x16
  :: StableHlo.nullary main_cst_7 (constant S_ .f32 0x00000000#32)
  :: StableHlo.binary main_v38 main_cst_7 main_v39 ((fun x v => Host.reduceAdd x v reducesTo_S1x1x32x16_S32x16_d0_1 h_S_) : Ct F S1x1x32x16 .f32 → Ct F S_ .f32 → Ct F S32x16 .f32)
  :: StableHlo.reshape main_v39 main_v40 (rfl : (.f32 : EltTy) = .f32) shapeCasts_S32x16_S1x512
  :: StableHlo.unary main_v33 main_v41 (Host.negf : Ct F S2x2048x32x16 .f32 → Ct F S2x2048x32x16 .f32)
  :: StableHlo.unary main_v41 main_v42 ((transpose S32x16x2048x2 [2, 3, 1, 0] · transposes_S2x2048x32x16_S32x16x2048x2_2_3_1_0) : Ct F S2x2048x32x16 .f32 → Ct F S32x16x2048x2 .f32)
  :: StableHlo.binary main_v42 main_arg7 main_v43 ((fun l r => Host.dotGeneral dot_S32x16x2048x2_S32x16x64_S32x2048x2x64_1_1_23_2_0_0 none l r) : Ct F S32x16x2048x2 .f32 → Ct F S32x16x64 .f32 → Ct F S32x2048x2x64 .f32)
  :: StableHlo.unary main_v43 main_v44 ((transpose S2048x2x32x64 [1, 2, 0, 3] · transposes_S32x2048x2x64_S2048x2x32x64_1_2_0_3) : Ct F S32x2048x2x64 .f32 → Ct F S2048x2x32x64 .f32)
  :: StableHlo.binary main_v42 main_v18_10 main_v45 ((fun l r => Host.dotGeneral dot_S32x16x2048x2_S2048x2x32x64_S32x16x64_23_01_1_3_0_2 none l r) : Ct F S32x16x2048x2 .f32 → Ct F S2048x2x32x64 .f32 → Ct F S32x16x64 .f32)
  :: StableHlo.unary main_v33 main_v46 ((transpose S32x16x2048x2 [2, 3, 1, 0] · transposes_S2x2048x32x16_S32x16x2048x2_2_3_1_0) : Ct F S2x2048x32x16 .f32 → Ct F S32x16x2048x2 .f32)
  :: StableHlo.binary main_v46 main_arg6 main_v47 ((fun l r => Host.dotGeneral dot_S32x16x2048x2_S32x16x64_S32x2048x2x64_1_1_23_2_0_0 none l r) : Ct F S32x16x2048x2 .f32 → Ct F S32x16x64 .f32 → Ct F S32x2048x2x64 .f32)
  :: StableHlo.unary main_v47 main_v48 ((transpose S2048x2x32x64 [1, 2, 0, 3] · transposes_S32x2048x2x64_S2048x2x32x64_1_2_0_3) : Ct F S32x2048x2x64 .f32 → Ct F S2048x2x32x64 .f32)
  :: StableHlo.binary main_v46 main_v18_9 main_v49 ((fun l r => Host.dotGeneral dot_S32x16x2048x2_S2048x2x32x64_S32x16x64_23_01_1_3_0_2 none l r) : Ct F S32x16x2048x2 .f32 → Ct F S2048x2x32x64 .f32 → Ct F S32x16x64 .f32)
  :: StableHlo.nullary main_cst_8 (constant S_ .f32 0x00000000#32)
  :: StableHlo.unary main_cst_8 main_v50 (broadcastInDim S2x32x64 ![] bcast_S_S2x32x64 : Ct F S_ .f32 → Ct F S2x32x64 .f32)
  :: StableHlo.nullary main_cst_9 (constant S_ .f32 0x00000000#32)
  :: StableHlo.unary main_cst_9 main_v51 (broadcastInDim S2x32x64 ![] bcast_S_S2x32x64 : Ct F S_ .f32 → Ct F S2x32x64 .f32)
  :: StableHlo.nullary main_cst_10 (constant S_ .f32 0x00000000#32)
  :: StableHlo.unary main_cst_10 main_v52 (broadcastInDim S32x64 ![] bcast_S_S32x64 : Ct F S_ .f32 → Ct F S32x64 .f32)
  :: StableHlo.nullary main_cst_11 (constant S_ .f32 0x00000000#32)
  :: StableHlo.unary main_cst_11 main_v53 (broadcastInDim S32x64 ![] bcast_S_S32x64 : Ct F S_ .f32 → Ct F S32x64 .f32)
  :: StableHlo.nullary main_cst_12 (constant S_ .f32 0x00000000#32)
  :: StableHlo.unary main_cst_12 main_v54 (broadcastInDim S2048x2x32x64 ![] bcast_S_S2048x2x32x64 : Ct F S_ .f32 → Ct F S2048x2x32x64 .f32)
  :: StableHlo.nullary main_cst_13 (constant S_ .f32 0x00000000#32)
  :: StableHlo.unary main_cst_13 main_v55 (broadcastInDim S2048x2x32x64 ![] bcast_S_S2048x2x32x64 : Ct F S_ .f32 → Ct F S2048x2x32x64 .f32)
  :: StableHlo.nullary main_c_14 (constantI S_ 32 0#32)
  :: StableHlo.unary main_v48 main_v56_0 id
  :: StableHlo.unary main_v44 main_v56_1 id
  :: StableHlo.unary main_v18_11 main_v56_2 id
  :: StableHlo.unary main_v18_12 main_v56_3 id
  :: StableHlo.unary main_v10 main_v56_4 id
  :: StableHlo.unary main_v11 main_v56_5 id
  :: StableHlo.unary main_v12 main_v56_6 id
  :: StableHlo.unary main_v13 main_v56_7 id
  :: StableHlo.unary main_c_14 main_v56_8 id
  :: StableHlo.unary main_v52 main_v56_9 id
  :: StableHlo.unary main_v53 main_v56_10 id
  :: StableHlo.unary main_v50 main_v56_11 id
  :: StableHlo.unary main_v51 main_v56_12 id
  :: StableHlo.unary main_v54 main_v56_13 id
  :: StableHlo.unary main_v55 main_v56_14 id
  :: [] )
theorem midOps2_sub : (midOps2 : List (HloOp τ sig (Elt F))).Forall fun op => op.bufs ⊆ StableHlo.tcRefs τ sig :=
  ⟨StableHlo.reshape_bufs_sub .., StableHlo.nullary_bufs_sub .., StableHlo.binary_bufs_sub .., StableHlo.reshape_bufs_sub .., StableHlo.unary_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
theorem midOps2_fresh : (midOps2 : List (HloOp τ sig (Elt F))).Forall fun op => op.fresh = ∅ :=
  StableHlo.forall_fresh_of_map rfl
/-- What `midOps2` writes. -/
abbrev midOps2_W : List (Ref sig .tc) := [main_v38, main_cst_7, main_v39, main_v40, main_v41, main_v42, main_v43, main_v44, main_v45, main_v46, main_v47, main_v48, main_v49, main_cst_8, main_v50, main_cst_9, main_v51, main_cst_10, main_v52, main_cst_11, main_v53, main_cst_12, main_v54, main_cst_13, main_v55, main_c_14, main_v56_0, main_v56_1, main_v56_2, main_v56_3, main_v56_4, main_v56_5, main_v56_6, main_v56_7, main_v56_8, main_v56_9, main_v56_10, main_v56_11, main_v56_12, main_v56_13, main_v56_14]
theorem midOps2_writes : (midOps2 : List (HloOp τ sig (Elt F))).Forall fun op => op.writes ⊆ (midOps2_W.map (Proc.devRef (τ := τ) .tc)).toFinset :=
  StableHlo.forall_writes_sub_of_map rfl

/-- The operations after the backward loop. -/
abbrev postOps : List (HloOp τ sig (Elt F)) :=
  [ StableHlo.unary main_v56_14 main_v57 ((transpose S2x2048x32x64 [1, 0, 2, 3] · transposes_S2048x2x32x64_S2x2048x32x64_1_0_2_3) : Ct F S2048x2x32x64 .f32 → Ct F S2x2048x32x64 .f32),
    StableHlo.unary main_v56_13 main_v58 ((transpose S2x2048x32x64 [1, 0, 2, 3] · transposes_S2048x2x32x64_S2x2048x32x64_1_0_2_3) : Ct F S2048x2x32x64 .f32 → Ct F S2x2048x32x64 .f32),
    StableHlo.unary main_v57 main_v59 ((transpose S32x64x2x2048 [2, 3, 0, 1] · transposes_S2x2048x32x64_S32x64x2x2048_2_3_0_1) : Ct F S2x2048x32x64 .f32 → Ct F S32x64x2x2048 .f32),
    StableHlo.binary main_v59 main_arg5 main_v60 ((fun l r => Host.dotGeneral dot_S32x64x2x2048_S32x64x16_S32x2x2048x16_1_1_23_2_0_0 none l r) : Ct F S32x64x2x2048 .f32 → Ct F S32x64x16 .f32 → Ct F S32x2x2048x16 .f32),
    StableHlo.unary main_v60 main_v61 ((transpose S2x2048x32x16 [1, 2, 0, 3] · transposes_S32x2x2048x16_S2x2048x32x16_1_2_0_3) : Ct F S32x2x2048x16 .f32 → Ct F S2x2048x32x16 .f32),
    StableHlo.binary main_v35 main_v61 main_v62 (addf : Ct F S2x2048x32x16 .f32 → Ct F S2x2048x32x16 .f32 → Ct F S2x2048x32x16 .f32),
    StableHlo.binary main_v59 main_v2 main_v63 ((fun l r => Host.dotGeneral dot_S32x64x2x2048_S2x2048x32x16_S32x64x16_23_01_1_3_0_2 none l r) : Ct F S32x64x2x2048 .f32 → Ct F S2x2048x32x16 .f32 → Ct F S32x64x16 .f32),
    StableHlo.unary main_v58 main_v64 ((transpose S32x64x2x2048 [2, 3, 0, 1] · transposes_S2x2048x32x64_S32x64x2x2048_2_3_0_1) : Ct F S2x2048x32x64 .f32 → Ct F S32x64x2x2048 .f32),
    StableHlo.binary main_v64 main_arg4 main_v65 ((fun l r => Host.dotGeneral dot_S32x64x2x2048_S32x64x16_S32x2x2048x16_1_1_23_2_0_0 none l r) : Ct F S32x64x2x2048 .f32 → Ct F S32x64x16 .f32 → Ct F S32x2x2048x16 .f32),
    StableHlo.unary main_v65 main_v66 ((transpose S2x2048x32x16 [1, 2, 0, 3] · transposes_S32x2x2048x16_S2x2048x32x16_1_2_0_3) : Ct F S32x2x2048x16 .f32 → Ct F S2x2048x32x16 .f32),
    StableHlo.binary main_v62 main_v66 main_v67 (addf : Ct F S2x2048x32x16 .f32 → Ct F S2x2048x32x16 .f32 → Ct F S2x2048x32x16 .f32),
    StableHlo.binary main_v64 main_v2 main_v68 ((fun l r => Host.dotGeneral dot_S32x64x2x2048_S2x2048x32x16_S32x64x16_23_01_1_3_0_2 none l r) : Ct F S32x64x2x2048 .f32 → Ct F S2x2048x32x16 .f32 → Ct F S32x64x16 .f32),
    StableHlo.reshape main_v67 main_v69 (rfl : (.f32 : EltTy) = .f32) shapeCasts_S2x2048x32x16_S2x2048x512,
    StableHlo.reshape main_v69 main_v70 (rfl : (.f32 : EltTy) = .f32) shapeCasts_S2x2048x512_S4096x512,
    StableHlo.unary main_v70 main_v71 ((truncf .bf16 · bitsLt_bf16_f32) : Ct F S4096x512 .f32 → Ct F S4096x512 .bf16) ]
theorem postOps_sub : (postOps : List (HloOp τ sig (Elt F))).Forall fun op => op.bufs ⊆ StableHlo.tcRefs τ sig :=
  ⟨StableHlo.unary_bufs_sub .., StableHlo.unary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.binary_bufs_sub .., StableHlo.binary_bufs_sub .., StableHlo.reshape_bufs_sub .., StableHlo.reshape_bufs_sub .., StableHlo.unary_bufs_sub ..⟩
theorem postOps_fresh : (postOps : List (HloOp τ sig (Elt F))).Forall fun op => op.fresh = ∅ :=
  StableHlo.forall_fresh_of_map rfl
/-- What `postOps` writes. -/
abbrev postOps_W : List (Ref sig .tc) := [main_v57, main_v58, main_v59, main_v60, main_v61, main_v62, main_v63, main_v64, main_v65, main_v66, main_v67, main_v68, main_v69, main_v70, main_v71]
theorem postOps_writes : (postOps : List (HloOp τ sig (Elt F))).Forall fun op => op.writes ⊆ (postOps_W.map (Proc.devRef (τ := τ) .tc)).toFinset :=
  StableHlo.forall_writes_sub_of_map rfl

/-- Part 0 of one trip of the forward loop. -/
abbrev fwd0 : List (HloOp τ sig (Elt F)) :=
  [ StableHlo.TRef.nullary (.of main_while0b_call0_c : StableHlo.TRef sig ⟨S_, .i32⟩) (constantI S_ 32 0#32),
    StableHlo.TRef.nullary (.of main_while0b_call0_c_0 : StableHlo.TRef sig ⟨S_, .i32⟩) (constantI S_ 32 0#32),
    StableHlo.TRef.nullary (.of main_while0b_call0_c_1 : StableHlo.TRef sig ⟨S_, .i32⟩) (constantI S_ 32 0#32),
    StableHlo.TRef.unaryIndexed (.of main_v18_0 : StableHlo.TRef sig ⟨S2048x2x32x64, .f32⟩) ![(.of main_v18_6 : StableHlo.TRef sig ⟨S_, .i32⟩), (.of main_while0b_call0_c : StableHlo.TRef sig ⟨S_, .i32⟩), (.of main_while0b_call0_c_0 : StableHlo.TRef sig ⟨S_, .i32⟩), (.of main_while0b_call0_c_1 : StableHlo.TRef sig ⟨S_, .i32⟩)] (.of main_while0b_call0_v0 : StableHlo.TRef sig ⟨S1x2x32x64, .f32⟩) (fun x i => Host.dynamicSlice S1x2x32x64 x (fun k => (i k (Shape.Idx.first h_S_)).toInt) sliceFits_S2048x2x32x64_S1x2x32x64),
    StableHlo.TRef.reshape (.of main_while0b_call0_v0 : StableHlo.TRef sig ⟨S1x2x32x64, .f32⟩) (.of main_while0b_v72 : StableHlo.TRef sig ⟨S2x32x64, .f32⟩) (rfl : (.f32 : EltTy) = .f32) shapeCasts_S1x2x32x64_S2x32x64 ]
theorem fwd0_sub : (fwd0 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
theorem fwd0_fresh : (fwd0 : List (HloOp τ sig (Elt F))).Forall fun op => op.fresh = ∅ :=
  StableHlo.forall_fresh_of_map rfl
/-- What `fwd0` writes. -/
abbrev fwd0_W : List (Ref sig .tc) := [main_while0b_call0_c, main_while0b_call0_c_0, main_while0b_call0_c_1, main_while0b_call0_v0, main_while0b_v72]
theorem fwd0_writes : (fwd0 : List (HloOp τ sig (Elt F))).Forall fun op => op.writes ⊆ (fwd0_W.map (Proc.devRef (τ := τ) .tc)).toFinset :=
  StableHlo.forall_writes_sub_of_map rfl

/-- Part 1 of one trip of the forward loop. -/
abbrev fwd1 : List (HloOp τ sig (Elt F)) :=
  [ StableHlo.TRef.nullary (.of main_while0b_call1_c : StableHlo.TRef sig ⟨S_, .i32⟩) (constantI S_ 32 0#32),
    StableHlo.TRef.nullary (.of main_while0b_call1_c_0 : StableHlo.TRef sig ⟨S_, .i32⟩) (constantI S_ 32 0#32),
    StableHlo.TRef.nullary (.of main_while0b_call1_c_1 : StableHlo.TRef sig ⟨S_, .i32⟩) (constantI S_ 32 0#32),
    StableHlo.TRef.unaryIndexed (.of main_v18_1 : StableHlo.TRef sig ⟨S2048x2x32x64, .f32⟩) ![(.of main_v18_6 : StableHlo.TRef sig ⟨S_, .i32⟩), (.of main_while0b_call1_c : StableHlo.TRef sig ⟨S_, .i32⟩), (.of main_while0b_call1_c_0 : StableHlo.TRef sig ⟨S_, .i32⟩), (.of main_while0b_call1_c_1 : StableHlo.TRef sig ⟨S_, .i32⟩)] (.of main_while0b_call1_v0 : StableHlo.TRef sig ⟨S1x2x32x64, .f32⟩) (fun x i => Host.dynamicSlice S1x2x32x64 x (fun k => (i k (Shape.Idx.first h_S_)).toInt) sliceFits_S2048x2x32x64_S1x2x32x64),
    StableHlo.TRef.reshape (.of main_while0b_call1_v0 : StableHlo.TRef sig ⟨S1x2x32x64, .f32⟩) (.of main_while0b_v73 : StableHlo.TRef sig ⟨S2x32x64, .f32⟩) (rfl : (.f32 : EltTy) = .f32) shapeCasts_S1x2x32x64_S2x32x64 ]
theorem fwd1_sub : (fwd1 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
theorem fwd1_fresh : (fwd1 : List (HloOp τ sig (Elt F))).Forall fun op => op.fresh = ∅ :=
  StableHlo.forall_fresh_of_map rfl
/-- What `fwd1` writes. -/
abbrev fwd1_W : List (Ref sig .tc) := [main_while0b_call1_c, main_while0b_call1_c_0, main_while0b_call1_c_1, main_while0b_call1_v0, main_while0b_v73]
theorem fwd1_writes : (fwd1 : List (HloOp τ sig (Elt F))).Forall fun op => op.writes ⊆ (fwd1_W.map (Proc.devRef (τ := τ) .tc)).toFinset :=
  StableHlo.forall_writes_sub_of_map rfl

/-- Part 2 of one trip of the forward loop. -/
abbrev fwd2 : List (HloOp τ sig (Elt F)) :=
  [ StableHlo.unary main_v18_2 main_while0b_v74 (broadcastInDim S2x32x64 ![0, 1, 2] bcast_S1x32x64_S2x32x64_0_1_2 : Ct F S1x32x64 .f32 → Ct F S2x32x64 .f32),
    StableHlo.binary main_while0b_v74 main_v18_7 main_while0b_v75 (mulf : Ct F S2x32x64 .f32 → Ct F S2x32x64 .f32 → Ct F S2x32x64 .f32),
    StableHlo.unary main_v18_3 main_while0b_v76 (broadcastInDim S2x32x64 ![0, 1, 2] bcast_S1x32x64_S2x32x64_0_1_2 : Ct F S1x32x64 .f32 → Ct F S2x32x64 .f32),
    StableHlo.binary main_while0b_v76 main_v18_8 main_while0b_v77 (mulf : Ct F S2x32x64 .f32 → Ct F S2x32x64 .f32 → Ct F S2x32x64 .f32),
    StableHlo.binary main_while0b_v75 main_while0b_v77 main_while0b_v78 (subf : Ct F S2x32x64 .f32 → Ct F S2x32x64 .f32 → Ct F S2x32x64 .f32),
    StableHlo.binary main_while0b_v78 main_while0b_v72 main_while0b_v79 (addf : Ct F S2x32x64 .f32 → Ct F S2x32x64 .f32 → Ct F S2x32x64 .f32),
    StableHlo.unary main_v18_4 main_while0b_v80 (broadcastInDim S2x32x64 ![0, 1, 2] bcast_S1x32x64_S2x32x64_0_1_2 : Ct F S1x32x64 .f32 → Ct F S2x32x64 .f32),
    StableHlo.binary main_while0b_v80 main_v18_8 main_while0b_v81 (mulf : Ct F S2x32x64 .f32 → Ct F S2x32x64 .f32 → Ct F S2x32x64 .f32),
    StableHlo.unary main_v18_5 main_while0b_v82 (broadcastInDim S2x32x64 ![0, 1, 2] bcast_S1x32x64_S2x32x64_0_1_2 : Ct F S1x32x64 .f32 → Ct F S2x32x64 .f32),
    StableHlo.binary main_while0b_v82 main_v18_7 main_while0b_v83 (mulf : Ct F S2x32x64 .f32 → Ct F S2x32x64 .f32 → Ct F S2x32x64 .f32),
    StableHlo.binary main_while0b_v81 main_while0b_v83 main_while0b_v84 (addf : Ct F S2x32x64 .f32 → Ct F S2x32x64 .f32 → Ct F S2x32x64 .f32),
    StableHlo.binary main_while0b_v84 main_while0b_v73 main_while0b_v85 (addf : Ct F S2x32x64 .f32 → Ct F S2x32x64 .f32 → Ct F S2x32x64 .f32) ]
theorem fwd2_sub : (fwd2 : List (HloOp τ sig (Elt F))).Forall fun op => op.bufs ⊆ StableHlo.tcRefs τ sig :=
  ⟨StableHlo.unary_bufs_sub .., StableHlo.binary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.binary_bufs_sub .., StableHlo.binary_bufs_sub ..⟩
theorem fwd2_fresh : (fwd2 : List (HloOp τ sig (Elt F))).Forall fun op => op.fresh = ∅ :=
  StableHlo.forall_fresh_of_map rfl
/-- What `fwd2` writes. -/
abbrev fwd2_W : List (Ref sig .tc) := [main_while0b_v74, main_while0b_v75, main_while0b_v76, main_while0b_v77, main_while0b_v78, main_while0b_v79, main_while0b_v80, main_while0b_v81, main_while0b_v82, main_while0b_v83, main_while0b_v84, main_while0b_v85]
theorem fwd2_writes : (fwd2 : List (HloOp τ sig (Elt F))).Forall fun op => op.writes ⊆ (fwd2_W.map (Proc.devRef (τ := τ) .tc)).toFinset :=
  StableHlo.forall_writes_sub_of_map rfl

/-- Part 3 of one trip of the forward loop. -/
abbrev fwd3 : List (HloOp τ sig (Elt F)) :=
  [ StableHlo.TRef.unary (.of main_while0b_v79 : StableHlo.TRef sig ⟨S2x32x64, .f32⟩) (.of main_while0b_call2_v0 : StableHlo.TRef sig ⟨S1x2x32x64, .f32⟩) (broadcastInDim S1x2x32x64 ![1, 2, 3] bcast_S2x32x64_S1x2x32x64_1_2_3),
    StableHlo.TRef.nullary (.of main_while0b_call2_c : StableHlo.TRef sig ⟨S_, .i32⟩) (constantI S_ 32 0#32),
    StableHlo.TRef.nullary (.of main_while0b_call2_c_0 : StableHlo.TRef sig ⟨S_, .i32⟩) (constantI S_ 32 0#32),
    StableHlo.TRef.nullary (.of main_while0b_call2_c_1 : StableHlo.TRef sig ⟨S_, .i32⟩) (constantI S_ 32 0#32),
    StableHlo.TRef.binaryIndexed (.of main_v18_9 : StableHlo.TRef sig ⟨S2048x2x32x64, .f32⟩) (.of main_while0b_call2_v0 : StableHlo.TRef sig ⟨S1x2x32x64, .f32⟩) ![(.of main_v18_6 : StableHlo.TRef sig ⟨S_, .i32⟩), (.of main_while0b_call2_c : StableHlo.TRef sig ⟨S_, .i32⟩), (.of main_while0b_call2_c_0 : StableHlo.TRef sig ⟨S_, .i32⟩), (.of main_while0b_call2_c_1 : StableHlo.TRef sig ⟨S_, .i32⟩)] (.of main_while0b_v86 : StableHlo.TRef sig ⟨S2048x2x32x64, .f32⟩) (fun x u i => Host.dynamicUpdateSlice x u (fun k => (i k (Shape.Idx.first h_S_)).toInt) updateFits_S2048x2x32x64_S1x2x32x64) ]
theorem fwd3_sub : (fwd3 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
theorem fwd3_fresh : (fwd3 : List (HloOp τ sig (Elt F))).Forall fun op => op.fresh = ∅ :=
  StableHlo.forall_fresh_of_map rfl
/-- What `fwd3` writes. -/
abbrev fwd3_W : List (Ref sig .tc) := [main_while0b_call2_v0, main_while0b_call2_c, main_while0b_call2_c_0, main_while0b_call2_c_1, main_while0b_v86]
theorem fwd3_writes : (fwd3 : List (HloOp τ sig (Elt F))).Forall fun op => op.writes ⊆ (fwd3_W.map (Proc.devRef (τ := τ) .tc)).toFinset :=
  StableHlo.forall_writes_sub_of_map rfl

/-- Part 4 of one trip of the forward loop. -/
abbrev fwd4 : List (HloOp τ sig (Elt F)) :=
  [ StableHlo.TRef.unary (.of main_while0b_v85 : StableHlo.TRef sig ⟨S2x32x64, .f32⟩) (.of main_while0b_call3_v0 : StableHlo.TRef sig ⟨S1x2x32x64, .f32⟩) (broadcastInDim S1x2x32x64 ![1, 2, 3] bcast_S2x32x64_S1x2x32x64_1_2_3),
    StableHlo.TRef.nullary (.of main_while0b_call3_c : StableHlo.TRef sig ⟨S_, .i32⟩) (constantI S_ 32 0#32),
    StableHlo.TRef.nullary (.of main_while0b_call3_c_0 : StableHlo.TRef sig ⟨S_, .i32⟩) (constantI S_ 32 0#32),
    StableHlo.TRef.nullary (.of main_while0b_call3_c_1 : StableHlo.TRef sig ⟨S_, .i32⟩) (constantI S_ 32 0#32),
    StableHlo.TRef.binaryIndexed (.of main_v18_10 : StableHlo.TRef sig ⟨S2048x2x32x64, .f32⟩) (.of main_while0b_call3_v0 : StableHlo.TRef sig ⟨S1x2x32x64, .f32⟩) ![(.of main_v18_6 : StableHlo.TRef sig ⟨S_, .i32⟩), (.of main_while0b_call3_c : StableHlo.TRef sig ⟨S_, .i32⟩), (.of main_while0b_call3_c_0 : StableHlo.TRef sig ⟨S_, .i32⟩), (.of main_while0b_call3_c_1 : StableHlo.TRef sig ⟨S_, .i32⟩)] (.of main_while0b_v87 : StableHlo.TRef sig ⟨S2048x2x32x64, .f32⟩) (fun x u i => Host.dynamicUpdateSlice x u (fun k => (i k (Shape.Idx.first h_S_)).toInt) updateFits_S2048x2x32x64_S1x2x32x64) ]
theorem fwd4_sub : (fwd4 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
theorem fwd4_fresh : (fwd4 : List (HloOp τ sig (Elt F))).Forall fun op => op.fresh = ∅ :=
  StableHlo.forall_fresh_of_map rfl
/-- What `fwd4` writes. -/
abbrev fwd4_W : List (Ref sig .tc) := [main_while0b_call3_v0, main_while0b_call3_c, main_while0b_call3_c_0, main_while0b_call3_c_1, main_while0b_v87]
theorem fwd4_writes : (fwd4 : List (HloOp τ sig (Elt F))).Forall fun op => op.writes ⊆ (fwd4_W.map (Proc.devRef (τ := τ) .tc)).toFinset :=
  StableHlo.forall_writes_sub_of_map rfl

/-- Part 5 of one trip of the forward loop. -/
abbrev fwd5 : List (HloOp τ sig (Elt F)) :=
  [ StableHlo.TRef.unary (.of main_v18_7 : StableHlo.TRef sig ⟨S2x32x64, .f32⟩) (.of main_while0b_call4_v0 : StableHlo.TRef sig ⟨S1x2x32x64, .f32⟩) (broadcastInDim S1x2x32x64 ![1, 2, 3] bcast_S2x32x64_S1x2x32x64_1_2_3),
    StableHlo.TRef.nullary (.of main_while0b_call4_c : StableHlo.TRef sig ⟨S_, .i32⟩) (constantI S_ 32 0#32),
    StableHlo.TRef.nullary (.of main_while0b_call4_c_0 : StableHlo.TRef sig ⟨S_, .i32⟩) (constantI S_ 32 0#32),
    StableHlo.TRef.nullary (.of main_while0b_call4_c_1 : StableHlo.TRef sig ⟨S_, .i32⟩) (constantI S_ 32 0#32),
    StableHlo.TRef.binaryIndexed (.of main_v18_11 : StableHlo.TRef sig ⟨S2048x2x32x64, .f32⟩) (.of main_while0b_call4_v0 : StableHlo.TRef sig ⟨S1x2x32x64, .f32⟩) ![(.of main_v18_6 : StableHlo.TRef sig ⟨S_, .i32⟩), (.of main_while0b_call4_c : StableHlo.TRef sig ⟨S_, .i32⟩), (.of main_while0b_call4_c_0 : StableHlo.TRef sig ⟨S_, .i32⟩), (.of main_while0b_call4_c_1 : StableHlo.TRef sig ⟨S_, .i32⟩)] (.of main_while0b_v88 : StableHlo.TRef sig ⟨S2048x2x32x64, .f32⟩) (fun x u i => Host.dynamicUpdateSlice x u (fun k => (i k (Shape.Idx.first h_S_)).toInt) updateFits_S2048x2x32x64_S1x2x32x64) ]
theorem fwd5_sub : (fwd5 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
theorem fwd5_fresh : (fwd5 : List (HloOp τ sig (Elt F))).Forall fun op => op.fresh = ∅ :=
  StableHlo.forall_fresh_of_map rfl
/-- What `fwd5` writes. -/
abbrev fwd5_W : List (Ref sig .tc) := [main_while0b_call4_v0, main_while0b_call4_c, main_while0b_call4_c_0, main_while0b_call4_c_1, main_while0b_v88]
theorem fwd5_writes : (fwd5 : List (HloOp τ sig (Elt F))).Forall fun op => op.writes ⊆ (fwd5_W.map (Proc.devRef (τ := τ) .tc)).toFinset :=
  StableHlo.forall_writes_sub_of_map rfl

/-- Part 6 of one trip of the forward loop. -/
abbrev fwd6 : List (HloOp τ sig (Elt F)) :=
  [ StableHlo.TRef.unary (.of main_v18_8 : StableHlo.TRef sig ⟨S2x32x64, .f32⟩) (.of main_while0b_call5_v0 : StableHlo.TRef sig ⟨S1x2x32x64, .f32⟩) (broadcastInDim S1x2x32x64 ![1, 2, 3] bcast_S2x32x64_S1x2x32x64_1_2_3),
    StableHlo.TRef.nullary (.of main_while0b_call5_c : StableHlo.TRef sig ⟨S_, .i32⟩) (constantI S_ 32 0#32),
    StableHlo.TRef.nullary (.of main_while0b_call5_c_0 : StableHlo.TRef sig ⟨S_, .i32⟩) (constantI S_ 32 0#32),
    StableHlo.TRef.nullary (.of main_while0b_call5_c_1 : StableHlo.TRef sig ⟨S_, .i32⟩) (constantI S_ 32 0#32),
    StableHlo.TRef.binaryIndexed (.of main_v18_12 : StableHlo.TRef sig ⟨S2048x2x32x64, .f32⟩) (.of main_while0b_call5_v0 : StableHlo.TRef sig ⟨S1x2x32x64, .f32⟩) ![(.of main_v18_6 : StableHlo.TRef sig ⟨S_, .i32⟩), (.of main_while0b_call5_c : StableHlo.TRef sig ⟨S_, .i32⟩), (.of main_while0b_call5_c_0 : StableHlo.TRef sig ⟨S_, .i32⟩), (.of main_while0b_call5_c_1 : StableHlo.TRef sig ⟨S_, .i32⟩)] (.of main_while0b_v89 : StableHlo.TRef sig ⟨S2048x2x32x64, .f32⟩) (fun x u i => Host.dynamicUpdateSlice x u (fun k => (i k (Shape.Idx.first h_S_)).toInt) updateFits_S2048x2x32x64_S1x2x32x64) ]
theorem fwd6_sub : (fwd6 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
theorem fwd6_fresh : (fwd6 : List (HloOp τ sig (Elt F))).Forall fun op => op.fresh = ∅ :=
  StableHlo.forall_fresh_of_map rfl
/-- What `fwd6` writes. -/
abbrev fwd6_W : List (Ref sig .tc) := [main_while0b_call5_v0, main_while0b_call5_c, main_while0b_call5_c_0, main_while0b_call5_c_1, main_while0b_v89]
theorem fwd6_writes : (fwd6 : List (HloOp τ sig (Elt F))).Forall fun op => op.writes ⊆ (fwd6_W.map (Proc.devRef (τ := τ) .tc)).toFinset :=
  StableHlo.forall_writes_sub_of_map rfl

/-- Part 7 of one trip of the forward loop. -/
abbrev fwd7 : List (HloOp τ sig (Elt F)) :=
  [ StableHlo.nullary main_while0b_c_27 (constantI S_ 32 1#32),
    StableHlo.binary main_v18_6 main_while0b_c_27 main_while0b_v90 (addi : Ct F S_ .i32 → Ct F S_ .i32 → Ct F S_ .i32),
    StableHlo.unary main_while0b_v90 main_v18_6 id,
    StableHlo.unary main_while0b_v79 main_v18_7 id,
    StableHlo.unary main_while0b_v85 main_v18_8 id,
    StableHlo.unary main_while0b_v86 main_v18_9 id,
    StableHlo.unary main_while0b_v87 main_v18_10 id,
    StableHlo.unary main_while0b_v88 main_v18_11 id,
    StableHlo.unary main_while0b_v89 main_v18_12 id ]
theorem fwd7_sub : (fwd7 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
theorem fwd7_fresh : (fwd7 : List (HloOp τ sig (Elt F))).Forall fun op => op.fresh = ∅ :=
  StableHlo.forall_fresh_of_map rfl
/-- What `fwd7` writes. -/
abbrev fwd7_W : List (Ref sig .tc) := [main_while0b_c_27, main_while0b_v90, main_v18_6, main_v18_7, main_v18_8, main_v18_9, main_v18_10, main_v18_11, main_v18_12]
theorem fwd7_writes : (fwd7 : List (HloOp τ sig (Elt F))).Forall fun op => op.writes ⊆ (fwd7_W.map (Proc.devRef (τ := τ) .tc)).toFinset :=
  StableHlo.forall_writes_sub_of_map rfl

/-- Part 0 of one trip of the backward loop. -/
abbrev bwd0 : List (HloOp τ sig (Elt F)) :=
  [ StableHlo.nullary main_while1b_c_29 (constantI S_ 32 2048#32),
    StableHlo.binary main_while1b_c_29 main_v56_8 main_while1b_v72 (subi : Ct F S_ .i32 → Ct F S_ .i32 → Ct F S_ .i32),
    StableHlo.nullary main_while1b_c_30 (constantI S_ 32 1#32),
    StableHlo.binary main_while1b_v72 main_while1b_c_30 main_while1b_v73 (subi : Ct F S_ .i32 → Ct F S_ .i32 → Ct F S_ .i32) ]
theorem bwd0_sub : (bwd0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub ..⟩
theorem bwd0_fresh : (bwd0 : List (HloOp τ sig (Elt F))).Forall fun op => op.fresh = ∅ :=
  StableHlo.forall_fresh_of_map rfl
/-- What `bwd0` writes. -/
abbrev bwd0_W : List (Ref sig .tc) := [main_while1b_c_29, main_while1b_v72, main_while1b_c_30, main_while1b_v73]
theorem bwd0_writes : (bwd0 : List (HloOp τ sig (Elt F))).Forall fun op => op.writes ⊆ (bwd0_W.map (Proc.devRef (τ := τ) .tc)).toFinset :=
  StableHlo.forall_writes_sub_of_map rfl

/-- Part 1 of one trip of the backward loop. -/
abbrev bwd1 : List (HloOp τ sig (Elt F)) :=
  [ StableHlo.TRef.nullary (.of main_while1b_call6_c : StableHlo.TRef sig ⟨S_, .i32⟩) (constantI S_ 32 0#32),
    StableHlo.TRef.nullary (.of main_while1b_call6_c_0 : StableHlo.TRef sig ⟨S_, .i32⟩) (constantI S_ 32 0#32),
    StableHlo.TRef.nullary (.of main_while1b_call6_c_1 : StableHlo.TRef sig ⟨S_, .i32⟩) (constantI S_ 32 0#32),
    StableHlo.TRef.unaryIndexed (.of main_v56_0 : StableHlo.TRef sig ⟨S2048x2x32x64, .f32⟩) ![(.of main_while1b_v73 : StableHlo.TRef sig ⟨S_, .i32⟩), (.of main_while1b_call6_c : StableHlo.TRef sig ⟨S_, .i32⟩), (.of main_while1b_call6_c_0 : StableHlo.TRef sig ⟨S_, .i32⟩), (.of main_while1b_call6_c_1 : StableHlo.TRef sig ⟨S_, .i32⟩)] (.of main_while1b_call6_v0 : StableHlo.TRef sig ⟨S1x2x32x64, .f32⟩) (fun x i => Host.dynamicSlice S1x2x32x64 x (fun k => (i k (Shape.Idx.first h_S_)).toInt) sliceFits_S2048x2x32x64_S1x2x32x64),
    StableHlo.TRef.reshape (.of main_while1b_call6_v0 : StableHlo.TRef sig ⟨S1x2x32x64, .f32⟩) (.of main_while1b_v74 : StableHlo.TRef sig ⟨S2x32x64, .f32⟩) (rfl : (.f32 : EltTy) = .f32) shapeCasts_S1x2x32x64_S2x32x64 ]
theorem bwd1_sub : (bwd1 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
theorem bwd1_fresh : (bwd1 : List (HloOp τ sig (Elt F))).Forall fun op => op.fresh = ∅ :=
  StableHlo.forall_fresh_of_map rfl
/-- What `bwd1` writes. -/
abbrev bwd1_W : List (Ref sig .tc) := [main_while1b_call6_c, main_while1b_call6_c_0, main_while1b_call6_c_1, main_while1b_call6_v0, main_while1b_v74]
theorem bwd1_writes : (bwd1 : List (HloOp τ sig (Elt F))).Forall fun op => op.writes ⊆ (bwd1_W.map (Proc.devRef (τ := τ) .tc)).toFinset :=
  StableHlo.forall_writes_sub_of_map rfl

/-- Part 2 of one trip of the backward loop. -/
abbrev bwd2 : List (HloOp τ sig (Elt F)) :=
  [ StableHlo.TRef.nullary (.of main_while1b_call7_c : StableHlo.TRef sig ⟨S_, .i32⟩) (constantI S_ 32 0#32),
    StableHlo.TRef.nullary (.of main_while1b_call7_c_0 : StableHlo.TRef sig ⟨S_, .i32⟩) (constantI S_ 32 0#32),
    StableHlo.TRef.nullary (.of main_while1b_call7_c_1 : StableHlo.TRef sig ⟨S_, .i32⟩) (constantI S_ 32 0#32),
    StableHlo.TRef.unaryIndexed (.of main_v56_1 : StableHlo.TRef sig ⟨S2048x2x32x64, .f32⟩) ![(.of main_while1b_v73 : StableHlo.TRef sig ⟨S_, .i32⟩), (.of main_while1b_call7_c : StableHlo.TRef sig ⟨S_, .i32⟩), (.of main_while1b_call7_c_0 : StableHlo.TRef sig ⟨S_, .i32⟩), (.of main_while1b_call7_c_1 : StableHlo.TRef sig ⟨S_, .i32⟩)] (.of main_while1b_call7_v0 : StableHlo.TRef sig ⟨S1x2x32x64, .f32⟩) (fun x i => Host.dynamicSlice S1x2x32x64 x (fun k => (i k (Shape.Idx.first h_S_)).toInt) sliceFits_S2048x2x32x64_S1x2x32x64),
    StableHlo.TRef.reshape (.of main_while1b_call7_v0 : StableHlo.TRef sig ⟨S1x2x32x64, .f32⟩) (.of main_while1b_v75 : StableHlo.TRef sig ⟨S2x32x64, .f32⟩) (rfl : (.f32 : EltTy) = .f32) shapeCasts_S1x2x32x64_S2x32x64 ]
theorem bwd2_sub : (bwd2 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
theorem bwd2_fresh : (bwd2 : List (HloOp τ sig (Elt F))).Forall fun op => op.fresh = ∅ :=
  StableHlo.forall_fresh_of_map rfl
/-- What `bwd2` writes. -/
abbrev bwd2_W : List (Ref sig .tc) := [main_while1b_call7_c, main_while1b_call7_c_0, main_while1b_call7_c_1, main_while1b_call7_v0, main_while1b_v75]
theorem bwd2_writes : (bwd2 : List (HloOp τ sig (Elt F))).Forall fun op => op.writes ⊆ (bwd2_W.map (Proc.devRef (τ := τ) .tc)).toFinset :=
  StableHlo.forall_writes_sub_of_map rfl

/-- Part 3 of one trip of the backward loop. -/
abbrev bwd3 : List (HloOp τ sig (Elt F)) :=
  [ StableHlo.TRef.nullary (.of main_while1b_call8_c : StableHlo.TRef sig ⟨S_, .i32⟩) (constantI S_ 32 0#32),
    StableHlo.TRef.nullary (.of main_while1b_call8_c_0 : StableHlo.TRef sig ⟨S_, .i32⟩) (constantI S_ 32 0#32),
    StableHlo.TRef.nullary (.of main_while1b_call8_c_1 : StableHlo.TRef sig ⟨S_, .i32⟩) (constantI S_ 32 0#32),
    StableHlo.TRef.unaryIndexed (.of main_v56_2 : StableHlo.TRef sig ⟨S2048x2x32x64, .f32⟩) ![(.of main_while1b_v73 : StableHlo.TRef sig ⟨S_, .i32⟩), (.of main_while1b_call8_c : StableHlo.TRef sig ⟨S_, .i32⟩), (.of main_while1b_call8_c_0 : StableHlo.TRef sig ⟨S_, .i32⟩), (.of main_while1b_call8_c_1 : StableHlo.TRef sig ⟨S_, .i32⟩)] (.of main_while1b_call8_v0 : StableHlo.TRef sig ⟨S1x2x32x64, .f32⟩) (fun x i => Host.dynamicSlice S1x2x32x64 x (fun k => (i k (Shape.Idx.first h_S_)).toInt) sliceFits_S2048x2x32x64_S1x2x32x64),
    StableHlo.TRef.reshape (.of main_while1b_call8_v0 : StableHlo.TRef sig ⟨S1x2x32x64, .f32⟩) (.of main_while1b_v76 : StableHlo.TRef sig ⟨S2x32x64, .f32⟩) (rfl : (.f32 : EltTy) = .f32) shapeCasts_S1x2x32x64_S2x32x64 ]
theorem bwd3_sub : (bwd3 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
theorem bwd3_fresh : (bwd3 : List (HloOp τ sig (Elt F))).Forall fun op => op.fresh = ∅ :=
  StableHlo.forall_fresh_of_map rfl
/-- What `bwd3` writes. -/
abbrev bwd3_W : List (Ref sig .tc) := [main_while1b_call8_c, main_while1b_call8_c_0, main_while1b_call8_c_1, main_while1b_call8_v0, main_while1b_v76]
theorem bwd3_writes : (bwd3 : List (HloOp τ sig (Elt F))).Forall fun op => op.writes ⊆ (bwd3_W.map (Proc.devRef (τ := τ) .tc)).toFinset :=
  StableHlo.forall_writes_sub_of_map rfl

/-- Part 4 of one trip of the backward loop. -/
abbrev bwd4 : List (HloOp τ sig (Elt F)) :=
  [ StableHlo.TRef.nullary (.of main_while1b_call9_c : StableHlo.TRef sig ⟨S_, .i32⟩) (constantI S_ 32 0#32),
    StableHlo.TRef.nullary (.of main_while1b_call9_c_0 : StableHlo.TRef sig ⟨S_, .i32⟩) (constantI S_ 32 0#32),
    StableHlo.TRef.nullary (.of main_while1b_call9_c_1 : StableHlo.TRef sig ⟨S_, .i32⟩) (constantI S_ 32 0#32),
    StableHlo.TRef.unaryIndexed (.of main_v56_3 : StableHlo.TRef sig ⟨S2048x2x32x64, .f32⟩) ![(.of main_while1b_v73 : StableHlo.TRef sig ⟨S_, .i32⟩), (.of main_while1b_call9_c : StableHlo.TRef sig ⟨S_, .i32⟩), (.of main_while1b_call9_c_0 : StableHlo.TRef sig ⟨S_, .i32⟩), (.of main_while1b_call9_c_1 : StableHlo.TRef sig ⟨S_, .i32⟩)] (.of main_while1b_call9_v0 : StableHlo.TRef sig ⟨S1x2x32x64, .f32⟩) (fun x i => Host.dynamicSlice S1x2x32x64 x (fun k => (i k (Shape.Idx.first h_S_)).toInt) sliceFits_S2048x2x32x64_S1x2x32x64),
    StableHlo.TRef.reshape (.of main_while1b_call9_v0 : StableHlo.TRef sig ⟨S1x2x32x64, .f32⟩) (.of main_while1b_v77 : StableHlo.TRef sig ⟨S2x32x64, .f32⟩) (rfl : (.f32 : EltTy) = .f32) shapeCasts_S1x2x32x64_S2x32x64 ]
theorem bwd4_sub : (bwd4 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
theorem bwd4_fresh : (bwd4 : List (HloOp τ sig (Elt F))).Forall fun op => op.fresh = ∅ :=
  StableHlo.forall_fresh_of_map rfl
/-- What `bwd4` writes. -/
abbrev bwd4_W : List (Ref sig .tc) := [main_while1b_call9_c, main_while1b_call9_c_0, main_while1b_call9_c_1, main_while1b_call9_v0, main_while1b_v77]
theorem bwd4_writes : (bwd4 : List (HloOp τ sig (Elt F))).Forall fun op => op.writes ⊆ (bwd4_W.map (Proc.devRef (τ := τ) .tc)).toFinset :=
  StableHlo.forall_writes_sub_of_map rfl

/-- Part 5 of one trip of the backward loop. -/
abbrev bwd5 : List (HloOp τ sig (Elt F)) :=
  ( StableHlo.binary main_v56_11 main_while1b_v74 main_while1b_v78 (addf : Ct F S2x32x64 .f32 → Ct F S2x32x64 .f32 → Ct F S2x32x64 .f32)
  :: StableHlo.binary main_v56_12 main_while1b_v75 main_while1b_v79 (addf : Ct F S2x32x64 .f32 → Ct F S2x32x64 .f32 → Ct F S2x32x64 .f32)
  :: StableHlo.unary main_v56_7 main_while1b_v80 (broadcastInDim S2x32x64 ![0, 1, 2] bcast_S1x32x64_S2x32x64_0_1_2 : Ct F S1x32x64 .f32 → Ct F S2x32x64 .f32)
  :: StableHlo.binary main_while1b_v80 main_while1b_v79 main_while1b_v81 (mulf : Ct F S2x32x64 .f32 → Ct F S2x32x64 .f32 → Ct F S2x32x64 .f32)
  :: StableHlo.binary main_while1b_v79 main_while1b_v76 main_while1b_v82 (mulf : Ct F S2x32x64 .f32 → Ct F S2x32x64 .f32 → Ct F S2x32x64 .f32)
  :: StableHlo.nullary main_while1b_cst_31 (constant S_ .f32 0x00000000#32)
  :: StableHlo.binary main_while1b_v82 main_while1b_cst_31 main_while1b_v83 ((fun x v => Host.reduceAdd x v reducesTo_S2x32x64_S32x64_d0 h_S_) : Ct F S2x32x64 .f32 → Ct F S_ .f32 → Ct F S32x64 .f32)
  :: StableHlo.reshape main_while1b_v83 main_while1b_v84 (rfl : (.f32 : EltTy) = .f32) shapeCasts_S32x64_S1x32x64
  :: StableHlo.nullary main_while1b_cst_32 (constant S_ .f32 0x00000000#32)
  :: StableHlo.binary main_while1b_v84 main_while1b_cst_32 main_while1b_v85 ((fun x v => Host.reduceAdd x v reducesTo_S1x32x64_S32x64_d0 h_S_) : Ct F S1x32x64 .f32 → Ct F S_ .f32 → Ct F S32x64 .f32)
  :: StableHlo.binary main_v56_10 main_while1b_v85 main_while1b_v86 (addf : Ct F S32x64 .f32 → Ct F S32x64 .f32 → Ct F S32x64 .f32)
  :: StableHlo.unary main_v56_6 main_while1b_v87 (broadcastInDim S2x32x64 ![0, 1, 2] bcast_S1x32x64_S2x32x64_0_1_2 : Ct F S1x32x64 .f32 → Ct F S2x32x64 .f32)
  :: StableHlo.binary main_while1b_v87 main_while1b_v79 main_while1b_v88 (mulf : Ct F S2x32x64 .f32 → Ct F S2x32x64 .f32 → Ct F S2x32x64 .f32)
  :: StableHlo.binary main_while1b_v79 main_while1b_v77 main_while1b_v89 (mulf : Ct F S2x32x64 .f32 → Ct F S2x32x64 .f32 → Ct F S2x32x64 .f32)
  :: StableHlo.nullary main_while1b_cst_33 (constant S_ .f32 0x00000000#32)
  :: StableHlo.binary main_while1b_v89 main_while1b_cst_33 main_while1b_v90 ((fun x v => Host.reduceAdd x v reducesTo_S2x32x64_S32x64_d0 h_S_) : Ct F S2x32x64 .f32 → Ct F S_ .f32 → Ct F S32x64 .f32)
  :: StableHlo.reshape main_while1b_v90 main_while1b_v91 (rfl : (.f32 : EltTy) = .f32) shapeCasts_S32x64_S1x32x64
  :: StableHlo.nullary main_while1b_cst_34 (constant S_ .f32 0x00000000#32)
  :: StableHlo.binary main_while1b_v91 main_while1b_cst_34 main_while1b_v92 ((fun x v => Host.reduceAdd x v reducesTo_S1x32x64_S32x64_d0 h_S_) : Ct F S1x32x64 .f32 → Ct F S_ .f32 → Ct F S32x64 .f32)
  :: StableHlo.binary main_v56_9 main_while1b_v92 main_while1b_v93 (addf : Ct F S32x64 .f32 → Ct F S32x64 .f32 → Ct F S32x64 .f32)
  :: StableHlo.unary main_while1b_v78 main_while1b_v94 (Host.negf : Ct F S2x32x64 .f32 → Ct F S2x32x64 .f32)
  :: StableHlo.unary main_v56_5 main_while1b_v95 (broadcastInDim S2x32x64 ![0, 1, 2] bcast_S1x32x64_S2x32x64_0_1_2 : Ct F S1x32x64 .f32 → Ct F S2x32x64 .f32)
  :: StableHlo.binary main_while1b_v95 main_while1b_v94 main_while1b_v96 (mulf : Ct F S2x32x64 .f32 → Ct F S2x32x64 .f32 → Ct F S2x32x64 .f32)
  :: StableHlo.binary main_while1b_v88 main_while1b_v96 main_while1b_v97 (addf : Ct F S2x32x64 .f32 → Ct F S2x32x64 .f32 → Ct F S2x32x64 .f32)
  :: StableHlo.binary main_while1b_v94 main_while1b_v77 main_while1b_v98 (mulf : Ct F S2x32x64 .f32 → Ct F S2x32x64 .f32 → Ct F S2x32x64 .f32)
  :: StableHlo.nullary main_while1b_cst_35 (constant S_ .f32 0x00000000#32)
  :: StableHlo.binary main_while1b_v98 main_while1b_cst_35 main_while1b_v99 ((fun x v => Host.reduceAdd x v reducesTo_S2x32x64_S32x64_d0 h_S_) : Ct F S2x32x64 .f32 → Ct F S_ .f32 → Ct F S32x64 .f32)
  :: StableHlo.reshape main_while1b_v99 main_while1b_v100 (rfl : (.f32 : EltTy) = .f32) shapeCasts_S32x64_S1x32x64
  :: StableHlo.nullary main_while1b_cst_36 (constant S_ .f32 0x00000000#32)
  :: StableHlo.binary main_while1b_v100 main_while1b_cst_36 main_while1b_v101 ((fun x v => Host.reduceAdd x v reducesTo_S1x32x64_S32x64_d0 h_S_) : Ct F S1x32x64 .f32 → Ct F S_ .f32 → Ct F S32x64 .f32)
  :: StableHlo.binary main_while1b_v86 main_while1b_v101 main_while1b_v102 (addf : Ct F S32x64 .f32 → Ct F S32x64 .f32 → Ct F S32x64 .f32)
  :: StableHlo.unary main_v56_4 main_while1b_v103 (broadcastInDim S2x32x64 ![0, 1, 2] bcast_S1x32x64_S2x32x64_0_1_2 : Ct F S1x32x64 .f32 → Ct F S2x32x64 .f32)
  :: StableHlo.binary main_while1b_v103 main_while1b_v78 main_while1b_v104 (mulf : Ct F S2x32x64 .f32 → Ct F S2x32x64 .f32 → Ct F S2x32x64 .f32)
  :: StableHlo.binary main_while1b_v81 main_while1b_v104 main_while1b_v105 (addf : Ct F S2x32x64 .f32 → Ct F S2x32x64 .f32 → Ct F S2x32x64 .f32)
  :: StableHlo.binary main_while1b_v78 main_while1b_v76 main_while1b_v106 (mulf : Ct F S2x32x64 .f32 → Ct F S2x32x64 .f32 → Ct F S2x32x64 .f32)
  :: StableHlo.nullary main_while1b_cst_37 (constant S_ .f32 0x00000000#32)
  :: StableHlo.binary main_while1b_v106 main_while1b_cst_37 main_while1b_v107 ((fun x v => Host.reduceAdd x v reducesTo_S2x32x64_S32x64_d0 h_S_) : Ct F S2x32x64 .f32 → Ct F S_ .f32 → Ct F S32x64 .f32)
  :: StableHlo.reshape main_while1b_v107 main_while1b_v108 (rfl : (.f32 : EltTy) = .f32) shapeCasts_S32x64_S1x32x64
  :: StableHlo.nullary main_while1b_cst_38 (constant S_ .f32 0x00000000#32)
  :: StableHlo.binary main_while1b_v108 main_while1b_cst_38 main_while1b_v109 ((fun x v => Host.reduceAdd x v reducesTo_S1x32x64_S32x64_d0 h_S_) : Ct F S1x32x64 .f32 → Ct F S_ .f32 → Ct F S32x64 .f32)
  :: StableHlo.binary main_while1b_v93 main_while1b_v109 main_while1b_v110 (addf : Ct F S32x64 .f32 → Ct F S32x64 .f32 → Ct F S32x64 .f32)
  :: [] )
theorem bwd5_sub : (bwd5 : List (HloOp τ sig (Elt F))).Forall fun op => op.bufs ⊆ StableHlo.tcRefs τ sig :=
  ⟨StableHlo.binary_bufs_sub .., StableHlo.binary_bufs_sub .., StableHlo.unary_bufs_sub .., StableHlo.binary_bufs_sub .., StableHlo.binary_bufs_sub .., StableHlo.nullary_bufs_sub .., StableHlo.binary_bufs_sub .., StableHlo.reshape_bufs_sub .., StableHlo.nullary_bufs_sub .., StableHlo.binary_bufs_sub .., StableHlo.binary_bufs_sub .., StableHlo.unary_bufs_sub .., StableHlo.binary_bufs_sub .., StableHlo.binary_bufs_sub .., StableHlo.nullary_bufs_sub .., StableHlo.binary_bufs_sub .., StableHlo.reshape_bufs_sub .., StableHlo.nullary_bufs_sub .., StableHlo.binary_bufs_sub .., StableHlo.binary_bufs_sub .., StableHlo.unary_bufs_sub .., StableHlo.unary_bufs_sub .., StableHlo.binary_bufs_sub .., StableHlo.binary_bufs_sub .., StableHlo.binary_bufs_sub .., StableHlo.nullary_bufs_sub .., StableHlo.binary_bufs_sub .., StableHlo.reshape_bufs_sub .., StableHlo.nullary_bufs_sub .., StableHlo.binary_bufs_sub .., StableHlo.binary_bufs_sub .., StableHlo.unary_bufs_sub .., StableHlo.binary_bufs_sub .., StableHlo.binary_bufs_sub .., StableHlo.binary_bufs_sub .., StableHlo.nullary_bufs_sub .., StableHlo.binary_bufs_sub .., StableHlo.reshape_bufs_sub .., StableHlo.nullary_bufs_sub .., StableHlo.binary_bufs_sub .., StableHlo.binary_bufs_sub ..⟩
theorem bwd5_fresh : (bwd5 : List (HloOp τ sig (Elt F))).Forall fun op => op.fresh = ∅ :=
  StableHlo.forall_fresh_of_map rfl
/-- What `bwd5` writes. -/
abbrev bwd5_W : List (Ref sig .tc) := [main_while1b_v78, main_while1b_v79, main_while1b_v80, main_while1b_v81, main_while1b_v82, main_while1b_cst_31, main_while1b_v83, main_while1b_v84, main_while1b_cst_32, main_while1b_v85, main_while1b_v86, main_while1b_v87, main_while1b_v88, main_while1b_v89, main_while1b_cst_33, main_while1b_v90, main_while1b_v91, main_while1b_cst_34, main_while1b_v92, main_while1b_v93, main_while1b_v94, main_while1b_v95, main_while1b_v96, main_while1b_v97, main_while1b_v98, main_while1b_cst_35, main_while1b_v99, main_while1b_v100, main_while1b_cst_36, main_while1b_v101, main_while1b_v102, main_while1b_v103, main_while1b_v104, main_while1b_v105, main_while1b_v106, main_while1b_cst_37, main_while1b_v107, main_while1b_v108, main_while1b_cst_38, main_while1b_v109, main_while1b_v110]
theorem bwd5_writes : (bwd5 : List (HloOp τ sig (Elt F))).Forall fun op => op.writes ⊆ (bwd5_W.map (Proc.devRef (τ := τ) .tc)).toFinset :=
  StableHlo.forall_writes_sub_of_map rfl

/-- Part 6 of one trip of the backward loop. -/
abbrev bwd6 : List (HloOp τ sig (Elt F)) :=
  [ StableHlo.TRef.unary (.of main_while1b_v78 : StableHlo.TRef sig ⟨S2x32x64, .f32⟩) (.of main_while1b_call10_v0 : StableHlo.TRef sig ⟨S1x2x32x64, .f32⟩) (broadcastInDim S1x2x32x64 ![1, 2, 3] bcast_S2x32x64_S1x2x32x64_1_2_3),
    StableHlo.TRef.nullary (.of main_while1b_call10_c : StableHlo.TRef sig ⟨S_, .i32⟩) (constantI S_ 32 0#32),
    StableHlo.TRef.nullary (.of main_while1b_call10_c_0 : StableHlo.TRef sig ⟨S_, .i32⟩) (constantI S_ 32 0#32),
    StableHlo.TRef.nullary (.of main_while1b_call10_c_1 : StableHlo.TRef sig ⟨S_, .i32⟩) (constantI S_ 32 0#32),
    StableHlo.TRef.binaryIndexed (.of main_v56_13 : StableHlo.TRef sig ⟨S2048x2x32x64, .f32⟩) (.of main_while1b_call10_v0 : StableHlo.TRef sig ⟨S1x2x32x64, .f32⟩) ![(.of main_while1b_v73 : StableHlo.TRef sig ⟨S_, .i32⟩), (.of main_while1b_call10_c : StableHlo.TRef sig ⟨S_, .i32⟩), (.of main_while1b_call10_c_0 : StableHlo.TRef sig ⟨S_, .i32⟩), (.of main_while1b_call10_c_1 : StableHlo.TRef sig ⟨S_, .i32⟩)] (.of main_while1b_v111 : StableHlo.TRef sig ⟨S2048x2x32x64, .f32⟩) (fun x u i => Host.dynamicUpdateSlice x u (fun k => (i k (Shape.Idx.first h_S_)).toInt) updateFits_S2048x2x32x64_S1x2x32x64) ]
theorem bwd6_sub : (bwd6 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
theorem bwd6_fresh : (bwd6 : List (HloOp τ sig (Elt F))).Forall fun op => op.fresh = ∅ :=
  StableHlo.forall_fresh_of_map rfl
/-- What `bwd6` writes. -/
abbrev bwd6_W : List (Ref sig .tc) := [main_while1b_call10_v0, main_while1b_call10_c, main_while1b_call10_c_0, main_while1b_call10_c_1, main_while1b_v111]
theorem bwd6_writes : (bwd6 : List (HloOp τ sig (Elt F))).Forall fun op => op.writes ⊆ (bwd6_W.map (Proc.devRef (τ := τ) .tc)).toFinset :=
  StableHlo.forall_writes_sub_of_map rfl

/-- Part 7 of one trip of the backward loop. -/
abbrev bwd7 : List (HloOp τ sig (Elt F)) :=
  [ StableHlo.TRef.unary (.of main_while1b_v79 : StableHlo.TRef sig ⟨S2x32x64, .f32⟩) (.of main_while1b_call11_v0 : StableHlo.TRef sig ⟨S1x2x32x64, .f32⟩) (broadcastInDim S1x2x32x64 ![1, 2, 3] bcast_S2x32x64_S1x2x32x64_1_2_3),
    StableHlo.TRef.nullary (.of main_while1b_call11_c : StableHlo.TRef sig ⟨S_, .i32⟩) (constantI S_ 32 0#32),
    StableHlo.TRef.nullary (.of main_while1b_call11_c_0 : StableHlo.TRef sig ⟨S_, .i32⟩) (constantI S_ 32 0#32),
    StableHlo.TRef.nullary (.of main_while1b_call11_c_1 : StableHlo.TRef sig ⟨S_, .i32⟩) (constantI S_ 32 0#32),
    StableHlo.TRef.binaryIndexed (.of main_v56_14 : StableHlo.TRef sig ⟨S2048x2x32x64, .f32⟩) (.of main_while1b_call11_v0 : StableHlo.TRef sig ⟨S1x2x32x64, .f32⟩) ![(.of main_while1b_v73 : StableHlo.TRef sig ⟨S_, .i32⟩), (.of main_while1b_call11_c : StableHlo.TRef sig ⟨S_, .i32⟩), (.of main_while1b_call11_c_0 : StableHlo.TRef sig ⟨S_, .i32⟩), (.of main_while1b_call11_c_1 : StableHlo.TRef sig ⟨S_, .i32⟩)] (.of main_while1b_v112 : StableHlo.TRef sig ⟨S2048x2x32x64, .f32⟩) (fun x u i => Host.dynamicUpdateSlice x u (fun k => (i k (Shape.Idx.first h_S_)).toInt) updateFits_S2048x2x32x64_S1x2x32x64) ]
theorem bwd7_sub : (bwd7 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
theorem bwd7_fresh : (bwd7 : List (HloOp τ sig (Elt F))).Forall fun op => op.fresh = ∅ :=
  StableHlo.forall_fresh_of_map rfl
/-- What `bwd7` writes. -/
abbrev bwd7_W : List (Ref sig .tc) := [main_while1b_call11_v0, main_while1b_call11_c, main_while1b_call11_c_0, main_while1b_call11_c_1, main_while1b_v112]
theorem bwd7_writes : (bwd7 : List (HloOp τ sig (Elt F))).Forall fun op => op.writes ⊆ (bwd7_W.map (Proc.devRef (τ := τ) .tc)).toFinset :=
  StableHlo.forall_writes_sub_of_map rfl

/-- Part 8 of one trip of the backward loop. -/
abbrev bwd8 : List (HloOp τ sig (Elt F)) :=
  [ StableHlo.nullary main_while1b_c_39 (constantI S_ 32 1#32),
    StableHlo.binary main_v56_8 main_while1b_c_39 main_while1b_v113 (addi : Ct F S_ .i32 → Ct F S_ .i32 → Ct F S_ .i32),
    StableHlo.unary main_while1b_v113 main_v56_8 id,
    StableHlo.unary main_while1b_v110 main_v56_9 id,
    StableHlo.unary main_while1b_v102 main_v56_10 id,
    StableHlo.unary main_while1b_v105 main_v56_11 id,
    StableHlo.unary main_while1b_v97 main_v56_12 id,
    StableHlo.unary main_while1b_v111 main_v56_13 id,
    StableHlo.unary main_while1b_v112 main_v56_14 id ]
theorem bwd8_sub : (bwd8 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
theorem bwd8_fresh : (bwd8 : List (HloOp τ sig (Elt F))).Forall fun op => op.fresh = ∅ :=
  StableHlo.forall_fresh_of_map rfl
/-- What `bwd8` writes. -/
abbrev bwd8_W : List (Ref sig .tc) := [main_while1b_c_39, main_while1b_v113, main_v56_8, main_v56_9, main_v56_10, main_v56_11, main_v56_12, main_v56_13, main_v56_14]
theorem bwd8_writes : (bwd8 : List (HloOp τ sig (Elt F))).Forall fun op => op.writes ⊆ (bwd8_W.map (Proc.devRef (τ := τ) .tc)).toFinset :=
  StableHlo.forall_writes_sub_of_map rfl

theorem main_part0_chain (c : Dev nD) : main_part0 (F := F) c = (Pipeline.chainK
  [ StableHlo.seq preOps,
    HostLoop.enter 0 ]
  (StableHlo.seq midOps) : HostProg F) := by
  rewrite [StableHlo.chainK_seq_cons, Pipeline.chainK_cons]
  chain_rfl

theorem main_part1_chain (c : Dev nD) : main_part1 (F := F) c = (Pipeline.chain
  [ StableHlo.seq midOps2,
    HostLoop.enter 1,
    StableHlo.seq postOps ] : HostProg F) := by
  rewrite [StableHlo.chain_seq_cons, Pipeline.chain_cons, StableHlo.chain_seq_cons]
  chain_rfl

theorem main_chain (c : Dev nD) : main (F := F) c = (Pipeline.chain
  [ StableHlo.seq preOps,
    HostLoop.enter 0,
    StableHlo.seq midOps,
    StableHlo.seq midOps2,
    HostLoop.enter 1,
    StableHlo.seq postOps ] : HostProg F) := by
  show (main_part0 (F := F) c >>= fun _ => main_part1 (F := F) c) = _
  rewrite [main_part1_chain, main_part0_chain, Pipeline.chainK_bind_chain]
  chain_rfl

theorem while0_body_chain : main_while0_body (F := F) = (Pipeline.chain
  [ StableHlo.seq fwd0,
    StableHlo.seq fwd1,
    StableHlo.seq fwd2,
    StableHlo.seq fwd3,
    StableHlo.seq fwd4,
    StableHlo.seq fwd5,
    StableHlo.seq fwd6,
    StableHlo.seq fwd7 ] : HostProg F) := by
  rewrite [Pipeline.chain_cons, Pipeline.chain_cons, StableHlo.chain_seq_cons, Pipeline.chain_cons, Pipeline.chain_cons, Pipeline.chain_cons, Pipeline.chain_cons, StableHlo.chain_seq_cons]
  chain_rfl

theorem while1_body_chain : main_while1_body (F := F) = (Pipeline.chain
  [ StableHlo.seq bwd0,
    StableHlo.seq bwd1,
    StableHlo.seq bwd2,
    StableHlo.seq bwd3,
    StableHlo.seq bwd4,
    StableHlo.seq bwd5,
    StableHlo.seq bwd6,
    StableHlo.seq bwd7,
    StableHlo.seq bwd8 ] : HostProg F) := by
  rewrite [StableHlo.chain_seq_cons, Pipeline.chain_cons, Pipeline.chain_cons, Pipeline.chain_cons, Pipeline.chain_cons, StableHlo.chain_seq_cons, Pipeline.chain_cons, Pipeline.chain_cons, StableHlo.chain_seq_cons]
  chain_rfl

end Cert.RefRun

end
-- ==== Proof.TwoLoops.lean ====
/-
  The run of a host program with two counted loops: stretches of operations, a loop, more stretches, a second loop and
  stretches after it. Every buffer ends at the fold of all of them in order (`twoLoopsEnd`), each loop folded its number
  of trips. The segments are the library's (`segsOf` for a stretch, `loopSeg` for a counted loop).
-/
module

public import Idealize.ShloMosaic.Lib.StableHlo.RunLoop

@[expose] public section

noncomputable section

namespace Cert.TwoLoops

open Idealize.ShloMosaic Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Pipeline (CSeg Ticket PCfg ucRefs unscopedBufs_held sub_ucRefs)
open TcCoe

variable {nD : Nat} {τ : Topo} {sig : RefSig} {F : FTy → Type} {Λ₀ : Idealize.SL.Sem.Labels}

/-- The type of a host program with `nL` loops and no kernel. -/
abbrev HP (pcs : Fin 0 → PCfg sig Λ₀ (Elt F)) (nL : Nat) (A : Type) : Type _ :=
  Prog (TpuEff nD τ sig (Elt F) (HostLoop.Sig (Pipeline.Sig Λ₀ (Fin 0) fun p => (pcs p).Adm) nL) .tc) A

/-- What the core owes, carried beside the buffers. -/
abbrev Owed (c : Dev nD) : sProp (MT nD τ sig Unit (Elt F) ℕ (Option PUnit) ℕ) :=
  iprop(∃ W, owes (c : Thread nD τ) (0 : CellTallies nD τ sig Unit) W)

/-- A condition that says when to go on and leaves the buffers at `condOps` is a loop condition of the segments, with what the core
    owes framed through. -/
theorem loopCond {pcs : Fin 0 → PCfg sig Λ₀ (Elt F)} {defs₀ : Defs nD τ sig (Elt F) Λ₀} {nL : Nat}
    {loops : Fin nL → HP (nD := nD) (τ := τ) pcs nL PUnit} {cond : HP (nD := nD) (τ := τ) pcs nL (Elt F .i1)}
    {condOps : List (HloOp τ sig (Elt F))} {bodyI : List (List (HloOp τ sig (Elt F)))} {W₀ : Dev nD → Valuation τ sig (Elt F)} {n : ℕ}
    (hcond : CondSpec pcs defs₀ loops cond condOps bodyI W₀ n) :
    LoopCond pcs defs₀ Variants.none loops (Owed (F := F)) cond condOps bodyI W₀ n := by
  intro k hk c bd
  have step := (sep_mono_left (Q := Owed (F := F) c) (hcond k hk c bd)).trans (wp_frame_r _ _ _)
  refine BIBase.Entails.trans ?_ (step.trans (wp_mono _ _ _ fun v => ?_))
  · iintro ⟨Hb, Hh, Ho⟩
    isplitl [Hb Hh]
    · isplitl [Hb]
      · iexact Hb
      · iexact Hh
    · iexact Ho
  · iintro ⟨⟨%hv, Hb, Hh⟩, Ho⟩
    isplitr
    · ipureintro; exact hv
    isplitl [Hb]
    · iexact Hb
    isplitl [Hh]
    · iexact Hh
    · iexact Ho

/-- The buffers at the end: before, the first loop's `n₁` trips, between, the second loop's `n₂` trips, after. -/
abbrev twoLoopsEnd (pre : List (List (HloOp τ sig (Elt F)))) (cond₁ : List (HloOp τ sig (Elt F))) (body₁ : List (List (HloOp τ sig (Elt F)))) (n₁ : ℕ)
    (mid : List (List (HloOp τ sig (Elt F)))) (cond₂ : List (HloOp τ sig (Elt F))) (body₂ : List (List (HloOp τ sig (Elt F)))) (n₂ : ℕ)
    (post : List (List (HloOp τ sig (Elt F)))) (W : Dev nD → Valuation τ sig (Elt F)) (c : Dev nD) : Valuation τ sig (Elt F) :=
  afterL post (after cond₂ (atTrip cond₂ body₂
    (fun c => afterL mid (after cond₁ (atTrip cond₁ body₁ (fun c => afterL pre (W c)) n₁ c))) n₂ c))

theorem run_two_loops [∀ e, Nonempty (Elt F e)]
    (pcs : Fin 0 → PCfg sig Λ₀ (Elt F)) (defs₀ : Defs nD τ sig (Elt F) Λ₀) {nL : Nat}
    (loops : Fin nL → HP (nD := nD) (τ := τ) pcs nL PUnit) (main : Dev nD → HP (nD := nD) (τ := τ) pcs nL PUnit)
    (l₁ l₂ : Fin nL) (condP₁ condP₂ : HP (nD := nD) (τ := τ) pcs nL (Elt F .i1)) (bodyP₁ bodyP₂ : HP (nD := nD) (τ := τ) pcs nL PUnit)
    (hl₁ : loops l₁ = HostLoop.step l₁ condP₁ bodyP₁) (hl₂ : loops l₂ = HostLoop.step l₂ condP₂ bodyP₂)
    (pre mid post body₁ body₂ : List (List (HloOp τ sig (Elt F)))) (cond₁ cond₂ : List (HloOp τ sig (Elt F)))
    (hpre : Plain pre) (hmid : Plain mid) (hpost : Plain post) (hbody₁ : Plain body₁) (hbody₂ : Plain body₂)
    (hmain : ∀ c, main c = Pipeline.chain ((pre.map fun ops => (seq ops : Prog _ PUnit)) ++
      HostLoop.enter l₁ :: ((mid.map fun ops => (seq ops : Prog _ PUnit)) ++ HostLoop.enter l₂ :: post.map fun ops => (seq ops : Prog _ PUnit))))
    (hb₁ : bodyP₁ = Pipeline.chain (body₁.map fun ops => (seq ops : Prog _ PUnit)))
    (hb₂ : bodyP₂ = Pipeline.chain (body₂.map fun ops => (seq ops : Prog _ PUnit)))
    (hsem : ∀ sm : SemLoc sig, sm.isScoped .tc = true) (n₁ n₂ : ℕ) (m : (ℓ : Loc nD τ sig) → Buf (Elt F) ℓ) (ρ : Dev nD → PrngReg)
    (hc₁ : CondSpec pcs defs₀ loops condP₁ cond₁ body₁ (fun c => afterL pre (launchContents m c)) n₁)
    (hc₂ : CondSpec pcs defs₀ loops condP₂ cond₂ body₂
      (fun c => afterL mid (after cond₁ (atTrip cond₁ body₁ (fun c => afterL pre (launchContents m c)) n₁ c))) n₂) :
    θ_run (HostLoop.defs loops (Pipeline.defs pcs defs₀)) (onTc (τ := τ) main) ⟨m, fun _ => 0, ρ⟩
      (fun r => (∀ (c : Dev nD) (b : Ref sig .tc), (Proc.devRef .tc b : DevRef τ sig).isScoped = false →
        r.2.mem ((c.tc : Thread nD τ).loc b)
          = twoLoopsEnd pre cond₁ body₁ n₁ mid cond₂ body₂ n₂ post (launchContents m) c (Proc.devRef .tc b)) ∧ r.2.sem = fun _ => 0) := by
  let adm : (p : Fin 0) → (pcs p).Adm := fun p => p.elim0
  let tk : Fin 0 → Ticket (Ix := Unit) (Name := ℕ) (U := Option PUnit) (Lvl := ℕ) (nD := nD) (τ := τ) pcs adm := fun j => j.elim0
  let L : GSem nD τ sig → Finset Unit := fun _ => ∅
  let lv : GSem nD τ sig → Unit → ℕ := fun _ _ => 0
  let W₁ : Dev nD → Valuation τ sig (Elt F) := fun c => afterL pre (launchContents m c)
  let W₂ : Dev nD → Valuation τ sig (Elt F) := fun c => after cond₁ (atTrip cond₁ body₁ W₁ n₁ c)
  let W₃ : Dev nD → Valuation τ sig (Elt F) := fun c => afterL mid (W₂ c)
  let W₄ : Dev nD → Valuation τ sig (Elt F) := fun c => after cond₂ (atTrip cond₂ body₂ W₃ n₂ c)
  let segs : List (CSeg pcs adm defs₀ Variants.none L lv loops tk) :=
    segsOf _ _ _ _ _ _ _ _ (Owed (F := F)) pre hpre (launchContents m)
      ++ loopSeg _ _ _ _ _ _ _ _ l₁ condP₁ bodyP₁ hl₁ cond₁ body₁ hbody₁ hb₁ n₁ W₁ (Owed (F := F)) (loopCond hc₁)
        :: (segsOf _ _ _ _ _ _ _ _ (Owed (F := F)) mid hmid W₂
          ++ loopSeg _ _ _ _ _ _ _ _ l₂ condP₂ bodyP₂ hl₂ cond₂ body₂ hbody₂ hb₂ n₂ W₃ (Owed (F := F)) (loopCond hc₂)
            :: segsOf _ _ _ _ _ _ _ _ (Owed (F := F)) post hpost W₄)
  have hprog : segs.map CSeg.prog = (pre.map fun ops => (seq ops : Prog _ PUnit)) ++
      HostLoop.enter l₁ :: ((mid.map fun ops => (seq ops : Prog _ PUnit)) ++ HostLoop.enter l₂ :: post.map fun ops => (seq ops : Prog _ PUnit)) := by
    simp only [segs, List.map_append, List.map_cons, segsOf_prog]
    rfl
  have hchains : CSeg.Chains (fun c => iprop(held (c : Thread nD τ) (ucRefs τ sig) (launchContents m c) ∗ Owed (F := F) c)) segs
      (fun c => iprop(held (c : Thread nD τ) (ucRefs τ sig) (afterL post (W₄ c)) ∗ Owed (F := F) c)) :=
    CSeg.Chains.append (segsOf_chains _ _ _ _ _ _ _ _ (Owed (F := F)) pre hpre _)
      ⟨fun _ => .rfl, CSeg.Chains.append (segsOf_chains _ _ _ _ _ _ _ _ (Owed (F := F)) mid hmid W₂)
        ⟨fun _ => .rfl, segsOf_chains _ _ _ _ _ _ _ _ (Owed (F := F)) post hpost W₄⟩⟩
  exact Pipeline.θ_run_regions_loop_kit_sems (Ix := Unit) (Name := ℕ) (U := Option PUnit) (Lvl := ℕ) (J := Fin 0) (P := Fin 0) (Val := Elt F)
    pcs adm (fun k => k.1.elim0) defs₀ Variants.none L lv loops tk m ρ main segs
    (fun c Q => by
      rw [hmain c]
      show wp _ _ _ (Pipeline.chain (segs.map CSeg.prog)) Q ⊢ _
      rw [hprog])
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp (MT nD τ sig Unit (Elt F) ℕ (Option PUnit) ℕ)) ⊢ bigSep Finset.univ (fun _ : Dev nD => (BI.emp : sProp (MT nD τ sig Unit (Elt F) ℕ (Option PUnit) ℕ))) from by rw [BI.bigSep_emp_const])
        iempintro)
    (T₀ := fun c => iprop(held (c : Thread nD τ) (ucRefs τ sig) (launchContents m c) ∗ Owed (F := F) c))
    (Tₙ := fun c => iprop(held (c : Thread nD τ) (ucRefs τ sig) (afterL post (W₄ c))))
    (hch := hchains)
    (hinit := by
      refine Pipeline.initEach L lv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = afterL post (W₄ c) b)
    (hfin := fun c s' => by
      unfold held
      iintro ⟨Hh, HSI⟩
      ihave Hr := (pointsTo_read_all (ucRefs τ sig) (fun b => ((c : Dev nD), b)) (fun b => afterL post (W₄ c) b) s') $$ [Hh HSI]
      · isplitl [Hh] <;> iassumption
      icases Hr with ⟨%h, HSI⟩
      imodintro
      isplitr; · ipureintro; exact h
      iexact HSI)
    (hQ := fun _ h hz => ⟨fun c b hb => h c _ (devRef_mem_ucRefs b hb), funext fun g => hz g (.inr (hsem g.2))⟩)

end Cert.TwoLoops

end
-- ==== Proof.RefRun.lean ====
/-
  The run of the reference program: every execution ends, and every buffer ends at the fold of the operations before the
  forward loop, 2048 trips of it, the operations between the loops, 2048 trips of the backward loop and the operations
  after it.
-/
module

public import proofs.«01_k».proof.Proof.RefOps
public import proofs.«01_k».proof.Proof.TwoLoops
public import Idealize.ShloMosaic.Lib.Scf.ExitTest
public import Idealize.ShloMosaic.Lib.Scf.Counter

@[expose] public section

noncomputable section

namespace Cert.RefRun

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-- The stretches before the forward loop, of its body, between the loops, of the backward loop's body and after it. -/
abbrev preI : List (List (HloOp τ sig (Elt F))) := [preOps]
abbrev fwdI : List (List (HloOp τ sig (Elt F))) := [fwd0, fwd1, fwd2, fwd3, fwd4, fwd5, fwd6, fwd7]
abbrev midI : List (List (HloOp τ sig (Elt F))) := [midOps, midOps2]
abbrev bwdI : List (List (HloOp τ sig (Elt F))) := [bwd0, bwd1, bwd2, bwd3, bwd4, bwd5, bwd6, bwd7, bwd8]
abbrev postI : List (List (HloOp τ sig (Elt F))) := [postOps]

theorem hpre : Plain (preI (F := F)) := .cons preOps_sub (hf := List.forall_iff_forall_mem.mp preOps_fresh) (.nil)
theorem hfwd : Plain (fwdI (F := F)) := .cons fwd0_sub (hf := List.forall_iff_forall_mem.mp fwd0_fresh) (.cons fwd1_sub (hf := List.forall_iff_forall_mem.mp fwd1_fresh) (.cons fwd2_sub (hf := List.forall_iff_forall_mem.mp fwd2_fresh) (.cons fwd3_sub (hf := List.forall_iff_forall_mem.mp fwd3_fresh) (.cons fwd4_sub (hf := List.forall_iff_forall_mem.mp fwd4_fresh) (.cons fwd5_sub (hf := List.forall_iff_forall_mem.mp fwd5_fresh) (.cons fwd6_sub (hf := List.forall_iff_forall_mem.mp fwd6_fresh) (.cons fwd7_sub (hf := List.forall_iff_forall_mem.mp fwd7_fresh) (.nil))))))))
theorem hmid : Plain (midI (F := F)) := .cons midOps_sub (hf := List.forall_iff_forall_mem.mp midOps_fresh) (.cons midOps2_sub (hf := List.forall_iff_forall_mem.mp midOps2_fresh) (.nil))
theorem hbwd : Plain (bwdI (F := F)) := .cons bwd0_sub (hf := List.forall_iff_forall_mem.mp bwd0_fresh) (.cons bwd1_sub (hf := List.forall_iff_forall_mem.mp bwd1_fresh) (.cons bwd2_sub (hf := List.forall_iff_forall_mem.mp bwd2_fresh) (.cons bwd3_sub (hf := List.forall_iff_forall_mem.mp bwd3_fresh) (.cons bwd4_sub (hf := List.forall_iff_forall_mem.mp bwd4_fresh) (.cons bwd5_sub (hf := List.forall_iff_forall_mem.mp bwd5_fresh) (.cons bwd6_sub (hf := List.forall_iff_forall_mem.mp bwd6_fresh) (.cons bwd7_sub (hf := List.forall_iff_forall_mem.mp bwd7_fresh) (.cons bwd8_sub (hf := List.forall_iff_forall_mem.mp bwd8_fresh) (.nil)))))))))
theorem hpost : Plain (postI (F := F)) := .cons postOps_sub (hf := List.forall_iff_forall_mem.mp postOps_fresh) (.nil)

variable (m : (ℓ : Loc nD τ sig) → Buf (Elt F) ℓ) (ρ : Dev nD → PrngReg)

/-! ## The forward loop's condition -/

/-- The condition's operations: the bound 2048, and the trip counter compared with it. -/
abbrev fwdCond : List (HloOp τ sig (Elt F)) :=
  [ StableHlo.nullary main_while0c_c_27 (constantI S_ 32 2048#32),
    StableHlo.binary main_v18_6 main_while0c_c_27 main_while0c_v72 (cmpi .slt) ]
/-- What `fwdCond` writes. -/
abbrev fwdCond_W : List (Ref sig .tc) := [main_while0c_c_27, main_while0c_v72]
theorem fwdCond_writes : (fwdCond : List (HloOp τ sig (Elt F))).Forall fun op => op.writes ⊆ (fwdCond_W.map (Proc.devRef (τ := τ) .tc)).toFinset :=
  StableHlo.forall_writes_sub_of_map rfl

/-- The buffers at the forward loop's entry. -/
abbrev fwdEntry (c : Dev nD) : Valuation τ sig (Elt F) := afterL preI (launchContents m c)
/-- The buffers before the condition is run for the `k`-th time. -/
abbrev fwdAt (k : ℕ) (c : Dev nD) : Valuation τ sig (Elt F) := atTrip fwdCond fwdI (fwdEntry m) k c

set_option maxRecDepth 100000 in
theorem fwd_ctr_step (X : Valuation τ sig (Elt F)) :
    after fwd7 X (Proc.devRef .tc main_v18_6) = addi (X (Proc.devRef .tc main_v18_6)) (constantI S_ 32 1#32) := by
  after_results
  rfl

/-- One trip adds one to the counter. -/
theorem fwd_ctr_trip (V : Valuation τ sig (Elt F)) :
    afterL fwdI (after fwdCond V) (Proc.devRef .tc main_v18_6) = addi (V (Proc.devRef .tc main_v18_6)) (constantI S_ 32 1#32) := by
  simp only [afterL_cons, afterL_nil]
  rw [fwd_ctr_step, after_of_writes_sub fwd6 _ fwd6_writes (by decide +kernel), after_of_writes_sub fwd5 _ fwd5_writes (by decide +kernel), after_of_writes_sub fwd4 _ fwd4_writes (by decide +kernel), after_of_writes_sub fwd3 _ fwd3_writes (by decide +kernel), after_of_writes_sub fwd2 _ fwd2_writes (by decide +kernel), after_of_writes_sub fwd1 _ fwd1_writes (by decide +kernel), after_of_writes_sub fwd0 _ fwd0_writes (by decide +kernel),
    after_of_writes_sub fwdCond _ fwdCond_writes (by decide +kernel)]

/-- The counter starts at zero. -/
theorem fwd_ctr_entry (c : Dev nD) : fwdEntry m c (Proc.devRef .tc main_v18_6) = fun _ => (0#32 : BitVec 32) := by
  simp only [fwdEntry, afterL_cons, afterL_nil]
  after_reads_simp
  rfl

/-- Before the `k`-th condition the counter is `k`. -/
theorem fwdAt_ctr (c : Dev nD) : ∀ k, fwdAt m k c (Proc.devRef .tc main_v18_6) = fun _ => Scf.iv 0#32 1#32 k
  | 0 => by rw [show fwdAt m 0 c = fwdEntry m c from rfl, fwd_ctr_entry, Scf.iv_zero]
  | k + 1 => by
    rw [show fwdAt m (k + 1) c = afterL fwdI (after fwdCond (fwdAt m k c)) from rfl, fwd_ctr_trip, fwdAt_ctr c k, Scf.iv_succ]
    rfl

set_option backward.isDefEq.respectTransparency.types false in
/-- The condition says to go on exactly before the first 2048 trips. -/
theorem fwd_cond_spec : CondSpec (pcfgs (F := F)) defs₀ loops (main_while0_cond (F := F)) fwdCond fwdI (fwdEntry m) 2048 := by
  intro k hk c bd
  have hctr := fwdAt_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (fwdAt m k c) main_v18_6 HostLoop.idx0)
        (HloOp.result _ (fwdAt m k c) main_while0c_c_27 HostLoop.idx0) = 1#1) (k < 2048)
    rw [nullary_result_ne _ _ _ _ (by decide), nullary_result, hctr]
    exact Scf.cmpi_slt_iv_ub_iff (lb := 0#32) (ub := 2048#32) (st := 1#32) (by decide) (show k ≤ Scf.trips 0#32 2048#32 1#32 from hk)
  isplitl [Hb]; · iexact Hb
  rw [after_cons, after_cons, after_nil]; iexact Hh

/-! ## The backward loop's condition -/

/-- The condition's operations: the bound 2048, and the trip counter compared with it. -/
abbrev bwdCond : List (HloOp τ sig (Elt F)) :=
  [ StableHlo.nullary main_while1c_c_29 (constantI S_ 32 2048#32),
    StableHlo.binary main_v56_8 main_while1c_c_29 main_while1c_v72 (cmpi .slt) ]
/-- What `bwdCond` writes. -/
abbrev bwdCond_W : List (Ref sig .tc) := [main_while1c_c_29, main_while1c_v72]
theorem bwdCond_writes : (bwdCond : List (HloOp τ sig (Elt F))).Forall fun op => op.writes ⊆ (bwdCond_W.map (Proc.devRef (τ := τ) .tc)).toFinset :=
  StableHlo.forall_writes_sub_of_map rfl

/-- The buffers at the backward loop's entry. -/
abbrev bwdEntry (c : Dev nD) : Valuation τ sig (Elt F) := afterL midI (after fwdCond (fwdAt m 2048 c))
/-- The buffers before the condition is run for the `k`-th time. -/
abbrev bwdAt (k : ℕ) (c : Dev nD) : Valuation τ sig (Elt F) := atTrip bwdCond bwdI (bwdEntry m) k c

set_option maxRecDepth 100000 in
theorem bwd_ctr_step (X : Valuation τ sig (Elt F)) :
    after bwd8 X (Proc.devRef .tc main_v56_8) = addi (X (Proc.devRef .tc main_v56_8)) (constantI S_ 32 1#32) := by
  after_results
  rfl

/-- One trip adds one to the counter. -/
theorem bwd_ctr_trip (V : Valuation τ sig (Elt F)) :
    afterL bwdI (after bwdCond V) (Proc.devRef .tc main_v56_8) = addi (V (Proc.devRef .tc main_v56_8)) (constantI S_ 32 1#32) := by
  simp only [afterL_cons, afterL_nil]
  rw [bwd_ctr_step, after_of_writes_sub bwd7 _ bwd7_writes (by decide +kernel), after_of_writes_sub bwd6 _ bwd6_writes (by decide +kernel), after_of_writes_sub bwd5 _ bwd5_writes (by decide +kernel), after_of_writes_sub bwd4 _ bwd4_writes (by decide +kernel), after_of_writes_sub bwd3 _ bwd3_writes (by decide +kernel), after_of_writes_sub bwd2 _ bwd2_writes (by decide +kernel), after_of_writes_sub bwd1 _ bwd1_writes (by decide +kernel), after_of_writes_sub bwd0 _ bwd0_writes (by decide +kernel),
    after_of_writes_sub bwdCond _ bwdCond_writes (by decide +kernel)]

/-- The counter starts at zero. -/
theorem bwd_ctr_entry (c : Dev nD) : bwdEntry m c (Proc.devRef .tc main_v56_8) = fun _ => (0#32 : BitVec 32) := by
  simp only [bwdEntry, afterL_cons, afterL_nil]
  after_reads_simp
  rfl

/-- Before the `k`-th condition the counter is `k`. -/
theorem bwdAt_ctr (c : Dev nD) : ∀ k, bwdAt m k c (Proc.devRef .tc main_v56_8) = fun _ => Scf.iv 0#32 1#32 k
  | 0 => by rw [show bwdAt m 0 c = bwdEntry m c from rfl, bwd_ctr_entry, Scf.iv_zero]
  | k + 1 => by
    rw [show bwdAt m (k + 1) c = afterL bwdI (after bwdCond (bwdAt m k c)) from rfl, bwd_ctr_trip, bwdAt_ctr c k, Scf.iv_succ]
    rfl

set_option backward.isDefEq.respectTransparency.types false in
/-- The condition says to go on exactly before the first 2048 trips. -/
theorem bwd_cond_spec : CondSpec (pcfgs (F := F)) defs₀ loops (main_while1_cond (F := F)) bwdCond bwdI (bwdEntry m) 2048 := by
  intro k hk c bd
  have hctr := bwdAt_ctr m c k
  unfold main_while1_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (bwdAt m k c) main_v56_8 HostLoop.idx0)
        (HloOp.result _ (bwdAt m k c) main_while1c_c_29 HostLoop.idx0) = 1#1) (k < 2048)
    rw [nullary_result_ne _ _ _ _ (by decide), nullary_result, hctr]
    exact Scf.cmpi_slt_iv_ub_iff (lb := 0#32) (ub := 2048#32) (st := 1#32) (by decide) (show k ≤ Scf.trips 0#32 2048#32 1#32 from hk)
  isplitl [Hb]; · iexact Hb
  rw [after_cons, after_cons, after_nil]; iexact Hh

/-- The buffers at the end. -/
abbrev refEnd (c : Dev nD) : Valuation τ sig (Elt F) := afterL postI (after bwdCond (bwdAt m 2048 c))

set_option maxRecDepth 100000 in
theorem run_fold : θ_run (defs (F := F)) (onTc (τ := τ) (main (F := F))) ⟨m, fun _ => 0, ρ⟩
    (fun r => (∀ (c : Dev nD) (b : Ref sig .tc), (Proc.devRef .tc b : DevRef τ sig).isScoped = false →
      r.2.mem ((c.tc : Thread nD τ).loc b) = refEnd m c (Proc.devRef .tc b)) ∧ r.2.sem = fun _ => 0) :=
  TwoLoops.run_two_loops (pcfgs (F := F)) defs₀ loops main 0 1 main_while0_cond main_while1_cond main_while0_body main_while1_body rfl rfl
    preI midI postI fwdI bwdI fwdCond bwdCond hpre hmid hpost hfwd hbwd
    (fun c => by rw [main_chain]; rfl) (by rw [while0_body_chain]; rfl) (by rw [while1_body_chain]; rfl) (by decide) 2048 2048 m ρ (fwd_cond_spec m) (bwd_cond_spec m)

end Cert.RefRun

end
-- ==== Proof.RefFrame.lean ====
/-
  What the reference's run leaves alone: a buffer that no operation of a loop's trip writes keeps its contents through all the
  trips, and the arguments keep theirs to the end.
-/
module

public import proofs.«01_k».proof.Proof.RefRun

@[expose] public section

noncomputable section

namespace Cert.RefRun

open Cert.ReferenceIdeal Cert.ReferenceIdeal.Gen
open Idealize.ShloMosaic Idealize.ShloMosaic.TcCoe Idealize.ShloMosaic.Tactic
open Idealize.SL Idealize.SL.Sem
open Idealize.ShloMosaic.StableHlo

variable {F : FTy → Type} [FloatOps F]
variable (m : (ℓ : Loc nD τ sig) → Buf (Elt F) ℓ) (ρ : Dev nD → PrngReg)

/-- Everything a trip of the forward loop writes, its condition's operations included. -/
abbrev fwdTrip_W : List (Ref sig .tc) := (fwdCond_W ++ fwd0_W ++ fwd1_W ++ fwd2_W ++ fwd3_W ++ fwd4_W ++ fwd5_W ++ fwd6_W ++ fwd7_W)
/-- A buffer that no operation of the forward loop's trip writes keeps its contents through a trip. -/
theorem fwd_keep (V : Valuation τ sig (Elt F)) (r : Ref sig .tc) (h : r ∉ fwdTrip_W) :
    afterL fwdI (after fwdCond V) (Proc.devRef .tc r) = V (Proc.devRef .tc r) := by
  simp only [List.mem_append, not_or] at h
  obtain ⟨⟨⟨⟨⟨⟨⟨⟨h0, h1⟩, h2⟩, h3⟩, h4⟩, h5⟩, h6⟩, h7⟩, h8⟩ := h
  simp only [afterL_cons, afterL_nil]
  rw [after_of_writes_sub fwd7 _ fwd7_writes h8, after_of_writes_sub fwd6 _ fwd6_writes h7, after_of_writes_sub fwd5 _ fwd5_writes h6, after_of_writes_sub fwd4 _ fwd4_writes h5, after_of_writes_sub fwd3 _ fwd3_writes h4, after_of_writes_sub fwd2 _ fwd2_writes h3, after_of_writes_sub fwd1 _ fwd1_writes h2, after_of_writes_sub fwd0 _ fwd0_writes h1, after_of_writes_sub fwdCond _ fwdCond_writes h0]

/-- The same through every number of trips. -/
theorem fwdAt_keep (c : Dev nD) (r : Ref sig .tc) (h : r ∉ fwdTrip_W) : ∀ k, fwdAt m k c (Proc.devRef .tc r) = fwdEntry m c (Proc.devRef .tc r)
  | 0 => rfl
  | k + 1 => by
    rw [show fwdAt m (k + 1) c = afterL fwdI (after fwdCond (fwdAt m k c)) from rfl, fwd_keep _ r h, fwdAt_keep c r h k]

/-- Everything a trip of the backward loop writes, its condition's operations included. -/
abbrev bwdTrip_W : List (Ref sig .tc) := (bwdCond_W ++ bwd0_W ++ bwd1_W ++ bwd2_W ++ bwd3_W ++ bwd4_W ++ bwd5_W ++ bwd6_W ++ bwd7_W ++ bwd8_W)
/-- A buffer that no operation of the backward loop's trip writes keeps its contents through a trip. -/
theorem bwd_keep (V : Valuation τ sig (Elt F)) (r : Ref sig .tc) (h : r ∉ bwdTrip_W) :
    afterL bwdI (after bwdCond V) (Proc.devRef .tc r) = V (Proc.devRef .tc r) := by
  simp only [List.mem_append, not_or] at h
  obtain ⟨⟨⟨⟨⟨⟨⟨⟨⟨h0, h1⟩, h2⟩, h3⟩, h4⟩, h5⟩, h6⟩, h7⟩, h8⟩, h9⟩ := h
  simp only [afterL_cons, afterL_nil]
  rw [after_of_writes_sub bwd8 _ bwd8_writes h9, after_of_writes_sub bwd7 _ bwd7_writes h8, after_of_writes_sub bwd6 _ bwd6_writes h7, after_of_writes_sub bwd5 _ bwd5_writes h6, after_of_writes_sub bwd4 _ bwd4_writes h5, after_of_writes_sub bwd3 _ bwd3_writes h4, after_of_writes_sub bwd2 _ bwd2_writes h3, after_of_writes_sub bwd1 _ bwd1_writes h2, after_of_writes_sub bwd0 _ bwd0_writes h1, after_of_writes_sub bwdCond _ bwdCond_writes h0]

/-- The same through every number of trips. -/
theorem bwdAt_keep (c : Dev nD) (r : Ref sig .tc) (h : r ∉ bwdTrip_W) : ∀ k, bwdAt m k c (Proc.devRef .tc r) = bwdEntry m c (Proc.devRef .tc r)
  | 0 => rfl
  | k + 1 => by
    rw [show bwdAt m (k + 1) c = afterL bwdI (after bwdCond (bwdAt m k c)) from rfl, bwd_keep _ r h, bwdAt_keep c r h k]

/-- From the launch to the backward loop's entry. -/
theorem bwdEntry_keep (c : Dev nD) (r : Ref sig .tc) (h₀ : r ∉ preOps_W) (h₁ : r ∉ fwdTrip_W) (h₂ : r ∉ midOps_W) (h₃ : r ∉ midOps2_W) (h₄ : r ∉ fwdCond_W) :
    bwdEntry m c (Proc.devRef .tc r) = launchContents m c (Proc.devRef .tc r) := by
  simp only [bwdEntry, afterL_cons, afterL_nil]
  rw [after_of_writes_sub midOps2 _ midOps2_writes h₃, after_of_writes_sub midOps _ midOps_writes h₂, after_of_writes_sub fwdCond _ fwdCond_writes h₄,
    fwdAt_keep m c r h₁]
  simp only [fwdEntry, afterL_cons, afterL_nil]
  rw [after_of_writes_sub preOps _ preOps_writes h₀]

/-- From the launch to the end. -/
theorem refEnd_keep (c : Dev nD) (r : Ref sig .tc) (h₀ : r ∉ preOps_W) (h₁ : r ∉ fwdTrip_W) (h₂ : r ∉ midOps_W) (h₃ : r ∉ midOps2_W) (h₄ : r ∉ fwdCond_W)
    (h₅ : r ∉ bwdTrip_W) (h₆ : r ∉ bwdCond_W) (h₇ : r ∉ postOps_W) : refEnd m c (Proc.devRef .tc r) = m ((c.tc : Thread nD τ).loc r) := by
  simp only [refEnd, afterL_cons, afterL_nil]
  rw [after_of_writes_sub postOps _ postOps_writes h₇, after_of_writes_sub bwdCond _ bwdCond_writes h₆, bwdAt_keep m c r h₅,
    bwdEntry_keep m c r h₀ h₁ h₂ h₃ h₄]

theorem refEnd_arg0 (c : Dev nD) : refEnd m c (Proc.devRef .tc main_arg0) = m ((c.tc : Thread nD τ).loc main_arg0) :=
  refEnd_keep m c main_arg0 (by decide +kernel) (by decide +kernel) (by decide +kernel) (by decide +kernel) (by decide +kernel) (by decide +kernel)
    (by decide +kernel) (by decide +kernel)
theorem refEnd_arg1 (c : Dev nD) : refEnd m c (Proc.devRef .tc main_arg1) = m ((c.tc : Thread nD τ).loc main_arg1) :=
  refEnd_keep m c main_arg1 (by decide +kernel) (by decide +kernel) (by decide +kernel) (by decide +kernel) (by decide +kernel) (by decide +kernel)
    (by decide +kernel) (by decide +kernel)
theorem refEnd_arg2 (c : Dev nD) : refEnd m c (Proc.devRef .tc main_arg2) = m ((c.tc : Thread nD τ).loc main_arg2) :=
  refEnd_keep m c main_arg2 (by decide +kernel) (by decide +kernel) (by decide +kernel) (by decide +kernel) (by decide +kernel) (by decide +kernel)
    (by decide +kernel) (by decide +kernel)
theorem refEnd_arg3 (c : Dev nD) : refEnd m c (Proc.devRef .tc main_arg3) = m ((c.tc : Thread nD τ).loc main_arg3) :=
  refEnd_keep m c main_arg3 (by decide +kernel) (by decide +kernel) (by decide +kernel) (by decide +kernel) (by decide +kernel) (by decide +kernel)
    (by decide +kernel) (by decide +kernel)
theorem refEnd_arg4 (c : Dev nD) : refEnd m c (Proc.devRef .tc main_arg4) = m ((c.tc : Thread nD τ).loc main_arg4) :=
  refEnd_keep m c main_arg4 (by decide +kernel) (by decide +kernel) (by decide +kernel) (by decide +kernel) (by decide +kernel) (by decide +kernel)
    (by decide +kernel) (by decide +kernel)
theorem refEnd_arg5 (c : Dev nD) : refEnd m c (Proc.devRef .tc main_arg5) = m ((c.tc : Thread nD τ).loc main_arg5) :=
  refEnd_keep m c main_arg5 (by decide +kernel) (by decide +kernel) (by decide +kernel) (by decide +kernel) (by decide +kernel) (by decide +kernel)
    (by decide +kernel) (by decide +kernel)
theorem refEnd_arg6 (c : Dev nD) : refEnd m c (Proc.devRef .tc main_arg6) = m ((c.tc : Thread nD τ).loc main_arg6) :=
  refEnd_keep m c main_arg6 (by decide +kernel) (by decide +kernel) (by decide +kernel) (by decide +kernel) (by decide +kernel) (by decide +kernel)
    (by decide +kernel) (by decide +kernel)
theorem refEnd_arg7 (c : Dev nD) : refEnd m c (Proc.devRef .tc main_arg7) = m ((c.tc : Thread nD τ).loc main_arg7) :=
  refEnd_keep m c main_arg7 (by decide +kernel) (by decide +kernel) (by decide +kernel) (by decide +kernel) (by decide +kernel) (by decide +kernel)
    (by decide +kernel) (by decide +kernel)
theorem refEnd_arg8 (c : Dev nD) : refEnd m c (Proc.devRef .tc main_arg8) = m ((c.tc : Thread nD τ).loc main_arg8) :=
  refEnd_keep m c main_arg8 (by decide +kernel) (by decide +kernel) (by decide +kernel) (by decide +kernel) (by decide +kernel) (by decide +kernel)
    (by decide +kernel) (by decide +kernel)

/-- Every execution ends, the argument arrays end unchanged and the counters end at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run (defs (F := F)) _ _).mono (fun r ⟨h, hz⟩ => ⟨fun c =>
      ⟨(h c main_arg0 rfl).trans (refEnd_arg0 m c),
       (h c main_arg1 rfl).trans (refEnd_arg1 m c),
       (h c main_arg2 rfl).trans (refEnd_arg2 m c),
       (h c main_arg3 rfl).trans (refEnd_arg3 m c),
       (h c main_arg4 rfl).trans (refEnd_arg4 m c),
       (h c main_arg5 rfl).trans (refEnd_arg5 m c),
       (h c main_arg6 rfl).trans (refEnd_arg6 m c),
       (h c main_arg7 rfl).trans (refEnd_arg7 m c),
       (h c main_arg8 rfl).trans (refEnd_arg8 m c)⟩, hz⟩) (run_fold m ρ)

end Cert.RefRun

end
-- ==== Proof.Product.lean ====
/-
  Matrix products over the extended reals, read at natural-number positions: a matrix's entry at a position is the
  number it holds there (0 outside), so that a block of a matrix, the whole matrix and a sum over many blocks are all
  written with the same function and compared by arithmetic on positions.
-/
module

public import Idealize.ShloMosaic.Lib.Pointwise
public import Idealize.ShloMosaic.PureOps.Ideal.Laws

@[expose] public section

noncomputable section

namespace Cert.Product

open Idealize.ShloMosaic
open scoped BigOperators

/-- The entry of a matrix at row `r` and column `c`: 0 outside the matrix. -/
def entry {R C : ℕ} (A : (⟨2, ![R, C]⟩ : Shape).Idx → EReal) (r c : ℕ) : EReal :=
  if h : r < R ∧ c < C then A (ix2 ⟨r, h.1⟩ ⟨c, h.2⟩) else 0

/-- A matrix read at an index is its entry at the index's coordinates. -/
theorem entry_val {R C : ℕ} (A : (⟨2, ![R, C]⟩ : Shape).Idx → EReal) (r : Fin R) (c : Fin C) :
    A (ix2 r c) = entry A r.val c.val := by
  unfold entry; rw [dif_pos ⟨r.isLt, c.isLt⟩]

/-- A matrix read at an index whose coordinates are `r` and `c` is its entry there. -/
theorem entry_idx {R C : ℕ} (A : (⟨2, ![R, C]⟩ : Shape).Idx → EReal) (i : (⟨2, ![R, C]⟩ : Shape).Idx) {r c : ℕ}
    (hr : (i 0).val = r) (hc : (i 1).val = c) : A i = entry A r c := by
  subst hr hc
  conv_lhs => rw [eq_ix2 i]
  exact entry_val A (i 0) (i 1)

/-- `n` runs of `B` terms, run after run, are the `n * B` terms. -/
theorem sum_runs (f : ℕ → EReal) (B n : ℕ) :
    ∑ s ∈ Finset.range n, ∑ k ∈ Finset.range B, f (s * B + k) = ∑ k ∈ Finset.range (n * B), f k := by
  induction n with
  | zero => simp
  | succ n ih => rw [Finset.sum_range_succ, ih, Nat.succ_mul, Finset.sum_range_add]

/-- A sum over the positions below `n`, as a sum over the naturals below `n`. -/
theorem sum_fin (f : ℕ → EReal) (n : ℕ) : ∑ k : Fin n, f k.val = ∑ k ∈ Finset.range n, f k :=
  Fin.sum_univ_eq_sum_range f n

/-- The sum of the first `n` rows' products: entry (p, q) of `aᵀ · x` with the rows up to `n` only. -/
def upTo {T P Q : ℕ} (a : (⟨2, ![T, P]⟩ : Shape).Idx → EReal) (x : (⟨2, ![T, Q]⟩ : Shape).Idx → EReal) (n p q : ℕ) : EReal :=
  ∑ k ∈ Finset.range n, entry a k p * entry x k q

/-- Adding the products of the `B` rows after row `s * B` to the sum up to there gives the sum up to their end. -/
theorem upTo_step {T P Q : ℕ} (a : (⟨2, ![T, P]⟩ : Shape).Idx → EReal) (x : (⟨2, ![T, Q]⟩ : Shape).Idx → EReal) {B s p q : ℕ}
    {u v : Fin B → EReal} (hu : ∀ k, u k = entry a (s * B + k.val) p) (hv : ∀ k, v k = entry x (s * B + k.val) q) {z : EReal}
    (hz : z = upTo a x (s * B) p q) : z + ∑ k, u k * v k = upTo a x ((s + 1) * B) p q := by
  rw [hz]
  unfold upTo
  rw [Nat.succ_mul, Finset.sum_range_add]
  refine congrArg _ ((Finset.sum_congr rfl fun k _ => ?_).trans (sum_fin (fun k => entry a (s * B + k) p * entry x (s * B + k) q) B))
  rw [hu, hv]

/-- Before the first row the sum is zero. -/
theorem upTo_zero {T P Q : ℕ} (a : (⟨2, ![T, P]⟩ : Shape).Idx → EReal) (x : (⟨2, ![T, Q]⟩ : Shape).Idx → EReal) (p q : ℕ) :
    upTo a x 0 p q = 0 := by simp [upTo]

/-- The sum of all the rows' products, over the matrices' own indices. -/
theorem upTo_whole {T P Q : ℕ} (a : (⟨2, ![T, P]⟩ : Shape).Idx → EReal) (x : (⟨2, ![T, Q]⟩ : Shape).Idx → EReal) (p : Fin P) (q : Fin Q) :
    ∑ k : Fin T, a (ix2 k p) * x (ix2 k q) = upTo a x T p.val q.val := by
  unfold upTo
  rw [← sum_fin (fun k => entry a k p.val * entry x k q.val)]
  exact Finset.sum_congr rfl fun k _ => congrArg₂ (· * ·) (entry_val a k p) (entry_val x k q)

end Cert.Product

end
-- ==== Proof.DownBwdValue.lean ====
/-
  The input gradient of the down projection: the blocks of `dx2 · w_downᵀ` the kernel writes are the blocks of the
  reference's whole product.
-/
module

public import proofs.«01_k».proof.Defs
public import proofs.«01_k».proof.Proof.Product
public import proofs.«01_k».proof.Proof.Gen.DownBwdIdeal.Value
public import proofs.«01_k».proof.Proof.Gen.DownBwdRefIdeal.Run

@[expose] public section

noncomputable section

namespace Cert.DownBwdIdeal.Value

open Cert.DownBwdIdeal Cert.DownBwdIdeal.Gen Cert.Product
open Idealize.ShloMosaic Idealize.ShloMosaic.TcCoe Idealize.SL.Sem
open scoped BigOperators

variable (m : (ℓ : Loc nD τ sig) → Buf (Elt Ideal) ℓ) (ρ : Dev nD → PrngReg)

theorem hz : (![0, 0] : Fin 2 → Nat) = fun _ => 0 := funext fun a => by fin_cases a <;> rfl

/-- The whole product: entry (r, n) is the sum over k of `x[r, k] * w[n, k]`. -/
def whole (x : FVec Ideal S4096x1024 .f32) (w : FVec Ideal S2816x1024 .bf16) : FVec Ideal S4096x2816 .bf16 :=
  fun i => ∑ k : Fin 1024, x (ix2 (i 0) k) * w (ix2 (i 1) k)

/-- The product of two blocks at an index. -/
theorem pay_apply (x : Vec Ideal S2048x1024 .f32) (w : Vec Ideal S1408x1024 .bf16) (y : S2048x1408.Idx) :
    k0_pay1 x w y = ∑ k : Fin 1024, x (ix2 (y 0) k) * w (ix2 (y 1) k) := by
  unfold k0_pay1
  simp only [pointwise, zero_add]

/-- The reference's product of the whole arrays is `whole`. -/
theorem ref_eq (x : FVec Ideal S4096x1024 .f32) (w : FVec Ideal S2816x1024 .bf16) :
    (truncf .bf16 (Host.dotGeneral Cert.DownBwdRefIdeal.dot_S4096x1024_S2816x1024_S4096x2816_1_1_0_0_n_n none x
      (extf .f32 w Cert.DownBwdRefIdeal.Facts₀.bitsLt_bf16_f32)) Cert.DownBwdRefIdeal.Facts₀.bitsLt_bf16_f32 : FVec Ideal S4096x2816 .bf16)
      = whole x w := by
  funext i
  simp only [pointwise, zero_add]
  rfl

/-- Where the windows' blocks lie, by the grid point. -/
theorem places : ∀ t : Fin cfg0.N, win0_0.index t 0 = win0_2.index t 0 ∧ win0_0.index t 1 = 0
    ∧ win0_1.index t 0 = win0_2.index t 1 ∧ win0_1.index t 1 = 0 :=
  (by decide +kernel : ∀ t : Fin grid0.N, _)

/-- Every block of the result is some point's. -/
theorem onto : ∀ (q0 : Fin 2) (q1 : Fin 2), ∃ t : Fin cfg0.N, (cfg0.win 2).flush t = true ∧ win0_2.index t = ![q0.val, q1.val] :=
  (by decide +kernel : ∀ (q0 : Fin 2) (q1 : Fin 2), ∃ t : Fin grid0.N, (cfg0.win 2).flush t = true ∧ win0_2.index t = ![q0.val, q1.val])

/-- What a point writes back is its block of the whole product. -/
theorem flushed_eq (c : Dev nD) (t : Fin cfg0.N) :
    (dats m 0 c).flushed 2 t = ((cfg0.win 2).blk t).view.read (Elt Ideal)
      (whole (m ((c : Thread nD τ).loc main_arg0)) (m ((c : Thread nD τ).loc main_arg1))) := by
  rw [flushed2]
  obtain ⟨e0, e1, e2, e3⟩ := places t
  funext y
  show out0_2 (iblk m c 0 t) (iblk m c 1 t) ((cfg0.win 2).xinj (grid0.coords t) y)
    = whole (m ((c : Thread nD τ).loc main_arg0)) (m ((c : Thread nD τ).loc main_arg1)) (((cfg0.win 2).blk t).view.emb y)
  unfold out0_2
  rw [View.canon_unit_zero hz, View.ld_unit_zero (S := S2048x1024) hz, View.ld_unit_zero (S := S1408x1024) hz, pay_apply]
  unfold whole
  refine Finset.sum_congr rfl fun k _ => congrArg₂ (· * ·) ?_ ?_
  · show V m c (Pipeline.arrRef spec0 0) (((cfg0.win 0).blk t).view.emb _) = _
    refine (congrFun (V_main_arg0 m c) _).trans (congrArg _ (funext fun a => Fin.ext ?_))
    match a with
    | ⟨0, _⟩ => show win0_0.index t 0 * 2048 + 1 * (y 0).val = win0_2.index t 0 * 2048 + 1 * (y 0).val; rw [e0]
    | ⟨1, _⟩ => show win0_0.index t 1 * 1024 + 1 * k.val = k.val; rw [e1]; omega
  · show V m c (Pipeline.arrRef spec0 1) (((cfg0.win 1).blk t).view.emb _) = _
    refine (congrFun (V_main_arg1 m c) _).trans (congrArg _ (funext fun a => Fin.ext ?_))
    match a with
    | ⟨0, _⟩ => show win0_1.index t 0 * 1408 + 1 * (y 1).val = win0_2.index t 1 * 1408 + 1 * (y 1).val; rw [e2]
    | ⟨1, _⟩ => show win0_1.index t 1 * 1024 + 1 * k.val = k.val; rw [e3]; omega

/-- The result array after the run: the whole product. -/
theorem final (c : Dev nD) : (dats m 0 c).arrAt 2 cfg0.N
    = whole (m ((c : Thread nD τ).loc main_arg0)) (m ((c : Thread nD τ).loc main_arg1)) :=
  (dats m 0 c).arrAt_eq_of_cover 2 _ (fun t _ => flushed_eq m c t) fun i => by
    have h0 : (i 0).val < 4096 := (i 0).isLt
    have h1 : (i 1).val < 2816 := (i 1).isLt
    obtain ⟨t, hf, ht⟩ := onto ⟨(i 0).val / 2048, by omega⟩ ⟨(i 1).val / 1408, by omega⟩
    have q0 : win0_2.index t 0 = (i 0).val / 2048 := congrFun ht 0
    have q1 : win0_2.index t 1 = (i 1).val / 1408 := congrFun ht 1
    refine ⟨t, hf, ?_⟩
    show i ∈ ((View.whole main_v0).slice (win0_2.rect t)).set
    rw [View.set_slice_whole, Rect.mem_set_unit]
    intro a
    match a with
    | ⟨0, _⟩ => show win0_2.index t 0 * 2048 ≤ (i 0).val ∧ (i 0).val < win0_2.index t 0 * 2048 + 2048; omega
    | ⟨1, _⟩ => show win0_2.index t 1 * 1408 ≤ (i 1).val ∧ (i 1).val < win0_2.index t 1 * 1408 + 1408; omega

end Cert.DownBwdIdeal.Value

namespace Cert.DownBwdIdeal.Value

open Idealize.ShloMosaic Idealize.ShloMosaic.TcCoe Idealize.SL.Sem

/-- The kernel's result is the reference's. -/
theorem algebraic : Cert.algebraic_DownBwdIdeal_DownBwdRefIdeal := by
  intro m g m' g' _ hm
  refine ⟨fun c => whole (m ((c : Thread Cert.DownBwdIdeal.nD Cert.DownBwdIdeal.τ).loc Cert.DownBwdIdeal.main_arg0)) (m ((c : Thread Cert.DownBwdIdeal.nD Cert.DownBwdIdeal.τ).loc Cert.DownBwdIdeal.main_arg1)),
    (θ_run _ _ _).mono (fun r h c => ⟨(h c).1.trans (final m c), (h c).2⟩) (run_blocks m g),
    (θ_run _ _ _).mono (fun r h c => ⟨(h c).1.trans ?_, (h c).2⟩) (Cert.DownBwdRefIdeal.Value.run m' g')⟩
  rw [(hm c).1, (hm c).2]
  exact ref_eq _ _

end Cert.DownBwdIdeal.Value

end
-- ==== Proof.DownWgradValue.lean ====
/-
  The weight gradient of the down projection, `aᵀ · dx2`: the kernel sums the products of four blocks of 1024 rows, and
  the sum after the fourth is the product over all 4096 rows.
-/
module

public import proofs.«01_k».proof.Defs
public import proofs.«01_k».proof.Proof.Product
public import Idealize.ShloMosaic.Lib.Pipeline.ValueKit
public import proofs.«01_k».proof.Proof.Gen.DownWgradIdeal.Value
public import proofs.«01_k».proof.Proof.Gen.DownWgradRefIdeal.Run

@[expose] public section

noncomputable section

namespace Cert.DownWgradIdeal.Value

open Cert.DownWgradIdeal Cert.DownWgradIdeal.Gen Cert.Product
open Idealize.ShloMosaic Idealize.ShloMosaic.TcCoe Idealize.SL.Sem
open scoped BigOperators

variable (m : (ℓ : Loc nD τ sig) → Buf (Elt Ideal) ℓ)

/-! ## One point's value -/

/-- The block a point adds: the accumulator plus the product of its two blocks. -/
theorem pay2_apply (s : Vec Ideal S1408x1024 .f32) (a : Vec Ideal S1024x1408 .bf16) (x : Vec Ideal S1024x1024 .f32) (y : S1408x1024.Idx) :
    k0_pay2 s a x y = s y + ∑ k : Fin 1024, a (ix2 k (y 0)) * x (ix2 k (y 1)) := by
  unfold k0_pay2
  simp only [pointwise, zero_add]

/-- The block the first point of a run starts from is zero. -/
theorem pay1_apply (y : S1408x1024.Idx) : (k0_pay1 (F := Ideal)) y = 0 := by
  unfold k0_pay1
  simp only [pointwise]

/-- The last point's rounding changes nothing over the extended reals. -/
theorem pay3_apply (s : Vec Ideal S1408x1024 .f32) (y : S1408x1024.Idx) : k0_pay3 s y = s y := by
  unfold k0_pay3
  simp only [pointwise]

/-! ## The sum after each point -/

/-- Where the windows' blocks lie, by the grid point: rows by its place in its run, columns by the run. -/
theorem places : ∀ t : Fin cfg0.N, win0_0.index t 0 = t.val % 4 ∧ win0_0.index t 1 = t.val / 4
    ∧ win0_1.index t 0 = t.val % 4 ∧ win0_1.index t 1 = 0 ∧ win0_2.index t 0 = t.val / 4 ∧ win0_2.index t 1 = 0 :=
  (by decide +kernel : ∀ t : Fin grid0.N, _)

/-- The first operand's block at a point, by the whole operand's entries. -/
theorem block_a (c : Dev nD) (t : Fin cfg0.N) (y : S1024x1408.Idx) :
    iblk m c 0 t y = entry (m ((c : Thread nD τ).loc main_arg0)) (t.val % 4 * 1024 + (y 0).val) (t.val / 4 * 1408 + (y 1).val) := by
  obtain ⟨e0, e1, -⟩ := places t
  refine (congrFun (V_main_arg0 m c) _).trans (entry_idx _ _ ?_ ?_)
  · show win0_0.index t 0 * 1024 + 1 * (y 0).val = _; rw [e0]; omega
  · show win0_0.index t 1 * 1408 + 1 * (y 1).val = _; rw [e1]; omega

/-- The second operand's block at a point, by the whole operand's entries. -/
theorem block_x (c : Dev nD) (t : Fin cfg0.N) (y : S1024x1024.Idx) :
    iblk m c 1 t y = entry (m ((c : Thread nD τ).loc main_arg1)) (t.val % 4 * 1024 + (y 0).val) (y 1).val := by
  obtain ⟨-, -, e0, e1, -⟩ := places t
  refine (congrFun (V_main_arg1 m c) _).trans (entry_idx _ _ ?_ ?_)
  · show win0_1.index t 0 * 1024 + 1 * (y 0).val = _; rw [e0]; omega
  · show win0_1.index t 1 * 1024 + 1 * (y 1).val = _; rw [e1]; omega

/-- Adding a point's product to the sum of the rows before its block gives the sum of the rows up to its block's end. -/
theorem step (c : Dev nD) (t : Fin cfg0.N) (s : Vec Ideal S1408x1024 .f32) (y : S1408x1024.Idx)
    (hs : s y = upTo (m ((c : Thread nD τ).loc main_arg0)) (m ((c : Thread nD τ).loc main_arg1)) (t.val % 4 * 1024) (t.val / 4 * 1408 + (y 0).val) (y 1).val) :
    k0_pay2 s (iblk m c 0 t) (iblk m c 1 t) y
      = upTo (m ((c : Thread nD τ).loc main_arg0)) (m ((c : Thread nD τ).loc main_arg1)) ((t.val % 4 + 1) * 1024) (t.val / 4 * 1408 + (y 0).val) (y 1).val := by
  rw [pay2_apply]
  exact upTo_step _ _ (fun k => block_a m c t _) (fun k => block_x m c t _) hs

/-- What the accumulator holds after point `n`: the sum of the rows up to the end of the point's block. -/
theorem sums (c : Dev nD) : ∀ (n : ℕ) (h : n < cfg0.N) (y : S1408x1024.Idx), (outsAt0 m c n h).2 y
    = upTo (m ((c : Thread nD τ).loc main_arg0)) (m ((c : Thread nD τ).loc main_arg1)) ((n % 4 + 1) * 1024) (n / 4 * 1408 + (y 0).val) (y 1).val := by
  intro n
  induction n with
  | zero =>
    intro h y
    rw [outsAt0_A m c ⟨0, h⟩ rfl (by dsimp only; omega)]
    frame_out
    exact step m c ⟨0, h⟩ _ y (by rw [pay1_apply]; simp [upTo])
  | succ n ih =>
    intro h y
    by_cases h0 : (n + 1) % 4 = 0
    · rw [outsAt0_A m c ⟨n + 1, h⟩ h0 (by dsimp only; omega)]
      frame_out
      exact step m c ⟨n + 1, h⟩ _ y (by rw [pay1_apply, show (⟨n + 1, h⟩ : Fin cfg0.N).val % 4 = 0 from h0]; simp [upTo])
    · have hs := ih (Nat.lt_of_succ_lt h) y
      rw [show (n % 4 + 1) = (n + 1) % 4 by omega, show n / 4 = (n + 1) / 4 by omega] at hs
      by_cases h1 : (n + 1) % 4 = 3
      · rw [outsAt0_C m c ⟨n + 1, h⟩ h0 h1]
        frame_out; rw [(Memref.isWhole_whole cc0_scratch0).read_unread]
        exact step m c ⟨n + 1, h⟩ _ y hs
      · rw [outsAt0_B m c ⟨n + 1, h⟩ h0 h1]
        frame_out; rw [(Memref.isWhole_whole cc0_scratch0).read_unread]
        exact step m c ⟨n + 1, h⟩ _ y hs

/-! ## The result -/

/-- The whole product: entry (p, q) is the sum over the 4096 rows k of `a[k, p] * x[k, q]`. -/
def whole (a : FVec Ideal S4096x2816 .bf16) (x : FVec Ideal S4096x1024 .f32) : FVec Ideal S2816x1024 .bf16 :=
  fun i => upTo a x 4096 (i 0).val (i 1).val

/-- What a run's last point writes back is its block of the whole product. -/
theorem flushed_eq (c : Dev nD) (t : Fin cfg0.N) (hf : (cfg0.win 2).flush t = true) :
    (dats m 0 c).flushed 2 t = ((cfg0.win 2).blk t).view.read (Elt Ideal)
      (whole (m ((c : Thread nD τ).loc main_arg0)) (m ((c : Thread nD τ).loc main_arg1))) := by
  have h1 : t.val % 4 = 3 := (flush0_2 t).mp hf
  have h0 : ¬t.val % 4 = 0 := by omega
  rw [flushed2_C m c t h0 h1]
  frame_out; rw [(Memref.isWhole_whole cc0_scratch0).read_unread]
  funext y
  show k0_pay3 _ ((cfg0.win 2).xinj (grid0.coords t) y) = whole _ _ (((cfg0.win 2).blk t).view.emb y)
  rw [pay3_apply]
  have hs := sums m c (t.val - 1) (Nat.lt_of_le_of_lt (Nat.sub_le _ _) t.isLt) ((cfg0.win 2).xinj (grid0.coords t) y)
  rw [show (t.val - 1) % 4 + 1 = t.val % 4 by omega, show (t.val - 1) / 4 = t.val / 4 by omega] at hs
  refine (step m c t _ _ hs).trans ?_
  obtain ⟨-, -, -, -, e0, e1⟩ := places t
  unfold whole
  rw [h1]
  refine congrArg₂ (upTo _ _ 4096) ?_ ?_
  · show t.val / 4 * 1408 + (y 0).val = win0_2.index t 0 * 1408 + 1 * (y 0).val; rw [e0]; omega
  · show (y 1).val = win0_2.index t 1 * 1024 + 1 * (y 1).val; rw [e1]; omega

/-- The result array after the run: the whole product. -/
theorem final (c : Dev nD) : (dats m 0 c).arrAt 2 cfg0.N
    = whole (m ((c : Thread nD τ).loc main_arg0)) (m ((c : Thread nD τ).loc main_arg1)) :=
  (dats m 0 c).arrAt_eq_of_cover 2 _ (fun t hf => flushed_eq m c t hf) fun i =>
    (covered_iff2 i).2 ⟨Nat.zero_le _, (i 0).isLt, Nat.zero_le _, (i 1).isLt⟩

/-- The reference's product is `whole`. -/
theorem ref_eq (a : FVec Ideal S4096x2816 .bf16) (x : FVec Ideal S4096x1024 .f32) :
    (truncf .bf16 (transpose S2816x1024 [1, 0] (Host.dotGeneral Cert.DownWgradRefIdeal.dot_S4096x1024_S4096x2816_S1024x2816_0_0_1_1_n_n none x
      (extf .f32 a Cert.DownWgradRefIdeal.Facts₀.bitsLt_bf16_f32)) Cert.DownWgradRefIdeal.Facts₀.transposes_S1024x2816_S2816x1024_1_0)
      Cert.DownWgradRefIdeal.Facts₀.bitsLt_bf16_f32 : FVec Ideal S2816x1024 .bf16) = whole a x := by
  funext i
  simp only [pointwise, zero_add]
  refine (Finset.sum_congr rfl fun k _ => mul_comm _ _).trans ?_
  exact upTo_whole a x (i 0) (i 1)

/-- The kernel's result is the reference's. -/
theorem algebraic : Cert.algebraic_DownWgradIdeal_DownWgradRefIdeal := by
  intro m g m' g' _ hm
  refine ⟨fun c => whole (m ((c : Thread nD τ).loc main_arg0)) (m ((c : Thread nD τ).loc main_arg1)),
    (θ_run _ _ _).mono (fun r h c => ⟨(h c).1.trans (final m c), (h c).2⟩) (run_blocks m g),
    (θ_run _ _ _).mono (fun r h c => ⟨(h c).1.trans ?_, (h c).2⟩) (Cert.DownWgradRefIdeal.Value.run m' g')⟩
  rw [(hm c).1, (hm c).2]
  exact ref_eq _ _

end Cert.DownWgradIdeal.Value

end
-- ==== Proof.UpWgradValue.lean ====
/-
  The weight gradient of the up projection: for each quarter of the weight's columns the kernel adds the products of four
  blocks of 1024 rows. The first two quarters take the gradient of the gate, the last two the gradient of the value.
-/
module

public import proofs.«01_k».proof.Defs
public import proofs.«01_k».proof.Proof.Product
public import Idealize.ShloMosaic.Lib.Pipeline.ValueKit
public import proofs.«01_k».proof.Proof.Gen.UpWgradIdeal.Frame
public import proofs.«01_k».proof.Proof.Gen.UpWgradRefIdeal.Run

@[expose] public section

noncomputable section

namespace Cert.UpWgradIdeal.Value

open Cert.UpWgradIdeal Cert.UpWgradIdeal.Gen Cert.Product
open Idealize.ShloMosaic Idealize.ShloMosaic.TcCoe Idealize.SL.Sem
open scoped BigOperators

variable (m : (ℓ : Loc nD τ sig) → Buf (Elt Ideal) ℓ)

/-- One point's sum: the accumulator plus the product of its two blocks. -/
theorem pay2_apply (s : Vec Ideal S1024x1408 .f32) (a : Vec Ideal S1024x1024 .bf16) (x : Vec Ideal S1024x1408 .bf16) (y : S1024x1408.Idx) :
    k0_pay2 s a x y = s y + ∑ k : Fin 1024, a (ix2 k (y 0)) * x (ix2 k (y 1)) := by
  unfold k0_pay2
  simp only [pointwise, zero_add]

/-- The block a run's first point starts from is zero. -/
theorem pay1_apply (y : S1024x1408.Idx) : (k0_pay1 (F := Ideal)) y = 0 := by
  unfold k0_pay1
  simp only [pointwise]

/-- The last point's rounding changes nothing over the extended reals; the block gains a leading axis. -/
theorem pay4_apply (s : Vec Ideal S1024x1408 .f32) (y : S1x1024x1408.Idx) : k0_pay4 s y = s (ix2 (y 1) (y 2)) := by
  unfold k0_pay4
  refine (shapeCast_addUnit_apply _ _ _ y).trans ?_
  simp only [pointwise]
  exact congrArg s (eq_ix2 _)

/-- Where the windows' blocks lie: rows by the point's place in its run, columns and the result's block by the run. -/
theorem places : ∀ t : Fin cfg0.N, win0_0.index t 0 = t.val % 4 ∧ win0_0.index t 1 = 0
    ∧ (t.val < 8 → win0_1.index t 0 = t.val % 4 ∧ win0_1.index t 1 = t.val / 4)
    ∧ (8 ≤ t.val → win0_2.index t 0 = t.val % 4 ∧ win0_2.index t 1 + 2 = t.val / 4)
    ∧ win0_3.index t 0 = t.val / 4 ∧ win0_3.index t 1 = 0 ∧ win0_3.index t 2 = 0 :=
  (by decide +kernel : ∀ t : Fin grid0.N, _)

/-- Every block of the result is some run's. -/
theorem onto : ∀ q : Fin 4, ∃ t : Fin cfg0.N, (cfg0.win 3).flush t = true ∧ win0_3.index t = ![q.val, 0, 0] :=
  (by decide +kernel : ∀ q : Fin 4, ∃ t : Fin grid0.N, (cfg0.win 3).flush t = true ∧ win0_3.index t = ![q.val, 0, 0])

/-- The gradients of the gate and of the value side by side. -/
def both (g v : FVec Ideal S4096x2816 .bf16) : FVec Ideal Cert.UpWgradRefIdeal.S4096x5632 .bf16 :=
  fun i => if (i 1).val < 2816 then entry g (i 0).val (i 1).val else entry v (i 0).val ((i 1).val - 2816)

/-- The left half's entries are the gate's. -/
theorem both_gate (g v : FVec Ideal S4096x2816 .bf16) {r c : ℕ} (hc : c < 2816) : entry (both g v) r c = entry g r c := by
  by_cases hr : r < 4096
  · refine (entry_val (both g v) ⟨r, hr⟩ ⟨c, Nat.lt_trans hc (by decide)⟩).symm.trans ?_
    show (if c < 2816 then entry g r c else entry v r (c - 2816)) = entry g r c
    rw [if_pos hc]
  · unfold entry
    rw [dif_neg (fun h => hr h.1), dif_neg (fun h => hr h.1)]

/-- The right half's entries are the value's. -/
theorem both_value (g v : FVec Ideal S4096x2816 .bf16) {r c : ℕ} (hc : c < 2816) : entry (both g v) r (2816 + c) = entry v r c := by
  by_cases hr : r < 4096
  · refine (entry_val (both g v) ⟨r, hr⟩ ⟨2816 + c, Nat.add_lt_add_left hc 2816⟩).symm.trans ?_
    show (if 2816 + c < 2816 then entry g r (2816 + c) else entry v r (2816 + c - 2816)) = entry v r c
    rw [if_neg (by omega), Nat.add_sub_cancel_left]
  · unfold entry
    rw [dif_neg (fun h => hr h.1), dif_neg (fun h => hr h.1)]

/-- The first operand's block at a point, by the whole operand's entries. -/
theorem block_a (c : Dev nD) (t : Fin cfg0.N) (y : S1024x1024.Idx) :
    iblk m c 0 t y = entry (m ((c : Thread nD τ).loc main_arg0)) (t.val % 4 * 1024 + (y 0).val) (y 1).val := by
  obtain ⟨e0, e1, -⟩ := places t
  refine (congrFun (V_main_arg0 m c) _).trans (entry_idx _ _ ?_ ?_)
  · show win0_0.index t 0 * 1024 + 1 * (y 0).val = _; rw [e0]; omega
  · show win0_0.index t 1 * 1024 + 1 * (y 1).val = _; rw [e1]; omega

/-- The gate's block at a point of the first half of the runs, by the entries of both gradients side by side. -/
theorem block_gate (c : Dev nD) (t : Fin cfg0.N) (ht : t.val < 8) (y : S1024x1408.Idx) : iblk m c 1 t y
    = entry (both (m ((c : Thread nD τ).loc main_arg1)) (m ((c : Thread nD τ).loc main_arg2)))
      (t.val % 4 * 1024 + (y 0).val) (t.val / 4 * 1408 + (y 1).val) := by
  obtain ⟨e0, e1⟩ := (places t).2.2.1 ht
  have hy : (y 1).val < 1408 := (y 1).isLt
  rw [both_gate _ _ (by omega)]
  refine (congrFun (V_main_arg1 m c) _).trans (entry_idx _ _ ?_ ?_)
  · show win0_1.index t 0 * 1024 + 1 * (y 0).val = _; rw [e0]; omega
  · show win0_1.index t 1 * 1408 + 1 * (y 1).val = _; rw [e1]; omega

/-- The value's block at a point of the second half of the runs, by the entries of both gradients side by side. -/
theorem block_value (c : Dev nD) (t : Fin cfg0.N) (ht : 8 ≤ t.val) (y : S1024x1408.Idx) : iblk m c 2 t y
    = entry (both (m ((c : Thread nD τ).loc main_arg1)) (m ((c : Thread nD τ).loc main_arg2)))
      (t.val % 4 * 1024 + (y 0).val) (t.val / 4 * 1408 + (y 1).val) := by
  obtain ⟨e0, e1⟩ := (places t).2.2.2.1 ht
  have hN : t.val < 16 := lt_of_lt_of_eq t.isLt N_0
  have hy : (y 1).val < 1408 := (y 1).isLt
  rw [show t.val / 4 * 1408 + (y 1).val = 2816 + (win0_2.index t 1 * 1408 + (y 1).val) by omega, both_value _ _ (by omega)]
  refine (congrFun (V_main_arg2 m c) _).trans (entry_idx _ _ ?_ ?_)
  · show win0_2.index t 0 * 1024 + 1 * (y 0).val = _; rw [e0]; omega
  · show win0_2.index t 1 * 1408 + 1 * (y 1).val = _; omega

/-- Adding a point's product to the sum of the rows before its block gives the sum of the rows up to its block's end,
    whichever gradient `x` the point's block is of. -/
theorem step (c : Dev nD) (t : Fin cfg0.N) {x : Vec Ideal S1024x1408 .bf16}
    (hx : ∀ y, x y = entry (both (m ((c : Thread nD τ).loc main_arg1)) (m ((c : Thread nD τ).loc main_arg2)))
      (t.val % 4 * 1024 + (y 0).val) (t.val / 4 * 1408 + (y 1).val))
    (s : Vec Ideal S1024x1408 .f32) (y : S1024x1408.Idx)
    (hs : s y = upTo (m ((c : Thread nD τ).loc main_arg0)) (both (m ((c : Thread nD τ).loc main_arg1)) (m ((c : Thread nD τ).loc main_arg2))) (t.val % 4 * 1024) (y 0).val (t.val / 4 * 1408 + (y 1).val)) :
    k0_pay2 s (iblk m c 0 t) x y = upTo (m ((c : Thread nD τ).loc main_arg0)) (both (m ((c : Thread nD τ).loc main_arg1)) (m ((c : Thread nD τ).loc main_arg2))) ((t.val % 4 + 1) * 1024) (y 0).val (t.val / 4 * 1408 + (y 1).val) := by
  rw [pay2_apply]
  exact upTo_step _ _ (fun k => block_a m c t _) (fun k => hx _) hs

/-- The sum a run has reached after each of its points but the last. -/
theorem sums (c : Dev nD) : ∀ (n : ℕ) (h : n < cfg0.N) (hn : ¬n % 4 = 3) (y : S1024x1408.Idx), (outsAt0 m c n h).2 y
    = upTo (m ((c : Thread nD τ).loc main_arg0)) (both (m ((c : Thread nD τ).loc main_arg1)) (m ((c : Thread nD τ).loc main_arg2))) ((n % 4 + 1) * 1024) (y 0).val (n / 4 * 1408 + (y 1).val) := by
  intro n
  induction n with
  | zero =>
    intro h hn y
    rw [outsAt0_A m c ⟨0, h⟩ rfl (by dsimp only; omega) (by dsimp only; omega) hn]
    frame_out
    refine step m c ⟨0, h⟩ (block_gate m c ⟨0, h⟩ (by dsimp only; omega)) _ y ?_
    rw [pay1_apply]
    exact (upTo_zero _ _ _ _).symm
  | succ n ih =>
    intro h hn y
    by_cases h0 : (n + 1) % 4 = 0
    · have hz : ∀ p q, (0 : EReal) = upTo (m ((c : Thread nD τ).loc main_arg0)) (both (m ((c : Thread nD τ).loc main_arg1)) (m ((c : Thread nD τ).loc main_arg2))) ((⟨n + 1, h⟩ : Fin cfg0.N).val % 4 * 1024) p q := fun p q => by
        dsimp only
        rw [h0]
        exact (upTo_zero _ _ _ _).symm
      by_cases h8 : n + 1 < 8
      · rw [outsAt0_A m c ⟨n + 1, h⟩ h0 h8 (by dsimp only; omega) hn]
        frame_out
        exact step m c ⟨n + 1, h⟩ (block_gate m c ⟨n + 1, h⟩ h8) _ y ((pay1_apply y).trans (hz _ _))
      · rw [outsAt0_D m c ⟨n + 1, h⟩ h0 h8 (by dsimp only; omega) hn]
        frame_out
        exact step m c ⟨n + 1, h⟩ (block_value m c ⟨n + 1, h⟩ (by dsimp only; omega)) _ y ((pay1_apply y).trans (hz _ _))
    · have hs := ih (Nat.lt_of_succ_lt h) (by omega) y
      rw [show n % 4 + 1 = (n + 1) % 4 by omega, show n / 4 = (n + 1) / 4 by omega] at hs
      by_cases h8 : n + 1 < 8
      · rw [outsAt0_B m c ⟨n + 1, h⟩ h0 h8 (by dsimp only; omega) hn]
        frame_out; rw [(Memref.isWhole_whole cc0_scratch0).read_unread]
        exact step m c ⟨n + 1, h⟩ (block_gate m c ⟨n + 1, h⟩ h8) _ y hs
      · rw [outsAt0_E m c ⟨n + 1, h⟩ h0 h8 (by dsimp only; omega) hn]
        frame_out; rw [(Memref.isWhole_whole cc0_scratch0).read_unread]
        exact step m c ⟨n + 1, h⟩ (block_value m c ⟨n + 1, h⟩ (by dsimp only; omega)) _ y hs

/-- A run's last point's sum is the sum of all the rows. -/
theorem last (c : Dev nD) (t : Fin cfg0.N) (h : t.val % 4 = 3) (hn : t.val - 1 < cfg0.N) {x : Vec Ideal S1024x1408 .bf16}
    (hx : ∀ y, x y = entry (both (m ((c : Thread nD τ).loc main_arg1)) (m ((c : Thread nD τ).loc main_arg2)))
      (t.val % 4 * 1024 + (y 0).val) (t.val / 4 * 1408 + (y 1).val)) (y : S1024x1408.Idx) :
    k0_pay2 (outsAt0 m c (t.val - 1) hn).2 (iblk m c 0 t) x y = upTo (m ((c : Thread nD τ).loc main_arg0)) (both (m ((c : Thread nD τ).loc main_arg1)) (m ((c : Thread nD τ).loc main_arg2))) 4096 (y 0).val (t.val / 4 * 1408 + (y 1).val) := by
  have hs := sums m c (t.val - 1) hn (by omega) y
  rw [show (t.val - 1) % 4 + 1 = t.val % 4 by omega, show (t.val - 1) / 4 = t.val / 4 by omega] at hs
  have e := step m c t hx _ y hs
  rw [h] at e
  exact e

/-- What a run's last point stores, at an index of its block. -/
theorem out_eq (c : Dev nD) (t : Fin cfg0.N) (h : t.val % 4 = 3) (y : S1x1024x1408.Idx) :
    (outsAt0 m c t.val t.isLt).1 y = upTo (m ((c : Thread nD τ).loc main_arg0)) (both (m ((c : Thread nD τ).loc main_arg1)) (m ((c : Thread nD τ).loc main_arg2))) 4096 (y 1).val (t.val / 4 * 1408 + (y 2).val) := by
  by_cases h8 : t.val < 8
  · rw [outsAt0_C m c t (by omega) h8 (by omega) h]
    dsimp only
    frame_out; rw [(Memref.isWhole_whole cc0_scratch0).read_unread, pay4_apply]
    exact last m c t h _ (block_gate m c t h8) _
  · rw [outsAt0_F m c t (by omega) h8 (by omega) h]
    dsimp only
    frame_out; rw [(Memref.isWhole_whole cc0_scratch0).read_unread, pay4_apply]
    exact last m c t h _ (block_value m c t (by omega)) _

/-- The whole product by quarters of its columns: entry (j, p, q) is the sum over the 4096 rows k of
    `a[k, p] * x[k, 1408 j + q]`. -/
def whole (a : FVec Ideal S4096x1024 .bf16) (x : FVec Ideal Cert.UpWgradRefIdeal.S4096x5632 .bf16) : FVec Ideal S4x1024x1408 .bf16 :=
  fun i => upTo a x 4096 (i 1).val ((i 0).val * 1408 + (i 2).val)

/-- What a run's last point writes back is its block of the whole product. -/
theorem flushed_eq (c : Dev nD) (t : Fin cfg0.N) (hf : (cfg0.win 3).flush t = true) :
    (dats m 0 c).flushed 3 t = ((cfg0.win 3).blk t).view.read (Elt Ideal) (whole (m ((c : Thread nD τ).loc main_arg0)) (both (m ((c : Thread nD τ).loc main_arg1)) (m ((c : Thread nD τ).loc main_arg2)))) := by
  have h1 : t.val % 4 = 3 := (flush0_3 t).mp hf
  obtain ⟨-, -, -, -, e0, e1, e2⟩ := places t
  show (cfg0.win 3).cut (grid0.coords t) ((dats m 0 c).after 3 t) = _
  rw [after0_3]
  funext y
  show (outsAt0 m c t.val t.isLt).1 ((cfg0.win 3).xinj (grid0.coords t) y) = whole (m ((c : Thread nD τ).loc main_arg0)) (both (m ((c : Thread nD τ).loc main_arg1)) (m ((c : Thread nD τ).loc main_arg2))) (((cfg0.win 3).blk t).view.emb y)
  refine (out_eq m c t h1 _).trans ?_
  have h0 : (y 0).val < 1 := (y 0).isLt
  unfold whole
  refine congrArg₂ (upTo _ _ 4096) ?_ ?_
  · show (y 1).val = win0_3.index t 1 * 1024 + 1 * (y 1).val; rw [e1]; omega
  · show t.val / 4 * 1408 + (y 2).val = (win0_3.index t 0 * 1 + 1 * (y 0).val) * 1408 + (win0_3.index t 2 * 1408 + 1 * (y 2).val)
    rw [e0, e2]; omega

/-- The result array after the run: the whole product. -/
theorem final (c : Dev nD) : (dats m 0 c).arrAt 3 cfg0.N = whole (m ((c : Thread nD τ).loc main_arg0)) (both (m ((c : Thread nD τ).loc main_arg1)) (m ((c : Thread nD τ).loc main_arg2))) :=
  (dats m 0 c).arrAt_eq_of_cover 3 _ (fun t hf => flushed_eq m c t hf) fun i => by
    have h0 : (i 0).val < 4 := (i 0).isLt
    have h1 : (i 1).val < 1024 := (i 1).isLt
    have h2 : (i 2).val < 1408 := (i 2).isLt
    obtain ⟨t, hf, ht⟩ := onto ⟨(i 0).val, h0⟩
    have q0 : win0_3.index t 0 = (i 0).val := congrFun ht 0
    have q1 : win0_3.index t 1 = 0 := congrFun ht 1
    have q2 : win0_3.index t 2 = 0 := congrFun ht 2
    refine ⟨t, hf, ?_⟩
    show i ∈ ((View.whole main_v0).slice (win0_3.rect t)).set
    rw [View.set_slice_whole, Rect.mem_set_unit]
    intro a
    match a with
    | ⟨0, _⟩ => show win0_3.index t 0 * 1 ≤ (i 0).val ∧ (i 0).val < win0_3.index t 0 * 1 + 1; omega
    | ⟨1, _⟩ => show win0_3.index t 1 * 1024 ≤ (i 1).val ∧ (i 1).val < win0_3.index t 1 * 1024 + 1024; omega
    | ⟨2, _⟩ => show win0_3.index t 2 * 1408 ≤ (i 2).val ∧ (i 2).val < win0_3.index t 2 * 1408 + 1408; omega

/-- The reference's two gradients side by side are `both`. -/
theorem cat_eq (g v : FVec Ideal S4096x2816 .bf16) : (concatenate Cert.UpWgradRefIdeal.S4096x5632 1 [⟨S4096x2816, g⟩, ⟨S4096x2816, v⟩]
    Cert.UpWgradRefIdeal.Facts₀.concatenates_S4096x2816_S4096x2816_S4096x5632_d1 : FVec Ideal Cert.UpWgradRefIdeal.S4096x5632 .bf16) = both g v := by
  funext i
  have h1 : (i 1).val < 5632 := (i 1).isLt
  unfold both
  by_cases h : (i 1).val < 2816
  · rw [if_pos h]
    refine (concatenate_pair_apply_left _ g v _ i rfl (ix2 (i 0) ⟨(i 1).val, h⟩ : S4096x2816.Idx) ?_).trans (entry_val g (i 0) ⟨(i 1).val, h⟩)
    intro b
    match b with
    | ⟨0, _⟩ => rfl
    | ⟨1, _⟩ => rfl
  · rw [if_neg h]
    have hlt : (i 1).val - 2816 < 2816 := by omega
    refine (concatenate_pair_apply_right _ g v _ i rfl rfl (ix2 (i 0) ⟨(i 1).val - 2816, hlt⟩ : S4096x2816.Idx) ?_ ?_).trans
      (entry_val v (i 0) ⟨(i 1).val - 2816, hlt⟩)
    · intro b hb
      obtain rfl : b = (0 : Fin 2) := (by decide : ∀ b : Fin 2, b ≠ 1 → b = 0) b fun e => hb (by rw [e]; rfl)
      rfl
    · show (i 1).val - 2816 + 2816 = (i 1).val
      omega

/-- The reference's product, cut into quarters of its columns, is `whole`. -/
theorem product_eq (a : FVec Ideal S4096x1024 .bf16) (x : FVec Ideal Cert.UpWgradRefIdeal.S4096x5632 .bf16) :
    (truncf .bf16 (transpose S4x1024x1408 [1, 0, 2] (shapeCast Cert.UpWgradRefIdeal.S1024x4x1408 (transpose Cert.UpWgradRefIdeal.S1024x5632 [1, 0]
      (Host.dotGeneral Cert.UpWgradRefIdeal.dot_S4096x5632_S4096x1024_S5632x1024_0_0_1_1_n_n none
        (extf .f32 x Cert.UpWgradRefIdeal.Facts₀.bitsLt_bf16_f32) (extf .f32 a Cert.UpWgradRefIdeal.Facts₀.bitsLt_bf16_f32))
      Cert.UpWgradRefIdeal.Facts₀.transposes_S5632x1024_S1024x5632_1_0) Cert.UpWgradRefIdeal.Facts₀.shapeCasts_S1024x5632_S1024x4x1408)
      Cert.UpWgradRefIdeal.Facts₀.transposes_S1024x4x1408_S4x1024x1408_1_0_2)
      Cert.UpWgradRefIdeal.Facts₀.bitsLt_bf16_f32 : FVec Ideal S4x1024x1408 .bf16) = whole a x := by
  funext i
  have h2 : (i 2).val < 1408 := (i 2).isLt
  have h0 : (i 0).val < 4 := (i 0).isLt
  simp only [pointwise, zero_add]
  refine (Finset.sum_congr rfl fun k _ => mul_comm _ _).trans ?_
  exact upTo_whole a x (i 1) ⟨(i 0).val * 1408 + (i 2).val, by omega⟩

/-- The result and the arguments after the run. -/
theorem run_whole (ρ : Dev nD → PrngReg) : θ_run defs (onTc (τ := τ) (main (F := Ideal))) ⟨m, fun _ => 0, ρ⟩ fun r => ∀ c : Dev nD,
    r.2.mem ((c : Thread nD τ).loc main_v0) = whole (m ((c : Thread nD τ).loc main_arg0)) (both (m ((c : Thread nD τ).loc main_arg1)) (m ((c : Thread nD τ).loc main_arg2)))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun r h c => ⟨((h c).1 3).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

/-- The kernel's result is the reference's. -/
theorem algebraic : Cert.algebraic_UpWgradIdeal_UpWgradRefIdeal := by
  intro m g m' g' _ hm
  refine ⟨fun c => whole (m ((c : Thread nD τ).loc main_arg0)) (both (m ((c : Thread nD τ).loc main_arg1)) (m ((c : Thread nD τ).loc main_arg2))), run_whole m g,
    (θ_run _ _ _).mono (fun r h c => ⟨(h c).1.trans ?_, (h c).2⟩) (Cert.UpWgradRefIdeal.Value.run m' g')⟩
  rw [(hm c).1, (hm c).2.1, (hm c).2.2]
  refine Eq.trans ?_ (product_eq _ (both _ _))
  rw [← cat_eq]

end Cert.UpWgradIdeal.Value

end
-- ==== Proof.InWgradValue.lean ====
/-
  The weight gradient of the input projection: for each quarter of its columns the kernel adds the products of two blocks
  of 2048 rows, and writes the second sum as one block of the result.
-/
module

public import proofs.«01_k».proof.Defs
public import proofs.«01_k».proof.Proof.Product
public import Idealize.ShloMosaic.Lib.Pipeline.ValueKit
public import proofs.«01_k».proof.Proof.Gen.InWgradIdeal.Value
public import proofs.«01_k».proof.Proof.Gen.InWgradRefIdeal.Run

@[expose] public section

noncomputable section

namespace Cert.InWgradIdeal.Value

open Cert.InWgradIdeal Cert.InWgradIdeal.Gen Cert.Product
open Idealize.ShloMosaic Idealize.ShloMosaic.TcCoe Idealize.SL.Sem
open scoped BigOperators

variable (m : (ℓ : Loc nD τ sig) → Buf (Elt Ideal) ℓ)

/-- One point's sum: the accumulator plus the product of its two blocks. -/
theorem pay2_apply (s : Vec Ideal S1024x1152 .f32) (a : Vec Ideal S2048x1024 .bf16) (x : Vec Ideal S2048x1152 .bf16) (y : S1024x1152.Idx) :
    k0_pay2 s a x y = s y + ∑ k : Fin 2048, a (ix2 k (y 0)) * x (ix2 k (y 1)) := by
  unfold k0_pay2
  simp only [pointwise, zero_add]

/-- The block a run's first point starts from is zero. -/
theorem pay1_apply (y : S1024x1152.Idx) : (k0_pay1 (F := Ideal)) y = 0 := by
  unfold k0_pay1
  simp only [pointwise]

/-- The last point's rounding changes nothing over the extended reals; the block gains a leading axis. -/
theorem pay3_apply (s : Vec Ideal S1024x1152 .f32) (y : S1x1024x1152.Idx) : k0_pay3 s y = s (ix2 (y 1) (y 2)) := by
  unfold k0_pay3
  refine (shapeCast_addUnit_apply _ _ _ y).trans ?_
  simp only [pointwise]
  exact congrArg s (eq_ix2 _)

/-- Where the windows' blocks lie: rows by the point's place in its run, columns and the result's block by the run. -/
theorem places : ∀ t : Fin cfg0.N, win0_0.index t 0 = t.val % 2 ∧ win0_0.index t 1 = 0
    ∧ win0_1.index t 0 = t.val % 2 ∧ win0_1.index t 1 = t.val / 2
    ∧ win0_2.index t 0 = t.val / 2 ∧ win0_2.index t 1 = 0 ∧ win0_2.index t 2 = 0 :=
  (by decide +kernel : ∀ t : Fin grid0.N, _)

/-- The first operand's block at a point, by the whole operand's entries. -/
theorem block_a (c : Dev nD) (t : Fin cfg0.N) (y : S2048x1024.Idx) :
    iblk m c 0 t y = entry (m ((c : Thread nD τ).loc main_arg0)) (t.val % 2 * 2048 + (y 0).val) (y 1).val := by
  obtain ⟨e0, e1, -⟩ := places t
  refine (congrFun (V_main_arg0 m c) _).trans (entry_idx _ _ ?_ ?_)
  · show win0_0.index t 0 * 2048 + 1 * (y 0).val = _; rw [e0]; omega
  · show win0_0.index t 1 * 1024 + 1 * (y 1).val = _; rw [e1]; omega

/-- The second operand's block at a point, by the whole operand's entries. -/
theorem block_x (c : Dev nD) (t : Fin cfg0.N) (y : S2048x1152.Idx) :
    iblk m c 1 t y = entry (m ((c : Thread nD τ).loc main_arg1)) (t.val % 2 * 2048 + (y 0).val) (t.val / 2 * 1152 + (y 1).val) := by
  obtain ⟨-, -, e0, e1, -⟩ := places t
  refine (congrFun (V_main_arg1 m c) _).trans (entry_idx _ _ ?_ ?_)
  · show win0_1.index t 0 * 2048 + 1 * (y 0).val = _; rw [e0]; omega
  · show win0_1.index t 1 * 1152 + 1 * (y 1).val = _; rw [e1]; omega

/-- Adding a point's product to the sum of the rows before its block gives the sum of the rows up to its block's end. -/
theorem step (c : Dev nD) (t : Fin cfg0.N) {lo hi : ℕ} (hlo : t.val % 2 * 2048 = lo) (hhi : (t.val % 2 + 1) * 2048 = hi)
    (s : Vec Ideal S1024x1152 .f32) (y : S1024x1152.Idx)
    (hs : s y = upTo (m ((c : Thread nD τ).loc main_arg0)) (m ((c : Thread nD τ).loc main_arg1)) lo (y 0).val (t.val / 2 * 1152 + (y 1).val)) :
    k0_pay2 s (iblk m c 0 t) (iblk m c 1 t) y = upTo (m ((c : Thread nD τ).loc main_arg0)) (m ((c : Thread nD τ).loc main_arg1)) hi (y 0).val (t.val / 2 * 1152 + (y 1).val) := by
  subst hlo hhi
  rw [pay2_apply]
  exact upTo_step _ _ (fun k => block_a m c t _) (fun k => block_x m c t _) hs

/-- The whole product by quarters of its columns: entry (j, p, q) is the sum over the 4096 rows k of
    `a[k, p] * x[k, 1152 j + q]`. -/
def whole (a : FVec Ideal S4096x1024 .bf16) (x : FVec Ideal S4096x4608 .bf16) : FVec Ideal S4x1024x1152 .bf16 :=
  fun i => upTo a x 4096 (i 1).val ((i 0).val * 1152 + (i 2).val)

/-- A run's first point leaves the sum of the first half's rows. -/
theorem half (c : Dev nD) (n : ℕ) (hn : n < cfg0.N) (h : n % 2 = 0) (y : S1024x1152.Idx) :
    (outsAt0 m c n hn).2 y = upTo (m ((c : Thread nD τ).loc main_arg0)) (m ((c : Thread nD τ).loc main_arg1)) 2048 (y 0).val (n / 2 * 1152 + (y 1).val) := by
  rw [outsAt0_A m c ⟨n, hn⟩ h (by dsimp only; omega)]
  frame_out
  refine step m c ⟨n, hn⟩ (lo := 0) (hi := 2048) (by dsimp only; omega) (by dsimp only; omega) _ y ?_
  rw [pay1_apply]
  exact (upTo_zero _ _ _ _).symm

/-- A run's last point's sum is the sum of all the rows. -/
theorem last (c : Dev nD) (t : Fin cfg0.N) (h : t.val % 2 = 1) (hn : t.val - 1 < cfg0.N) (y : S1024x1152.Idx) :
    k0_pay2 (outsAt0 m c (t.val - 1) hn).2 (iblk m c 0 t) (iblk m c 1 t) y
      = upTo (m ((c : Thread nD τ).loc main_arg0)) (m ((c : Thread nD τ).loc main_arg1)) 4096 (y 0).val (t.val / 2 * 1152 + (y 1).val) :=
  step m c t (lo := 2048) (hi := 4096) (by omega) (by omega) _ y
    ((half m c _ hn (by omega) y).trans (by rw [show (t.val - 1) / 2 = t.val / 2 by omega]))

/-- What a run's last point writes back is its block of the whole product. -/
theorem flushed_eq (c : Dev nD) (t : Fin cfg0.N) (hf : (cfg0.win 2).flush t = true) :
    (dats m 0 c).flushed 2 t = ((cfg0.win 2).blk t).view.read (Elt Ideal) (whole (m ((c : Thread nD τ).loc main_arg0)) (m ((c : Thread nD τ).loc main_arg1))) := by
  have h1 : t.val % 2 = 1 := (flush0_2 t).mp hf
  rw [flushed2_B m c t (by omega) h1]
  frame_out; rw [(Memref.isWhole_whole cc0_scratch0).read_unread]
  obtain ⟨-, -, -, -, e0, e1, e2⟩ := places t
  funext y
  show k0_pay3 _ ((cfg0.win 2).xinj (grid0.coords t) y) = whole (m ((c : Thread nD τ).loc main_arg0)) (m ((c : Thread nD τ).loc main_arg1)) (((cfg0.win 2).blk t).view.emb y)
  rw [pay3_apply]
  refine (last m c t h1 _ _).trans ?_
  have h0 : (y 0).val < 1 := (y 0).isLt
  unfold whole
  refine congrArg₂ (upTo _ _ 4096) ?_ ?_
  · show (y 1).val = win0_2.index t 1 * 1024 + 1 * (y 1).val; rw [e1]; omega
  · show t.val / 2 * 1152 + (y 2).val = (win0_2.index t 0 * 1 + 1 * (y 0).val) * 1152 + (win0_2.index t 2 * 1152 + 1 * (y 2).val)
    rw [e0, e2]; omega

/-- The result array after the run: the whole product. -/
theorem final (c : Dev nD) : (dats m 0 c).arrAt 2 cfg0.N = whole (m ((c : Thread nD τ).loc main_arg0)) (m ((c : Thread nD τ).loc main_arg1)) :=
  (dats m 0 c).arrAt_eq_of_cover 2 _ (fun t hf => flushed_eq m c t hf) fun i =>
    (covered_iff2 i).2 ⟨Nat.zero_le _, (i 0).isLt, Nat.zero_le _, (i 1).isLt, Nat.zero_le _, (i 2).isLt⟩

/-- The reference's product, cut into quarters of its columns, is `whole`. -/
theorem ref_eq (a : FVec Ideal S4096x1024 .bf16) (x : FVec Ideal S4096x4608 .bf16) :
    (truncf .bf16 (transpose S4x1024x1152 [1, 0, 2] (shapeCast Cert.InWgradRefIdeal.S1024x4x1152 (transpose Cert.InWgradRefIdeal.S1024x4608 [1, 0]
      (Host.dotGeneral Cert.InWgradRefIdeal.dot_S4096x4608_S4096x1024_S4608x1024_0_0_1_1_n_n none
        (extf .f32 x Cert.InWgradRefIdeal.Facts₀.bitsLt_bf16_f32) (extf .f32 a Cert.InWgradRefIdeal.Facts₀.bitsLt_bf16_f32))
      Cert.InWgradRefIdeal.Facts₀.transposes_S4608x1024_S1024x4608_1_0) Cert.InWgradRefIdeal.Facts₀.shapeCasts_S1024x4608_S1024x4x1152)
      Cert.InWgradRefIdeal.Facts₀.transposes_S1024x4x1152_S4x1024x1152_1_0_2)
      Cert.InWgradRefIdeal.Facts₀.bitsLt_bf16_f32 : FVec Ideal S4x1024x1152 .bf16) = whole a x := by
  funext i
  have h2 : (i 2).val < 1152 := (i 2).isLt
  have h0 : (i 0).val < 4 := (i 0).isLt
  simp only [pointwise, zero_add]
  refine (Finset.sum_congr rfl fun k _ => mul_comm _ _).trans ?_
  exact upTo_whole a x (i 1) ⟨(i 0).val * 1152 + (i 2).val, by omega⟩

/-- The kernel's result is the reference's. -/
theorem algebraic : Cert.algebraic_InWgradIdeal_InWgradRefIdeal := by
  intro m g m' g' _ hm
  refine ⟨fun c => whole (m ((c : Thread nD τ).loc main_arg0)) (m ((c : Thread nD τ).loc main_arg1)),
    (θ_run _ _ _).mono (fun r h c => ⟨(h c).1.trans (final m c), (h c).2⟩) (run_blocks m g),
    (θ_run _ _ _).mono (fun r h c => ⟨(h c).1.trans ?_, (h c).2⟩) (Cert.InWgradRefIdeal.Value.run m' g')⟩
  rw [(hm c).1, (hm c).2]
  exact ref_eq _ _

end Cert.InWgradIdeal.Value

end
-- ==== Proof.OutBwdValue.lean ====
/-
  The input gradient of the output projection: the blocks of `dx1 · w_outᵀ` the kernel writes are the blocks of the
  reference's whole product.
-/
module

public import proofs.«01_k».proof.Defs
public import proofs.«01_k».proof.Proof.Product
public import proofs.«01_k».proof.Proof.Gen.OutBwdIdeal.Value
public import proofs.«01_k».proof.Proof.Gen.OutBwdRefIdeal.Run

@[expose] public section

noncomputable section

namespace Cert.OutBwdIdeal.Value

open Cert.OutBwdIdeal Cert.OutBwdIdeal.Gen Cert.Product
open Idealize.ShloMosaic Idealize.ShloMosaic.TcCoe Idealize.SL.Sem
open scoped BigOperators

variable (m : (ℓ : Loc nD τ sig) → Buf (Elt Ideal) ℓ)

theorem hz : (![0, 0] : Fin 2 → Nat) = fun _ => 0 := funext fun a => by fin_cases a <;> rfl

/-- The whole product: entry (r, n) is the sum over k of `x[r, k] * w[n, k]`. -/
def whole (x : FVec Ideal S4096x1024 .f32) (w : FVec Ideal S1024x1024 .bf16) : FVec Ideal S4096x1024 .bf16 :=
  fun i => ∑ k : Fin 1024, x (ix2 (i 0) k) * w (ix2 (i 1) k)

/-- The product of two blocks at an index. -/
theorem pay_apply (x : Vec Ideal S2048x1024 .f32) (w : Vec Ideal S1024x1024 .bf16) (y : S2048x1024.Idx) :
    k0_pay1 x w y = (∑ k : Fin 1024, x (ix2 (y 0) k) * w (ix2 (y 1) k)) := by
  unfold k0_pay1
  simp only [pointwise, zero_add]

/-- The reference's product of the whole arrays is `whole`. -/
theorem ref_eq (x : FVec Ideal S4096x1024 .f32) (w : FVec Ideal S1024x1024 .bf16) :
    (truncf .bf16 (Host.dotGeneral Cert.OutBwdRefIdeal.dot_S4096x1024_S1024x1024_S4096x1024_1_1_0_0_n_n none x (extf .f32 w Cert.OutBwdRefIdeal.Facts₀.bitsLt_bf16_f32)) Cert.OutBwdRefIdeal.Facts₀.bitsLt_bf16_f32 : FVec Ideal S4096x1024 .bf16) = whole x w := by
  funext i
  simp only [pointwise, zero_add]
  rfl

/-- Where the windows' blocks lie: the rows of a point's blocks are its tile of rows. -/
theorem places : ∀ t : Fin cfg0.N, win0_0.index t 0 = t.val ∧ win0_0.index t 1 = 0 ∧ win0_1.index t 0 = 0
    ∧ win0_1.index t 1 = 0 ∧ win0_2.index t 0 = t.val ∧ win0_2.index t 1 = 0 :=
  (by decide +kernel : ∀ t : Fin grid0.N, _)

/-- What a point writes back is its block of the whole product. -/
theorem flushed_eq (c : Dev nD) (t : Fin cfg0.N) :
    (dats m 0 c).flushed 2 t = ((cfg0.win 2).blk t).view.read (Elt Ideal) (whole (m ((c : Thread nD τ).loc main_arg0)) (m ((c : Thread nD τ).loc main_arg1))) := by
  rw [flushed2]
  obtain ⟨e0, e1, e2, e3, e4, e5⟩ := places t
  funext y
  show out0_2 (iblk m c 0 t) (iblk m c 1 t) ((cfg0.win 2).xinj (grid0.coords t) y)
    = whole (m ((c : Thread nD τ).loc main_arg0)) (m ((c : Thread nD τ).loc main_arg1)) (((cfg0.win 2).blk t).view.emb y)
  unfold out0_2
  rw [View.canon_unit_zero hz, View.ld_unit_zero (S := S2048x1024) hz, View.ld_unit_zero (S := S1024x1024) hz, pay_apply]
  unfold whole
  refine Finset.sum_congr rfl fun k _ => congrArg₂ (· * ·) ?_ ?_
  · show V m c (Pipeline.arrRef spec0 0) (((cfg0.win 0).blk t).view.emb _) = _
    refine (congrFun (V_main_arg0 m c) _).trans (congrArg _ (funext fun a => Fin.ext ?_))
    match a with
    | ⟨0, _⟩ => show win0_0.index t 0 * 2048 + 1 * (y 0).val = win0_2.index t 0 * 2048 + 1 * (y 0).val; rw [e0, e4]
    | ⟨1, _⟩ => show win0_0.index t 1 * 1024 + 1 * k.val = k.val; rw [e1]; omega
  · show V m c (Pipeline.arrRef spec0 1) (((cfg0.win 1).blk t).view.emb _) = _
    refine (congrFun (V_main_arg1 m c) _).trans (congrArg _ (funext fun a => Fin.ext ?_))
    match a with
    | ⟨0, _⟩ => show win0_1.index t 0 * 1024 + 1 * (y 1).val = win0_2.index t 1 * 1024 + 1 * (y 1).val; rw [e2, e5]
    | ⟨1, _⟩ => show win0_1.index t 1 * 1024 + 1 * k.val = k.val; rw [e3]; omega

/-- The result array after the run: the whole product. -/
theorem final (c : Dev nD) : (dats m 0 c).arrAt 2 cfg0.N = whole (m ((c : Thread nD τ).loc main_arg0)) (m ((c : Thread nD τ).loc main_arg1)) :=
  (dats m 0 c).arrAt_eq_of_cover 2 _ (fun t _ => flushed_eq m c t) fun i => by
    have h0 : (i 0).val < 4096 := (i 0).isLt
    have h1 : (i 1).val < 1024 := (i 1).isLt
    let t : Fin cfg0.N := ⟨(i 0).val / 2048, lt_of_lt_of_eq (by omega : (i 0).val / 2048 < 2) N_0.symm⟩
    obtain ⟨-, -, -, -, e4, e5⟩ := places t
    refine ⟨t, flush0_2 t, ?_⟩
    show i ∈ ((View.whole main_v0).slice (win0_2.rect t)).set
    rw [View.set_slice_whole, Rect.mem_set_unit]
    intro a
    match a with
    | ⟨0, _⟩ => show win0_2.index t 0 * 2048 ≤ (i 0).val ∧ (i 0).val < win0_2.index t 0 * 2048 + 2048; rw [e4]; dsimp only [t]; omega
    | ⟨1, _⟩ => show win0_2.index t 1 * 1024 ≤ (i 1).val ∧ (i 1).val < win0_2.index t 1 * 1024 + 1024; rw [e5]; omega

/-- The kernel's result is the reference's. -/
theorem algebraic : Cert.algebraic_OutBwdIdeal_OutBwdRefIdeal := by
  intro m g m' g' _ hm
  refine ⟨fun c => whole (m ((c : Thread nD τ).loc main_arg0)) (m ((c : Thread nD τ).loc main_arg1)),
    (θ_run _ _ _).mono (fun r h c => ⟨(h c).1.trans (final m c), (h c).2⟩) (run_blocks m g),
    (θ_run _ _ _).mono (fun r h c => ⟨(h c).1.trans ?_, (h c).2⟩) (Cert.OutBwdRefIdeal.Value.run m' g')⟩
  rw [(hm c).1, (hm c).2]
  exact ref_eq _ _

end Cert.OutBwdIdeal.Value

end
-- ==== Proof.OutWgradValue.lean ====
/-
  The weight gradient of the output projection: the kernel adds the products of two blocks of 2048 rows, and the second sum is the
  product over all 4096 rows.
-/
module

public import proofs.«01_k».proof.Defs
public import proofs.«01_k».proof.Proof.Product
public import Idealize.ShloMosaic.Lib.Pipeline.ValueKit
public import proofs.«01_k».proof.Proof.Gen.OutWgradIdeal.Value
public import proofs.«01_k».proof.Proof.Gen.OutWgradRefIdeal.Run

@[expose] public section

noncomputable section

namespace Cert.OutWgradIdeal.Value

open Cert.OutWgradIdeal Cert.OutWgradIdeal.Gen Cert.Product
open Idealize.ShloMosaic Idealize.ShloMosaic.TcCoe Idealize.SL.Sem
open scoped BigOperators

variable (m : (ℓ : Loc nD τ sig) → Buf (Elt Ideal) ℓ)

/-- One point's sum: the accumulator plus the product of its two blocks. -/
theorem pay2_apply (s : Vec Ideal S1024x1024 .f32) (a : Vec Ideal S2048x1024 .bf16) (x : Vec Ideal S2048x1024 .f32) (y : S1024x1024.Idx) :
    k0_pay2 s a x y = s y + ∑ k : Fin 2048, a (ix2 k (y 0)) * x (ix2 k (y 1)) := by
  unfold k0_pay2
  simp only [pointwise, zero_add]

/-- The block the first point starts from is zero. -/
theorem pay1_apply (y : S1024x1024.Idx) : (k0_pay1 (F := Ideal)) y = 0 := by
  unfold k0_pay1
  simp only [pointwise]

/-- The last point's rounding changes nothing over the extended reals. -/
theorem pay3_apply (s : Vec Ideal S1024x1024 .f32) (y : S1024x1024.Idx) : k0_pay3 s y = s y := by
  unfold k0_pay3
  simp only [pointwise]

/-- Where the windows' blocks lie: a point's blocks are the rows of its half. -/
theorem places : ∀ t : Fin cfg0.N, win0_0.index t 0 = t.val ∧ win0_0.index t 1 = 0
    ∧ win0_1.index t 0 = t.val ∧ win0_1.index t 1 = 0 ∧ win0_2.index t 0 = 0 ∧ win0_2.index t 1 = 0 :=
  (by decide +kernel : ∀ t : Fin grid0.N, _)

/-- The first operand's block at a point, by the whole operand's entries. -/
theorem block_a (c : Dev nD) (t : Fin cfg0.N) (y : S2048x1024.Idx) :
    iblk m c 0 t y = entry (m ((c : Thread nD τ).loc main_arg0)) (t.val * 2048 + (y 0).val) (y 1).val := by
  obtain ⟨e0, e1, -⟩ := places t
  refine (congrFun (V_main_arg0 m c) _).trans (entry_idx _ _ ?_ ?_)
  · show win0_0.index t 0 * 2048 + 1 * (y 0).val = _; rw [e0]; omega
  · show win0_0.index t 1 * 1024 + 1 * (y 1).val = _; rw [e1]; omega

/-- The second operand's block at a point, by the whole operand's entries. -/
theorem block_x (c : Dev nD) (t : Fin cfg0.N) (y : S2048x1024.Idx) :
    iblk m c 1 t y = entry (m ((c : Thread nD τ).loc main_arg1)) (t.val * 2048 + (y 0).val) (y 1).val := by
  obtain ⟨-, -, e0, e1, -⟩ := places t
  refine (congrFun (V_main_arg1 m c) _).trans (entry_idx _ _ ?_ ?_)
  · show win0_1.index t 0 * 2048 + 1 * (y 0).val = _; rw [e0]; omega
  · show win0_1.index t 1 * 1024 + 1 * (y 1).val = _; rw [e1]; omega

/-- Adding a point's product to the sum of the rows before its block gives the sum of the rows up to its block's end. -/
theorem step (c : Dev nD) (t : Fin cfg0.N) {lo hi : ℕ} (hlo : t.val * 2048 = lo) (hhi : (t.val + 1) * 2048 = hi)
    (s : Vec Ideal S1024x1024 .f32) (y : S1024x1024.Idx) (hs : s y = upTo (m ((c : Thread nD τ).loc main_arg0)) (m ((c : Thread nD τ).loc main_arg1)) lo (y 0).val (y 1).val) :
    k0_pay2 s (iblk m c 0 t) (iblk m c 1 t) y = upTo (m ((c : Thread nD τ).loc main_arg0)) (m ((c : Thread nD τ).loc main_arg1)) hi (y 0).val (y 1).val := by
  subst hlo hhi
  rw [pay2_apply]
  exact upTo_step _ _ (fun k => block_a m c t _) (fun k => block_x m c t _) hs

/-- The whole product: entry (p, q) is the sum over the 4096 rows k of `a[k, p] * x[k, q]`. -/
def whole (a : FVec Ideal S4096x1024 .bf16) (x : FVec Ideal S4096x1024 .f32) : FVec Ideal S1024x1024 .bf16 :=
  fun i => upTo a x 4096 (i 0).val (i 1).val

/-- The first point leaves the sum of the first half's rows. -/
theorem half (c : Dev nD) (n : ℕ) (hn : n < cfg0.N) (h : n = 0) (y : S1024x1024.Idx) : (outsAt0 m c n hn).2 y
    = upTo (m ((c : Thread nD τ).loc main_arg0)) (m ((c : Thread nD τ).loc main_arg1)) 2048 (y 0).val (y 1).val := by
  subst h
  rw [outsAt0_A m c ⟨0, hn⟩ rfl (by dsimp only; omega)]
  frame_out
  refine step m c ⟨0, hn⟩ (Nat.zero_mul _) (by rw [Nat.zero_add, Nat.one_mul]) _ y ?_
  rw [pay1_apply]
  exact (upTo_zero _ _ _ _).symm

/-- The last point's sum is the sum of all the rows. -/
theorem last (c : Dev nD) (t : Fin cfg0.N) (h : t.val = 1) (hn : t.val - 1 < cfg0.N) (y : S1024x1024.Idx) :
    k0_pay2 (outsAt0 m c (t.val - 1) hn).2 (iblk m c 0 t) (iblk m c 1 t) y
      = upTo (m ((c : Thread nD τ).loc main_arg0)) (m ((c : Thread nD τ).loc main_arg1)) 4096 (y 0).val (y 1).val :=
  step m c t (lo := 2048) (hi := 4096) (by omega) (by omega) _ y (half m c _ hn (by omega) y)

/-- What the last point writes back is the whole product. -/
theorem flushed_eq (c : Dev nD) (t : Fin cfg0.N) (hf : (cfg0.win 2).flush t = true) :
    (dats m 0 c).flushed 2 t = ((cfg0.win 2).blk t).view.read (Elt Ideal)
      (whole (m ((c : Thread nD τ).loc main_arg0)) (m ((c : Thread nD τ).loc main_arg1))) := by
  have hN : t.val < 2 := lt_of_lt_of_eq t.isLt N_0
  have h2 : t.val % 2 = 1 := (flush0_2 t).mp hf
  have h1 : t.val = 1 := by omega
  rw [flushed2_B m c t (by omega) h2]
  frame_out; rw [(Memref.isWhole_whole cc0_scratch0).read_unread]
  obtain ⟨-, -, -, -, e0, e1⟩ := places t
  funext y
  show k0_pay3 _ ((cfg0.win 2).xinj (grid0.coords t) y)
    = whole (m ((c : Thread nD τ).loc main_arg0)) (m ((c : Thread nD τ).loc main_arg1)) (((cfg0.win 2).blk t).view.emb y)
  rw [pay3_apply]
  refine (last m c t h1 _ _).trans ?_
  unfold whole
  refine congrArg₂ (upTo _ _ 4096) ?_ ?_
  · show (y 0).val = win0_2.index t 0 * 1024 + 1 * (y 0).val; rw [e0]; omega
  · show (y 1).val = win0_2.index t 1 * 1024 + 1 * (y 1).val; rw [e1]; omega

/-- The result array after the run: the whole product. -/
theorem final (c : Dev nD) : (dats m 0 c).arrAt 2 cfg0.N
    = whole (m ((c : Thread nD τ).loc main_arg0)) (m ((c : Thread nD τ).loc main_arg1)) :=
  (dats m 0 c).arrAt_eq_of_cover 2 _ (fun t hf => flushed_eq m c t hf) fun i =>
    (covered_iff2 i).2 ⟨Nat.zero_le _, (i 0).isLt, Nat.zero_le _, (i 1).isLt⟩

/-- The reference's product is `whole`. -/
theorem ref_eq (a : FVec Ideal S4096x1024 .bf16) (x : FVec Ideal S4096x1024 .f32) :
    (truncf .bf16 (transpose S1024x1024 [1, 0] (Host.dotGeneral Cert.OutWgradRefIdeal.dot_S4096x1024_S4096x1024_S1024x1024_0_0_1_1_n_n none x
      (extf .f32 a Cert.OutWgradRefIdeal.Facts₀.bitsLt_bf16_f32)) Cert.OutWgradRefIdeal.Facts₀.transposes_S1024x1024_S1024x1024_1_0)
      Cert.OutWgradRefIdeal.Facts₀.bitsLt_bf16_f32 : FVec Ideal S1024x1024 .bf16) = whole a x := by
  funext i
  simp only [pointwise, zero_add]
  refine (Finset.sum_congr rfl fun k _ => mul_comm _ _).trans ?_
  exact upTo_whole a x (i 0) (i 1)

/-- The kernel's result is the reference's. -/
theorem algebraic : Cert.algebraic_OutWgradIdeal_OutWgradRefIdeal := by
  intro m g m' g' _ hm
  refine ⟨fun c => whole (m ((c : Thread nD τ).loc main_arg0)) (m ((c : Thread nD τ).loc main_arg1)),
    (θ_run _ _ _).mono (fun r h c => ⟨(h c).1.trans (final m c), (h c).2⟩) (run_blocks m g),
    (θ_run _ _ _).mono (fun r h c => ⟨(h c).1.trans ?_, (h c).2⟩) (Cert.OutWgradRefIdeal.Value.run m' g')⟩
  rw [(hm c).1, (hm c).2]
  exact ref_eq _ _

end Cert.OutWgradIdeal.Value

end
-- ==== Proof.ProjBwdValue.lean ====
/-
  The input gradient of a branch's projection: the blocks of `dz · wᵀ` the kernel writes are the blocks of the
  reference's whole product.
-/
module

public import proofs.«01_k».proof.Defs
public import proofs.«01_k».proof.Proof.Product
public import proofs.«01_k».proof.Proof.Gen.ProjBwdIdeal.Value
public import proofs.«01_k».proof.Proof.Gen.ProjBwdRefIdeal.Run

@[expose] public section

noncomputable section

namespace Cert.ProjBwdIdeal.Value

open Cert.ProjBwdIdeal Cert.ProjBwdIdeal.Gen Cert.Product
open Idealize.ShloMosaic Idealize.ShloMosaic.TcCoe Idealize.SL.Sem
open scoped BigOperators

variable (m : (ℓ : Loc nD τ sig) → Buf (Elt Ideal) ℓ)

theorem hz : (![0, 0] : Fin 2 → Nat) = fun _ => 0 := funext fun a => by fin_cases a <;> rfl

/-- The whole product: entry (r, n) is the sum over k of `x[r, k] * w[n, k]`. -/
def whole (x : FVec Ideal S4096x1024 .bf16) (w : FVec Ideal S512x1024 .bf16) : FVec Ideal S4096x512 .f32 :=
  fun i => ∑ k : Fin 1024, x (ix2 (i 0) k) * w (ix2 (i 1) k)

/-- The product of two blocks at an index. -/
theorem pay_apply (x : Vec Ideal S2048x1024 .bf16) (w : Vec Ideal S512x1024 .bf16) (y : S2048x512.Idx) :
    k0_pay1 x w y = (∑ k : Fin 1024, x (ix2 (y 0) k) * w (ix2 (y 1) k)) := by
  unfold k0_pay1
  simp only [pointwise, zero_add]

/-- The reference's product of the whole arrays is `whole`. -/
theorem ref_eq (x : FVec Ideal S4096x1024 .bf16) (w : FVec Ideal S512x1024 .bf16) :
    (Host.dotGeneral Cert.ProjBwdRefIdeal.dot_S4096x1024_S512x1024_S4096x512_1_1_0_0_n_n none (extf .f32 x Cert.ProjBwdRefIdeal.Facts₀.bitsLt_bf16_f32) (extf .f32 w Cert.ProjBwdRefIdeal.Facts₀.bitsLt_bf16_f32) : FVec Ideal S4096x512 .f32) = whole x w := by
  funext i
  simp only [pointwise, zero_add]
  rfl

/-- Where the windows' blocks lie: the rows of a point's blocks are its tile of rows. -/
theorem places : ∀ t : Fin cfg0.N, win0_0.index t 0 = t.val ∧ win0_0.index t 1 = 0 ∧ win0_1.index t 0 = 0
    ∧ win0_1.index t 1 = 0 ∧ win0_2.index t 0 = t.val ∧ win0_2.index t 1 = 0 :=
  (by decide +kernel : ∀ t : Fin grid0.N, _)

/-- What a point writes back is its block of the whole product. -/
theorem flushed_eq (c : Dev nD) (t : Fin cfg0.N) :
    (dats m 0 c).flushed 2 t = ((cfg0.win 2).blk t).view.read (Elt Ideal) (whole (m ((c : Thread nD τ).loc main_arg0)) (m ((c : Thread nD τ).loc main_arg1))) := by
  rw [flushed2]
  obtain ⟨e0, e1, e2, e3, e4, e5⟩ := places t
  funext y
  show out0_2 (iblk m c 0 t) (iblk m c 1 t) ((cfg0.win 2).xinj (grid0.coords t) y)
    = whole (m ((c : Thread nD τ).loc main_arg0)) (m ((c : Thread nD τ).loc main_arg1)) (((cfg0.win 2).blk t).view.emb y)
  unfold out0_2
  rw [View.canon_unit_zero hz, View.ld_unit_zero (S := S2048x1024) hz, View.ld_unit_zero (S := S512x1024) hz, pay_apply]
  unfold whole
  refine Finset.sum_congr rfl fun k _ => congrArg₂ (· * ·) ?_ ?_
  · show V m c (Pipeline.arrRef spec0 0) (((cfg0.win 0).blk t).view.emb _) = _
    refine (congrFun (V_main_arg0 m c) _).trans (congrArg _ (funext fun a => Fin.ext ?_))
    match a with
    | ⟨0, _⟩ => show win0_0.index t 0 * 2048 + 1 * (y 0).val = win0_2.index t 0 * 2048 + 1 * (y 0).val; rw [e0, e4]
    | ⟨1, _⟩ => show win0_0.index t 1 * 1024 + 1 * k.val = k.val; rw [e1]; omega
  · show V m c (Pipeline.arrRef spec0 1) (((cfg0.win 1).blk t).view.emb _) = _
    refine (congrFun (V_main_arg1 m c) _).trans (congrArg _ (funext fun a => Fin.ext ?_))
    match a with
    | ⟨0, _⟩ => show win0_1.index t 0 * 512 + 1 * (y 1).val = win0_2.index t 1 * 512 + 1 * (y 1).val; rw [e2, e5]
    | ⟨1, _⟩ => show win0_1.index t 1 * 1024 + 1 * k.val = k.val; rw [e3]; omega

/-- The result array after the run: the whole product. -/
theorem final (c : Dev nD) : (dats m 0 c).arrAt 2 cfg0.N = whole (m ((c : Thread nD τ).loc main_arg0)) (m ((c : Thread nD τ).loc main_arg1)) :=
  (dats m 0 c).arrAt_eq_of_cover 2 _ (fun t _ => flushed_eq m c t) fun i => by
    have h0 : (i 0).val < 4096 := (i 0).isLt
    have h1 : (i 1).val < 512 := (i 1).isLt
    let t : Fin cfg0.N := ⟨(i 0).val / 2048, lt_of_lt_of_eq (by omega : (i 0).val / 2048 < 2) N_0.symm⟩
    obtain ⟨-, -, -, -, e4, e5⟩ := places t
    refine ⟨t, flush0_2 t, ?_⟩
    show i ∈ ((View.whole main_v0).slice (win0_2.rect t)).set
    rw [View.set_slice_whole, Rect.mem_set_unit]
    intro a
    match a with
    | ⟨0, _⟩ => show win0_2.index t 0 * 2048 ≤ (i 0).val ∧ (i 0).val < win0_2.index t 0 * 2048 + 2048; rw [e4]; dsimp only [t]; omega
    | ⟨1, _⟩ => show win0_2.index t 1 * 512 ≤ (i 1).val ∧ (i 1).val < win0_2.index t 1 * 512 + 512; rw [e5]; omega

/-- The kernel's result is the reference's. -/
theorem algebraic : Cert.algebraic_ProjBwdIdeal_ProjBwdRefIdeal := by
  intro m g m' g' _ hm
  refine ⟨fun c => whole (m ((c : Thread nD τ).loc main_arg0)) (m ((c : Thread nD τ).loc main_arg1)),
    (θ_run _ _ _).mono (fun r h c => ⟨(h c).1.trans (final m c), (h c).2⟩) (run_blocks m g),
    (θ_run _ _ _).mono (fun r h c => ⟨(h c).1.trans ?_, (h c).2⟩) (Cert.ProjBwdRefIdeal.Value.run m' g')⟩
  rw [(hm c).1, (hm c).2]
  exact ref_eq _ _

end Cert.ProjBwdIdeal.Value

end
-- ==== Proof.ProjWgradValue.lean ====
/-
  The weight gradient of the projection of a branch: the kernel adds the products of two blocks of 2048 rows, and the second sum is the
  product over all 4096 rows.
-/
module

public import proofs.«01_k».proof.Defs
public import proofs.«01_k».proof.Proof.Product
public import Idealize.ShloMosaic.Lib.Pipeline.ValueKit
public import proofs.«01_k».proof.Proof.Gen.ProjWgradIdeal.Value
public import proofs.«01_k».proof.Proof.Gen.ProjWgradRefIdeal.Run

@[expose] public section

noncomputable section

namespace Cert.ProjWgradIdeal.Value

open Cert.ProjWgradIdeal Cert.ProjWgradIdeal.Gen Cert.Product
open Idealize.ShloMosaic Idealize.ShloMosaic.TcCoe Idealize.SL.Sem
open scoped BigOperators

variable (m : (ℓ : Loc nD τ sig) → Buf (Elt Ideal) ℓ)

/-- One point's sum: the accumulator plus the product of its two blocks. -/
theorem pay2_apply (s : Vec Ideal S512x1024 .f32) (a : Vec Ideal S2048x512 .bf16) (x : Vec Ideal S2048x1024 .bf16) (y : S512x1024.Idx) :
    k0_pay2 s a x y = s y + ∑ k : Fin 2048, a (ix2 k (y 0)) * x (ix2 k (y 1)) := by
  unfold k0_pay2
  simp only [pointwise, zero_add]

/-- The block the first point starts from is zero. -/
theorem pay1_apply (y : S512x1024.Idx) : (k0_pay1 (F := Ideal)) y = 0 := by
  unfold k0_pay1
  simp only [pointwise]

/-- The last point's rounding changes nothing over the extended reals. -/
theorem pay3_apply (s : Vec Ideal S512x1024 .f32) (y : S512x1024.Idx) : k0_pay3 s y = s y := by
  unfold k0_pay3
  simp only [pointwise]

/-- Where the windows' blocks lie: a point's blocks are the rows of its half. -/
theorem places : ∀ t : Fin cfg0.N, win0_0.index t 0 = t.val ∧ win0_0.index t 1 = 0
    ∧ win0_1.index t 0 = t.val ∧ win0_1.index t 1 = 0 ∧ win0_2.index t 0 = 0 ∧ win0_2.index t 1 = 0 :=
  (by decide +kernel : ∀ t : Fin grid0.N, _)

/-- The first operand's block at a point, by the whole operand's entries. -/
theorem block_a (c : Dev nD) (t : Fin cfg0.N) (y : S2048x512.Idx) :
    iblk m c 0 t y = entry (m ((c : Thread nD τ).loc main_arg0)) (t.val * 2048 + (y 0).val) (y 1).val := by
  obtain ⟨e0, e1, -⟩ := places t
  refine (congrFun (V_main_arg0 m c) _).trans (entry_idx _ _ ?_ ?_)
  · show win0_0.index t 0 * 2048 + 1 * (y 0).val = _; rw [e0]; omega
  · show win0_0.index t 1 * 512 + 1 * (y 1).val = _; rw [e1]; omega

/-- The second operand's block at a point, by the whole operand's entries. -/
theorem block_x (c : Dev nD) (t : Fin cfg0.N) (y : S2048x1024.Idx) :
    iblk m c 1 t y = entry (m ((c : Thread nD τ).loc main_arg1)) (t.val * 2048 + (y 0).val) (y 1).val := by
  obtain ⟨-, -, e0, e1, -⟩ := places t
  refine (congrFun (V_main_arg1 m c) _).trans (entry_idx _ _ ?_ ?_)
  · show win0_1.index t 0 * 2048 + 1 * (y 0).val = _; rw [e0]; omega
  · show win0_1.index t 1 * 1024 + 1 * (y 1).val = _; rw [e1]; omega

/-- Adding a point's product to the sum of the rows before its block gives the sum of the rows up to its block's end. -/
theorem step (c : Dev nD) (t : Fin cfg0.N) {lo hi : ℕ} (hlo : t.val * 2048 = lo) (hhi : (t.val + 1) * 2048 = hi)
    (s : Vec Ideal S512x1024 .f32) (y : S512x1024.Idx) (hs : s y = upTo (m ((c : Thread nD τ).loc main_arg0)) (m ((c : Thread nD τ).loc main_arg1)) lo (y 0).val (y 1).val) :
    k0_pay2 s (iblk m c 0 t) (iblk m c 1 t) y = upTo (m ((c : Thread nD τ).loc main_arg0)) (m ((c : Thread nD τ).loc main_arg1)) hi (y 0).val (y 1).val := by
  subst hlo hhi
  rw [pay2_apply]
  exact upTo_step _ _ (fun k => block_a m c t _) (fun k => block_x m c t _) hs

/-- The whole product: entry (p, q) is the sum over the 4096 rows k of `a[k, p] * x[k, q]`. -/
def whole (a : FVec Ideal S4096x512 .bf16) (x : FVec Ideal S4096x1024 .bf16) : FVec Ideal S512x1024 .bf16 :=
  fun i => upTo a x 4096 (i 0).val (i 1).val

/-- The first point leaves the sum of the first half's rows. -/
theorem half (c : Dev nD) (n : ℕ) (hn : n < cfg0.N) (h : n = 0) (y : S512x1024.Idx) : (outsAt0 m c n hn).2 y
    = upTo (m ((c : Thread nD τ).loc main_arg0)) (m ((c : Thread nD τ).loc main_arg1)) 2048 (y 0).val (y 1).val := by
  subst h
  rw [outsAt0_A m c ⟨0, hn⟩ rfl (by dsimp only; omega)]
  frame_out
  refine step m c ⟨0, hn⟩ (Nat.zero_mul _) (by rw [Nat.zero_add, Nat.one_mul]) _ y ?_
  rw [pay1_apply]
  exact (upTo_zero _ _ _ _).symm

/-- The last point's sum is the sum of all the rows. -/
theorem last (c : Dev nD) (t : Fin cfg0.N) (h : t.val = 1) (hn : t.val - 1 < cfg0.N) (y : S512x1024.Idx) :
    k0_pay2 (outsAt0 m c (t.val - 1) hn).2 (iblk m c 0 t) (iblk m c 1 t) y
      = upTo (m ((c : Thread nD τ).loc main_arg0)) (m ((c : Thread nD τ).loc main_arg1)) 4096 (y 0).val (y 1).val :=
  step m c t (lo := 2048) (hi := 4096) (by omega) (by omega) _ y (half m c _ hn (by omega) y)

/-- What the last point writes back is the whole product. -/
theorem flushed_eq (c : Dev nD) (t : Fin cfg0.N) (hf : (cfg0.win 2).flush t = true) :
    (dats m 0 c).flushed 2 t = ((cfg0.win 2).blk t).view.read (Elt Ideal)
      (whole (m ((c : Thread nD τ).loc main_arg0)) (m ((c : Thread nD τ).loc main_arg1))) := by
  have hN : t.val < 2 := lt_of_lt_of_eq t.isLt N_0
  have h2 : t.val % 2 = 1 := (flush0_2 t).mp hf
  have h1 : t.val = 1 := by omega
  rw [flushed2_B m c t (by omega) h2]
  frame_out; rw [(Memref.isWhole_whole cc0_scratch0).read_unread]
  obtain ⟨-, -, -, -, e0, e1⟩ := places t
  funext y
  show k0_pay3 _ ((cfg0.win 2).xinj (grid0.coords t) y)
    = whole (m ((c : Thread nD τ).loc main_arg0)) (m ((c : Thread nD τ).loc main_arg1)) (((cfg0.win 2).blk t).view.emb y)
  rw [pay3_apply]
  refine (last m c t h1 _ _).trans ?_
  unfold whole
  refine congrArg₂ (upTo _ _ 4096) ?_ ?_
  · show (y 0).val = win0_2.index t 0 * 512 + 1 * (y 0).val; rw [e0]; omega
  · show (y 1).val = win0_2.index t 1 * 1024 + 1 * (y 1).val; rw [e1]; omega

/-- The result array after the run: the whole product. -/
theorem final (c : Dev nD) : (dats m 0 c).arrAt 2 cfg0.N
    = whole (m ((c : Thread nD τ).loc main_arg0)) (m ((c : Thread nD τ).loc main_arg1)) :=
  (dats m 0 c).arrAt_eq_of_cover 2 _ (fun t hf => flushed_eq m c t hf) fun i =>
    (covered_iff2 i).2 ⟨Nat.zero_le _, (i 0).isLt, Nat.zero_le _, (i 1).isLt⟩

/-- The reference's product is `whole`. -/
theorem ref_eq (a : FVec Ideal S4096x512 .bf16) (x : FVec Ideal S4096x1024 .bf16) :
    (truncf .bf16 (transpose S512x1024 [1, 0] (Host.dotGeneral Cert.ProjWgradRefIdeal.dot_S4096x1024_S4096x512_S1024x512_0_0_1_1_n_n none (extf .f32 x Cert.ProjWgradRefIdeal.Facts₀.bitsLt_bf16_f32)
      (extf .f32 a Cert.ProjWgradRefIdeal.Facts₀.bitsLt_bf16_f32)) Cert.ProjWgradRefIdeal.Facts₀.transposes_S1024x512_S512x1024_1_0)
      Cert.ProjWgradRefIdeal.Facts₀.bitsLt_bf16_f32 : FVec Ideal S512x1024 .bf16) = whole a x := by
  funext i
  simp only [pointwise, zero_add]
  refine (Finset.sum_congr rfl fun k _ => mul_comm _ _).trans ?_
  exact upTo_whole a x (i 0) (i 1)

/-- The kernel's result is the reference's. -/
theorem algebraic : Cert.algebraic_ProjWgradIdeal_ProjWgradRefIdeal := by
  intro m g m' g' _ hm
  refine ⟨fun c => whole (m ((c : Thread nD τ).loc main_arg0)) (m ((c : Thread nD τ).loc main_arg1)),
    (θ_run _ _ _).mono (fun r h c => ⟨(h c).1.trans (final m c), (h c).2⟩) (run_blocks m g),
    (θ_run _ _ _).mono (fun r h c => ⟨(h c).1.trans ?_, (h c).2⟩) (Cert.ProjWgradRefIdeal.Value.run m' g')⟩
  rw [(hm c).1, (hm c).2]
  exact ref_eq _ _

end Cert.ProjWgradIdeal.Value

end
-- ==== Proof.GluWgradValue.lean ====
/-
  The weight gradient of the gated unit's product: the kernel adds the products of two blocks of 2048 rows, and the second sum is the
  product over all 4096 rows.
-/
module

public import proofs.«01_k».proof.Defs
public import proofs.«01_k».proof.Proof.Product
public import Idealize.ShloMosaic.Lib.Pipeline.ValueKit
public import proofs.«01_k».proof.Proof.Gen.GluWgradIdeal.Value
public import proofs.«01_k».proof.Proof.Gen.GluWgradRefIdeal.Run

@[expose] public section

noncomputable section

namespace Cert.GluWgradIdeal.Value

open Cert.GluWgradIdeal Cert.GluWgradIdeal.Gen Cert.Product
open Idealize.ShloMosaic Idealize.ShloMosaic.TcCoe Idealize.SL.Sem
open scoped BigOperators

variable (m : (ℓ : Loc nD τ sig) → Buf (Elt Ideal) ℓ)

/-- One point's sum: the accumulator plus the product of its two blocks. -/
theorem pay2_apply (s : Vec Ideal S512x512 .f32) (a : Vec Ideal S2048x512 .bf16) (x : Vec Ideal S2048x512 .bf16) (y : S512x512.Idx) :
    k0_pay2 s a x y = s y + ∑ k : Fin 2048, a (ix2 k (y 0)) * x (ix2 k (y 1)) := by
  unfold k0_pay2
  simp only [pointwise, zero_add]

/-- The block the first point starts from is zero. -/
theorem pay1_apply (y : S512x512.Idx) : (k0_pay1 (F := Ideal)) y = 0 := by
  unfold k0_pay1
  simp only [pointwise]

/-- The last point's rounding changes nothing over the extended reals. -/
theorem pay3_apply (s : Vec Ideal S512x512 .f32) (y : S512x512.Idx) : k0_pay3 s y = s y := by
  unfold k0_pay3
  simp only [pointwise]

/-- Where the windows' blocks lie: a point's blocks are the rows of its half. -/
theorem places : ∀ t : Fin cfg0.N, win0_0.index t 0 = t.val ∧ win0_0.index t 1 = 0
    ∧ win0_1.index t 0 = t.val ∧ win0_1.index t 1 = 0 ∧ win0_2.index t 0 = 0 ∧ win0_2.index t 1 = 0 :=
  (by decide +kernel : ∀ t : Fin grid0.N, _)

/-- The first operand's block at a point, by the whole operand's entries. -/
theorem block_a (c : Dev nD) (t : Fin cfg0.N) (y : S2048x512.Idx) :
    iblk m c 0 t y = entry (m ((c : Thread nD τ).loc main_arg0)) (t.val * 2048 + (y 0).val) (y 1).val := by
  obtain ⟨e0, e1, -⟩ := places t
  refine (congrFun (V_main_arg0 m c) _).trans (entry_idx _ _ ?_ ?_)
  · show win0_0.index t 0 * 2048 + 1 * (y 0).val = _; rw [e0]; omega
  · show win0_0.index t 1 * 512 + 1 * (y 1).val = _; rw [e1]; omega

/-- The second operand's block at a point, by the whole operand's entries. -/
theorem block_x (c : Dev nD) (t : Fin cfg0.N) (y : S2048x512.Idx) :
    iblk m c 1 t y = entry (m ((c : Thread nD τ).loc main_arg1)) (t.val * 2048 + (y 0).val) (y 1).val := by
  obtain ⟨-, -, e0, e1, -⟩ := places t
  refine (congrFun (V_main_arg1 m c) _).trans (entry_idx _ _ ?_ ?_)
  · show win0_1.index t 0 * 2048 + 1 * (y 0).val = _; rw [e0]; omega
  · show win0_1.index t 1 * 512 + 1 * (y 1).val = _; rw [e1]; omega

/-- Adding a point's product to the sum of the rows before its block gives the sum of the rows up to its block's end. -/
theorem step (c : Dev nD) (t : Fin cfg0.N) {lo hi : ℕ} (hlo : t.val * 2048 = lo) (hhi : (t.val + 1) * 2048 = hi)
    (s : Vec Ideal S512x512 .f32) (y : S512x512.Idx) (hs : s y = upTo (m ((c : Thread nD τ).loc main_arg0)) (m ((c : Thread nD τ).loc main_arg1)) lo (y 0).val (y 1).val) :
    k0_pay2 s (iblk m c 0 t) (iblk m c 1 t) y = upTo (m ((c : Thread nD τ).loc main_arg0)) (m ((c : Thread nD τ).loc main_arg1)) hi (y 0).val (y 1).val := by
  subst hlo hhi
  rw [pay2_apply]
  exact upTo_step _ _ (fun k => block_a m c t _) (fun k => block_x m c t _) hs

/-- The whole product: entry (p, q) is the sum over the 4096 rows k of `a[k, p] * x[k, q]`. -/
def whole (a : FVec Ideal S4096x512 .bf16) (x : FVec Ideal S4096x512 .bf16) : FVec Ideal S512x512 .bf16 :=
  fun i => upTo a x 4096 (i 0).val (i 1).val

/-- The first point leaves the sum of the first half's rows. -/
theorem half (c : Dev nD) (n : ℕ) (hn : n < cfg0.N) (h : n = 0) (y : S512x512.Idx) : (outsAt0 m c n hn).2 y
    = upTo (m ((c : Thread nD τ).loc main_arg0)) (m ((c : Thread nD τ).loc main_arg1)) 2048 (y 0).val (y 1).val := by
  subst h
  rw [outsAt0_A m c ⟨0, hn⟩ rfl (by dsimp only; omega)]
  frame_out
  refine step m c ⟨0, hn⟩ (Nat.zero_mul _) (by rw [Nat.zero_add, Nat.one_mul]) _ y ?_
  rw [pay1_apply]
  exact (upTo_zero _ _ _ _).symm

/-- The last point's sum is the sum of all the rows. -/
theorem last (c : Dev nD) (t : Fin cfg0.N) (h : t.val = 1) (hn : t.val - 1 < cfg0.N) (y : S512x512.Idx) :
    k0_pay2 (outsAt0 m c (t.val - 1) hn).2 (iblk m c 0 t) (iblk m c 1 t) y
      = upTo (m ((c : Thread nD τ).loc main_arg0)) (m ((c : Thread nD τ).loc main_arg1)) 4096 (y 0).val (y 1).val :=
  step m c t (lo := 2048) (hi := 4096) (by omega) (by omega) _ y (half m c _ hn (by omega) y)

/-- What the last point writes back is the whole product. -/
theorem flushed_eq (c : Dev nD) (t : Fin cfg0.N) (hf : (cfg0.win 2).flush t = true) :
    (dats m 0 c).flushed 2 t = ((cfg0.win 2).blk t).view.read (Elt Ideal)
      (whole (m ((c : Thread nD τ).loc main_arg0)) (m ((c : Thread nD τ).loc main_arg1))) := by
  have hN : t.val < 2 := lt_of_lt_of_eq t.isLt N_0
  have h2 : t.val % 2 = 1 := (flush0_2 t).mp hf
  have h1 : t.val = 1 := by omega
  rw [flushed2_B m c t (by omega) h2]
  frame_out; rw [(Memref.isWhole_whole cc0_scratch0).read_unread]
  obtain ⟨-, -, -, -, e0, e1⟩ := places t
  funext y
  show k0_pay3 _ ((cfg0.win 2).xinj (grid0.coords t) y)
    = whole (m ((c : Thread nD τ).loc main_arg0)) (m ((c : Thread nD τ).loc main_arg1)) (((cfg0.win 2).blk t).view.emb y)
  rw [pay3_apply]
  refine (last m c t h1 _ _).trans ?_
  unfold whole
  refine congrArg₂ (upTo _ _ 4096) ?_ ?_
  · show (y 0).val = win0_2.index t 0 * 512 + 1 * (y 0).val; rw [e0]; omega
  · show (y 1).val = win0_2.index t 1 * 512 + 1 * (y 1).val; rw [e1]; omega

/-- The result array after the run: the whole product. -/
theorem final (c : Dev nD) : (dats m 0 c).arrAt 2 cfg0.N
    = whole (m ((c : Thread nD τ).loc main_arg0)) (m ((c : Thread nD τ).loc main_arg1)) :=
  (dats m 0 c).arrAt_eq_of_cover 2 _ (fun t hf => flushed_eq m c t hf) fun i =>
    (covered_iff2 i).2 ⟨Nat.zero_le _, (i 0).isLt, Nat.zero_le _, (i 1).isLt⟩

/-- The reference's product is `whole`. -/
theorem ref_eq (a : FVec Ideal S4096x512 .bf16) (x : FVec Ideal S4096x512 .bf16) :
    (truncf .bf16 (transpose S512x512 [1, 0] (Host.dotGeneral Cert.GluWgradRefIdeal.dot_S4096x512_S4096x512_S512x512_0_0_1_1_n_n none (extf .f32 x Cert.GluWgradRefIdeal.Facts₀.bitsLt_bf16_f32)
      (extf .f32 a Cert.GluWgradRefIdeal.Facts₀.bitsLt_bf16_f32)) Cert.GluWgradRefIdeal.Facts₀.transposes_S512x512_S512x512_1_0)
      Cert.GluWgradRefIdeal.Facts₀.bitsLt_bf16_f32 : FVec Ideal S512x512 .bf16) = whole a x := by
  funext i
  simp only [pointwise, zero_add]
  refine (Finset.sum_congr rfl fun k _ => mul_comm _ _).trans ?_
  exact upTo_whole a x (i 0) (i 1)

/-- The kernel's result is the reference's. -/
theorem algebraic : Cert.algebraic_GluWgradIdeal_GluWgradRefIdeal := by
  intro m g m' g' _ hm
  refine ⟨fun c => whole (m ((c : Thread nD τ).loc main_arg0)) (m ((c : Thread nD τ).loc main_arg1)),
    (θ_run _ _ _).mono (fun r h c => ⟨(h c).1.trans (final m c), (h c).2⟩) (run_blocks m g),
    (θ_run _ _ _).mono (fun r h c => ⟨(h c).1.trans ?_, (h c).2⟩) (Cert.GluWgradRefIdeal.Value.run m' g')⟩
  rw [(hm c).1, (hm c).2]
  exact ref_eq _ _

end Cert.GluWgradIdeal.Value

end
-- ==== Proof.UpProjValue.lean ====
/-
  The up projection: the blocks of `x · w` the kernel writes are the blocks of the reference's whole product, whose weight is
  the four blocks of the kernel's side by side.
-/
module

public import proofs.«01_k».proof.Defs
public import proofs.«01_k».proof.Proof.Product
public import proofs.«01_k».proof.Proof.Gen.UpProjIdeal.Value
public import proofs.«01_k».proof.Proof.Gen.UpProjRefIdeal.Run

@[expose] public section

noncomputable section

namespace Cert.UpProjIdeal.Value

open Cert.UpProjIdeal Cert.UpProjIdeal.Gen Cert.Product
open Idealize.ShloMosaic Idealize.ShloMosaic.TcCoe Idealize.SL.Sem
open scoped BigOperators

variable (m : (ℓ : Loc nD τ sig) → Buf (Elt Ideal) ℓ)

theorem hz : (![0, 0] : Fin 2 → Nat) = fun _ => 0 := funext fun a => by fin_cases a <;> rfl

theorem hz3 : (![0, 0, 0] : Fin 3 → Nat) = fun _ => 0 := funext fun a => by fin_cases a <;> rfl

/-- The block of the weight a column lies in, and its place there. -/
def blockOf (n : Fin 5632) : Fin 4 := ⟨n.val / 1408, by have := n.isLt; omega⟩
def placeOf (n : Fin 5632) : Fin 1408 := ⟨n.val % 1408, Nat.mod_lt _ (by decide)⟩

/-- The whole product: entry (r, n) is the sum over k of `x[r, k] * w[n / 1408, k, n % 1408]`. -/
def whole (x : FVec Ideal S4096x1024 .bf16) (w : FVec Ideal S4x1024x1408 .bf16) : FVec Ideal S4096x5632 .bf16 :=
  fun i => ∑ k : Fin 1024, x (ix2 (i 0) k) * w (ix3 (blockOf (i 1)) k (placeOf (i 1)))

/-- The product of two blocks at an index. -/
theorem pay_apply (x : Vec Ideal S2048x1024 .bf16) (w : Vec Ideal S1x1024x1408 .bf16) (y : S2048x1408.Idx) :
    k0_pay1 x w y = ∑ k : Fin 1024, x (ix2 (y 0) k) * w (ix3 0 k (y 1)) := by
  unfold k0_pay1
  simp only [pointwise, zero_add]

/-- The four blocks of the weight side by side, read at an entry. -/
theorem matrix_apply (w : FVec Ideal S4x1024x1408 .bf16) (k : Fin 1024) (n : Fin 5632) :
    (concatenate Cert.UpProjRefIdeal.S1024x5632 1
      [⟨S1024x1408, shapeCast S1024x1408 (extractStridedSlice S1x1024x1408 ![0, 0, 0] w Cert.UpProjRefIdeal.Facts₀.slices_S4x1024x1408_S1x1024x1408_0_0_0) Cert.UpProjRefIdeal.Facts₀.shapeCasts_S1x1024x1408_S1024x1408⟩,
        ⟨S1024x1408, shapeCast S1024x1408 (extractStridedSlice S1x1024x1408 ![1, 0, 0] w Cert.UpProjRefIdeal.Facts₀.slices_S4x1024x1408_S1x1024x1408_1_0_0) Cert.UpProjRefIdeal.Facts₀.shapeCasts_S1x1024x1408_S1024x1408⟩,
        ⟨S1024x1408, shapeCast S1024x1408 (extractStridedSlice S1x1024x1408 ![2, 0, 0] w Cert.UpProjRefIdeal.Facts₀.slices_S4x1024x1408_S1x1024x1408_2_0_0) Cert.UpProjRefIdeal.Facts₀.shapeCasts_S1x1024x1408_S1024x1408⟩,
        ⟨S1024x1408, shapeCast S1024x1408 (extractStridedSlice S1x1024x1408 ![3, 0, 0] w Cert.UpProjRefIdeal.Facts₀.slices_S4x1024x1408_S1x1024x1408_3_0_0) Cert.UpProjRefIdeal.Facts₀.shapeCasts_S1x1024x1408_S1024x1408⟩]
      Cert.UpProjRefIdeal.Facts₀.concatenates_S1024x1408_S1024x1408_S1024x1408_S1024x1408_S1024x5632_d1 : FVec Ideal Cert.UpProjRefIdeal.S1024x5632 .bf16) (ix2 k n)
      = w (ix3 (blockOf n) k (placeOf n)) := by
  have hn := n.isLt
  simp only [pointwise, Matrix.cons_val_one, Matrix.cons_val_zero, Matrix.cons_val, Matrix.cons_val_fin_one]
  split_ifs <;> refine congrArg w (funext fun a => Fin.ext ?_) <;> fin_cases a <;>
    simp [ix3, blockOf, placeOf] <;> omega

/-- The reference's product with a whole weight, at an index. -/
theorem product_apply (x : FVec Ideal S4096x1024 .bf16) (w : FVec Ideal Cert.UpProjRefIdeal.S1024x5632 .bf16) (i : S4096x5632.Idx) :
    (truncf .bf16 (Host.dotGeneral Cert.UpProjRefIdeal.dot_S4096x1024_S1024x5632_S4096x5632_1_0_0_1_n_n none
      (extf .f32 x Cert.UpProjRefIdeal.Facts₀.bitsLt_bf16_f32) (extf .f32 w Cert.UpProjRefIdeal.Facts₀.bitsLt_bf16_f32))
      Cert.UpProjRefIdeal.Facts₀.bitsLt_bf16_f32 : FVec Ideal S4096x5632 .bf16) i = ∑ k : Fin 1024, x (ix2 (i 0) k) * w (ix2 k (i 1)) := by
  simp only [pointwise, zero_add]

/-- The reference's product of the whole arrays is `whole`. -/
theorem ref_eq (x : FVec Ideal S4096x1024 .bf16) (w : FVec Ideal S4x1024x1408 .bf16) :
    (truncf .bf16 (Host.dotGeneral Cert.UpProjRefIdeal.dot_S4096x1024_S1024x5632_S4096x5632_1_0_0_1_n_n none
      (extf .f32 x Cert.UpProjRefIdeal.Facts₀.bitsLt_bf16_f32) (extf .f32 (concatenate Cert.UpProjRefIdeal.S1024x5632 1
      [⟨S1024x1408, shapeCast S1024x1408 (extractStridedSlice S1x1024x1408 ![0, 0, 0] w Cert.UpProjRefIdeal.Facts₀.slices_S4x1024x1408_S1x1024x1408_0_0_0) Cert.UpProjRefIdeal.Facts₀.shapeCasts_S1x1024x1408_S1024x1408⟩,
        ⟨S1024x1408, shapeCast S1024x1408 (extractStridedSlice S1x1024x1408 ![1, 0, 0] w Cert.UpProjRefIdeal.Facts₀.slices_S4x1024x1408_S1x1024x1408_1_0_0) Cert.UpProjRefIdeal.Facts₀.shapeCasts_S1x1024x1408_S1024x1408⟩,
        ⟨S1024x1408, shapeCast S1024x1408 (extractStridedSlice S1x1024x1408 ![2, 0, 0] w Cert.UpProjRefIdeal.Facts₀.slices_S4x1024x1408_S1x1024x1408_2_0_0) Cert.UpProjRefIdeal.Facts₀.shapeCasts_S1x1024x1408_S1024x1408⟩,
        ⟨S1024x1408, shapeCast S1024x1408 (extractStridedSlice S1x1024x1408 ![3, 0, 0] w Cert.UpProjRefIdeal.Facts₀.slices_S4x1024x1408_S1x1024x1408_3_0_0) Cert.UpProjRefIdeal.Facts₀.shapeCasts_S1x1024x1408_S1024x1408⟩]
      Cert.UpProjRefIdeal.Facts₀.concatenates_S1024x1408_S1024x1408_S1024x1408_S1024x1408_S1024x5632_d1 : FVec Ideal Cert.UpProjRefIdeal.S1024x5632 .bf16)
      Cert.UpProjRefIdeal.Facts₀.bitsLt_bf16_f32)) Cert.UpProjRefIdeal.Facts₀.bitsLt_bf16_f32 : FVec Ideal S4096x5632 .bf16) = whole x w := by
  funext i
  exact (product_apply x _ i).trans (Finset.sum_congr rfl fun k _ => congrArg _ (matrix_apply w k (i 1)))

/-- Where the windows' blocks lie: the weight's block is the result's column tile, the rows its row tile. -/
theorem places : ∀ t : Fin cfg0.N, win0_0.index t 0 = win0_2.index t 0 ∧ win0_0.index t 1 = 0
    ∧ win0_1.index t 0 = win0_2.index t 1 ∧ win0_1.index t 1 = 0 ∧ win0_1.index t 2 = 0 :=
  (by decide +kernel : ∀ t : Fin grid0.N, _)

/-- Every block of the result is some point's. -/
theorem onto : ∀ (q0 : Fin 2) (q1 : Fin 4), ∃ t : Fin cfg0.N, (cfg0.win 2).flush t = true ∧ win0_2.index t = ![q0.val, q1.val] :=
  (by decide +kernel : ∀ (q0 : Fin 2) (q1 : Fin 4), ∃ t : Fin grid0.N, (cfg0.win 2).flush t = true ∧ win0_2.index t = ![q0.val, q1.val])

/-- What a point writes back is its block of the whole product. -/
theorem flushed_eq (c : Dev nD) (t : Fin cfg0.N) :
    (dats m 0 c).flushed 2 t = ((cfg0.win 2).blk t).view.read (Elt Ideal) (whole (m ((c : Thread nD τ).loc main_arg0)) (m ((c : Thread nD τ).loc main_arg1))) := by
  rw [flushed2]
  obtain ⟨e0, e1, e2, e3, e4⟩ := places t
  funext y
  show out0_2 (iblk m c 0 t) (iblk m c 1 t) ((cfg0.win 2).xinj (grid0.coords t) y) = whole (m ((c : Thread nD τ).loc main_arg0)) (m ((c : Thread nD τ).loc main_arg1)) (((cfg0.win 2).blk t).view.emb y)
  have hy : (y 1).val < 1408 := (y 1).isLt
  unfold out0_2
  rw [View.canon_unit_zero hz, View.ld_unit_zero (S := S2048x1024) hz, View.ld_unit_zero (S := S1x1024x1408) hz3, pay_apply]
  unfold whole
  refine Finset.sum_congr rfl fun k _ => congrArg₂ (· * ·) ?_ ?_
  · show V m c (Pipeline.arrRef spec0 0) (((cfg0.win 0).blk t).view.emb _) = _
    refine (congrFun (V_main_arg0 m c) _).trans (congrArg _ (funext fun a => Fin.ext ?_))
    match a with
    | ⟨0, _⟩ => show win0_0.index t 0 * 2048 + 1 * (y 0).val = win0_2.index t 0 * 2048 + 1 * (y 0).val; rw [e0]
    | ⟨1, _⟩ => show win0_0.index t 1 * 1024 + 1 * k.val = k.val; rw [e1]; omega
  · show V m c (Pipeline.arrRef spec0 1) (((cfg0.win 1).blk t).view.emb _) = _
    refine (congrFun (V_main_arg1 m c) _).trans (congrArg _ (funext fun a => Fin.ext ?_))
    match a with
    | ⟨0, _⟩ => show win0_1.index t 0 * 1 + 1 * 0 = (win0_2.index t 1 * 1408 + 1 * (y 1).val) / 1408; rw [e2]; omega
    | ⟨1, _⟩ => show win0_1.index t 1 * 1024 + 1 * k.val = k.val; rw [e3]; omega
    | ⟨2, _⟩ => show win0_1.index t 2 * 1408 + 1 * (y 1).val = (win0_2.index t 1 * 1408 + 1 * (y 1).val) % 1408; rw [e4]; omega

/-- The result array after the run: the whole product. -/
theorem final (c : Dev nD) : (dats m 0 c).arrAt 2 cfg0.N = whole (m ((c : Thread nD τ).loc main_arg0)) (m ((c : Thread nD τ).loc main_arg1)) :=
  (dats m 0 c).arrAt_eq_of_cover 2 _ (fun t _ => flushed_eq m c t) fun i => by
    have h0 : (i 0).val < 4096 := (i 0).isLt
    have h1 : (i 1).val < 5632 := (i 1).isLt
    obtain ⟨t, hf, ht⟩ := onto ⟨(i 0).val / 2048, by omega⟩ ⟨(i 1).val / 1408, by omega⟩
    have q0 : win0_2.index t 0 = (i 0).val / 2048 := congrFun ht 0
    have q1 : win0_2.index t 1 = (i 1).val / 1408 := congrFun ht 1
    refine ⟨t, hf, ?_⟩
    show i ∈ ((View.whole main_v0).slice (win0_2.rect t)).set
    rw [View.set_slice_whole, Rect.mem_set_unit]
    intro a
    match a with
    | ⟨0, _⟩ => show win0_2.index t 0 * 2048 ≤ (i 0).val ∧ (i 0).val < win0_2.index t 0 * 2048 + 2048; omega
    | ⟨1, _⟩ => show win0_2.index t 1 * 1408 ≤ (i 1).val ∧ (i 1).val < win0_2.index t 1 * 1408 + 1408; omega

/-- The kernel's result is the reference's. -/
theorem algebraic : Cert.algebraic_UpProjIdeal_UpProjRefIdeal := by
  intro m g m' g' _ hm
  refine ⟨fun c => whole (m ((c : Thread nD τ).loc main_arg0)) (m ((c : Thread nD τ).loc main_arg1)),
    (θ_run _ _ _).mono (fun r h c => ⟨(h c).1.trans (final m c), (h c).2⟩) (run_blocks m g),
    (θ_run _ _ _).mono (fun r h c => ⟨(h c).1.trans ?_, (h c).2⟩) (Cert.UpProjRefIdeal.Value.run m' g')⟩
  rw [(hm c).1, (hm c).2]
  exact ref_eq _ _

end Cert.UpProjIdeal.Value

end
-- ==== Proof.ProjValue.lean ====
/-
  The projection of a branch: the blocks of `x · w` the kernel writes are the blocks of the reference's whole product.
-/
module

public import proofs.«01_k».proof.Defs
public import proofs.«01_k».proof.Proof.Product
public import proofs.«01_k».proof.Proof.Gen.ProjIdeal.Value
public import proofs.«01_k».proof.Proof.Gen.ProjRefIdeal.Run

@[expose] public section

noncomputable section

namespace Cert.ProjIdeal.Value

open Cert.ProjIdeal Cert.ProjIdeal.Gen Cert.Product
open Idealize.ShloMosaic Idealize.ShloMosaic.TcCoe Idealize.SL.Sem
open scoped BigOperators

variable (m : (ℓ : Loc nD τ sig) → Buf (Elt Ideal) ℓ)

theorem hz : (![0, 0] : Fin 2 → Nat) = fun _ => 0 := funext fun a => by fin_cases a <;> rfl

/-- The whole product: entry (r, n) is the sum over k of `x[r, k] * w[k, n]`. -/
def whole (x : FVec Ideal S4096x512 .bf16) (w : FVec Ideal S512x1024 .bf16) : FVec Ideal S4096x1024 .bf16 :=
  fun i => ∑ k : Fin 512, x (ix2 (i 0) k) * w (ix2 k (i 1))

/-- The product of two blocks at an index. -/
theorem pay_apply (x : Vec Ideal S2048x512 .bf16) (w : Vec Ideal S512x1024 .bf16) (y : S2048x1024.Idx) :
    k0_pay1 x w y = (∑ k : Fin 512, x (ix2 (y 0) k) * w (ix2 k (y 1))) := by
  unfold k0_pay1
  simp only [pointwise, zero_add]

/-- The reference's product of the whole arrays is `whole`. -/
theorem ref_eq (x : FVec Ideal S4096x512 .bf16) (w : FVec Ideal S512x1024 .bf16) :
    (truncf .bf16 (Host.dotGeneral Cert.ProjRefIdeal.dot_S4096x512_S512x1024_S4096x1024_1_0_0_1_n_n none (extf .f32 x Cert.ProjRefIdeal.Facts₀.bitsLt_bf16_f32) (extf .f32 w Cert.ProjRefIdeal.Facts₀.bitsLt_bf16_f32)) Cert.ProjRefIdeal.Facts₀.bitsLt_bf16_f32 : FVec Ideal S4096x1024 .bf16) = whole x w := by
  funext i
  simp only [pointwise, zero_add]
  rfl

/-- Where the windows' blocks lie: the rows of a point's blocks are its tile of rows. -/
theorem places : ∀ t : Fin cfg0.N, win0_0.index t 0 = t.val ∧ win0_0.index t 1 = 0 ∧ win0_1.index t 0 = 0
    ∧ win0_1.index t 1 = 0 ∧ win0_2.index t 0 = t.val ∧ win0_2.index t 1 = 0 :=
  (by decide +kernel : ∀ t : Fin grid0.N, _)

/-- What a point writes back is its block of the whole product. -/
theorem flushed_eq (c : Dev nD) (t : Fin cfg0.N) :
    (dats m 0 c).flushed 2 t = ((cfg0.win 2).blk t).view.read (Elt Ideal) (whole (m ((c : Thread nD τ).loc main_arg0)) (m ((c : Thread nD τ).loc main_arg1))) := by
  rw [flushed2]
  obtain ⟨e0, e1, e2, e3, e4, e5⟩ := places t
  funext y
  show out0_2 (iblk m c 0 t) (iblk m c 1 t) ((cfg0.win 2).xinj (grid0.coords t) y)
    = whole (m ((c : Thread nD τ).loc main_arg0)) (m ((c : Thread nD τ).loc main_arg1)) (((cfg0.win 2).blk t).view.emb y)
  unfold out0_2
  rw [View.canon_unit_zero hz, View.ld_unit_zero (S := S2048x512) hz, View.ld_unit_zero (S := S512x1024) hz, pay_apply]
  unfold whole
  refine Finset.sum_congr rfl fun k _ => congrArg₂ (· * ·) ?_ ?_
  · show V m c (Pipeline.arrRef spec0 0) (((cfg0.win 0).blk t).view.emb _) = _
    refine (congrFun (V_main_arg0 m c) _).trans (congrArg _ (funext fun a => Fin.ext ?_))
    match a with
    | ⟨0, _⟩ => show win0_0.index t 0 * 2048 + 1 * (y 0).val = win0_2.index t 0 * 2048 + 1 * (y 0).val; rw [e0, e4]
    | ⟨1, _⟩ => show win0_0.index t 1 * 512 + 1 * k.val = k.val; rw [e1]; omega
  · show V m c (Pipeline.arrRef spec0 1) (((cfg0.win 1).blk t).view.emb _) = _
    refine (congrFun (V_main_arg1 m c) _).trans (congrArg _ (funext fun a => Fin.ext ?_))
    match a with
    | ⟨0, _⟩ => show win0_1.index t 0 * 512 + 1 * k.val = k.val; rw [e2]; omega
    | ⟨1, _⟩ => show win0_1.index t 1 * 1024 + 1 * (y 1).val = win0_2.index t 1 * 1024 + 1 * (y 1).val; rw [e3, e5]

/-- The result array after the run: the whole product. -/
theorem final (c : Dev nD) : (dats m 0 c).arrAt 2 cfg0.N = whole (m ((c : Thread nD τ).loc main_arg0)) (m ((c : Thread nD τ).loc main_arg1)) :=
  (dats m 0 c).arrAt_eq_of_cover 2 _ (fun t _ => flushed_eq m c t) fun i => by
    have h0 : (i 0).val < 4096 := (i 0).isLt
    have h1 : (i 1).val < 1024 := (i 1).isLt
    let t : Fin cfg0.N := ⟨(i 0).val / 2048, lt_of_lt_of_eq (by omega : (i 0).val / 2048 < 2) N_0.symm⟩
    obtain ⟨-, -, -, -, e4, e5⟩ := places t
    refine ⟨t, flush0_2 t, ?_⟩
    show i ∈ ((View.whole main_v0).slice (win0_2.rect t)).set
    rw [View.set_slice_whole, Rect.mem_set_unit]
    intro a
    match a with
    | ⟨0, _⟩ => show win0_2.index t 0 * 2048 ≤ (i 0).val ∧ (i 0).val < win0_2.index t 0 * 2048 + 2048; rw [e4]; dsimp only [t]; omega
    | ⟨1, _⟩ => show win0_2.index t 1 * 1024 ≤ (i 1).val ∧ (i 1).val < win0_2.index t 1 * 1024 + 1024; rw [e5]; omega

/-- The kernel's result is the reference's. -/
theorem algebraic : Cert.algebraic_ProjIdeal_ProjRefIdeal := by
  intro m g m' g' _ hm
  refine ⟨fun c => whole (m ((c : Thread nD τ).loc main_arg0)) (m ((c : Thread nD τ).loc main_arg1)),
    (θ_run _ _ _).mono (fun r h c => ⟨(h c).1.trans (final m c), (h c).2⟩) (run_blocks m g),
    (θ_run _ _ _).mono (fun r h c => ⟨(h c).1.trans ?_, (h c).2⟩) (Cert.ProjRefIdeal.Value.run m' g')⟩
  rw [(hm c).1, (hm c).2]
  exact ref_eq _ _

end Cert.ProjIdeal.Value

end
-- ==== Proof.OutProjValue.lean ====
/-
  The output projection with its residual: the blocks of `x · w + r` the kernel writes are the blocks of the reference's
  whole sum.
-/
module

public import proofs.«01_k».proof.Defs
public import proofs.«01_k».proof.Proof.Product
public import proofs.«01_k».proof.Proof.Gen.OutProjIdeal.Value
public import proofs.«01_k».proof.Proof.Gen.OutProjRefIdeal.Run

@[expose] public section

noncomputable section

namespace Cert.OutProjIdeal.Value

open Cert.OutProjIdeal Cert.OutProjIdeal.Gen Cert.Product
open Idealize.ShloMosaic Idealize.ShloMosaic.TcCoe Idealize.SL.Sem
open scoped BigOperators

variable (m : (ℓ : Loc nD τ sig) → Buf (Elt Ideal) ℓ)

theorem hz : (![0, 0] : Fin 2 → Nat) = fun _ => 0 := funext fun a => by fin_cases a <;> rfl

/-- The whole product: entry (r, n) is the sum over k of `x[r, k] * w[k, n]`. -/
def whole (x : FVec Ideal S4096x1024 .bf16) (w : FVec Ideal S1024x1024 .bf16) (r : FVec Ideal S4096x1024 .f32) : FVec Ideal S4096x1024 .f32 :=
  fun i => r i + ∑ k : Fin 1024, x (ix2 (i 0) k) * w (ix2 k (i 1))

/-- The product of two blocks at an index, with the residual added. -/
theorem pay_apply (x : Vec Ideal S1024x1024 .bf16) (w : Vec Ideal S1024x1024 .bf16) (r : Vec Ideal S1024x1024 .f32) (y : S1024x1024.Idx) :
    k0_pay1 x w r y = (∑ k : Fin 1024, x (ix2 (y 0) k) * w (ix2 k (y 1))) + r y := by
  unfold k0_pay1
  simp only [pointwise, zero_add]

/-- The reference's product of the whole arrays is `whole`. -/
theorem ref_eq (x : FVec Ideal S4096x1024 .bf16) (w : FVec Ideal S1024x1024 .bf16) (r : FVec Ideal S4096x1024 .f32) :
    (addf r (Host.dotGeneral Cert.OutProjRefIdeal.dot_S4096x1024_S1024x1024_S4096x1024_1_0_0_1_n_n none (extf .f32 x Cert.OutProjRefIdeal.Facts₀.bitsLt_bf16_f32) (extf .f32 w Cert.OutProjRefIdeal.Facts₀.bitsLt_bf16_f32)) : FVec Ideal S4096x1024 .f32) = whole x w r := by
  funext i
  simp only [pointwise, zero_add]
  rfl

/-- Where the windows' blocks lie: the rows of a point's blocks are its tile of rows. -/
theorem places : ∀ t : Fin cfg0.N, win0_0.index t 0 = t.val ∧ win0_0.index t 1 = 0 ∧ win0_1.index t 0 = 0
    ∧ win0_1.index t 1 = 0 ∧ win0_2.index t 0 = t.val ∧ win0_2.index t 1 = 0 ∧ win0_3.index t 0 = t.val ∧ win0_3.index t 1 = 0 :=
  (by decide +kernel : ∀ t : Fin grid0.N, _)

/-- What a point writes back is its block of the whole product. -/
theorem flushed_eq (c : Dev nD) (t : Fin cfg0.N) :
    (dats m 0 c).flushed 3 t = ((cfg0.win 3).blk t).view.read (Elt Ideal) (whole (m ((c : Thread nD τ).loc main_arg0)) (m ((c : Thread nD τ).loc main_arg1)) (m ((c : Thread nD τ).loc main_arg2))) := by
  rw [flushed3]
  obtain ⟨e0, e1, e2, e3, f0, f1, e4, e5⟩ := places t
  funext y
  show out0_3 (iblk m c 0 t) (iblk m c 1 t) (iblk m c 2 t) ((cfg0.win 3).xinj (grid0.coords t) y)
    = whole (m ((c : Thread nD τ).loc main_arg0)) (m ((c : Thread nD τ).loc main_arg1)) (m ((c : Thread nD τ).loc main_arg2)) (((cfg0.win 3).blk t).view.emb y)
  unfold out0_3
  rw [View.canon_unit_zero hz, View.ld_unit_zero (S := S1024x1024) hz, View.ld_unit_zero (S := S1024x1024) hz, View.ld_unit_zero (S := S1024x1024) hz, pay_apply]
  rw [add_comm]
  unfold whole
  refine congrArg₂ (· + ·) ?_ ?_
  rotate_left
  refine Finset.sum_congr rfl fun k _ => congrArg₂ (· * ·) ?_ ?_
  · show V m c (Pipeline.arrRef spec0 0) (((cfg0.win 0).blk t).view.emb _) = _
    refine (congrFun (V_main_arg0 m c) _).trans (congrArg _ (funext fun a => Fin.ext ?_))
    match a with
    | ⟨0, _⟩ => show win0_0.index t 0 * 1024 + 1 * (y 0).val = win0_3.index t 0 * 1024 + 1 * (y 0).val; rw [e0, e4]
    | ⟨1, _⟩ => show win0_0.index t 1 * 1024 + 1 * k.val = k.val; rw [e1]; omega
  · show V m c (Pipeline.arrRef spec0 1) (((cfg0.win 1).blk t).view.emb _) = _
    refine (congrFun (V_main_arg1 m c) _).trans (congrArg _ (funext fun a => Fin.ext ?_))
    match a with
    | ⟨0, _⟩ => show win0_1.index t 0 * 1024 + 1 * k.val = k.val; rw [e2]; omega
    | ⟨1, _⟩ => show win0_1.index t 1 * 1024 + 1 * (y 1).val = win0_3.index t 1 * 1024 + 1 * (y 1).val; rw [e3, e5]
  · show V m c (Pipeline.arrRef spec0 2) (((cfg0.win 2).blk t).view.emb _) = _
    refine (congrFun (V_main_arg2 m c) _).trans (congrArg _ (funext fun a => Fin.ext ?_))
    match a with
    | ⟨0, _⟩ => show win0_2.index t 0 * 1024 + 1 * (y 0).val = win0_3.index t 0 * 1024 + 1 * (y 0).val; rw [f0, e4]
    | ⟨1, _⟩ => show win0_2.index t 1 * 1024 + 1 * (y 1).val = win0_3.index t 1 * 1024 + 1 * (y 1).val; rw [f1, e5]

/-- The result array after the run: the whole product. -/
theorem final (c : Dev nD) : (dats m 0 c).arrAt 3 cfg0.N = whole (m ((c : Thread nD τ).loc main_arg0)) (m ((c : Thread nD τ).loc main_arg1)) (m ((c : Thread nD τ).loc main_arg2)) :=
  (dats m 0 c).arrAt_eq_of_cover 3 _ (fun t _ => flushed_eq m c t) fun i => by
    have h0 : (i 0).val < 4096 := (i 0).isLt
    have h1 : (i 1).val < 1024 := (i 1).isLt
    let t : Fin cfg0.N := ⟨(i 0).val / 1024, lt_of_lt_of_eq (by omega : (i 0).val / 1024 < 4) N_0.symm⟩
    obtain ⟨-, -, -, -, -, -, e4, e5⟩ := places t
    refine ⟨t, flush0_3 t, ?_⟩
    show i ∈ ((View.whole main_v0).slice (win0_3.rect t)).set
    rw [View.set_slice_whole, Rect.mem_set_unit]
    intro a
    match a with
    | ⟨0, _⟩ => show win0_3.index t 0 * 1024 ≤ (i 0).val ∧ (i 0).val < win0_3.index t 0 * 1024 + 1024; rw [e4]; dsimp only [t]; omega
    | ⟨1, _⟩ => show win0_3.index t 1 * 1024 ≤ (i 1).val ∧ (i 1).val < win0_3.index t 1 * 1024 + 1024; rw [e5]; omega

/-- The kernel's result is the reference's. -/
theorem algebraic : Cert.algebraic_OutProjIdeal_OutProjRefIdeal := by
  intro m g m' g' _ hm
  refine ⟨fun c => whole (m ((c : Thread nD τ).loc main_arg0)) (m ((c : Thread nD τ).loc main_arg1)) (m ((c : Thread nD τ).loc main_arg2)),
    (θ_run _ _ _).mono (fun r h c => ⟨(h c).1.trans (final m c), (h c).2⟩) (run_blocks m g),
    (θ_run _ _ _).mono (fun r h c => ⟨(h c).1.trans ?_, (h c).2⟩) (Cert.OutProjRefIdeal.Value.run m' g')⟩
  rw [(hm c).1, (hm c).2.1, (hm c).2.2]
  exact ref_eq _ _ _

end Cert.OutProjIdeal.Value

end
-- ==== Proof.NormGrad.lean ====
/-
  The gradient of the root-mean-square normalisation, row by row, over the extended reals: the kernel's way of writing it
  and the derivative's agree on every row, also where an entry is infinite.
-/
module

public import proofs.«01_k».proof.Proof.Product

@[expose] public section

noncomputable section

namespace Cert.NormGrad

open Idealize.ShloMosaic Cert.Product
open scoped BigOperators

/-- The number of a row's entries, the number added to the mean of their squares, and minus one half. -/
def width : EReal := Ideal.ofBits .f32 0x44800000#32
def tiny : EReal := Ideal.ofBits .f32 0x358637BD#32
def minusHalf : EReal := Ideal.ofBits .f32 0xBF000000#32

theorem width_eq : width = ((1024 : ℝ) : EReal) := by
  unfold width
  simp [Ideal.ofBits, Ideal.ieee]
  rw [← EReal.coe_mul]
  norm_num

theorem minusHalf_eq : minusHalf = ((-(1 / 2) : ℝ) : EReal) := by
  unfold minusHalf
  simp [Ideal.ofBits, Ideal.ieee]
  rw [← EReal.coe_mul]
  norm_num

theorem tiny_eq : ∃ e : ℝ, 0 < e ∧ tiny = (e : EReal) := by
  unfold tiny
  simp only [Ideal.ofBits, Ideal.ieee]
  refine ⟨_, ?_, rfl⟩
  norm_num
  rw [if_neg (by decide)]
  positivity

/-- The mean of a row's squares, plus the small number. -/
def meanSq (x : Fin 1024 → EReal) : EReal := Ideal.div (∑ k, x k * x k) width + tiny

/-- The number a row is scaled by. -/
def root (x : Fin 1024 → EReal) : EReal := Ideal.rsqrt (meanSq x)

/-- The kernel's gradient of a row at place `j`: `d` is the gradient of the scaled row's product with the gains `g`, `e` is
    added at the end. -/
def kernelGrad (d x g : Fin 1024 → EReal) (e : EReal) (j : Fin 1024) : EReal :=
  root x * (d j * g j - x j * root x * Ideal.div (∑ k, d k * g k * (x k * root x)) width) + e

/-- What the derivative of the mean of squares gives every entry of a row, before the factor of two. -/
def share (d x g : Fin 1024 → EReal) : EReal :=
  Ideal.div ((∑ k, x k * (d k * g k)) * (minusHalf * Ideal.div (root x) (meanSq x))) width

/-- The derivative's form of the same gradient. -/
def refGrad (d x g : Fin 1024 → EReal) (e : EReal) (j : Fin 1024) : EReal :=
  d j * g j * root x + x j * share d x g + share d x g * x j + e

theorem square_nonneg (a : EReal) : 0 ≤ a * a := by
  rcases le_total 0 a with h | h
  · exact mul_nonneg h h
  · have := mul_nonneg (EReal.neg_nonneg.mpr h) (EReal.neg_nonneg.mpr h)
    rwa [neg_mul_neg] at this

/-- The mean of squares is infinite, and the scale zero, or it is a positive number, and the scale its root's inverse. -/
theorem root_cases (x : Fin 1024 → EReal) : (meanSq x = ⊤ ∧ root x = 0)
    ∨ ∃ v q : ℝ, 0 < q ∧ q * q = v⁻¹ ∧ v ≠ 0 ∧ meanSq x = (v : EReal) ∧ root x = (q : EReal) := by
  obtain ⟨e, he, ht⟩ := tiny_eq
  have h0 : 0 ≤ ∑ k, x k * x k := Finset.sum_nonneg fun k _ => square_nonneg (x k)
  have hm : meanSq x = (∑ k, x k * x k) * ((1024⁻¹ : ℝ) : EReal) + (e : EReal) := by
    unfold meanSq Ideal.div
    rw [ht, width_eq, if_neg (by exact_mod_cast (by norm_num : (1024 : ℝ) ≠ 0)), ← EReal.coe_inv]
  unfold root
  generalize hS : (∑ k, x k * x k) = S at h0 hm
  induction S using EReal.rec with
  | bot => exact absurd h0 (by simp)
  | top =>
    have : meanSq x = ⊤ := by
      rw [hm, EReal.top_mul_coe_of_pos (by norm_num), EReal.top_add_coe]
    exact .inl ⟨this, by rw [this]; rfl⟩
  | coe s =>
    have hs : 0 ≤ s := by exact_mod_cast h0
    have hv : 0 < s * 1024⁻¹ + e := by positivity
    have : meanSq x = ((s * 1024⁻¹ + e : ℝ) : EReal) := by rw [hm]; push_cast; rfl
    refine .inr ⟨s * 1024⁻¹ + e, (Real.sqrt (s * 1024⁻¹ + e))⁻¹, by positivity, ?_, hv.ne', this, ?_⟩
    · rw [← mul_inv, Real.mul_self_sqrt hv.le]
    · rw [this]
      show (if s * 1024⁻¹ + e < 0 then _ else if s * 1024⁻¹ + e = 0 then _ else _ : EReal) = _
      rw [if_neg (not_lt.mpr hv.le), if_neg hv.ne']

/-- A nonnegative number may be taken out of a sum, whatever the terms. -/
theorem sum_scale (f : Fin 1024 → EReal) {q : ℝ} (hq : 0 ≤ q) : ∑ k, f k * (q : EReal) = (∑ k, f k) * (q : EReal) := by
  have h : ∀ s : Finset (Fin 1024), ∑ k ∈ s, f k * (q : EReal) = (∑ k ∈ s, f k) * (q : EReal) := by
    intro s
    induction s using Finset.induction_on with
    | empty => simp
    | insert a s ha ih =>
      rw [Finset.sum_insert ha, Finset.sum_insert ha, ih,
        EReal.right_distrib_of_nonneg_of_ne_top (by exact_mod_cast hq) (EReal.coe_ne_top q)]
  exact h _

/-- The two forms agree on every row. -/
theorem grad_eq (d x g : Fin 1024 → EReal) (e : EReal) (j : Fin 1024) : kernelGrad d x g e j = refGrad d x g e j := by
  unfold kernelGrad refGrad share
  have hw : ∀ a : EReal, Ideal.div a width = a * ((1024⁻¹ : ℝ) : EReal) := fun a => by
    unfold Ideal.div
    rw [width_eq, if_neg (by exact_mod_cast (by norm_num : (1024 : ℝ) ≠ 0)), ← EReal.coe_inv]
  rw [hw, hw]
  rcases root_cases x with ⟨hv, hr⟩ | ⟨v, q, hq, hqq, hv0, hv, hr⟩
  · have h0 : Ideal.div 0 ⊤ = 0 := by
      unfold Ideal.div
      rw [if_neg (by simp), zero_mul]
    rw [hr, hv, h0]
    simp
  · have hd : Ideal.div (q : EReal) (v : EReal) = ((q * v⁻¹ : ℝ) : EReal) := by
      unfold Ideal.div
      rw [if_neg (by exact_mod_cast hv0), ← EReal.coe_inv, ← EReal.coe_mul]
    rw [hr, hv, hd, minusHalf_eq, ← EReal.coe_mul]
    have hs : ∑ k, d k * g k * (x k * (q : EReal)) = (∑ k, x k * (d k * g k)) * (q : EReal) := by
      rw [← sum_scale _ hq.le]
      exact Finset.sum_congr rfl fun k _ => by rw [mul_comm (x k) (d k * g k), mul_assoc (d k * g k)]
    rw [hs]
    generalize (∑ k, x k * (d k * g k)) = T
    congr 1
    rw [add_assoc, sub_eq_add_neg, EReal.left_distrib_of_nonneg_of_ne_top (by exact_mod_cast hq.le) (EReal.coe_ne_top q), mul_comm (q : EReal) (d j * g j)]
    congr 1
    have hc : 0 ≤ 1 / 2 * (q * v⁻¹) * 1024⁻¹ := by
      rw [← hqq]; positivity
    have h1 : x j * (T * ((-(1 / 2) * (q * v⁻¹) : ℝ) : EReal) * ((1024⁻¹ : ℝ) : EReal)) = -(x j * T) * ((1 / 2 * (q * v⁻¹) * 1024⁻¹ : ℝ) : EReal) := by
      rw [show (-(1 / 2) * (q * v⁻¹) : ℝ) = -(1 / 2 * (q * v⁻¹)) by ring, EReal.coe_neg, mul_neg, neg_mul, mul_neg, neg_mul,
        EReal.coe_mul (1 / 2 * (q * v⁻¹)) 1024⁻¹, mul_assoc T, mul_assoc (x j)]
    rw [mul_comm (T * _ * _) (x j), h1, ← EReal.left_distrib_of_nonneg (by exact_mod_cast hc) (by exact_mod_cast hc), mul_neg, neg_mul, ← EReal.coe_add,
      show (1 / 2 * (q * v⁻¹) * 1024⁻¹ + 1 / 2 * (q * v⁻¹) * 1024⁻¹ : ℝ) = q * q * q * 1024⁻¹ by rw [← hqq]; ring]
    congr 1
    push_cast
    ac_rfl

/-! ## Whole matrices, at natural-number positions -/

/-- The sum of the first `n` products. -/
def along (f g : ℕ → EReal) (n : ℕ) : EReal := ∑ k ∈ Finset.range n, f k * g k

theorem along_zero (f g : ℕ → EReal) : along f g 0 = 0 := by simp [along]

/-- Adding the `B` products after position `s * B` to the sum up to there gives the sum up to their end. -/
theorem along_step (f g : ℕ → EReal) {B s : ℕ} {u v : Fin B → EReal} (hu : ∀ k, u k = f (s * B + k.val))
    (hv : ∀ k, v k = g (s * B + k.val)) {z : EReal} (hz : z = along f g (s * B)) :
    z + ∑ k, u k * v k = along f g ((s + 1) * B) := by
  rw [hz]
  unfold along
  rw [Nat.succ_mul, Finset.sum_range_add]
  refine congrArg _ ((Finset.sum_congr rfl fun k _ => ?_).trans (sum_fin (fun k => f (s * B + k) * g (s * B + k)) B))
  rw [hu, hv]

/-- All the products, over an index. -/
theorem along_whole (f g : ℕ → EReal) {n : ℕ} {u v : Fin n → EReal} (hu : ∀ k, u k = f k.val) (hv : ∀ k, v k = g k.val) :
    ∑ k, u k * v k = along f g n := by
  unfold along
  rw [← sum_fin]
  exact Finset.sum_congr rfl fun k _ => by rw [hu, hv]

/-- A weight given in blocks of `C` columns, at row `j` and column `k` of the blocks side by side: 0 outside. -/
def cols {N J C : ℕ} (w : (⟨3, ![N, J, C]⟩ : Shape).Idx → EReal) (k j : ℕ) : EReal :=
  if h : k / C < N ∧ j < J ∧ k % C < C then w (ix3 ⟨k / C, h.1⟩ ⟨j, h.2.1⟩ ⟨k % C, h.2.2⟩) else 0

/-- A weight read at an index whose block, row and place in the block are those of row `j` and column `k`. -/
theorem cols_idx {N J C : ℕ} (w : (⟨3, ![N, J, C]⟩ : Shape).Idx → EReal) (i : (⟨3, ![N, J, C]⟩ : Shape).Idx) {k j : ℕ}
    (h0 : (i 0).val = k / C) (h1 : (i 1).val = j) (h2 : (i 2).val = k % C) : w i = cols w k j := by
  have b0 : (i 0).val < N := (i 0).isLt
  have b1 : (i 1).val < J := (i 1).isLt
  have b2 : (i 2).val < C := (i 2).isLt
  unfold cols
  rw [dif_pos ⟨h0 ▸ b0, h1 ▸ b1, h2 ▸ b2⟩]
  refine congrArg w (funext fun a => Fin.ext ?_)
  match a with
  | ⟨0, _⟩ => exact h0
  | ⟨1, _⟩ => exact h1
  | ⟨2, _⟩ => exact h2

/-- The product of `dz` with the weight's transpose at row `r` and column `j`. -/
def back {T K N J C : ℕ} (dz : (⟨2, ![T, K]⟩ : Shape).Idx → EReal) (w : (⟨3, ![N, J, C]⟩ : Shape).Idx → EReal) (r j : ℕ) : EReal :=
  along (entry dz r) (fun k => cols w k j) K

/-- A scaled row's entry. -/
def scaled {T : ℕ} (x : (⟨2, ![T, 1024]⟩ : Shape).Idx → EReal) (r j : ℕ) : EReal :=
  entry x r j * root fun k => entry x r k.val

/-- The gradient of the normalisation's input: `D` is the gradient of the normalised rows, `e` the residual's. -/
def inputGrad (D : ℕ → ℕ → EReal) {T : ℕ} (x : (⟨2, ![T, 1024]⟩ : Shape).Idx → EReal) (g : (⟨2, ![1, 1024]⟩ : Shape).Idx → EReal)
    (e : (⟨2, ![T, 1024]⟩ : Shape).Idx → EReal) (r : ℕ) (j : Fin 1024) : EReal :=
  kernelGrad (fun k => D r k.val) (fun k => entry x r k.val) (fun k => entry g 0 k.val) (entry e r j.val) j

/-- The same in the derivative's form, at the arrays' own indices. -/
theorem inputGrad_ref (D : ℕ → ℕ → EReal) {T : ℕ} (x : (⟨2, ![T, 1024]⟩ : Shape).Idx → EReal) (g : (⟨2, ![1, 1024]⟩ : Shape).Idx → EReal)
    (e : (⟨2, ![T, 1024]⟩ : Shape).Idx → EReal) (p : Fin T) (q : Fin 1024) : inputGrad D x g e p.val q
      = refGrad (fun k => D p.val k.val) (fun k => x (ix2 p k)) (fun k => g (ix2 0 k)) (e (ix2 p q)) q := by
  unfold inputGrad
  rw [grad_eq, entry_val e p q, show (fun k : Fin 1024 => x (ix2 p k)) = _ from funext fun k => entry_val x p k,
    show (fun k : Fin 1024 => g (ix2 0 k)) = _ from funext fun k => entry_val g 0 k]
  rfl

/-- The gradient of the gains from the first `n` rows. -/
def gainGrad (D : ℕ → ℕ → EReal) {T : ℕ} (x : (⟨2, ![T, 1024]⟩ : Shape).Idx → EReal) (n j : ℕ) : EReal :=
  along (fun r => D r j) (fun r => scaled x r j) n

/-- All the rows' gains, at the array's own indices, the factors the other way round. -/
theorem gainGrad_ref (D : ℕ → ℕ → EReal) {T : ℕ} (x : (⟨2, ![T, 1024]⟩ : Shape).Idx → EReal) (q : Fin 1024) :
    gainGrad D x T q.val = ∑ r : Fin T, (x (ix2 r q) * root fun k => x (ix2 r k)) * D r.val q.val := by
  unfold gainGrad
  rw [← along_whole (n := T) (fun r => D r q.val) (fun r => scaled x r q.val) (fun _ => rfl) (fun _ => rfl)]
  refine Finset.sum_congr rfl fun r _ => ?_
  rw [mul_comm]
  unfold scaled
  rw [entry_val x r q, show (fun k : Fin 1024 => x (ix2 r k)) = _ from funext fun k => entry_val x r k]

end Cert.NormGrad

end
-- ==== Proof.UpBwdValue.lean ====
/-
  The gradient of the up projection's normalised input, carried back through the normalisation: for each of eight tiles of
  512 rows the kernel adds the products of four blocks of 1408 columns, the first two of the gate's gradient and the last two
  of the value's, and the tile's last point writes its rows of the gradient and adds the tile's rows to the gains' gradient.
-/
module

public import proofs.«01_k».proof.Defs
public import proofs.«01_k».proof.Proof.NormGrad
public import proofs.«01_k».proof.Proof.UpWgradValue
public import proofs.«01_k».proof.Proof.Gen.UpBwdIdeal.Frame
public import proofs.«01_k».proof.Proof.Gen.UpBwdRefIdeal.Run

@[expose] public section

noncomputable section

namespace Cert.UpBwdIdeal.Value

open Cert.UpBwdIdeal Cert.UpBwdIdeal.Gen Cert.Product Cert.NormGrad
open Cert.UpWgradIdeal.Value (both both_gate both_value cat_eq)
open Idealize.ShloMosaic Idealize.ShloMosaic.TcCoe Idealize.SL.Sem
open scoped BigOperators

variable (m : (ℓ : Loc nD τ sig) → Buf (Elt Ideal) ℓ)

/-- One point's sum: the accumulator plus the product of its two blocks. -/
theorem pay2_apply (s : Vec Ideal S512x1024 .f32) (a : Vec Ideal S512x1408 .bf16) (b : Vec Ideal S1x1024x1408 .bf16) (y : S512x1024.Idx) :
    k0_pay2 s a b y = s y + ∑ k : Fin 1408, a (ix2 (y 0) k) * b (ix3 0 (y 1) k) := by
  unfold k0_pay2
  simp only [pointwise, zero_add]

/-- The block a run's first point starts from is zero. -/
theorem pay1_apply (y : S512x1024.Idx) : (k0_pay1 (F := Ideal)) y = 0 := by
  unfold k0_pay1
  simp only [pointwise]

/-- The rows a tile's last point writes. -/
theorem pay6_apply (d x : Vec Ideal S512x1024 .f32) (g : Vec Ideal S1x1024 .f32) (e : Vec Ideal S512x1024 .f32) (y : S512x1024.Idx) :
    k0_pay6 d x g e y = kernelGrad (fun k => d (ix2 (y 0) k)) (fun k => x (ix2 (y 0) k)) (fun k => g (ix2 0 k)) (e y) (y 1) := by
  obtain ⟨p, q, rfl⟩ : ∃ p q, y = ix2 p q := ⟨_, _, eq_ix2 y⟩
  unfold k0_pay6 k0_pay5 k0_pay4
  simp only [pointwise, zero_add]
  rfl

/-- What it adds to the gains' gradient. -/
theorem pay7_apply (d x : Vec Ideal S512x1024 .f32) (y : S1x1024.Idx) :
    k0_pay7 d x y = ∑ r : Fin 512, d (ix2 r (y 1)) * (x (ix2 r (y 1)) * root fun k => x (ix2 r k)) := by
  conv_lhs => rw [eq_ix2 y]
  unfold k0_pay7 k0_pay5 k0_pay4
  simp only [pointwise, zero_add]
  rfl

/-- What a later tile adds to the gains' gradient so far. -/
theorem pay8_apply (d x : Vec Ideal S512x1024 .f32) (s : Vec Ideal S1x1024 .f32) (y : S1x1024.Idx) :
    k0_pay8 d x s y = s y + k0_pay7 d x y := by
  unfold k0_pay8
  simp only [pointwise]

/-- Where the windows' blocks lie. -/
theorem places : ∀ t : Fin cfg0.N, (t.val % 4 ≤ 1 → win0_0.index t 0 = t.val / 4 ∧ win0_0.index t 1 = t.val % 4)
    ∧ (2 ≤ t.val % 4 → win0_1.index t 0 = t.val / 4 ∧ win0_1.index t 1 + 2 = t.val % 4)
    ∧ (win0_2.index t 0 = t.val % 4 ∧ win0_2.index t 1 = 0 ∧ win0_2.index t 2 = 0)
    ∧ (t.val % 4 = 3 → win0_3.index t 0 = t.val / 4 ∧ win0_3.index t 1 = 0)
    ∧ (win0_4.index t 0 = 0 ∧ win0_4.index t 1 = 0)
    ∧ (t.val % 4 = 3 → win0_5.index t 0 = t.val / 4 ∧ win0_5.index t 1 = 0)
    ∧ (t.val % 4 = 3 → win0_6.index t 0 = t.val / 4 ∧ win0_6.index t 1 = 0)
    ∧ (win0_7.index t 0 = 0 ∧ win0_7.index t 1 = 0) :=
  (by decide +kernel : ∀ t : Fin grid0.N, _)

/-- Every block of the rows is some tile's, and the gains' one block is written back. -/
theorem onto : (∀ q : Fin 8, ∃ t : Fin cfg0.N, (cfg0.win 6).flush t = true ∧ win0_6.index t = ![q.val, 0])
    ∧ ∃ t : Fin cfg0.N, (cfg0.win 7).flush t = true ∧ win0_7.index t = ![0, 0] :=
  (by decide +kernel : (∀ q : Fin 8, ∃ t : Fin grid0.N, (cfg0.win 6).flush t = true ∧ win0_6.index t = ![q.val, 0])
    ∧ ∃ t : Fin grid0.N, (cfg0.win 7).flush t = true ∧ win0_7.index t = ![0, 0])

/-- The gradient of the normalised rows: the product of the gate's and the value's gradients side by side with the weight's
    transpose. -/
abbrev dn (c : Dev nD) : ℕ → ℕ → EReal := back (both (m ((c : Thread nD τ).loc main_arg0)) (m ((c : Thread nD τ).loc main_arg1)))
  (m ((c : Thread nD τ).loc main_arg2))

/-- The gate's block at a tile's first two points, by the entries of both gradients side by side. -/
theorem block_gate (c : Dev nD) (t : Fin cfg0.N) (ht : t.val % 4 ≤ 1) (y : S512x1408.Idx) : iblk m c 0 t y
    = entry (both (m ((c : Thread nD τ).loc main_arg0)) (m ((c : Thread nD τ).loc main_arg1)))
      (t.val / 4 * 512 + (y 0).val) (t.val % 4 * 1408 + (y 1).val) := by
  obtain ⟨e0, e1⟩ := (places t).1 ht
  have hy : (y 1).val < 1408 := (y 1).isLt
  rw [both_gate _ _ (by omega)]
  refine (congrFun (V_main_arg0 m c) _).trans (entry_idx _ _ ?_ ?_)
  · show win0_0.index t 0 * 512 + 1 * (y 0).val = _; rw [e0]; omega
  · show win0_0.index t 1 * 1408 + 1 * (y 1).val = _; rw [e1]; omega

/-- The value's block at its last two points. -/
theorem block_value (c : Dev nD) (t : Fin cfg0.N) (ht : 2 ≤ t.val % 4) (y : S512x1408.Idx) : iblk m c 1 t y
    = entry (both (m ((c : Thread nD τ).loc main_arg0)) (m ((c : Thread nD τ).loc main_arg1)))
      (t.val / 4 * 512 + (y 0).val) (t.val % 4 * 1408 + (y 1).val) := by
  obtain ⟨e0, e1⟩ := (places t).2.1 ht
  have hy : (y 1).val < 1408 := (y 1).isLt
  rw [show t.val % 4 * 1408 + (y 1).val = 2816 + (win0_1.index t 1 * 1408 + (y 1).val) by omega, both_value _ _ (by omega)]
  refine (congrFun (V_main_arg1 m c) _).trans (entry_idx _ _ ?_ ?_)
  · show win0_1.index t 0 * 512 + 1 * (y 0).val = _; rw [e0]; omega
  · show win0_1.index t 1 * 1408 + 1 * (y 1).val = _; omega

/-- The weight's block a point reads, by the entries of its blocks of columns side by side. -/
theorem block_w (c : Dev nD) (t : Fin cfg0.N) (y : S1x1024x1408.Idx) :
    iblk m c 2 t y = cols (m ((c : Thread nD τ).loc main_arg2)) (t.val % 4 * 1408 + (y 2).val) (y 1).val := by
  obtain ⟨e0, e1, e2⟩ := (places t).2.2.1
  have h0 : (y 0).val < 1 := (y 0).isLt
  have h2 : (y 2).val < 1408 := (y 2).isLt
  refine (congrFun (V_main_arg2 m c) _).trans (cols_idx _ _ ?_ ?_ ?_)
  · show win0_2.index t 0 * 1 + 1 * (y 0).val = _; rw [e0]; omega
  · show win0_2.index t 1 * 1024 + 1 * (y 1).val = _; rw [e1]; omega
  · show win0_2.index t 2 * 1408 + 1 * (y 2).val = _; rw [e2]; omega

/-- The rows of the normalisation's input a tile's last point reads. -/
theorem block_x (c : Dev nD) (t : Fin cfg0.N) (ht : t.val % 4 = 3) (y : S512x1024.Idx) :
    iblk m c 3 t y = entry (m ((c : Thread nD τ).loc main_arg3)) (t.val / 4 * 512 + (y 0).val) (y 1).val := by
  obtain ⟨e0, e1⟩ := (places t).2.2.2.1 ht
  refine (congrFun (V_main_arg3 m c) _).trans (entry_idx _ _ ?_ ?_)
  · show win0_3.index t 0 * 512 + 1 * (y 0).val = _; rw [e0]; omega
  · show win0_3.index t 1 * 1024 + 1 * (y 1).val = _; rw [e1]; omega

/-- The gains, whole at every point. -/
theorem block_g (c : Dev nD) (t : Fin cfg0.N) (y : S1x1024.Idx) :
    iblk m c 4 t y = entry (m ((c : Thread nD τ).loc main_arg4)) 0 (y 1).val := by
  obtain ⟨e0, e1⟩ := (places t).2.2.2.2.1
  have h0 : (y 0).val < 1 := (y 0).isLt
  refine (congrFun (V_main_arg4 m c) _).trans (entry_idx _ _ ?_ ?_)
  · show win0_4.index t 0 * 1 + 1 * (y 0).val = _; rw [e0]; omega
  · show win0_4.index t 1 * 1024 + 1 * (y 1).val = _; rw [e1]; omega

/-- The residual's rows a tile's last point reads. -/
theorem block_e (c : Dev nD) (t : Fin cfg0.N) (ht : t.val % 4 = 3) (y : S512x1024.Idx) :
    iblk m c 5 t y = entry (m ((c : Thread nD τ).loc main_arg5)) (t.val / 4 * 512 + (y 0).val) (y 1).val := by
  obtain ⟨e0, e1⟩ := (places t).2.2.2.2.2.1 ht
  refine (congrFun (V_main_arg5 m c) _).trans (entry_idx _ _ ?_ ?_)
  · show win0_5.index t 0 * 512 + 1 * (y 0).val = _; rw [e0]; omega
  · show win0_5.index t 1 * 1024 + 1 * (y 1).val = _; rw [e1]; omega

/-- Adding a point's product to the sum over the columns before its block gives the sum up to its block's end,
    whichever gradient `a` the point's block is of. -/
theorem step (c : Dev nD) (t : Fin cfg0.N) {a : Vec Ideal S512x1408 .bf16}
    (ha : ∀ y, a y = entry (both (m ((c : Thread nD τ).loc main_arg0)) (m ((c : Thread nD τ).loc main_arg1)))
      (t.val / 4 * 512 + (y 0).val) (t.val % 4 * 1408 + (y 1).val)) (s : Vec Ideal S512x1024 .f32) (y : S512x1024.Idx)
    (hs : s y = along (entry (both (m ((c : Thread nD τ).loc main_arg0)) (m ((c : Thread nD τ).loc main_arg1))) (t.val / 4 * 512 + (y 0).val))
      (fun k => cols (m ((c : Thread nD τ).loc main_arg2)) k (y 1).val) (t.val % 4 * 1408)) :
    k0_pay2 s a (iblk m c 2 t) y = along (entry (both (m ((c : Thread nD τ).loc main_arg0)) (m ((c : Thread nD τ).loc main_arg1))) (t.val / 4 * 512 + (y 0).val))
      (fun k => cols (m ((c : Thread nD τ).loc main_arg2)) k (y 1).val) ((t.val % 4 + 1) * 1408) := by
  rw [pay2_apply]
  exact along_step _ _ (fun k => ha _) (fun k => block_w m c t _) hs

/-- The sum a run has reached after each of its points but the last. -/
theorem sums (c : Dev nD) : ∀ (n : ℕ) (h : n < cfg0.N) (hn : ¬n % 4 = 3) (y : S512x1024.Idx), (outsAt0 m c n h).2.2 y
    = along (entry (both (m ((c : Thread nD τ).loc main_arg0)) (m ((c : Thread nD τ).loc main_arg1))) (n / 4 * 512 + (y 0).val))
      (fun k => cols (m ((c : Thread nD τ).loc main_arg2)) k (y 1).val) ((n % 4 + 1) * 1408) := by
  intro n
  induction n with
  | zero =>
    intro h hn y
    rw [outsAt0_A m c ⟨0, h⟩ rfl (by dsimp only; omega) (by dsimp only; omega) hn]
    frame_out
    exact step m c ⟨0, h⟩ (block_gate m c ⟨0, h⟩ (by dsimp only; omega)) _ y ((pay1_apply y).trans (along_zero _ _).symm)
  | succ n ih =>
    intro h hn y
    by_cases h0 : (n + 1) % 4 = 0
    · rw [outsAt0_A m c ⟨n + 1, h⟩ h0 (by dsimp only; omega) (by dsimp only; omega) hn]
      frame_out
      refine step m c ⟨n + 1, h⟩ (block_gate m c ⟨n + 1, h⟩ (by dsimp only; omega)) _ y ((pay1_apply y).trans ?_)
      dsimp only
      rw [h0]
      exact (along_zero _ _).symm
    · have hs := ih (Nat.lt_of_succ_lt h) (by omega) y
      rw [show n % 4 + 1 = (n + 1) % 4 by omega, show n / 4 = (n + 1) / 4 by omega] at hs
      by_cases h1 : (n + 1) % 4 ≤ 1
      · rw [outsAt0_B m c ⟨n + 1, h⟩ h0 h1 (by dsimp only; omega) hn]
        frame_out; rw [(Memref.isWhole_whole cc0_scratch0).read_unread]
        exact step m c ⟨n + 1, h⟩ (block_gate m c ⟨n + 1, h⟩ h1) _ y hs
      · rw [outsAt0_C m c ⟨n + 1, h⟩ h0 h1 (by dsimp only; omega) hn]
        frame_out; rw [(Memref.isWhole_whole cc0_scratch0).read_unread]
        exact step m c ⟨n + 1, h⟩ (block_value m c ⟨n + 1, h⟩ (by dsimp only; omega)) _ y hs

/-- A run's last point's sum is over all the columns. -/
theorem last (c : Dev nD) (t : Fin cfg0.N) (h : t.val % 4 = 3) (hn : t.val - 1 < cfg0.N) (y : S512x1024.Idx) :
    k0_pay2 (outsAt0 m c (t.val - 1) hn).2.2 (iblk m c 1 t) (iblk m c 2 t) y = dn m c (t.val / 4 * 512 + (y 0).val) (y 1).val := by
  have hs := sums m c (t.val - 1) hn (by omega) y
  rw [show (t.val - 1) % 4 + 1 = t.val % 4 by omega, show (t.val - 1) / 4 = t.val / 4 by omega] at hs
  have e := step m c t (block_value m c t (by omega)) _ y hs
  rw [h] at e
  exact e

/-- The rows a tile's last point writes, by the whole arrays. -/
theorem rows_eq (c : Dev nD) (t : Fin cfg0.N) (h : t.val % 4 = 3) (y : S512x1024.Idx) : (outsAt0 m c t.val t.isLt).1 y
    = inputGrad (dn m c) (m ((c : Thread nD τ).loc main_arg3)) (m ((c : Thread nD τ).loc main_arg4)) (m ((c : Thread nD τ).loc main_arg5))
      (t.val / 4 * 512 + (y 0).val) (y 1) := by
  have hv : (outsAt0 m c t.val t.isLt).1 = k0_pay6 (k0_pay2 (outsAt0 m c (t.val - 1) (by omega)).2.2 (iblk m c 1 t) (iblk m c 2 t))
      (iblk m c 3 t) (iblk m c 4 t) (iblk m c 5 t) := by
    by_cases h4 : t.val < 4
    · rw [outsAt0_D m c t (by omega) (by omega) (by omega) h h4 (by omega)]
      frame_out; rw [(Memref.isWhole_whole cc0_scratch0).read_unread]; rfl
    · rw [outsAt0_E m c t (by omega) (by omega) (by omega) h h4 (by omega)]
      frame_out; rw [(Memref.isWhole_whole cc0_scratch0).read_unread]; rfl
  rw [hv, pay6_apply]
  unfold inputGrad
  rw [show (fun k : Fin 1024 => k0_pay2 _ (iblk m c 1 t) (iblk m c 2 t) (ix2 (y 0) k)) = _ from funext fun k => last m c t h _ _,
    show (fun k : Fin 1024 => iblk m c 3 t (ix2 (y 0) k)) = _ from funext fun k => block_x m c t h _,
    show (fun k : Fin 1024 => iblk m c 4 t (ix2 0 k)) = _ from funext fun k => block_g m c t _, block_e m c t h]
  rfl

/-- Adding a tile's rows to the gains' gradient. -/
theorem gain_step (c : Dev nD) (t : Fin cfg0.N) (h : t.val % 4 = 3) (hn : t.val - 1 < cfg0.N) (y : S1x1024.Idx) {z : EReal}
    (hz : z = gainGrad (dn m c) (m ((c : Thread nD τ).loc main_arg3)) (t.val / 4 * 512) (y 1).val) :
    z + k0_pay7 (k0_pay2 (outsAt0 m c (t.val - 1) hn).2.2 (iblk m c 1 t) (iblk m c 2 t)) (iblk m c 3 t) y
      = gainGrad (dn m c) (m ((c : Thread nD τ).loc main_arg3)) ((t.val / 4 + 1) * 512) (y 1).val := by
  rw [pay7_apply]
  refine along_step (fun r => dn m c r (y 1).val) (fun r => scaled (m ((c : Thread nD τ).loc main_arg3)) r (y 1).val)
    (fun k => last m c t h hn (ix2 k (y 1))) (fun k => ?_) hz
  unfold scaled
  rw [show (fun j : Fin 1024 => iblk m c 3 t (ix2 k j)) = _ from funext fun j => block_x m c t h _, block_x m c t h]
  rfl

/-- The gains' gradient after the first tile: the rows of the tiles so far. -/
theorem gains (c : Dev nD) : ∀ (n : ℕ) (h : n < cfg0.N) (hn : 3 ≤ n) (y : S1x1024.Idx), (outsAt0 m c n h).2.1 y
    = gainGrad (dn m c) (m ((c : Thread nD τ).loc main_arg3)) ((n + 1) / 4 * 512) (y 1).val := by
  intro n
  induction n with
  | zero => intro h hn; omega
  | succ n ih =>
    intro h hn y
    by_cases h3 : (n + 1) % 4 = 3
    · rw [show (n + 1 + 1) / 4 = (⟨n + 1, h⟩ : Fin cfg0.N).val / 4 + 1 by dsimp only; omega]
      by_cases h4 : n + 1 < 4
      · rw [outsAt0_D m c ⟨n + 1, h⟩ (by dsimp only; omega) (by dsimp only; omega) (by dsimp only; omega) h3 h4 (by dsimp only; omega)]
        frame_out; rw [(Memref.isWhole_whole cc0_scratch0).read_unread]
        refine (zero_add _).symm.trans (gain_step m c ⟨n + 1, h⟩ h3 _ y ?_)
        rw [show (⟨n + 1, h⟩ : Fin cfg0.N).val / 4 * 512 = 0 by dsimp only; omega]
        exact (along_zero _ _).symm
      · have hs := ih (Nat.lt_of_succ_lt h) (by omega) y
        rw [outsAt0_E m c ⟨n + 1, h⟩ (by dsimp only; omega) (by dsimp only; omega) (by dsimp only; omega) h3 h4 (by dsimp only; omega)]
        frame_out; rw [(Memref.isWhole_whole cc0_scratch0).read_unread, pay8_apply]
        exact gain_step m c ⟨n + 1, h⟩ h3 _ y hs
    · have hs := ih (Nat.lt_of_succ_lt h) (by omega) y
      rw [show (n + 1) / 4 = (n + 1 + 1) / 4 by omega] at hs
      by_cases h0 : (n + 1) % 4 = 0
      · rw [outsAt0_A m c ⟨n + 1, h⟩ h0 (by dsimp only; omega) (by dsimp only; omega) h3]
        exact hs
      · by_cases h1 : (n + 1) % 4 ≤ 1
        · rw [outsAt0_B m c ⟨n + 1, h⟩ h0 h1 (by dsimp only; omega) h3]
          exact hs
        · rw [outsAt0_C m c ⟨n + 1, h⟩ h0 h1 (by dsimp only; omega) h3]
          exact hs

/-- The gradient of the input's rows, whole. -/
def rows (D : ℕ → ℕ → EReal) (x : FVec Ideal S4096x1024 .f32) (g : FVec Ideal S1x1024 .f32) (e : FVec Ideal S4096x1024 .f32) :
    FVec Ideal S4096x1024 .f32 := fun i => inputGrad D x g e (i 0).val (i 1)

/-- The gradient of the gains, whole. -/
def sumRows (D : ℕ → ℕ → EReal) (x : FVec Ideal S4096x1024 .f32) : FVec Ideal S1x1024 .f32 := fun i => gainGrad D x 4096 (i 1).val

/-- What a tile's last point writes back is its block of the rows. -/
theorem flushed_rows (c : Dev nD) (t : Fin cfg0.N) (hf : (cfg0.win 6).flush t = true) :
    (dats m 0 c).flushed 6 t = ((cfg0.win 6).blk t).view.read (Elt Ideal) (rows (dn m c) (m ((c : Thread nD τ).loc main_arg3)) (m ((c : Thread nD τ).loc main_arg4)) (m ((c : Thread nD τ).loc main_arg5))) := by
  have h1 : t.val % 4 = 3 := (flush0_6 t).mp hf
  obtain ⟨e0, e1⟩ := (places t).2.2.2.2.2.2.1 h1
  show (cfg0.win 6).cut (grid0.coords t) ((dats m 0 c).after 6 t) = _
  rw [after0_6]
  funext y
  refine (rows_eq m c t h1 _).trans ?_
  show _ = inputGrad _ _ _ _ _ _
  refine congrArg₂ (inputGrad _ _ _ _) ?_ (Fin.ext ?_)
  · show t.val / 4 * 512 + (y 0).val = win0_6.index t 0 * 512 + 1 * (y 0).val; rw [e0]; omega
  · show (y 1).val = win0_6.index t 1 * 1024 + 1 * (y 1).val; rw [e1]; omega

/-- The last point writes back the gains' gradient. -/
theorem flushed_gains (c : Dev nD) (t : Fin cfg0.N) (hf : (cfg0.win 7).flush t = true) :
    (dats m 0 c).flushed 7 t = ((cfg0.win 7).blk t).view.read (Elt Ideal) (sumRows (dn m c) (m ((c : Thread nD τ).loc main_arg3))) := by
  have h1 : t.val % 32 = 31 := (flush0_7 t).mp hf
  have hN : t.val < 32 := lt_of_lt_of_eq t.isLt N_0
  obtain ⟨e0, e1⟩ := (places t).2.2.2.2.2.2.2
  show (cfg0.win 7).cut (grid0.coords t) ((dats m 0 c).after 7 t) = _
  rw [after0_7]
  funext y
  refine (gains m c t.val t.isLt (by omega) _).trans ?_
  show _ = gainGrad _ _ _ _
  refine congrArg₂ (gainGrad _ _) (by omega) ?_
  show (y 1).val = win0_7.index t 1 * 1024 + 1 * (y 1).val; rw [e1]; omega

/-- The rows' array after the run. -/
theorem final_rows (c : Dev nD) : (dats m 0 c).arrAt 6 cfg0.N = rows (dn m c) (m ((c : Thread nD τ).loc main_arg3)) (m ((c : Thread nD τ).loc main_arg4)) (m ((c : Thread nD τ).loc main_arg5)) :=
  (dats m 0 c).arrAt_eq_of_cover 6 _ (fun t hf => flushed_rows m c t hf) fun i => by
    have h0 : (i 0).val < 4096 := (i 0).isLt
    have h1 : (i 1).val < 1024 := (i 1).isLt
    obtain ⟨t, hf, ht⟩ := onto.1 ⟨(i 0).val / 512, by omega⟩
    have q0 : win0_6.index t 0 = (i 0).val / 512 := congrFun ht 0
    have q1 : win0_6.index t 1 = 0 := congrFun ht 1
    refine ⟨t, hf, ?_⟩
    show i ∈ ((View.whole main_v0_0).slice (win0_6.rect t)).set
    rw [View.set_slice_whole, Rect.mem_set_unit]
    intro a
    match a with
    | ⟨0, _⟩ => show win0_6.index t 0 * 512 ≤ (i 0).val ∧ (i 0).val < win0_6.index t 0 * 512 + 512; omega
    | ⟨1, _⟩ => show win0_6.index t 1 * 1024 ≤ (i 1).val ∧ (i 1).val < win0_6.index t 1 * 1024 + 1024; omega

/-- The gains' array after the run. -/
theorem final_gains (c : Dev nD) : (dats m 0 c).arrAt 7 cfg0.N = sumRows (dn m c) (m ((c : Thread nD τ).loc main_arg3)) :=
  (dats m 0 c).arrAt_eq_of_cover 7 _ (fun t hf => flushed_gains m c t hf) fun i => by
    have h0 : (i 0).val < 1 := (i 0).isLt
    have h1 : (i 1).val < 1024 := (i 1).isLt
    obtain ⟨t, hf, ht⟩ := onto.2
    have q0 : win0_7.index t 0 = 0 := congrFun ht 0
    have q1 : win0_7.index t 1 = 0 := congrFun ht 1
    refine ⟨t, hf, ?_⟩
    show i ∈ ((View.whole main_v0_1).slice (win0_7.rect t)).set
    rw [View.set_slice_whole, Rect.mem_set_unit]
    intro a
    match a with
    | ⟨0, _⟩ => show win0_7.index t 0 * 1 ≤ (i 0).val ∧ (i 0).val < win0_7.index t 0 * 1 + 1; omega
    | ⟨1, _⟩ => show win0_7.index t 1 * 1024 ≤ (i 1).val ∧ (i 1).val < win0_7.index t 1 * 1024 + 1024; omega

/-- The results and the arguments after the run. -/
theorem run_whole (ρ : Dev nD → PrngReg) : θ_run defs (onTc (τ := τ) (main (F := Ideal))) ⟨m, fun _ => 0, ρ⟩ fun r => ∀ c : Dev nD,
    r.2.mem ((c : Thread nD τ).loc main_v0_0) = rows (dn m c) (m ((c : Thread nD τ).loc main_arg3)) (m ((c : Thread nD τ).loc main_arg4)) (m ((c : Thread nD τ).loc main_arg5))
    ∧ r.2.mem ((c : Thread nD τ).loc main_v0_1) = sumRows (dn m c) (m ((c : Thread nD τ).loc main_arg3))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5) :=
  (θ_run defs _ _).mono (fun r h c => ⟨((h c).1 6).trans (final_rows m c), ((h c).1 7).trans (final_gains m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩)
    (run_main m ρ)

/-- The four blocks of the weight side by side, read at an entry. -/
theorem matrix_apply (w : FVec Ideal S4x1024x1408 .bf16) (j : Fin 1024) (k : Fin 5632) :
    (concatenate Cert.UpBwdRefIdeal.S1024x5632 1
      [⟨Cert.UpBwdRefIdeal.S1024x1408, shapeCast Cert.UpBwdRefIdeal.S1024x1408 (extractStridedSlice Cert.UpBwdRefIdeal.S1x1024x1408 ![0, 0, 0] w Cert.UpBwdRefIdeal.Facts₀.slices_S4x1024x1408_S1x1024x1408_0_0_0) Cert.UpBwdRefIdeal.Facts₀.shapeCasts_S1x1024x1408_S1024x1408⟩,
        ⟨Cert.UpBwdRefIdeal.S1024x1408, shapeCast Cert.UpBwdRefIdeal.S1024x1408 (extractStridedSlice Cert.UpBwdRefIdeal.S1x1024x1408 ![1, 0, 0] w Cert.UpBwdRefIdeal.Facts₀.slices_S4x1024x1408_S1x1024x1408_1_0_0) Cert.UpBwdRefIdeal.Facts₀.shapeCasts_S1x1024x1408_S1024x1408⟩,
        ⟨Cert.UpBwdRefIdeal.S1024x1408, shapeCast Cert.UpBwdRefIdeal.S1024x1408 (extractStridedSlice Cert.UpBwdRefIdeal.S1x1024x1408 ![2, 0, 0] w Cert.UpBwdRefIdeal.Facts₀.slices_S4x1024x1408_S1x1024x1408_2_0_0) Cert.UpBwdRefIdeal.Facts₀.shapeCasts_S1x1024x1408_S1024x1408⟩,
        ⟨Cert.UpBwdRefIdeal.S1024x1408, shapeCast Cert.UpBwdRefIdeal.S1024x1408 (extractStridedSlice Cert.UpBwdRefIdeal.S1x1024x1408 ![3, 0, 0] w Cert.UpBwdRefIdeal.Facts₀.slices_S4x1024x1408_S1x1024x1408_3_0_0) Cert.UpBwdRefIdeal.Facts₀.shapeCasts_S1x1024x1408_S1024x1408⟩]
      Cert.UpBwdRefIdeal.Facts₀.concatenates_S1024x1408_S1024x1408_S1024x1408_S1024x1408_S1024x5632_d1 : FVec Ideal Cert.UpBwdRefIdeal.S1024x5632 .bf16) (ix2 j k)
      = cols w k.val j.val := by
  have hj := j.isLt
  have hk := k.isLt
  simp only [pointwise, Matrix.cons_val_one, Matrix.cons_val_zero, Matrix.cons_val, Matrix.cons_val_fin_one]
  split_ifs <;> refine cols_idx w _ ?_ ?_ ?_ <;> simp [ix3] <;> omega

/-- The reference's product with the weight's transpose. -/
theorem back_apply (dz : FVec Ideal Cert.UpBwdRefIdeal.S4096x5632 .bf16) (w : FVec Ideal S4x1024x1408 .bf16)
    {W : FVec Ideal Cert.UpBwdRefIdeal.S1024x5632 .bf16} (hW : ∀ j k, W (ix2 j k) = cols w k.val j.val) (r : Fin 4096) (j : Fin 1024) :
    ∑ k : Fin 5632, dz (ix2 r k) * W (ix2 j k) = back dz w r.val j.val :=
  along_whole _ _ (fun k => entry_val dz r k) (fun k => hW j k)

/-- The reference's gradient of the input's rows is `rows`. -/
theorem ref_rows (m : (ℓ : Loc Cert.UpBwdRefIdeal.nD Cert.UpBwdRefIdeal.τ Cert.UpBwdRefIdeal.sig) → Buf (Elt Ideal) ℓ) (c : Dev Cert.UpBwdRefIdeal.nD) :
    (Cert.UpBwdRefIdeal.Value.res_main_v48 m c : FVec Ideal S4096x1024 .f32)
      = rows (back (both (m ((c.tc : Thread Cert.UpBwdRefIdeal.nD Cert.UpBwdRefIdeal.τ).loc Cert.UpBwdRefIdeal.main_arg0)) (m ((c.tc : Thread Cert.UpBwdRefIdeal.nD Cert.UpBwdRefIdeal.τ).loc Cert.UpBwdRefIdeal.main_arg1)))
          (m ((c.tc : Thread Cert.UpBwdRefIdeal.nD Cert.UpBwdRefIdeal.τ).loc Cert.UpBwdRefIdeal.main_arg2)))
        (m ((c.tc : Thread Cert.UpBwdRefIdeal.nD Cert.UpBwdRefIdeal.τ).loc Cert.UpBwdRefIdeal.main_arg3))
        (m ((c.tc : Thread Cert.UpBwdRefIdeal.nD Cert.UpBwdRefIdeal.τ).loc Cert.UpBwdRefIdeal.main_arg4))
        (m ((c.tc : Thread Cert.UpBwdRefIdeal.nD Cert.UpBwdRefIdeal.τ).loc Cert.UpBwdRefIdeal.main_arg5)) := by
  funext i
  obtain ⟨p, q, rfl⟩ : ∃ p q, i = ix2 p q := ⟨_, _, eq_ix2 i⟩
  refine Eq.trans ?_ (inputGrad_ref _ _ _ _ p q).symm
  unfold Cert.UpBwdRefIdeal.Value.res_main_v48
  have hW := matrix_apply (m ((c.tc : Thread Cert.UpBwdRefIdeal.nD Cert.UpBwdRefIdeal.τ).loc Cert.UpBwdRefIdeal.main_arg2))
  generalize (concatenate Cert.UpBwdRefIdeal.S1024x5632 1 _ _ : FVec Ideal Cert.UpBwdRefIdeal.S1024x5632 .bf16) = W at hW ⊢
  have hZ := cat_eq (m ((c.tc : Thread Cert.UpBwdRefIdeal.nD Cert.UpBwdRefIdeal.τ).loc Cert.UpBwdRefIdeal.main_arg0))
    (m ((c.tc : Thread Cert.UpBwdRefIdeal.nD Cert.UpBwdRefIdeal.τ).loc Cert.UpBwdRefIdeal.main_arg1))
  generalize (concatenate Cert.UpBwdRefIdeal.S4096x5632 1 _ _ : FVec Ideal Cert.UpBwdRefIdeal.S4096x5632 .bf16) = Z at hZ ⊢
  obtain rfl := hZ
  simp only [pointwise, zero_add, Nat.reduceEqDiff, OfNat.ofNat_ne_one, reduceDIte, Finset.univ_unique, Finset.sum_singleton]
  simp only [back_apply _ _ hW]
  rfl

/-- The kernel's results are the reference's. -/
theorem algebraic : Cert.algebraic_UpBwdIdeal_UpBwdRefIdeal := by
  intro m g m' g' _ hm
  refine ⟨fun c => rows (dn m c) (m ((c : Thread nD τ).loc main_arg3)) (m ((c : Thread nD τ).loc main_arg4)) (m ((c : Thread nD τ).loc main_arg5)),
    fun c => sumRows (dn m c) (m ((c : Thread nD τ).loc main_arg3)), run_whole m g,
    (θ_run _ _ _).mono (fun r h c => ⟨(h c).1.trans ?_, (h c).2.1.trans ?_, (h c).2.2⟩) (Cert.UpBwdRefIdeal.Value.run m' g')⟩
  · refine (ref_rows m' c).trans ?_
    rw [(hm c).1, (hm c).2.1, (hm c).2.2.1, (hm c).2.2.2.1, (hm c).2.2.2.2.1, (hm c).2.2.2.2.2]
  · rw [(hm c).1, (hm c).2.1, (hm c).2.2.1, (hm c).2.2.2.1]
    have hW := matrix_apply (m ((c.tc : Thread nD τ).loc main_arg2))
    generalize (concatenate Cert.UpBwdRefIdeal.S1024x5632 1 _ _ : FVec Ideal Cert.UpBwdRefIdeal.S1024x5632 .bf16) = W at hW ⊢
    have hZ := cat_eq (m ((c.tc : Thread nD τ).loc main_arg0)) (m ((c.tc : Thread nD τ).loc main_arg1))
    generalize (concatenate Cert.UpBwdRefIdeal.S4096x5632 1 _ _ : FVec Ideal Cert.UpBwdRefIdeal.S4096x5632 .bf16) = Z at hZ ⊢
    obtain rfl := hZ
    funext i
    obtain ⟨p, q, rfl⟩ : ∃ p q, i = ix2 p q := ⟨_, _, eq_ix2 i⟩
    refine Eq.trans ?_ (gainGrad_ref _ _ q).symm
    simp only [pointwise, zero_add, Nat.reduceEqDiff, OfNat.ofNat_ne_one, reduceDIte]
    simp only [back_apply _ _ hW]
    rfl

end Cert.UpBwdIdeal.Value

end
-- ==== Proof.InBwdValue.lean ====
/-
  The gradient of the input projection's normalised input, carried back through the normalisation: for each of eight tiles of
  512 rows the kernel adds the products of four blocks of 1152 columns, and the tile's last point writes its rows of the
  gradient and adds the tile's rows to the gradient of the gains.
-/
module

public import proofs.«01_k».proof.Defs
public import proofs.«01_k».proof.Proof.NormGrad
public import proofs.«01_k».proof.Proof.Gen.InBwdIdeal.Frame
public import proofs.«01_k».proof.Proof.Gen.InBwdRefIdeal.Run

@[expose] public section

noncomputable section

namespace Cert.InBwdIdeal.Value

open Cert.InBwdIdeal Cert.InBwdIdeal.Gen Cert.Product Cert.NormGrad
open Idealize.ShloMosaic Idealize.ShloMosaic.TcCoe Idealize.SL.Sem
open scoped BigOperators

variable (m : (ℓ : Loc nD τ sig) → Buf (Elt Ideal) ℓ)

theorem hz : (![0, 0] : Fin 2 → Nat) = fun _ => 0 := funext fun a => by fin_cases a <;> rfl

theorem hz3 : (![0, 0, 0] : Fin 3 → Nat) = fun _ => 0 := funext fun a => by fin_cases a <;> rfl

/-- One point's sum: the accumulator plus the product of its two blocks. -/
theorem pay2_apply (s : Vec Ideal S512x1024 .f32) (a : Vec Ideal S512x1152 .bf16) (b : Vec Ideal S1x1024x1152 .bf16) (y : S512x1024.Idx) :
    k0_pay2 s a b y = s y + ∑ k : Fin 1152, a (ix2 (y 0) k) * b (ix3 0 (y 1) k) := by
  unfold k0_pay2
  simp only [pointwise, zero_add]

/-- The block a run's first point starts from is zero. -/
theorem pay1_apply (y : S512x1024.Idx) : (k0_pay1 (F := Ideal)) y = 0 := by
  unfold k0_pay1
  simp only [pointwise]

/-- The rows a tile's last point writes. -/
theorem pay5_apply (d x : Vec Ideal S512x1024 .f32) (g : Vec Ideal S1x1024 .f32) (e : Vec Ideal S512x1024 .f32) (y : S512x1024.Idx) :
    k0_pay5 d x g e y = kernelGrad (fun k => d (ix2 (y 0) k)) (fun k => x (ix2 (y 0) k)) (fun k => g (ix2 0 k)) (e y) (y 1) := by
  obtain ⟨p, q, rfl⟩ : ∃ p q, y = ix2 p q := ⟨_, _, eq_ix2 y⟩
  unfold k0_pay5 k0_pay4 k0_pay3
  simp only [pointwise, zero_add]
  rfl

/-- What it adds to the gains' gradient. -/
theorem pay6_apply (d x : Vec Ideal S512x1024 .f32) (y : S1x1024.Idx) :
    k0_pay6 d x y = ∑ r : Fin 512, d (ix2 r (y 1)) * (x (ix2 r (y 1)) * root fun k => x (ix2 r k)) := by
  conv_lhs => rw [eq_ix2 y]
  unfold k0_pay6 k0_pay4 k0_pay3
  simp only [pointwise, zero_add]
  rfl

/-- What a later tile adds to the gains' gradient so far. -/
theorem pay7_apply (d x : Vec Ideal S512x1024 .f32) (s : Vec Ideal S1x1024 .f32) (y : S1x1024.Idx) :
    k0_pay7 d x s y = s y + k0_pay6 d x y := by
  unfold k0_pay7
  simp only [pointwise]

section Cases
variable (c : Dev nD) (i : grid0.Coords) (b0 : Memref sig .tc .vmem S512x1152 .bf16) (w0 : b0.IsWhole)
  (b1 : Memref sig .tc .vmem S1x1024x1152 .bf16) (w1 : b1.IsWhole) (b2 : Memref sig .tc .vmem S512x1024 .f32) (w2 : b2.IsWhole)
  (b3 : Memref sig .tc .vmem S1x1024 .f32) (w3 : b3.IsWhole) (b4 : Memref sig .tc .vmem S512x1024 .f32) (w4 : b4.IsWhole)
  (b5 : Memref sig .tc .vmem S512x1024 .f32) (w5 : b5.IsWhole) (b6 : Memref sig .tc .vmem S1x1024 .f32) (w6 : b6.IsWhole)
  (b7 : Memref sig .tc .vmem S512x1024 .f32) (w7 : b7.IsWhole)
  (a : Vec Ideal S512x1152 .bf16) (w : Vec Ideal S1x1024x1152 .bf16) (x : Vec Ideal S512x1024 .f32) (g : Vec Ideal S1x1024 .f32)
  (e : Vec Ideal S512x1024 .f32) (o : Vec Ideal S1x1024 .f32) (s : Vec Ideal S512x1024 .f32)

/-- A run's first point leaves zero plus its product. -/
theorem sum_first (h0 : cond0_0 i) (h1 : ¬cond0_1 i) :
    sout0_A_0 c i b0 w0 b1 w1 b2 w2 b3 w3 b4 w4 b5 w5 b6 w6 b7 w7 h0 h1 a w x g e = k0_pay2 k0_pay1 a w := by
  unfold sout0_A_0
  rw [View.read_writes_eq_canon _ _ _ (scover0_A_0 c i b0 w0 b1 w1 b2 w2 b3 w3 b4 w4 b5 w5 b6 w6 b7 w7 h0 h1 a w x g e)]
  unfold kernelRun0_A
  dsimp only
  sl_unfold_words
  rw [View.canon_cons_unit_zero (S := S512x1024) hz, View.readCov_unit_zero (S := S512x1024) _ hz]
  simp only [View.readAt_eq_ld, w0.read_unread, w1.read_unread, View.ld_unit_zero (S := S512x1152) hz,
    View.ld_unit_zero (S := S1x1024x1152) hz3]

/-- A point inside a run adds its product to what the point before left. -/
theorem sum_next (h0 : ¬cond0_0 i) (h1 : ¬cond0_1 i) :
    sout0_B_0 c i b0 w0 b1 w1 b2 w2 b3 w3 b4 w4 b5 w5 b6 w6 b7 w7 h0 h1 a w x g e s = k0_pay2 s a w := by
  unfold sout0_B_0
  rw [View.read_writes_eq_canon _ _ _ (scover0_B_0 c i b0 w0 b1 w1 b2 w2 b3 w3 b4 w4 b5 w5 b6 w6 b7 w7 h0 h1 a w x g e s)]
  unfold kernelRun0_B
  dsimp only
  sl_unfold_words
  rw [View.canon_unit_zero (S := S512x1024) hz]
  simp only [View.readAt_eq_ld, w0.read_unread, w1.read_unread, w7.read_unread, View.ld_unit_zero (S := S512x1152) hz,
    View.ld_unit_zero (S := S1x1024x1152) hz3, View.ld_unit_zero (S := S512x1024) hz]

/-- The first tile's last point writes its rows. -/
theorem rows_first (h0 : ¬cond0_0 i) (h1 : cond0_1 i) (h2 : cond0_2 i) (h3 : ¬cond0_3 i) :
    out0_C_5 c i b0 w0 b1 w1 b2 w2 b3 w3 b4 w4 b5 w5 b6 w6 b7 w7 h0 h1 h2 h3 a w x g e s = k0_pay5 (k0_pay2 s a w) x g e := by
  unfold out0_C_5
  rw [View.read_writes_eq_canon _ _ _ (cover0_C_5 c i b0 w0 b1 w1 b2 w2 b3 w3 b4 w4 b5 w5 b6 w6 b7 w7 h0 h1 h2 h3 a w x g e s)]
  unfold kernelRun0_C
  dsimp only
  sl_unfold_words
  rw [View.canon_unit_zero (S := S512x1024) hz, View.readCov_unit_zero (S := S512x1024) _ hz]
  simp only [View.readAt_eq_ld, w0.read_unread, w1.read_unread, w2.read_unread, w3.read_unread, w4.read_unread, w7.read_unread,
    View.ld_unit_zero (S := S512x1152) hz, View.ld_unit_zero (S := S1x1024x1152) hz3, View.ld_unit_zero (S := S512x1024) hz,
    View.ld_unit_zero (S := S1x1024) hz]

/-- It starts the gains' gradient with them. -/
theorem gains_first (h0 : ¬cond0_0 i) (h1 : cond0_1 i) (h2 : cond0_2 i) (h3 : ¬cond0_3 i) :
    out0_C_6 c i b0 w0 b1 w1 b2 w2 b3 w3 b4 w4 b5 w5 b6 w6 b7 w7 h0 h1 h2 h3 a w x g e s = k0_pay6 (k0_pay2 s a w) x := by
  unfold out0_C_6
  rw [View.read_writes_eq_canon _ _ _ (cover0_C_6 c i b0 w0 b1 w1 b2 w2 b3 w3 b4 w4 b5 w5 b6 w6 b7 w7 h0 h1 h2 h3 a w x g e s)]
  unfold kernelRun0_C
  dsimp only
  sl_unfold_words
  rw [View.canon_unit_zero (S := S1x1024) hz, View.readCov_unit_zero (S := S512x1024) _ hz]
  simp only [View.readAt_eq_ld, w0.read_unread, w1.read_unread, w2.read_unread, w3.read_unread, w4.read_unread, w7.read_unread,
    View.ld_unit_zero (S := S512x1152) hz, View.ld_unit_zero (S := S1x1024x1152) hz3, View.ld_unit_zero (S := S512x1024) hz,
    View.ld_unit_zero (S := S1x1024) hz]

/-- Every later tile's last point writes its rows. -/
theorem rows_later (h0 : ¬cond0_0 i) (h1 : cond0_1 i) (h2 : ¬cond0_2 i) (h3 : cond0_3 i) :
    out0_D_5 c i b0 w0 b1 w1 b2 w2 b3 w3 b4 w4 b5 w5 b6 w6 b7 w7 h0 h1 h2 h3 a w x g e o s = k0_pay5 (k0_pay2 s a w) x g e := by
  unfold out0_D_5
  rw [View.read_writes_eq_canon _ _ _ (cover0_D_5 c i b0 w0 b1 w1 b2 w2 b3 w3 b4 w4 b5 w5 b6 w6 b7 w7 h0 h1 h2 h3 a w x g e o s)]
  unfold kernelRun0_D
  dsimp only
  sl_unfold_words
  rw [View.canon_unit_zero (S := S512x1024) hz, View.readCov_unit_zero (S := S512x1024) _ hz]
  simp only [View.readAt_eq_ld, w0.read_unread, w1.read_unread, w2.read_unread, w3.read_unread, w4.read_unread, w7.read_unread,
    View.ld_unit_zero (S := S512x1152) hz, View.ld_unit_zero (S := S1x1024x1152) hz3, View.ld_unit_zero (S := S512x1024) hz,
    View.ld_unit_zero (S := S1x1024) hz]

/-- It adds them to the gains' gradient. -/
theorem gains_later (h0 : ¬cond0_0 i) (h1 : cond0_1 i) (h2 : ¬cond0_2 i) (h3 : cond0_3 i) :
    out0_D_6 c i b0 w0 b1 w1 b2 w2 b3 w3 b4 w4 b5 w5 b6 w6 b7 w7 h0 h1 h2 h3 a w x g e o s = k0_pay7 (k0_pay2 s a w) x o := by
  unfold out0_D_6
  rw [View.read_writes_eq_canon _ _ _ (cover0_D_6 c i b0 w0 b1 w1 b2 w2 b3 w3 b4 w4 b5 w5 b6 w6 b7 w7 h0 h1 h2 h3 a w x g e o s)]
  unfold kernelRun0_D
  dsimp only
  sl_unfold_words
  rw [View.canon_unit_zero (S := S1x1024) hz, View.readCov_unit_zero (S := S512x1024) _ hz]
  simp only [View.readAt_eq_ld, w0.read_unread, w1.read_unread, w2.read_unread, w3.read_unread, w4.read_unread, w6.read_unread, w7.read_unread,
    View.ld_unit_zero (S := S512x1152) hz, View.ld_unit_zero (S := S1x1024x1152) hz3, View.ld_unit_zero (S := S512x1024) hz,
    View.ld_unit_zero (S := S1x1024) hz]

end Cases

/-- Where the windows' blocks lie. -/
theorem places : ∀ t : Fin cfg0.N, (win0_0.index t 0 = t.val / 4 ∧ win0_0.index t 1 = t.val % 4)
    ∧ (win0_1.index t 0 = t.val % 4 ∧ win0_1.index t 1 = 0 ∧ win0_1.index t 2 = 0)
    ∧ (t.val % 4 = 3 → win0_2.index t 0 = t.val / 4 ∧ win0_2.index t 1 = 0)
    ∧ (win0_3.index t 0 = 0 ∧ win0_3.index t 1 = 0)
    ∧ (t.val % 4 = 3 → win0_4.index t 0 = t.val / 4 ∧ win0_4.index t 1 = 0)
    ∧ (t.val % 4 = 3 → win0_5.index t 0 = t.val / 4 ∧ win0_5.index t 1 = 0)
    ∧ (win0_6.index t 0 = 0 ∧ win0_6.index t 1 = 0) :=
  (by decide +kernel : ∀ t : Fin grid0.N, _)

/-- Every block of the rows is some tile's, and the gains' one block is written back. -/
theorem onto : (∀ q : Fin 8, ∃ t : Fin cfg0.N, (cfg0.win 5).flush t = true ∧ win0_5.index t = ![q.val, 0])
    ∧ ∃ t : Fin cfg0.N, (cfg0.win 6).flush t = true ∧ win0_6.index t = ![0, 0] :=
  (by decide +kernel : (∀ q : Fin 8, ∃ t : Fin grid0.N, (cfg0.win 5).flush t = true ∧ win0_5.index t = ![q.val, 0])
    ∧ ∃ t : Fin grid0.N, (cfg0.win 6).flush t = true ∧ win0_6.index t = ![0, 0])

/-- The gradient of the normalised rows: the product of the two gradients' arrays. -/
abbrev dn (c : Dev nD) : ℕ → ℕ → EReal := back (m ((c : Thread nD τ).loc main_arg0)) (m ((c : Thread nD τ).loc main_arg1))

/-- The block of the output's gradient a point reads, by the whole array's entries. -/
theorem block_a (c : Dev nD) (t : Fin cfg0.N) (y : S512x1152.Idx) :
    iblk m c 0 t y = entry (m ((c : Thread nD τ).loc main_arg0)) (t.val / 4 * 512 + (y 0).val) (t.val % 4 * 1152 + (y 1).val) := by
  obtain ⟨e0, e1⟩ := (places t).1
  refine (congrFun (V_main_arg0 m c) _).trans (entry_idx _ _ ?_ ?_)
  · show win0_0.index t 0 * 512 + 1 * (y 0).val = _; rw [e0]; omega
  · show win0_0.index t 1 * 1152 + 1 * (y 1).val = _; rw [e1]; omega

/-- The weight's block a point reads, by the entries of its blocks of columns side by side. -/
theorem block_w (c : Dev nD) (t : Fin cfg0.N) (y : S1x1024x1152.Idx) :
    iblk m c 1 t y = cols (m ((c : Thread nD τ).loc main_arg1)) (t.val % 4 * 1152 + (y 2).val) (y 1).val := by
  obtain ⟨e0, e1, e2⟩ := (places t).2.1
  have h0 : (y 0).val < 1 := (y 0).isLt
  have h2 : (y 2).val < 1152 := (y 2).isLt
  refine (congrFun (V_main_arg1 m c) _).trans (cols_idx _ _ ?_ ?_ ?_)
  · show win0_1.index t 0 * 1 + 1 * (y 0).val = _; rw [e0]; omega
  · show win0_1.index t 1 * 1024 + 1 * (y 1).val = _; rw [e1]; omega
  · show win0_1.index t 2 * 1152 + 1 * (y 2).val = _; rw [e2]; omega

/-- The rows of the normalisation's input a tile's last point reads. -/
theorem block_x (c : Dev nD) (t : Fin cfg0.N) (ht : t.val % 4 = 3) (y : S512x1024.Idx) :
    iblk m c 2 t y = entry (m ((c : Thread nD τ).loc main_arg2)) (t.val / 4 * 512 + (y 0).val) (y 1).val := by
  obtain ⟨e0, e1⟩ := (places t).2.2.1 ht
  refine (congrFun (V_main_arg2 m c) _).trans (entry_idx _ _ ?_ ?_)
  · show win0_2.index t 0 * 512 + 1 * (y 0).val = _; rw [e0]; omega
  · show win0_2.index t 1 * 1024 + 1 * (y 1).val = _; rw [e1]; omega

/-- The gains, whole at every point. -/
theorem block_g (c : Dev nD) (t : Fin cfg0.N) (y : S1x1024.Idx) :
    iblk m c 3 t y = entry (m ((c : Thread nD τ).loc main_arg3)) 0 (y 1).val := by
  obtain ⟨e0, e1⟩ := (places t).2.2.2.1
  have h0 : (y 0).val < 1 := (y 0).isLt
  refine (congrFun (V_main_arg3 m c) _).trans (entry_idx _ _ ?_ ?_)
  · show win0_3.index t 0 * 1 + 1 * (y 0).val = _; rw [e0]; omega
  · show win0_3.index t 1 * 1024 + 1 * (y 1).val = _; rw [e1]; omega

/-- The residual's rows a tile's last point reads. -/
theorem block_e (c : Dev nD) (t : Fin cfg0.N) (ht : t.val % 4 = 3) (y : S512x1024.Idx) :
    iblk m c 4 t y = entry (m ((c : Thread nD τ).loc main_arg4)) (t.val / 4 * 512 + (y 0).val) (y 1).val := by
  obtain ⟨e0, e1⟩ := (places t).2.2.2.2.1 ht
  refine (congrFun (V_main_arg4 m c) _).trans (entry_idx _ _ ?_ ?_)
  · show win0_4.index t 0 * 512 + 1 * (y 0).val = _; rw [e0]; omega
  · show win0_4.index t 1 * 1024 + 1 * (y 1).val = _; rw [e1]; omega

/-- Adding a point's product to the sum over the columns before its block gives the sum up to its block's end. -/
theorem step (c : Dev nD) (t : Fin cfg0.N) (s : Vec Ideal S512x1024 .f32) (y : S512x1024.Idx)
    (hs : s y = along (entry (m ((c : Thread nD τ).loc main_arg0)) (t.val / 4 * 512 + (y 0).val))
      (fun k => cols (m ((c : Thread nD τ).loc main_arg1)) k (y 1).val) (t.val % 4 * 1152)) :
    k0_pay2 s (iblk m c 0 t) (iblk m c 1 t) y = along (entry (m ((c : Thread nD τ).loc main_arg0)) (t.val / 4 * 512 + (y 0).val))
      (fun k => cols (m ((c : Thread nD τ).loc main_arg1)) k (y 1).val) ((t.val % 4 + 1) * 1152) := by
  rw [pay2_apply]
  exact along_step _ _ (fun k => block_a m c t _) (fun k => block_w m c t _) hs

/-- The sum a run has reached after each of its points but the last. -/
theorem sums (c : Dev nD) : ∀ (n : ℕ) (h : n < cfg0.N) (hn : ¬n % 4 = 3) (y : S512x1024.Idx), (outsAt0 m c n h).2.2 y
    = along (entry (m ((c : Thread nD τ).loc main_arg0)) (n / 4 * 512 + (y 0).val))
      (fun k => cols (m ((c : Thread nD τ).loc main_arg1)) k (y 1).val) ((n % 4 + 1) * 1152) := by
  intro n
  induction n with
  | zero =>
    intro h hn y
    rw [outsAt0_A m c ⟨0, h⟩ rfl hn]
    dsimp only
    rw [sum_first]
    exact step m c ⟨0, h⟩ _ y ((pay1_apply y).trans (along_zero _ _).symm)
  | succ n ih =>
    intro h hn y
    by_cases h0 : (n + 1) % 4 = 0
    · rw [outsAt0_A m c ⟨n + 1, h⟩ h0 hn]
      dsimp only
      rw [sum_first]
      refine step m c ⟨n + 1, h⟩ _ y ((pay1_apply y).trans ?_)
      dsimp only
      rw [h0]
      exact (along_zero _ _).symm
    · have hs := ih (Nat.lt_of_succ_lt h) (by omega) y
      rw [show n % 4 + 1 = (n + 1) % 4 by omega, show n / 4 = (n + 1) / 4 by omega] at hs
      rw [outsAt0_B m c ⟨n + 1, h⟩ h0 hn]
      dsimp only
      rw [sum_next]
      exact step m c ⟨n + 1, h⟩ _ y hs

/-- A run's last point's sum is over all the columns. -/
theorem last (c : Dev nD) (t : Fin cfg0.N) (h : t.val % 4 = 3) (hn : t.val - 1 < cfg0.N) (y : S512x1024.Idx) :
    k0_pay2 (outsAt0 m c (t.val - 1) hn).2.2 (iblk m c 0 t) (iblk m c 1 t) y = dn m c (t.val / 4 * 512 + (y 0).val) (y 1).val := by
  have hs := sums m c (t.val - 1) hn (by omega) y
  rw [show (t.val - 1) % 4 + 1 = t.val % 4 by omega, show (t.val - 1) / 4 = t.val / 4 by omega] at hs
  have e := step m c t _ y hs
  rw [h] at e
  exact e

/-- The rows a tile's last point writes, by the whole arrays. -/
theorem rows_eq (c : Dev nD) (t : Fin cfg0.N) (h : t.val % 4 = 3) (y : S512x1024.Idx) : (outsAt0 m c t.val t.isLt).1 y
    = inputGrad (dn m c) (m ((c : Thread nD τ).loc main_arg2)) (m ((c : Thread nD τ).loc main_arg3)) (m ((c : Thread nD τ).loc main_arg4))
      (t.val / 4 * 512 + (y 0).val) (y 1) := by
  have hv : (outsAt0 m c t.val t.isLt).1 = k0_pay5 (k0_pay2 (outsAt0 m c (t.val - 1) (by omega)).2.2 (iblk m c 0 t) (iblk m c 1 t))
      (iblk m c 2 t) (iblk m c 3 t) (iblk m c 4 t) := by
    by_cases h4 : t.val < 4
    · rw [outsAt0_C m c t (by omega) h h4 (by omega)]
      dsimp only
      rw [rows_first]
    · rw [outsAt0_D m c t (by omega) h h4 (by omega)]
      dsimp only
      rw [rows_later]
  rw [hv, pay5_apply]
  unfold inputGrad
  rw [show (fun k : Fin 1024 => k0_pay2 _ (iblk m c 0 t) (iblk m c 1 t) (ix2 (y 0) k)) = _ from funext fun k => last m c t h _ _,
    show (fun k : Fin 1024 => iblk m c 2 t (ix2 (y 0) k)) = _ from funext fun k => block_x m c t h _,
    show (fun k : Fin 1024 => iblk m c 3 t (ix2 0 k)) = _ from funext fun k => block_g m c t _, block_e m c t h]
  rfl

/-- Adding a tile's rows to the gains' gradient. -/
theorem gain_step (c : Dev nD) (t : Fin cfg0.N) (h : t.val % 4 = 3) (hn : t.val - 1 < cfg0.N) (y : S1x1024.Idx) {z : EReal}
    (hz : z = gainGrad (dn m c) (m ((c : Thread nD τ).loc main_arg2)) (t.val / 4 * 512) (y 1).val) :
    z + k0_pay6 (k0_pay2 (outsAt0 m c (t.val - 1) hn).2.2 (iblk m c 0 t) (iblk m c 1 t)) (iblk m c 2 t) y
      = gainGrad (dn m c) (m ((c : Thread nD τ).loc main_arg2)) ((t.val / 4 + 1) * 512) (y 1).val := by
  rw [pay6_apply]
  refine along_step _ _ (fun k => last m c t h _ _) (fun k => ?_) hz
  unfold scaled
  rw [show (fun j : Fin 1024 => iblk m c 2 t (ix2 k j)) = _ from funext fun j => block_x m c t h _, block_x m c t h]
  rfl

/-- The gains' gradient after the first tile: the rows of the tiles so far. -/
theorem gains (c : Dev nD) : ∀ (n : ℕ) (h : n < cfg0.N) (hn : 3 ≤ n) (y : S1x1024.Idx), (outsAt0 m c n h).2.1 y
    = gainGrad (dn m c) (m ((c : Thread nD τ).loc main_arg2)) ((n + 1) / 4 * 512) (y 1).val := by
  intro n
  induction n with
  | zero => intro h hn; omega
  | succ n ih =>
    intro h hn y
    by_cases h3 : (n + 1) % 4 = 3
    · rw [show (n + 1 + 1) / 4 = (⟨n + 1, h⟩ : Fin cfg0.N).val / 4 + 1 by dsimp only; omega]
      by_cases h4 : n + 1 < 4
      · rw [outsAt0_C m c ⟨n + 1, h⟩ (by dsimp only; omega) h3 h4 (by dsimp only; omega)]
        dsimp only
        rw [gains_first]
        refine (zero_add _).symm.trans (gain_step m c ⟨n + 1, h⟩ h3 _ y ?_)
        rw [show (⟨n + 1, h⟩ : Fin cfg0.N).val / 4 * 512 = 0 by dsimp only; omega]
        exact (along_zero _ _).symm
      · have hs := ih (Nat.lt_of_succ_lt h) (by omega) y
        rw [outsAt0_D m c ⟨n + 1, h⟩ (by dsimp only; omega) h3 h4 (by dsimp only; omega)]
        dsimp only
        rw [gains_later, pay7_apply]
        exact gain_step m c ⟨n + 1, h⟩ h3 _ y hs
    · have hs := ih (Nat.lt_of_succ_lt h) (by omega) y
      rw [show (n + 1) / 4 = (n + 1 + 1) / 4 by omega] at hs
      by_cases h0 : (n + 1) % 4 = 0
      · rw [outsAt0_A m c ⟨n + 1, h⟩ h0 h3]
        exact hs
      · rw [outsAt0_B m c ⟨n + 1, h⟩ h0 h3]
        exact hs

/-- The gradient of the input's rows, whole. -/
def rows (D : ℕ → ℕ → EReal) (x : FVec Ideal S4096x1024 .f32) (g : FVec Ideal S1x1024 .f32) (e : FVec Ideal S4096x1024 .f32) :
    FVec Ideal S4096x1024 .f32 := fun i => inputGrad D x g e (i 0).val (i 1)

/-- The gradient of the gains, whole. -/
def sumRows (D : ℕ → ℕ → EReal) (x : FVec Ideal S4096x1024 .f32) : FVec Ideal S1x1024 .f32 := fun i => gainGrad D x 4096 (i 1).val

/-- What a tile's last point writes back is its block of the rows. -/
theorem flushed_rows (c : Dev nD) (t : Fin cfg0.N) (hf : (cfg0.win 5).flush t = true) :
    (dats m 0 c).flushed 5 t = ((cfg0.win 5).blk t).view.read (Elt Ideal) (rows (dn m c) (m ((c : Thread nD τ).loc main_arg2)) (m ((c : Thread nD τ).loc main_arg3)) (m ((c : Thread nD τ).loc main_arg4))) := by
  have h1 : t.val % 4 = 3 := (flush0_5 t).mp hf
  obtain ⟨e0, e1⟩ := (places t).2.2.2.2.2.1 h1
  show (cfg0.win 5).cut (grid0.coords t) ((dats m 0 c).after 5 t) = _
  rw [after0_5]
  funext y
  refine (rows_eq m c t h1 _).trans ?_
  show _ = inputGrad _ _ _ _ _ _
  refine congrArg₂ (inputGrad _ _ _ _) ?_ (Fin.ext ?_)
  · show t.val / 4 * 512 + (y 0).val = win0_5.index t 0 * 512 + 1 * (y 0).val; rw [e0]; omega
  · show (y 1).val = win0_5.index t 1 * 1024 + 1 * (y 1).val; rw [e1]; omega

/-- The last point writes back the gains' gradient. -/
theorem flushed_gains (c : Dev nD) (t : Fin cfg0.N) (hf : (cfg0.win 6).flush t = true) :
    (dats m 0 c).flushed 6 t = ((cfg0.win 6).blk t).view.read (Elt Ideal) (sumRows (dn m c) (m ((c : Thread nD τ).loc main_arg2))) := by
  have h1 : t.val % 32 = 31 := (flush0_6 t).mp hf
  have hN : t.val < 32 := lt_of_lt_of_eq t.isLt N_0
  obtain ⟨e0, e1⟩ := (places t).2.2.2.2.2.2
  show (cfg0.win 6).cut (grid0.coords t) ((dats m 0 c).after 6 t) = _
  rw [after0_6]
  funext y
  refine (gains m c t.val t.isLt (by omega) _).trans ?_
  show _ = gainGrad _ _ _ _
  refine congrArg₂ (gainGrad _ _) (by omega) ?_
  show (y 1).val = win0_6.index t 1 * 1024 + 1 * (y 1).val; rw [e1]; omega

/-- The rows' array after the run. -/
theorem final_rows (c : Dev nD) : (dats m 0 c).arrAt 5 cfg0.N = rows (dn m c) (m ((c : Thread nD τ).loc main_arg2)) (m ((c : Thread nD τ).loc main_arg3)) (m ((c : Thread nD τ).loc main_arg4)) :=
  (dats m 0 c).arrAt_eq_of_cover 5 _ (fun t hf => flushed_rows m c t hf) fun i => by
    have h0 : (i 0).val < 4096 := (i 0).isLt
    have h1 : (i 1).val < 1024 := (i 1).isLt
    obtain ⟨t, hf, ht⟩ := onto.1 ⟨(i 0).val / 512, by omega⟩
    have q0 : win0_5.index t 0 = (i 0).val / 512 := congrFun ht 0
    have q1 : win0_5.index t 1 = 0 := congrFun ht 1
    refine ⟨t, hf, ?_⟩
    show i ∈ ((View.whole main_v0_0).slice (win0_5.rect t)).set
    rw [View.set_slice_whole, Rect.mem_set_unit]
    intro a
    match a with
    | ⟨0, _⟩ => show win0_5.index t 0 * 512 ≤ (i 0).val ∧ (i 0).val < win0_5.index t 0 * 512 + 512; omega
    | ⟨1, _⟩ => show win0_5.index t 1 * 1024 ≤ (i 1).val ∧ (i 1).val < win0_5.index t 1 * 1024 + 1024; omega

/-- The gains' array after the run. -/
theorem final_gains (c : Dev nD) : (dats m 0 c).arrAt 6 cfg0.N = sumRows (dn m c) (m ((c : Thread nD τ).loc main_arg2)) :=
  (dats m 0 c).arrAt_eq_of_cover 6 _ (fun t hf => flushed_gains m c t hf) fun i => by
    have h0 : (i 0).val < 1 := (i 0).isLt
    have h1 : (i 1).val < 1024 := (i 1).isLt
    obtain ⟨t, hf, ht⟩ := onto.2
    have q0 : win0_6.index t 0 = 0 := congrFun ht 0
    have q1 : win0_6.index t 1 = 0 := congrFun ht 1
    refine ⟨t, hf, ?_⟩
    show i ∈ ((View.whole main_v0_1).slice (win0_6.rect t)).set
    rw [View.set_slice_whole, Rect.mem_set_unit]
    intro a
    match a with
    | ⟨0, _⟩ => show win0_6.index t 0 * 1 ≤ (i 0).val ∧ (i 0).val < win0_6.index t 0 * 1 + 1; omega
    | ⟨1, _⟩ => show win0_6.index t 1 * 1024 ≤ (i 1).val ∧ (i 1).val < win0_6.index t 1 * 1024 + 1024; omega

/-- The results and the arguments after the run. -/
theorem run_whole (ρ : Dev nD → PrngReg) : θ_run defs (onTc (τ := τ) (main (F := Ideal))) ⟨m, fun _ => 0, ρ⟩ fun r => ∀ c : Dev nD,
    r.2.mem ((c : Thread nD τ).loc main_v0_0) = rows (dn m c) (m ((c : Thread nD τ).loc main_arg2)) (m ((c : Thread nD τ).loc main_arg3)) (m ((c : Thread nD τ).loc main_arg4))
    ∧ r.2.mem ((c : Thread nD τ).loc main_v0_1) = sumRows (dn m c) (m ((c : Thread nD τ).loc main_arg2))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  (θ_run defs _ _).mono (fun r h c => ⟨((h c).1 5).trans (final_rows m c), ((h c).1 6).trans (final_gains m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

/-- The four blocks of the weight side by side, read at an entry. -/
theorem matrix_apply (w : FVec Ideal S4x1024x1152 .bf16) (j : Fin 1024) (k : Fin 4608) :
    (concatenate Cert.InBwdRefIdeal.S1024x4608 1
      [⟨Cert.InBwdRefIdeal.S1024x1152, shapeCast Cert.InBwdRefIdeal.S1024x1152 (extractStridedSlice Cert.InBwdRefIdeal.S1x1024x1152 ![0, 0, 0] w Cert.InBwdRefIdeal.Facts₀.slices_S4x1024x1152_S1x1024x1152_0_0_0) Cert.InBwdRefIdeal.Facts₀.shapeCasts_S1x1024x1152_S1024x1152⟩,
        ⟨Cert.InBwdRefIdeal.S1024x1152, shapeCast Cert.InBwdRefIdeal.S1024x1152 (extractStridedSlice Cert.InBwdRefIdeal.S1x1024x1152 ![1, 0, 0] w Cert.InBwdRefIdeal.Facts₀.slices_S4x1024x1152_S1x1024x1152_1_0_0) Cert.InBwdRefIdeal.Facts₀.shapeCasts_S1x1024x1152_S1024x1152⟩,
        ⟨Cert.InBwdRefIdeal.S1024x1152, shapeCast Cert.InBwdRefIdeal.S1024x1152 (extractStridedSlice Cert.InBwdRefIdeal.S1x1024x1152 ![2, 0, 0] w Cert.InBwdRefIdeal.Facts₀.slices_S4x1024x1152_S1x1024x1152_2_0_0) Cert.InBwdRefIdeal.Facts₀.shapeCasts_S1x1024x1152_S1024x1152⟩,
        ⟨Cert.InBwdRefIdeal.S1024x1152, shapeCast Cert.InBwdRefIdeal.S1024x1152 (extractStridedSlice Cert.InBwdRefIdeal.S1x1024x1152 ![3, 0, 0] w Cert.InBwdRefIdeal.Facts₀.slices_S4x1024x1152_S1x1024x1152_3_0_0) Cert.InBwdRefIdeal.Facts₀.shapeCasts_S1x1024x1152_S1024x1152⟩]
      Cert.InBwdRefIdeal.Facts₀.concatenates_S1024x1152_S1024x1152_S1024x1152_S1024x1152_S1024x4608_d1 : FVec Ideal Cert.InBwdRefIdeal.S1024x4608 .bf16) (ix2 j k)
      = cols w k.val j.val := by
  have hj := j.isLt
  have hk := k.isLt
  simp only [pointwise, Matrix.cons_val_one, Matrix.cons_val_zero, Matrix.cons_val, Matrix.cons_val_fin_one]
  split_ifs <;> refine cols_idx w _ ?_ ?_ ?_ <;> simp [ix3] <;> omega

/-- The reference's product with the weight's transpose. -/
theorem back_apply (dz : FVec Ideal S4096x4608 .bf16) (w : FVec Ideal S4x1024x1152 .bf16)
    {W : FVec Ideal Cert.InBwdRefIdeal.S1024x4608 .bf16} (hW : ∀ j k, W (ix2 j k) = cols w k.val j.val) (r : Fin 4096) (j : Fin 1024) :
    ∑ k : Fin 4608, dz (ix2 r k) * W (ix2 j k) = back dz w r.val j.val :=
  along_whole _ _ (fun k => entry_val dz r k) (fun k => hW j k)

/-- The reference's gradient of the input's rows is `rows`. -/
theorem ref_rows (m : (ℓ : Loc Cert.InBwdRefIdeal.nD Cert.InBwdRefIdeal.τ Cert.InBwdRefIdeal.sig) → Buf (Elt Ideal) ℓ) (c : Dev Cert.InBwdRefIdeal.nD) :
    (Cert.InBwdRefIdeal.Value.res_main_v47 m c : FVec Ideal S4096x1024 .f32)
      = rows (back (m ((c.tc : Thread Cert.InBwdRefIdeal.nD Cert.InBwdRefIdeal.τ).loc Cert.InBwdRefIdeal.main_arg0))
          (m ((c.tc : Thread Cert.InBwdRefIdeal.nD Cert.InBwdRefIdeal.τ).loc Cert.InBwdRefIdeal.main_arg1)))
        (m ((c.tc : Thread Cert.InBwdRefIdeal.nD Cert.InBwdRefIdeal.τ).loc Cert.InBwdRefIdeal.main_arg2))
        (m ((c.tc : Thread Cert.InBwdRefIdeal.nD Cert.InBwdRefIdeal.τ).loc Cert.InBwdRefIdeal.main_arg3))
        (m ((c.tc : Thread Cert.InBwdRefIdeal.nD Cert.InBwdRefIdeal.τ).loc Cert.InBwdRefIdeal.main_arg4)) := by
  funext i
  obtain ⟨p, q, rfl⟩ : ∃ p q, i = ix2 p q := ⟨_, _, eq_ix2 i⟩
  refine Eq.trans ?_ (inputGrad_ref _ _ _ _ p q).symm
  unfold Cert.InBwdRefIdeal.Value.res_main_v47
  have hW := matrix_apply (m ((c.tc : Thread Cert.InBwdRefIdeal.nD Cert.InBwdRefIdeal.τ).loc Cert.InBwdRefIdeal.main_arg1))
  generalize (concatenate Cert.InBwdRefIdeal.S1024x4608 1 _ _ : FVec Ideal Cert.InBwdRefIdeal.S1024x4608 .bf16) = W at hW ⊢
  simp only [pointwise, zero_add, Nat.reduceEqDiff, OfNat.ofNat_ne_one, reduceDIte, Finset.univ_unique, Finset.sum_singleton]
  simp only [back_apply _ _ hW]
  rfl

/-- The kernel's results are the reference's. -/
theorem algebraic : Cert.algebraic_InBwdIdeal_InBwdRefIdeal := by
  intro m g m' g' _ hm
  refine ⟨fun c => rows (dn m c) (m ((c : Thread nD τ).loc main_arg2)) (m ((c : Thread nD τ).loc main_arg3)) (m ((c : Thread nD τ).loc main_arg4)),
    fun c => sumRows (dn m c) (m ((c : Thread nD τ).loc main_arg2)), run_whole m g,
    (θ_run _ _ _).mono (fun r h c => ⟨(h c).1.trans ?_, (h c).2.1.trans ?_, (h c).2.2⟩) (Cert.InBwdRefIdeal.Value.run m' g')⟩
  · refine (ref_rows m' c).trans ?_
    rw [(hm c).1, (hm c).2.1, (hm c).2.2.1, (hm c).2.2.2.1, (hm c).2.2.2.2]
  · rw [(hm c).1, (hm c).2.1, (hm c).2.2.1]
    have hW := matrix_apply (m ((c.tc : Thread nD τ).loc main_arg1))
    generalize (concatenate Cert.InBwdRefIdeal.S1024x4608 1 _ _ : FVec Ideal Cert.InBwdRefIdeal.S1024x4608 .bf16) = W at hW ⊢
    funext i
    obtain ⟨p, q, rfl⟩ : ∃ p q, i = ix2 p q := ⟨_, _, eq_ix2 i⟩
    refine Eq.trans ?_ (gainGrad_ref _ _ q).symm
    simp only [pointwise, zero_add, Nat.reduceEqDiff, OfNat.ofNat_ne_one, reduceDIte]
    simp only [back_apply _ _ hW]
    rfl

end Cert.InBwdIdeal.Value

end
-- ==== Proof.LossHead.lean ====
/-
  The loss of normalised rows against their targets — half the sum over the rows of the mean of the squared errors — and its
  gradients by the rows and by the gains, over the extended reals. The rows, the targets and the gains are functions of
  natural-number positions, so that one tile of rows and all of them are written with the same function.
-/
module

public import proofs.«01_k».proof.Proof.NormGrad

@[expose] public section

noncomputable section

namespace Cert.LossHead

open Idealize.ShloMosaic Cert.Product Cert.NormGrad
open scoped BigOperators

/-- One half, and the inverse of a row's width. -/
def half : EReal := Ideal.ofBits .f32 0x3F000000#32
def perEntry : EReal := Ideal.ofBits .f32 0x3A800000#32

theorem half_eq : half = ((1 / 2 : ℝ) : EReal) := by
  unfold half
  simp [Ideal.ofBits, Ideal.ieee]
  rw [← EReal.coe_mul]
  norm_num

theorem perEntry_eq : perEntry = ((1 / 1024 : ℝ) : EReal) := by
  unfold perEntry
  simp [Ideal.ofBits, Ideal.ieee]
  rw [← EReal.coe_mul]
  norm_num

/-- The derivative's factor of every error: half over the width. -/
def factor : EReal := Ideal.div (half * 1) width

/-- The derivative of a square adds the error twice, each time with half of the kernel's factor. -/
theorem twice (e : EReal) : e * factor + factor * e = e * perEntry := by
  have h : factor = ((1 / 2048 : ℝ) : EReal) := by
    unfold factor Ideal.div
    rw [width_eq, half_eq, mul_one, if_neg (by exact_mod_cast (by norm_num : (1024 : ℝ) ≠ 0)), ← EReal.coe_inv, ← EReal.coe_mul]
    norm_num
  have h0 : (0 : EReal) ≤ ((1 / 2048 : ℝ) : EReal) := by exact_mod_cast (by norm_num : (0 : ℝ) ≤ 1 / 2048)
  rw [h, mul_comm _ e, ← EReal.left_distrib_of_nonneg h0 h0, perEntry_eq, ← EReal.coe_add]
  norm_num

section Rows
variable (X T : ℕ → ℕ → EReal) (g : ℕ → EReal)

/-- The number row `r` is scaled by. -/
def scaleOf (r : ℕ) : EReal := root fun k => X r k.val

/-- The error of row `r` at place `j`. -/
def err (r j : ℕ) : EReal := X r j * scaleOf X r * g j - T r j

/-- The gradient of the normalised rows, with the kernel's factor and with the derivative's. -/
def errGrad (r j : ℕ) : EReal := err X T g r j * perEntry
def errGradRef (r j : ℕ) : EReal := err X T g r j * factor + factor * err X T g r j

theorem errGradRef_eq : errGradRef X T g = errGrad X T g := funext fun _ => funext fun _ => twice _

/-- The mean of row `r`'s squared errors. -/
def rowLoss (r : ℕ) : EReal := Ideal.div (∑ k : Fin 1024, err X T g r k.val * err X T g r k.val) width

/-- The loss of the first `n` rows. -/
def lossOf (n : ℕ) : EReal := half * ∑ r ∈ Finset.range n, rowLoss X T g r

/-- The gradient of row `r` at place `j`. -/
def rowGrad (r : ℕ) (j : Fin 1024) : EReal :=
  kernelGrad (fun k => errGrad X T g r k.val) (fun k => X r k.val) (fun k => g k.val) 0 j

/-- The gradient of the gains from the first `n` rows. -/
def gainOf (n j : ℕ) : EReal := along (fun r => errGrad X T g r j) (fun r => X r j * scaleOf X r) n

theorem lossOf_zero : lossOf X T g 0 = 0 := by simp [lossOf]

/-- Adding the loss of the `B` rows after row `s * B` to the loss up to there gives the loss up to their end. -/
theorem lossOf_step {B s : ℕ} {u : Fin B → EReal} (hu : ∀ k, u k = rowLoss X T g (s * B + k.val)) {z : EReal}
    (hz : z = lossOf X T g (s * B)) : z + half * ∑ k, u k = lossOf X T g ((s + 1) * B) := by
  rw [hz]
  unfold lossOf
  rw [Nat.succ_mul, Finset.sum_range_add, show ∑ k, u k = ∑ k ∈ Finset.range B, rowLoss X T g (s * B + k) from
    (Finset.sum_congr rfl fun k _ => hu k).trans (sum_fin (fun k => rowLoss X T g (s * B + k)) B), half_eq,
    EReal.left_distrib_of_nonneg_of_ne_top (by exact_mod_cast (by norm_num : (0 : ℝ) ≤ 1 / 2)) (EReal.coe_ne_top _)]

/-- The loss of all the rows, over their own index. -/
theorem lossOf_whole (n : ℕ) : lossOf X T g n = half * ∑ r : Fin n, rowLoss X T g r.val := by
  unfold lossOf
  rw [sum_fin]

/-- The gradient of a row in the derivative's form. -/
theorem rowGrad_ref (r : ℕ) (j : Fin 1024) : rowGrad X T g r j
    = refGrad (fun k => errGradRef X T g r k.val) (fun k => X r k.val) (fun k => g k.val) 0 j := by
  unfold rowGrad
  rw [grad_eq, errGradRef_eq]

/-- All the rows' gains, over their own index, in the derivative's form and with the factors the other way round. -/
theorem gainOf_ref (n j : ℕ) : gainOf X T g n j = ∑ r : Fin n, X r.val j * scaleOf X r.val * errGradRef X T g r.val j := by
  unfold gainOf
  rw [← along_whole (n := n) (fun r => errGrad X T g r j) (fun r => X r j * scaleOf X r) (fun _ => rfl) (fun _ => rfl), errGradRef_eq]
  exact Finset.sum_congr rfl fun r _ => mul_comm _ _

end Rows

/-- A projection's row plus the residual: row `r` of `a · w + x` at place `j`. -/
def sumRow {R K C : ℕ} (a : (⟨2, ![R, K]⟩ : Shape).Idx → EReal) (w : (⟨2, ![K, C]⟩ : Shape).Idx → EReal)
    (x : (⟨2, ![R, C]⟩ : Shape).Idx → EReal) (r j : ℕ) : EReal :=
  along (entry a r) (fun k => entry w k j) K + entry x r j

/-- The same at the arrays' own indices, the residual first. -/
theorem sumRow_ref {R K C : ℕ} (a : (⟨2, ![R, K]⟩ : Shape).Idx → EReal) (w : (⟨2, ![K, C]⟩ : Shape).Idx → EReal)
    (x : (⟨2, ![R, C]⟩ : Shape).Idx → EReal) (r : Fin R) (j : Fin C) :
    x (ix2 r j) + ∑ k : Fin K, a (ix2 r k) * w (ix2 k j) = sumRow a w x r.val j.val := by
  unfold sumRow
  rw [along_whole (entry a r.val) (fun k => entry w k j.val) (fun k => entry_val a r k) (fun k => entry_val w k j), entry_val x r j, add_comm]

end Cert.LossHead

end
-- ==== Proof.DownProjValue.lean ====
/-
  The down projection with the residual, the loss and the loss's gradients: for each of eight tiles of 512 rows the kernel adds
  the products of two blocks of 1408 columns, and the tile's last point adds the residual, writes its rows' gradient and adds
  the tile's rows to the gradient of the gains and to the loss.
-/
module

public import proofs.«01_k».proof.Defs
public import proofs.«01_k».proof.Proof.LossHead
public import proofs.«01_k».proof.Proof.Gen.DownProjIdeal.Frame
public import proofs.«01_k».proof.Proof.Gen.DownProjRefIdeal.Run

@[expose] public section

noncomputable section

namespace Cert.DownProjIdeal.Value

open Cert.DownProjIdeal Cert.DownProjIdeal.Gen Cert.Product Cert.NormGrad Cert.LossHead
open Idealize.ShloMosaic Idealize.ShloMosaic.TcCoe Idealize.SL.Sem
open scoped BigOperators

variable (m : (ℓ : Loc nD τ sig) → Buf (Elt Ideal) ℓ)

theorem hz : (![0, 0] : Fin 2 → Nat) = fun _ => 0 := funext fun a => by fin_cases a <;> rfl

/-- One point's sum: the accumulator plus the product of its two blocks. -/
theorem pay2_apply (s : Vec Ideal S512x1024 .f32) (a : Vec Ideal S512x1408 .bf16) (b : Vec Ideal S1408x1024 .bf16) (y : S512x1024.Idx) :
    k0_pay2 s a b y = s y + ∑ k : Fin 1408, a (ix2 (y 0) k) * b (ix2 k (y 1)) := by
  unfold k0_pay2
  simp only [pointwise, zero_add]

/-- The block a run's first point starts from is zero. -/
theorem pay1_apply (y : S512x1024.Idx) : (k0_pay1 (F := Ideal)) y = 0 := by
  unfold k0_pay1
  simp only [pointwise]

section Tile
variable (d x tgt : Vec Ideal S512x1024 .f32) (g : Vec Ideal S1x1024 .f32) (X T : ℕ → ℕ → EReal) (G : ℕ → EReal) (n : ℕ)
  (hX : ∀ (r : Fin 512) (k : Fin 1024), d (ix2 r k) + x (ix2 r k) = X (n + r.val) k.val)
  (hT : ∀ (r : Fin 512) (k : Fin 1024), tgt (ix2 r k) = T (n + r.val) k.val) (hG : ∀ k : Fin 1024, g (ix2 0 k) = G k.val)
include hX hT hG

/-- The rows a tile's last point writes. -/
theorem pay12_apply (y : S512x1024.Idx) : k0_pay12 d x tgt g y = rowGrad X T G (n + (y 0).val) (y 1) := by
  obtain ⟨p, q, rfl⟩ : ∃ p q, y = ix2 p q := ⟨_, _, eq_ix2 y⟩
  unfold k0_pay12 k0_pay11 k0_pay10 k0_pay9 k0_pay8 k0_pay7
  simp only [pointwise, zero_add, Nat.reduceEqDiff, OfNat.ofNat_ne_one, reduceDIte, Fin.eta, hX, hT, hG]
  exact (add_zero _).symm

/-- What it adds to the gains' gradient. -/
theorem gain_apply (y : S1x1024.Idx) : k0_pay3 (k0_pay14 d x tgt g) y
    = ∑ r : Fin 512, errGrad X T G (n + r.val) (y 1).val * (X (n + r.val) (y 1).val * scaleOf X (n + r.val)) := by
  obtain ⟨p, q, rfl⟩ : ∃ p q, y = ix2 p q := ⟨_, _, eq_ix2 y⟩
  obtain rfl : p = 0 := Subsingleton.elim _ _
  unfold k0_pay3 k0_pay14 k0_pay11 k0_pay10 k0_pay9 k0_pay8 k0_pay7
  simp only [pointwise, zero_add, Nat.reduceEqDiff, OfNat.ofNat_ne_one, reduceDIte, Fin.eta, hX, hT, hG]
  rfl

/-- What it adds to the loss. -/
theorem loss_apply (y : S1x128.Idx) : k0_pay4 (k0_pay13 d x tgt g) y = half * ∑ r : Fin 512, rowLoss X T G (n + r.val) := by
  conv_lhs => rw [eq_ix2 y]
  unfold k0_pay4 k0_pay13 k0_pay10 k0_pay9 k0_pay8 k0_pay7
  simp only [pointwise, zero_add, Nat.reduceEqDiff, OfNat.ofNat_ne_one, reduceDIte, Fin.eta, hX, hT, hG]
  rfl

end Tile

theorem pay5_apply (v : Vec Ideal S512x1024 .f32) (s : Vec Ideal S1x1024 .f32) (y : S1x1024.Idx) : k0_pay5 v s y = s y + k0_pay3 v y := by
  unfold k0_pay5
  simp only [pointwise]

theorem pay6_apply (v : Vec Ideal S1x1 .f32) (s : Vec Ideal S1x128 .f32) (y : S1x128.Idx) : k0_pay6 v s y = s y + k0_pay4 v y := by
  unfold k0_pay6
  simp only [pointwise]

section Cases
variable (c : Dev nD) (i : grid0.Coords) (b0 : Memref sig .tc .vmem S512x1408 .bf16) (w0 : b0.IsWhole)
  (b1 : Memref sig .tc .vmem S1408x1024 .bf16) (w1 : b1.IsWhole) (b2 : Memref sig .tc .vmem S512x1024 .f32) (w2 : b2.IsWhole)
  (b3 : Memref sig .tc .vmem S512x1024 .f32) (w3 : b3.IsWhole) (b4 : Memref sig .tc .vmem S1x1024 .f32) (w4 : b4.IsWhole)
  (b5 : Memref sig .tc .vmem S512x1024 .f32) (w5 : b5.IsWhole) (b6 : Memref sig .tc .vmem S1x1024 .f32) (w6 : b6.IsWhole)
  (b7 : Memref sig .tc .vmem S1x128 .f32) (w7 : b7.IsWhole) (b8 : Memref sig .tc .vmem S512x1024 .f32) (w8 : b8.IsWhole)
  (a : Vec Ideal S512x1408 .bf16) (w : Vec Ideal S1408x1024 .bf16) (x : Vec Ideal S512x1024 .f32) (tgt : Vec Ideal S512x1024 .f32)
  (g : Vec Ideal S1x1024 .f32) (o : Vec Ideal S1x1024 .f32) (l : Vec Ideal S1x128 .f32) (s : Vec Ideal S512x1024 .f32)

/-- A run's first point leaves zero plus its product. -/
theorem sum_first (h0 : cond0_0 i) (h1 : ¬cond0_1 i) :
    sout0_A_0 c i b0 w0 b1 w1 b2 w2 b3 w3 b4 w4 b5 w5 b6 w6 b7 w7 b8 w8 h0 h1 a w x tgt g = k0_pay2 k0_pay1 a w := by
  unfold sout0_A_0
  rw [View.read_writes_eq_canon _ _ _ (scover0_A_0 c i b0 w0 b1 w1 b2 w2 b3 w3 b4 w4 b5 w5 b6 w6 b7 w7 b8 w8 h0 h1 a w x tgt g)]
  unfold kernelRun0_A
  dsimp only
  sl_unfold_words
  rw [View.canon_cons_unit_zero (S := S512x1024) hz, View.readCov_unit_zero (S := S512x1024) _ hz]
  simp only [View.readAt_eq_ld, w0.read_unread, w1.read_unread, View.ld_unit_zero (S := S512x1408) hz,
    View.ld_unit_zero (S := S1408x1024) hz]

/-- The first tile's last point writes its rows. -/
theorem rows_first (h0 : ¬cond0_0 i) (h1 : cond0_1 i) (h2 : cond0_2 i) (h3 : ¬cond0_3 i) (h4 : cond0_4 i) (h5 : ¬cond0_5 i) :
    out0_B_5 c i b0 w0 b1 w1 b2 w2 b3 w3 b4 w4 b5 w5 b6 w6 b7 w7 b8 w8 h0 h1 h2 h3 h4 h5 a w x tgt g s = k0_pay12 (k0_pay2 s a w) x tgt g := by
  unfold out0_B_5
  rw [View.read_writes_eq_canon _ _ _ (cover0_B_5 c i b0 w0 b1 w1 b2 w2 b3 w3 b4 w4 b5 w5 b6 w6 b7 w7 b8 w8 h0 h1 h2 h3 h4 h5 a w x tgt g s)]
  unfold kernelRun0_B
  dsimp only
  sl_unfold_words
  rw [View.canon_unit_zero (S := S512x1024) hz, View.readCov_unit_zero (S := S512x1024) _ hz]
  simp only [View.readAt_eq_ld, w0.read_unread, w1.read_unread, w2.read_unread, w3.read_unread, w4.read_unread, w8.read_unread,
    View.ld_unit_zero (S := S512x1408) hz, View.ld_unit_zero (S := S1408x1024) hz, View.ld_unit_zero (S := S512x1024) hz,
    View.ld_unit_zero (S := S1x1024) hz]

/-- It starts the gains' gradient with them. -/
theorem gains_first (h0 : ¬cond0_0 i) (h1 : cond0_1 i) (h2 : cond0_2 i) (h3 : ¬cond0_3 i) (h4 : cond0_4 i) (h5 : ¬cond0_5 i) :
    out0_B_6 c i b0 w0 b1 w1 b2 w2 b3 w3 b4 w4 b5 w5 b6 w6 b7 w7 b8 w8 h0 h1 h2 h3 h4 h5 a w x tgt g s = k0_pay3 (k0_pay14 (k0_pay2 s a w) x tgt g) := by
  unfold out0_B_6
  rw [View.read_writes_eq_canon _ _ _ (cover0_B_6 c i b0 w0 b1 w1 b2 w2 b3 w3 b4 w4 b5 w5 b6 w6 b7 w7 b8 w8 h0 h1 h2 h3 h4 h5 a w x tgt g s)]
  unfold kernelRun0_B
  dsimp only
  sl_unfold_words
  rw [View.canon_unit_zero (S := S1x1024) hz, View.readCov_unit_zero (S := S512x1024) _ hz]
  simp only [View.readAt_eq_ld, w0.read_unread, w1.read_unread, w2.read_unread, w3.read_unread, w4.read_unread, w8.read_unread,
    View.ld_unit_zero (S := S512x1408) hz, View.ld_unit_zero (S := S1408x1024) hz, View.ld_unit_zero (S := S512x1024) hz,
    View.ld_unit_zero (S := S1x1024) hz]

/-- It starts the loss with them. -/
theorem loss_first (h0 : ¬cond0_0 i) (h1 : cond0_1 i) (h2 : cond0_2 i) (h3 : ¬cond0_3 i) (h4 : cond0_4 i) (h5 : ¬cond0_5 i) :
    out0_B_7 c i b0 w0 b1 w1 b2 w2 b3 w3 b4 w4 b5 w5 b6 w6 b7 w7 b8 w8 h0 h1 h2 h3 h4 h5 a w x tgt g s = k0_pay4 (k0_pay13 (k0_pay2 s a w) x tgt g) := by
  unfold out0_B_7
  rw [View.read_writes_eq_canon _ _ _ (cover0_B_7 c i b0 w0 b1 w1 b2 w2 b3 w3 b4 w4 b5 w5 b6 w6 b7 w7 b8 w8 h0 h1 h2 h3 h4 h5 a w x tgt g s)]
  unfold kernelRun0_B
  dsimp only
  sl_unfold_words
  rw [View.canon_unit_zero (S := S1x128) hz, View.readCov_unit_zero (S := S512x1024) _ hz]
  simp only [View.readAt_eq_ld, w0.read_unread, w1.read_unread, w2.read_unread, w3.read_unread, w4.read_unread, w8.read_unread,
    View.ld_unit_zero (S := S512x1408) hz, View.ld_unit_zero (S := S1408x1024) hz, View.ld_unit_zero (S := S512x1024) hz,
    View.ld_unit_zero (S := S1x1024) hz]

/-- Every later tile's last point writes its rows. -/
theorem rows_later (h0 : ¬cond0_0 i) (h1 : cond0_1 i) (h2 : ¬cond0_2 i) (h3 : cond0_3 i) (h4 : ¬cond0_4 i) (h5 : cond0_5 i) :
    out0_C_5 c i b0 w0 b1 w1 b2 w2 b3 w3 b4 w4 b5 w5 b6 w6 b7 w7 b8 w8 h0 h1 h2 h3 h4 h5 a w x tgt g o l s = k0_pay12 (k0_pay2 s a w) x tgt g := by
  unfold out0_C_5
  rw [View.read_writes_eq_canon _ _ _ (cover0_C_5 c i b0 w0 b1 w1 b2 w2 b3 w3 b4 w4 b5 w5 b6 w6 b7 w7 b8 w8 h0 h1 h2 h3 h4 h5 a w x tgt g o l s)]
  unfold kernelRun0_C
  dsimp only
  sl_unfold_words
  rw [View.canon_unit_zero (S := S512x1024) hz, View.readCov_unit_zero (S := S512x1024) _ hz]
  simp only [View.readAt_eq_ld, w0.read_unread, w1.read_unread, w2.read_unread, w3.read_unread, w4.read_unread, w8.read_unread,
    View.ld_unit_zero (S := S512x1408) hz, View.ld_unit_zero (S := S1408x1024) hz, View.ld_unit_zero (S := S512x1024) hz,
    View.ld_unit_zero (S := S1x1024) hz]

/-- It adds them to the gains' gradient. -/
theorem gains_later (h0 : ¬cond0_0 i) (h1 : cond0_1 i) (h2 : ¬cond0_2 i) (h3 : cond0_3 i) (h4 : ¬cond0_4 i) (h5 : cond0_5 i) :
    out0_C_6 c i b0 w0 b1 w1 b2 w2 b3 w3 b4 w4 b5 w5 b6 w6 b7 w7 b8 w8 h0 h1 h2 h3 h4 h5 a w x tgt g o l s = k0_pay5 (k0_pay14 (k0_pay2 s a w) x tgt g) o := by
  unfold out0_C_6
  rw [View.read_writes_eq_canon _ _ _ (cover0_C_6 c i b0 w0 b1 w1 b2 w2 b3 w3 b4 w4 b5 w5 b6 w6 b7 w7 b8 w8 h0 h1 h2 h3 h4 h5 a w x tgt g o l s)]
  unfold kernelRun0_C
  dsimp only
  sl_unfold_words
  rw [View.canon_unit_zero (S := S1x1024) hz, View.readCov_unit_zero (S := S512x1024) _ hz]
  simp only [View.readAt_eq_ld, w0.read_unread, w1.read_unread, w2.read_unread, w3.read_unread, w4.read_unread, w6.read_unread, w8.read_unread,
    View.ld_unit_zero (S := S512x1408) hz, View.ld_unit_zero (S := S1408x1024) hz, View.ld_unit_zero (S := S512x1024) hz,
    View.ld_unit_zero (S := S1x1024) hz]

/-- It adds them to the loss. -/
theorem loss_later (h0 : ¬cond0_0 i) (h1 : cond0_1 i) (h2 : ¬cond0_2 i) (h3 : cond0_3 i) (h4 : ¬cond0_4 i) (h5 : cond0_5 i) :
    out0_C_7 c i b0 w0 b1 w1 b2 w2 b3 w3 b4 w4 b5 w5 b6 w6 b7 w7 b8 w8 h0 h1 h2 h3 h4 h5 a w x tgt g o l s = k0_pay6 (k0_pay13 (k0_pay2 s a w) x tgt g) l := by
  unfold out0_C_7
  rw [View.read_writes_eq_canon _ _ _ (cover0_C_7 c i b0 w0 b1 w1 b2 w2 b3 w3 b4 w4 b5 w5 b6 w6 b7 w7 b8 w8 h0 h1 h2 h3 h4 h5 a w x tgt g o l s)]
  unfold kernelRun0_C
  dsimp only
  sl_unfold_words
  rw [View.canon_unit_zero (S := S1x128) hz, View.readCov_unit_zero (S := S512x1024) _ hz]
  simp only [View.readAt_eq_ld, w0.read_unread, w1.read_unread, w2.read_unread, w3.read_unread, w4.read_unread, w7.read_unread, w8.read_unread,
    View.ld_unit_zero (S := S512x1408) hz, View.ld_unit_zero (S := S1408x1024) hz, View.ld_unit_zero (S := S512x1024) hz,
    View.ld_unit_zero (S := S1x1024) hz, View.ld_unit_zero (S := S1x128) hz]

end Cases

/-- Where the windows' blocks lie. -/
theorem places : ∀ t : Fin cfg0.N, (win0_0.index t 0 = t.val / 2 ∧ win0_0.index t 1 = t.val % 2)
    ∧ (win0_1.index t 0 = t.val % 2 ∧ win0_1.index t 1 = 0)
    ∧ (win0_2.index t 0 = t.val / 2 ∧ win0_2.index t 1 = 0)
    ∧ (win0_3.index t 0 = t.val / 2 ∧ win0_3.index t 1 = 0)
    ∧ (win0_4.index t 0 = 0 ∧ win0_4.index t 1 = 0)
    ∧ (win0_5.index t 0 = t.val / 2 ∧ win0_5.index t 1 = 0)
    ∧ (win0_6.index t 0 = 0 ∧ win0_6.index t 1 = 0)
    ∧ (win0_7.index t 0 = 0 ∧ win0_7.index t 1 = 0) :=
  (by decide +kernel : ∀ t : Fin grid0.N, _)

/-- Every block of the rows is some tile's, and the gains' and the loss's one block are written back. -/
theorem onto : (∀ q : Fin 8, ∃ t : Fin cfg0.N, (cfg0.win 5).flush t = true ∧ win0_5.index t = ![q.val, 0])
    ∧ ∃ t : Fin cfg0.N, (cfg0.win 6).flush t = true ∧ win0_6.index t = ![0, 0]
      ∧ (cfg0.win 7).flush t = true ∧ win0_7.index t = ![0, 0] :=
  (by decide +kernel : (∀ q : Fin 8, ∃ t : Fin grid0.N, (cfg0.win 5).flush t = true ∧ win0_5.index t = ![q.val, 0])
    ∧ ∃ t : Fin grid0.N, (cfg0.win 6).flush t = true ∧ win0_6.index t = ![0, 0]
      ∧ (cfg0.win 7).flush t = true ∧ win0_7.index t = ![0, 0])

/-- The rows the loss is taken of, the targets and the gains. -/
abbrev xs (c : Dev nD) : ℕ → ℕ → EReal :=
  sumRow (m ((c : Thread nD τ).loc main_arg0)) (m ((c : Thread nD τ).loc main_arg1)) (m ((c : Thread nD τ).loc main_arg2))
abbrev ts (c : Dev nD) : ℕ → ℕ → EReal := entry (m ((c : Thread nD τ).loc main_arg3))
abbrev gs (c : Dev nD) : ℕ → EReal := entry (m ((c : Thread nD τ).loc main_arg4)) 0

theorem block_a (c : Dev nD) (t : Fin cfg0.N) (y : S512x1408.Idx) :
    iblk m c 0 t y = entry (m ((c : Thread nD τ).loc main_arg0)) (t.val / 2 * 512 + (y 0).val) (t.val % 2 * 1408 + (y 1).val) := by
  obtain ⟨e0, e1⟩ := (places t).1
  refine (congrFun (V_main_arg0 m c) _).trans (entry_idx _ _ ?_ ?_)
  · show win0_0.index t 0 * 512 + 1 * (y 0).val = _; rw [e0]; omega
  · show win0_0.index t 1 * 1408 + 1 * (y 1).val = _; rw [e1]; omega

theorem block_w (c : Dev nD) (t : Fin cfg0.N) (y : S1408x1024.Idx) :
    iblk m c 1 t y = entry (m ((c : Thread nD τ).loc main_arg1)) (t.val % 2 * 1408 + (y 0).val) (y 1).val := by
  obtain ⟨e0, e1⟩ := (places t).2.1
  refine (congrFun (V_main_arg1 m c) _).trans (entry_idx _ _ ?_ ?_)
  · show win0_1.index t 0 * 1408 + 1 * (y 0).val = _; rw [e0]; omega
  · show win0_1.index t 1 * 1024 + 1 * (y 1).val = _; rw [e1]; omega

theorem block_x (c : Dev nD) (t : Fin cfg0.N) (y : S512x1024.Idx) :
    iblk m c 2 t y = entry (m ((c : Thread nD τ).loc main_arg2)) (t.val / 2 * 512 + (y 0).val) (y 1).val := by
  obtain ⟨e0, e1⟩ := (places t).2.2.1
  refine (congrFun (V_main_arg2 m c) _).trans (entry_idx _ _ ?_ ?_)
  · show win0_2.index t 0 * 512 + 1 * (y 0).val = _; rw [e0]; omega
  · show win0_2.index t 1 * 1024 + 1 * (y 1).val = _; rw [e1]; omega

theorem block_t (c : Dev nD) (t : Fin cfg0.N) (y : S512x1024.Idx) : iblk m c 3 t y = ts m c (t.val / 2 * 512 + (y 0).val) (y 1).val := by
  obtain ⟨e0, e1⟩ := (places t).2.2.2.1
  refine (congrFun (V_main_arg3 m c) _).trans (entry_idx _ _ ?_ ?_)
  · show win0_3.index t 0 * 512 + 1 * (y 0).val = _; rw [e0]; omega
  · show win0_3.index t 1 * 1024 + 1 * (y 1).val = _; rw [e1]; omega

theorem block_g (c : Dev nD) (t : Fin cfg0.N) (y : S1x1024.Idx) : iblk m c 4 t y = gs m c (y 1).val := by
  obtain ⟨e0, e1⟩ := (places t).2.2.2.2.1
  have h0 : (y 0).val < 1 := (y 0).isLt
  refine (congrFun (V_main_arg4 m c) _).trans (entry_idx _ _ ?_ ?_)
  · show win0_4.index t 0 * 1 + 1 * (y 0).val = _; rw [e0]; omega
  · show win0_4.index t 1 * 1024 + 1 * (y 1).val = _; rw [e1]; omega

/-- Adding a point's product to the sum over the columns before its block gives the sum up to its block's end. -/
theorem step (c : Dev nD) (t : Fin cfg0.N) (s : Vec Ideal S512x1024 .f32) (y : S512x1024.Idx)
    (hs : s y = along (entry (m ((c : Thread nD τ).loc main_arg0)) (t.val / 2 * 512 + (y 0).val))
      (fun k => entry (m ((c : Thread nD τ).loc main_arg1)) k (y 1).val) (t.val % 2 * 1408)) :
    k0_pay2 s (iblk m c 0 t) (iblk m c 1 t) y = along (entry (m ((c : Thread nD τ).loc main_arg0)) (t.val / 2 * 512 + (y 0).val))
      (fun k => entry (m ((c : Thread nD τ).loc main_arg1)) k (y 1).val) ((t.val % 2 + 1) * 1408) := by
  rw [pay2_apply]
  exact along_step _ _ (fun k => block_a m c t _) (fun k => block_w m c t _) hs

/-- The sum a run's first point leaves. -/
theorem first (c : Dev nD) (t : Fin cfg0.N) (h : t.val % 2 = 0) (y : S512x1024.Idx) : (outsAt0 m c t.val t.isLt).2.2.2 y
    = along (entry (m ((c : Thread nD τ).loc main_arg0)) (t.val / 2 * 512 + (y 0).val))
      (fun k => entry (m ((c : Thread nD τ).loc main_arg1)) k (y 1).val) 1408 := by
  rw [outsAt0_A m c t h (by omega)]
  dsimp only
  rw [sum_first]
  refine (step m c t _ y ((pay1_apply y).trans ?_)).trans ?_
  · rw [h]; exact (along_zero _ _).symm
  · rw [h]

/-- A run's last point's sum is over all the columns: with the residual, the rows the loss is taken of. -/
theorem last (c : Dev nD) (t : Fin cfg0.N) (h : t.val % 2 = 1) (hn : t.val - 1 < cfg0.N) (r : Fin 512) (k : Fin 1024) :
    k0_pay2 (outsAt0 m c (t.val - 1) hn).2.2.2 (iblk m c 0 t) (iblk m c 1 t) (ix2 r k) + iblk m c 2 t (ix2 r k)
      = xs m c (t.val / 2 * 512 + r.val) k.val := by
  refine congrArg₂ (· + ·) ?_ (block_x m c t _)
  have hs := first m c ⟨t.val - 1, hn⟩ (by dsimp only; omega) (ix2 r k)
  dsimp only at hs
  rw [show (t.val - 1) / 2 = t.val / 2 by omega] at hs
  refine (step m c t _ (ix2 r k) (hs.trans ?_)).trans ?_
  · rw [h]
  · rw [h]; rfl

/-- The rows a tile's last point writes, by the whole arrays. -/
theorem rows_eq (c : Dev nD) (t : Fin cfg0.N) (h : t.val % 2 = 1) (y : S512x1024.Idx) : (outsAt0 m c t.val t.isLt).1 y
    = rowGrad (xs m c) (ts m c) (gs m c) (t.val / 2 * 512 + (y 0).val) (y 1) := by
  have hv : (outsAt0 m c t.val t.isLt).1 = k0_pay12 (k0_pay2 (outsAt0 m c (t.val - 1) (by omega)).2.2.2 (iblk m c 0 t) (iblk m c 1 t))
      (iblk m c 2 t) (iblk m c 3 t) (iblk m c 4 t) := by
    by_cases h4 : t.val < 2
    · rw [outsAt0_B m c t (by omega) h h4 (by omega) h4 (by omega)]
      dsimp only
      rw [rows_first]
    · rw [outsAt0_C m c t (by omega) h h4 (by omega) h4 (by omega)]
      dsimp only
      rw [rows_later]
  rw [hv]
  exact pay12_apply _ _ _ _ _ _ _ _ (last m c t h _) (fun _ _ => block_t m c t _) (fun _ => block_g m c t _) y

/-- Adding a tile's rows to the gains' gradient. -/
theorem gain_step (c : Dev nD) (t : Fin cfg0.N) (h : t.val % 2 = 1) (hn : t.val - 1 < cfg0.N) (y : S1x1024.Idx) {z : EReal}
    (hz : z = gainOf (xs m c) (ts m c) (gs m c) (t.val / 2 * 512) (y 1).val) :
    z + k0_pay3 (k0_pay14 (k0_pay2 (outsAt0 m c (t.val - 1) hn).2.2.2 (iblk m c 0 t) (iblk m c 1 t)) (iblk m c 2 t) (iblk m c 3 t)
      (iblk m c 4 t)) y = gainOf (xs m c) (ts m c) (gs m c) ((t.val / 2 + 1) * 512) (y 1).val := by
  rw [gain_apply _ _ _ _ _ _ _ _ (last m c t h hn) (fun _ _ => block_t m c t _) (fun _ => block_g m c t _)]
  exact along_step _ _ (fun _ => rfl) (fun _ => rfl) hz

/-- Adding a tile's rows to the loss. -/
theorem loss_step (c : Dev nD) (t : Fin cfg0.N) (h : t.val % 2 = 1) (hn : t.val - 1 < cfg0.N) (y : S1x128.Idx) {z : EReal}
    (hz : z = lossOf (xs m c) (ts m c) (gs m c) (t.val / 2 * 512)) :
    z + k0_pay4 (k0_pay13 (k0_pay2 (outsAt0 m c (t.val - 1) hn).2.2.2 (iblk m c 0 t) (iblk m c 1 t)) (iblk m c 2 t) (iblk m c 3 t)
      (iblk m c 4 t)) y = lossOf (xs m c) (ts m c) (gs m c) ((t.val / 2 + 1) * 512) := by
  rw [loss_apply _ _ _ _ _ _ _ _ (last m c t h hn) (fun _ _ => block_t m c t _) (fun _ => block_g m c t _)]
  exact lossOf_step _ _ _ (fun _ => rfl) hz

/-- The gains' gradient and the loss after the first tile: the rows of the tiles so far. -/
theorem sums (c : Dev nD) : ∀ (n : ℕ) (h : n < cfg0.N) (hn : 1 ≤ n),
    (∀ y : S1x1024.Idx, (outsAt0 m c n h).2.1 y = gainOf (xs m c) (ts m c) (gs m c) ((n + 1) / 2 * 512) (y 1).val)
    ∧ ∀ y : S1x128.Idx, (outsAt0 m c n h).2.2.1 y = lossOf (xs m c) (ts m c) (gs m c) ((n + 1) / 2 * 512) := by
  intro n
  induction n with
  | zero => intro h hn; omega
  | succ n ih =>
    intro h hn
    by_cases h1 : (n + 1) % 2 = 1
    · rw [show (n + 1 + 1) / 2 = (⟨n + 1, h⟩ : Fin cfg0.N).val / 2 + 1 by dsimp only; omega]
      by_cases h2 : n + 1 < 2
      · have hz : (⟨n + 1, h⟩ : Fin cfg0.N).val / 2 * 512 = 0 := by dsimp only; omega
        rw [outsAt0_B m c ⟨n + 1, h⟩ (by dsimp only; omega) h1 h2 (by dsimp only; omega) h2 (by dsimp only; omega)]
        dsimp only
        rw [gains_first, loss_first]
        refine ⟨fun y => (zero_add _).symm.trans (gain_step m c ⟨n + 1, h⟩ h1 _ y ?_), fun y => (zero_add _).symm.trans (loss_step m c ⟨n + 1, h⟩ h1 _ y ?_)⟩
        · rw [hz]; exact (along_zero _ _).symm
        · rw [hz]; exact (lossOf_zero _ _ _).symm
      · obtain ⟨hg, hl⟩ := ih (Nat.lt_of_succ_lt h) (by omega)
        rw [outsAt0_C m c ⟨n + 1, h⟩ (by dsimp only; omega) h1 h2 (by dsimp only; omega) h2 (by dsimp only; omega)]
        dsimp only
        rw [gains_later, loss_later]
        exact ⟨fun y => (pay5_apply _ _ y).trans (gain_step m c ⟨n + 1, h⟩ h1 _ y (hg y)),
          fun y => (pay6_apply _ _ y).trans (loss_step m c ⟨n + 1, h⟩ h1 _ y (hl y))⟩
    · have hs := ih (Nat.lt_of_succ_lt h) (by omega)
      rw [show (n + 1) / 2 = (n + 1 + 1) / 2 by omega] at hs
      rw [outsAt0_A m c ⟨n + 1, h⟩ (by dsimp only; omega) h1]
      exact hs

/-- The gradient of the rows, of the gains, and the loss, whole. -/
def rows (X T : ℕ → ℕ → EReal) (g : ℕ → EReal) : FVec Ideal S4096x1024 .f32 := fun i => rowGrad X T g (i 0).val (i 1)
def gains (X T : ℕ → ℕ → EReal) (g : ℕ → EReal) : FVec Ideal S1x1024 .f32 := fun i => gainOf X T g 4096 (i 1).val
def loss (X T : ℕ → ℕ → EReal) (g : ℕ → EReal) : FVec Ideal S1x128 .f32 := fun i => lossOf X T g 4096

/-- What a tile's last point writes back is its block of the rows. -/
theorem flushed_rows (c : Dev nD) (t : Fin cfg0.N) (hf : (cfg0.win 5).flush t = true) :
    (dats m 0 c).flushed 5 t = ((cfg0.win 5).blk t).view.read (Elt Ideal) (rows (xs m c) (ts m c) (gs m c)) := by
  have h1 : t.val % 2 = 1 := (flush0_5 t).mp hf
  obtain ⟨e0, e1⟩ := (places t).2.2.2.2.2.1
  show (cfg0.win 5).cut (grid0.coords t) ((dats m 0 c).after 5 t) = _
  rw [after0_5]
  funext y
  refine (rows_eq m c t h1 _).trans ?_
  show _ = rowGrad _ _ _ _ _
  refine congrArg₂ (rowGrad _ _ _) ?_ (Fin.ext ?_)
  · show t.val / 2 * 512 + (y 0).val = win0_5.index t 0 * 512 + 1 * (y 0).val; rw [e0]; omega
  · show (y 1).val = win0_5.index t 1 * 1024 + 1 * (y 1).val; rw [e1]; omega

/-- The last point writes back the gains' gradient. -/
theorem flushed_gains (c : Dev nD) (t : Fin cfg0.N) (hf : (cfg0.win 6).flush t = true) :
    (dats m 0 c).flushed 6 t = ((cfg0.win 6).blk t).view.read (Elt Ideal) (gains (xs m c) (ts m c) (gs m c)) := by
  have h1 : t.val % 16 = 15 := (flush0_6 t).mp hf
  have hN : t.val < 16 := lt_of_lt_of_eq t.isLt N_0
  obtain ⟨e0, e1⟩ := (places t).2.2.2.2.2.2.1
  show (cfg0.win 6).cut (grid0.coords t) ((dats m 0 c).after 6 t) = _
  rw [after0_6]
  funext y
  refine ((sums m c t.val t.isLt (by omega)).1 _).trans ?_
  show _ = gainOf _ _ _ _ _
  refine congrArg₂ (gainOf _ _ _) (by omega) ?_
  show (y 1).val = win0_6.index t 1 * 1024 + 1 * (y 1).val; rw [e1]; omega

/-- The last point writes back the loss. -/
theorem flushed_loss (c : Dev nD) (t : Fin cfg0.N) (hf : (cfg0.win 7).flush t = true) :
    (dats m 0 c).flushed 7 t = ((cfg0.win 7).blk t).view.read (Elt Ideal) (loss (xs m c) (ts m c) (gs m c)) := by
  have h1 : t.val % 16 = 15 := (flush0_7 t).mp hf
  have hN : t.val < 16 := lt_of_lt_of_eq t.isLt N_0
  show (cfg0.win 7).cut (grid0.coords t) ((dats m 0 c).after 7 t) = _
  rw [after0_7]
  funext y
  refine ((sums m c t.val t.isLt (by omega)).2 _).trans ?_
  show _ = lossOf _ _ _ _
  exact congrArg (lossOf _ _ _) (by omega)

/-- The rows' array after the run. -/
theorem final_rows (c : Dev nD) : (dats m 0 c).arrAt 5 cfg0.N = rows (xs m c) (ts m c) (gs m c) :=
  (dats m 0 c).arrAt_eq_of_cover 5 _ (fun t hf => flushed_rows m c t hf) fun i => by
    have h0 : (i 0).val < 4096 := (i 0).isLt
    have h1 : (i 1).val < 1024 := (i 1).isLt
    obtain ⟨t, hf, ht⟩ := onto.1 ⟨(i 0).val / 512, by omega⟩
    have q0 : win0_5.index t 0 = (i 0).val / 512 := congrFun ht 0
    have q1 : win0_5.index t 1 = 0 := congrFun ht 1
    refine ⟨t, hf, ?_⟩
    show i ∈ ((View.whole main_v0_0).slice (win0_5.rect t)).set
    rw [View.set_slice_whole, Rect.mem_set_unit]
    intro a
    match a with
    | ⟨0, _⟩ => show win0_5.index t 0 * 512 ≤ (i 0).val ∧ (i 0).val < win0_5.index t 0 * 512 + 512; omega
    | ⟨1, _⟩ => show win0_5.index t 1 * 1024 ≤ (i 1).val ∧ (i 1).val < win0_5.index t 1 * 1024 + 1024; omega

/-- The gains' array after the run. -/
theorem final_gains (c : Dev nD) : (dats m 0 c).arrAt 6 cfg0.N = gains (xs m c) (ts m c) (gs m c) :=
  (dats m 0 c).arrAt_eq_of_cover 6 _ (fun t hf => flushed_gains m c t hf) fun i => by
    have h0 : (i 0).val < 1 := (i 0).isLt
    have h1 : (i 1).val < 1024 := (i 1).isLt
    obtain ⟨t, hf, ht, -⟩ := onto.2
    have q0 : win0_6.index t 0 = 0 := congrFun ht 0
    have q1 : win0_6.index t 1 = 0 := congrFun ht 1
    refine ⟨t, hf, ?_⟩
    show i ∈ ((View.whole main_v0_1).slice (win0_6.rect t)).set
    rw [View.set_slice_whole, Rect.mem_set_unit]
    intro a
    match a with
    | ⟨0, _⟩ => show win0_6.index t 0 * 1 ≤ (i 0).val ∧ (i 0).val < win0_6.index t 0 * 1 + 1; omega
    | ⟨1, _⟩ => show win0_6.index t 1 * 1024 ≤ (i 1).val ∧ (i 1).val < win0_6.index t 1 * 1024 + 1024; omega

/-- The loss's array after the run. -/
theorem final_loss (c : Dev nD) : (dats m 0 c).arrAt 7 cfg0.N = loss (xs m c) (ts m c) (gs m c) :=
  (dats m 0 c).arrAt_eq_of_cover 7 _ (fun t hf => flushed_loss m c t hf) fun i => by
    have h0 : (i 0).val < 1 := (i 0).isLt
    have h1 : (i 1).val < 128 := (i 1).isLt
    obtain ⟨t, -, -, hf, ht⟩ := onto.2
    have q0 : win0_7.index t 0 = 0 := congrFun ht 0
    have q1 : win0_7.index t 1 = 0 := congrFun ht 1
    refine ⟨t, hf, ?_⟩
    show i ∈ ((View.whole main_v0_2).slice (win0_7.rect t)).set
    rw [View.set_slice_whole, Rect.mem_set_unit]
    intro a
    match a with
    | ⟨0, _⟩ => show win0_7.index t 0 * 1 ≤ (i 0).val ∧ (i 0).val < win0_7.index t 0 * 1 + 1; omega
    | ⟨1, _⟩ => show win0_7.index t 1 * 128 ≤ (i 1).val ∧ (i 1).val < win0_7.index t 1 * 128 + 128; omega

/-- The results and the arguments after the run. -/
theorem run_whole (ρ : Dev nD → PrngReg) : θ_run defs (onTc (τ := τ) (main (F := Ideal))) ⟨m, fun _ => 0, ρ⟩ fun r => ∀ c : Dev nD,
    r.2.mem ((c : Thread nD τ).loc main_v0_0) = rows (xs m c) (ts m c) (gs m c)
    ∧ r.2.mem ((c : Thread nD τ).loc main_v0_1) = gains (xs m c) (ts m c) (gs m c)
    ∧ r.2.mem ((c : Thread nD τ).loc main_v0_2) = loss (xs m c) (ts m c) (gs m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  (θ_run defs _ _).mono (fun r h c => ⟨((h c).1 5).trans (final_rows m c), ((h c).1 6).trans (final_gains m c), ((h c).1 7).trans (final_loss m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

/-- The kernel's results are the reference's. -/
theorem algebraic : Cert.algebraic_DownProjIdeal_DownProjRefIdeal := by
  intro m g m' g' _ hm
  refine ⟨fun c => rows (xs m c) (ts m c) (gs m c), fun c => gains (xs m c) (ts m c) (gs m c), fun c => loss (xs m c) (ts m c) (gs m c), run_whole m g,
    (θ_run _ _ _).mono (fun r h c => ⟨(h c).1.trans ?_, (h c).2.1.trans ?_, (h c).2.2.1.trans ?_, (h c).2.2.2⟩) (Cert.DownProjRefIdeal.Value.run m' g')⟩
  all_goals
    try unfold Cert.DownProjRefIdeal.Value.res_main_v52
    try unfold Cert.DownProjRefIdeal.Value.res_main_v36
    rw [(hm c).1, (hm c).2.1, (hm c).2.2.1, (hm c).2.2.2.1, (hm c).2.2.2.2]
    have hX := sumRow_ref (m ((c : Thread nD τ).loc main_arg0)) (m ((c : Thread nD τ).loc main_arg1)) (m ((c : Thread nD τ).loc main_arg2))
    have hT := entry_val (m ((c : Thread nD τ).loc main_arg3))
    have hG := entry_val (m ((c : Thread nD τ).loc main_arg4))
    funext i
    obtain ⟨p, q, rfl⟩ : ∃ p q, i = ix2 p q := ⟨_, _, eq_ix2 i⟩
  · refine Eq.trans ?_ (rowGrad_ref _ _ _ p.val q).symm
    simp only [pointwise, zero_add, Nat.reduceEqDiff, OfNat.ofNat_ne_one, reduceDIte, Finset.univ_unique, Finset.sum_singleton, hX, hT, hG]
    exact (add_zero _).symm
  · refine Eq.trans ?_ (gainOf_ref _ _ _ 4096 q.val).symm
    simp only [pointwise, zero_add, Nat.reduceEqDiff, OfNat.ofNat_ne_one, reduceDIte, hX, hT, hG]
    rfl
  · refine Eq.trans ?_ (lossOf_whole _ _ _ 4096).symm
    simp only [pointwise, zero_add, Nat.reduceEqDiff, OfNat.ofNat_ne_one, reduceDIte, hX, hT, hG]
    rfl

end Cert.DownProjIdeal.Value

end
-- ==== Proof.Adamw.lean ====
/-
  AdamW's step of one number, the gradient two cores hold one half of each, and the two words that name a core and its chip.
  The calls that update the large weights differ in their shapes alone, so what they share is stated here for every shape.
-/
module

public import proofs.«01_k».proof.Proof.Product
public import Idealize.ShloMosaic.Lib.Pipeline.ValueKit

@[expose] public section

noncomputable section

namespace Cert.Adamw

open Idealize.ShloMosaic Cert.Product

/-- The moments after a step with gradient `g`. -/
def newM (m g : EReal) : EReal := Ideal.ofBits .f32 0x3F666666#32 * m + Ideal.ofBits .f32 0x3DCCCCCD#32 * g
def newV (v g : EReal) : EReal := Ideal.ofBits .f32 0x3F7FBE77#32 * v + Ideal.ofBits .f32 0x3A83126F#32 * (g * g)

/-- What the step adds to the weight `w`. -/
def delta (w m v g : EReal) : EReal := Ideal.ofBits .f32 0xBA83126F#32 *
  (Ideal.div (Ideal.div (newM m g) (Ideal.ofBits .f32 0x3F26BD02#32))
    (Ideal.sqrt (Ideal.div (newV v g) (Ideal.ofBits .f32 0x3C231ACC#32)) + Ideal.ofBits .f32 0x322BCC77#32)
    + Ideal.ofBits .f32 0x3C23D70A#32 * w)

/-- The step of every number of an array, or of a tile of it: the gradient, what is added, and the moments. -/
abbrev deltas {S : Type} (w m v g : S → EReal) : S → EReal := fun y => delta (w y) (m y) (v y) (g y)
abbrev newMs {S : Type} (m g : S → EReal) : S → EReal := fun y => newM (m y) (g y)
abbrev newVs {S : Type} (v g : S → EReal) : S → EReal := fun y => newV (v y) (g y)
abbrev tile {S : Type} (g w m v : S → EReal) : (S → EReal) × (S → EReal) × (S → EReal) × (S → EReal) := (g, deltas w m v g, newMs m g, newVs v g)

/-- A tile's step, told one result at a time. -/
theorem quad {S : Type} {a b e f g w m v : S → EReal} (h1 : a = g) (h2 : b = deltas w m v g) (h3 : e = newMs m g) (h4 : f = newVs v g) :
    (a, b, e, f) = tile g w m v := by subst h1 h2 h3 h4; rfl

/-- A row of tile `t`, told from the start of its half of `n` tiles. -/
theorem row_at (n t : ℕ) {tm y : ℕ} (hy : y < tm) : (t * tm + y) / (n * tm) = t / n ∧ (t * tm + y) % (n * tm) = t % n * tm + y := by
  have ht : 0 < tm := by omega
  have h1 : (t * tm + y) / tm = t := by rw [Nat.mul_comm, Nat.mul_add_div ht, Nat.div_eq_of_lt hy, Nat.add_zero]
  have h2 : (t * tm + y) % tm = y := by rw [Nat.mul_comm, Nat.mul_add_mod, Nat.mod_eq_of_lt hy]
  refine ⟨by rw [Nat.mul_comm n, ← Nat.div_div_eq_div_mul, h1], ?_⟩
  rw [Nat.mul_comm n, Nat.mod_mul, h1, h2, Nat.mul_comm tm]
  omega

section Halves
variable {H C : ℕ} (own sib : (⟨2, ![H, C]⟩ : Shape).Idx → EReal)

/-- The gradient on core `k`: the half of the rows with the core's number is its own, the other its sibling's. -/
def grad (k r j : ℕ) : EReal := if r / H = k then entry own (r % H) j else entry sib (r % H) j

/-- Two halves, one above the other. -/
theorem stacked {T : ℕ} (hT : T = H + H) (h : Shape.Concatenates [⟨2, ![H, C]⟩, ⟨2, ![H, C]⟩] (⟨2, ![T, C]⟩ : Shape) 0)
    (r : Fin T) (j : Fin C) : concatenate (⟨2, ![T, C]⟩ : Shape) 0 [⟨⟨2, ![H, C]⟩, own⟩, ⟨⟨2, ![H, C]⟩, sib⟩] h (ix2 r j)
      = grad own sib 0 r.val j.val := by
  have hr := r.isLt
  unfold grad
  by_cases hlt : r.val < H
  · rw [Nat.div_eq_of_lt hlt, if_pos rfl, Nat.mod_eq_of_lt hlt, concatenate_pair_apply_left 0 own sib h (ix2 r j) rfl (ix2 ⟨r.val, hlt⟩ j)
      (fun b => by match b with | 0 => rfl | 1 => rfl)]
    exact entry_val own ⟨r.val, hlt⟩ j
  · have hd : r.val / H = 1 := Nat.div_eq_of_lt_le (by omega) (by omega)
    have hm : r.val % H = r.val - H := by rw [Nat.mod_eq_sub_mod (by omega), Nat.mod_eq_of_lt (by omega)]
    rw [hd, if_neg (by decide), hm, concatenate_pair_apply_right 0 own sib h (ix2 r j) rfl rfl (ix2 ⟨r.val - H, by omega⟩ j)
      (fun b hb => by match b with | 0 => exact absurd rfl hb | 1 => rfl) (by show r.val - H + H = r.val; omega)]
    exact entry_val sib ⟨r.val - H, by omega⟩ j

/-- The lower core's halves lie the other way round. -/
theorem grad_swap (k : ℕ) (hk : k < 2) {r : ℕ} (hr : r < H + H) (j : ℕ) :
    (if k = 0 then grad own sib 0 r j else grad sib own 0 r j) = grad own sib k r j := by
  have hd : r / H < 2 := Nat.div_lt_of_lt_mul (by omega)
  unfold grad
  rcases (by omega : k = 0 ∨ k = 1) with rfl | rfl
  · rfl
  · rcases (by generalize r / H = q at hd; omega : r / H = 0 ∨ r / H = 1) with h | h <;> simp [h]

/-- The gradient as an array, and as a tile of `tm` rows. -/
abbrev whole (T : ℕ) (k : ℕ) : (⟨2, ![T, C]⟩ : Shape).Idx → EReal := fun i => grad own sib k (i 0).val (i 1).val
abbrev rows (tm : ℕ) (k t : ℕ) : (⟨2, ![tm, C]⟩ : Shape).Idx → EReal := fun y => grad own sib k (t * tm + (y 0).val) (y 1).val

theorem rows_eq {T tm k t : ℕ} {o : Fin 2 → ℕ} (ho : o = ![t, 0]) (y : (⟨2, ![tm, C]⟩ : Shape).Idx) (i : (⟨2, ![T, C]⟩ : Shape).Idx)
    (h0 : (i 0).val = o 0 * tm + 1 * (y 0).val) (h1 : (i 1).val = o 1 * C + 1 * (y 1).val) : rows own sib tm k t y = whole own sib T k i := by
  subst ho
  exact congrArg₂ (grad own sib k) (by rw [h0]; show _ = t * tm + 1 * (y 0).val; omega) (by rw [h1]; show _ = 0 * C + 1 * (y 1).val; omega)

/-- Tile `t` of the core's own half, and of its sibling's; either half has `n` tiles, and the other's window stays at its first. -/
theorem own_rows {tm n k t : ℕ} (hH : H = n * tm) {o : Fin 2 → ℕ} (ho : o = ![if t / n = k then t % n else 0, 0]) (hk : t / n = k)
    (y : (⟨2, ![tm, C]⟩ : Shape).Idx) (i : (⟨2, ![H, C]⟩ : Shape).Idx)
    (h0 : (i 0).val = o 0 * tm + 1 * (y 0).val) (h1 : (i 1).val = o 1 * C + 1 * (y 1).val) : own i = rows own sib tm k t y := by
  subst ho hH
  obtain ⟨hd, hm⟩ := row_at n t (tm := tm) (y := (y 0).val) (y 0).isLt
  show _ = grad own sib k _ _
  unfold grad
  rw [hd, hm, if_pos hk]
  refine entry_idx own i (h0.trans ?_) (h1.trans ?_)
  · show (if t / n = k then t % n else 0) * tm + 1 * (y 0).val = _; rw [if_pos hk]; omega
  · show 0 * C + 1 * (y 1).val = _; omega

theorem sib_rows {tm n k t : ℕ} (hH : H = n * tm) {o : Fin 2 → ℕ} (ho : o = ![if t / n = k then 0 else t % n, 0]) (hk : ¬t / n = k)
    (y : (⟨2, ![tm, C]⟩ : Shape).Idx) (i : (⟨2, ![H, C]⟩ : Shape).Idx)
    (h0 : (i 0).val = o 0 * tm + 1 * (y 0).val) (h1 : (i 1).val = o 1 * C + 1 * (y 1).val) : sib i = rows own sib tm k t y := by
  subst ho hH
  obtain ⟨hd, hm⟩ := row_at n t (tm := tm) (y := (y 0).val) (y 0).isLt
  show _ = grad own sib k _ _
  unfold grad
  rw [hd, hm, if_neg hk]
  refine entry_idx sib i (h0.trans ?_) (h1.trans ?_)
  · show (if t / n = k then 0 else t % n) * tm + 1 * (y 0).val = _; rw [if_neg hk]; omega
  · show 0 * C + 1 * (y 1).val = _; omega

end Halves

/-- The two words that name core `n / 4` of chip `n % 4`. -/
def words (n : ℕ) (x : (⟨1, ![2]⟩ : Shape).Idx) : BitVec 32 :=
  IntOp.addi (IntOp.muli (IntOp.subi 1#32 (BitVec.ofNat 32 (x 0).val)) (IntOp.divsi .host (BitVec.ofNat 32 n) 4#32))
    (IntOp.muli (BitVec.ofNat 32 (x 0).val)
      (IntOp.subi (BitVec.ofNat 32 n) (IntOp.muli 4#32 (IntOp.divsi .host (BitVec.ofNat 32 n) 4#32))))

/-- Where the two words stand. -/
def coreAt : (⟨1, ![2]⟩ : Shape).Idx := fun a => ⟨0, by fin_cases a; decide⟩
def chipAt : (⟨1, ![2]⟩ : Shape).Idx := fun a => ⟨1, by fin_cases a; decide⟩

theorem at_of (x : (⟨1, ![2]⟩ : Shape).Idx) : ((x 0).val = 0 → x = coreAt) ∧ ((x 0).val = 1 → x = chipAt) :=
  ⟨fun h => funext fun a => by obtain rfl : a = 0 := Subsingleton.elim _ _; exact Fin.ext h,
    fun h => funext fun a => by obtain rfl : a = 0 := Subsingleton.elim _ _; exact Fin.ext h⟩

/-- Two words in the mesh's bounds are some core's. -/
theorem words_of (P : (⟨1, ![2]⟩ : Shape).Idx → BitVec 32) (h0 : (0#32).sle (P coreAt) = true) (h1 : (P coreAt).slt 2#32 = true)
    (h2 : (0#32).sle (P chipAt) = true) (h3 : (P chipAt).slt 4#32 = true) : ∃ n : Fin 8, P = words n.val := by
  have e0 : (P coreAt).toNat < 2 := by simp only [BitVec.sle, BitVec.slt, decide_eq_true_eq, BitVec.toInt, BitVec.toNat_ofNat] at h0 h1; omega
  have e1 : (P chipAt).toNat < 4 := by simp only [BitVec.sle, BitVec.slt, decide_eq_true_eq, BitVec.toInt, BitVec.toNat_ofNat] at h2 h3; omega
  have all : ∀ (a : Fin 2) (b : Fin 4), words (a.val * 4 + b.val) coreAt = BitVec.ofNat 32 a.val
      ∧ words (a.val * 4 + b.val) chipAt = BitVec.ofNat 32 b.val := by decide
  obtain ⟨w0, w1⟩ := all ⟨_, e0⟩ ⟨_, e1⟩
  refine ⟨⟨(P coreAt).toNat * 4 + (P chipAt).toNat, by omega⟩, funext fun x => ?_⟩
  have hx : x = coreAt ∨ x = chipAt := by
    rcases (by have := (x 0).isLt; change (x 0).val < 2 at this; omega : (x 0).val = 0 ∨ (x 0).val = 1) with h | h
    · exact .inl ((at_of x).1 h)
    · exact .inr ((at_of x).2 h)
  rcases hx with rfl | rfl
  · rw [w0]; show _ = BitVec.ofNat 32 (P coreAt).toNat; rw [BitVec.ofNat_toNat, BitVec.setWidth_eq]
  · rw [w1]; show _ = BitVec.ofNat 32 (P chipAt).toNat; rw [BitVec.ofNat_toNat, BitVec.setWidth_eq]

/-- The first word is zero on the lower cores alone. -/
theorem first_word : ∀ n : Fin 8, IntOp.cmpi .eq (words n.val coreAt) 0#32 = BitVec.ofBool (n.val / 4 = 0) := by decide

/-- A word read as a number of its own. -/
theorem word_at (P : (⟨1, ![2]⟩ : Shape).Idx → BitVec 32) (k : Fin 2) (h : (⟨1, ![2]⟩ : Shape).Slices ![k.val] (⟨1, ![1]⟩ : Shape))
    (h' : (⟨1, ![1]⟩ : Shape).ShapeCasts (⟨0, ![]⟩ : Shape)) (i : (⟨0, ![]⟩ : Shape).Idx) :
    shapeCast (⟨0, ![]⟩ : Shape) (extractStridedSlice (⟨1, ![1]⟩ : Shape) ![k.val] P h) h' i = P (if k = 0 then coreAt else chipAt) := by
  refine congrArg P ?_
  have hx : (Shape.reshapeEquiv h' i 0).val < 1 := (Shape.reshapeEquiv h' i 0).isLt
  match k with
  | 0 => exact (at_of _).1 (by show 0 + (Shape.reshapeEquiv h' i 0).val = 0; omega)
  | 1 => exact (at_of _).2 (by show 1 + (Shape.reshapeEquiv h' i 0).val = 1; omega)

/-- Two words of which the mesh's bounds hold are some core's. -/
theorem words_of_mask (P : (⟨1, ![2]⟩ : Shape).Idx → BitVec 32) (h0 : (⟨1, ![2]⟩ : Shape).Slices ![0] (⟨1, ![1]⟩ : Shape))
    (h1 : (⟨1, ![2]⟩ : Shape).Slices ![1] (⟨1, ![1]⟩ : Shape)) (h' : (⟨1, ![1]⟩ : Shape).ShapeCasts (⟨0, ![]⟩ : Shape))
    (h : andi (andi (andi (cmpi .sge (shapeCast (⟨0, ![]⟩ : Shape) (extractStridedSlice (⟨1, ![1]⟩ : Shape) ![0] P h0) h') (constantI _ 32 0#32))
      (cmpi .slt (shapeCast (⟨0, ![]⟩ : Shape) (extractStridedSlice (⟨1, ![1]⟩ : Shape) ![0] P h0) h') (constantI _ 32 2#32)))
      (cmpi .sge (shapeCast (⟨0, ![]⟩ : Shape) (extractStridedSlice (⟨1, ![1]⟩ : Shape) ![1] P h1) h') (constantI _ 32 0#32)))
      (cmpi .slt (shapeCast (⟨0, ![]⟩ : Shape) (extractStridedSlice (⟨1, ![1]⟩ : Shape) ![1] P h1) h') (constantI _ 32 4#32)) = fun _ => 1#1) :
    ∃ n : Fin 8, P = words n.val := by
  have both : ∀ x y : BitVec 1, IntOp.andi x y = 1#1 → x = 1#1 ∧ y = 1#1 := by decide
  have one : ∀ b : Bool, BitVec.ofBool b = 1#1 → b = true := by decide
  have e := congrFun h (fun a => a.elim0)
  obtain ⟨e, b3⟩ := both _ _ e
  obtain ⟨e, b2⟩ := both _ _ e
  obtain ⟨b0, b1⟩ := both _ _ e
  have w0 := word_at P 0 h0 h' (fun a => a.elim0)
  have w1 := word_at P 1 h1 h' (fun a => a.elim0)
  have c0 := one _ b0
  have c1 := one _ b1
  have c2 := one _ b2
  have c3 := one _ b3
  exact words_of P (w0 ▸ c0) (w0 ▸ c1) (w1 ▸ c2) (w1 ▸ c3)

/-- On one device, what holds of the first holds of all. -/
theorem every {p : Fin 1 → Prop} (h : p 0) (c : Fin 1) : p c := Subsingleton.elim 0 c ▸ h

/-- The gradient as a choice of one of two stacks, by the first word. -/
theorem chosen {H C T : ℕ} (own sib : (⟨2, ![H, C]⟩ : Shape).Idx → EReal) (hT : T = H + H) (n : Fin 8)
    (h h2 : Shape.Concatenates [⟨2, ![H, C]⟩, ⟨2, ![H, C]⟩] (⟨2, ![T, C]⟩ : Shape) 0) (h0 : (⟨1, ![2]⟩ : Shape).Slices ![0] (⟨1, ![1]⟩ : Shape))
    (h' : (⟨1, ![1]⟩ : Shape).ShapeCasts (⟨0, ![]⟩ : Shape)) (hb : (⟨0, ![]⟩ : Shape).BroadcastsInDim (⟨2, ![T, C]⟩ : Shape) (![] : Fin 0 → Fin 2)) :
    select (broadcastInDim (⟨2, ![T, C]⟩ : Shape) ![] hb (cmpi .eq (shapeCast (⟨0, ![]⟩ : Shape) (extractStridedSlice (⟨1, ![1]⟩ : Shape) ![0] (words n.val) h0) h') (constantI _ 32 0#32)))
      (concatenate (⟨2, ![T, C]⟩ : Shape) 0 [⟨⟨2, ![H, C]⟩, own⟩, ⟨⟨2, ![H, C]⟩, sib⟩] h)
      (concatenate (⟨2, ![T, C]⟩ : Shape) 0 [⟨⟨2, ![H, C]⟩, sib⟩, ⟨⟨2, ![H, C]⟩, own⟩] h2)
    = fun i => grad own sib (n.val / 4) (i 0).val (i 1).val := by
  funext i
  obtain ⟨r, j, rfl⟩ : ∃ r j, i = ix2 r j := ⟨_, _, eq_ix2 i⟩
  refine Eq.trans ?_ (grad_swap own sib (n.val / 4) (by omega) (r := r.val) (hT ▸ r.isLt) j.val)
  rw [← stacked own sib hT h r j, ← stacked sib own hT h2 r j]
  have hw : broadcastInDim (⟨2, ![T, C]⟩ : Shape) ![] hb (cmpi .eq (shapeCast (⟨0, ![]⟩ : Shape) (extractStridedSlice (⟨1, ![1]⟩ : Shape) ![0] (words n.val) h0) h') (constantI _ 32 0#32)) (ix2 r j)
      = BitVec.ofBool (n.val / 4 = 0) :=
    (congrArg (fun x => IntOp.cmpi .eq x 0#32) (word_at (words n.val) 0 h0 h' _)).trans (first_word n)
  show (if _ = 1#1 then _ else _) = _
  rw [hw]
  by_cases hn : n.val / 4 = 0 <;> simp [hn]

end Cert.Adamw

end
-- ==== Proof.AdamwInValue.lean ====
/-
  The optimiser's call for `w_in`: each of four tiles of 256 rows takes its gradient from the half its core holds or from
  its sibling's, and steps its weights and moments with it.
-/
module

public import proofs.«01_k».proof.Defs
public import proofs.«01_k».proof.Proof.Adamw
public import proofs.«01_k».proof.Proof.Gen.AdamwInIdeal.Flash
public import proofs.«01_k».proof.Proof.Gen.AdamwInRefIdeal.Run
public import proofs.«01_k».proof.Proof.Gen.Pre_on_the_mesh_in

@[expose] public section

noncomputable section

namespace Cert.AdamwInIdeal.Value

open Cert.AdamwInIdeal Cert.AdamwInIdeal.Gen Cert.Adamw
open Idealize.ShloMosaic Idealize.ShloMosaic.TcCoe Idealize.SL.Sem

variable (ch : Fin 8) (m : (ℓ : Loc nD τ sig) → Buf (Elt Ideal) ℓ) (ρ : Dev nD → PrngReg) (c : Dev nD)

/-- Which half a tile's rows lie in, and where its windows' blocks lie. -/
theorem places : ∀ (ch : Fin 8) (t : Fin (cfgA ch).N), (P0_0 ch t ↔ t.val / 2 = ch.val / 4)
    ∧ cc0_transform_0 (crd ch t) = ![t.val, 0]
    ∧ cc0_transform_3 inb_S2_S1_0 numel1_S1 (pfN ch) (crd ch t) = ![if t.val / 2 = ch.val / 4 then t.val % 2 else 0, 0]
    ∧ cc0_transform_4 inb_S2_S1_0 numel1_S1 (pfN ch) (crd ch t) = ![if t.val / 2 = ch.val / 4 then 0 else t.val % 2, 0] := by
  decide +kernel

abbrev W := m ((c : Thread nD τ).loc main_arg0)
abbrev M := m ((c : Thread nD τ).loc main_arg1)
abbrev V := m ((c : Thread nD τ).loc main_arg2)
abbrev own := m ((c : Thread nD τ).loc main_arg3)
abbrev sib := m ((c : Thread nD τ).loc main_arg4)
abbrev G : S1024x1152.Idx → EReal := whole (own m c) (sib m c) 1024 (ch.val / 4)

/-- Every output's tiles cover it. -/
theorem covers : ∀ ch : Fin 8, ((cfgA ch).win 5).Covers ∧ ((cfgA ch).win 6).Covers ∧ ((cfgA ch).win 7).Covers ∧ ((cfgA ch).win 8).Covers := by
  decide +kernel

/-- What a tile leaves is its rows' step. -/
theorem tile_eq (t : Fin (cfgA ch).N) : traj0 ch m ρ c t.val t.isLt
    = tile (rows (own m c) (sib m c) 256 (ch.val / 4) t.val) (iblk ch m ρ c 0 t) (iblk ch m ρ c 1 t) (iblk ch m ρ c 2 t) := by
  obtain ⟨hp, -, e3, e4⟩ := places ch t
  rw [traj0_eq]
  by_cases h : P0_0 ch t
  · have e : iblk ch m ρ c 3 t = _ := funext fun y => own_rows (own m c) (sib m c) rfl e3 (hp.mp h) y _ rfl rfl
    rw [step0_A ch m ρ c t _ h, ← e]
    refine quad ?_ ?_ ?_ ?_ <;> frame_out <;> simp only [View.read_rep] <;> rfl
  · have e : iblk ch m ρ c 4 t = _ := funext fun y => sib_rows (own m c) (sib m c) rfl e4 (mt hp.mpr h) y _ rfl rfl
    rw [step0_B ch m ρ c t _ h, ← e]
    refine quad ?_ ?_ ?_ ?_ <;> frame_out <;> simp only [View.read_rep] <;> rfl

/-- The results after the run. -/
theorem finals : (dats ch m ρ 0 c).arrAt 5 (cfgA ch).N = G ch m c
    ∧ (dats ch m ρ 0 c).arrAt 6 (cfgA ch).N = deltas (W m c) (M m c) (V m c) (G ch m c)
    ∧ (dats ch m ρ 0 c).arrAt 7 (cfgA ch).N = newMs (M m c) (G ch m c)
    ∧ (dats ch m ρ 0 c).arrAt 8 (cfgA ch).N = newVs (V m c) (G ch m c) := by
  have cut (t : Fin (cfgA ch).N) (y : S256x1152.Idx) (i : S1024x1152.Idx) := rows_eq (own m c) (sib m c) (k := ch.val / 4) (places ch t).2.1 y i
  obtain ⟨c5, c6, c7, c8⟩ := covers ch
  refine ⟨(dats ch m ρ 0 c).arrAt_eq_of_covers 5 _ c5 fun t _ y => ?_, (dats ch m ρ 0 c).arrAt_eq_of_covers 6 _ c6 fun t _ y => ?_,
    (dats ch m ρ 0 c).arrAt_eq_of_covers 7 _ c7 fun t _ y => ?_, (dats ch m ρ 0 c).arrAt_eq_of_covers 8 _ c8 fun t _ y => ?_⟩
  · rw [after0_5, tile_eq]; exact cut t y _ rfl rfl
  · rw [after0_6, tile_eq]; exact congrArg (delta _ _ _) (cut t y _ rfl rfl)
  · rw [after0_7, tile_eq]; exact congrArg (newM _) (cut t y _ rfl rfl)
  · rw [after0_8, tile_eq]; exact congrArg (newV _) (cut t y _ rfl rfl)

omit ch ρ c in
/-- The precondition says which core and chip. -/
theorem pinned_of_pre (h : Pre_AdamwInIdeal m) : ∃ ch, Pinned ch m :=
  (words_of_mask _ _ _ _ (h 0)).imp fun ch e => every e

omit ch ρ c m in
/-- The kernel's results are the reference's. -/
theorem algebraic : Cert.algebraic_AdamwInIdeal_AdamwInRefIdeal := by
  intro m g m' g' hP hm
  obtain ⟨ch, hp⟩ := pinned_of_pre m hP
  refine ⟨fun c => G ch m c, fun c => deltas (W m c) (M m c) (V m c) (G ch m c), fun c => newMs (M m c) (G ch m c), fun c => newVs (V m c) (G ch m c),
    (θ_run _ _ _).mono (fun r h c => ⟨((h c).1 5).trans (finals ch m g c).1, ((h c).1 6).trans (finals ch m g c).2.1,
      ((h c).1 7).trans (finals ch m g c).2.2.1, ((h c).1 8).trans (finals ch m g c).2.2.2,
      ((h c).1 0).trans ((dats ch m g 0 c).arrAt_in 0 rfl _), ((h c).1 1).trans ((dats ch m g 0 c).arrAt_in 1 rfl _),
      ((h c).1 2).trans ((dats ch m g 0 c).arrAt_in 2 rfl _), ((h c).1 3).trans ((dats ch m g 0 c).arrAt_in 3 rfl _),
      ((h c).1 4).trans ((dats ch m g 0 c).arrAt_in 4 rfl _), ((h c).2 0).trans (hp c).symm⟩) (run_main ch m g hp),
    (θ_run _ _ _).mono (fun r h c => ⟨(h c).1.trans ?_, (h c).2.1.trans ?_, (h c).2.2.1.trans ?_, (h c).2.2.2.1.trans ?_, (h c).2.2.2.2⟩)
      (Cert.AdamwInRefIdeal.Value.run m' g')⟩
  all_goals
    have hc : m ((c : Thread nD τ).loc main_arg5) = words ch.val := hp c
    obtain ⟨h0, h1, h2, h3, h4, h5⟩ := hm c
    simp only [h0, h1, h2, h3, h4, h5, hc]
    rw [chosen (H := 512) (C := 1152) (T := 1024) _ _ rfl]
    simp only [h3, h4] <;> rfl

end Cert.AdamwInIdeal.Value

end
-- ==== Proof.AdamwUpValue.lean ====
/-
  The optimiser's call for `w_up`: each of four tiles of 256 rows takes its gradient from the half its core holds or from
  its sibling's, and steps its weights and moments with it.
-/
module

public import proofs.«01_k».proof.Defs
public import proofs.«01_k».proof.Proof.Adamw
public import proofs.«01_k».proof.Proof.Gen.AdamwUpIdeal.Flash
public import proofs.«01_k».proof.Proof.Gen.AdamwUpRefIdeal.Run
public import proofs.«01_k».proof.Proof.Gen.Pre_on_the_mesh_up

@[expose] public section

noncomputable section

namespace Cert.AdamwUpIdeal.Value

open Cert.AdamwUpIdeal Cert.AdamwUpIdeal.Gen Cert.Adamw
open Idealize.ShloMosaic Idealize.ShloMosaic.TcCoe Idealize.SL.Sem

variable (ch : Fin 8) (m : (ℓ : Loc nD τ sig) → Buf (Elt Ideal) ℓ) (ρ : Dev nD → PrngReg) (c : Dev nD)

/-- Which half a tile's rows lie in, and where its windows' blocks lie. -/
theorem places : ∀ (ch : Fin 8) (t : Fin (cfgA ch).N), (P0_0 ch t ↔ t.val / 2 = ch.val / 4)
    ∧ cc0_transform_0 (crd ch t) = ![t.val, 0]
    ∧ cc0_transform_3 inb_S2_S1_0 numel1_S1 (pfN ch) (crd ch t) = ![if t.val / 2 = ch.val / 4 then t.val % 2 else 0, 0]
    ∧ cc0_transform_4 inb_S2_S1_0 numel1_S1 (pfN ch) (crd ch t) = ![if t.val / 2 = ch.val / 4 then 0 else t.val % 2, 0] := by
  decide +kernel

abbrev W := m ((c : Thread nD τ).loc main_arg0)
abbrev M := m ((c : Thread nD τ).loc main_arg1)
abbrev V := m ((c : Thread nD τ).loc main_arg2)
abbrev own := m ((c : Thread nD τ).loc main_arg3)
abbrev sib := m ((c : Thread nD τ).loc main_arg4)
abbrev G : S1024x1408.Idx → EReal := whole (own m c) (sib m c) 1024 (ch.val / 4)

/-- Every output's tiles cover it. -/
theorem covers : ∀ ch : Fin 8, ((cfgA ch).win 5).Covers ∧ ((cfgA ch).win 6).Covers ∧ ((cfgA ch).win 7).Covers ∧ ((cfgA ch).win 8).Covers := by
  decide +kernel

/-- What a tile leaves is its rows' step. -/
theorem tile_eq (t : Fin (cfgA ch).N) : traj0 ch m ρ c t.val t.isLt
    = tile (rows (own m c) (sib m c) 256 (ch.val / 4) t.val) (iblk ch m ρ c 0 t) (iblk ch m ρ c 1 t) (iblk ch m ρ c 2 t) := by
  obtain ⟨hp, -, e3, e4⟩ := places ch t
  rw [traj0_eq]
  by_cases h : P0_0 ch t
  · have e : iblk ch m ρ c 3 t = _ := funext fun y => own_rows (own m c) (sib m c) rfl e3 (hp.mp h) y _ rfl rfl
    rw [step0_A ch m ρ c t _ h, ← e]
    refine quad ?_ ?_ ?_ ?_ <;> frame_out <;> simp only [View.read_rep] <;> rfl
  · have e : iblk ch m ρ c 4 t = _ := funext fun y => sib_rows (own m c) (sib m c) rfl e4 (mt hp.mpr h) y _ rfl rfl
    rw [step0_B ch m ρ c t _ h, ← e]
    refine quad ?_ ?_ ?_ ?_ <;> frame_out <;> simp only [View.read_rep] <;> rfl

/-- The results after the run. -/
theorem finals : (dats ch m ρ 0 c).arrAt 5 (cfgA ch).N = G ch m c
    ∧ (dats ch m ρ 0 c).arrAt 6 (cfgA ch).N = deltas (W m c) (M m c) (V m c) (G ch m c)
    ∧ (dats ch m ρ 0 c).arrAt 7 (cfgA ch).N = newMs (M m c) (G ch m c)
    ∧ (dats ch m ρ 0 c).arrAt 8 (cfgA ch).N = newVs (V m c) (G ch m c) := by
  have cut (t : Fin (cfgA ch).N) (y : S256x1408.Idx) (i : S1024x1408.Idx) := rows_eq (own m c) (sib m c) (k := ch.val / 4) (places ch t).2.1 y i
  obtain ⟨c5, c6, c7, c8⟩ := covers ch
  refine ⟨(dats ch m ρ 0 c).arrAt_eq_of_covers 5 _ c5 fun t _ y => ?_, (dats ch m ρ 0 c).arrAt_eq_of_covers 6 _ c6 fun t _ y => ?_,
    (dats ch m ρ 0 c).arrAt_eq_of_covers 7 _ c7 fun t _ y => ?_, (dats ch m ρ 0 c).arrAt_eq_of_covers 8 _ c8 fun t _ y => ?_⟩
  · rw [after0_5, tile_eq]; exact cut t y _ rfl rfl
  · rw [after0_6, tile_eq]; exact congrArg (delta _ _ _) (cut t y _ rfl rfl)
  · rw [after0_7, tile_eq]; exact congrArg (newM _) (cut t y _ rfl rfl)
  · rw [after0_8, tile_eq]; exact congrArg (newV _) (cut t y _ rfl rfl)

omit ch ρ c in
/-- The precondition says which core and chip. -/
theorem pinned_of_pre (h : Pre_AdamwUpIdeal m) : ∃ ch, Pinned ch m :=
  (words_of_mask _ _ _ _ (h 0)).imp fun ch e => every e

omit ch ρ c m in
/-- The kernel's results are the reference's. -/
theorem algebraic : Cert.algebraic_AdamwUpIdeal_AdamwUpRefIdeal := by
  intro m g m' g' hP hm
  obtain ⟨ch, hp⟩ := pinned_of_pre m hP
  refine ⟨fun c => G ch m c, fun c => deltas (W m c) (M m c) (V m c) (G ch m c), fun c => newMs (M m c) (G ch m c), fun c => newVs (V m c) (G ch m c),
    (θ_run _ _ _).mono (fun r h c => ⟨((h c).1 5).trans (finals ch m g c).1, ((h c).1 6).trans (finals ch m g c).2.1,
      ((h c).1 7).trans (finals ch m g c).2.2.1, ((h c).1 8).trans (finals ch m g c).2.2.2,
      ((h c).1 0).trans ((dats ch m g 0 c).arrAt_in 0 rfl _), ((h c).1 1).trans ((dats ch m g 0 c).arrAt_in 1 rfl _),
      ((h c).1 2).trans ((dats ch m g 0 c).arrAt_in 2 rfl _), ((h c).1 3).trans ((dats ch m g 0 c).arrAt_in 3 rfl _),
      ((h c).1 4).trans ((dats ch m g 0 c).arrAt_in 4 rfl _), ((h c).2 0).trans (hp c).symm⟩) (run_main ch m g hp),
    (θ_run _ _ _).mono (fun r h c => ⟨(h c).1.trans ?_, (h c).2.1.trans ?_, (h c).2.2.1.trans ?_, (h c).2.2.2.1.trans ?_, (h c).2.2.2.2⟩)
      (Cert.AdamwUpRefIdeal.Value.run m' g')⟩
  all_goals
    have hc : m ((c : Thread nD τ).loc main_arg5) = words ch.val := hp c
    obtain ⟨h0, h1, h2, h3, h4, h5⟩ := hm c
    simp only [h0, h1, h2, h3, h4, h5, hc]
    rw [chosen (H := 512) (C := 1408) (T := 1024) _ _ rfl]
    simp only [h3, h4] <;> rfl

end Cert.AdamwUpIdeal.Value

end
-- ==== Proof.AdamwDownValue.lean ====
/-
  The optimiser's call for `w_down`: each of four tiles of 176 rows takes its gradient from the half its core holds or from
  its sibling's, and steps its weights and moments with it.
-/
module

public import proofs.«01_k».proof.Defs
public import proofs.«01_k».proof.Proof.Adamw
public import proofs.«01_k».proof.Proof.Gen.AdamwDownIdeal.Flash
public import proofs.«01_k».proof.Proof.Gen.AdamwDownRefIdeal.Run
public import proofs.«01_k».proof.Proof.Gen.Pre_on_the_mesh_down

@[expose] public section

noncomputable section

namespace Cert.AdamwDownIdeal.Value

open Cert.AdamwDownIdeal Cert.AdamwDownIdeal.Gen Cert.Adamw
open Idealize.ShloMosaic Idealize.ShloMosaic.TcCoe Idealize.SL.Sem

variable (ch : Fin 8) (m : (ℓ : Loc nD τ sig) → Buf (Elt Ideal) ℓ) (ρ : Dev nD → PrngReg) (c : Dev nD)

/-- Which half a tile's rows lie in, and where its windows' blocks lie. -/
theorem places : ∀ (ch : Fin 8) (t : Fin (cfgA ch).N), (P0_0 ch t ↔ t.val / 2 = ch.val / 4)
    ∧ cc0_transform_0 (crd ch t) = ![t.val, 0]
    ∧ cc0_transform_3 inb_S2_S1_0 numel1_S1 (pfN ch) (crd ch t) = ![if t.val / 2 = ch.val / 4 then t.val % 2 else 0, 0]
    ∧ cc0_transform_4 inb_S2_S1_0 numel1_S1 (pfN ch) (crd ch t) = ![if t.val / 2 = ch.val / 4 then 0 else t.val % 2, 0] := by
  decide +kernel

abbrev W := m ((c : Thread nD τ).loc main_arg0)
abbrev M := m ((c : Thread nD τ).loc main_arg1)
abbrev V := m ((c : Thread nD τ).loc main_arg2)
abbrev own := m ((c : Thread nD τ).loc main_arg3)
abbrev sib := m ((c : Thread nD τ).loc main_arg4)
abbrev G : S704x1024.Idx → EReal := whole (own m c) (sib m c) 704 (ch.val / 4)

/-- Every output's tiles cover it. -/
theorem covers : ∀ ch : Fin 8, ((cfgA ch).win 5).Covers ∧ ((cfgA ch).win 6).Covers ∧ ((cfgA ch).win 7).Covers ∧ ((cfgA ch).win 8).Covers := by
  decide +kernel

/-- What a tile leaves is its rows' step. -/
theorem tile_eq (t : Fin (cfgA ch).N) : traj0 ch m ρ c t.val t.isLt
    = tile (rows (own m c) (sib m c) 176 (ch.val / 4) t.val) (iblk ch m ρ c 0 t) (iblk ch m ρ c 1 t) (iblk ch m ρ c 2 t) := by
  obtain ⟨hp, -, e3, e4⟩ := places ch t
  rw [traj0_eq]
  by_cases h : P0_0 ch t
  · have e : iblk ch m ρ c 3 t = _ := funext fun y => own_rows (own m c) (sib m c) rfl e3 (hp.mp h) y _ rfl rfl
    rw [step0_A ch m ρ c t _ h, ← e]
    refine quad ?_ ?_ ?_ ?_ <;> frame_out <;> simp only [View.read_rep] <;> rfl
  · have e : iblk ch m ρ c 4 t = _ := funext fun y => sib_rows (own m c) (sib m c) rfl e4 (mt hp.mpr h) y _ rfl rfl
    rw [step0_B ch m ρ c t _ h, ← e]
    refine quad ?_ ?_ ?_ ?_ <;> frame_out <;> simp only [View.read_rep] <;> rfl

/-- The results after the run. -/
theorem finals : (dats ch m ρ 0 c).arrAt 5 (cfgA ch).N = G ch m c
    ∧ (dats ch m ρ 0 c).arrAt 6 (cfgA ch).N = deltas (W m c) (M m c) (V m c) (G ch m c)
    ∧ (dats ch m ρ 0 c).arrAt 7 (cfgA ch).N = newMs (M m c) (G ch m c)
    ∧ (dats ch m ρ 0 c).arrAt 8 (cfgA ch).N = newVs (V m c) (G ch m c) := by
  have cut (t : Fin (cfgA ch).N) (y : S176x1024.Idx) (i : S704x1024.Idx) := rows_eq (own m c) (sib m c) (k := ch.val / 4) (places ch t).2.1 y i
  obtain ⟨c5, c6, c7, c8⟩ := covers ch
  refine ⟨(dats ch m ρ 0 c).arrAt_eq_of_covers 5 _ c5 fun t _ y => ?_, (dats ch m ρ 0 c).arrAt_eq_of_covers 6 _ c6 fun t _ y => ?_,
    (dats ch m ρ 0 c).arrAt_eq_of_covers 7 _ c7 fun t _ y => ?_, (dats ch m ρ 0 c).arrAt_eq_of_covers 8 _ c8 fun t _ y => ?_⟩
  · rw [after0_5, tile_eq]; exact cut t y _ rfl rfl
  · rw [after0_6, tile_eq]; exact congrArg (delta _ _ _) (cut t y _ rfl rfl)
  · rw [after0_7, tile_eq]; exact congrArg (newM _) (cut t y _ rfl rfl)
  · rw [after0_8, tile_eq]; exact congrArg (newV _) (cut t y _ rfl rfl)

omit ch ρ c in
/-- The precondition says which core and chip. -/
theorem pinned_of_pre (h : Pre_AdamwDownIdeal m) : ∃ ch, Pinned ch m :=
  (words_of_mask _ _ _ _ (h 0)).imp fun ch e => every e

omit ch ρ c m in
/-- The kernel's results are the reference's. -/
theorem algebraic : Cert.algebraic_AdamwDownIdeal_AdamwDownRefIdeal := by
  intro m g m' g' hP hm
  obtain ⟨ch, hp⟩ := pinned_of_pre m hP
  refine ⟨fun c => G ch m c, fun c => deltas (W m c) (M m c) (V m c) (G ch m c), fun c => newMs (M m c) (G ch m c), fun c => newVs (V m c) (G ch m c),
    (θ_run _ _ _).mono (fun r h c => ⟨((h c).1 5).trans (finals ch m g c).1, ((h c).1 6).trans (finals ch m g c).2.1,
      ((h c).1 7).trans (finals ch m g c).2.2.1, ((h c).1 8).trans (finals ch m g c).2.2.2,
      ((h c).1 0).trans ((dats ch m g 0 c).arrAt_in 0 rfl _), ((h c).1 1).trans ((dats ch m g 0 c).arrAt_in 1 rfl _),
      ((h c).1 2).trans ((dats ch m g 0 c).arrAt_in 2 rfl _), ((h c).1 3).trans ((dats ch m g 0 c).arrAt_in 3 rfl _),
      ((h c).1 4).trans ((dats ch m g 0 c).arrAt_in 4 rfl _), ((h c).2 0).trans (hp c).symm⟩) (run_main ch m g hp),
    (θ_run _ _ _).mono (fun r h c => ⟨(h c).1.trans ?_, (h c).2.1.trans ?_, (h c).2.2.1.trans ?_, (h c).2.2.2.1.trans ?_, (h c).2.2.2.2⟩)
      (Cert.AdamwDownRefIdeal.Value.run m' g')⟩
  all_goals
    have hc : m ((c : Thread nD τ).loc main_arg5) = words ch.val := hp c
    obtain ⟨h0, h1, h2, h3, h4, h5⟩ := hm c
    simp only [h0, h1, h2, h3, h4, h5, hc]
    rw [chosen (H := 352) (C := 1024) (T := 704) _ _ rfl]
    simp only [h3, h4] <;> rfl

end Cert.AdamwDownIdeal.Value

end
-- ==== Proof.AdamwOutValue.lean ====
/-
  The optimiser's call for `w_out`: of two tiles of 128 rows one takes its gradient from its core, the other from the
  sibling, and each steps its weights and moments with it.
-/
module

public import proofs.«01_k».proof.Defs
public import proofs.«01_k».proof.Proof.Adamw
public import proofs.«01_k».proof.Proof.Gen.AdamwOutIdeal.Flash
public import proofs.«01_k».proof.Proof.Gen.AdamwOutRefIdeal.Run
public import proofs.«01_k».proof.Proof.Gen.Pre_on_the_mesh_out

@[expose] public section

noncomputable section

namespace Cert.AdamwOutIdeal.Value

open Cert.AdamwOutIdeal Cert.AdamwOutIdeal.Gen Cert.Adamw
open Idealize.ShloMosaic Idealize.ShloMosaic.TcCoe Idealize.SL.Sem

variable (ch : Fin 8) (m : (ℓ : Loc nD τ sig) → Buf (Elt Ideal) ℓ) (ρ : Dev nD → PrngReg) (c : Dev nD)

/-- Which half a tile is, and where its windows' blocks lie. -/
theorem places : ∀ (ch : Fin 8) (t : Fin (cfgA ch).N), (P0_0 ch t ↔ t.val / 1 = ch.val / 4)
    ∧ cc0_transform_0 (crd ch t) = ![t.val, 0]
    ∧ cc0_transform_3 (crd ch t) = ![if t.val / 1 = ch.val / 4 then t.val % 1 else 0, 0]
    ∧ cc0_transform_4 (crd ch t) = ![if t.val / 1 = ch.val / 4 then 0 else t.val % 1, 0] := by
  decide +kernel

abbrev W := m ((c : Thread nD τ).loc main_arg0)
abbrev M := m ((c : Thread nD τ).loc main_arg1)
abbrev V := m ((c : Thread nD τ).loc main_arg2)
abbrev own := m ((c : Thread nD τ).loc main_arg3)
abbrev sib := m ((c : Thread nD τ).loc main_arg4)
abbrev G : S256x1024.Idx → EReal := whole (own m c) (sib m c) 256 (ch.val / 4)

/-- Every output's tiles cover it. -/
theorem covers : ∀ ch : Fin 8, ((cfgA ch).win 5).Covers ∧ ((cfgA ch).win 6).Covers ∧ ((cfgA ch).win 7).Covers ∧ ((cfgA ch).win 8).Covers := by
  decide +kernel

/-- What a tile leaves is its rows' step. -/
theorem tile_eq (t : Fin (cfgA ch).N) : traj0 ch m ρ c t.val t.isLt
    = tile (rows (own m c) (sib m c) 128 (ch.val / 4) t.val) (iblk ch m ρ c 0 t) (iblk ch m ρ c 1 t) (iblk ch m ρ c 2 t) := by
  obtain ⟨hp, -, e3, e4⟩ := places ch t
  rw [traj0_eq]
  by_cases h : P0_0 ch t
  · have e : iblk ch m ρ c 3 t = _ := funext fun y => own_rows (own m c) (sib m c) rfl e3 (hp.mp h) y _ rfl rfl
    rw [step0_A ch m ρ c t _ h, ← e]
    refine quad ?_ ?_ ?_ ?_ <;> frame_out <;> simp only [View.read_rep] <;> rfl
  · have e : iblk ch m ρ c 4 t = _ := funext fun y => sib_rows (own m c) (sib m c) rfl e4 (mt hp.mpr h) y _ rfl rfl
    rw [step0_B ch m ρ c t _ h, ← e]
    refine quad ?_ ?_ ?_ ?_ <;> frame_out <;> simp only [View.read_rep] <;> rfl

/-- The results after the run. -/
theorem finals : (dats ch m ρ 0 c).arrAt 5 (cfgA ch).N = G ch m c
    ∧ (dats ch m ρ 0 c).arrAt 6 (cfgA ch).N = deltas (W m c) (M m c) (V m c) (G ch m c)
    ∧ (dats ch m ρ 0 c).arrAt 7 (cfgA ch).N = newMs (M m c) (G ch m c)
    ∧ (dats ch m ρ 0 c).arrAt 8 (cfgA ch).N = newVs (V m c) (G ch m c) := by
  have cut (t : Fin (cfgA ch).N) (y : S128x1024.Idx) (i : S256x1024.Idx) := rows_eq (own m c) (sib m c) (k := ch.val / 4) (places ch t).2.1 y i
  obtain ⟨c5, c6, c7, c8⟩ := covers ch
  refine ⟨(dats ch m ρ 0 c).arrAt_eq_of_covers 5 _ c5 fun t _ y => ?_, (dats ch m ρ 0 c).arrAt_eq_of_covers 6 _ c6 fun t _ y => ?_,
    (dats ch m ρ 0 c).arrAt_eq_of_covers 7 _ c7 fun t _ y => ?_, (dats ch m ρ 0 c).arrAt_eq_of_covers 8 _ c8 fun t _ y => ?_⟩
  · rw [after0_5, tile_eq]; exact cut t y _ rfl rfl
  · rw [after0_6, tile_eq]; exact congrArg (delta _ _ _) (cut t y _ rfl rfl)
  · rw [after0_7, tile_eq]; exact congrArg (newM _) (cut t y _ rfl rfl)
  · rw [after0_8, tile_eq]; exact congrArg (newV _) (cut t y _ rfl rfl)

omit ch ρ c in
/-- The precondition says which core and chip. -/
theorem pinned_of_pre (h : Pre_AdamwOutIdeal m) : ∃ ch, Pinned ch m :=
  (words_of_mask _ _ _ _ (h 0)).imp fun ch e => every e

omit ch ρ c m in
/-- The kernel's results are the reference's. -/
theorem algebraic : Cert.algebraic_AdamwOutIdeal_AdamwOutRefIdeal := by
  intro m g m' g' hP hm
  obtain ⟨ch, hp⟩ := pinned_of_pre m hP
  refine ⟨fun c => G ch m c, fun c => deltas (W m c) (M m c) (V m c) (G ch m c), fun c => newMs (M m c) (G ch m c), fun c => newVs (V m c) (G ch m c),
    (θ_run _ _ _).mono (fun r h c => ⟨((h c).1 5).trans (finals ch m g c).1, ((h c).1 6).trans (finals ch m g c).2.1,
      ((h c).1 7).trans (finals ch m g c).2.2.1, ((h c).1 8).trans (finals ch m g c).2.2.2,
      ((h c).1 0).trans ((dats ch m g 0 c).arrAt_in 0 rfl _), ((h c).1 1).trans ((dats ch m g 0 c).arrAt_in 1 rfl _),
      ((h c).1 2).trans ((dats ch m g 0 c).arrAt_in 2 rfl _), ((h c).1 3).trans ((dats ch m g 0 c).arrAt_in 3 rfl _),
      ((h c).1 4).trans ((dats ch m g 0 c).arrAt_in 4 rfl _), ((h c).2 0).trans (hp c).symm⟩) (run_main ch m g hp),
    (θ_run _ _ _).mono (fun r h c => ⟨(h c).1.trans ?_, (h c).2.1.trans ?_, (h c).2.2.1.trans ?_, (h c).2.2.2.1.trans ?_, (h c).2.2.2.2⟩)
      (Cert.AdamwOutRefIdeal.Value.run m' g')⟩
  all_goals
    have hc : m ((c : Thread nD τ).loc main_arg5) = words ch.val := hp c
    obtain ⟨h0, h1, h2, h3, h4, h5⟩ := hm c
    simp only [h0, h1, h2, h3, h4, h5, hc]
    rw [chosen (H := 128) (C := 1024) (T := 256) _ _ rfl]
    simp only [h3, h4] <;> rfl

end Cert.AdamwOutIdeal.Value

end
-- ==== Proof.AdamwProjValue.lean ====
/-
  The optimiser's call for the mixers' projections `w_pa` and `w_pb`: of two tiles of 256 rows one takes its gradient from
  its core, the other from the sibling, and each steps its weights and moments with it.
-/
module

public import proofs.«01_k».proof.Defs
public import proofs.«01_k».proof.Proof.Adamw
public import proofs.«01_k».proof.Proof.Gen.AdamwProjIdeal.Flash
public import proofs.«01_k».proof.Proof.Gen.AdamwProjRefIdeal.Run
public import proofs.«01_k».proof.Proof.Gen.Pre_on_the_mesh_proj

@[expose] public section

noncomputable section

namespace Cert.AdamwProjIdeal.Value

open Cert.AdamwProjIdeal Cert.AdamwProjIdeal.Gen Cert.Adamw
open Idealize.ShloMosaic Idealize.ShloMosaic.TcCoe Idealize.SL.Sem

variable (ch : Fin 8) (m : (ℓ : Loc nD τ sig) → Buf (Elt Ideal) ℓ) (ρ : Dev nD → PrngReg) (c : Dev nD)

/-- Which half a tile is, and where its windows' blocks lie. -/
theorem places : ∀ (ch : Fin 8) (t : Fin (cfgA ch).N), (P0_0 ch t ↔ t.val / 1 = ch.val / 4)
    ∧ cc0_transform_0 (crd ch t) = ![t.val, 0]
    ∧ cc0_transform_3 (crd ch t) = ![if t.val / 1 = ch.val / 4 then t.val % 1 else 0, 0]
    ∧ cc0_transform_4 (crd ch t) = ![if t.val / 1 = ch.val / 4 then 0 else t.val % 1, 0] := by
  decide +kernel

abbrev W := m ((c : Thread nD τ).loc main_arg0)
abbrev M := m ((c : Thread nD τ).loc main_arg1)
abbrev V := m ((c : Thread nD τ).loc main_arg2)
abbrev own := m ((c : Thread nD τ).loc main_arg3)
abbrev sib := m ((c : Thread nD τ).loc main_arg4)
abbrev G : S512x256.Idx → EReal := whole (own m c) (sib m c) 512 (ch.val / 4)

/-- Every output's tiles cover it. -/
theorem covers : ∀ ch : Fin 8, ((cfgA ch).win 5).Covers ∧ ((cfgA ch).win 6).Covers ∧ ((cfgA ch).win 7).Covers ∧ ((cfgA ch).win 8).Covers := by
  decide +kernel

/-- What a tile leaves is its rows' step. -/
theorem tile_eq (t : Fin (cfgA ch).N) : traj0 ch m ρ c t.val t.isLt
    = tile (rows (own m c) (sib m c) 256 (ch.val / 4) t.val) (iblk ch m ρ c 0 t) (iblk ch m ρ c 1 t) (iblk ch m ρ c 2 t) := by
  obtain ⟨hp, -, e3, e4⟩ := places ch t
  rw [traj0_eq]
  by_cases h : P0_0 ch t
  · have e : iblk ch m ρ c 3 t = _ := funext fun y => own_rows (own m c) (sib m c) rfl e3 (hp.mp h) y _ rfl rfl
    rw [step0_A ch m ρ c t _ h, ← e]
    refine quad ?_ ?_ ?_ ?_ <;> frame_out <;> simp only [View.read_rep] <;> rfl
  · have e : iblk ch m ρ c 4 t = _ := funext fun y => sib_rows (own m c) (sib m c) rfl e4 (mt hp.mpr h) y _ rfl rfl
    rw [step0_B ch m ρ c t _ h, ← e]
    refine quad ?_ ?_ ?_ ?_ <;> frame_out <;> simp only [View.read_rep] <;> rfl

/-- The results after the run. -/
theorem finals : (dats ch m ρ 0 c).arrAt 5 (cfgA ch).N = G ch m c
    ∧ (dats ch m ρ 0 c).arrAt 6 (cfgA ch).N = deltas (W m c) (M m c) (V m c) (G ch m c)
    ∧ (dats ch m ρ 0 c).arrAt 7 (cfgA ch).N = newMs (M m c) (G ch m c)
    ∧ (dats ch m ρ 0 c).arrAt 8 (cfgA ch).N = newVs (V m c) (G ch m c) := by
  have cut (t : Fin (cfgA ch).N) (y : S256x256.Idx) (i : S512x256.Idx) := rows_eq (own m c) (sib m c) (k := ch.val / 4) (places ch t).2.1 y i
  obtain ⟨c5, c6, c7, c8⟩ := covers ch
  refine ⟨(dats ch m ρ 0 c).arrAt_eq_of_covers 5 _ c5 fun t _ y => ?_, (dats ch m ρ 0 c).arrAt_eq_of_covers 6 _ c6 fun t _ y => ?_,
    (dats ch m ρ 0 c).arrAt_eq_of_covers 7 _ c7 fun t _ y => ?_, (dats ch m ρ 0 c).arrAt_eq_of_covers 8 _ c8 fun t _ y => ?_⟩
  · rw [after0_5, tile_eq]; exact cut t y _ rfl rfl
  · rw [after0_6, tile_eq]; exact congrArg (delta _ _ _) (cut t y _ rfl rfl)
  · rw [after0_7, tile_eq]; exact congrArg (newM _) (cut t y _ rfl rfl)
  · rw [after0_8, tile_eq]; exact congrArg (newV _) (cut t y _ rfl rfl)

omit ch ρ c in
/-- The precondition says which core and chip. -/
theorem pinned_of_pre (h : Pre_AdamwProjIdeal m) : ∃ ch, Pinned ch m :=
  (words_of_mask _ _ _ _ (h 0)).imp fun ch e => every e

omit ch ρ c m in
/-- The kernel's results are the reference's. -/
theorem algebraic : Cert.algebraic_AdamwProjIdeal_AdamwProjRefIdeal := by
  intro m g m' g' hP hm
  obtain ⟨ch, hp⟩ := pinned_of_pre m hP
  refine ⟨fun c => G ch m c, fun c => deltas (W m c) (M m c) (V m c) (G ch m c), fun c => newMs (M m c) (G ch m c), fun c => newVs (V m c) (G ch m c),
    (θ_run _ _ _).mono (fun r h c => ⟨((h c).1 5).trans (finals ch m g c).1, ((h c).1 6).trans (finals ch m g c).2.1,
      ((h c).1 7).trans (finals ch m g c).2.2.1, ((h c).1 8).trans (finals ch m g c).2.2.2,
      ((h c).1 0).trans ((dats ch m g 0 c).arrAt_in 0 rfl _), ((h c).1 1).trans ((dats ch m g 0 c).arrAt_in 1 rfl _),
      ((h c).1 2).trans ((dats ch m g 0 c).arrAt_in 2 rfl _), ((h c).1 3).trans ((dats ch m g 0 c).arrAt_in 3 rfl _),
      ((h c).1 4).trans ((dats ch m g 0 c).arrAt_in 4 rfl _), ((h c).2 0).trans (hp c).symm⟩) (run_main ch m g hp),
    (θ_run _ _ _).mono (fun r h c => ⟨(h c).1.trans ?_, (h c).2.1.trans ?_, (h c).2.2.1.trans ?_, (h c).2.2.2.1.trans ?_, (h c).2.2.2.2⟩)
      (Cert.AdamwProjRefIdeal.Value.run m' g')⟩
  all_goals
    have hc : m ((c : Thread nD τ).loc main_arg5) = words ch.val := hp c
    obtain ⟨h0, h1, h2, h3, h4, h5⟩ := hm c
    simp only [h0, h1, h2, h3, h4, h5, hc]
    rw [chosen (H := 256) (C := 256) (T := 512) _ _ rfl]
    simp only [h3, h4] <;> rfl

end Cert.AdamwProjIdeal.Value

end
-- ==== Proof.AdamwGluValue.lean ====
/-
  The optimiser's call for the gate of the S5 mixer, `w_glu`: of two tiles of 64 rows one takes its gradient from its core,
  the other from the sibling, and each steps its weights and moments with it.
-/
module

public import proofs.«01_k».proof.Defs
public import proofs.«01_k».proof.Proof.Adamw
public import proofs.«01_k».proof.Proof.Gen.AdamwGluIdeal.Flash
public import proofs.«01_k».proof.Proof.Gen.AdamwGluRefIdeal.Run
public import proofs.«01_k».proof.Proof.Gen.Pre_on_the_mesh_glu

@[expose] public section

noncomputable section

namespace Cert.AdamwGluIdeal.Value

open Cert.AdamwGluIdeal Cert.AdamwGluIdeal.Gen Cert.Adamw
open Idealize.ShloMosaic Idealize.ShloMosaic.TcCoe Idealize.SL.Sem

variable (ch : Fin 8) (m : (ℓ : Loc nD τ sig) → Buf (Elt Ideal) ℓ) (ρ : Dev nD → PrngReg) (c : Dev nD)

/-- Which half a tile is, and where its windows' blocks lie. -/
theorem places : ∀ (ch : Fin 8) (t : Fin (cfgA ch).N), (P0_0 ch t ↔ t.val / 1 = ch.val / 4)
    ∧ cc0_transform_0 (crd ch t) = ![t.val, 0]
    ∧ cc0_transform_3 (crd ch t) = ![if t.val / 1 = ch.val / 4 then t.val % 1 else 0, 0]
    ∧ cc0_transform_4 (crd ch t) = ![if t.val / 1 = ch.val / 4 then 0 else t.val % 1, 0] := by
  decide +kernel

abbrev W := m ((c : Thread nD τ).loc main_arg0)
abbrev M := m ((c : Thread nD τ).loc main_arg1)
abbrev V := m ((c : Thread nD τ).loc main_arg2)
abbrev own := m ((c : Thread nD τ).loc main_arg3)
abbrev sib := m ((c : Thread nD τ).loc main_arg4)
abbrev G : S128x512.Idx → EReal := whole (own m c) (sib m c) 128 (ch.val / 4)

/-- Every output's tiles cover it. -/
theorem covers : ∀ ch : Fin 8, ((cfgA ch).win 5).Covers ∧ ((cfgA ch).win 6).Covers ∧ ((cfgA ch).win 7).Covers ∧ ((cfgA ch).win 8).Covers := by
  decide +kernel

/-- What a tile leaves is its rows' step. -/
theorem tile_eq (t : Fin (cfgA ch).N) : traj0 ch m ρ c t.val t.isLt
    = tile (rows (own m c) (sib m c) 64 (ch.val / 4) t.val) (iblk ch m ρ c 0 t) (iblk ch m ρ c 1 t) (iblk ch m ρ c 2 t) := by
  obtain ⟨hp, -, e3, e4⟩ := places ch t
  rw [traj0_eq]
  by_cases h : P0_0 ch t
  · have e : iblk ch m ρ c 3 t = _ := funext fun y => own_rows (own m c) (sib m c) rfl e3 (hp.mp h) y _ rfl rfl
    rw [step0_A ch m ρ c t _ h, ← e]
    refine quad ?_ ?_ ?_ ?_ <;> frame_out <;> simp only [View.read_rep] <;> rfl
  · have e : iblk ch m ρ c 4 t = _ := funext fun y => sib_rows (own m c) (sib m c) rfl e4 (mt hp.mpr h) y _ rfl rfl
    rw [step0_B ch m ρ c t _ h, ← e]
    refine quad ?_ ?_ ?_ ?_ <;> frame_out <;> simp only [View.read_rep] <;> rfl

/-- The results after the run. -/
theorem finals : (dats ch m ρ 0 c).arrAt 5 (cfgA ch).N = G ch m c
    ∧ (dats ch m ρ 0 c).arrAt 6 (cfgA ch).N = deltas (W m c) (M m c) (V m c) (G ch m c)
    ∧ (dats ch m ρ 0 c).arrAt 7 (cfgA ch).N = newMs (M m c) (G ch m c)
    ∧ (dats ch m ρ 0 c).arrAt 8 (cfgA ch).N = newVs (V m c) (G ch m c) := by
  have cut (t : Fin (cfgA ch).N) (y : S64x512.Idx) (i : S128x512.Idx) := rows_eq (own m c) (sib m c) (k := ch.val / 4) (places ch t).2.1 y i
  obtain ⟨c5, c6, c7, c8⟩ := covers ch
  refine ⟨(dats ch m ρ 0 c).arrAt_eq_of_covers 5 _ c5 fun t _ y => ?_, (dats ch m ρ 0 c).arrAt_eq_of_covers 6 _ c6 fun t _ y => ?_,
    (dats ch m ρ 0 c).arrAt_eq_of_covers 7 _ c7 fun t _ y => ?_, (dats ch m ρ 0 c).arrAt_eq_of_covers 8 _ c8 fun t _ y => ?_⟩
  · rw [after0_5, tile_eq]; exact cut t y _ rfl rfl
  · rw [after0_6, tile_eq]; exact congrArg (delta _ _ _) (cut t y _ rfl rfl)
  · rw [after0_7, tile_eq]; exact congrArg (newM _) (cut t y _ rfl rfl)
  · rw [after0_8, tile_eq]; exact congrArg (newV _) (cut t y _ rfl rfl)

omit ch ρ c in
/-- The precondition says which core and chip. -/
theorem pinned_of_pre (h : Pre_AdamwGluIdeal m) : ∃ ch, Pinned ch m :=
  (words_of_mask _ _ _ _ (h 0)).imp fun ch e => every e

omit ch ρ c m in
/-- The kernel's results are the reference's. -/
theorem algebraic : Cert.algebraic_AdamwGluIdeal_AdamwGluRefIdeal := by
  intro m g m' g' hP hm
  obtain ⟨ch, hp⟩ := pinned_of_pre m hP
  refine ⟨fun c => G ch m c, fun c => deltas (W m c) (M m c) (V m c) (G ch m c), fun c => newMs (M m c) (G ch m c), fun c => newVs (V m c) (G ch m c),
    (θ_run _ _ _).mono (fun r h c => ⟨((h c).1 5).trans (finals ch m g c).1, ((h c).1 6).trans (finals ch m g c).2.1,
      ((h c).1 7).trans (finals ch m g c).2.2.1, ((h c).1 8).trans (finals ch m g c).2.2.2,
      ((h c).1 0).trans ((dats ch m g 0 c).arrAt_in 0 rfl _), ((h c).1 1).trans ((dats ch m g 0 c).arrAt_in 1 rfl _),
      ((h c).1 2).trans ((dats ch m g 0 c).arrAt_in 2 rfl _), ((h c).1 3).trans ((dats ch m g 0 c).arrAt_in 3 rfl _),
      ((h c).1 4).trans ((dats ch m g 0 c).arrAt_in 4 rfl _), ((h c).2 0).trans (hp c).symm⟩) (run_main ch m g hp),
    (θ_run _ _ _).mono (fun r h c => ⟨(h c).1.trans ?_, (h c).2.1.trans ?_, (h c).2.2.1.trans ?_, (h c).2.2.2.1.trans ?_, (h c).2.2.2.2⟩)
      (Cert.AdamwGluRefIdeal.Value.run m' g')⟩
  all_goals
    have hc : m ((c : Thread nD τ).loc main_arg5) = words ch.val := hp c
    obtain ⟨h0, h1, h2, h3, h4, h5⟩ := hm c
    simp only [h0, h1, h2, h3, h4, h5, hc]
    rw [chosen (H := 64) (C := 512) (T := 128) _ _ rfl]
    simp only [h3, h4] <;> rfl

end Cert.AdamwGluIdeal.Value

end
-- ==== Proof.lean ====
/-
  The claims, gathered: the frames of every program, and the values of the product calls.
-/
module

public import proofs.«01_k».proof.Defs
public import proofs.«01_k».proof.Proof.Gen.DownBwd.Frame
public import proofs.«01_k».proof.Proof.Gen.DownBwdIdeal.Frame
public import proofs.«01_k».proof.Proof.Gen.DownBwdIdeal.Value
public import proofs.«01_k».proof.Proof.Gen.DownBwdRefIdeal.Run
public import proofs.«01_k».proof.Proof.Gen.DownWgrad.Frame
public import proofs.«01_k».proof.Proof.Gen.DownWgradIdeal.Frame
public import proofs.«01_k».proof.Proof.Gen.DownWgradIdeal.Value
public import proofs.«01_k».proof.Proof.Gen.DownWgradRefIdeal.Run
public import proofs.«01_k».proof.Proof.Gen.UpWgrad.Frame
public import proofs.«01_k».proof.Proof.Gen.UpWgradIdeal.Frame
public import proofs.«01_k».proof.Proof.Gen.UpWgradRefIdeal.Run
public import proofs.«01_k».proof.Proof.Gen.InWgrad.Frame
public import proofs.«01_k».proof.Proof.Gen.InWgradIdeal.Frame
public import proofs.«01_k».proof.Proof.Gen.InWgradIdeal.Value
public import proofs.«01_k».proof.Proof.Gen.InWgradRefIdeal.Run
public import proofs.«01_k».proof.Proof.Gen.OutBwd.Frame
public import proofs.«01_k».proof.Proof.Gen.OutBwdIdeal.Frame
public import proofs.«01_k».proof.Proof.Gen.OutBwdIdeal.Value
public import proofs.«01_k».proof.Proof.Gen.OutBwdRefIdeal.Run
public import proofs.«01_k».proof.Proof.Gen.OutWgrad.Frame
public import proofs.«01_k».proof.Proof.Gen.OutWgradIdeal.Frame
public import proofs.«01_k».proof.Proof.Gen.OutWgradIdeal.Value
public import proofs.«01_k».proof.Proof.Gen.OutWgradRefIdeal.Run
public import proofs.«01_k».proof.Proof.Gen.ProjBwd.Frame
public import proofs.«01_k».proof.Proof.Gen.ProjBwdIdeal.Frame
public import proofs.«01_k».proof.Proof.Gen.ProjBwdIdeal.Value
public import proofs.«01_k».proof.Proof.Gen.ProjBwdRefIdeal.Run
public import proofs.«01_k».proof.Proof.Gen.ProjWgrad.Frame
public import proofs.«01_k».proof.Proof.Gen.ProjWgradIdeal.Frame
public import proofs.«01_k».proof.Proof.Gen.ProjWgradIdeal.Value
public import proofs.«01_k».proof.Proof.Gen.ProjWgradRefIdeal.Run
public import proofs.«01_k».proof.Proof.Gen.GluWgrad.Frame
public import proofs.«01_k».proof.Proof.Gen.GluWgradIdeal.Frame
public import proofs.«01_k».proof.Proof.Gen.GluWgradIdeal.Value
public import proofs.«01_k».proof.Proof.Gen.GluWgradRefIdeal.Run
public import proofs.«01_k».proof.Proof.Gen.UpProj.Frame
public import proofs.«01_k».proof.Proof.Gen.UpProjIdeal.Frame
public import proofs.«01_k».proof.Proof.Gen.UpProjIdeal.Value
public import proofs.«01_k».proof.Proof.Gen.UpProjRefIdeal.Run
public import proofs.«01_k».proof.Proof.Gen.Proj.Frame
public import proofs.«01_k».proof.Proof.Gen.ProjIdeal.Frame
public import proofs.«01_k».proof.Proof.Gen.ProjIdeal.Value
public import proofs.«01_k».proof.Proof.Gen.ProjRefIdeal.Run
public import proofs.«01_k».proof.Proof.Gen.OutProj.Frame
public import proofs.«01_k».proof.Proof.Gen.OutProjIdeal.Frame
public import proofs.«01_k».proof.Proof.Gen.OutProjIdeal.Value
public import proofs.«01_k».proof.Proof.Gen.OutProjRefIdeal.Run
public import proofs.«01_k».proof.Proof.Gen.UpBwd.Frame
public import proofs.«01_k».proof.Proof.Gen.UpBwdIdeal.Frame
public import proofs.«01_k».proof.Proof.Gen.UpBwdRefIdeal.Run
public import proofs.«01_k».proof.Proof.Gen.InBwd.Frame
public import proofs.«01_k».proof.Proof.Gen.InBwdIdeal.Frame
public import proofs.«01_k».proof.Proof.Gen.InBwdRefIdeal.Run
public import proofs.«01_k».proof.Proof.Gen.DownProj.Frame
public import proofs.«01_k».proof.Proof.Gen.DownProjIdeal.Frame
public import proofs.«01_k».proof.Proof.Gen.DownProjRefIdeal.Run
public import proofs.«01_k».proof.Proof.Gen.AdamwIn.Flash
public import proofs.«01_k».proof.Proof.Gen.AdamwInIdeal.Flash
public import proofs.«01_k».proof.Proof.Gen.AdamwInRefIdeal.Run
public import proofs.«01_k».proof.Proof.Gen.Pre_on_the_mesh_in
public import proofs.«01_k».proof.Proof.Gen.AdamwUp.Flash
public import proofs.«01_k».proof.Proof.Gen.AdamwUpIdeal.Flash
public import proofs.«01_k».proof.Proof.Gen.AdamwUpRefIdeal.Run
public import proofs.«01_k».proof.Proof.Gen.Pre_on_the_mesh_up
public import proofs.«01_k».proof.Proof.Gen.AdamwDown.Flash
public import proofs.«01_k».proof.Proof.Gen.AdamwDownIdeal.Flash
public import proofs.«01_k».proof.Proof.Gen.AdamwDownRefIdeal.Run
public import proofs.«01_k».proof.Proof.Gen.Pre_on_the_mesh_down
public import proofs.«01_k».proof.Proof.Gen.AdamwOut.Flash
public import proofs.«01_k».proof.Proof.Gen.AdamwOutIdeal.Flash
public import proofs.«01_k».proof.Proof.Gen.AdamwOutRefIdeal.Run
public import proofs.«01_k».proof.Proof.Gen.Pre_on_the_mesh_out
public import proofs.«01_k».proof.Proof.Gen.AdamwProj.Flash
public import proofs.«01_k».proof.Proof.Gen.AdamwProjIdeal.Flash
public import proofs.«01_k».proof.Proof.Gen.AdamwProjRefIdeal.Run
public import proofs.«01_k».proof.Proof.Gen.Pre_on_the_mesh_proj
public import proofs.«01_k».proof.Proof.Gen.AdamwGlu.Flash
public import proofs.«01_k».proof.Proof.Gen.AdamwGluIdeal.Flash
public import proofs.«01_k».proof.Proof.Gen.AdamwGluRefIdeal.Run
public import proofs.«01_k».proof.Proof.Gen.Pre_on_the_mesh_glu
public import proofs.«01_k».proof.Proof.KFrame
public import proofs.«01_k».proof.Proof.RefFrame
public import proofs.«01_k».proof.Proof.DownBwdValue
public import proofs.«01_k».proof.Proof.DownWgradValue
public import proofs.«01_k».proof.Proof.UpWgradValue
public import proofs.«01_k».proof.Proof.InWgradValue
public import proofs.«01_k».proof.Proof.OutBwdValue
public import proofs.«01_k».proof.Proof.OutWgradValue
public import proofs.«01_k».proof.Proof.ProjBwdValue
public import proofs.«01_k».proof.Proof.ProjWgradValue
public import proofs.«01_k».proof.Proof.GluWgradValue
public import proofs.«01_k».proof.Proof.UpProjValue
public import proofs.«01_k».proof.Proof.ProjValue
public import proofs.«01_k».proof.Proof.OutProjValue
public import proofs.«01_k».proof.Proof.UpBwdValue
public import proofs.«01_k».proof.Proof.InBwdValue
public import proofs.«01_k».proof.Proof.DownProjValue
public import proofs.«01_k».proof.Proof.AdamwInValue
public import proofs.«01_k».proof.Proof.AdamwUpValue
public import proofs.«01_k».proof.Proof.AdamwDownValue
public import proofs.«01_k».proof.Proof.AdamwOutValue
public import proofs.«01_k».proof.Proof.AdamwProjValue
public import proofs.«01_k».proof.Proof.AdamwGluValue

@[expose] public section

noncomputable section

namespace Cert.Proof

open Idealize.ShloMosaic Idealize.SL.Sem

theorem frame_KernelIdeal : Cert.quiescent_KernelIdeal := fun m ρ _ => Cert.KernelIdeal.S5.frame (F := Ideal) m ρ

theorem frame_ReferenceIdeal : Cert.quiescent_ReferenceIdeal := fun m ρ _ => Cert.RefRun.frame (F := Ideal) m ρ

/-! The references of the product calls are host operations alone: none of them declares a semaphore. -/

theorem frame_DownBwdRefIdeal : Cert.quiescent_DownBwdRefIdeal := fun m ρ _ =>
  (θ_run Cert.DownBwdRefIdeal.defs _ _).mono (fun r h => ⟨fun c => (h c).2, sem_eq_zero_of_no_sems (by decide) r.2⟩)
    (Cert.DownBwdRefIdeal.Value.run (F := Ideal) m ρ)

theorem frame_DownWgradRefIdeal : Cert.quiescent_DownWgradRefIdeal := fun m ρ _ =>
  (θ_run Cert.DownWgradRefIdeal.defs _ _).mono (fun r h => ⟨fun c => (h c).2, sem_eq_zero_of_no_sems (by decide) r.2⟩)
    (Cert.DownWgradRefIdeal.Value.run (F := Ideal) m ρ)

theorem frame_UpWgradRefIdeal : Cert.quiescent_UpWgradRefIdeal := fun m ρ _ =>
  (θ_run Cert.UpWgradRefIdeal.defs _ _).mono (fun r h => ⟨fun c => (h c).2, sem_eq_zero_of_no_sems (by decide) r.2⟩)
    (Cert.UpWgradRefIdeal.Value.run (F := Ideal) m ρ)

theorem frame_InWgradRefIdeal : Cert.quiescent_InWgradRefIdeal := fun m ρ _ =>
  (θ_run Cert.InWgradRefIdeal.defs _ _).mono (fun r h => ⟨fun c => (h c).2, sem_eq_zero_of_no_sems (by decide) r.2⟩)
    (Cert.InWgradRefIdeal.Value.run (F := Ideal) m ρ)

theorem frame_OutBwdRefIdeal : Cert.quiescent_OutBwdRefIdeal := fun m ρ _ =>
  (θ_run Cert.OutBwdRefIdeal.defs _ _).mono (fun r h => ⟨fun c => (h c).2, sem_eq_zero_of_no_sems (by decide) r.2⟩)
    (Cert.OutBwdRefIdeal.Value.run (F := Ideal) m ρ)

theorem frame_OutWgradRefIdeal : Cert.quiescent_OutWgradRefIdeal := fun m ρ _ =>
  (θ_run Cert.OutWgradRefIdeal.defs _ _).mono (fun r h => ⟨fun c => (h c).2, sem_eq_zero_of_no_sems (by decide) r.2⟩)
    (Cert.OutWgradRefIdeal.Value.run (F := Ideal) m ρ)

theorem frame_ProjBwdRefIdeal : Cert.quiescent_ProjBwdRefIdeal := fun m ρ _ =>
  (θ_run Cert.ProjBwdRefIdeal.defs _ _).mono (fun r h => ⟨fun c => (h c).2, sem_eq_zero_of_no_sems (by decide) r.2⟩)
    (Cert.ProjBwdRefIdeal.Value.run (F := Ideal) m ρ)

theorem frame_ProjWgradRefIdeal : Cert.quiescent_ProjWgradRefIdeal := fun m ρ _ =>
  (θ_run Cert.ProjWgradRefIdeal.defs _ _).mono (fun r h => ⟨fun c => (h c).2, sem_eq_zero_of_no_sems (by decide) r.2⟩)
    (Cert.ProjWgradRefIdeal.Value.run (F := Ideal) m ρ)

theorem frame_GluWgradRefIdeal : Cert.quiescent_GluWgradRefIdeal := fun m ρ _ =>
  (θ_run Cert.GluWgradRefIdeal.defs _ _).mono (fun r h => ⟨fun c => (h c).2, sem_eq_zero_of_no_sems (by decide) r.2⟩)
    (Cert.GluWgradRefIdeal.Value.run (F := Ideal) m ρ)

theorem frame_UpProjRefIdeal : Cert.quiescent_UpProjRefIdeal := fun m ρ _ =>
  (θ_run Cert.UpProjRefIdeal.defs _ _).mono (fun r h => ⟨fun c => (h c).2, sem_eq_zero_of_no_sems (by decide) r.2⟩)
    (Cert.UpProjRefIdeal.Value.run (F := Ideal) m ρ)

theorem frame_ProjRefIdeal : Cert.quiescent_ProjRefIdeal := fun m ρ _ =>
  (θ_run Cert.ProjRefIdeal.defs _ _).mono (fun r h => ⟨fun c => (h c).2, sem_eq_zero_of_no_sems (by decide) r.2⟩)
    (Cert.ProjRefIdeal.Value.run (F := Ideal) m ρ)

theorem frame_OutProjRefIdeal : Cert.quiescent_OutProjRefIdeal := fun m ρ _ =>
  (θ_run Cert.OutProjRefIdeal.defs _ _).mono (fun r h => ⟨fun c => (h c).2, sem_eq_zero_of_no_sems (by decide) r.2⟩)
    (Cert.OutProjRefIdeal.Value.run (F := Ideal) m ρ)

theorem frame_UpBwdRefIdeal : Cert.quiescent_UpBwdRefIdeal := fun m ρ _ =>
  (θ_run Cert.UpBwdRefIdeal.defs _ _).mono (fun r h => ⟨fun c => (h c).2.2, sem_eq_zero_of_no_sems (by decide) r.2⟩)
    (Cert.UpBwdRefIdeal.Value.run (F := Ideal) m ρ)

theorem frame_InBwdRefIdeal : Cert.quiescent_InBwdRefIdeal := fun m ρ _ =>
  (θ_run Cert.InBwdRefIdeal.defs _ _).mono (fun r h => ⟨fun c => (h c).2.2, sem_eq_zero_of_no_sems (by decide) r.2⟩)
    (Cert.InBwdRefIdeal.Value.run (F := Ideal) m ρ)

theorem frame_DownProjRefIdeal : Cert.quiescent_DownProjRefIdeal := fun m ρ _ =>
  (θ_run Cert.DownProjRefIdeal.defs _ _).mono (fun r h => ⟨fun c => (h c).2.2.2, sem_eq_zero_of_no_sems (by decide) r.2⟩)
    (Cert.DownProjRefIdeal.Value.run (F := Ideal) m ρ)

theorem frame_AdamwIn : Cert.quiescent_AdamwIn := fun m ρ h =>
  (Cert.Adamw.words_of_mask _ _ _ _ (h 0)).elim fun ch e =>
    Cert.AdamwIn.Gen.frame ch m ρ (Cert.Adamw.every e)

theorem frame_AdamwInIdeal : Cert.quiescent_AdamwInIdeal := fun m ρ h =>
  (Cert.AdamwInIdeal.Value.pinned_of_pre m h).elim fun ch hp => Cert.AdamwInIdeal.Gen.frame ch m ρ hp

theorem frame_AdamwInRefIdeal : Cert.quiescent_AdamwInRefIdeal := fun m ρ _ =>
  (θ_run Cert.AdamwInRefIdeal.defs _ _).mono (fun r h => ⟨fun c => (h c).2.2.2.2, sem_eq_zero_of_no_sems (by decide) r.2⟩)
    (Cert.AdamwInRefIdeal.Value.run (F := Ideal) m ρ)

theorem frame_AdamwUp : Cert.quiescent_AdamwUp := fun m ρ h =>
  (Cert.Adamw.words_of_mask _ _ _ _ (h 0)).elim fun ch e =>
    Cert.AdamwUp.Gen.frame ch m ρ (Cert.Adamw.every e)

theorem frame_AdamwUpIdeal : Cert.quiescent_AdamwUpIdeal := fun m ρ h =>
  (Cert.AdamwUpIdeal.Value.pinned_of_pre m h).elim fun ch hp => Cert.AdamwUpIdeal.Gen.frame ch m ρ hp

theorem frame_AdamwUpRefIdeal : Cert.quiescent_AdamwUpRefIdeal := fun m ρ _ =>
  (θ_run Cert.AdamwUpRefIdeal.defs _ _).mono (fun r h => ⟨fun c => (h c).2.2.2.2, sem_eq_zero_of_no_sems (by decide) r.2⟩)
    (Cert.AdamwUpRefIdeal.Value.run (F := Ideal) m ρ)

theorem frame_AdamwDown : Cert.quiescent_AdamwDown := fun m ρ h =>
  (Cert.Adamw.words_of_mask _ _ _ _ (h 0)).elim fun ch e =>
    Cert.AdamwDown.Gen.frame ch m ρ (Cert.Adamw.every e)

theorem frame_AdamwDownIdeal : Cert.quiescent_AdamwDownIdeal := fun m ρ h =>
  (Cert.AdamwDownIdeal.Value.pinned_of_pre m h).elim fun ch hp => Cert.AdamwDownIdeal.Gen.frame ch m ρ hp

theorem frame_AdamwDownRefIdeal : Cert.quiescent_AdamwDownRefIdeal := fun m ρ _ =>
  (θ_run Cert.AdamwDownRefIdeal.defs _ _).mono (fun r h => ⟨fun c => (h c).2.2.2.2, sem_eq_zero_of_no_sems (by decide) r.2⟩)
    (Cert.AdamwDownRefIdeal.Value.run (F := Ideal) m ρ)

theorem frame_AdamwOut : Cert.quiescent_AdamwOut := fun m ρ h =>
  (Cert.Adamw.words_of_mask _ _ _ _ (h 0)).elim fun ch e =>
    Cert.AdamwOut.Gen.frame ch m ρ (Cert.Adamw.every e)

theorem frame_AdamwOutIdeal : Cert.quiescent_AdamwOutIdeal := fun m ρ h =>
  (Cert.AdamwOutIdeal.Value.pinned_of_pre m h).elim fun ch hp => Cert.AdamwOutIdeal.Gen.frame ch m ρ hp

theorem frame_AdamwOutRefIdeal : Cert.quiescent_AdamwOutRefIdeal := fun m ρ _ =>
  (θ_run Cert.AdamwOutRefIdeal.defs _ _).mono (fun r h => ⟨fun c => (h c).2.2.2.2, sem_eq_zero_of_no_sems (by decide) r.2⟩)
    (Cert.AdamwOutRefIdeal.Value.run (F := Ideal) m ρ)

theorem frame_AdamwProj : Cert.quiescent_AdamwProj := fun m ρ h =>
  (Cert.Adamw.words_of_mask _ _ _ _ (h 0)).elim fun ch e =>
    Cert.AdamwProj.Gen.frame ch m ρ (Cert.Adamw.every e)

theorem frame_AdamwProjIdeal : Cert.quiescent_AdamwProjIdeal := fun m ρ h =>
  (Cert.AdamwProjIdeal.Value.pinned_of_pre m h).elim fun ch hp => Cert.AdamwProjIdeal.Gen.frame ch m ρ hp

theorem frame_AdamwProjRefIdeal : Cert.quiescent_AdamwProjRefIdeal := fun m ρ _ =>
  (θ_run Cert.AdamwProjRefIdeal.defs _ _).mono (fun r h => ⟨fun c => (h c).2.2.2.2, sem_eq_zero_of_no_sems (by decide) r.2⟩)
    (Cert.AdamwProjRefIdeal.Value.run (F := Ideal) m ρ)

theorem frame_AdamwGlu : Cert.quiescent_AdamwGlu := fun m ρ h =>
  (Cert.Adamw.words_of_mask _ _ _ _ (h 0)).elim fun ch e =>
    Cert.AdamwGlu.Gen.frame ch m ρ (Cert.Adamw.every e)

theorem frame_AdamwGluIdeal : Cert.quiescent_AdamwGluIdeal := fun m ρ h =>
  (Cert.AdamwGluIdeal.Value.pinned_of_pre m h).elim fun ch hp => Cert.AdamwGluIdeal.Gen.frame ch m ρ hp

theorem frame_AdamwGluRefIdeal : Cert.quiescent_AdamwGluRefIdeal := fun m ρ _ =>
  (θ_run Cert.AdamwGluRefIdeal.defs _ _).mono (fun r h => ⟨fun c => (h c).2.2.2.2, sem_eq_zero_of_no_sems (by decide) r.2⟩)
    (Cert.AdamwGluRefIdeal.Value.run (F := Ideal) m ρ)

theorem claim : Cert.Claim := ⟨Cert.KernelIdeal.Gen.facts, Cert.ReferenceIdeal.Gen.facts,
  Cert.DownBwd.Gen.facts, Cert.DownBwdIdeal.Gen.facts, Cert.DownBwdRefIdeal.Gen.facts,
  Cert.DownWgrad.Gen.facts, Cert.DownWgradIdeal.Gen.facts, Cert.DownWgradRefIdeal.Gen.facts,
  Cert.UpWgrad.Gen.facts, Cert.UpWgradIdeal.Gen.facts, Cert.UpWgradRefIdeal.Gen.facts,
  Cert.InWgrad.Gen.facts, Cert.InWgradIdeal.Gen.facts, Cert.InWgradRefIdeal.Gen.facts,
  Cert.OutBwd.Gen.facts, Cert.OutBwdIdeal.Gen.facts, Cert.OutBwdRefIdeal.Gen.facts,
  Cert.OutWgrad.Gen.facts, Cert.OutWgradIdeal.Gen.facts, Cert.OutWgradRefIdeal.Gen.facts,
  Cert.ProjBwd.Gen.facts, Cert.ProjBwdIdeal.Gen.facts, Cert.ProjBwdRefIdeal.Gen.facts,
  Cert.ProjWgrad.Gen.facts, Cert.ProjWgradIdeal.Gen.facts, Cert.ProjWgradRefIdeal.Gen.facts,
  Cert.GluWgrad.Gen.facts, Cert.GluWgradIdeal.Gen.facts, Cert.GluWgradRefIdeal.Gen.facts,
  Cert.UpProj.Gen.facts, Cert.UpProjIdeal.Gen.facts, Cert.UpProjRefIdeal.Gen.facts,
  Cert.Proj.Gen.facts, Cert.ProjIdeal.Gen.facts, Cert.ProjRefIdeal.Gen.facts,
  Cert.OutProj.Gen.facts, Cert.OutProjIdeal.Gen.facts, Cert.OutProjRefIdeal.Gen.facts,
  Cert.UpBwd.Gen.facts, Cert.UpBwdIdeal.Gen.facts, Cert.UpBwdRefIdeal.Gen.facts,
  Cert.InBwd.Gen.facts, Cert.InBwdIdeal.Gen.facts, Cert.InBwdRefIdeal.Gen.facts,
  Cert.DownProj.Gen.facts, Cert.DownProjIdeal.Gen.facts, Cert.DownProjRefIdeal.Gen.facts,
  Cert.AdamwIn.Gen.facts, Cert.AdamwInIdeal.Gen.facts, Cert.AdamwInRefIdeal.Gen.facts,
  Cert.AdamwUp.Gen.facts, Cert.AdamwUpIdeal.Gen.facts, Cert.AdamwUpRefIdeal.Gen.facts,
  Cert.AdamwDown.Gen.facts, Cert.AdamwDownIdeal.Gen.facts, Cert.AdamwDownRefIdeal.Gen.facts,
  Cert.AdamwOut.Gen.facts, Cert.AdamwOutIdeal.Gen.facts, Cert.AdamwOutRefIdeal.Gen.facts,
  Cert.AdamwProj.Gen.facts, Cert.AdamwProjIdeal.Gen.facts, Cert.AdamwProjRefIdeal.Gen.facts,
  Cert.AdamwGlu.Gen.facts, Cert.AdamwGluIdeal.Gen.facts, Cert.AdamwGluRefIdeal.Gen.facts,
  Cert.Pre_on_the_mesh_in.Gen.facts,
  Cert.Pre_on_the_mesh_up.Gen.facts,
  Cert.Pre_on_the_mesh_down.Gen.facts,
  Cert.Pre_on_the_mesh_out.Gen.facts,
  Cert.Pre_on_the_mesh_proj.Gen.facts,
  Cert.Pre_on_the_mesh_glu.Gen.facts,
  frame_KernelIdeal, frame_ReferenceIdeal,
  fun m ρ _ => Cert.DownBwd.Gen.frame m ρ, fun m ρ _ => Cert.DownBwdIdeal.Gen.frame m ρ, frame_DownBwdRefIdeal,
  fun m ρ _ => Cert.DownWgrad.Gen.frame m ρ, fun m ρ _ => Cert.DownWgradIdeal.Gen.frame m ρ, frame_DownWgradRefIdeal,
  fun m ρ _ => Cert.UpWgrad.Gen.frame m ρ, fun m ρ _ => Cert.UpWgradIdeal.Gen.frame m ρ, frame_UpWgradRefIdeal,
  fun m ρ _ => Cert.InWgrad.Gen.frame m ρ, fun m ρ _ => Cert.InWgradIdeal.Gen.frame m ρ, frame_InWgradRefIdeal,
  fun m ρ _ => Cert.OutBwd.Gen.frame m ρ, fun m ρ _ => Cert.OutBwdIdeal.Gen.frame m ρ, frame_OutBwdRefIdeal,
  fun m ρ _ => Cert.OutWgrad.Gen.frame m ρ, fun m ρ _ => Cert.OutWgradIdeal.Gen.frame m ρ, frame_OutWgradRefIdeal,
  fun m ρ _ => Cert.ProjBwd.Gen.frame m ρ, fun m ρ _ => Cert.ProjBwdIdeal.Gen.frame m ρ, frame_ProjBwdRefIdeal,
  fun m ρ _ => Cert.ProjWgrad.Gen.frame m ρ, fun m ρ _ => Cert.ProjWgradIdeal.Gen.frame m ρ, frame_ProjWgradRefIdeal,
  fun m ρ _ => Cert.GluWgrad.Gen.frame m ρ, fun m ρ _ => Cert.GluWgradIdeal.Gen.frame m ρ, frame_GluWgradRefIdeal,
  fun m ρ _ => Cert.UpProj.Gen.frame m ρ, fun m ρ _ => Cert.UpProjIdeal.Gen.frame m ρ, frame_UpProjRefIdeal,
  fun m ρ _ => Cert.Proj.Gen.frame m ρ, fun m ρ _ => Cert.ProjIdeal.Gen.frame m ρ, frame_ProjRefIdeal,
  fun m ρ _ => Cert.OutProj.Gen.frame m ρ, fun m ρ _ => Cert.OutProjIdeal.Gen.frame m ρ, frame_OutProjRefIdeal,
  fun m ρ _ => Cert.UpBwd.Gen.frame m ρ, fun m ρ _ => Cert.UpBwdIdeal.Gen.frame m ρ, frame_UpBwdRefIdeal,
  fun m ρ _ => Cert.InBwd.Gen.frame m ρ, fun m ρ _ => Cert.InBwdIdeal.Gen.frame m ρ, frame_InBwdRefIdeal,
  fun m ρ _ => Cert.DownProj.Gen.frame m ρ, fun m ρ _ => Cert.DownProjIdeal.Gen.frame m ρ, frame_DownProjRefIdeal,
  frame_AdamwIn, frame_AdamwInIdeal, frame_AdamwInRefIdeal,
  frame_AdamwUp, frame_AdamwUpIdeal, frame_AdamwUpRefIdeal,
  frame_AdamwDown, frame_AdamwDownIdeal, frame_AdamwDownRefIdeal,
  frame_AdamwOut, frame_AdamwOutIdeal, frame_AdamwOutRefIdeal,
  frame_AdamwProj, frame_AdamwProjIdeal, frame_AdamwProjRefIdeal,
  frame_AdamwGlu, frame_AdamwGluIdeal, frame_AdamwGluRefIdeal,
  trivial, Cert.DownBwdIdeal.Value.algebraic,
  trivial, Cert.DownWgradIdeal.Value.algebraic,
  trivial, Cert.UpWgradIdeal.Value.algebraic,
  trivial, Cert.InWgradIdeal.Value.algebraic,
  trivial, Cert.OutBwdIdeal.Value.algebraic,
  trivial, Cert.OutWgradIdeal.Value.algebraic,
  trivial, Cert.ProjBwdIdeal.Value.algebraic,
  trivial, Cert.ProjWgradIdeal.Value.algebraic,
  trivial, Cert.GluWgradIdeal.Value.algebraic,
  trivial, Cert.UpProjIdeal.Value.algebraic,
  trivial, Cert.ProjIdeal.Value.algebraic,
  trivial, Cert.OutProjIdeal.Value.algebraic,
  trivial, Cert.UpBwdIdeal.Value.algebraic,
  trivial, Cert.InBwdIdeal.Value.algebraic,
  trivial, Cert.DownProjIdeal.Value.algebraic,
  trivial, Cert.AdamwInIdeal.Value.algebraic,
  trivial, Cert.AdamwUpIdeal.Value.algebraic,
  trivial, Cert.AdamwDownIdeal.Value.algebraic,
  trivial, Cert.AdamwOutIdeal.Value.algebraic,
  trivial, Cert.AdamwProjIdeal.Value.algebraic,
  trivial, Cert.AdamwGluIdeal.Value.algebraic⟩

end Cert.Proof

end
